-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))) = (fun _ => 1#1)

def Pre_Attp (m : (ℓ : Loc Cert.Attp.nD Cert.Attp.τ Cert.Attp.sig) → Buf (Elt Bits) ℓ) : Prop :=
  True

def Pre_AttpIdeal (m : (ℓ : Loc Cert.AttpIdeal.nD Cert.AttpIdeal.τ Cert.AttpIdeal.sig) → Buf (Elt Ideal) ℓ) : Prop :=
  True

def Pre_AttpIdeal_finite_attp [hPre_finite_attp : Cert.Pre_finite_attp.Facts] (m : (ℓ : Loc Cert.AttpIdeal.nD Cert.AttpIdeal.τ Cert.AttpIdeal.sig) → Buf (Elt Ideal) ℓ) : Prop :=
  ∀ c : Dev Cert.AttpIdeal.nD,
    (Cert.Pre_finite_attp.fn (F := Ideal) (m ((c.tc : Thread Cert.AttpIdeal.nD Cert.AttpIdeal.τ).loc Cert.AttpIdeal.main_arg0)) (m ((c.tc : Thread Cert.AttpIdeal.nD Cert.AttpIdeal.τ).loc Cert.AttpIdeal.main_arg1)) (m ((c.tc : Thread Cert.AttpIdeal.nD Cert.AttpIdeal.τ).loc Cert.AttpIdeal.main_arg2)) (m ((c.tc : Thread Cert.AttpIdeal.nD Cert.AttpIdeal.τ).loc Cert.AttpIdeal.main_arg3)) (m ((c.tc : Thread Cert.AttpIdeal.nD Cert.AttpIdeal.τ).loc Cert.AttpIdeal.main_arg4)) (m ((c.tc : Thread Cert.AttpIdeal.nD Cert.AttpIdeal.τ).loc Cert.AttpIdeal.main_arg5)) (m ((c.tc : Thread Cert.AttpIdeal.nD Cert.AttpIdeal.τ).loc Cert.AttpIdeal.main_arg6))) = (fun _ => 1#1)

def Pre_AttpRefIdeal (m : (ℓ : Loc Cert.AttpRefIdeal.nD Cert.AttpRefIdeal.τ Cert.AttpRefIdeal.sig) → Buf (Elt Ideal) ℓ) : Prop :=
  True

def Pre_AttpRefIdeal_finite_attp [hPre_finite_attp : Cert.Pre_finite_attp.Facts] (m : (ℓ : Loc Cert.AttpRefIdeal.nD Cert.AttpRefIdeal.τ Cert.AttpRefIdeal.sig) → Buf (Elt Ideal) ℓ) : Prop :=
  ∀ c : Dev Cert.AttpRefIdeal.nD,
    (Cert.Pre_finite_attp.fn (F := Ideal) (m ((c.tc : Thread Cert.AttpRefIdeal.nD Cert.AttpRefIdeal.τ).loc Cert.AttpRefIdeal.main_arg0)) (m ((c.tc : Thread Cert.AttpRefIdeal.nD Cert.AttpRefIdeal.τ).loc Cert.AttpRefIdeal.main_arg1)) (m ((c.tc : Thread Cert.AttpRefIdeal.nD Cert.AttpRefIdeal.τ).loc Cert.AttpRefIdeal.main_arg2)) (m ((c.tc : Thread Cert.AttpRefIdeal.nD Cert.AttpRefIdeal.τ).loc Cert.AttpRefIdeal.main_arg3)) (m ((c.tc : Thread Cert.AttpRefIdeal.nD Cert.AttpRefIdeal.τ).loc Cert.AttpRefIdeal.main_arg4)) (m ((c.tc : Thread Cert.AttpRefIdeal.nD Cert.AttpRefIdeal.τ).loc Cert.AttpRefIdeal.main_arg5)) (m ((c.tc : Thread Cert.AttpRefIdeal.nD Cert.AttpRefIdeal.τ).loc Cert.AttpRefIdeal.main_arg6))) = (fun _ => 1#1)

def Pre_Qb (m : (ℓ : Loc Cert.Qb.nD Cert.Qb.τ Cert.Qb.sig) → Buf (Elt Bits) ℓ) : Prop :=
  True

def Pre_QbIdeal (m : (ℓ : Loc Cert.QbIdeal.nD Cert.QbIdeal.τ Cert.QbIdeal.sig) → Buf (Elt Ideal) ℓ) : Prop :=
  True

def Pre_QbRefIdeal (m : (ℓ : Loc Cert.QbRefIdeal.nD Cert.QbRefIdeal.τ Cert.QbRefIdeal.sig) → Buf (Elt Ideal) ℓ) : Prop :=
  True

def Pre_Kvb (m : (ℓ : Loc Cert.Kvb.nD Cert.Kvb.τ Cert.Kvb.sig) → Buf (Elt Bits) ℓ) : Prop :=
  True

def Pre_KvbIdeal (m : (ℓ : Loc Cert.KvbIdeal.nD Cert.KvbIdeal.τ Cert.KvbIdeal.sig) → Buf (Elt Ideal) ℓ) : Prop :=
  True

def Pre_KvbRefIdeal (m : (ℓ : Loc Cert.KvbRefIdeal.nD Cert.KvbRefIdeal.τ Cert.KvbRefIdeal.sig) → Buf (Elt Ideal) ℓ) : Prop :=
  True

def Pre_Ffw (m : (ℓ : Loc Cert.Ffw.nD Cert.Ffw.τ Cert.Ffw.sig) → Buf (Elt Bits) ℓ) : Prop :=
  True

def Pre_FfwIdeal (m : (ℓ : Loc Cert.FfwIdeal.nD Cert.FfwIdeal.τ Cert.FfwIdeal.sig) → Buf (Elt Ideal) ℓ) : Prop :=
  True

def Pre_FfwIdeal_finite_ffw [hPre_finite_ffw : Cert.Pre_finite_ffw.Facts] (m : (ℓ : Loc Cert.FfwIdeal.nD Cert.FfwIdeal.τ Cert.FfwIdeal.sig) → Buf (Elt Ideal) ℓ) : Prop :=
  ∀ c : Dev Cert.FfwIdeal.nD,
    (Cert.Pre_finite_ffw.fn (F := Ideal) (m ((c.tc : Thread Cert.FfwIdeal.nD Cert.FfwIdeal.τ).loc Cert.FfwIdeal.main_arg0)) (m ((c.tc : Thread Cert.FfwIdeal.nD Cert.FfwIdeal.τ).loc Cert.FfwIdeal.main_arg1)) (m ((c.tc : Thread Cert.FfwIdeal.nD Cert.FfwIdeal.τ).loc Cert.FfwIdeal.main_arg2)) (m ((c.tc : Thread Cert.FfwIdeal.nD Cert.FfwIdeal.τ).loc Cert.FfwIdeal.main_arg3)) (m ((c.tc : Thread Cert.FfwIdeal.nD Cert.FfwIdeal.τ).loc Cert.FfwIdeal.main_arg4)) (m ((c.tc : Thread Cert.FfwIdeal.nD Cert.FfwIdeal.τ).loc Cert.FfwIdeal.main_arg5)) (m ((c.tc : Thread Cert.FfwIdeal.nD Cert.FfwIdeal.τ).loc Cert.FfwIdeal.main_arg6))) = (fun _ => 1#1)

def Pre_FfwRefIdeal (m : (ℓ : Loc Cert.FfwRefIdeal.nD Cert.FfwRefIdeal.τ Cert.FfwRefIdeal.sig) → Buf (Elt Ideal) ℓ) : Prop :=
  True

def Pre_FfwRefIdeal_finite_ffw [hPre_finite_ffw : Cert.Pre_finite_ffw.Facts] (m : (ℓ : Loc Cert.FfwRefIdeal.nD Cert.FfwRefIdeal.τ Cert.FfwRefIdeal.sig) → Buf (Elt Ideal) ℓ) : Prop :=
  ∀ c : Dev Cert.FfwRefIdeal.nD,
    (Cert.Pre_finite_ffw.fn (F := Ideal) (m ((c.tc : Thread Cert.FfwRefIdeal.nD Cert.FfwRefIdeal.τ).loc Cert.FfwRefIdeal.main_arg0)) (m ((c.tc : Thread Cert.FfwRefIdeal.nD Cert.FfwRefIdeal.τ).loc Cert.FfwRefIdeal.main_arg1)) (m ((c.tc : Thread Cert.FfwRefIdeal.nD Cert.FfwRefIdeal.τ).loc Cert.FfwRefIdeal.main_arg2)) (m ((c.tc : Thread Cert.FfwRefIdeal.nD Cert.FfwRefIdeal.τ).loc Cert.FfwRefIdeal.main_arg3)) (m ((c.tc : Thread Cert.FfwRefIdeal.nD Cert.FfwRefIdeal.τ).loc Cert.FfwRefIdeal.main_arg4)) (m ((c.tc : Thread Cert.FfwRefIdeal.nD Cert.FfwRefIdeal.τ).loc Cert.FfwRefIdeal.main_arg5)) (m ((c.tc : Thread Cert.FfwRefIdeal.nD Cert.FfwRefIdeal.τ).loc Cert.FfwRefIdeal.main_arg6))) = (fun _ => 1#1)

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_Modw (m : (ℓ : Loc Cert.Modw.nD Cert.Modw.τ Cert.Modw.sig) → Buf (Elt Bits) ℓ) : Prop :=
  True

def Pre_ModwIdeal (m : (ℓ : Loc Cert.ModwIdeal.nD Cert.ModwIdeal.τ Cert.ModwIdeal.sig) → Buf (Elt Ideal) ℓ) : Prop :=
  True

def Pre_ModwRefIdeal (m : (ℓ : Loc Cert.ModwRefIdeal.nD Cert.ModwRefIdeal.τ Cert.ModwRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnARefIdeal (m : (ℓ : Loc Cert.AttnARefIdeal.nD Cert.AttnARefIdeal.τ Cert.AttnARefIdeal.sig) → Buf (Elt Ideal) ℓ) : Prop :=
  True

def Pre_AttnC (m : (ℓ : Loc Cert.AttnC.nD Cert.AttnC.τ Cert.AttnC.sig) → Buf (Elt Bits) ℓ) : Prop :=
  True

def Pre_AttnCIdeal (m : (ℓ : Loc Cert.AttnCIdeal.nD Cert.AttnCIdeal.τ Cert.AttnCIdeal.sig) → Buf (Elt Ideal) ℓ) : Prop :=
  True

def Pre_AttnCRefIdeal (m : (ℓ : Loc Cert.AttnCRefIdeal.nD Cert.AttnCRefIdeal.τ Cert.AttnCRefIdeal.sig) → Buf (Elt Ideal) ℓ) : Prop :=
  True

def Pre_AttpA (m : (ℓ : Loc Cert.AttpA.nD Cert.AttpA.τ Cert.AttpA.sig) → Buf (Elt Bits) ℓ) : Prop :=
  True

def Pre_AttpAIdeal (m : (ℓ : Loc Cert.AttpAIdeal.nD Cert.AttpAIdeal.τ Cert.AttpAIdeal.sig) → Buf (Elt Ideal) ℓ) : Prop :=
  True

def Pre_AttpARefIdeal (m : (ℓ : Loc Cert.AttpARefIdeal.nD Cert.AttpARefIdeal.τ Cert.AttpARefIdeal.sig) → Buf (Elt Ideal) ℓ) : Prop :=
  True

def Pre_AttpC (m : (ℓ : Loc Cert.AttpC.nD Cert.AttpC.τ Cert.AttpC.sig) → Buf (Elt Bits) ℓ) : Prop :=
  True

def Pre_AttpCIdeal (m : (ℓ : Loc Cert.AttpCIdeal.nD Cert.AttpCIdeal.τ Cert.AttpCIdeal.sig) → Buf (Elt Ideal) ℓ) : Prop :=
  True

def Pre_AttpCRefIdeal (m : (ℓ : Loc Cert.AttpCRefIdeal.nD Cert.AttpCRefIdeal.τ Cert.AttpCRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Attp [hAttp : Cert.Attp.Facts] : Prop :=
  ∀ (m : (ℓ : Loc Cert.Attp.nD Cert.Attp.τ Cert.Attp.sig) → Buf (Elt Bits) ℓ) (g : Dev Cert.Attp.nD → PrngReg), Pre_Attp m →
    θ_run (Cert.Attp.defs (F := Bits)) (onTc (τ := Cert.Attp.τ) (Cert.Attp.main (F := Bits))) ⟨m, fun _ => 0, g⟩ (fun r => (∀ c : Dev Cert.Attp.nD,
      r.2.mem ((c.tc : Thread Cert.Attp.nD Cert.Attp.τ).loc Cert.Attp.main_arg0) = m ((c.tc : Thread Cert.Attp.nD Cert.Attp.τ).loc Cert.Attp.main_arg0)
      ∧ r.2.mem ((c.tc : Thread Cert.Attp.nD Cert.Attp.τ).loc Cert.Attp.main_arg1) = m ((c.tc : Thread Cert.Attp.nD Cert.Attp.τ).loc Cert.Attp.main_arg1)
      ∧ r.2.mem ((c.tc : Thread Cert.Attp.nD Cert.Attp.τ).loc Cert.Attp.main_arg2) = m ((c.tc : Thread Cert.Attp.nD Cert.Attp.τ).loc Cert.Attp.main_arg2)
      ∧ r.2.mem ((c.tc : Thread Cert.Attp.nD Cert.Attp.τ).loc Cert.Attp.main_arg3) = m ((c.tc : Thread Cert.Attp.nD Cert.Attp.τ).loc Cert.Attp.main_arg3)
      ∧ r.2.mem ((c.tc : Thread Cert.Attp.nD Cert.Attp.τ).loc Cert.Attp.main_arg4) = m ((c.tc : Thread Cert.Attp.nD Cert.Attp.τ).loc Cert.Attp.main_arg4)
      ∧ r.2.mem ((c.tc : Thread Cert.Attp.nD Cert.Attp.τ).loc Cert.Attp.main_arg5) = m ((c.tc : Thread Cert.Attp.nD Cert.Attp.τ).loc Cert.Attp.main_arg5)
      ∧ r.2.mem ((c.tc : Thread Cert.Attp.nD Cert.Attp.τ).loc Cert.Attp.main_arg6) = m ((c.tc : Thread Cert.Attp.nD Cert.Attp.τ).loc Cert.Attp.main_arg6))
      ∧ r.2.sem = fun _ => 0)

def quiescent_AttpIdeal [hAttpIdeal : Cert.AttpIdeal.Facts] : Prop :=
  ∀ (m : (ℓ : Loc Cert.AttpIdeal.nD Cert.AttpIdeal.τ Cert.AttpIdeal.sig) → Buf (Elt Ideal) ℓ) (g : Dev Cert.AttpIdeal.nD → PrngReg), Pre_AttpIdeal m →
    θ_run (Cert.AttpIdeal.defs (F := Ideal)) (onTc (τ := Cert.AttpIdeal.τ) (Cert.AttpIdeal.main (F := Ideal))) ⟨m, fun _ => 0, g⟩ (fun r => (∀ c : Dev Cert.AttpIdeal.nD,
      r.2.mem ((c.tc : Thread Cert.AttpIdeal.nD Cert.AttpIdeal.τ).loc Cert.AttpIdeal.main_arg0) = m ((c.tc : Thread Cert.AttpIdeal.nD Cert.AttpIdeal.τ).loc Cert.AttpIdeal.main_arg0)
      ∧ r.2.mem ((c.tc : Thread Cert.AttpIdeal.nD Cert.AttpIdeal.τ).loc Cert.AttpIdeal.main_arg1) = m ((c.tc : Thread Cert.AttpIdeal.nD Cert.AttpIdeal.τ).loc Cert.AttpIdeal.main_arg1)
      ∧ r.2.mem ((c.tc : Thread Cert.AttpIdeal.nD Cert.AttpIdeal.τ).loc Cert.AttpIdeal.main_arg2) = m ((c.tc : Thread Cert.AttpIdeal.nD Cert.AttpIdeal.τ).loc Cert.AttpIdeal.main_arg2)
      ∧ r.2.mem ((c.tc : Thread Cert.AttpIdeal.nD Cert.AttpIdeal.τ).loc Cert.AttpIdeal.main_arg3) = m ((c.tc : Thread Cert.AttpIdeal.nD Cert.AttpIdeal.τ).loc Cert.AttpIdeal.main_arg3)
      ∧ r.2.mem ((c.tc : Thread Cert.AttpIdeal.nD Cert.AttpIdeal.τ).loc Cert.AttpIdeal.main_arg4) = m ((c.tc : Thread Cert.AttpIdeal.nD Cert.AttpIdeal.τ).loc Cert.AttpIdeal.main_arg4)
      ∧ r.2.mem ((c.tc : Thread Cert.AttpIdeal.nD Cert.AttpIdeal.τ).loc Cert.AttpIdeal.main_arg5) = m ((c.tc : Thread Cert.AttpIdeal.nD Cert.AttpIdeal.τ).loc Cert.AttpIdeal.main_arg5)
      ∧ r.2.mem ((c.tc : Thread Cert.AttpIdeal.nD Cert.AttpIdeal.τ).loc Cert.AttpIdeal.main_arg6) = m ((c.tc : Thread Cert.AttpIdeal.nD Cert.AttpIdeal.τ).loc Cert.AttpIdeal.main_arg6))
      ∧ r.2.sem = fun _ => 0)

def quiescent_AttpIdeal_pre_finite_attp [hAttpIdeal : Cert.AttpIdeal.Facts] [hPre_finite_attp : Cert.Pre_finite_attp.Facts] : Prop :=
  ∀ (m : (ℓ : Loc Cert.AttpIdeal.nD Cert.AttpIdeal.τ Cert.AttpIdeal.sig) → Buf (Elt Ideal) ℓ) (g : Dev Cert.AttpIdeal.nD → PrngReg), Pre_AttpIdeal_finite_attp m →
    θ_run (Cert.AttpIdeal.defs (F := Ideal)) (onTc (τ := Cert.AttpIdeal.τ) (Cert.AttpIdeal.main (F := Ideal))) ⟨m, fun _ => 0, g⟩ (fun r => (∀ c : Dev Cert.AttpIdeal.nD,
      r.2.mem ((c.tc : Thread Cert.AttpIdeal.nD Cert.AttpIdeal.τ).loc Cert.AttpIdeal.main_arg0) = m ((c.tc : Thread Cert.AttpIdeal.nD Cert.AttpIdeal.τ).loc Cert.AttpIdeal.main_arg0)
      ∧ r.2.mem ((c.tc : Thread Cert.AttpIdeal.nD Cert.AttpIdeal.τ).loc Cert.AttpIdeal.main_arg1) = m ((c.tc : Thread Cert.AttpIdeal.nD Cert.AttpIdeal.τ).loc Cert.AttpIdeal.main_arg1)
      ∧ r.2.mem ((c.tc : Thread Cert.AttpIdeal.nD Cert.AttpIdeal.τ).loc Cert.AttpIdeal.main_arg2) = m ((c.tc : Thread Cert.AttpIdeal.nD Cert.AttpIdeal.τ).loc Cert.AttpIdeal.main_arg2)
      ∧ r.2.mem ((c.tc : Thread Cert.AttpIdeal.nD Cert.AttpIdeal.τ).loc Cert.AttpIdeal.main_arg3) = m ((c.tc : Thread Cert.AttpIdeal.nD Cert.AttpIdeal.τ).loc Cert.AttpIdeal.main_arg3)
      ∧ r.2.mem ((c.tc : Thread Cert.AttpIdeal.nD Cert.AttpIdeal.τ).loc Cert.AttpIdeal.main_arg4) = m ((c.tc : Thread Cert.AttpIdeal.nD Cert.AttpIdeal.τ).loc Cert.AttpIdeal.main_arg4)
      ∧ r.2.mem ((c.tc : Thread Cert.AttpIdeal.nD Cert.AttpIdeal.τ).loc Cert.AttpIdeal.main_arg5) = m ((c.tc : Thread Cert.AttpIdeal.nD Cert.AttpIdeal.τ).loc Cert.AttpIdeal.main_arg5)
      ∧ r.2.mem ((c.tc : Thread Cert.AttpIdeal.nD Cert.AttpIdeal.τ).loc Cert.AttpIdeal.main_arg6) = m ((c.tc : Thread Cert.AttpIdeal.nD Cert.AttpIdeal.τ).loc Cert.AttpIdeal.main_arg6))
      ∧ r.2.sem = fun _ => 0)

def quiescent_AttpRefIdeal [hAttpRefIdeal : Cert.AttpRefIdeal.Facts] : Prop :=
  ∀ (m : (ℓ : Loc Cert.AttpRefIdeal.nD Cert.AttpRefIdeal.τ Cert.AttpRefIdeal.sig) → Buf (Elt Ideal) ℓ) (g : Dev Cert.AttpRefIdeal.nD → PrngReg), Pre_AttpRefIdeal m →
    θ_run (Cert.AttpRefIdeal.defs (F := Ideal)) (onTc (τ := Cert.AttpRefIdeal.τ) (Cert.AttpRefIdeal.main (F := Ideal))) ⟨m, fun _ => 0, g⟩ (fun r => (∀ c : Dev Cert.AttpRefIdeal.nD,
      r.2.mem ((c.tc : Thread Cert.AttpRefIdeal.nD Cert.AttpRefIdeal.τ).loc Cert.AttpRefIdeal.main_arg0) = m ((c.tc : Thread Cert.AttpRefIdeal.nD Cert.AttpRefIdeal.τ).loc Cert.AttpRefIdeal.main_arg0)
      ∧ r.2.mem ((c.tc : Thread Cert.AttpRefIdeal.nD Cert.AttpRefIdeal.τ).loc Cert.AttpRefIdeal.main_arg1) = m ((c.tc : Thread Cert.AttpRefIdeal.nD Cert.AttpRefIdeal.τ).loc Cert.AttpRefIdeal.main_arg1)
      ∧ r.2.mem ((c.tc : Thread Cert.AttpRefIdeal.nD Cert.AttpRefIdeal.τ).loc Cert.AttpRefIdeal.main_arg2) = m ((c.tc : Thread Cert.AttpRefIdeal.nD Cert.AttpRefIdeal.τ).loc Cert.AttpRefIdeal.main_arg2)
      ∧ r.2.mem ((c.tc : Thread Cert.AttpRefIdeal.nD Cert.AttpRefIdeal.τ).loc Cert.AttpRefIdeal.main_arg3) = m ((c.tc : Thread Cert.AttpRefIdeal.nD Cert.AttpRefIdeal.τ).loc Cert.AttpRefIdeal.main_arg3)
      ∧ r.2.mem ((c.tc : Thread Cert.AttpRefIdeal.nD Cert.AttpRefIdeal.τ).loc Cert.AttpRefIdeal.main_arg4) = m ((c.tc : Thread Cert.AttpRefIdeal.nD Cert.AttpRefIdeal.τ).loc Cert.AttpRefIdeal.main_arg4)
      ∧ r.2.mem ((c.tc : Thread Cert.AttpRefIdeal.nD Cert.AttpRefIdeal.τ).loc Cert.AttpRefIdeal.main_arg5) = m ((c.tc : Thread Cert.AttpRefIdeal.nD Cert.AttpRefIdeal.τ).loc Cert.AttpRefIdeal.main_arg5)
      ∧ r.2.mem ((c.tc : Thread Cert.AttpRefIdeal.nD Cert.AttpRefIdeal.τ).loc Cert.AttpRefIdeal.main_arg6) = m ((c.tc : Thread Cert.AttpRefIdeal.nD Cert.AttpRefIdeal.τ).loc Cert.AttpRefIdeal.main_arg6))
      ∧ r.2.sem = fun _ => 0)

def quiescent_AttpRefIdeal_pre_finite_attp [hAttpRefIdeal : Cert.AttpRefIdeal.Facts] [hPre_finite_attp : Cert.Pre_finite_attp.Facts] : Prop :=
  ∀ (m : (ℓ : Loc Cert.AttpRefIdeal.nD Cert.AttpRefIdeal.τ Cert.AttpRefIdeal.sig) → Buf (Elt Ideal) ℓ) (g : Dev Cert.AttpRefIdeal.nD → PrngReg), Pre_AttpRefIdeal_finite_attp m →
    θ_run (Cert.AttpRefIdeal.defs (F := Ideal)) (onTc (τ := Cert.AttpRefIdeal.τ) (Cert.AttpRefIdeal.main (F := Ideal))) ⟨m, fun _ => 0, g⟩ (fun r => (∀ c : Dev Cert.AttpRefIdeal.nD,
      r.2.mem ((c.tc : Thread Cert.AttpRefIdeal.nD Cert.AttpRefIdeal.τ).loc Cert.AttpRefIdeal.main_arg0) = m ((c.tc : Thread Cert.AttpRefIdeal.nD Cert.AttpRefIdeal.τ).loc Cert.AttpRefIdeal.main_arg0)
      ∧ r.2.mem ((c.tc : Thread Cert.AttpRefIdeal.nD Cert.AttpRefIdeal.τ).loc Cert.AttpRefIdeal.main_arg1) = m ((c.tc : Thread Cert.AttpRefIdeal.nD Cert.AttpRefIdeal.τ).loc Cert.AttpRefIdeal.main_arg1)
      ∧ r.2.mem ((c.tc : Thread Cert.AttpRefIdeal.nD Cert.AttpRefIdeal.τ).loc Cert.AttpRefIdeal.main_arg2) = m ((c.tc : Thread Cert.AttpRefIdeal.nD Cert.AttpRefIdeal.τ).loc Cert.AttpRefIdeal.main_arg2)
      ∧ r.2.mem ((c.tc : Thread Cert.AttpRefIdeal.nD Cert.AttpRefIdeal.τ).loc Cert.AttpRefIdeal.main_arg3) = m ((c.tc : Thread Cert.AttpRefIdeal.nD Cert.AttpRefIdeal.τ).loc Cert.AttpRefIdeal.main_arg3)
      ∧ r.2.mem ((c.tc : Thread Cert.AttpRefIdeal.nD Cert.AttpRefIdeal.τ).loc Cert.AttpRefIdeal.main_arg4) = m ((c.tc : Thread Cert.AttpRefIdeal.nD Cert.AttpRefIdeal.τ).loc Cert.AttpRefIdeal.main_arg4)
      ∧ r.2.mem ((c.tc : Thread Cert.AttpRefIdeal.nD Cert.AttpRefIdeal.τ).loc Cert.AttpRefIdeal.main_arg5) = m ((c.tc : Thread Cert.AttpRefIdeal.nD Cert.AttpRefIdeal.τ).loc Cert.AttpRefIdeal.main_arg5)
      ∧ r.2.mem ((c.tc : Thread Cert.AttpRefIdeal.nD Cert.AttpRefIdeal.τ).loc Cert.AttpRefIdeal.main_arg6) = m ((c.tc : Thread Cert.AttpRefIdeal.nD Cert.AttpRefIdeal.τ).loc Cert.AttpRefIdeal.main_arg6))
      ∧ r.2.sem = fun _ => 0)

def quiescent_Qb [hQb : Cert.Qb.Facts] : Prop :=
  ∀ (m : (ℓ : Loc Cert.Qb.nD Cert.Qb.τ Cert.Qb.sig) → Buf (Elt Bits) ℓ) (g : Dev Cert.Qb.nD → PrngReg), Pre_Qb m →
    θ_run (Cert.Qb.defs (F := Bits)) (onTc (τ := Cert.Qb.τ) (Cert.Qb.main (F := Bits))) ⟨m, fun _ => 0, g⟩ (fun r => (∀ c : Dev Cert.Qb.nD,
      r.2.mem ((c.tc : Thread Cert.Qb.nD Cert.Qb.τ).loc Cert.Qb.main_arg0) = m ((c.tc : Thread Cert.Qb.nD Cert.Qb.τ).loc Cert.Qb.main_arg0)
      ∧ r.2.mem ((c.tc : Thread Cert.Qb.nD Cert.Qb.τ).loc Cert.Qb.main_arg1) = m ((c.tc : Thread Cert.Qb.nD Cert.Qb.τ).loc Cert.Qb.main_arg1)
      ∧ r.2.mem ((c.tc : Thread Cert.Qb.nD Cert.Qb.τ).loc Cert.Qb.main_arg2) = m ((c.tc : Thread Cert.Qb.nD Cert.Qb.τ).loc Cert.Qb.main_arg2)
      ∧ r.2.mem ((c.tc : Thread Cert.Qb.nD Cert.Qb.τ).loc Cert.Qb.main_arg3) = m ((c.tc : Thread Cert.Qb.nD Cert.Qb.τ).loc Cert.Qb.main_arg3)
      ∧ r.2.mem ((c.tc : Thread Cert.Qb.nD Cert.Qb.τ).loc Cert.Qb.main_arg4) = m ((c.tc : Thread Cert.Qb.nD Cert.Qb.τ).loc Cert.Qb.main_arg4)
      ∧ r.2.mem ((c.tc : Thread Cert.Qb.nD Cert.Qb.τ).loc Cert.Qb.main_arg5) = m ((c.tc : Thread Cert.Qb.nD Cert.Qb.τ).loc Cert.Qb.main_arg5)
      ∧ r.2.mem ((c.tc : Thread Cert.Qb.nD Cert.Qb.τ).loc Cert.Qb.main_arg6) = m ((c.tc : Thread Cert.Qb.nD Cert.Qb.τ).loc Cert.Qb.main_arg6)
      ∧ r.2.mem ((c.tc : Thread Cert.Qb.nD Cert.Qb.τ).loc Cert.Qb.main_arg7) = m ((c.tc : Thread Cert.Qb.nD Cert.Qb.τ).loc Cert.Qb.main_arg7)
      ∧ r.2.mem ((c.tc : Thread Cert.Qb.nD Cert.Qb.τ).loc Cert.Qb.main_arg8) = m ((c.tc : Thread Cert.Qb.nD Cert.Qb.τ).loc Cert.Qb.main_arg8)
      ∧ r.2.mem ((c.tc : Thread Cert.Qb.nD Cert.Qb.τ).loc Cert.Qb.main_arg9) = m ((c.tc : Thread Cert.Qb.nD Cert.Qb.τ).loc Cert.Qb.main_arg9))
      ∧ r.2.sem = fun _ => 0)

def quiescent_QbIdeal [hQbIdeal : Cert.QbIdeal.Facts] : Prop :=
  ∀ (m : (ℓ : Loc Cert.QbIdeal.nD Cert.QbIdeal.τ Cert.QbIdeal.sig) → Buf (Elt Ideal) ℓ) (g : Dev Cert.QbIdeal.nD → PrngReg), Pre_QbIdeal m →
    θ_run (Cert.QbIdeal.defs (F := Ideal)) (onTc (τ := Cert.QbIdeal.τ) (Cert.QbIdeal.main (F := Ideal))) ⟨m, fun _ => 0, g⟩ (fun r => (∀ c : Dev Cert.QbIdeal.nD,
      r.2.mem ((c.tc : Thread Cert.QbIdeal.nD Cert.QbIdeal.τ).loc Cert.QbIdeal.main_arg0) = m ((c.tc : Thread Cert.QbIdeal.nD Cert.QbIdeal.τ).loc Cert.QbIdeal.main_arg0)
      ∧ r.2.mem ((c.tc : Thread Cert.QbIdeal.nD Cert.QbIdeal.τ).loc Cert.QbIdeal.main_arg1) = m ((c.tc : Thread Cert.QbIdeal.nD Cert.QbIdeal.τ).loc Cert.QbIdeal.main_arg1)
      ∧ r.2.mem ((c.tc : Thread Cert.QbIdeal.nD Cert.QbIdeal.τ).loc Cert.QbIdeal.main_arg2) = m ((c.tc : Thread Cert.QbIdeal.nD Cert.QbIdeal.τ).loc Cert.QbIdeal.main_arg2)
      ∧ r.2.mem ((c.tc : Thread Cert.QbIdeal.nD Cert.QbIdeal.τ).loc Cert.QbIdeal.main_arg3) = m ((c.tc : Thread Cert.QbIdeal.nD Cert.QbIdeal.τ).loc Cert.QbIdeal.main_arg3)
      ∧ r.2.mem ((c.tc : Thread Cert.QbIdeal.nD Cert.QbIdeal.τ).loc Cert.QbIdeal.main_arg4) = m ((c.tc : Thread Cert.QbIdeal.nD Cert.QbIdeal.τ).loc Cert.QbIdeal.main_arg4)
      ∧ r.2.mem ((c.tc : Thread Cert.QbIdeal.nD Cert.QbIdeal.τ).loc Cert.QbIdeal.main_arg5) = m ((c.tc : Thread Cert.QbIdeal.nD Cert.QbIdeal.τ).loc Cert.QbIdeal.main_arg5)
      ∧ r.2.mem ((c.tc : Thread Cert.QbIdeal.nD Cert.QbIdeal.τ).loc Cert.QbIdeal.main_arg6) = m ((c.tc : Thread Cert.QbIdeal.nD Cert.QbIdeal.τ).loc Cert.QbIdeal.main_arg6)
      ∧ r.2.mem ((c.tc : Thread Cert.QbIdeal.nD Cert.QbIdeal.τ).loc Cert.QbIdeal.main_arg7) = m ((c.tc : Thread Cert.QbIdeal.nD Cert.QbIdeal.τ).loc Cert.QbIdeal.main_arg7)
      ∧ r.2.mem ((c.tc : Thread Cert.QbIdeal.nD Cert.QbIdeal.τ).loc Cert.QbIdeal.main_arg8) = m ((c.tc : Thread Cert.QbIdeal.nD Cert.QbIdeal.τ).loc Cert.QbIdeal.main_arg8)
      ∧ r.2.mem ((c.tc : Thread Cert.QbIdeal.nD Cert.QbIdeal.τ).loc Cert.QbIdeal.main_arg9) = m ((c.tc : Thread Cert.QbIdeal.nD Cert.QbIdeal.τ).loc Cert.QbIdeal.main_arg9))
      ∧ r.2.sem = fun _ => 0)

def quiescent_QbRefIdeal [hQbRefIdeal : Cert.QbRefIdeal.Facts] : Prop :=
  ∀ (m : (ℓ : Loc Cert.QbRefIdeal.nD Cert.QbRefIdeal.τ Cert.QbRefIdeal.sig) → Buf (Elt Ideal) ℓ) (g : Dev Cert.QbRefIdeal.nD → PrngReg), Pre_QbRefIdeal m →
    θ_run (Cert.QbRefIdeal.defs (F := Ideal)) (onTc (τ := Cert.QbRefIdeal.τ) (Cert.QbRefIdeal.main (F := Ideal))) ⟨m, fun _ => 0, g⟩ (fun r => (∀ c : Dev Cert.QbRefIdeal.nD,
      r.2.mem ((c.tc : Thread Cert.QbRefIdeal.nD Cert.QbRefIdeal.τ).loc Cert.QbRefIdeal.main_arg0) = m ((c.tc : Thread Cert.QbRefIdeal.nD Cert.QbRefIdeal.τ).loc Cert.QbRefIdeal.main_arg0)
      ∧ r.2.mem ((c.tc : Thread Cert.QbRefIdeal.nD Cert.QbRefIdeal.τ).loc Cert.QbRefIdeal.main_arg1) = m ((c.tc : Thread Cert.QbRefIdeal.nD Cert.QbRefIdeal.τ).loc Cert.QbRefIdeal.main_arg1)
      ∧ r.2.mem ((c.tc : Thread Cert.QbRefIdeal.nD Cert.QbRefIdeal.τ).loc Cert.QbRefIdeal.main_arg2) = m ((c.tc : Thread Cert.QbRefIdeal.nD Cert.QbRefIdeal.τ).loc Cert.QbRefIdeal.main_arg2)
      ∧ r.2.mem ((c.tc : Thread Cert.QbRefIdeal.nD Cert.QbRefIdeal.τ).loc Cert.QbRefIdeal.main_arg3) = m ((c.tc : Thread Cert.QbRefIdeal.nD Cert.QbRefIdeal.τ).loc Cert.QbRefIdeal.main_arg3)
      ∧ r.2.mem ((c.tc : Thread Cert.QbRefIdeal.nD Cert.QbRefIdeal.τ).loc Cert.QbRefIdeal.main_arg4) = m ((c.tc : Thread Cert.QbRefIdeal.nD Cert.QbRefIdeal.τ).loc Cert.QbRefIdeal.main_arg4)
      ∧ r.2.mem ((c.tc : Thread Cert.QbRefIdeal.nD Cert.QbRefIdeal.τ).loc Cert.QbRefIdeal.main_arg5) = m ((c.tc : Thread Cert.QbRefIdeal.nD Cert.QbRefIdeal.τ).loc Cert.QbRefIdeal.main_arg5)
      ∧ r.2.mem ((c.tc : Thread Cert.QbRefIdeal.nD Cert.QbRefIdeal.τ).loc Cert.QbRefIdeal.main_arg6) = m ((c.tc : Thread Cert.QbRefIdeal.nD Cert.QbRefIdeal.τ).loc Cert.QbRefIdeal.main_arg6)
      ∧ r.2.mem ((c.tc : Thread Cert.QbRefIdeal.nD Cert.QbRefIdeal.τ).loc Cert.QbRefIdeal.main_arg7) = m ((c.tc : Thread Cert.QbRefIdeal.nD Cert.QbRefIdeal.τ).loc Cert.QbRefIdeal.main_arg7)
      ∧ r.2.mem ((c.tc : Thread Cert.QbRefIdeal.nD Cert.QbRefIdeal.τ).loc Cert.QbRefIdeal.main_arg8) = m ((c.tc : Thread Cert.QbRefIdeal.nD Cert.QbRefIdeal.τ).loc Cert.QbRefIdeal.main_arg8)
      ∧ r.2.mem ((c.tc : Thread Cert.QbRefIdeal.nD Cert.QbRefIdeal.τ).loc Cert.QbRefIdeal.main_arg9) = m ((c.tc : Thread Cert.QbRefIdeal.nD Cert.QbRefIdeal.τ).loc Cert.QbRefIdeal.main_arg9))
      ∧ r.2.sem = fun _ => 0)

def quiescent_Kvb [hKvb : Cert.Kvb.Facts] : Prop :=
  ∀ (m : (ℓ : Loc Cert.Kvb.nD Cert.Kvb.τ Cert.Kvb.sig) → Buf (Elt Bits) ℓ) (g : Dev Cert.Kvb.nD → PrngReg), Pre_Kvb m →
    θ_run (Cert.Kvb.defs (F := Bits)) (onTc (τ := Cert.Kvb.τ) (Cert.Kvb.main (F := Bits))) ⟨m, fun _ => 0, g⟩ (fun r => (∀ c : Dev Cert.Kvb.nD,
      r.2.mem ((c.tc : Thread Cert.Kvb.nD Cert.Kvb.τ).loc Cert.Kvb.main_arg0) = m ((c.tc : Thread Cert.Kvb.nD Cert.Kvb.τ).loc Cert.Kvb.main_arg0)
      ∧ r.2.mem ((c.tc : Thread Cert.Kvb.nD Cert.Kvb.τ).loc Cert.Kvb.main_arg1) = m ((c.tc : Thread Cert.Kvb.nD Cert.Kvb.τ).loc Cert.Kvb.main_arg1)
      ∧ r.2.mem ((c.tc : Thread Cert.Kvb.nD Cert.Kvb.τ).loc Cert.Kvb.main_arg2) = m ((c.tc : Thread Cert.Kvb.nD Cert.Kvb.τ).loc Cert.Kvb.main_arg2)
      ∧ r.2.mem ((c.tc : Thread Cert.Kvb.nD Cert.Kvb.τ).loc Cert.Kvb.main_arg3) = m ((c.tc : Thread Cert.Kvb.nD Cert.Kvb.τ).loc Cert.Kvb.main_arg3)
      ∧ r.2.mem ((c.tc : Thread Cert.Kvb.nD Cert.Kvb.τ).loc Cert.Kvb.main_arg4) = m ((c.tc : Thread Cert.Kvb.nD Cert.Kvb.τ).loc Cert.Kvb.main_arg4)
      ∧ r.2.mem ((c.tc : Thread Cert.Kvb.nD Cert.Kvb.τ).loc Cert.Kvb.main_arg5) = m ((c.tc : Thread Cert.Kvb.nD Cert.Kvb.τ).loc Cert.Kvb.main_arg5)
      ∧ r.2.mem ((c.tc : Thread Cert.Kvb.nD Cert.Kvb.τ).loc Cert.Kvb.main_arg6) = m ((c.tc : Thread Cert.Kvb.nD Cert.Kvb.τ).loc Cert.Kvb.main_arg6)
      ∧ r.2.mem ((c.tc : Thread Cert.Kvb.nD Cert.Kvb.τ).loc Cert.Kvb.main_arg7) = m ((c.tc : Thread Cert.Kvb.nD Cert.Kvb.τ).loc Cert.Kvb.main_arg7)
      ∧ r.2.mem ((c.tc : Thread Cert.Kvb.nD Cert.Kvb.τ).loc Cert.Kvb.main_arg8) = m ((c.tc : Thread Cert.Kvb.nD Cert.Kvb.τ).loc Cert.Kvb.main_arg8)
      ∧ r.2.mem ((c.tc : Thread Cert.Kvb.nD Cert.Kvb.τ).loc Cert.Kvb.main_arg9) = m ((c.tc : Thread Cert.Kvb.nD Cert.Kvb.τ).loc Cert.Kvb.main_arg9)
      ∧ r.2.mem ((c.tc : Thread Cert.Kvb.nD Cert.Kvb.τ).loc Cert.Kvb.main_arg10) = m ((c.tc : Thread Cert.Kvb.nD Cert.Kvb.τ).loc Cert.Kvb.main_arg10)
      ∧ r.2.mem ((c.tc : Thread Cert.Kvb.nD Cert.Kvb.τ).loc Cert.Kvb.main_arg11) = m ((c.tc : Thread Cert.Kvb.nD Cert.Kvb.τ).loc Cert.Kvb.main_arg11)
      ∧ r.2.mem ((c.tc : Thread Cert.Kvb.nD Cert.Kvb.τ).loc Cert.Kvb.main_arg12) = m ((c.tc : Thread Cert.Kvb.nD Cert.Kvb.τ).loc Cert.Kvb.main_arg12))
      ∧ r.2.sem = fun _ => 0)

def quiescent_KvbIdeal [hKvbIdeal : Cert.KvbIdeal.Facts] : Prop :=
  ∀ (m : (ℓ : Loc Cert.KvbIdeal.nD Cert.KvbIdeal.τ Cert.KvbIdeal.sig) → Buf (Elt Ideal) ℓ) (g : Dev Cert.KvbIdeal.nD → PrngReg), Pre_KvbIdeal m →
    θ_run (Cert.KvbIdeal.defs (F := Ideal)) (onTc (τ := Cert.KvbIdeal.τ) (Cert.KvbIdeal.main (F := Ideal))) ⟨m, fun _ => 0, g⟩ (fun r => (∀ c : Dev Cert.KvbIdeal.nD,
      r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
      ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1)
      ∧ r.2.mem ((c.tc : Thread Cert.KvbIdeal.nD Cert.KvbIdeal.τ).loc Cert.KvbIdeal.main_arg2) = m ((c.tc : Thread Cert.KvbIdeal.nD Cert.KvbIdeal.τ).loc Cert.KvbIdeal.main_arg2)
      ∧ r.2.mem ((c.tc : Thread Cert.KvbIdeal.nD Cert.KvbIdeal.τ).loc Cert.KvbIdeal.main_arg3) = m ((c.tc : Thread Cert.KvbIdeal.nD Cert.KvbIdeal.τ).loc Cert.KvbIdeal.main_arg3)
      ∧ r.2.mem ((c.tc : Thread Cert.KvbIdeal.nD Cert.KvbIdeal.τ).loc Cert.KvbIdeal.main_arg4) = m ((c.tc : Thread Cert.KvbIdeal.nD Cert.KvbIdeal.τ).loc Cert.KvbIdeal.main_arg4)
      ∧ r.2.mem ((c.tc : Thread Cert.KvbIdeal.nD Cert.KvbIdeal.τ).loc Cert.KvbIdeal.main_arg5) = m ((c.tc : Thread Cert.KvbIdeal.nD Cert.KvbIdeal.τ).loc Cert.KvbIdeal.main_arg5)
      ∧ r.2.mem ((c.tc : Thread Cert.KvbIdeal.nD Cert.KvbIdeal.τ).loc Cert.KvbIdeal.main_arg6) = m ((c.tc : Thread Cert.KvbIdeal.nD Cert.KvbIdeal.τ).loc Cert.KvbIdeal.main_arg6)
      ∧ r.2.mem ((c.tc : Thread Cert.KvbIdeal.nD Cert.KvbIdeal.τ).loc Cert.KvbIdeal.main_arg7) = m ((c.tc : Thread Cert.KvbIdeal.nD Cert.KvbIdeal.τ).loc Cert.KvbIdeal.main_arg7)
      ∧ r.2.mem ((c.tc : Thread Cert.KvbIdeal.nD Cert.KvbIdeal.τ).loc Cert.KvbIdeal.main_arg8) = m ((c.tc : Thread Cert.KvbIdeal.nD Cert.KvbIdeal.τ).loc Cert.KvbIdeal.main_arg8)
      ∧ r.2.mem ((c.tc : Thread Cert.KvbIdeal.nD Cert.KvbIdeal.τ).loc Cert.KvbIdeal.main_arg9) = m ((c.tc : Thread Cert.KvbIdeal.nD Cert.KvbIdeal.τ).loc Cert.KvbIdeal.main_arg9)
      ∧ r.2.mem ((c.tc : Thread Cert.KvbIdeal.nD Cert.KvbIdeal.τ).loc Cert.KvbIdeal.main_arg10) = m ((c.tc : Thread Cert.KvbIdeal.nD Cert.KvbIdeal.τ).loc Cert.KvbIdeal.main_arg10)
      ∧ r.2.mem ((c.tc : Thread Cert.KvbIdeal.nD Cert.KvbIdeal.τ).loc Cert.KvbIdeal.main_arg11) = m ((c.tc : Thread Cert.KvbIdeal.nD Cert.KvbIdeal.τ).loc Cert.KvbIdeal.main_arg11)
      ∧ r.2.mem ((c.tc : Thread Cert.KvbIdeal.nD Cert.KvbIdeal.τ).loc Cert.KvbIdeal.main_arg12) = m ((c.tc : Thread Cert.KvbIdeal.nD Cert.KvbIdeal.τ).loc Cert.KvbIdeal.main_arg12))
      ∧ r.2.sem = fun _ => 0)

def quiescent_KvbRefIdeal [hKvbRefIdeal : Cert.KvbRefIdeal.Facts] : Prop :=
  ∀ (m : (ℓ : Loc Cert.KvbRefIdeal.nD Cert.KvbRefIdeal.τ Cert.KvbRefIdeal.sig) → Buf (Elt Ideal) ℓ) (g : Dev Cert.KvbRefIdeal.nD → PrngReg), Pre_KvbRefIdeal m →
    θ_run (Cert.KvbRefIdeal.defs (F := Ideal)) (onTc (τ := Cert.KvbRefIdeal.τ) (Cert.KvbRefIdeal.main (F := Ideal))) ⟨m, fun _ => 0, g⟩ (fun r => (∀ c : Dev Cert.KvbRefIdeal.nD,
      r.2.mem ((c.tc : Thread Cert.KvbRefIdeal.nD Cert.KvbRefIdeal.τ).loc Cert.KvbRefIdeal.main_arg0) = m ((c.tc : Thread Cert.KvbRefIdeal.nD Cert.KvbRefIdeal.τ).loc Cert.KvbRefIdeal.main_arg0)
      ∧ r.2.mem ((c.tc : Thread Cert.KvbRefIdeal.nD Cert.KvbRefIdeal.τ).loc Cert.KvbRefIdeal.main_arg1) = m ((c.tc : Thread Cert.KvbRefIdeal.nD Cert.KvbRefIdeal.τ).loc Cert.KvbRefIdeal.main_arg1)
      ∧ r.2.mem ((c.tc : Thread Cert.KvbRefIdeal.nD Cert.KvbRefIdeal.τ).loc Cert.KvbRefIdeal.main_arg2) = m ((c.tc : Thread Cert.KvbRefIdeal.nD Cert.KvbRefIdeal.τ).loc Cert.KvbRefIdeal.main_arg2)
      ∧ r.2.mem ((c.tc : Thread Cert.KvbRefIdeal.nD Cert.KvbRefIdeal.τ).loc Cert.KvbRefIdeal.main_arg3) = m ((c.tc : Thread Cert.KvbRefIdeal.nD Cert.KvbRefIdeal.τ).loc Cert.KvbRefIdeal.main_arg3)
      ∧ r.2.mem ((c.tc : Thread Cert.KvbRefIdeal.nD Cert.KvbRefIdeal.τ).loc Cert.KvbRefIdeal.main_arg4) = m ((c.tc : Thread Cert.KvbRefIdeal.nD Cert.KvbRefIdeal.τ).loc Cert.KvbRefIdeal.main_arg4)
      ∧ r.2.mem ((c.tc : Thread Cert.KvbRefIdeal.nD Cert.KvbRefIdeal.τ).loc Cert.KvbRefIdeal.main_arg5) = m ((c.tc : Thread Cert.KvbRefIdeal.nD Cert.KvbRefIdeal.τ).loc Cert.KvbRefIdeal.main_arg5)
      ∧ r.2.mem ((c.tc : Thread Cert.KvbRefIdeal.nD Cert.KvbRefIdeal.τ).loc Cert.KvbRefIdeal.main_arg6) = m ((c.tc : Thread Cert.KvbRefIdeal.nD Cert.KvbRefIdeal.τ).loc Cert.KvbRefIdeal.main_arg6)
      ∧ r.2.mem ((c.tc : Thread Cert.KvbRefIdeal.nD Cert.KvbRefIdeal.τ).loc Cert.KvbRefIdeal.main_arg7) = m ((c.tc : Thread Cert.KvbRefIdeal.nD Cert.KvbRefIdeal.τ).loc Cert.KvbRefIdeal.main_arg7)
      ∧ r.2.mem ((c.tc : Thread Cert.KvbRefIdeal.nD Cert.KvbRefIdeal.τ).loc Cert.KvbRefIdeal.main_arg8) = m ((c.tc : Thread Cert.KvbRefIdeal.nD Cert.KvbRefIdeal.τ).loc Cert.KvbRefIdeal.main_arg8)
      ∧ r.2.mem ((c.tc : Thread Cert.KvbRefIdeal.nD Cert.KvbRefIdeal.τ).loc Cert.KvbRefIdeal.main_arg9) = m ((c.tc : Thread Cert.KvbRefIdeal.nD Cert.KvbRefIdeal.τ).loc Cert.KvbRefIdeal.main_arg9)
      ∧ r.2.mem ((c.tc : Thread Cert.KvbRefIdeal.nD Cert.KvbRefIdeal.τ).loc Cert.KvbRefIdeal.main_arg10) = m ((c.tc : Thread Cert.KvbRefIdeal.nD Cert.KvbRefIdeal.τ).loc Cert.KvbRefIdeal.main_arg10)
      ∧ r.2.mem ((c.tc : Thread Cert.KvbRefIdeal.nD Cert.KvbRefIdeal.τ).loc Cert.KvbRefIdeal.main_arg11) = m ((c.tc : Thread Cert.KvbRefIdeal.nD Cert.KvbRefIdeal.τ).loc Cert.KvbRefIdeal.main_arg11)
      ∧ r.2.mem ((c.tc : Thread Cert.KvbRefIdeal.nD Cert.KvbRefIdeal.τ).loc Cert.KvbRefIdeal.main_arg12) = m ((c.tc : Thread Cert.KvbRefIdeal.nD Cert.KvbRefIdeal.τ).loc Cert.KvbRefIdeal.main_arg12))
      ∧ r.2.sem = fun _ => 0)

def quiescent_Ffw [hFfw : Cert.Ffw.Facts] : Prop :=
  ∀ (m : (ℓ : Loc Cert.Ffw.nD Cert.Ffw.τ Cert.Ffw.sig) → Buf (Elt Bits) ℓ) (g : Dev Cert.Ffw.nD → PrngReg), Pre_Ffw m →
    θ_run (Cert.Ffw.defs (F := Bits)) (onTc (τ := Cert.Ffw.τ) (Cert.Ffw.main (F := Bits))) ⟨m, fun _ => 0, g⟩ (fun r => (∀ c : Dev Cert.Ffw.nD,
      r.2.mem ((c.tc : Thread Cert.Ffw.nD Cert.Ffw.τ).loc Cert.Ffw.main_arg0) = m ((c.tc : Thread Cert.Ffw.nD Cert.Ffw.τ).loc Cert.Ffw.main_arg0)
      ∧ r.2.mem ((c.tc : Thread Cert.Ffw.nD Cert.Ffw.τ).loc Cert.Ffw.main_arg1) = m ((c.tc : Thread Cert.Ffw.nD Cert.Ffw.τ).loc Cert.Ffw.main_arg1)
      ∧ r.2.mem ((c.tc : Thread Cert.Ffw.nD Cert.Ffw.τ).loc Cert.Ffw.main_arg2) = m ((c.tc : Thread Cert.Ffw.nD Cert.Ffw.τ).loc Cert.Ffw.main_arg2)
      ∧ r.2.mem ((c.tc : Thread Cert.Ffw.nD Cert.Ffw.τ).loc Cert.Ffw.main_arg3) = m ((c.tc : Thread Cert.Ffw.nD Cert.Ffw.τ).loc Cert.Ffw.main_arg3)
      ∧ r.2.mem ((c.tc : Thread Cert.Ffw.nD Cert.Ffw.τ).loc Cert.Ffw.main_arg4) = m ((c.tc : Thread Cert.Ffw.nD Cert.Ffw.τ).loc Cert.Ffw.main_arg4)
      ∧ r.2.mem ((c.tc : Thread Cert.Ffw.nD Cert.Ffw.τ).loc Cert.Ffw.main_arg5) = m ((c.tc : Thread Cert.Ffw.nD Cert.Ffw.τ).loc Cert.Ffw.main_arg5)
      ∧ r.2.mem ((c.tc : Thread Cert.Ffw.nD Cert.Ffw.τ).loc Cert.Ffw.main_arg6) = m ((c.tc : Thread Cert.Ffw.nD Cert.Ffw.τ).loc Cert.Ffw.main_arg6))
      ∧ r.2.sem = fun _ => 0)

def quiescent_FfwIdeal [hFfwIdeal : Cert.FfwIdeal.Facts] : Prop :=
  ∀ (m : (ℓ : Loc Cert.FfwIdeal.nD Cert.FfwIdeal.τ Cert.FfwIdeal.sig) → Buf (Elt Ideal) ℓ) (g : Dev Cert.FfwIdeal.nD → PrngReg), Pre_FfwIdeal m →
    θ_run (Cert.FfwIdeal.defs (F := Ideal)) (onTc (τ := Cert.FfwIdeal.τ) (Cert.FfwIdeal.main (F := Ideal))) ⟨m, fun _ => 0, g⟩ (fun r => (∀ c : Dev Cert.FfwIdeal.nD,
      r.2.mem ((c.tc : Thread Cert.FfwIdeal.nD Cert.FfwIdeal.τ).loc Cert.FfwIdeal.main_arg0) = m ((c.tc : Thread Cert.FfwIdeal.nD Cert.FfwIdeal.τ).loc Cert.FfwIdeal.main_arg0)
      ∧ r.2.mem ((c.tc : Thread Cert.FfwIdeal.nD Cert.FfwIdeal.τ).loc Cert.FfwIdeal.main_arg1) = m ((c.tc : Thread Cert.FfwIdeal.nD Cert.FfwIdeal.τ).loc Cert.FfwIdeal.main_arg1)
      ∧ r.2.mem ((c.tc : Thread Cert.FfwIdeal.nD Cert.FfwIdeal.τ).loc Cert.FfwIdeal.main_arg2) = m ((c.tc : Thread Cert.FfwIdeal.nD Cert.FfwIdeal.τ).loc Cert.FfwIdeal.main_arg2)
      ∧ r.2.mem ((c.tc : Thread Cert.FfwIdeal.nD Cert.FfwIdeal.τ).loc Cert.FfwIdeal.main_arg3) = m ((c.tc : Thread Cert.FfwIdeal.nD Cert.FfwIdeal.τ).loc Cert.FfwIdeal.main_arg3)
      ∧ r.2.mem ((c.tc : Thread Cert.FfwIdeal.nD Cert.FfwIdeal.τ).loc Cert.FfwIdeal.main_arg4) = m ((c.tc : Thread Cert.FfwIdeal.nD Cert.FfwIdeal.τ).loc Cert.FfwIdeal.main_arg4)
      ∧ r.2.mem ((c.tc : Thread Cert.FfwIdeal.nD Cert.FfwIdeal.τ).loc Cert.FfwIdeal.main_arg5) = m ((c.tc : Thread Cert.FfwIdeal.nD Cert.FfwIdeal.τ).loc Cert.FfwIdeal.main_arg5)
      ∧ r.2.mem ((c.tc : Thread Cert.FfwIdeal.nD Cert.FfwIdeal.τ).loc Cert.FfwIdeal.main_arg6) = m ((c.tc : Thread Cert.FfwIdeal.nD Cert.FfwIdeal.τ).loc Cert.FfwIdeal.main_arg6))
      ∧ r.2.sem = fun _ => 0)

def quiescent_FfwIdeal_pre_finite_ffw [hFfwIdeal : Cert.FfwIdeal.Facts] [hPre_finite_ffw : Cert.Pre_finite_ffw.Facts] : Prop :=
  ∀ (m : (ℓ : Loc Cert.FfwIdeal.nD Cert.FfwIdeal.τ Cert.FfwIdeal.sig) → Buf (Elt Ideal) ℓ) (g : Dev Cert.FfwIdeal.nD → PrngReg), Pre_FfwIdeal_finite_ffw m →
    θ_run (Cert.FfwIdeal.defs (F := Ideal)) (onTc (τ := Cert.FfwIdeal.τ) (Cert.FfwIdeal.main (F := Ideal))) ⟨m, fun _ => 0, g⟩ (fun r => (∀ c : Dev Cert.FfwIdeal.nD,
      r.2.mem ((c.tc : Thread Cert.FfwIdeal.nD Cert.FfwIdeal.τ).loc Cert.FfwIdeal.main_arg0) = m ((c.tc : Thread Cert.FfwIdeal.nD Cert.FfwIdeal.τ).loc Cert.FfwIdeal.main_arg0)
      ∧ r.2.mem ((c.tc : Thread Cert.FfwIdeal.nD Cert.FfwIdeal.τ).loc Cert.FfwIdeal.main_arg1) = m ((c.tc : Thread Cert.FfwIdeal.nD Cert.FfwIdeal.τ).loc Cert.FfwIdeal.main_arg1)
      ∧ r.2.mem ((c.tc : Thread Cert.FfwIdeal.nD Cert.FfwIdeal.τ).loc Cert.FfwIdeal.main_arg2) = m ((c.tc : Thread Cert.FfwIdeal.nD Cert.FfwIdeal.τ).loc Cert.FfwIdeal.main_arg2)
      ∧ r.2.mem ((c.tc : Thread Cert.FfwIdeal.nD Cert.FfwIdeal.τ).loc Cert.FfwIdeal.main_arg3) = m ((c.tc : Thread Cert.FfwIdeal.nD Cert.FfwIdeal.τ).loc Cert.FfwIdeal.main_arg3)
      ∧ r.2.mem ((c.tc : Thread Cert.FfwIdeal.nD Cert.FfwIdeal.τ).loc Cert.FfwIdeal.main_arg4) = m ((c.tc : Thread Cert.FfwIdeal.nD Cert.FfwIdeal.τ).loc Cert.FfwIdeal.main_arg4)
      ∧ r.2.mem ((c.tc : Thread Cert.FfwIdeal.nD Cert.FfwIdeal.τ).loc Cert.FfwIdeal.main_arg5) = m ((c.tc : Thread Cert.FfwIdeal.nD Cert.FfwIdeal.τ).loc Cert.FfwIdeal.main_arg5)
      ∧ r.2.mem ((c.tc : Thread Cert.FfwIdeal.nD Cert.FfwIdeal.τ).loc Cert.FfwIdeal.main_arg6) = m ((c.tc : Thread Cert.FfwIdeal.nD Cert.FfwIdeal.τ).loc Cert.FfwIdeal.main_arg6))
      ∧ r.2.sem = fun _ => 0)

def quiescent_FfwRefIdeal [hFfwRefIdeal : Cert.FfwRefIdeal.Facts] : Prop :=
  ∀ (m : (ℓ : Loc Cert.FfwRefIdeal.nD Cert.FfwRefIdeal.τ Cert.FfwRefIdeal.sig) → Buf (Elt Ideal) ℓ) (g : Dev Cert.FfwRefIdeal.nD → PrngReg), Pre_FfwRefIdeal m →
    θ_run (Cert.FfwRefIdeal.defs (F := Ideal)) (onTc (τ := Cert.FfwRefIdeal.τ) (Cert.FfwRefIdeal.main (F := Ideal))) ⟨m, fun _ => 0, g⟩ (fun r => (∀ c : Dev Cert.FfwRefIdeal.nD,
      r.2.mem ((c.tc : Thread Cert.FfwRefIdeal.nD Cert.FfwRefIdeal.τ).loc Cert.FfwRefIdeal.main_arg0) = m ((c.tc : Thread Cert.FfwRefIdeal.nD Cert.FfwRefIdeal.τ).loc Cert.FfwRefIdeal.main_arg0)
      ∧ r.2.mem ((c.tc : Thread Cert.FfwRefIdeal.nD Cert.FfwRefIdeal.τ).loc Cert.FfwRefIdeal.main_arg1) = m ((c.tc : Thread Cert.FfwRefIdeal.nD Cert.FfwRefIdeal.τ).loc Cert.FfwRefIdeal.main_arg1)
      ∧ r.2.mem ((c.tc : Thread Cert.FfwRefIdeal.nD Cert.FfwRefIdeal.τ).loc Cert.FfwRefIdeal.main_arg2) = m ((c.tc : Thread Cert.FfwRefIdeal.nD Cert.FfwRefIdeal.τ).loc Cert.FfwRefIdeal.main_arg2)
      ∧ r.2.mem ((c.tc : Thread Cert.FfwRefIdeal.nD Cert.FfwRefIdeal.τ).loc Cert.FfwRefIdeal.main_arg3) = m ((c.tc : Thread Cert.FfwRefIdeal.nD Cert.FfwRefIdeal.τ).loc Cert.FfwRefIdeal.main_arg3)
      ∧ r.2.mem ((c.tc : Thread Cert.FfwRefIdeal.nD Cert.FfwRefIdeal.τ).loc Cert.FfwRefIdeal.main_arg4) = m ((c.tc : Thread Cert.FfwRefIdeal.nD Cert.FfwRefIdeal.τ).loc Cert.FfwRefIdeal.main_arg4)
      ∧ r.2.mem ((c.tc : Thread Cert.FfwRefIdeal.nD Cert.FfwRefIdeal.τ).loc Cert.FfwRefIdeal.main_arg5) = m ((c.tc : Thread Cert.FfwRefIdeal.nD Cert.FfwRefIdeal.τ).loc Cert.FfwRefIdeal.main_arg5)
      ∧ r.2.mem ((c.tc : Thread Cert.FfwRefIdeal.nD Cert.FfwRefIdeal.τ).loc Cert.FfwRefIdeal.main_arg6) = m ((c.tc : Thread Cert.FfwRefIdeal.nD Cert.FfwRefIdeal.τ).loc Cert.FfwRefIdeal.main_arg6))
      ∧ r.2.sem = fun _ => 0)

def quiescent_FfwRefIdeal_pre_finite_ffw [hFfwRefIdeal : Cert.FfwRefIdeal.Facts] [hPre_finite_ffw : Cert.Pre_finite_ffw.Facts] : Prop :=
  ∀ (m : (ℓ : Loc Cert.FfwRefIdeal.nD Cert.FfwRefIdeal.τ Cert.FfwRefIdeal.sig) → Buf (Elt Ideal) ℓ) (g : Dev Cert.FfwRefIdeal.nD → PrngReg), Pre_FfwRefIdeal_finite_ffw m →
    θ_run (Cert.FfwRefIdeal.defs (F := Ideal)) (onTc (τ := Cert.FfwRefIdeal.τ) (Cert.FfwRefIdeal.main (F := Ideal))) ⟨m, fun _ => 0, g⟩ (fun r => (∀ c : Dev Cert.FfwRefIdeal.nD,
      r.2.mem ((c.tc : Thread Cert.FfwRefIdeal.nD Cert.FfwRefIdeal.τ).loc Cert.FfwRefIdeal.main_arg0) = m ((c.tc : Thread Cert.FfwRefIdeal.nD Cert.FfwRefIdeal.τ).loc Cert.FfwRefIdeal.main_arg0)
      ∧ r.2.mem ((c.tc : Thread Cert.FfwRefIdeal.nD Cert.FfwRefIdeal.τ).loc Cert.FfwRefIdeal.main_arg1) = m ((c.tc : Thread Cert.FfwRefIdeal.nD Cert.FfwRefIdeal.τ).loc Cert.FfwRefIdeal.main_arg1)
      ∧ r.2.mem ((c.tc : Thread Cert.FfwRefIdeal.nD Cert.FfwRefIdeal.τ).loc Cert.FfwRefIdeal.main_arg2) = m ((c.tc : Thread Cert.FfwRefIdeal.nD Cert.FfwRefIdeal.τ).loc Cert.FfwRefIdeal.main_arg2)
      ∧ r.2.mem ((c.tc : Thread Cert.FfwRefIdeal.nD Cert.FfwRefIdeal.τ).loc Cert.FfwRefIdeal.main_arg3) = m ((c.tc : Thread Cert.FfwRefIdeal.nD Cert.FfwRefIdeal.τ).loc Cert.FfwRefIdeal.main_arg3)
      ∧ r.2.mem ((c.tc : Thread Cert.FfwRefIdeal.nD Cert.FfwRefIdeal.τ).loc Cert.FfwRefIdeal.main_arg4) = m ((c.tc : Thread Cert.FfwRefIdeal.nD Cert.FfwRefIdeal.τ).loc Cert.FfwRefIdeal.main_arg4)
      ∧ r.2.mem ((c.tc : Thread Cert.FfwRefIdeal.nD Cert.FfwRefIdeal.τ).loc Cert.FfwRefIdeal.main_arg5) = m ((c.tc : Thread Cert.FfwRefIdeal.nD Cert.FfwRefIdeal.τ).loc Cert.FfwRefIdeal.main_arg5)
      ∧ r.2.mem ((c.tc : Thread Cert.FfwRefIdeal.nD Cert.FfwRefIdeal.τ).loc Cert.FfwRefIdeal.main_arg6) = m ((c.tc : Thread Cert.FfwRefIdeal.nD Cert.FfwRefIdeal.τ).loc Cert.FfwRefIdeal.main_arg6))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2))
      ∧ r.2.sem = fun _ => 0)

def quiescent_Modw [hModw : Cert.Modw.Facts] : Prop :=
  ∀ (m : (ℓ : Loc Cert.Modw.nD Cert.Modw.τ Cert.Modw.sig) → Buf (Elt Bits) ℓ) (g : Dev Cert.Modw.nD → PrngReg), Pre_Modw m →
    θ_run (Cert.Modw.defs (F := Bits)) (onTc (τ := Cert.Modw.τ) (Cert.Modw.main (F := Bits))) ⟨m, fun _ => 0, g⟩ (fun r => (∀ c : Dev Cert.Modw.nD,
      r.2.mem ((c.tc : Thread Cert.Modw.nD Cert.Modw.τ).loc Cert.Modw.main_arg0) = m ((c.tc : Thread Cert.Modw.nD Cert.Modw.τ).loc Cert.Modw.main_arg0)
      ∧ r.2.mem ((c.tc : Thread Cert.Modw.nD Cert.Modw.τ).loc Cert.Modw.main_arg1) = m ((c.tc : Thread Cert.Modw.nD Cert.Modw.τ).loc Cert.Modw.main_arg1))
      ∧ r.2.sem = fun _ => 0)

def quiescent_ModwIdeal [hModwIdeal : Cert.ModwIdeal.Facts] : Prop :=
  ∀ (m : (ℓ : Loc Cert.ModwIdeal.nD Cert.ModwIdeal.τ Cert.ModwIdeal.sig) → Buf (Elt Ideal) ℓ) (g : Dev Cert.ModwIdeal.nD → PrngReg), Pre_ModwIdeal m →
    θ_run (Cert.ModwIdeal.defs (F := Ideal)) (onTc (τ := Cert.ModwIdeal.τ) (Cert.ModwIdeal.main (F := Ideal))) ⟨m, fun _ => 0, g⟩ (fun r => (∀ c : Dev Cert.ModwIdeal.nD,
      r.2.mem ((c.tc : Thread Cert.ModwIdeal.nD Cert.ModwIdeal.τ).loc Cert.ModwIdeal.main_arg0) = m ((c.tc : Thread Cert.ModwIdeal.nD Cert.ModwIdeal.τ).loc Cert.ModwIdeal.main_arg0)
      ∧ r.2.mem ((c.tc : Thread Cert.ModwIdeal.nD Cert.ModwIdeal.τ).loc Cert.ModwIdeal.main_arg1) = m ((c.tc : Thread Cert.ModwIdeal.nD Cert.ModwIdeal.τ).loc Cert.ModwIdeal.main_arg1))
      ∧ r.2.sem = fun _ => 0)

def quiescent_ModwRefIdeal [hModwRefIdeal : Cert.ModwRefIdeal.Facts] : Prop :=
  ∀ (m : (ℓ : Loc Cert.ModwRefIdeal.nD Cert.ModwRefIdeal.τ Cert.ModwRefIdeal.sig) → Buf (Elt Ideal) ℓ) (g : Dev Cert.ModwRefIdeal.nD → PrngReg), Pre_ModwRefIdeal m →
    θ_run (Cert.ModwRefIdeal.defs (F := Ideal)) (onTc (τ := Cert.ModwRefIdeal.τ) (Cert.ModwRefIdeal.main (F := Ideal))) ⟨m, fun _ => 0, g⟩ (fun r => (∀ c : Dev Cert.ModwRefIdeal.nD,
      r.2.mem ((c.tc : Thread Cert.ModwRefIdeal.nD Cert.ModwRefIdeal.τ).loc Cert.ModwRefIdeal.main_arg0) = m ((c.tc : Thread Cert.ModwRefIdeal.nD Cert.ModwRefIdeal.τ).loc Cert.ModwRefIdeal.main_arg0)
      ∧ r.2.mem ((c.tc : Thread Cert.ModwRefIdeal.nD Cert.ModwRefIdeal.τ).loc Cert.ModwRefIdeal.main_arg1) = m ((c.tc : Thread Cert.ModwRefIdeal.nD Cert.ModwRefIdeal.τ).loc Cert.ModwRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2)
      ∧ r.2.mem ((c.tc : Thread Cert.AttnA.nD Cert.AttnA.τ).loc Cert.AttnA.main_arg3) = m ((c.tc : Thread Cert.AttnA.nD Cert.AttnA.τ).loc Cert.AttnA.main_arg3)
      ∧ r.2.mem ((c.tc : Thread Cert.AttnA.nD Cert.AttnA.τ).loc Cert.AttnA.main_arg4) = m ((c.tc : Thread Cert.AttnA.nD Cert.AttnA.τ).loc Cert.AttnA.main_arg4))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3)
      ∧ r.2.mem ((c.tc : Thread Cert.AttnAIdeal.nD Cert.AttnAIdeal.τ).loc Cert.AttnAIdeal.main_arg4) = m ((c.tc : Thread Cert.AttnAIdeal.nD Cert.AttnAIdeal.τ).loc Cert.AttnAIdeal.main_arg4))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3)
      ∧ r.2.mem ((c.tc : Thread Cert.AttnARefIdeal.nD Cert.AttnARefIdeal.τ).loc Cert.AttnARefIdeal.main_arg4) = m ((c.tc : Thread Cert.AttnARefIdeal.nD Cert.AttnARefIdeal.τ).loc Cert.AttnARefIdeal.main_arg4))
      ∧ r.2.sem = fun _ => 0)

def quiescent_AttnC [hAttnC : Cert.AttnC.Facts] : Prop :=
  ∀ (m : (ℓ : Loc Cert.AttnC.nD Cert.AttnC.τ Cert.AttnC.sig) → Buf (Elt Bits) ℓ) (g : Dev Cert.AttnC.nD → PrngReg), Pre_AttnC m →
    θ_run (Cert.AttnC.defs (F := Bits)) (onTc (τ := Cert.AttnC.τ) (Cert.AttnC.main (F := Bits))) ⟨m, fun _ => 0, g⟩ (fun r => (∀ c : Dev Cert.AttnC.nD,
      r.2.mem ((c.tc : Thread Cert.AttnC.nD Cert.AttnC.τ).loc Cert.AttnC.main_arg0) = m ((c.tc : Thread Cert.AttnC.nD Cert.AttnC.τ).loc Cert.AttnC.main_arg0)
      ∧ r.2.mem ((c.tc : Thread Cert.AttnC.nD Cert.AttnC.τ).loc Cert.AttnC.main_arg1) = m ((c.tc : Thread Cert.AttnC.nD Cert.AttnC.τ).loc Cert.AttnC.main_arg1)
      ∧ r.2.mem ((c.tc : Thread Cert.AttnC.nD Cert.AttnC.τ).loc Cert.AttnC.main_arg2) = m ((c.tc : Thread Cert.AttnC.nD Cert.AttnC.τ).loc Cert.AttnC.main_arg2)
      ∧ r.2.mem ((c.tc : Thread Cert.AttnC.nD Cert.AttnC.τ).loc Cert.AttnC.main_arg3) = m ((c.tc : Thread Cert.AttnC.nD Cert.AttnC.τ).loc Cert.AttnC.main_arg3)
      ∧ r.2.mem ((c.tc : Thread Cert.AttnC.nD Cert.AttnC.τ).loc Cert.AttnC.main_arg4) = m ((c.tc : Thread Cert.AttnC.nD Cert.AttnC.τ).loc Cert.AttnC.main_arg4))
      ∧ r.2.sem = fun _ => 0)

def quiescent_AttnCIdeal [hAttnCIdeal : Cert.AttnCIdeal.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
      ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
      ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2)
      ∧ r.2.mem ((c.tc : Thread Cert.AttnCIdeal.nD Cert.AttnCIdeal.τ).loc Cert.AttnCIdeal.main_arg3) = m ((c.tc : Thread Cert.AttnCIdeal.nD Cert.AttnCIdeal.τ).loc Cert.AttnCIdeal.main_arg3)
      ∧ r.2.mem ((c.tc : Thread Cert.AttnCIdeal.nD Cert.AttnCIdeal.τ).loc Cert.AttnCIdeal.main_arg4) = m ((c.tc : Thread Cert.AttnCIdeal.nD Cert.AttnCIdeal.τ).loc Cert.AttnCIdeal.main_arg4))
      ∧ r.2.sem = fun _ => 0)

def quiescent_AttnCRefIdeal [hAttnCRefIdeal : Cert.AttnCRefIdeal.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1)
      ∧ r.2.mem ((c.tc : Thread Cert.AttnCRefIdeal.nD Cert.AttnCRefIdeal.τ).loc Cert.AttnCRefIdeal.main_arg2) = m ((c.tc : Thread Cert.AttnCRefIdeal.nD Cert.AttnCRefIdeal.τ).loc Cert.AttnCRefIdeal.main_arg2)
      ∧ r.2.mem ((c.tc : Thread Cert.AttnCRefIdeal.nD Cert.AttnCRefIdeal.τ).loc Cert.AttnCRefIdeal.main_arg3) = m ((c.tc : Thread Cert.AttnCRefIdeal.nD Cert.AttnCRefIdeal.τ).loc Cert.AttnCRefIdeal.main_arg3)
      ∧ r.2.mem ((c.tc : Thread Cert.AttnCRefIdeal.nD Cert.AttnCRefIdeal.τ).loc Cert.AttnCRefIdeal.main_arg4) = m ((c.tc : Thread Cert.AttnCRefIdeal.nD Cert.AttnCRefIdeal.τ).loc Cert.AttnCRefIdeal.main_arg4))
      ∧ r.2.sem = fun _ => 0)

def quiescent_AttpA [hAttpA : Cert.AttpA.Facts] : Prop :=
  ∀ (m : (ℓ : Loc Cert.AttpA.nD Cert.AttpA.τ Cert.AttpA.sig) → Buf (Elt Bits) ℓ) (g : Dev Cert.AttpA.nD → PrngReg), Pre_AttpA m →
    θ_run (Cert.AttpA.defs (F := Bits)) (onTc (τ := Cert.AttpA.τ) (Cert.AttpA.main (F := Bits))) ⟨m, fun _ => 0, g⟩ (fun r => (∀ c : Dev Cert.AttpA.nD,
      r.2.mem ((c.tc : Thread Cert.AttpA.nD Cert.AttpA.τ).loc Cert.AttpA.main_arg0) = m ((c.tc : Thread Cert.AttpA.nD Cert.AttpA.τ).loc Cert.AttpA.main_arg0)
      ∧ r.2.mem ((c.tc : Thread Cert.AttpA.nD Cert.AttpA.τ).loc Cert.AttpA.main_arg1) = m ((c.tc : Thread Cert.AttpA.nD Cert.AttpA.τ).loc Cert.AttpA.main_arg1)
      ∧ r.2.mem ((c.tc : Thread Cert.AttpA.nD Cert.AttpA.τ).loc Cert.AttpA.main_arg2) = m ((c.tc : Thread Cert.AttpA.nD Cert.AttpA.τ).loc Cert.AttpA.main_arg2)
      ∧ r.2.mem ((c.tc : Thread Cert.AttpA.nD Cert.AttpA.τ).loc Cert.AttpA.main_arg3) = m ((c.tc : Thread Cert.AttpA.nD Cert.AttpA.τ).loc Cert.AttpA.main_arg3)
      ∧ r.2.mem ((c.tc : Thread Cert.AttpA.nD Cert.AttpA.τ).loc Cert.AttpA.main_arg4) = m ((c.tc : Thread Cert.AttpA.nD Cert.AttpA.τ).loc Cert.AttpA.main_arg4)
      ∧ r.2.mem ((c.tc : Thread Cert.AttpA.nD Cert.AttpA.τ).loc Cert.AttpA.main_arg5) = m ((c.tc : Thread Cert.AttpA.nD Cert.AttpA.τ).loc Cert.AttpA.main_arg5)
      ∧ r.2.mem ((c.tc : Thread Cert.AttpA.nD Cert.AttpA.τ).loc Cert.AttpA.main_arg6) = m ((c.tc : Thread Cert.AttpA.nD Cert.AttpA.τ).loc Cert.AttpA.main_arg6))
      ∧ r.2.sem = fun _ => 0)

def quiescent_AttpAIdeal [hAttpAIdeal : Cert.AttpAIdeal.Facts] : Prop :=
  ∀ (m : (ℓ : Loc Cert.AttpAIdeal.nD Cert.AttpAIdeal.τ Cert.AttpAIdeal.sig) → Buf (Elt Ideal) ℓ) (g : Dev Cert.AttpAIdeal.nD → PrngReg), Pre_AttpAIdeal m →
    θ_run (Cert.AttpAIdeal.defs (F := Ideal)) (onTc (τ := Cert.AttpAIdeal.τ) (Cert.AttpAIdeal.main (F := Ideal))) ⟨m, fun _ => 0, g⟩ (fun r => (∀ c : Dev Cert.AttpAIdeal.nD,
      r.2.mem ((c.tc : Thread Cert.AttpAIdeal.nD Cert.AttpAIdeal.τ).loc Cert.AttpAIdeal.main_arg0) = m ((c.tc : Thread Cert.AttpAIdeal.nD Cert.AttpAIdeal.τ).loc Cert.AttpAIdeal.main_arg0)
      ∧ r.2.mem ((c.tc : Thread Cert.AttpAIdeal.nD Cert.AttpAIdeal.τ).loc Cert.AttpAIdeal.main_arg1) = m ((c.tc : Thread Cert.AttpAIdeal.nD Cert.AttpAIdeal.τ).loc Cert.AttpAIdeal.main_arg1)
      ∧ r.2.mem ((c.tc : Thread Cert.AttpAIdeal.nD Cert.AttpAIdeal.τ).loc Cert.AttpAIdeal.main_arg2) = m ((c.tc : Thread Cert.AttpAIdeal.nD Cert.AttpAIdeal.τ).loc Cert.AttpAIdeal.main_arg2)
      ∧ r.2.mem ((c.tc : Thread Cert.AttpAIdeal.nD Cert.AttpAIdeal.τ).loc Cert.AttpAIdeal.main_arg3) = m ((c.tc : Thread Cert.AttpAIdeal.nD Cert.AttpAIdeal.τ).loc Cert.AttpAIdeal.main_arg3)
      ∧ r.2.mem ((c.tc : Thread Cert.AttpAIdeal.nD Cert.AttpAIdeal.τ).loc Cert.AttpAIdeal.main_arg4) = m ((c.tc : Thread Cert.AttpAIdeal.nD Cert.AttpAIdeal.τ).loc Cert.AttpAIdeal.main_arg4)
      ∧ r.2.mem ((c.tc : Thread Cert.AttpAIdeal.nD Cert.AttpAIdeal.τ).loc Cert.AttpAIdeal.main_arg5) = m ((c.tc : Thread Cert.AttpAIdeal.nD Cert.AttpAIdeal.τ).loc Cert.AttpAIdeal.main_arg5)
      ∧ r.2.mem ((c.tc : Thread Cert.AttpAIdeal.nD Cert.AttpAIdeal.τ).loc Cert.AttpAIdeal.main_arg6) = m ((c.tc : Thread Cert.AttpAIdeal.nD Cert.AttpAIdeal.τ).loc Cert.AttpAIdeal.main_arg6))
      ∧ r.2.sem = fun _ => 0)

def quiescent_AttpARefIdeal [hAttpARefIdeal : Cert.AttpARefIdeal.Facts] : Prop :=
  ∀ (m : (ℓ : Loc Cert.AttpARefIdeal.nD Cert.AttpARefIdeal.τ Cert.AttpARefIdeal.sig) → Buf (Elt Ideal) ℓ) (g : Dev Cert.AttpARefIdeal.nD → PrngReg), Pre_AttpARefIdeal m →
    θ_run (Cert.AttpARefIdeal.defs (F := Ideal)) (onTc (τ := Cert.AttpARefIdeal.τ) (Cert.AttpARefIdeal.main (F := Ideal))) ⟨m, fun _ => 0, g⟩ (fun r => (∀ c : Dev Cert.AttpARefIdeal.nD,
      r.2.mem ((c.tc : Thread Cert.AttpARefIdeal.nD Cert.AttpARefIdeal.τ).loc Cert.AttpARefIdeal.main_arg0) = m ((c.tc : Thread Cert.AttpARefIdeal.nD Cert.AttpARefIdeal.τ).loc Cert.AttpARefIdeal.main_arg0)
      ∧ r.2.mem ((c.tc : Thread Cert.AttpARefIdeal.nD Cert.AttpARefIdeal.τ).loc Cert.AttpARefIdeal.main_arg1) = m ((c.tc : Thread Cert.AttpARefIdeal.nD Cert.AttpARefIdeal.τ).loc Cert.AttpARefIdeal.main_arg1)
      ∧ r.2.mem ((c.tc : Thread Cert.AttpARefIdeal.nD Cert.AttpARefIdeal.τ).loc Cert.AttpARefIdeal.main_arg2) = m ((c.tc : Thread Cert.AttpARefIdeal.nD Cert.AttpARefIdeal.τ).loc Cert.AttpARefIdeal.main_arg2)
      ∧ r.2.mem ((c.tc : Thread Cert.AttpARefIdeal.nD Cert.AttpARefIdeal.τ).loc Cert.AttpARefIdeal.main_arg3) = m ((c.tc : Thread Cert.AttpARefIdeal.nD Cert.AttpARefIdeal.τ).loc Cert.AttpARefIdeal.main_arg3)
      ∧ r.2.mem ((c.tc : Thread Cert.AttpARefIdeal.nD Cert.AttpARefIdeal.τ).loc Cert.AttpARefIdeal.main_arg4) = m ((c.tc : Thread Cert.AttpARefIdeal.nD Cert.AttpARefIdeal.τ).loc Cert.AttpARefIdeal.main_arg4)
      ∧ r.2.mem ((c.tc : Thread Cert.AttpARefIdeal.nD Cert.AttpARefIdeal.τ).loc Cert.AttpARefIdeal.main_arg5) = m ((c.tc : Thread Cert.AttpARefIdeal.nD Cert.AttpARefIdeal.τ).loc Cert.AttpARefIdeal.main_arg5)
      ∧ r.2.mem ((c.tc : Thread Cert.AttpARefIdeal.nD Cert.AttpARefIdeal.τ).loc Cert.AttpARefIdeal.main_arg6) = m ((c.tc : Thread Cert.AttpARefIdeal.nD Cert.AttpARefIdeal.τ).loc Cert.AttpARefIdeal.main_arg6))
      ∧ r.2.sem = fun _ => 0)

def quiescent_AttpC [hAttpC : Cert.AttpC.Facts] : Prop :=
  ∀ (m : (ℓ : Loc Cert.AttpC.nD Cert.AttpC.τ Cert.AttpC.sig) → Buf (Elt Bits) ℓ) (g : Dev Cert.AttpC.nD → PrngReg), Pre_AttpC m →
    θ_run (Cert.AttpC.defs (F := Bits)) (onTc (τ := Cert.AttpC.τ) (Cert.AttpC.main (F := Bits))) ⟨m, fun _ => 0, g⟩ (fun r => (∀ c : Dev Cert.AttpC.nD,
      r.2.mem ((c.tc : Thread Cert.AttpC.nD Cert.AttpC.τ).loc Cert.AttpC.main_arg0) = m ((c.tc : Thread Cert.AttpC.nD Cert.AttpC.τ).loc Cert.AttpC.main_arg0)
      ∧ r.2.mem ((c.tc : Thread Cert.AttpC.nD Cert.AttpC.τ).loc Cert.AttpC.main_arg1) = m ((c.tc : Thread Cert.AttpC.nD Cert.AttpC.τ).loc Cert.AttpC.main_arg1)
      ∧ r.2.mem ((c.tc : Thread Cert.AttpC.nD Cert.AttpC.τ).loc Cert.AttpC.main_arg2) = m ((c.tc : Thread Cert.AttpC.nD Cert.AttpC.τ).loc Cert.AttpC.main_arg2)
      ∧ r.2.mem ((c.tc : Thread Cert.AttpC.nD Cert.AttpC.τ).loc Cert.AttpC.main_arg3) = m ((c.tc : Thread Cert.AttpC.nD Cert.AttpC.τ).loc Cert.AttpC.main_arg3)
      ∧ r.2.mem ((c.tc : Thread Cert.AttpC.nD Cert.AttpC.τ).loc Cert.AttpC.main_arg4) = m ((c.tc : Thread Cert.AttpC.nD Cert.AttpC.τ).loc Cert.AttpC.main_arg4)
      ∧ r.2.mem ((c.tc : Thread Cert.AttpC.nD Cert.AttpC.τ).loc Cert.AttpC.main_arg5) = m ((c.tc : Thread Cert.AttpC.nD Cert.AttpC.τ).loc Cert.AttpC.main_arg5)
      ∧ r.2.mem ((c.tc : Thread Cert.AttpC.nD Cert.AttpC.τ).loc Cert.AttpC.main_arg6) = m ((c.tc : Thread Cert.AttpC.nD Cert.AttpC.τ).loc Cert.AttpC.main_arg6))
      ∧ r.2.sem = fun _ => 0)

def quiescent_AttpCIdeal [hAttpCIdeal : Cert.AttpCIdeal.Facts] : Prop :=
  ∀ (m : (ℓ : Loc Cert.AttpCIdeal.nD Cert.AttpCIdeal.τ Cert.AttpCIdeal.sig) → Buf (Elt Ideal) ℓ) (g : Dev Cert.AttpCIdeal.nD → PrngReg), Pre_AttpCIdeal m →
    θ_run (Cert.AttpCIdeal.defs (F := Ideal)) (onTc (τ := Cert.AttpCIdeal.τ) (Cert.AttpCIdeal.main (F := Ideal))) ⟨m, fun _ => 0, g⟩ (fun r => (∀ c : Dev Cert.AttpCIdeal.nD,
      r.2.mem ((c.tc : Thread Cert.AttpCIdeal.nD Cert.AttpCIdeal.τ).loc Cert.AttpCIdeal.main_arg0) = m ((c.tc : Thread Cert.AttpCIdeal.nD Cert.AttpCIdeal.τ).loc Cert.AttpCIdeal.main_arg0)
      ∧ r.2.mem ((c.tc : Thread Cert.AttpCIdeal.nD Cert.AttpCIdeal.τ).loc Cert.AttpCIdeal.main_arg1) = m ((c.tc : Thread Cert.AttpCIdeal.nD Cert.AttpCIdeal.τ).loc Cert.AttpCIdeal.main_arg1)
      ∧ r.2.mem ((c.tc : Thread Cert.AttpCIdeal.nD Cert.AttpCIdeal.τ).loc Cert.AttpCIdeal.main_arg2) = m ((c.tc : Thread Cert.AttpCIdeal.nD Cert.AttpCIdeal.τ).loc Cert.AttpCIdeal.main_arg2)
      ∧ r.2.mem ((c.tc : Thread Cert.AttpCIdeal.nD Cert.AttpCIdeal.τ).loc Cert.AttpCIdeal.main_arg3) = m ((c.tc : Thread Cert.AttpCIdeal.nD Cert.AttpCIdeal.τ).loc Cert.AttpCIdeal.main_arg3)
      ∧ r.2.mem ((c.tc : Thread Cert.AttpCIdeal.nD Cert.AttpCIdeal.τ).loc Cert.AttpCIdeal.main_arg4) = m ((c.tc : Thread Cert.AttpCIdeal.nD Cert.AttpCIdeal.τ).loc Cert.AttpCIdeal.main_arg4)
      ∧ r.2.mem ((c.tc : Thread Cert.AttpCIdeal.nD Cert.AttpCIdeal.τ).loc Cert.AttpCIdeal.main_arg5) = m ((c.tc : Thread Cert.AttpCIdeal.nD Cert.AttpCIdeal.τ).loc Cert.AttpCIdeal.main_arg5)
      ∧ r.2.mem ((c.tc : Thread Cert.AttpCIdeal.nD Cert.AttpCIdeal.τ).loc Cert.AttpCIdeal.main_arg6) = m ((c.tc : Thread Cert.AttpCIdeal.nD Cert.AttpCIdeal.τ).loc Cert.AttpCIdeal.main_arg6))
      ∧ r.2.sem = fun _ => 0)

def quiescent_AttpCRefIdeal [hAttpCRefIdeal : Cert.AttpCRefIdeal.Facts] : Prop :=
  ∀ (m : (ℓ : Loc Cert.AttpCRefIdeal.nD Cert.AttpCRefIdeal.τ Cert.AttpCRefIdeal.sig) → Buf (Elt Ideal) ℓ) (g : Dev Cert.AttpCRefIdeal.nD → PrngReg), Pre_AttpCRefIdeal m →
    θ_run (Cert.AttpCRefIdeal.defs (F := Ideal)) (onTc (τ := Cert.AttpCRefIdeal.τ) (Cert.AttpCRefIdeal.main (F := Ideal))) ⟨m, fun _ => 0, g⟩ (fun r => (∀ c : Dev Cert.AttpCRefIdeal.nD,
      r.2.mem ((c.tc : Thread Cert.AttpCRefIdeal.nD Cert.AttpCRefIdeal.τ).loc Cert.AttpCRefIdeal.main_arg0) = m ((c.tc : Thread Cert.AttpCRefIdeal.nD Cert.AttpCRefIdeal.τ).loc Cert.AttpCRefIdeal.main_arg0)
      ∧ r.2.mem ((c.tc : Thread Cert.AttpCRefIdeal.nD Cert.AttpCRefIdeal.τ).loc Cert.AttpCRefIdeal.main_arg1) = m ((c.tc : Thread Cert.AttpCRefIdeal.nD Cert.AttpCRefIdeal.τ).loc Cert.AttpCRefIdeal.main_arg1)
      ∧ r.2.mem ((c.tc : Thread Cert.AttpCRefIdeal.nD Cert.AttpCRefIdeal.τ).loc Cert.AttpCRefIdeal.main_arg2) = m ((c.tc : Thread Cert.AttpCRefIdeal.nD Cert.AttpCRefIdeal.τ).loc Cert.AttpCRefIdeal.main_arg2)
      ∧ r.2.mem ((c.tc : Thread Cert.AttpCRefIdeal.nD Cert.AttpCRefIdeal.τ).loc Cert.AttpCRefIdeal.main_arg3) = m ((c.tc : Thread Cert.AttpCRefIdeal.nD Cert.AttpCRefIdeal.τ).loc Cert.AttpCRefIdeal.main_arg3)
      ∧ r.2.mem ((c.tc : Thread Cert.AttpCRefIdeal.nD Cert.AttpCRefIdeal.τ).loc Cert.AttpCRefIdeal.main_arg4) = m ((c.tc : Thread Cert.AttpCRefIdeal.nD Cert.AttpCRefIdeal.τ).loc Cert.AttpCRefIdeal.main_arg4)
      ∧ r.2.mem ((c.tc : Thread Cert.AttpCRefIdeal.nD Cert.AttpCRefIdeal.τ).loc Cert.AttpCRefIdeal.main_arg5) = m ((c.tc : Thread Cert.AttpCRefIdeal.nD Cert.AttpCRefIdeal.τ).loc Cert.AttpCRefIdeal.main_arg5)
      ∧ r.2.mem ((c.tc : Thread Cert.AttpCRefIdeal.nD Cert.AttpCRefIdeal.τ).loc Cert.AttpCRefIdeal.main_arg6) = m ((c.tc : Thread Cert.AttpCRefIdeal.nD Cert.AttpCRefIdeal.τ).loc Cert.AttpCRefIdeal.main_arg6))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Attn_AttnIdeal : Prop :=
  IdealRules.named_const.Statement Cert.AttnIdeal.κ "mask" .f32 0xF149F2CA#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v89_0)) (v1 : (c : Dev Cert.AttnIdeal.nD) → Buf (Elt Ideal) ((c.tc : Thread Cert.AttnIdeal.nD Cert.AttnIdeal.τ).loc Cert.AttnIdeal.main_v89_1)) (v2 : (c : Dev Cert.AttnIdeal.nD) → Buf (Elt Ideal) ((c.tc : Thread Cert.AttnIdeal.nD Cert.AttnIdeal.τ).loc Cert.AttnIdeal.main_v89_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v89_0) = v0 c
          ∧ r.2.mem ((c.tc : Thread Cert.AttnIdeal.nD Cert.AttnIdeal.τ).loc Cert.AttnIdeal.main_v89_1) = v1 c
          ∧ r.2.mem ((c.tc : Thread Cert.AttnIdeal.nD Cert.AttnIdeal.τ).loc Cert.AttnIdeal.main_v89_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v135) = v0 c
          ∧ r.2.mem ((c.tc : Thread Cert.AttnRefIdeal.nD Cert.AttnRefIdeal.τ).loc Cert.AttnRefIdeal.main_v138) = v1 c
          ∧ r.2.mem ((c.tc : Thread Cert.AttnRefIdeal.nD Cert.AttnRefIdeal.τ).loc Cert.AttnRefIdeal.main_v141) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)) →
    ∃ (v0 : (c : Dev Cert.ConvIdeal.nD) → Buf (Elt Ideal) ((c.tc : Thread Cert.ConvIdeal.nD Cert.ConvIdeal.τ).loc Cert.ConvIdeal.main_v71_0)) (v1 : (c : Dev Cert.ConvIdeal.nD) → Buf (Elt Ideal) ((c.tc : Thread Cert.ConvIdeal.nD Cert.ConvIdeal.τ).loc Cert.ConvIdeal.main_v71_1)) (v2 : (c : Dev Cert.ConvIdeal.nD) → Buf (Elt Ideal) ((c.tc : Thread Cert.ConvIdeal.nD Cert.ConvIdeal.τ).loc Cert.ConvIdeal.main_v71_2)) (v3 : (c : Dev Cert.ConvIdeal.nD) → Buf (Elt Ideal) ((c.tc : Thread Cert.ConvIdeal.nD Cert.ConvIdeal.τ).loc Cert.ConvIdeal.main_v71_3)) (v4 : (c : Dev Cert.ConvIdeal.nD) → Buf (Elt Ideal) ((c.tc : Thread Cert.ConvIdeal.nD Cert.ConvIdeal.τ).loc Cert.ConvIdeal.main_v71_4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v71_0) = v0 c
          ∧ r.2.mem ((c.tc : Thread Cert.ConvIdeal.nD Cert.ConvIdeal.τ).loc Cert.ConvIdeal.main_v71_1) = v1 c
          ∧ r.2.mem ((c.tc : Thread Cert.ConvIdeal.nD Cert.ConvIdeal.τ).loc Cert.ConvIdeal.main_v71_2) = v2 c
          ∧ r.2.mem ((c.tc : Thread Cert.ConvIdeal.nD Cert.ConvIdeal.τ).loc Cert.ConvIdeal.main_v71_3) = v3 c
          ∧ r.2.mem ((c.tc : Thread Cert.ConvIdeal.nD Cert.ConvIdeal.τ).loc Cert.ConvIdeal.main_v71_4) = v4 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v134) = v0 c
          ∧ r.2.mem ((c.tc : Thread Cert.ConvRefIdeal.nD Cert.ConvRefIdeal.τ).loc Cert.ConvRefIdeal.main_v135) = v1 c
          ∧ r.2.mem ((c.tc : Thread Cert.ConvRefIdeal.nD Cert.ConvRefIdeal.τ).loc Cert.ConvRefIdeal.main_v136) = v2 c
          ∧ r.2.mem ((c.tc : Thread Cert.ConvRefIdeal.nD Cert.ConvRefIdeal.τ).loc Cert.ConvRefIdeal.main_v142) = v3 c
          ∧ r.2.mem ((c.tc : Thread Cert.ConvRefIdeal.nD Cert.ConvRefIdeal.τ).loc Cert.ConvRefIdeal.main_v144) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v50_0)) (v1 : (c : Dev Cert.FfnIdeal.nD) → Buf (Elt Ideal) ((c.tc : Thread Cert.FfnIdeal.nD Cert.FfnIdeal.τ).loc Cert.FfnIdeal.main_v50_1)) (v2 : (c : Dev Cert.FfnIdeal.nD) → Buf (Elt Ideal) ((c.tc : Thread Cert.FfnIdeal.nD Cert.FfnIdeal.τ).loc Cert.FfnIdeal.main_v50_2)) (v3 : (c : Dev Cert.FfnIdeal.nD) → Buf (Elt Ideal) ((c.tc : Thread Cert.FfnIdeal.nD Cert.FfnIdeal.τ).loc Cert.FfnIdeal.main_v50_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v50_0) = v0 c
          ∧ r.2.mem ((c.tc : Thread Cert.FfnIdeal.nD Cert.FfnIdeal.τ).loc Cert.FfnIdeal.main_v50_1) = v1 c
          ∧ r.2.mem ((c.tc : Thread Cert.FfnIdeal.nD Cert.FfnIdeal.τ).loc Cert.FfnIdeal.main_v50_2) = v2 c
          ∧ r.2.mem ((c.tc : Thread Cert.FfnIdeal.nD Cert.FfnIdeal.τ).loc Cert.FfnIdeal.main_v50_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v94) = v0 c
          ∧ r.2.mem ((c.tc : Thread Cert.FfnRefIdeal.nD Cert.FfnRefIdeal.τ).loc Cert.FfnRefIdeal.main_v95) = v1 c
          ∧ r.2.mem ((c.tc : Thread Cert.FfnRefIdeal.nD Cert.FfnRefIdeal.τ).loc Cert.FfnRefIdeal.main_v96) = v2 c
          ∧ r.2.mem ((c.tc : Thread Cert.FfnRefIdeal.nD Cert.FfnRefIdeal.τ).loc Cert.FfnRefIdeal.main_v102) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Attp_AttpIdeal : Prop :=
  IdealRules.named_const.Statement Cert.AttpIdeal.κ "mask" .f32 0xF149F2CA#32 ⊥

def algebraic_AttpIdeal_AttpRefIdeal_pre_finite_attp [hAttpIdeal : Cert.AttpIdeal.Facts] [hAttpRefIdeal : Cert.AttpRefIdeal.Facts] [hPre_finite_attp : Cert.Pre_finite_attp.Facts] : Prop :=
  ∀ (m : (ℓ : Loc Cert.AttpIdeal.nD Cert.AttpIdeal.τ Cert.AttpIdeal.sig) → Buf (Elt Ideal) ℓ) (g : Dev Cert.AttpIdeal.nD → PrngReg)
    (m' : (ℓ : Loc Cert.AttpRefIdeal.nD Cert.AttpRefIdeal.τ Cert.AttpRefIdeal.sig) → Buf (Elt Ideal) ℓ) (g' : Dev Cert.AttpRefIdeal.nD → PrngReg), Pre_AttpIdeal_finite_attp m →
    (∀ c : Dev Cert.AttpIdeal.nD,
      m' ((c.tc : Thread Cert.AttpRefIdeal.nD Cert.AttpRefIdeal.τ).loc Cert.AttpRefIdeal.main_arg0) = m ((c.tc : Thread Cert.AttpIdeal.nD Cert.AttpIdeal.τ).loc Cert.AttpIdeal.main_arg0)
      ∧ m' ((c.tc : Thread Cert.AttpRefIdeal.nD Cert.AttpRefIdeal.τ).loc Cert.AttpRefIdeal.main_arg1) = m ((c.tc : Thread Cert.AttpIdeal.nD Cert.AttpIdeal.τ).loc Cert.AttpIdeal.main_arg1)
      ∧ m' ((c.tc : Thread Cert.AttpRefIdeal.nD Cert.AttpRefIdeal.τ).loc Cert.AttpRefIdeal.main_arg2) = m ((c.tc : Thread Cert.AttpIdeal.nD Cert.AttpIdeal.τ).loc Cert.AttpIdeal.main_arg2)
      ∧ m' ((c.tc : Thread Cert.AttpRefIdeal.nD Cert.AttpRefIdeal.τ).loc Cert.AttpRefIdeal.main_arg3) = m ((c.tc : Thread Cert.AttpIdeal.nD Cert.AttpIdeal.τ).loc Cert.AttpIdeal.main_arg3)
      ∧ m' ((c.tc : Thread Cert.AttpRefIdeal.nD Cert.AttpRefIdeal.τ).loc Cert.AttpRefIdeal.main_arg4) = m ((c.tc : Thread Cert.AttpIdeal.nD Cert.AttpIdeal.τ).loc Cert.AttpIdeal.main_arg4)
      ∧ m' ((c.tc : Thread Cert.AttpRefIdeal.nD Cert.AttpRefIdeal.τ).loc Cert.AttpRefIdeal.main_arg5) = m ((c.tc : Thread Cert.AttpIdeal.nD Cert.AttpIdeal.τ).loc Cert.AttpIdeal.main_arg5)
      ∧ m' ((c.tc : Thread Cert.AttpRefIdeal.nD Cert.AttpRefIdeal.τ).loc Cert.AttpRefIdeal.main_arg6) = m ((c.tc : Thread Cert.AttpIdeal.nD Cert.AttpIdeal.τ).loc Cert.AttpIdeal.main_arg6)) →
    ∃ (v0 : (c : Dev Cert.AttpIdeal.nD) → Buf (Elt Ideal) ((c.tc : Thread Cert.AttpIdeal.nD Cert.AttpIdeal.τ).loc Cert.AttpIdeal.main_v97_0)) (v1 : (c : Dev Cert.AttpIdeal.nD) → Buf (Elt Ideal) ((c.tc : Thread Cert.AttpIdeal.nD Cert.AttpIdeal.τ).loc Cert.AttpIdeal.main_v97_1)) (v2 : (c : Dev Cert.AttpIdeal.nD) → Buf (Elt Ideal) ((c.tc : Thread Cert.AttpIdeal.nD Cert.AttpIdeal.τ).loc Cert.AttpIdeal.main_v97_2)),
      θ_run (Cert.AttpIdeal.defs (F := Ideal)) (onTc (τ := Cert.AttpIdeal.τ) (Cert.AttpIdeal.main (F := Ideal))) ⟨m, fun _ => 0, g⟩ (fun r => ∀ c : Dev Cert.AttpIdeal.nD,
          r.2.mem ((c.tc : Thread Cert.AttpIdeal.nD Cert.AttpIdeal.τ).loc Cert.AttpIdeal.main_v97_0) = v0 c
          ∧ r.2.mem ((c.tc : Thread Cert.AttpIdeal.nD Cert.AttpIdeal.τ).loc Cert.AttpIdeal.main_v97_1) = v1 c
          ∧ r.2.mem ((c.tc : Thread Cert.AttpIdeal.nD Cert.AttpIdeal.τ).loc Cert.AttpIdeal.main_v97_2) = v2 c
          ∧ r.2.mem ((c.tc : Thread Cert.AttpIdeal.nD Cert.AttpIdeal.τ).loc Cert.AttpIdeal.main_arg0) = m ((c.tc : Thread Cert.AttpIdeal.nD Cert.AttpIdeal.τ).loc Cert.AttpIdeal.main_arg0)
          ∧ r.2.mem ((c.tc : Thread Cert.AttpIdeal.nD Cert.AttpIdeal.τ).loc Cert.AttpIdeal.main_arg1) = m ((c.tc : Thread Cert.AttpIdeal.nD Cert.AttpIdeal.τ).loc Cert.AttpIdeal.main_arg1)
          ∧ r.2.mem ((c.tc : Thread Cert.AttpIdeal.nD Cert.AttpIdeal.τ).loc Cert.AttpIdeal.main_arg2) = m ((c.tc : Thread Cert.AttpIdeal.nD Cert.AttpIdeal.τ).loc Cert.AttpIdeal.main_arg2)
          ∧ r.2.mem ((c.tc : Thread Cert.AttpIdeal.nD Cert.AttpIdeal.τ).loc Cert.AttpIdeal.main_arg3) = m ((c.tc : Thread Cert.AttpIdeal.nD Cert.AttpIdeal.τ).loc Cert.AttpIdeal.main_arg3)
          ∧ r.2.mem ((c.tc : Thread Cert.AttpIdeal.nD Cert.AttpIdeal.τ).loc Cert.AttpIdeal.main_arg4) = m ((c.tc : Thread Cert.AttpIdeal.nD Cert.AttpIdeal.τ).loc Cert.AttpIdeal.main_arg4)
          ∧ r.2.mem ((c.tc : Thread Cert.AttpIdeal.nD Cert.AttpIdeal.τ).loc Cert.AttpIdeal.main_arg5) = m ((c.tc : Thread Cert.AttpIdeal.nD Cert.AttpIdeal.τ).loc Cert.AttpIdeal.main_arg5)
          ∧ r.2.mem ((c.tc : Thread Cert.AttpIdeal.nD Cert.AttpIdeal.τ).loc Cert.AttpIdeal.main_arg6) = m ((c.tc : Thread Cert.AttpIdeal.nD Cert.AttpIdeal.τ).loc Cert.AttpIdeal.main_arg6))
      ∧ θ_run (Cert.AttpRefIdeal.defs (F := Ideal)) (onTc (τ := Cert.AttpRefIdeal.τ) (Cert.AttpRefIdeal.main (F := Ideal))) ⟨m', fun _ => 0, g'⟩ (fun r => ∀ c : Dev Cert.AttpRefIdeal.nD,
          r.2.mem ((c.tc : Thread Cert.AttpRefIdeal.nD Cert.AttpRefIdeal.τ).loc Cert.AttpRefIdeal.main_v137) = v0 c
          ∧ r.2.mem ((c.tc : Thread Cert.AttpRefIdeal.nD Cert.AttpRefIdeal.τ).loc Cert.AttpRefIdeal.main_v140) = v1 c
          ∧ r.2.mem ((c.tc : Thread Cert.AttpRefIdeal.nD Cert.AttpRefIdeal.τ).loc Cert.AttpRefIdeal.main_v143) = v2 c
          ∧ r.2.mem ((c.tc : Thread Cert.AttpRefIdeal.nD Cert.AttpRefIdeal.τ).loc Cert.AttpRefIdeal.main_arg0) = m' ((c.tc : Thread Cert.AttpRefIdeal.nD Cert.AttpRefIdeal.τ).loc Cert.AttpRefIdeal.main_arg0)
          ∧ r.2.mem ((c.tc : Thread Cert.AttpRefIdeal.nD Cert.AttpRefIdeal.τ).loc Cert.AttpRefIdeal.main_arg1) = m' ((c.tc : Thread Cert.AttpRefIdeal.nD Cert.AttpRefIdeal.τ).loc Cert.AttpRefIdeal.main_arg1)
          ∧ r.2.mem ((c.tc : Thread Cert.AttpRefIdeal.nD Cert.AttpRefIdeal.τ).loc Cert.AttpRefIdeal.main_arg2) = m' ((c.tc : Thread Cert.AttpRefIdeal.nD Cert.AttpRefIdeal.τ).loc Cert.AttpRefIdeal.main_arg2)
          ∧ r.2.mem ((c.tc : Thread Cert.AttpRefIdeal.nD Cert.AttpRefIdeal.τ).loc Cert.AttpRefIdeal.main_arg3) = m' ((c.tc : Thread Cert.AttpRefIdeal.nD Cert.AttpRefIdeal.τ).loc Cert.AttpRefIdeal.main_arg3)
          ∧ r.2.mem ((c.tc : Thread Cert.AttpRefIdeal.nD Cert.AttpRefIdeal.τ).loc Cert.AttpRefIdeal.main_arg4) = m' ((c.tc : Thread Cert.AttpRefIdeal.nD Cert.AttpRefIdeal.τ).loc Cert.AttpRefIdeal.main_arg4)
          ∧ r.2.mem ((c.tc : Thread Cert.AttpRefIdeal.nD Cert.AttpRefIdeal.τ).loc Cert.AttpRefIdeal.main_arg5) = m' ((c.tc : Thread Cert.AttpRefIdeal.nD Cert.AttpRefIdeal.τ).loc Cert.AttpRefIdeal.main_arg5)
          ∧ r.2.mem ((c.tc : Thread Cert.AttpRefIdeal.nD Cert.AttpRefIdeal.τ).loc Cert.AttpRefIdeal.main_arg6) = m' ((c.tc : Thread Cert.AttpRefIdeal.nD Cert.AttpRefIdeal.τ).loc Cert.AttpRefIdeal.main_arg6))

def preserves_Qb_QbIdeal : Prop :=
  True

def algebraic_QbIdeal_QbRefIdeal [hQbIdeal : Cert.QbIdeal.Facts] [hQbRefIdeal : Cert.QbRefIdeal.Facts] : Prop :=
  ∀ (m : (ℓ : Loc Cert.QbIdeal.nD Cert.QbIdeal.τ Cert.QbIdeal.sig) → Buf (Elt Ideal) ℓ) (g : Dev Cert.QbIdeal.nD → PrngReg)
    (m' : (ℓ : Loc Cert.QbRefIdeal.nD Cert.QbRefIdeal.τ Cert.QbRefIdeal.sig) → Buf (Elt Ideal) ℓ) (g' : Dev Cert.QbRefIdeal.nD → PrngReg), Pre_QbIdeal m →
    (∀ c : Dev Cert.QbIdeal.nD,
      m' ((c.tc : Thread Cert.QbRefIdeal.nD Cert.QbRefIdeal.τ).loc Cert.QbRefIdeal.main_arg0) = m ((c.tc : Thread Cert.QbIdeal.nD Cert.QbIdeal.τ).loc Cert.QbIdeal.main_arg0)
      ∧ m' ((c.tc : Thread Cert.QbRefIdeal.nD Cert.QbRefIdeal.τ).loc Cert.QbRefIdeal.main_arg1) = m ((c.tc : Thread Cert.QbIdeal.nD Cert.QbIdeal.τ).loc Cert.QbIdeal.main_arg1)
      ∧ m' ((c.tc : Thread Cert.QbRefIdeal.nD Cert.QbRefIdeal.τ).loc Cert.QbRefIdeal.main_arg2) = m ((c.tc : Thread Cert.QbIdeal.nD Cert.QbIdeal.τ).loc Cert.QbIdeal.main_arg2)
      ∧ m' ((c.tc : Thread Cert.QbRefIdeal.nD Cert.QbRefIdeal.τ).loc Cert.QbRefIdeal.main_arg3) = m ((c.tc : Thread Cert.QbIdeal.nD Cert.QbIdeal.τ).loc Cert.QbIdeal.main_arg3)
      ∧ m' ((c.tc : Thread Cert.QbRefIdeal.nD Cert.QbRefIdeal.τ).loc Cert.QbRefIdeal.main_arg4) = m ((c.tc : Thread Cert.QbIdeal.nD Cert.QbIdeal.τ).loc Cert.QbIdeal.main_arg4)
      ∧ m' ((c.tc : Thread Cert.QbRefIdeal.nD Cert.QbRefIdeal.τ).loc Cert.QbRefIdeal.main_arg5) = m ((c.tc : Thread Cert.QbIdeal.nD Cert.QbIdeal.τ).loc Cert.QbIdeal.main_arg5)
      ∧ m' ((c.tc : Thread Cert.QbRefIdeal.nD Cert.QbRefIdeal.τ).loc Cert.QbRefIdeal.main_arg6) = m ((c.tc : Thread Cert.QbIdeal.nD Cert.QbIdeal.τ).loc Cert.QbIdeal.main_arg6)
      ∧ m' ((c.tc : Thread Cert.QbRefIdeal.nD Cert.QbRefIdeal.τ).loc Cert.QbRefIdeal.main_arg7) = m ((c.tc : Thread Cert.QbIdeal.nD Cert.QbIdeal.τ).loc Cert.QbIdeal.main_arg7)
      ∧ m' ((c.tc : Thread Cert.QbRefIdeal.nD Cert.QbRefIdeal.τ).loc Cert.QbRefIdeal.main_arg8) = m ((c.tc : Thread Cert.QbIdeal.nD Cert.QbIdeal.τ).loc Cert.QbIdeal.main_arg8)
      ∧ m' ((c.tc : Thread Cert.QbRefIdeal.nD Cert.QbRefIdeal.τ).loc Cert.QbRefIdeal.main_arg9) = m ((c.tc : Thread Cert.QbIdeal.nD Cert.QbIdeal.τ).loc Cert.QbIdeal.main_arg9)) →
    ∃ (v0 : (c : Dev Cert.QbIdeal.nD) → Buf (Elt Ideal) ((c.tc : Thread Cert.QbIdeal.nD Cert.QbIdeal.τ).loc Cert.QbIdeal.main_v66_0)) (v1 : (c : Dev Cert.QbIdeal.nD) → Buf (Elt Ideal) ((c.tc : Thread Cert.QbIdeal.nD Cert.QbIdeal.τ).loc Cert.QbIdeal.main_v66_1)) (v2 : (c : Dev Cert.QbIdeal.nD) → Buf (Elt Ideal) ((c.tc : Thread Cert.QbIdeal.nD Cert.QbIdeal.τ).loc Cert.QbIdeal.main_v66_2)),
      θ_run (Cert.QbIdeal.defs (F := Ideal)) (onTc (τ := Cert.QbIdeal.τ) (Cert.QbIdeal.main (F := Ideal))) ⟨m, fun _ => 0, g⟩ (fun r => ∀ c : Dev Cert.QbIdeal.nD,
          r.2.mem ((c.tc : Thread Cert.QbIdeal.nD Cert.QbIdeal.τ).loc Cert.QbIdeal.main_v66_0) = v0 c
          ∧ r.2.mem ((c.tc : Thread Cert.QbIdeal.nD Cert.QbIdeal.τ).loc Cert.QbIdeal.main_v66_1) = v1 c
          ∧ r.2.mem ((c.tc : Thread Cert.QbIdeal.nD Cert.QbIdeal.τ).loc Cert.QbIdeal.main_v66_2) = v2 c
          ∧ r.2.mem ((c.tc : Thread Cert.QbIdeal.nD Cert.QbIdeal.τ).loc Cert.QbIdeal.main_arg0) = m ((c.tc : Thread Cert.QbIdeal.nD Cert.QbIdeal.τ).loc Cert.QbIdeal.main_arg0)
          ∧ r.2.mem ((c.tc : Thread Cert.QbIdeal.nD Cert.QbIdeal.τ).loc Cert.QbIdeal.main_arg1) = m ((c.tc : Thread Cert.QbIdeal.nD Cert.QbIdeal.τ).loc Cert.QbIdeal.main_arg1)
          ∧ r.2.mem ((c.tc : Thread Cert.QbIdeal.nD Cert.QbIdeal.τ).loc Cert.QbIdeal.main_arg2) = m ((c.tc : Thread Cert.QbIdeal.nD Cert.QbIdeal.τ).loc Cert.QbIdeal.main_arg2)
          ∧ r.2.mem ((c.tc : Thread Cert.QbIdeal.nD Cert.QbIdeal.τ).loc Cert.QbIdeal.main_arg3) = m ((c.tc : Thread Cert.QbIdeal.nD Cert.QbIdeal.τ).loc Cert.QbIdeal.main_arg3)
          ∧ r.2.mem ((c.tc : Thread Cert.QbIdeal.nD Cert.QbIdeal.τ).loc Cert.QbIdeal.main_arg4) = m ((c.tc : Thread Cert.QbIdeal.nD Cert.QbIdeal.τ).loc Cert.QbIdeal.main_arg4)
          ∧ r.2.mem ((c.tc : Thread Cert.QbIdeal.nD Cert.QbIdeal.τ).loc Cert.QbIdeal.main_arg5) = m ((c.tc : Thread Cert.QbIdeal.nD Cert.QbIdeal.τ).loc Cert.QbIdeal.main_arg5)
          ∧ r.2.mem ((c.tc : Thread Cert.QbIdeal.nD Cert.QbIdeal.τ).loc Cert.QbIdeal.main_arg6) = m ((c.tc : Thread Cert.QbIdeal.nD Cert.QbIdeal.τ).loc Cert.QbIdeal.main_arg6)
          ∧ r.2.mem ((c.tc : Thread Cert.QbIdeal.nD Cert.QbIdeal.τ).loc Cert.QbIdeal.main_arg7) = m ((c.tc : Thread Cert.QbIdeal.nD Cert.QbIdeal.τ).loc Cert.QbIdeal.main_arg7)
          ∧ r.2.mem ((c.tc : Thread Cert.QbIdeal.nD Cert.QbIdeal.τ).loc Cert.QbIdeal.main_arg8) = m ((c.tc : Thread Cert.QbIdeal.nD Cert.QbIdeal.τ).loc Cert.QbIdeal.main_arg8)
          ∧ r.2.mem ((c.tc : Thread Cert.QbIdeal.nD Cert.QbIdeal.τ).loc Cert.QbIdeal.main_arg9) = m ((c.tc : Thread Cert.QbIdeal.nD Cert.QbIdeal.τ).loc Cert.QbIdeal.main_arg9))
      ∧ θ_run (Cert.QbRefIdeal.defs (F := Ideal)) (onTc (τ := Cert.QbRefIdeal.τ) (Cert.QbRefIdeal.main (F := Ideal))) ⟨m', fun _ => 0, g'⟩ (fun r => ∀ c : Dev Cert.QbRefIdeal.nD,
          r.2.mem ((c.tc : Thread Cert.QbRefIdeal.nD Cert.QbRefIdeal.τ).loc Cert.QbRefIdeal.main_v112) = v0 c
          ∧ r.2.mem ((c.tc : Thread Cert.QbRefIdeal.nD Cert.QbRefIdeal.τ).loc Cert.QbRefIdeal.main_v113) = v1 c
          ∧ r.2.mem ((c.tc : Thread Cert.QbRefIdeal.nD Cert.QbRefIdeal.τ).loc Cert.QbRefIdeal.main_v118) = v2 c
          ∧ r.2.mem ((c.tc : Thread Cert.QbRefIdeal.nD Cert.QbRefIdeal.τ).loc Cert.QbRefIdeal.main_arg0) = m' ((c.tc : Thread Cert.QbRefIdeal.nD Cert.QbRefIdeal.τ).loc Cert.QbRefIdeal.main_arg0)
          ∧ r.2.mem ((c.tc : Thread Cert.QbRefIdeal.nD Cert.QbRefIdeal.τ).loc Cert.QbRefIdeal.main_arg1) = m' ((c.tc : Thread Cert.QbRefIdeal.nD Cert.QbRefIdeal.τ).loc Cert.QbRefIdeal.main_arg1)
          ∧ r.2.mem ((c.tc : Thread Cert.QbRefIdeal.nD Cert.QbRefIdeal.τ).loc Cert.QbRefIdeal.main_arg2) = m' ((c.tc : Thread Cert.QbRefIdeal.nD Cert.QbRefIdeal.τ).loc Cert.QbRefIdeal.main_arg2)
          ∧ r.2.mem ((c.tc : Thread Cert.QbRefIdeal.nD Cert.QbRefIdeal.τ).loc Cert.QbRefIdeal.main_arg3) = m' ((c.tc : Thread Cert.QbRefIdeal.nD Cert.QbRefIdeal.τ).loc Cert.QbRefIdeal.main_arg3)
          ∧ r.2.mem ((c.tc : Thread Cert.QbRefIdeal.nD Cert.QbRefIdeal.τ).loc Cert.QbRefIdeal.main_arg4) = m' ((c.tc : Thread Cert.QbRefIdeal.nD Cert.QbRefIdeal.τ).loc Cert.QbRefIdeal.main_arg4)
          ∧ r.2.mem ((c.tc : Thread Cert.QbRefIdeal.nD Cert.QbRefIdeal.τ).loc Cert.QbRefIdeal.main_arg5) = m' ((c.tc : Thread Cert.QbRefIdeal.nD Cert.QbRefIdeal.τ).loc Cert.QbRefIdeal.main_arg5)
          ∧ r.2.mem ((c.tc : Thread Cert.QbRefIdeal.nD Cert.QbRefIdeal.τ).loc Cert.QbRefIdeal.main_arg6) = m' ((c.tc : Thread Cert.QbRefIdeal.nD Cert.QbRefIdeal.τ).loc Cert.QbRefIdeal.main_arg6)
          ∧ r.2.mem ((c.tc : Thread Cert.QbRefIdeal.nD Cert.QbRefIdeal.τ).loc Cert.QbRefIdeal.main_arg7) = m' ((c.tc : Thread Cert.QbRefIdeal.nD Cert.QbRefIdeal.τ).loc Cert.QbRefIdeal.main_arg7)
          ∧ r.2.mem ((c.tc : Thread Cert.QbRefIdeal.nD Cert.QbRefIdeal.τ).loc Cert.QbRefIdeal.main_arg8) = m' ((c.tc : Thread Cert.QbRefIdeal.nD Cert.QbRefIdeal.τ).loc Cert.QbRefIdeal.main_arg8)
          ∧ r.2.mem ((c.tc : Thread Cert.QbRefIdeal.nD Cert.QbRefIdeal.τ).loc Cert.QbRefIdeal.main_arg9) = m' ((c.tc : Thread Cert.QbRefIdeal.nD Cert.QbRefIdeal.τ).loc Cert.QbRefIdeal.main_arg9))

def preserves_Kvb_KvbIdeal : Prop :=
  True

def algebraic_KvbIdeal_KvbRefIdeal [hKvbIdeal : Cert.KvbIdeal.Facts] [hKvbRefIdeal : Cert.KvbRefIdeal.Facts] : Prop :=
  ∀ (m : (ℓ : Loc Cert.KvbIdeal.nD Cert.KvbIdeal.τ Cert.KvbIdeal.sig) → Buf (Elt Ideal) ℓ) (g : Dev Cert.KvbIdeal.nD → PrngReg)
    (m' : (ℓ : Loc Cert.KvbRefIdeal.nD Cert.KvbRefIdeal.τ Cert.KvbRefIdeal.sig) → Buf (Elt Ideal) ℓ) (g' : Dev Cert.KvbRefIdeal.nD → PrngReg), Pre_KvbIdeal m →
    (∀ c : Dev Cert.KvbIdeal.nD,
      m' ((c.tc : Thread Cert.KvbRefIdeal.nD Cert.KvbRefIdeal.τ).loc Cert.KvbRefIdeal.main_arg0) = m ((c.tc : Thread Cert.KvbIdeal.nD Cert.KvbIdeal.τ).loc Cert.KvbIdeal.main_arg0)
      ∧ m' ((c.tc : Thread Cert.KvbRefIdeal.nD Cert.KvbRefIdeal.τ).loc Cert.KvbRefIdeal.main_arg1) = m ((c.tc : Thread Cert.KvbIdeal.nD Cert.KvbIdeal.τ).loc Cert.KvbIdeal.main_arg1)
      ∧ m' ((c.tc : Thread Cert.KvbRefIdeal.nD Cert.KvbRefIdeal.τ).loc Cert.KvbRefIdeal.main_arg2) = m ((c.tc : Thread Cert.KvbIdeal.nD Cert.KvbIdeal.τ).loc Cert.KvbIdeal.main_arg2)
      ∧ m' ((c.tc : Thread Cert.KvbRefIdeal.nD Cert.KvbRefIdeal.τ).loc Cert.KvbRefIdeal.main_arg3) = m ((c.tc : Thread Cert.KvbIdeal.nD Cert.KvbIdeal.τ).loc Cert.KvbIdeal.main_arg3)
      ∧ m' ((c.tc : Thread Cert.KvbRefIdeal.nD Cert.KvbRefIdeal.τ).loc Cert.KvbRefIdeal.main_arg4) = m ((c.tc : Thread Cert.KvbIdeal.nD Cert.KvbIdeal.τ).loc Cert.KvbIdeal.main_arg4)
      ∧ m' ((c.tc : Thread Cert.KvbRefIdeal.nD Cert.KvbRefIdeal.τ).loc Cert.KvbRefIdeal.main_arg5) = m ((c.tc : Thread Cert.KvbIdeal.nD Cert.KvbIdeal.τ).loc Cert.KvbIdeal.main_arg5)
      ∧ m' ((c.tc : Thread Cert.KvbRefIdeal.nD Cert.KvbRefIdeal.τ).loc Cert.KvbRefIdeal.main_arg6) = m ((c.tc : Thread Cert.KvbIdeal.nD Cert.KvbIdeal.τ).loc Cert.KvbIdeal.main_arg6)
      ∧ m' ((c.tc : Thread Cert.KvbRefIdeal.nD Cert.KvbRefIdeal.τ).loc Cert.KvbRefIdeal.main_arg7) = m ((c.tc : Thread Cert.KvbIdeal.nD Cert.KvbIdeal.τ).loc Cert.KvbIdeal.main_arg7)
      ∧ m' ((c.tc : Thread Cert.KvbRefIdeal.nD Cert.KvbRefIdeal.τ).loc Cert.KvbRefIdeal.main_arg8) = m ((c.tc : Thread Cert.KvbIdeal.nD Cert.KvbIdeal.τ).loc Cert.KvbIdeal.main_arg8)
      ∧ m' ((c.tc : Thread Cert.KvbRefIdeal.nD Cert.KvbRefIdeal.τ).loc Cert.KvbRefIdeal.main_arg9) = m ((c.tc : Thread Cert.KvbIdeal.nD Cert.KvbIdeal.τ).loc Cert.KvbIdeal.main_arg9)
      ∧ m' ((c.tc : Thread Cert.KvbRefIdeal.nD Cert.KvbRefIdeal.τ).loc Cert.KvbRefIdeal.main_arg10) = m ((c.tc : Thread Cert.KvbIdeal.nD Cert.KvbIdeal.τ).loc Cert.KvbIdeal.main_arg10)
      ∧ m' ((c.tc : Thread Cert.KvbRefIdeal.nD Cert.KvbRefIdeal.τ).loc Cert.KvbRefIdeal.main_arg11) = m ((c.tc : Thread Cert.KvbIdeal.nD Cert.KvbIdeal.τ).loc Cert.KvbIdeal.main_arg11)
      ∧ m' ((c.tc : Thread Cert.KvbRefIdeal.nD Cert.KvbRefIdeal.τ).loc Cert.KvbRefIdeal.main_arg12) = m ((c.tc : Thread Cert.KvbIdeal.nD Cert.KvbIdeal.τ).loc Cert.KvbIdeal.main_arg12)) →
    ∃ (v0 : (c : Dev Cert.KvbIdeal.nD) → Buf (Elt Ideal) ((c.tc : Thread Cert.KvbIdeal.nD Cert.KvbIdeal.τ).loc Cert.KvbIdeal.main_v77_0)) (v1 : (c : Dev Cert.KvbIdeal.nD) → Buf (Elt Ideal) ((c.tc : Thread Cert.KvbIdeal.nD Cert.KvbIdeal.τ).loc Cert.KvbIdeal.main_v77_1)) (v2 : (c : Dev Cert.KvbIdeal.nD) → Buf (Elt Ideal) ((c.tc : Thread Cert.KvbIdeal.nD Cert.KvbIdeal.τ).loc Cert.KvbIdeal.main_v77_2)),
      θ_run (Cert.KvbIdeal.defs (F := Ideal)) (onTc (τ := Cert.KvbIdeal.τ) (Cert.KvbIdeal.main (F := Ideal))) ⟨m, fun _ => 0, g⟩ (fun r => ∀ c : Dev Cert.KvbIdeal.nD,
          r.2.mem ((c.tc : Thread Cert.KvbIdeal.nD Cert.KvbIdeal.τ).loc Cert.KvbIdeal.main_v77_0) = v0 c
          ∧ r.2.mem ((c.tc : Thread Cert.KvbIdeal.nD Cert.KvbIdeal.τ).loc Cert.KvbIdeal.main_v77_1) = v1 c
          ∧ r.2.mem ((c.tc : Thread Cert.KvbIdeal.nD Cert.KvbIdeal.τ).loc Cert.KvbIdeal.main_v77_2) = v2 c
          ∧ r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
          ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1)
          ∧ r.2.mem ((c.tc : Thread Cert.KvbIdeal.nD Cert.KvbIdeal.τ).loc Cert.KvbIdeal.main_arg2) = m ((c.tc : Thread Cert.KvbIdeal.nD Cert.KvbIdeal.τ).loc Cert.KvbIdeal.main_arg2)
          ∧ r.2.mem ((c.tc : Thread Cert.KvbIdeal.nD Cert.KvbIdeal.τ).loc Cert.KvbIdeal.main_arg3) = m ((c.tc : Thread Cert.KvbIdeal.nD Cert.KvbIdeal.τ).loc Cert.KvbIdeal.main_arg3)
          ∧ r.2.mem ((c.tc : Thread Cert.KvbIdeal.nD Cert.KvbIdeal.τ).loc Cert.KvbIdeal.main_arg4) = m ((c.tc : Thread Cert.KvbIdeal.nD Cert.KvbIdeal.τ).loc Cert.KvbIdeal.main_arg4)
          ∧ r.2.mem ((c.tc : Thread Cert.KvbIdeal.nD Cert.KvbIdeal.τ).loc Cert.KvbIdeal.main_arg5) = m ((c.tc : Thread Cert.KvbIdeal.nD Cert.KvbIdeal.τ).loc Cert.KvbIdeal.main_arg5)
          ∧ r.2.mem ((c.tc : Thread Cert.KvbIdeal.nD Cert.KvbIdeal.τ).loc Cert.KvbIdeal.main_arg6) = m ((c.tc : Thread Cert.KvbIdeal.nD Cert.KvbIdeal.τ).loc Cert.KvbIdeal.main_arg6)
          ∧ r.2.mem ((c.tc : Thread Cert.KvbIdeal.nD Cert.KvbIdeal.τ).loc Cert.KvbIdeal.main_arg7) = m ((c.tc : Thread Cert.KvbIdeal.nD Cert.KvbIdeal.τ).loc Cert.KvbIdeal.main_arg7)
          ∧ r.2.mem ((c.tc : Thread Cert.KvbIdeal.nD Cert.KvbIdeal.τ).loc Cert.KvbIdeal.main_arg8) = m ((c.tc : Thread Cert.KvbIdeal.nD Cert.KvbIdeal.τ).loc Cert.KvbIdeal.main_arg8)
          ∧ r.2.mem ((c.tc : Thread Cert.KvbIdeal.nD Cert.KvbIdeal.τ).loc Cert.KvbIdeal.main_arg9) = m ((c.tc : Thread Cert.KvbIdeal.nD Cert.KvbIdeal.τ).loc Cert.KvbIdeal.main_arg9)
          ∧ r.2.mem ((c.tc : Thread Cert.KvbIdeal.nD Cert.KvbIdeal.τ).loc Cert.KvbIdeal.main_arg10) = m ((c.tc : Thread Cert.KvbIdeal.nD Cert.KvbIdeal.τ).loc Cert.KvbIdeal.main_arg10)
          ∧ r.2.mem ((c.tc : Thread Cert.KvbIdeal.nD Cert.KvbIdeal.τ).loc Cert.KvbIdeal.main_arg11) = m ((c.tc : Thread Cert.KvbIdeal.nD Cert.KvbIdeal.τ).loc Cert.KvbIdeal.main_arg11)
          ∧ r.2.mem ((c.tc : Thread Cert.KvbIdeal.nD Cert.KvbIdeal.τ).loc Cert.KvbIdeal.main_arg12) = m ((c.tc : Thread Cert.KvbIdeal.nD Cert.KvbIdeal.τ).loc Cert.KvbIdeal.main_arg12))
      ∧ θ_run (Cert.KvbRefIdeal.defs (F := Ideal)) (onTc (τ := Cert.KvbRefIdeal.τ) (Cert.KvbRefIdeal.main (F := Ideal))) ⟨m', fun _ => 0, g'⟩ (fun r => ∀ c : Dev Cert.KvbRefIdeal.nD,
          r.2.mem ((c.tc : Thread Cert.KvbRefIdeal.nD Cert.KvbRefIdeal.τ).loc Cert.KvbRefIdeal.main_v117) = v0 c
          ∧ r.2.mem ((c.tc : Thread Cert.KvbRefIdeal.nD Cert.KvbRefIdeal.τ).loc Cert.KvbRefIdeal.main_v118) = v1 c
          ∧ r.2.mem ((c.tc : Thread Cert.KvbRefIdeal.nD Cert.KvbRefIdeal.τ).loc Cert.KvbRefIdeal.main_v123) = v2 c
          ∧ r.2.mem ((c.tc : Thread Cert.KvbRefIdeal.nD Cert.KvbRefIdeal.τ).loc Cert.KvbRefIdeal.main_arg0) = m' ((c.tc : Thread Cert.KvbRefIdeal.nD Cert.KvbRefIdeal.τ).loc Cert.KvbRefIdeal.main_arg0)
          ∧ r.2.mem ((c.tc : Thread Cert.KvbRefIdeal.nD Cert.KvbRefIdeal.τ).loc Cert.KvbRefIdeal.main_arg1) = m' ((c.tc : Thread Cert.KvbRefIdeal.nD Cert.KvbRefIdeal.τ).loc Cert.KvbRefIdeal.main_arg1)
          ∧ r.2.mem ((c.tc : Thread Cert.KvbRefIdeal.nD Cert.KvbRefIdeal.τ).loc Cert.KvbRefIdeal.main_arg2) = m' ((c.tc : Thread Cert.KvbRefIdeal.nD Cert.KvbRefIdeal.τ).loc Cert.KvbRefIdeal.main_arg2)
          ∧ r.2.mem ((c.tc : Thread Cert.KvbRefIdeal.nD Cert.KvbRefIdeal.τ).loc Cert.KvbRefIdeal.main_arg3) = m' ((c.tc : Thread Cert.KvbRefIdeal.nD Cert.KvbRefIdeal.τ).loc Cert.KvbRefIdeal.main_arg3)
          ∧ r.2.mem ((c.tc : Thread Cert.KvbRefIdeal.nD Cert.KvbRefIdeal.τ).loc Cert.KvbRefIdeal.main_arg4) = m' ((c.tc : Thread Cert.KvbRefIdeal.nD Cert.KvbRefIdeal.τ).loc Cert.KvbRefIdeal.main_arg4)
          ∧ r.2.mem ((c.tc : Thread Cert.KvbRefIdeal.nD Cert.KvbRefIdeal.τ).loc Cert.KvbRefIdeal.main_arg5) = m' ((c.tc : Thread Cert.KvbRefIdeal.nD Cert.KvbRefIdeal.τ).loc Cert.KvbRefIdeal.main_arg5)
          ∧ r.2.mem ((c.tc : Thread Cert.KvbRefIdeal.nD Cert.KvbRefIdeal.τ).loc Cert.KvbRefIdeal.main_arg6) = m' ((c.tc : Thread Cert.KvbRefIdeal.nD Cert.KvbRefIdeal.τ).loc Cert.KvbRefIdeal.main_arg6)
          ∧ r.2.mem ((c.tc : Thread Cert.KvbRefIdeal.nD Cert.KvbRefIdeal.τ).loc Cert.KvbRefIdeal.main_arg7) = m' ((c.tc : Thread Cert.KvbRefIdeal.nD Cert.KvbRefIdeal.τ).loc Cert.KvbRefIdeal.main_arg7)
          ∧ r.2.mem ((c.tc : Thread Cert.KvbRefIdeal.nD Cert.KvbRefIdeal.τ).loc Cert.KvbRefIdeal.main_arg8) = m' ((c.tc : Thread Cert.KvbRefIdeal.nD Cert.KvbRefIdeal.τ).loc Cert.KvbRefIdeal.main_arg8)
          ∧ r.2.mem ((c.tc : Thread Cert.KvbRefIdeal.nD Cert.KvbRefIdeal.τ).loc Cert.KvbRefIdeal.main_arg9) = m' ((c.tc : Thread Cert.KvbRefIdeal.nD Cert.KvbRefIdeal.τ).loc Cert.KvbRefIdeal.main_arg9)
          ∧ r.2.mem ((c.tc : Thread Cert.KvbRefIdeal.nD Cert.KvbRefIdeal.τ).loc Cert.KvbRefIdeal.main_arg10) = m' ((c.tc : Thread Cert.KvbRefIdeal.nD Cert.KvbRefIdeal.τ).loc Cert.KvbRefIdeal.main_arg10)
          ∧ r.2.mem ((c.tc : Thread Cert.KvbRefIdeal.nD Cert.KvbRefIdeal.τ).loc Cert.KvbRefIdeal.main_arg11) = m' ((c.tc : Thread Cert.KvbRefIdeal.nD Cert.KvbRefIdeal.τ).loc Cert.KvbRefIdeal.main_arg11)
          ∧ r.2.mem ((c.tc : Thread Cert.KvbRefIdeal.nD Cert.KvbRefIdeal.τ).loc Cert.KvbRefIdeal.main_arg12) = m' ((c.tc : Thread Cert.KvbRefIdeal.nD Cert.KvbRefIdeal.τ).loc Cert.KvbRefIdeal.main_arg12))

def preserves_Ffw_FfwIdeal : Prop :=
  True

def algebraic_FfwIdeal_FfwRefIdeal_pre_finite_ffw [hFfwIdeal : Cert.FfwIdeal.Facts] [hFfwRefIdeal : Cert.FfwRefIdeal.Facts] [hPre_finite_ffw : Cert.Pre_finite_ffw.Facts] : Prop :=
  ∀ (m : (ℓ : Loc Cert.FfwIdeal.nD Cert.FfwIdeal.τ Cert.FfwIdeal.sig) → Buf (Elt Ideal) ℓ) (g : Dev Cert.FfwIdeal.nD → PrngReg)
    (m' : (ℓ : Loc Cert.FfwRefIdeal.nD Cert.FfwRefIdeal.τ Cert.FfwRefIdeal.sig) → Buf (Elt Ideal) ℓ) (g' : Dev Cert.FfwRefIdeal.nD → PrngReg), Pre_FfwIdeal_finite_ffw m →
    (∀ c : Dev Cert.FfwIdeal.nD,
      m' ((c.tc : Thread Cert.FfwRefIdeal.nD Cert.FfwRefIdeal.τ).loc Cert.FfwRefIdeal.main_arg0) = m ((c.tc : Thread Cert.FfwIdeal.nD Cert.FfwIdeal.τ).loc Cert.FfwIdeal.main_arg0)
      ∧ m' ((c.tc : Thread Cert.FfwRefIdeal.nD Cert.FfwRefIdeal.τ).loc Cert.FfwRefIdeal.main_arg1) = m ((c.tc : Thread Cert.FfwIdeal.nD Cert.FfwIdeal.τ).loc Cert.FfwIdeal.main_arg1)
      ∧ m' ((c.tc : Thread Cert.FfwRefIdeal.nD Cert.FfwRefIdeal.τ).loc Cert.FfwRefIdeal.main_arg2) = m ((c.tc : Thread Cert.FfwIdeal.nD Cert.FfwIdeal.τ).loc Cert.FfwIdeal.main_arg2)
      ∧ m' ((c.tc : Thread Cert.FfwRefIdeal.nD Cert.FfwRefIdeal.τ).loc Cert.FfwRefIdeal.main_arg3) = m ((c.tc : Thread Cert.FfwIdeal.nD Cert.FfwIdeal.τ).loc Cert.FfwIdeal.main_arg3)
      ∧ m' ((c.tc : Thread Cert.FfwRefIdeal.nD Cert.FfwRefIdeal.τ).loc Cert.FfwRefIdeal.main_arg4) = m ((c.tc : Thread Cert.FfwIdeal.nD Cert.FfwIdeal.τ).loc Cert.FfwIdeal.main_arg4)
      ∧ m' ((c.tc : Thread Cert.FfwRefIdeal.nD Cert.FfwRefIdeal.τ).loc Cert.FfwRefIdeal.main_arg5) = m ((c.tc : Thread Cert.FfwIdeal.nD Cert.FfwIdeal.τ).loc Cert.FfwIdeal.main_arg5)
      ∧ m' ((c.tc : Thread Cert.FfwRefIdeal.nD Cert.FfwRefIdeal.τ).loc Cert.FfwRefIdeal.main_arg6) = m ((c.tc : Thread Cert.FfwIdeal.nD Cert.FfwIdeal.τ).loc Cert.FfwIdeal.main_arg6)) →
    ∃ (v0 : (c : Dev Cert.FfwIdeal.nD) → Buf (Elt Ideal) ((c.tc : Thread Cert.FfwIdeal.nD Cert.FfwIdeal.τ).loc Cert.FfwIdeal.main_v9_0)) (v1 : (c : Dev Cert.FfwIdeal.nD) → Buf (Elt Ideal) ((c.tc : Thread Cert.FfwIdeal.nD Cert.FfwIdeal.τ).loc Cert.FfwIdeal.main_v9_1)) (v2 : (c : Dev Cert.FfwIdeal.nD) → Buf (Elt Ideal) ((c.tc : Thread Cert.FfwIdeal.nD Cert.FfwIdeal.τ).loc Cert.FfwIdeal.main_v9_2)) (v3 : (c : Dev Cert.FfwIdeal.nD) → Buf (Elt Ideal) ((c.tc : Thread Cert.FfwIdeal.nD Cert.FfwIdeal.τ).loc Cert.FfwIdeal.main_v9_3)) (v4 : (c : Dev Cert.FfwIdeal.nD) → Buf (Elt Ideal) ((c.tc : Thread Cert.FfwIdeal.nD Cert.FfwIdeal.τ).loc Cert.FfwIdeal.main_v9_4)) (v5 : (c : Dev Cert.FfwIdeal.nD) → Buf (Elt Ideal) ((c.tc : Thread Cert.FfwIdeal.nD Cert.FfwIdeal.τ).loc Cert.FfwIdeal.main_v9_5)),
      θ_run (Cert.FfwIdeal.defs (F := Ideal)) (onTc (τ := Cert.FfwIdeal.τ) (Cert.FfwIdeal.main (F := Ideal))) ⟨m, fun _ => 0, g⟩ (fun r => ∀ c : Dev Cert.FfwIdeal.nD,
          r.2.mem ((c.tc : Thread Cert.FfwIdeal.nD Cert.FfwIdeal.τ).loc Cert.FfwIdeal.main_v9_0) = v0 c
          ∧ r.2.mem ((c.tc : Thread Cert.FfwIdeal.nD Cert.FfwIdeal.τ).loc Cert.FfwIdeal.main_v9_1) = v1 c
          ∧ r.2.mem ((c.tc : Thread Cert.FfwIdeal.nD Cert.FfwIdeal.τ).loc Cert.FfwIdeal.main_v9_2) = v2 c
          ∧ r.2.mem ((c.tc : Thread Cert.FfwIdeal.nD Cert.FfwIdeal.τ).loc Cert.FfwIdeal.main_v9_3) = v3 c
          ∧ r.2.mem ((c.tc : Thread Cert.FfwIdeal.nD Cert.FfwIdeal.τ).loc Cert.FfwIdeal.main_v9_4) = v4 c
          ∧ r.2.mem ((c.tc : Thread Cert.FfwIdeal.nD Cert.FfwIdeal.τ).loc Cert.FfwIdeal.main_v9_5) = v5 c
          ∧ r.2.mem ((c.tc : Thread Cert.FfwIdeal.nD Cert.FfwIdeal.τ).loc Cert.FfwIdeal.main_arg0) = m ((c.tc : Thread Cert.FfwIdeal.nD Cert.FfwIdeal.τ).loc Cert.FfwIdeal.main_arg0)
          ∧ r.2.mem ((c.tc : Thread Cert.FfwIdeal.nD Cert.FfwIdeal.τ).loc Cert.FfwIdeal.main_arg1) = m ((c.tc : Thread Cert.FfwIdeal.nD Cert.FfwIdeal.τ).loc Cert.FfwIdeal.main_arg1)
          ∧ r.2.mem ((c.tc : Thread Cert.FfwIdeal.nD Cert.FfwIdeal.τ).loc Cert.FfwIdeal.main_arg2) = m ((c.tc : Thread Cert.FfwIdeal.nD Cert.FfwIdeal.τ).loc Cert.FfwIdeal.main_arg2)
          ∧ r.2.mem ((c.tc : Thread Cert.FfwIdeal.nD Cert.FfwIdeal.τ).loc Cert.FfwIdeal.main_arg3) = m ((c.tc : Thread Cert.FfwIdeal.nD Cert.FfwIdeal.τ).loc Cert.FfwIdeal.main_arg3)
          ∧ r.2.mem ((c.tc : Thread Cert.FfwIdeal.nD Cert.FfwIdeal.τ).loc Cert.FfwIdeal.main_arg4) = m ((c.tc : Thread Cert.FfwIdeal.nD Cert.FfwIdeal.τ).loc Cert.FfwIdeal.main_arg4)
          ∧ r.2.mem ((c.tc : Thread Cert.FfwIdeal.nD Cert.FfwIdeal.τ).loc Cert.FfwIdeal.main_arg5) = m ((c.tc : Thread Cert.FfwIdeal.nD Cert.FfwIdeal.τ).loc Cert.FfwIdeal.main_arg5)
          ∧ r.2.mem ((c.tc : Thread Cert.FfwIdeal.nD Cert.FfwIdeal.τ).loc Cert.FfwIdeal.main_arg6) = m ((c.tc : Thread Cert.FfwIdeal.nD Cert.FfwIdeal.τ).loc Cert.FfwIdeal.main_arg6))
      ∧ θ_run (Cert.FfwRefIdeal.defs (F := Ideal)) (onTc (τ := Cert.FfwRefIdeal.τ) (Cert.FfwRefIdeal.main (F := Ideal))) ⟨m', fun _ => 0, g'⟩ (fun r => ∀ c : Dev Cert.FfwRefIdeal.nD,
          r.2.mem ((c.tc : Thread Cert.FfwRefIdeal.nD Cert.FfwRefIdeal.τ).loc Cert.FfwRefIdeal.main_v50) = v0 c
          ∧ r.2.mem ((c.tc : Thread Cert.FfwRefIdeal.nD Cert.FfwRefIdeal.τ).loc Cert.FfwRefIdeal.main_v51) = v1 c
          ∧ r.2.mem ((c.tc : Thread Cert.FfwRefIdeal.nD Cert.FfwRefIdeal.τ).loc Cert.FfwRefIdeal.main_v52) = v2 c
          ∧ r.2.mem ((c.tc : Thread Cert.FfwRefIdeal.nD Cert.FfwRefIdeal.τ).loc Cert.FfwRefIdeal.main_v53) = v3 c
          ∧ r.2.mem ((c.tc : Thread Cert.FfwRefIdeal.nD Cert.FfwRefIdeal.τ).loc Cert.FfwRefIdeal.main_v54) = v4 c
          ∧ r.2.mem ((c.tc : Thread Cert.FfwRefIdeal.nD Cert.FfwRefIdeal.τ).loc Cert.FfwRefIdeal.main_v55) = v5 c
          ∧ r.2.mem ((c.tc : Thread Cert.FfwRefIdeal.nD Cert.FfwRefIdeal.τ).loc Cert.FfwRefIdeal.main_arg0) = m' ((c.tc : Thread Cert.FfwRefIdeal.nD Cert.FfwRefIdeal.τ).loc Cert.FfwRefIdeal.main_arg0)
          ∧ r.2.mem ((c.tc : Thread Cert.FfwRefIdeal.nD Cert.FfwRefIdeal.τ).loc Cert.FfwRefIdeal.main_arg1) = m' ((c.tc : Thread Cert.FfwRefIdeal.nD Cert.FfwRefIdeal.τ).loc Cert.FfwRefIdeal.main_arg1)
          ∧ r.2.mem ((c.tc : Thread Cert.FfwRefIdeal.nD Cert.FfwRefIdeal.τ).loc Cert.FfwRefIdeal.main_arg2) = m' ((c.tc : Thread Cert.FfwRefIdeal.nD Cert.FfwRefIdeal.τ).loc Cert.FfwRefIdeal.main_arg2)
          ∧ r.2.mem ((c.tc : Thread Cert.FfwRefIdeal.nD Cert.FfwRefIdeal.τ).loc Cert.FfwRefIdeal.main_arg3) = m' ((c.tc : Thread Cert.FfwRefIdeal.nD Cert.FfwRefIdeal.τ).loc Cert.FfwRefIdeal.main_arg3)
          ∧ r.2.mem ((c.tc : Thread Cert.FfwRefIdeal.nD Cert.FfwRefIdeal.τ).loc Cert.FfwRefIdeal.main_arg4) = m' ((c.tc : Thread Cert.FfwRefIdeal.nD Cert.FfwRefIdeal.τ).loc Cert.FfwRefIdeal.main_arg4)
          ∧ r.2.mem ((c.tc : Thread Cert.FfwRefIdeal.nD Cert.FfwRefIdeal.τ).loc Cert.FfwRefIdeal.main_arg5) = m' ((c.tc : Thread Cert.FfwRefIdeal.nD Cert.FfwRefIdeal.τ).loc Cert.FfwRefIdeal.main_arg5)
          ∧ r.2.mem ((c.tc : Thread Cert.FfwRefIdeal.nD Cert.FfwRefIdeal.τ).loc Cert.FfwRefIdeal.main_arg6) = m' ((c.tc : Thread Cert.FfwRefIdeal.nD Cert.FfwRefIdeal.τ).loc Cert.FfwRefIdeal.main_arg6))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)) →
    ∃ (v0 : (c : Dev Cert.ModsIdeal.nD) → Buf (Elt Ideal) ((c.tc : Thread Cert.ModsIdeal.nD Cert.ModsIdeal.τ).loc Cert.ModsIdeal.main_v1)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v1) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v11) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2))

def preserves_Modw_ModwIdeal : Prop :=
  True

def algebraic_ModwIdeal_ModwRefIdeal [hModwIdeal : Cert.ModwIdeal.Facts] [hModwRefIdeal : Cert.ModwRefIdeal.Facts] : Prop :=
  ∀ (m : (ℓ : Loc Cert.ModwIdeal.nD Cert.ModwIdeal.τ Cert.ModwIdeal.sig) → Buf (Elt Ideal) ℓ) (g : Dev Cert.ModwIdeal.nD → PrngReg)
    (m' : (ℓ : Loc Cert.ModwRefIdeal.nD Cert.ModwRefIdeal.τ Cert.ModwRefIdeal.sig) → Buf (Elt Ideal) ℓ) (g' : Dev Cert.ModwRefIdeal.nD → PrngReg), Pre_ModwIdeal m →
    (∀ c : Dev Cert.ModwIdeal.nD,
      m' ((c.tc : Thread Cert.ModwRefIdeal.nD Cert.ModwRefIdeal.τ).loc Cert.ModwRefIdeal.main_arg0) = m ((c.tc : Thread Cert.ModwIdeal.nD Cert.ModwIdeal.τ).loc Cert.ModwIdeal.main_arg0)
      ∧ m' ((c.tc : Thread Cert.ModwRefIdeal.nD Cert.ModwRefIdeal.τ).loc Cert.ModwRefIdeal.main_arg1) = m ((c.tc : Thread Cert.ModwIdeal.nD Cert.ModwIdeal.τ).loc Cert.ModwIdeal.main_arg1)) →
    ∃ (v0 : (c : Dev Cert.ModwIdeal.nD) → Buf (Elt Ideal) ((c.tc : Thread Cert.ModwIdeal.nD Cert.ModwIdeal.τ).loc Cert.ModwIdeal.main_v0)),
      θ_run (Cert.ModwIdeal.defs (F := Ideal)) (onTc (τ := Cert.ModwIdeal.τ) (Cert.ModwIdeal.main (F := Ideal))) ⟨m, fun _ => 0, g⟩ (fun r => ∀ c : Dev Cert.ModwIdeal.nD,
          r.2.mem ((c.tc : Thread Cert.ModwIdeal.nD Cert.ModwIdeal.τ).loc Cert.ModwIdeal.main_v0) = v0 c
          ∧ r.2.mem ((c.tc : Thread Cert.ModwIdeal.nD Cert.ModwIdeal.τ).loc Cert.ModwIdeal.main_arg0) = m ((c.tc : Thread Cert.ModwIdeal.nD Cert.ModwIdeal.τ).loc Cert.ModwIdeal.main_arg0)
          ∧ r.2.mem ((c.tc : Thread Cert.ModwIdeal.nD Cert.ModwIdeal.τ).loc Cert.ModwIdeal.main_arg1) = m ((c.tc : Thread Cert.ModwIdeal.nD Cert.ModwIdeal.τ).loc Cert.ModwIdeal.main_arg1))
      ∧ θ_run (Cert.ModwRefIdeal.defs (F := Ideal)) (onTc (τ := Cert.ModwRefIdeal.τ) (Cert.ModwRefIdeal.main (F := Ideal))) ⟨m', fun _ => 0, g'⟩ (fun r => ∀ c : Dev Cert.ModwRefIdeal.nD,
          r.2.mem ((c.tc : Thread Cert.ModwRefIdeal.nD Cert.ModwRefIdeal.τ).loc Cert.ModwRefIdeal.main_v12) = v0 c
          ∧ r.2.mem ((c.tc : Thread Cert.ModwRefIdeal.nD Cert.ModwRefIdeal.τ).loc Cert.ModwRefIdeal.main_arg0) = m' ((c.tc : Thread Cert.ModwRefIdeal.nD Cert.ModwRefIdeal.τ).loc Cert.ModwRefIdeal.main_arg0)
          ∧ r.2.mem ((c.tc : Thread Cert.ModwRefIdeal.nD Cert.ModwRefIdeal.τ).loc Cert.ModwRefIdeal.main_arg1) = m' ((c.tc : Thread Cert.ModwRefIdeal.nD Cert.ModwRefIdeal.τ).loc Cert.ModwRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v24) = v1 c
          ∧ r.2.mem ((c.tc : Thread Cert.AdamRefIdeal.nD Cert.AdamRefIdeal.τ).loc Cert.AdamRefIdeal.main_v5) = v2 c
          ∧ r.2.mem ((c.tc : Thread Cert.AdamRefIdeal.nD Cert.AdamRefIdeal.τ).loc Cert.AdamRefIdeal.main_v11) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Mix_MixIdeal : Prop :=
  True

def preserves_AttnA_AttnAIdeal : Prop :=
  IdealRules.named_const.Statement Cert.AttnAIdeal.κ "mask" .f32 0xF149F2CA#32 ⊥

def preserves_AttnC_AttnCIdeal : Prop :=
  IdealRules.named_const.Statement Cert.AttnCIdeal.κ "mask" .f32 0xF149F2CA#32 ⊥

def preserves_AttpA_AttpAIdeal : Prop :=
  IdealRules.named_const.Statement Cert.AttpAIdeal.κ "mask" .f32 0xF149F2CA#32 ⊥

def preserves_AttpC_AttpCIdeal : Prop :=
  IdealRules.named_const.Statement Cert.AttpCIdeal.κ "mask" .f32 0xF149F2CA#32 ⊥

def Claim : Prop :=
  ∃ (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hConv : Cert.Conv.Facts) (hConvIdeal : Cert.ConvIdeal.Facts) (hConvRefIdeal : Cert.ConvRefIdeal.Facts) (hFfn : Cert.Ffn.Facts) (hFfnIdeal : Cert.FfnIdeal.Facts) (hFfnRefIdeal : Cert.FfnRefIdeal.Facts) (hAttp : Cert.Attp.Facts) (hAttpIdeal : Cert.AttpIdeal.Facts) (hAttpRefIdeal : Cert.AttpRefIdeal.Facts) (hQb : Cert.Qb.Facts) (hQbIdeal : Cert.QbIdeal.Facts) (hQbRefIdeal : Cert.QbRefIdeal.Facts) (hKvb : Cert.Kvb.Facts) (hKvbIdeal : Cert.KvbIdeal.Facts) (hKvbRefIdeal : Cert.KvbRefIdeal.Facts) (hFfw : Cert.Ffw.Facts) (hFfwIdeal : Cert.FfwIdeal.Facts) (hFfwRefIdeal : Cert.FfwRefIdeal.Facts) (hMods : Cert.Mods.Facts) (hModsIdeal : Cert.ModsIdeal.Facts) (hModsRefIdeal : Cert.ModsRefIdeal.Facts) (hModw : Cert.Modw.Facts) (hModwIdeal : Cert.ModwIdeal.Facts) (hModwRefIdeal : Cert.ModwRefIdeal.Facts) (hAdam : Cert.Adam.Facts) (hAdamIdeal : Cert.AdamIdeal.Facts) (hAdamRefIdeal : Cert.AdamRefIdeal.Facts) (hMix : Cert.Mix.Facts) (hMixIdeal : Cert.MixIdeal.Facts) (hMixRefIdeal : Cert.MixRefIdeal.Facts) (hAttnA : Cert.AttnA.Facts) (hAttnAIdeal : Cert.AttnAIdeal.Facts) (hAttnARefIdeal : Cert.AttnARefIdeal.Facts) (hAttnC : Cert.AttnC.Facts) (hAttnCIdeal : Cert.AttnCIdeal.Facts) (hAttnCRefIdeal : Cert.AttnCRefIdeal.Facts) (hAttpA : Cert.AttpA.Facts) (hAttpAIdeal : Cert.AttpAIdeal.Facts) (hAttpARefIdeal : Cert.AttpARefIdeal.Facts) (hAttpC : Cert.AttpC.Facts) (hAttpCIdeal : Cert.AttpCIdeal.Facts) (hAttpCRefIdeal : Cert.AttpCRefIdeal.Facts) (hPre_finite_attn : Cert.Pre_finite_attn.Facts) (hPre_finite_ffn : Cert.Pre_finite_ffn.Facts) (hPre_finite_attp : Cert.Pre_finite_attp.Facts) (hPre_finite_ffw : Cert.Pre_finite_ffw.Facts),
    quiescent_Loss (hLoss := hLoss)
    ∧ quiescent_LossIdeal (hLossIdeal := hLossIdeal)
    ∧ quiescent_LossRefIdeal (hLossRefIdeal := hLossRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Conv (hConv := hConv)
    ∧ quiescent_ConvIdeal (hConvIdeal := hConvIdeal)
    ∧ quiescent_ConvRefIdeal (hConvRefIdeal := hConvRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Attp (hAttp := hAttp)
    ∧ quiescent_AttpIdeal (hAttpIdeal := hAttpIdeal)
    ∧ quiescent_AttpIdeal_pre_finite_attp (hAttpIdeal := hAttpIdeal) (hPre_finite_attp := hPre_finite_attp)
    ∧ quiescent_AttpRefIdeal (hAttpRefIdeal := hAttpRefIdeal)
    ∧ quiescent_AttpRefIdeal_pre_finite_attp (hAttpRefIdeal := hAttpRefIdeal) (hPre_finite_attp := hPre_finite_attp)
    ∧ quiescent_Qb (hQb := hQb)
    ∧ quiescent_QbIdeal (hQbIdeal := hQbIdeal)
    ∧ quiescent_QbRefIdeal (hQbRefIdeal := hQbRefIdeal)
    ∧ quiescent_Kvb (hKvb := hKvb)
    ∧ quiescent_KvbIdeal (hKvbIdeal := hKvbIdeal)
    ∧ quiescent_KvbRefIdeal (hKvbRefIdeal := hKvbRefIdeal)
    ∧ quiescent_Ffw (hFfw := hFfw)
    ∧ quiescent_FfwIdeal (hFfwIdeal := hFfwIdeal)
    ∧ quiescent_FfwIdeal_pre_finite_ffw (hFfwIdeal := hFfwIdeal) (hPre_finite_ffw := hPre_finite_ffw)
    ∧ quiescent_FfwRefIdeal (hFfwRefIdeal := hFfwRefIdeal)
    ∧ quiescent_FfwRefIdeal_pre_finite_ffw (hFfwRefIdeal := hFfwRefIdeal) (hPre_finite_ffw := hPre_finite_ffw)
    ∧ quiescent_Mods (hMods := hMods)
    ∧ quiescent_ModsIdeal (hModsIdeal := hModsIdeal)
    ∧ quiescent_ModsRefIdeal (hModsRefIdeal := hModsRefIdeal)
    ∧ quiescent_Modw (hModw := hModw)
    ∧ quiescent_ModwIdeal (hModwIdeal := hModwIdeal)
    ∧ quiescent_ModwRefIdeal (hModwRefIdeal := hModwRefIdeal)
    ∧ quiescent_Adam (hAdam := hAdam)
    ∧ quiescent_AdamIdeal (hAdamIdeal := hAdamIdeal)
    ∧ quiescent_AdamRefIdeal (hAdamRefIdeal := hAdamRefIdeal)
    ∧ quiescent_Mix (hMix := hMix)
    ∧ quiescent_MixIdeal (hMixIdeal := hMixIdeal)
    ∧ quiescent_MixRefIdeal (hMixRefIdeal := hMixRefIdeal)
    ∧ quiescent_AttnA (hAttnA := hAttnA)
    ∧ quiescent_AttnAIdeal (hAttnAIdeal := hAttnAIdeal)
    ∧ quiescent_AttnARefIdeal (hAttnARefIdeal := hAttnARefIdeal)
    ∧ quiescent_AttnC (hAttnC := hAttnC)
    ∧ quiescent_AttnCIdeal (hAttnCIdeal := hAttnCIdeal)
    ∧ quiescent_AttnCRefIdeal (hAttnCRefIdeal := hAttnCRefIdeal)
    ∧ quiescent_AttpA (hAttpA := hAttpA)
    ∧ quiescent_AttpAIdeal (hAttpAIdeal := hAttpAIdeal)
    ∧ quiescent_AttpARefIdeal (hAttpARefIdeal := hAttpARefIdeal)
    ∧ quiescent_AttpC (hAttpC := hAttpC)
    ∧ quiescent_AttpCIdeal (hAttpCIdeal := hAttpCIdeal)
    ∧ quiescent_AttpCRefIdeal (hAttpCRefIdeal := hAttpCRefIdeal)
    ∧ preserves_Loss_LossIdeal
    ∧ algebraic_LossIdeal_LossRefIdeal (hLossIdeal := hLossIdeal) (hLossRefIdeal := hLossRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Conv_ConvIdeal
    ∧ algebraic_ConvIdeal_ConvRefIdeal (hConvIdeal := hConvIdeal) (hConvRefIdeal := hConvRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Attp_AttpIdeal
    ∧ algebraic_AttpIdeal_AttpRefIdeal_pre_finite_attp (hAttpIdeal := hAttpIdeal) (hAttpRefIdeal := hAttpRefIdeal) (hPre_finite_attp := hPre_finite_attp)
    ∧ preserves_Qb_QbIdeal
    ∧ algebraic_QbIdeal_QbRefIdeal (hQbIdeal := hQbIdeal) (hQbRefIdeal := hQbRefIdeal)
    ∧ preserves_Kvb_KvbIdeal
    ∧ algebraic_KvbIdeal_KvbRefIdeal (hKvbIdeal := hKvbIdeal) (hKvbRefIdeal := hKvbRefIdeal)
    ∧ preserves_Ffw_FfwIdeal
    ∧ algebraic_FfwIdeal_FfwRefIdeal_pre_finite_ffw (hFfwIdeal := hFfwIdeal) (hFfwRefIdeal := hFfwRefIdeal) (hPre_finite_ffw := hPre_finite_ffw)
    ∧ preserves_Mods_ModsIdeal
    ∧ algebraic_ModsIdeal_ModsRefIdeal (hModsIdeal := hModsIdeal) (hModsRefIdeal := hModsRefIdeal)
    ∧ preserves_Modw_ModwIdeal
    ∧ algebraic_ModwIdeal_ModwRefIdeal (hModwIdeal := hModwIdeal) (hModwRefIdeal := hModwRefIdeal)
    ∧ preserves_Adam_AdamIdeal
    ∧ algebraic_AdamIdeal_AdamRefIdeal (hAdamIdeal := hAdamIdeal) (hAdamRefIdeal := hAdamRefIdeal)
    ∧ preserves_Mix_MixIdeal
    ∧ preserves_AttnA_AttnAIdeal
    ∧ preserves_AttnC_AttnCIdeal
    ∧ preserves_AttpA_AttpAIdeal
    ∧ preserves_AttpC_AttpCIdeal
-- ==== Pre_finite_attn.lean ====
abbrev S1x8192x8x64 : Shape := ⟨4, ![1, 8192, 8, 64]⟩
abbrev S1x8192x8 : Shape := ⟨3, ![1, 8192, 8]⟩
abbrev S_ : Shape := ⟨0, ![]⟩

class Facts : Prop where
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_
  h_S_ : 0 < S_.numel
  bcast_S_S1x8192x8 : S_.BroadcastsInDim S1x8192x8 (![] : Fin 0 → Fin S1x8192x8.rank)
  reducesTo_S1x8192x8_S_d0_1_2 : S1x8192x8.ReducesTo [0, 1, 2] S_

variable [Facts]

def fn_part1 {F : FTy → Type} [FloatOps F] (main_arg4 : FVec F S1x8192x8 .f32) (main_v13 : IVec S_ 1) (main_v16 : IVec S1x8192x8x64 1) : IVec S_ 1 :=
  let main_c_5 : IVec S_ 1 := constantI S_ 1 1#1
  let main_v17 : IVec S_ 1 := (fun x v => Host.reduce IntOp.andi x v reducesTo_S1x8192x8x64_S_d0_1_2_3 h_S_) main_v16 main_c_5
  let main_v18 : IVec S_ 1 := andi main_v13 main_v17
  let main_v19 : FVec F S1x8192x8 .f32 := Host.absf main_arg4
  let main_cst_6 : FVec F S_ .f32 := constant S_ .f32 0x7F800000#32
  let main_v20 : FVec F S1x8192x8 .f32 := broadcastInDim S1x8192x8 ![] bcast_S_S1x8192x8 main_cst_6
  let main_v21 : IVec S1x8192x8 1 := cmpf .olt main_v19 main_v20
  let main_c_7 : IVec S_ 1 := constantI S_ 1 1#1
  let main_v22 : IVec S_ 1 := (fun x v => Host.reduce IntOp.andi x v reducesTo_S1x8192x8_S_d0_1_2 h_S_) main_v21 main_c_7
  let main_v23 : IVec S_ 1 := andi main_v18 main_v22
  main_v23

def fn {F : FTy → Type} [FloatOps F] (main_arg0 : FVec F S1x8192x8x64 .f32) (main_arg1 : FVec F S1x8192x8x64 .f32) (main_arg2 : FVec F S1x8192x8x64 .f32) (main_arg3 : FVec F S1x8192x8x64 .f32) (main_arg4 : FVec F S1x8192x8 .f32) : IVec S_ 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_c : IVec S_ 1 := constantI S_ 1 1#1
  let main_v3 : IVec S_ 1 := (fun x v => Host.reduce IntOp.andi x v reducesTo_S1x8192x8x64_S_d0_1_2_3 h_S_) main_v2 main_c
  let main_v4 : FVec F S1x8192x8x64 .f32 := Host.absf main_arg1
  let main_cst_0 : FVec F S_ .f32 := constant S_ .f32 0x7F800000#32
  let main_v5 : FVec F S1x8192x8x64 .f32 := broadcastInDim S1x8192x8x64 ![] bcast_S_S1x8192x8x64 main_cst_0
  let main_v6 : IVec S1x8192x8x64 1 := cmpf .olt main_v4 main_v5
  let main_c_1 : IVec S_ 1 := constantI S_ 1 1#1
  let main_v7 : IVec S_ 1 := (fun x v => Host.reduce IntOp.andi x v reducesTo_S1x8192x8x64_S_d0_1_2_3 h_S_) main_v6 main_c_1
  let main_v8 : IVec S_ 1 := andi main_v3 main_v7
  let main_v9 : FVec F S1x8192x8x64 .f32 := Host.absf main_arg2
  let main_cst_2 : FVec F S_ .f32 := constant S_ .f32 0x7F800000#32
  let main_v10 : FVec F S1x8192x8x64 .f32 := broadcastInDim S1x8192x8x64 ![] bcast_S_S1x8192x8x64 main_cst_2
  let main_v11 : IVec S1x8192x8x64 1 := cmpf .olt main_v9 main_v10
  let main_c_3 : IVec S_ 1 := constantI S_ 1 1#1
  let main_v12 : IVec S_ 1 := (fun x v => Host.reduce IntOp.andi x v reducesTo_S1x8192x8x64_S_d0_1_2_3 h_S_) main_v11 main_c_3
  let main_v13 : IVec S_ 1 := andi main_v8 main_v12
  let main_v14 : FVec F S1x8192x8x64 .f32 := Host.absf main_arg3
  let main_cst_4 : FVec F S_ .f32 := constant S_ .f32 0x7F800000#32
  let main_v15 : FVec F S1x8192x8x64 .f32 := broadcastInDim S1x8192x8x64 ![] bcast_S_S1x8192x8x64 main_cst_4
  let main_v16 : IVec S1x8192x8x64 1 := cmpf .olt main_v14 main_v15
  fn_part1 (F := F) main_arg4 main_v13 main_v16
-- ==== Pre_finite_attp.lean ====
abbrev S1x8192x8x64 : Shape := ⟨4, ![1, 8192, 8, 64]⟩
abbrev S1x8192x8 : Shape := ⟨3, ![1, 8192, 8]⟩
abbrev S_ : Shape := ⟨0, ![]⟩

class Facts : Prop where
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_
  h_S_ : 0 < S_.numel
  bcast_S_S1x8192x8 : S_.BroadcastsInDim S1x8192x8 (![] : Fin 0 → Fin S1x8192x8.rank)
  reducesTo_S1x8192x8_S_d0_1_2 : S1x8192x8.ReducesTo [0, 1, 2] S_

variable [Facts]

def fn_part1 {F : FTy → Type} [FloatOps F] (main_arg4 : FVec F S1x8192x8 .f32) (main_arg5 : FVec F S1x8192x8x64 .f32) (main_arg6 : FVec F S1x8192x8x64 .f32) (main_v13 : IVec S_ 1) (main_v16 : IVec S1x8192x8x64 1) : IVec S_ 1 :=
  let main_c_5 : IVec S_ 1 := constantI S_ 1 1#1
  let main_v17 : IVec S_ 1 := (fun x v => Host.reduce IntOp.andi x v reducesTo_S1x8192x8x64_S_d0_1_2_3 h_S_) main_v16 main_c_5
  let main_v18 : IVec S_ 1 := andi main_v13 main_v17
  let main_v19 : FVec F S1x8192x8 .f32 := Host.absf main_arg4
  let main_cst_6 : FVec F S_ .f32 := constant S_ .f32 0x7F800000#32
  let main_v20 : FVec F S1x8192x8 .f32 := broadcastInDim S1x8192x8 ![] bcast_S_S1x8192x8 main_cst_6
  let main_v21 : IVec S1x8192x8 1 := cmpf .olt main_v19 main_v20
  let main_c_7 : IVec S_ 1 := constantI S_ 1 1#1
  let main_v22 : IVec S_ 1 := (fun x v => Host.reduce IntOp.andi x v reducesTo_S1x8192x8_S_d0_1_2 h_S_) main_v21 main_c_7
  let main_v23 : IVec S_ 1 := andi main_v18 main_v22
  let main_v24 : FVec F S1x8192x8x64 .f32 := Host.absf main_arg5
  let main_cst_8 : FVec F S_ .f32 := constant S_ .f32 0x7F800000#32
  let main_v25 : FVec F S1x8192x8x64 .f32 := broadcastInDim S1x8192x8x64 ![] bcast_S_S1x8192x8x64 main_cst_8
  let main_v26 : IVec S1x8192x8x64 1 := cmpf .olt main_v24 main_v25
  let main_c_9 : IVec S_ 1 := constantI S_ 1 1#1
  let main_v27 : IVec S_ 1 := (fun x v => Host.reduce IntOp.andi x v reducesTo_S1x8192x8x64_S_d0_1_2_3 h_S_) main_v26 main_c_9
  let main_v28 : IVec S_ 1 := andi main_v23 main_v27
  let main_v29 : FVec F S1x8192x8x64 .f32 := Host.absf main_arg6
  let main_cst_10 : FVec F S_ .f32 := constant S_ .f32 0x7F800000#32
  let main_v30 : FVec F S1x8192x8x64 .f32 := broadcastInDim S1x8192x8x64 ![] bcast_S_S1x8192x8x64 main_cst_10
  let main_v31 : IVec S1x8192x8x64 1 := cmpf .olt main_v29 main_v30
  let main_c_11 : IVec S_ 1 := constantI S_ 1 1#1
  let main_v32 : IVec S_ 1 := (fun x v => Host.reduce IntOp.andi x v reducesTo_S1x8192x8x64_S_d0_1_2_3 h_S_) main_v31 main_c_11
  let main_v33 : IVec S_ 1 := andi main_v28 main_v32
  main_v33

def fn {F : FTy → Type} [FloatOps F] (main_arg0 : FVec F S1x8192x8x64 .f32) (main_arg1 : FVec F S1x8192x8x64 .f32) (main_arg2 : FVec F S1x8192x8x64 .f32) (main_arg3 : FVec F S1x8192x8x64 .f32) (main_arg4 : FVec F S1x8192x8 .f32) (main_arg5 : FVec F S1x8192x8x64 .f32) (main_arg6 : FVec F S1x8192x8x64 .f32) : IVec S_ 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_c : IVec S_ 1 := constantI S_ 1 1#1
  let main_v3 : IVec S_ 1 := (fun x v => Host.reduce IntOp.andi x v reducesTo_S1x8192x8x64_S_d0_1_2_3 h_S_) main_v2 main_c
  let main_v4 : FVec F S1x8192x8x64 .f32 := Host.absf main_arg1
  let main_cst_0 : FVec F S_ .f32 := constant S_ .f32 0x7F800000#32
  let main_v5 : FVec F S1x8192x8x64 .f32 := broadcastInDim S1x8192x8x64 ![] bcast_S_S1x8192x8x64 main_cst_0
  let main_v6 : IVec S1x8192x8x64 1 := cmpf .olt main_v4 main_v5
  let main_c_1 : IVec S_ 1 := constantI S_ 1 1#1
  let main_v7 : IVec S_ 1 := (fun x v => Host.reduce IntOp.andi x v reducesTo_S1x8192x8x64_S_d0_1_2_3 h_S_) main_v6 main_c_1
  let main_v8 : IVec S_ 1 := andi main_v3 main_v7
  let main_v9 : FVec F S1x8192x8x64 .f32 := Host.absf main_arg2
  let main_cst_2 : FVec F S_ .f32 := constant S_ .f32 0x7F800000#32
  let main_v10 : FVec F S1x8192x8x64 .f32 := broadcastInDim S1x8192x8x64 ![] bcast_S_S1x8192x8x64 main_cst_2
  let main_v11 : IVec S1x8192x8x64 1 := cmpf .olt main_v9 main_v10
  let main_c_3 : IVec S_ 1 := constantI S_ 1 1#1
  let main_v12 : IVec S_ 1 := (fun x v => Host.reduce IntOp.andi x v reducesTo_S1x8192x8x64_S_d0_1_2_3 h_S_) main_v11 main_c_3
  let main_v13 : IVec S_ 1 := andi main_v8 main_v12
  let main_v14 : FVec F S1x8192x8x64 .f32 := Host.absf main_arg3
  let main_cst_4 : FVec F S_ .f32 := constant S_ .f32 0x7F800000#32
  let main_v15 : FVec F S1x8192x8x64 .f32 := broadcastInDim S1x8192x8x64 ![] bcast_S_S1x8192x8x64 main_cst_4
  let main_v16 : IVec S1x8192x8x64 1 := cmpf .olt main_v14 main_v15
  fn_part1 (F := F) main_arg4 main_arg5 main_arg6 main_v13 main_v16
-- ==== Pre_finite_ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1024 .f32) (main_arg5 : FVec F S1024x5632 .f32) (main_arg6 : FVec F S2816x1024 .f32) (main_arg7 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024x5632 .f32) (main_arg6 : FVec F S2816x1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Pre_finite_ffw.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024 .f32) (main_arg5 : FVec F S1024x5632 .f32) (main_arg6 : FVec F S2816x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024x5632 .f32) (main_arg6 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Loss.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S7x1024, .f32⟩
  | .hbm, ⟨6, _⟩ => ⟨S8x1024, .f32⟩
  | .hbm, ⟨7, _⟩ => ⟨S8192x1024, .f32⟩
  | .hbm, ⟨8, _⟩ => ⟨S8x1024, .f32⟩
  | .hbm, ⟨9, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_16 : BitVec 32 := 0#32
  let v47 : BitVec 1 := Scalar.cmpi .ne v46 c0_i32_16
  v47

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v48 : BitVec 1 := Scalar.xori v0 v_true
  let v49 : BitVec 32 := Scalar.extui v48
  let c0_i32_17 : BitVec 32 := 0#32
  let v50 : BitVec 1 := Scalar.cmpi .ne v49 c0_i32_17
  v50

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v62 : BitVec 32 := Scalar.extui v0
  let c0_i32_22 : BitVec 32 := 0#32
  let v63 : BitVec 1 := Scalar.cmpi .ne v62 c0_i32_22
  v63

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_23 : BitVec 1 := 1#1
  let v64 : BitVec 1 := Scalar.xori v0 true_23
  let v65 : BitVec 32 := Scalar.extui v64
  let c0_i32_24 : BitVec 32 := 0#32
  let v66 : BitVec 1 := Scalar.cmpi .ne v65 c0_i32_24
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S_, .f32⟩
  | .hbm, ⟨73, _⟩ => ⟨S7x1024, .f32⟩
  | .hbm, ⟨74, _⟩ => ⟨S8x1024, .f32⟩
  | .hbm, ⟨75, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Attn.lean ====
abbrev S1x8192x8x64 : Shape := ⟨4, ![1, 8192, 8, 64]⟩
abbrev S1x8192x8 : Shape := ⟨3, ![1, 8192, 8]⟩
abbrev S_ : Shape := ⟨0, ![]⟩
abbrev S1x4x8x1x128x64 : Shape := ⟨6, ![1, 4, 8, 1, 128, 64]⟩
abbrev S1x2048x4x8x64 : Shape := ⟨5, ![1, 2048, 4, 8, 64]⟩
abbrev S1x4x8x2048x64 : Shape := ⟨5, ![1, 4, 8, 2048, 64]⟩
abbrev S1x4x8x16x128x64 : Shape := ⟨6, ![1, 4, 8, 16, 128, 64]⟩
abbrev S1x4x8x15x128x64 : Shape := ⟨6, ![1, 4, 8, 15, 128, 64]⟩
abbrev S1x4x8x16x256x64 : Shape := ⟨6, ![1, 4, 8, 16, 256, 64]⟩
abbrev S1x4x8x16x128x256 : Shape := ⟨6, ![1, 4, 8, 16, 128, 256]⟩
abbrev S16x128x256 : Shape := ⟨3, ![16, 128, 256]⟩
abbrev S1x4x8x16x128 : Shape := ⟨5, ![1, 4, 8, 16, 128]⟩
abbrev S1x4x8x16x128x1 : Shape := ⟨6, ![1, 4, 8, 16, 128, 1]⟩
abbrev S1x4x8x2048 : Shape := ⟨4, ![1, 4, 8, 2048]⟩
abbrev S1x2048x4x8 : Shape := ⟨4, ![1, 2048, 4, 8]⟩
abbrev S8192x512 : Shape := ⟨2, ![8192, 512]⟩
abbrev S2048x4x512 : Shape := ⟨3, ![2048, 4, 512]⟩
abbrev S4x2048x512 : Shape := ⟨3, ![4, 2048, 512]⟩
abbrev S8192x8 : Shape := ⟨2, ![8192, 8]⟩
abbrev S8192x8x16 : Shape := ⟨3, ![8192, 8, 16]⟩
abbrev S8192x128 : Shape := ⟨2, ![8192, 128]⟩
abbrev S2048x4x128 : Shape := ⟨3, ![2048, 4, 128]⟩
abbrev S4x2048x128 : Shape := ⟨3, ![4, 2048, 128]⟩
abbrev S1x512x512 : Shape := ⟨3, ![1, 512, 512]⟩
abbrev S1x128x512 : Shape := ⟨3, ![1, 128, 512]⟩
abbrev S1x512x128 : Shape := ⟨3, ![1, 512, 128]⟩
abbrev S128x512 : Shape := ⟨2, ![128, 512]⟩
abbrev S128x256 : Shape := ⟨2, ![128, 256]⟩
abbrev S1x128 : Shape := ⟨2, ![1, 128]⟩
abbrev S1x128x128 : Shape := ⟨3, ![1, 128, 128]⟩
abbrev S128x128 : Shape := ⟨2, ![128, 128]⟩
abbrev S512x128 : Shape := ⟨2, ![512, 128]⟩
abbrev S640x128 : Shape := ⟨2, ![640, 128]⟩
abbrev S256x128 : Shape := ⟨2, ![256, 128]⟩
abbrev S1x128x1 : Shape := ⟨3, ![1, 128, 1]⟩
abbrev S128x1 : Shape := ⟨2, ![128, 1]⟩

abbrev nBuf : Space → Nat
  | .hbm => 109
  | .vmem => 24
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8x64, .f32⟩
  | .hbm, ⟨4, _⟩ => ⟨S1x8192x8, .f32⟩
  | .hbm, ⟨5, _⟩ => ⟨S_, .f32⟩
  | .hbm, ⟨6, _⟩ => ⟨S1x4x8x1x128x64, .f32⟩
  | .hbm, ⟨7, _⟩ => ⟨S1x2048x4x8x64, .f32⟩
  | .hbm, ⟨8, _⟩ => ⟨S1x4x8x2048x64, .f32⟩
  | .hbm, ⟨9, _⟩ => ⟨S1x4x8x16x128x64, .f32⟩
  | .hbm, ⟨10, _⟩ => ⟨S1x2048x4x8x64, .f32⟩
  | .hbm, ⟨11, _⟩ => ⟨S1x4x8x2048x64, .f32⟩
  | .hbm, ⟨12, _⟩ => ⟨S1x4x8x16x128x64, .f32⟩
  | .hbm, ⟨13, _⟩ => ⟨S1x4x8x15x128x64, .f32⟩
  | .hbm, ⟨14, _⟩ => ⟨S1x4x8x16x128x64, .f32⟩
  | .hbm, ⟨15, _⟩ => ⟨S1x4x8x16x256x64, .f32⟩
  | .hbm, ⟨16, _⟩ => ⟨S1x2048x4x8x64, .f32⟩
  | .hbm, ⟨17, _⟩ => ⟨S1x4x8x2048x64, .f32⟩
  | .hbm, ⟨18, _⟩ => ⟨S1x4x8x16x128x64, .f32⟩
  | .hbm, ⟨19, _⟩ => ⟨S1x4x8x15x128x64, .f32⟩
  | .hbm, ⟨20, _⟩ => ⟨S1x4x8x16x128x64, .f32⟩
  | .hbm, ⟨21, _⟩ => ⟨S1x4x8x16x256x64, .f32⟩
  | .hbm, ⟨22, _⟩ => ⟨S1x4x8x16x128x256, .f32⟩
  | .hbm, ⟨23, _⟩ => ⟨S_, .f32⟩
  | .hbm, ⟨24, _⟩ => ⟨S1x4x8x16x128x256, .f32⟩
  | .hbm, ⟨25, _⟩ => ⟨S1x4x8x16x128x256, .f32⟩
  | .hbm, ⟨26, _⟩ => ⟨S16x128x256, .i32⟩
  | .hbm, ⟨27, _⟩ => ⟨S16x128x256, .i32⟩
  | .hbm, ⟨28, _⟩ => ⟨S16x128x256, .i32⟩
  | .hbm, ⟨29, _⟩ => ⟨S_, .i32⟩
  | .hbm, ⟨30, _⟩ => ⟨S16x128x256, .i32⟩
  | .hbm, ⟨31, _⟩ => ⟨S16x128x256, .i32⟩
  | .hbm, ⟨32, _⟩ => ⟨S16x128x256, .i32⟩
  | .hbm, ⟨33, _⟩ => ⟨S_, .i32⟩
  | .hbm, ⟨34, _⟩ => ⟨S16x128x256, .i32⟩
  | .hbm, ⟨35, _⟩ => ⟨S16x128x256, .i1⟩
  | .hbm, ⟨36, _⟩ => ⟨S_, .i32⟩
  | .hbm, ⟨37, _⟩ => ⟨S16x128x256, .i32⟩
  | .hbm, ⟨38, _⟩ => ⟨S16x128x256, .i1⟩
  | .hbm, ⟨39, _⟩ => ⟨S16x128x256, .i1⟩
  | .hbm, ⟨40, _⟩ => ⟨S_, .i32⟩
  | .hbm, ⟨41, _⟩ => ⟨S16x128x256, .i32⟩
  | .hbm, ⟨42, _⟩ => ⟨S16x128x256, .i32⟩
  | .hbm, ⟨43, _⟩ => ⟨S_, .i32⟩
  | .hbm, ⟨44, _⟩ => ⟨S16x128x256, .i32⟩
  | .hbm, ⟨45, _⟩ => ⟨S16x128x256, .i32⟩
  | .hbm, ⟨46, _⟩ => ⟨S16x128x256, .i32⟩
  | .hbm, ⟨47, _⟩ => ⟨S_, .i32⟩
  | .hbm, ⟨48, _⟩ => ⟨S16x128x256, .i32⟩
  | .hbm, ⟨49, _⟩ => ⟨S16x128x256, .i1⟩
  | .hbm, ⟨50, _⟩ => ⟨S16x128x256, .i1⟩
  | .hbm, ⟨51, _⟩ => ⟨S1x4x8x16x128x256, .i1⟩
  | .hbm, ⟨52, _⟩ => ⟨S_, .f32⟩
  | .hbm, ⟨53, _⟩ => ⟨S1x4x8x16x128x256, .f32⟩
  | .hbm, ⟨54, _⟩ => ⟨S1x4x8x16x128x256, .f32⟩
  | .hbm, ⟨55, _⟩ => ⟨S_, .f32⟩
  | .hbm, ⟨56, _⟩ => ⟨S1x4x8x16x128, .f32⟩
  | .hbm, ⟨57, _⟩ => ⟨S1x4x8x16x128x1, .f32⟩
  | .hbm, ⟨58, _⟩ => ⟨S1x4x8x16x128x256, .f32⟩
  | .hbm, ⟨59, _⟩ => ⟨S1x4x8x16x128x256, .f32⟩
  | .hbm, ⟨60, _⟩ => ⟨S1x4x8x16x128x256, .f32⟩
  | .hbm, ⟨61, _⟩ => ⟨S_, .f32⟩
  | .hbm, ⟨62, _⟩ => ⟨S1x4x8x16x128, .f32⟩
  | .hbm, ⟨63, _⟩ => ⟨S1x4x8x16x128x1, .f32⟩
  | .hbm, ⟨64, _⟩ => ⟨S1x4x8x16x128x256, .f32⟩
  | .hbm, ⟨65, _⟩ => ⟨S1x4x8x16x128x256, .f32⟩
  | .hbm, ⟨66, _⟩ => ⟨S1x4x8x16x128x64, .f32⟩
  | .hbm, ⟨67, _⟩ => ⟨S1x4x8x16x128x1, .f32⟩
  | .hbm, ⟨68, _⟩ => ⟨S1x4x8x16x128x1, .f32⟩
  | .hbm, ⟨69, _⟩ => ⟨S1x4x8x16x128, .f32⟩
  | .hbm, ⟨70, _⟩ => ⟨S1x4x8x2048x64, .f32⟩
  | .hbm, ⟨71, _⟩ => ⟨S1x2048x4x8x64, .f32⟩
  | .hbm, ⟨72, _⟩ => ⟨S1x8192x8x64, .f32⟩
  | .hbm, ⟨73, _⟩ => ⟨S1x4x8x2048, .f32⟩
  | .hbm, ⟨74, _⟩ => ⟨S1x2048x4x8, .f32⟩
  | .hbm, ⟨75, _⟩ => ⟨S1x8192x8, .f32⟩
  | .hbm, ⟨76, _⟩ => ⟨S1x8192x8x64, .f32⟩
  | .hbm, ⟨77, _⟩ => ⟨S_, .f32⟩
  | .hbm, ⟨78, _⟩ => ⟨S1x8192x8, .f32⟩
  | .hbm, ⟨79, _⟩ => ⟨S1x8192x8, .f32⟩
  | .hbm, ⟨80, _⟩ => ⟨S8192x512, .f32⟩
  | .hbm, ⟨81, _⟩ => ⟨S2048x4x512, .f32⟩
  | .hbm, ⟨82, _⟩ => ⟨S4x2048x512, .f32⟩
  | .hbm, ⟨83, _⟩ => ⟨S4x2048x512, .bf16⟩
  | .hbm, ⟨84, _⟩ => ⟨S8192x512, .f32⟩
  | .hbm, ⟨85, _⟩ => ⟨S2048x4x512, .f32⟩
  | .hbm, ⟨86, _⟩ => ⟨S4x2048x512, .f32⟩
  | .hbm, ⟨87, _⟩ => ⟨S4x2048x512, .bf16⟩
  | .hbm, ⟨88, _⟩ => ⟨S8192x512, .f32⟩
  | .hbm, ⟨89, _⟩ => ⟨S2048x4x512, .f32⟩
  | .hbm, ⟨90, _⟩ => ⟨S4x2048x512, .f32⟩
  | .hbm, ⟨91, _⟩ => ⟨S4x2048x512, .bf16⟩
  | .hbm, ⟨92, _⟩ => ⟨S8192x512, .f32⟩
  | .hbm, ⟨93, _⟩ => ⟨S2048x4x512, .f32⟩
  | .hbm, ⟨94, _⟩ => ⟨S4x2048x512, .f32⟩
  | .hbm, ⟨95, _⟩ => ⟨S4x2048x512, .bf16⟩
  | .hbm, ⟨96, _⟩ => ⟨S8192x8, .f32⟩
  | .hbm, ⟨97, _⟩ => ⟨S8192x8x16, .f32⟩
  | .hbm, ⟨98, _⟩ => ⟨S8192x128, .f32⟩
  | .hbm, ⟨99, _⟩ => ⟨S2048x4x128, .f32⟩
  | .hbm, ⟨100, _⟩ => ⟨S4x2048x128, .f32⟩
  | .hbm, ⟨101, _⟩ => ⟨S8192x8, .f32⟩
  | .hbm, ⟨102, _⟩ => ⟨S8192x8x16, .f32⟩
  | .hbm, ⟨103, _⟩ => ⟨S8192x128, .f32⟩
  | .hbm, ⟨104, _⟩ => ⟨S2048x4x128, .f32⟩
  | .hbm, ⟨105, _⟩ => ⟨S4x2048x128, .f32⟩
  | .hbm, ⟨106, _⟩ => ⟨S4x2048x512, .bf16⟩
  | .hbm, ⟨107, _⟩ => ⟨S4x2048x512, .bf16⟩
  | .hbm, ⟨108, _⟩ => ⟨S4x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S128x512, .f32⟩
  | .local _ .vmem, ⟨23, _⟩ => ⟨S128x512, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89_0 : Ref sig .tc := ⟨.hbm, 106, rfl⟩
abbrev main_v89_1 : Ref sig .tc := ⟨.hbm, 107, rfl⟩
abbrev main_v89_2 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S1x8192x8x64 : Shape := ⟨4, ![1, 8192, 8, 64]⟩
abbrev S1x8192x8 : Shape := ⟨3, ![1, 8192, 8]⟩
abbrev S_ : Shape := ⟨0, ![]⟩
abbrev S1x4x8x1x128x64 : Shape := ⟨6, ![1, 4, 8, 1, 128, 64]⟩
abbrev S1x2048x4x8x64 : Shape := ⟨5, ![1, 2048, 4, 8, 64]⟩
abbrev S1x4x8x2048x64 : Shape := ⟨5, ![1, 4, 8, 2048, 64]⟩
abbrev S1x4x8x16x128x64 : Shape := ⟨6, ![1, 4, 8, 16, 128, 64]⟩
abbrev S1x4x8x15x128x64 : Shape := ⟨6, ![1, 4, 8, 15, 128, 64]⟩
abbrev S1x4x8x16x256x64 : Shape := ⟨6, ![1, 4, 8, 16, 256, 64]⟩
abbrev S1x4x8x16x128x256 : Shape := ⟨6, ![1, 4, 8, 16, 128, 256]⟩
abbrev S16x128x256 : Shape := ⟨3, ![16, 128, 256]⟩
abbrev S1x4x8x16x128 : Shape := ⟨5, ![1, 4, 8, 16, 128]⟩
abbrev S1x4x8x16x128x1 : Shape := ⟨6, ![1, 4, 8, 16, 128, 1]⟩
abbrev S1x4x8x2048 : Shape := ⟨4, ![1, 4, 8, 2048]⟩
abbrev S1x2048x4x8 : Shape := ⟨4, ![1, 2048, 4, 8]⟩
abbrev S1x4x8x16x64x256 : Shape := ⟨6, ![1, 4, 8, 16, 64, 256]⟩
abbrev S4x8x16x128 : Shape := ⟨4, ![4, 8, 16, 128]⟩
abbrev S2048x4x512 : Shape := ⟨3, ![2048, 4, 512]⟩
abbrev S4x2048x512 : Shape := ⟨3, ![4, 2048, 512]⟩

abbrev nBuf : Space → Nat
  | .hbm => 171
  | .vmem => 0
  | .smem => 0
  | _ => 0

abbrev hbmTy0_0 (i : Nat) : BufTy := match i % 128 with
  | 0 => ⟨S1x8192x8x64, .f32⟩
  | 1 => ⟨S1x8192x8x64, .f32⟩
  | 2 => ⟨S1x8192x8x64, .f32⟩
  | 3 => ⟨S1x8192x8x64, .f32⟩
  | 4 => ⟨S1x8192x8, .f32⟩
  | 5 => ⟨S_, .f32⟩
  | 6 => ⟨S1x4x8x1x128x64, .f32⟩
  | 7 => ⟨S1x2048x4x8x64, .f32⟩
  | 8 => ⟨S1x4x8x2048x64, .f32⟩
  | 9 => ⟨S1x4x8x16x128x64, .f32⟩
  | 10 => ⟨S1x2048x4x8x64, .f32⟩
  | 11 => ⟨S1x4x8x2048x64, .f32⟩
  | 12 => ⟨S1x4x8x16x128x64, .f32⟩
  | 13 => ⟨S1x4x8x15x128x64, .f32⟩
  | 14 => ⟨S1x4x8x16x128x64, .f32⟩
  | 15 => ⟨S_, .f32⟩
  | 16 => ⟨S1x4x8x1x128x64, .f32⟩
  | 17 => ⟨S1x4x8x16x256x64, .f32⟩
  | 18 => ⟨S1x2048x4x8x64, .f32⟩
  | 19 => ⟨S1x4x8x2048x64, .f32⟩
  | 20 => ⟨S1x4x8x16x128x64, .f32⟩
  | 21 => ⟨S1x4x8x15x128x64, .f32⟩
  | 22 => ⟨S1x4x8x16x128x64, .f32⟩
  | 23 => ⟨S_, .f32⟩
  | 24 => ⟨S1x4x8x1x128x64, .f32⟩
  | 25 => ⟨S1x4x8x16x256x64, .f32⟩
  | 26 => ⟨S1x4x8x16x128x256, .f32⟩
  | 27 => ⟨S_, .f32⟩
  | 28 => ⟨S1x4x8x16x128x256, .f32⟩
  | 29 => ⟨S1x4x8x16x128x256, .f32⟩
  | 30 => ⟨S16x128x256, .i32⟩
  | 31 => ⟨S16x128x256, .i32⟩
  | 32 => ⟨S16x128x256, .i32⟩
  | 33 => ⟨S_, .i32⟩
  | 34 => ⟨S16x128x256, .i32⟩
  | 35 => ⟨S16x128x256, .i32⟩
  | 36 => ⟨S16x128x256, .i32⟩
  | 37 => ⟨S_, .i32⟩
  | 38 => ⟨S16x128x256, .i32⟩
  | 39 => ⟨S16x128x256, .i1⟩
  | 40 => ⟨S_, .i32⟩
  | 41 => ⟨S16x128x256, .i32⟩
  | 42 => ⟨S16x128x256, .i1⟩
  | 43 => ⟨S16x128x256, .i1⟩
  | 44 => ⟨S_, .i32⟩
  | 45 => ⟨S16x128x256, .i32⟩
  | 46 => ⟨S16x128x256, .i32⟩
  | 47 => ⟨S_, .i32⟩
  | 48 => ⟨S16x128x256, .i32⟩
  | 49 => ⟨S16x128x256, .i32⟩
  | 50 => ⟨S16x128x256, .i32⟩
  | 51 => ⟨S_, .i32⟩
  | 52 => ⟨S16x128x256, .i32⟩
  | 53 => ⟨S16x128x256, .i1⟩
  | 54 => ⟨S16x128x256, .i1⟩
  | 55 => ⟨S1x4x8x16x128x256, .i1⟩
  | 56 => ⟨S_, .f32⟩
  | 57 => ⟨S1x4x8x16x128x256, .f32⟩
  | 58 => ⟨S1x4x8x16x128x256, .f32⟩
  | 59 => ⟨S_, .f32⟩
  | 60 => ⟨S1x4x8x16x128x256, .f32⟩
  | 61 => ⟨S_, .f32⟩
  | 62 => ⟨S1x4x8x16x128, .f32⟩
  | 63 => ⟨S1x4x8x16x128x1, .f32⟩
  | 64 => ⟨S1x4x8x16x128x256, .f32⟩
  | 65 => ⟨S1x4x8x16x128x256, .i1⟩
  | 66 => ⟨S1x4x8x16x128x256, .f32⟩
  | 67 => ⟨S_, .f32⟩
  | 68 => ⟨S1x4x8x16x128, .f32⟩
  | 69 => ⟨S1x4x8x16x128x1, .f32⟩
  | 70 => ⟨S1x4x8x16x128x256, .f32⟩
  | 71 => ⟨S1x4x8x16x128x256, .f32⟩
  | 72 => ⟨S1x4x8x16x128x256, .f32⟩
  | 73 => ⟨S_, .f32⟩
  | 74 => ⟨S1x4x8x16x128, .f32⟩
  | 75 => ⟨S1x4x8x16x128x1, .f32⟩
  | 76 => ⟨S1x4x8x16x128x256, .f32⟩
  | 77 => ⟨S1x4x8x16x128x256, .f32⟩
  | 78 => ⟨S1x4x8x16x128x1, .f32⟩
  | 79 => ⟨S_, .f32⟩
  | 80 => ⟨S1x4x8x16x128x1, .f32⟩
  | 81 => ⟨S1x4x8x16x128x1, .f32⟩
  | 82 => ⟨S1x4x8x16x128x64, .f32⟩
  | 83 => ⟨S1x4x8x16x128x1, .f32⟩
  | 84 => ⟨S1x4x8x16x128x1, .f32⟩
  | 85 => ⟨S1x4x8x16x128, .f32⟩
  | 86 => ⟨S1x4x8x2048x64, .f32⟩
  | 87 => ⟨S1x2048x4x8x64, .f32⟩
  | 88 => ⟨S1x8192x8x64, .f32⟩
  | 89 => ⟨S1x4x8x2048, .f32⟩
  | 90 => ⟨S1x2048x4x8, .f32⟩
  | 91 => ⟨S1x8192x8, .f32⟩
  | 92 => ⟨S1x2048x4x8, .f32⟩
  | 93 => ⟨S1x4x8x2048, .f32⟩
  | 94 => ⟨S1x4x8x16x128, .f32⟩
  | 95 => ⟨S1x2048x4x8x64, .f32⟩
  | 96 => ⟨S1x4x8x2048x64, .f32⟩
  | 97 => ⟨S1x4x8x16x128x64, .f32⟩
  | 98 => ⟨S1x4x8x16x128x1, .f32⟩
  | 99 => ⟨S1x4x8x16x128x1, .f32⟩
  | 100 => ⟨S1x4x8x16x64x256, .f32⟩
  | 101 => ⟨S1x4x8x16x256x64, .f32⟩
  | 102 => ⟨S1x4x8x16x128x256, .f32⟩
  | 103 => ⟨S1x4x8x16x128x256, .f32⟩
  | 104 => ⟨S1x4x8x16x128x256, .f32⟩
  | 105 => ⟨S1x4x8x16x128x256, .f32⟩
  | 106 => ⟨S_, .f32⟩
  | 107 => ⟨S1x4x8x16x128, .f32⟩
  | 108 => ⟨S1x4x8x16x128x1, .f32⟩
  | 109 => ⟨S1x4x8x16x128x1, .f32⟩
  | 110 => ⟨S1x4x8x16x128x1, .f32⟩
  | 111 => ⟨S1x4x8x16x128x256, .f32⟩
  | 112 => ⟨S1x4x8x16x128x256, .f32⟩
  | 113 => ⟨S_, .f32⟩
  | 114 => ⟨S4x8x16x128, .f32⟩
  | 115 => ⟨S1x4x8x16x128, .f32⟩
  | 116 => ⟨S1x4x8x16x128x256, .f32⟩
  | 117 => ⟨S1x4x8x16x128x256, .f32⟩
  | 118 => ⟨S1x4x8x16x128x256, .f32⟩
  | 119 => ⟨S1x4x8x16x128x256, .f32⟩
  | 120 => ⟨S_, .f32⟩
  | 121 => ⟨S1x4x8x16x128, .f32⟩
  | 122 => ⟨S1x4x8x16x128x1, .f32⟩
  | 123 => ⟨S1x4x8x16x128x1, .f32⟩
  | 124 => ⟨S_, .f32⟩
  | 125 => ⟨S4x8x16x128, .f32⟩
  | 126 => ⟨S1x4x8x16x128, .f32⟩
  | 127 => ⟨S1x4x8x16x128, .f32⟩
  | _ => ⟨S1x8192x8x64, .f32⟩

abbrev hbmTy0_1 (i : Nat) : BufTy := match i % 128 with
  | 0 => ⟨S1x4x8x16x128x256, .f32⟩
  | 1 => ⟨S1x4x8x16x128x256, .f32⟩
  | 2 => ⟨S1x4x8x16x128x256, .f32⟩
  | 3 => ⟨S_, .f32⟩
  | 4 => ⟨S1x4x8x16x128x256, .f32⟩
  | 5 => ⟨S1x4x8x16x128x256, .f32⟩
  | 6 => ⟨S_, .f32⟩
  | 7 => ⟨S1x4x8x16x128x256, .f32⟩
  | 8 => ⟨S1x4x8x16x128x256, .f32⟩
  | 9 => ⟨S1x4x8x16x256x64, .f32⟩
  | 10 => ⟨S1x4x8x16x128x64, .f32⟩
  | 11 => ⟨S1x4x8x16x128x64, .f32⟩
  | 12 => ⟨S1x4x8x16x128x64, .f32⟩
  | 13 => ⟨S1x4x8x1x128x64, .f32⟩
  | 14 => ⟨S1x4x8x15x128x64, .f32⟩
  | 15 => ⟨S_, .f32⟩
  | 16 => ⟨S1x4x8x16x128x64, .f32⟩
  | 17 => ⟨S1x4x8x16x128x64, .f32⟩
  | 18 => ⟨S1x4x8x2048x64, .f32⟩
  | 19 => ⟨S1x2048x4x8x64, .f32⟩
  | 20 => ⟨S1x8192x8x64, .f32⟩
  | 21 => ⟨S1x4x8x16x128x64, .f32⟩
  | 22 => ⟨S1x4x8x16x128x64, .f32⟩
  | 23 => ⟨S1x4x8x1x128x64, .f32⟩
  | 24 => ⟨S1x4x8x15x128x64, .f32⟩
  | 25 => ⟨S_, .f32⟩
  | 26 => ⟨S1x4x8x16x128x64, .f32⟩
  | 27 => ⟨S1x4x8x16x128x64, .f32⟩
  | 28 => ⟨S1x4x8x2048x64, .f32⟩
  | 29 => ⟨S1x2048x4x8x64, .f32⟩
  | 30 => ⟨S1x8192x8x64, .f32⟩
  | 31 => ⟨S1x4x8x2048x64, .f32⟩
  | 32 => ⟨S1x2048x4x8x64, .f32⟩
  | 33 => ⟨S1x8192x8x64, .f32⟩
  | 34 => ⟨S2048x4x512, .f32⟩
  | 35 => ⟨S4x2048x512, .f32⟩
  | 36 => ⟨S4x2048x512, .bf16⟩
  | 37 => ⟨S2048x4x512, .f32⟩
  | 38 => ⟨S4x2048x512, .f32⟩
  | 39 => ⟨S4x2048x512, .bf16⟩
  | 40 => ⟨S2048x4x512, .f32⟩
  | 41 => ⟨S4x2048x512, .f32⟩
  | 42 => ⟨S4x2048x512, .bf16⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_15 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_16 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_17 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_18 : Ref sig .tc := ⟨.hbm, 131, rfl⟩
abbrev main_v106 : Ref sig .tc := ⟨.hbm, 132, rfl⟩
abbrev main_v107 : Ref sig .tc := ⟨.hbm, 133, rfl⟩
abbrev main_cst_19 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_20 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_21 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩

abbrev nD : Nat := 1
abbrev τ : Topo := Topo.v7x

variable {F : FTy → Type} [FloatOps F]
-- ==== Conv.lean ====
abbrev S8192x1024 : Shape := ⟨2, ![8192, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S5x1024 : Shape := ⟨2, ![5, 1024]⟩
abbrev S8192 : Shape := ⟨1, ![8192]⟩
abbrev S8192x1 : Shape := ⟨2, ![8192, 1]⟩
abbrev S8192x3072 : Shape := ⟨2, ![8192, 3072]⟩
abbrev S2x1024 : Shape := ⟨2, ![2, 1024]⟩
abbrev S8194x1024 : Shape := ⟨2, ![8194, 1024]⟩
abbrev S512x1024 : Shape := ⟨2, ![512, 1024]⟩
abbrev S512x3072 : Shape := ⟨2, ![512, 3072]⟩
abbrev S520x1024 : Shape := ⟨2, ![520, 1024]⟩
abbrev S512 : Shape := ⟨1, ![512]⟩
abbrev S512x1 : Shape := ⟨2, ![512, 1]⟩

abbrev nBuf : Space → Nat
  | .hbm => 92
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3072, .f32⟩
  | .hbm, ⟨6, _⟩ => ⟨S3x1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S4x1024, .f32⟩
  | .hbm, ⟨15, _⟩ => ⟨S8x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S5x1024, .f32⟩
  | .hbm, ⟨27, _⟩ => ⟨S8x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x3072, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S2x1024, .f32⟩
  | .hbm, ⟨60, _⟩ => ⟨S8194x1024, .f32⟩
  | .hbm, ⟨61, _⟩ => ⟨S1x1024, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S1x1024, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .bf16⟩
  | .hbm, ⟨83, _⟩ => ⟨S8192x3072, .bf16⟩
  | .hbm, ⟨84, _⟩ => ⟨S8192x1024, .bf16⟩
  | .hbm, ⟨85, _⟩ => ⟨S1024x3072, .bf16⟩
  | .hbm, ⟨86, _⟩ => ⟨S1024x1024, .bf16⟩
  | .hbm, ⟨87, _⟩ => ⟨S8192x1024, .f32⟩
  | .hbm, ⟨88, _⟩ => ⟨S8192x1024, .bf16⟩
  | .hbm, ⟨89, _⟩ => ⟨S8192x3072, .bf16⟩
  | .hbm, ⟨90, _⟩ => ⟨S8x1024, .f32⟩
  | .hbm, ⟨91, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | .local _ .vmem, ⟨11, _⟩ => ⟨S8x1024, .f32⟩
  | .local _ .vmem, ⟨12, _⟩ => ⟨S1024x3072, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x3072, .bf16⟩
  | .local _ .vmem, ⟨19, _⟩ => ⟨S512x3072, .bf16⟩
  | .local _ .vmem, ⟨20, _⟩ => ⟨S8x1024, .f32⟩
  | .local _ .vmem, ⟨21, _⟩ => ⟨S8x1024, .f32⟩
  | .local _ .vmem, ⟨22, _⟩ => ⟨S520x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71_0 : Ref sig .tc := ⟨.hbm, 87, rfl⟩
abbrev main_v71_1 : Ref sig .tc := ⟨.hbm, 88, rfl⟩
abbrev main_v71_2 : Ref sig .tc := ⟨.hbm, 89, rfl⟩
abbrev main_v71_3 : Ref sig .tc := ⟨.hbm, 90, rfl⟩
abbrev main_v71_4 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v124 : BitVec 32 := Scalar.extui v0
  let c0_i32_54 : BitVec 32 := 0#32
  let v125 : BitVec 1 := Scalar.cmpi .ne v124 c0_i32_54
  v125

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v126 : BitVec 1 := Scalar.xori v0 v_true
  let v127 : BitVec 32 := Scalar.extui v126
  let c0_i32_55 : BitVec 32 := 0#32
  let v128 : BitVec 1 := Scalar.cmpi .ne v127 c0_i32_55
  v128

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v129 : BitVec 32 := Scalar.extui v0
  let c0_i32_56 : BitVec 32 := 0#32
  let v130 : BitVec 1 := Scalar.cmpi .ne v129 c0_i32_56
  v130

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_57 : BitVec 1 := 1#1
  let v131 : BitVec 1 := Scalar.xori v0 true_57
  let v132 : BitVec 32 := Scalar.extui v131
  let c0_i32_58 : BitVec 32 := 0#32
  let v133 : BitVec 1 := Scalar.cmpi .ne v132 c0_i32_58
  v133

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvRefIdeal.lean ====
abbrev S8192x1024 : Shape := ⟨2, ![8192, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S2x1024 : Shape := ⟨2, ![2, 1024]⟩
abbrev S8194x1024 : Shape := ⟨2, ![8194, 1024]⟩
abbrev S4x1024 : Shape := ⟨2, ![4, 1024]⟩
abbrev S8x1024 : Shape := ⟨2, ![8, 1024]⟩
abbrev S5x1024 : Shape := ⟨2, ![5, 1024]⟩

abbrev nBuf : Space → Nat
  | .hbm => 186
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024x3072, .f32⟩
  | 6 => ⟨S3x1024, .f32⟩
  | 7 => ⟨S1024x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S1x1024, .f32⟩
  | 30 => ⟨S_, .f32⟩
  | 31 => ⟨S1x1024, .f32⟩
  | 32 => ⟨S1x1024, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S8192x3072, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S2x1024, .f32⟩
  | 45 => ⟨S8194x1024, .f32⟩
  | 46 => ⟨S_, .f32⟩
  | 47 => ⟨S2x1024, .f32⟩
  | 48 => ⟨S1x1024, .f32⟩
  | 49 => ⟨S1024, .f32⟩
  | 50 => ⟨S1x1024, .f32⟩
  | 51 => ⟨S8192x1024, .f32⟩
  | 52 => ⟨S8192x1024, .f32⟩
  | 53 => ⟨S8192x1024, .f32⟩
  | 54 => ⟨S1x1024, .f32⟩
  | 55 => ⟨S1024, .f32⟩
  | 56 => ⟨S1x1024, .f32⟩
  | 57 => ⟨S8192x1024, .f32⟩
  | 58 => ⟨S8192x1024, .f32⟩
  | 59 => ⟨S8192x1024, .f32⟩
  | 60 => ⟨S8192x1024, .f32⟩
  | 61 => ⟨S1x1024, .f32⟩
  | 62 => ⟨S1024, .f32⟩
  | 63 => ⟨S1x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S1024, .f32⟩
  | 71 => ⟨S1024, .f32⟩
  | 72 => ⟨S1x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S_, .f32⟩
  | 81 => ⟨S1024, .f32⟩
  | 82 => ⟨S1x1024, .f32⟩
  | 83 => ⟨S_, .f32⟩
  | 84 => ⟨S1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S_, .f32⟩
  | 92 => ⟨S1024, .f32⟩
  | 93 => ⟨S1x1024, .f32⟩
  | 94 => ⟨S_, .f32⟩
  | 95 => ⟨S1024, .f32⟩
  | 96 => ⟨S1x1024, .f32⟩
  | 97 => ⟨S_, .f32⟩
  | 98 => ⟨S3x1024, .f32⟩
  | 99 => ⟨S8192x1024, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S_, .f32⟩
  | 106 => ⟨S8194x1024, .f32⟩
  | 107 => ⟨S_, .f32⟩
  | 108 => ⟨S1024, .f32⟩
  | 109 => ⟨S1x1024, .f32⟩
  | 110 => ⟨S_, .f32⟩
  | 111 => ⟨S3x1024, .f32⟩
  | 112 => ⟨S3x1024, .f32⟩
  | 113 => ⟨S8192x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S_, .f32⟩
  | 120 => ⟨S8194x1024, .f32⟩
  | 121 => ⟨S8194x1024, .f32⟩
  | 122 => ⟨S_, .f32⟩
  | 123 => ⟨S1024, .f32⟩
  | 124 => ⟨S1x1024, .f32⟩
  | 125 => ⟨S_, .f32⟩
  | 126 => ⟨S3x1024, .f32⟩
  | 127 => ⟨S3x1024, .f32⟩
  | _ => ⟨S8192x1024, .f32⟩

abbrev hbmTy0_1 (i : Nat) : BufTy := match i % 128 with
  | 0 => ⟨S2x1024, .f32⟩
  | 1 => ⟨S8192x1024, .f32⟩
  | 2 => ⟨S8192x1024, .f32⟩
  | 3 => ⟨S8192x1024, .f32⟩
  | 4 => ⟨S8192x1024, .f32⟩
  | 5 => ⟨S8192x3072, .f32⟩
  | 6 => ⟨S8192x1024, .f32⟩
  | 7 => ⟨S_, .f32⟩
  | 8 => ⟨S1024, .f32⟩
  | 9 => ⟨S1x1024, .f32⟩
  | 10 => ⟨S_, .f32⟩
  | 11 => ⟨S1024, .f32⟩
  | 12 => ⟨S8192x1024, .f32⟩
  | 13 => ⟨S_, .f32⟩
  | 14 => ⟨S1024, .f32⟩
  | 15 => ⟨S1x1024, .f32⟩
  | 16 => ⟨S8192x1024, .f32⟩
  | 17 => ⟨S8192x1024, .f32⟩
  | 18 => ⟨S_, .f32⟩
  | 19 => ⟨S1024, .f32⟩
  | 20 => ⟨S8192x1024, .f32⟩
  | 21 => ⟨S_, .f32⟩
  | 22 => ⟨S1024, .f32⟩
  | 23 => ⟨S1x1024, .f32⟩
  | 24 => ⟨S8192x1024, .f32⟩
  | 25 => ⟨S8192x1024, .f32⟩
  | 26 => ⟨S_, .f32⟩
  | 27 => ⟨S1024, .f32⟩
  | 28 => ⟨S8192x1024, .f32⟩
  | 29 => ⟨S_, .f32⟩
  | 30 => ⟨S8192, .f32⟩
  | 31 => ⟨S8192x1, .f32⟩
  | 32 => ⟨S8192x1024, .f32⟩
  | 33 => ⟨S8192x1024, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .bf16⟩
  | 47 => ⟨S8192x3072, .bf16⟩
  | 48 => ⟨S1x1024, .f32⟩
  | 49 => ⟨S1x1024, .f32⟩
  | 50 => ⟨S1x1024, .f32⟩
  | 51 => ⟨S1x1024, .f32⟩
  | 52 => ⟨S_, .f32⟩
  | 53 => ⟨S4x1024, .f32⟩
  | 54 => ⟨S8x1024, .f32⟩
  | 55 => ⟨S_, .f32⟩
  | 56 => ⟨S5x1024, .f32⟩
  | 57 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_cst_10 : Ref sig .tc := ⟨.hbm, 94, rfl⟩
abbrev main_v74 : Ref sig .tc := ⟨.hbm, 95, rfl⟩
abbrev main_v75 : Ref sig .tc := ⟨.hbm, 96, rfl⟩
abbrev main_cst_11 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_cst_13 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_16 : Ref sig .tc := ⟨.hbm, 116, rfl⟩
abbrev main_v90 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev main_v93 : Ref sig .tc := ⟨.hbm, 121, rfl⟩
abbrev main_cst_18 : Ref sig .tc := ⟨.hbm, 122, rfl⟩
abbrev main_v94 : Ref sig .tc := ⟨.hbm, 123, rfl⟩
abbrev main_v95 : Ref sig .tc := ⟨.hbm, 124, rfl⟩
abbrev main_cst_19 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_20 : Ref sig .tc := ⟨.hbm, 135, rfl⟩
abbrev main_v105 : Ref sig .tc := ⟨.hbm, 136, rfl⟩
abbrev main_v106 : Ref sig .tc := ⟨.hbm, 137, rfl⟩
abbrev main_cst_21 : Ref sig .tc := ⟨.hbm, 138, rfl⟩
abbrev main_v107 : Ref sig .tc := ⟨.hbm, 139, rfl⟩
abbrev main_v108 : Ref sig .tc := ⟨.hbm, 140, rfl⟩
abbrev main_cst_22 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_23 : Ref sig .tc := ⟨.hbm, 146, rfl⟩
abbrev main_v113 : Ref sig .tc := ⟨.hbm, 147, rfl⟩
abbrev main_v114 : Ref sig .tc := ⟨.hbm, 148, rfl⟩
abbrev main_cst_24 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_25 : Ref sig .tc := ⟨.hbm, 154, rfl⟩
abbrev main_v119 : Ref sig .tc := ⟨.hbm, 155, rfl⟩
abbrev main_v120 : Ref sig .tc := ⟨.hbm, 156, rfl⟩
abbrev main_cst_26 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_27 : Ref sig .tc := ⟨.hbm, 163, rfl⟩
abbrev main_v126 : Ref sig .tc := ⟨.hbm, 164, rfl⟩
abbrev main_v127 : Ref sig .tc := ⟨.hbm, 165, rfl⟩
abbrev main_cst_28 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_29 : Ref sig .tc := ⟨.hbm, 180, rfl⟩
abbrev main_v141 : Ref sig .tc := ⟨.hbm, 181, rfl⟩
abbrev main_v142 : Ref sig .tc := ⟨.hbm, 182, rfl⟩
abbrev main_cst_30 : Ref sig .tc := ⟨.hbm, 183, rfl⟩
abbrev main_v143 : Ref sig .tc := ⟨.hbm, 184, rfl⟩
abbrev main_v144 : Ref sig .tc := ⟨.hbm, 185, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S5632x1024 : Shape := ⟨2, ![5632, 1024]⟩
abbrev S256x1024 : Shape := ⟨2, ![256, 1024]⟩
abbrev S256x2816 : Shape := ⟨2, ![256, 2816]⟩
abbrev S256x5632 : Shape := ⟨2, ![256, 5632]⟩
abbrev S256x256 : Shape := ⟨2, ![256, 256]⟩
abbrev S256 : Shape := ⟨1, ![256]⟩
abbrev S256x1 : Shape := ⟨2, ![256, 1]⟩

abbrev nBuf : Space → Nat
  | .hbm => 70
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S4x1024, .f32⟩
  | .hbm, ⟨14, _⟩ => ⟨S8x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x5632, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S_, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x1024, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x1024, .bf16⟩
  | .hbm, ⟨61, _⟩ => ⟨S2816x1024, .bf16⟩
  | .hbm, ⟨62, _⟩ => ⟨S5632x1024, .f32⟩
  | .hbm, ⟨63, _⟩ => ⟨S5632x1024, .bf16⟩
  | .hbm, ⟨64, _⟩ => ⟨S8192x2816, .bf16⟩
  | .hbm, ⟨65, _⟩ => ⟨S8192x2816, .bf16⟩
  | .hbm, ⟨66, _⟩ => ⟨S8192x1024, .bf16⟩
  | .hbm, ⟨67, _⟩ => ⟨S8192x5632, .bf16⟩
  | .hbm, ⟨68, _⟩ => ⟨S8192x1024, .f32⟩
  | .hbm, ⟨69, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S8x1024, .f32⟩
  | .local _ .vmem, ⟨5, _⟩ => ⟨S2816x1024, .bf16⟩
  | .local _ .vmem, ⟨6, _⟩ => ⟨S5632x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x5632, .bf16⟩
  | .local _ .vmem, ⟨16, _⟩ => ⟨S256x5632, .bf16⟩
  | .local _ .vmem, ⟨17, _⟩ => ⟨S256x1024, .f32⟩
  | .local _ .vmem, ⟨18, _⟩ => ⟨S256x1024, .f32⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50_0 : Ref sig .tc := ⟨.hbm, 66, rfl⟩
abbrev main_v50_1 : Ref sig .tc := ⟨.hbm, 67, rfl⟩
abbrev main_v50_2 : Ref sig .tc := ⟨.hbm, 68, rfl⟩
abbrev main_v50_3 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v242 : BitVec 1 := Scalar.cmpi .eq arg0 c0_i32
  let v243 : BitVec 32 := Scalar.extui v242
  let c0_i32_133 : BitVec 32 := 0#32
  let v244 : BitVec 1 := Scalar.cmpi .ne v243 c0_i32_133
  v244

def k0_cond2 (i : grid0.Coords) : BitVec 1 :=
  let arg0 : BitVec 32 := BitVec.ofNat 32 (i 0).val
  let c0_i32 : BitVec 32 := 0#32
  let v242 : BitVec 1 := Scalar.cmpi .eq arg0 c0_i32
  let v_true : BitVec 1 := 1#1
  let v245 : BitVec 1 := Scalar.xori v242 v_true
  let v246 : BitVec 32 := Scalar.extui v245
  let c0_i32_134 : BitVec 32 := 0#32
  let v247 : BitVec 1 := Scalar.cmpi .ne v246 c0_i32_134
  v247

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S4x1024 : Shape := ⟨2, ![4, 1024]⟩
abbrev S8x1024 : Shape := ⟨2, ![8, 1024]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024x5632, .f32⟩
  | 6 => ⟨S2816x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S1x1024, .f32⟩
  | 29 => ⟨S_, .f32⟩
  | 30 => ⟨S1x1024, .f32⟩
  | 31 => ⟨S1x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S8192x5632, .f32⟩
  | 38 => ⟨S8192x2816, .f32⟩
  | 39 => ⟨S8192x2816, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S8192x2816, .f32⟩
  | 52 => ⟨S8192x2816, .f32⟩
  | 53 => ⟨S8192x2816, .f32⟩
  | 54 => ⟨S8192x1024, .f32⟩
  | 55 => ⟨S_, .f32⟩
  | 56 => ⟨S1024, .f32⟩
  | 57 => ⟨S1024, .f32⟩
  | 58 => ⟨S1x1024, .f32⟩
  | 59 => ⟨S_, .f32⟩
  | 60 => ⟨S1x1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S1024, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S1024, .f32⟩
  | 77 => ⟨S8192x2816, .f32⟩
  | 78 => ⟨S8192x2816, .f32⟩
  | 79 => ⟨S8192x2816, .f32⟩
  | 80 => ⟨S8192x2816, .f32⟩
  | 81 => ⟨S8192x2816, .f32⟩
  | 82 => ⟨S8192x2816, .f32⟩
  | 83 => ⟨S8192x2816, .f32⟩
  | 84 => ⟨S8192x5632, .f32⟩
  | 85 => ⟨S8192x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S_, .f32⟩
  | 98 => ⟨S1024, .f32⟩
  | 99 => ⟨S8192x1024, .f32⟩
  | 100 => ⟨S_, .f32⟩
  | 101 => ⟨S1024, .f32⟩
  | 102 => ⟨S1x1024, .f32⟩
  | 103 => ⟨S8192x1024, .f32⟩
  | 104 => ⟨S8192x1024, .f32⟩
  | 105 => ⟨S_, .f32⟩
  | 106 => ⟨S1024, .f32⟩
  | 107 => ⟨S8192x1024, .f32⟩
  | 108 => ⟨S_, .f32⟩
  | 109 => ⟨S8192, .f32⟩
  | 110 => ⟨S8192x1, .f32⟩
  | 111 => ⟨S8192x1024, .f32⟩
  | 112 => ⟨S8192x1024, .f32⟩
  | 113 => ⟨S8192x1, .f32⟩
  | 114 => ⟨S_, .f32⟩
  | 115 => ⟨S8192x1, .f32⟩
  | 116 => ⟨S8192x1, .f32⟩
  | 117 => ⟨S_, .f32⟩
  | 118 => ⟨S8192, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x1024, .bf16⟩
  | 125 => ⟨S8192x5632, .bf16⟩
  | 126 => ⟨S8192x1024, .f32⟩
  | 127 => ⟨S1x1024, .f32⟩
  | _ => ⟨S8192x1024, .f32⟩

abbrev hbmTy0_1 (i : Nat) : BufTy := match i % 128 with
  | 0 => ⟨S1x1024, .f32⟩
  | 1 => ⟨S1x1024, .f32⟩
  | 2 => ⟨S1x1024, .f32⟩
  | 3 => ⟨S_, .f32⟩
  | 4 => ⟨S4x1024, .f32⟩
  | 5 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_15 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_17 : Ref sig .tc := ⟨.hbm, 105, rfl⟩
abbrev main_v79 : Ref sig .tc := ⟨.hbm, 106, rfl⟩
abbrev main_v80 : Ref sig .tc := ⟨.hbm, 107, rfl⟩
abbrev main_cst_18 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_19 : Ref sig .tc := ⟨.hbm, 114, rfl⟩
abbrev main_v86 : Ref sig .tc := ⟨.hbm, 115, rfl⟩
abbrev main_v87 : Ref sig .tc := ⟨.hbm, 116, rfl⟩
abbrev main_cst_20 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_21 : Ref sig .tc := ⟨.hbm, 131, rfl⟩
abbrev main_v101 : Ref sig .tc := ⟨.hbm, 132, rfl⟩
abbrev main_v102 : Ref sig .tc := ⟨.hbm, 133, rfl⟩

abbrev nD : Nat := 1
abbrev τ : Topo := Topo.v7x

variable {F : FTy → Type} [FloatOps F]
-- ==== Attp.lean ====
abbrev S1x8192x8x64 : Shape := ⟨4, ![1, 8192, 8, 64]⟩
abbrev S1x8192x8 : Shape := ⟨3, ![1, 8192, 8]⟩
abbrev S_ : Shape := ⟨0, ![]⟩
abbrev S1x4x8x1x128x64 : Shape := ⟨6, ![1, 4, 8, 1, 128, 64]⟩
abbrev S1x2048x4x8x64 : Shape := ⟨5, ![1, 2048, 4, 8, 64]⟩
abbrev S1x4x8x2048x64 : Shape := ⟨5, ![1, 4, 8, 2048, 64]⟩
abbrev S1x4x8x16x128x64 : Shape := ⟨6, ![1, 4, 8, 16, 128, 64]⟩
abbrev S1x4x8x15x128x64 : Shape := ⟨6, ![1, 4, 8, 15, 128, 64]⟩
abbrev S1x4x8x16x256x64 : Shape := ⟨6, ![1, 4, 8, 16, 256, 64]⟩
abbrev S1x4x8x16x128x256 : Shape := ⟨6, ![1, 4, 8, 16, 128, 256]⟩
abbrev S16x128x256 : Shape := ⟨3, ![16, 128, 256]⟩
abbrev S1x4x8x16x128 : Shape := ⟨5, ![1, 4, 8, 16, 128]⟩
abbrev S1x4x8x16x128x1 : Shape := ⟨6, ![1, 4, 8, 16, 128, 1]⟩
abbrev S1x4x8x2048 : Shape := ⟨4, ![1, 4, 8, 2048]⟩
abbrev S1x2048x4x8 : Shape := ⟨4, ![1, 2048, 4, 8]⟩
abbrev S8192x512 : Shape := ⟨2, ![8192, 512]⟩
abbrev S2048x4x512 : Shape := ⟨3, ![2048, 4, 512]⟩
abbrev S4x2048x512 : Shape := ⟨3, ![4, 2048, 512]⟩
abbrev S8192x8 : Shape := ⟨2, ![8192, 8]⟩
abbrev S8192x8x16 : Shape := ⟨3, ![8192, 8, 16]⟩
abbrev S8192x128 : Shape := ⟨2, ![8192, 128]⟩
abbrev S2048x4x128 : Shape := ⟨3, ![2048, 4, 128]⟩
abbrev S4x2048x128 : Shape := ⟨3, ![4, 2048, 128]⟩
abbrev S1x512x512 : Shape := ⟨3, ![1, 512, 512]⟩
abbrev S1x128x512 : Shape := ⟨3, ![1, 128, 512]⟩
abbrev S1x512x128 : Shape := ⟨3, ![1, 512, 128]⟩
abbrev S128x512 : Shape := ⟨2, ![128, 512]⟩
abbrev S128x256 : Shape := ⟨2, ![128, 256]⟩
abbrev S1x128 : Shape := ⟨2, ![1, 128]⟩
abbrev S1x128x128 : Shape := ⟨3, ![1, 128, 128]⟩
abbrev S128x128 : Shape := ⟨2, ![128, 128]⟩
abbrev S512x128 : Shape := ⟨2, ![512, 128]⟩
abbrev S640x128 : Shape := ⟨2, ![640, 128]⟩
abbrev S256x128 : Shape := ⟨2, ![256, 128]⟩
abbrev S1x128x1 : Shape := ⟨3, ![1, 128, 1]⟩
abbrev S128x1 : Shape := ⟨2, ![128, 1]⟩

abbrev nBuf : Space → Nat
  | .hbm => 119
  | .vmem => 28
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8x64, .f32⟩
  | .hbm, ⟨4, _⟩ => ⟨S1x8192x8, .f32⟩
  | .hbm, ⟨5, _⟩ => ⟨S1x8192x8x64, .f32⟩
  | .hbm, ⟨6, _⟩ => ⟨S1x8192x8x64, .f32⟩
  | .hbm, ⟨7, _⟩ => ⟨S_, .f32⟩
  | .hbm, ⟨8, _⟩ => ⟨S1x4x8x1x128x64, .f32⟩
  | .hbm, ⟨9, _⟩ => ⟨S1x2048x4x8x64, .f32⟩
  | .hbm, ⟨10, _⟩ => ⟨S1x4x8x2048x64, .f32⟩
  | .hbm, ⟨11, _⟩ => ⟨S1x4x8x16x128x64, .f32⟩
  | .hbm, ⟨12, _⟩ => ⟨S1x2048x4x8x64, .f32⟩
  | .hbm, ⟨13, _⟩ => ⟨S1x4x8x2048x64, .f32⟩
  | .hbm, ⟨14, _⟩ => ⟨S1x4x8x16x128x64, .f32⟩
  | .hbm, ⟨15, _⟩ => ⟨S1x4x8x15x128x64, .f32⟩
  | .hbm, ⟨16, _⟩ => ⟨S1x4x8x16x128x64, .f32⟩
  | .hbm, ⟨17, _⟩ => ⟨S1x4x8x16x256x64, .f32⟩
  | .hbm, ⟨18, _⟩ => ⟨S1x2048x4x8x64, .f32⟩
  | .hbm, ⟨19, _⟩ => ⟨S1x4x8x2048x64, .f32⟩
  | .hbm, ⟨20, _⟩ => ⟨S1x4x8x16x128x64, .f32⟩
  | .hbm, ⟨21, _⟩ => ⟨S1x4x8x15x128x64, .f32⟩
  | .hbm, ⟨22, _⟩ => ⟨S1x4x8x16x128x64, .f32⟩
  | .hbm, ⟨23, _⟩ => ⟨S1x4x8x16x256x64, .f32⟩
  | .hbm, ⟨24, _⟩ => ⟨S1x4x8x16x128x256, .f32⟩
  | .hbm, ⟨25, _⟩ => ⟨S_, .f32⟩
  | .hbm, ⟨26, _⟩ => ⟨S1x4x8x16x128x256, .f32⟩
  | .hbm, ⟨27, _⟩ => ⟨S1x4x8x16x128x256, .f32⟩
  | .hbm, ⟨28, _⟩ => ⟨S16x128x256, .i32⟩
  | .hbm, ⟨29, _⟩ => ⟨S16x128x256, .i32⟩
  | .hbm, ⟨30, _⟩ => ⟨S16x128x256, .i32⟩
  | .hbm, ⟨31, _⟩ => ⟨S_, .i32⟩
  | .hbm, ⟨32, _⟩ => ⟨S16x128x256, .i32⟩
  | .hbm, ⟨33, _⟩ => ⟨S16x128x256, .i32⟩
  | .hbm, ⟨34, _⟩ => ⟨S16x128x256, .i32⟩
  | .hbm, ⟨35, _⟩ => ⟨S_, .i32⟩
  | .hbm, ⟨36, _⟩ => ⟨S16x128x256, .i32⟩
  | .hbm, ⟨37, _⟩ => ⟨S16x128x256, .i1⟩
  | .hbm, ⟨38, _⟩ => ⟨S_, .i32⟩
  | .hbm, ⟨39, _⟩ => ⟨S16x128x256, .i32⟩
  | .hbm, ⟨40, _⟩ => ⟨S16x128x256, .i1⟩
  | .hbm, ⟨41, _⟩ => ⟨S16x128x256, .i1⟩
  | .hbm, ⟨42, _⟩ => ⟨S_, .i32⟩
  | .hbm, ⟨43, _⟩ => ⟨S16x128x256, .i32⟩
  | .hbm, ⟨44, _⟩ => ⟨S16x128x256, .i32⟩
  | .hbm, ⟨45, _⟩ => ⟨S_, .i32⟩
  | .hbm, ⟨46, _⟩ => ⟨S16x128x256, .i32⟩
  | .hbm, ⟨47, _⟩ => ⟨S16x128x256, .i32⟩
  | .hbm, ⟨48, _⟩ => ⟨S16x128x256, .i32⟩
  | .hbm, ⟨49, _⟩ => ⟨S_, .i32⟩
  | .hbm, ⟨50, _⟩ => ⟨S16x128x256, .i32⟩
  | .hbm, ⟨51, _⟩ => ⟨S16x128x256, .i1⟩
  | .hbm, ⟨52, _⟩ => ⟨S16x128x256, .i1⟩
  | .hbm, ⟨53, _⟩ => ⟨S1x4x8x16x128x256, .i1⟩
  | .hbm, ⟨54, _⟩ => ⟨S_, .f32⟩
  | .hbm, ⟨55, _⟩ => ⟨S1x4x8x16x128x256, .f32⟩
  | .hbm, ⟨56, _⟩ => ⟨S1x4x8x16x128x256, .f32⟩
  | .hbm, ⟨57, _⟩ => ⟨S_, .f32⟩
  | .hbm, ⟨58, _⟩ => ⟨S1x4x8x16x128, .f32⟩
  | .hbm, ⟨59, _⟩ => ⟨S1x4x8x16x128x1, .f32⟩
  | .hbm, ⟨60, _⟩ => ⟨S1x4x8x16x128x256, .f32⟩
  | .hbm, ⟨61, _⟩ => ⟨S1x4x8x16x128x256, .f32⟩
  | .hbm, ⟨62, _⟩ => ⟨S1x4x8x16x128x256, .f32⟩
  | .hbm, ⟨63, _⟩ => ⟨S_, .f32⟩
  | .hbm, ⟨64, _⟩ => ⟨S1x4x8x16x128, .f32⟩
  | .hbm, ⟨65, _⟩ => ⟨S1x4x8x16x128x1, .f32⟩
  | .hbm, ⟨66, _⟩ => ⟨S1x4x8x16x128x256, .f32⟩
  | .hbm, ⟨67, _⟩ => ⟨S1x4x8x16x128x256, .f32⟩
  | .hbm, ⟨68, _⟩ => ⟨S1x4x8x16x128x64, .f32⟩
  | .hbm, ⟨69, _⟩ => ⟨S1x4x8x16x128x1, .f32⟩
  | .hbm, ⟨70, _⟩ => ⟨S1x4x8x16x128x1, .f32⟩
  | .hbm, ⟨71, _⟩ => ⟨S1x4x8x16x128, .f32⟩
  | .hbm, ⟨72, _⟩ => ⟨S1x4x8x2048x64, .f32⟩
  | .hbm, ⟨73, _⟩ => ⟨S1x2048x4x8x64, .f32⟩
  | .hbm, ⟨74, _⟩ => ⟨S1x8192x8x64, .f32⟩
  | .hbm, ⟨75, _⟩ => ⟨S1x4x8x2048, .f32⟩
  | .hbm, ⟨76, _⟩ => ⟨S1x2048x4x8, .f32⟩
  | .hbm, ⟨77, _⟩ => ⟨S1x8192x8, .f32⟩
  | .hbm, ⟨78, _⟩ => ⟨S1x8192x8x64, .f32⟩
  | .hbm, ⟨79, _⟩ => ⟨S_, .f32⟩
  | .hbm, ⟨80, _⟩ => ⟨S1x8192x8, .f32⟩
  | .hbm, ⟨81, _⟩ => ⟨S1x8192x8, .f32⟩
  | .hbm, ⟨82, _⟩ => ⟨S8192x512, .f32⟩
  | .hbm, ⟨83, _⟩ => ⟨S2048x4x512, .f32⟩
  | .hbm, ⟨84, _⟩ => ⟨S4x2048x512, .f32⟩
  | .hbm, ⟨85, _⟩ => ⟨S4x2048x512, .bf16⟩
  | .hbm, ⟨86, _⟩ => ⟨S8192x512, .f32⟩
  | .hbm, ⟨87, _⟩ => ⟨S2048x4x512, .f32⟩
  | .hbm, ⟨88, _⟩ => ⟨S4x2048x512, .f32⟩
  | .hbm, ⟨89, _⟩ => ⟨S4x2048x512, .bf16⟩
  | .hbm, ⟨90, _⟩ => ⟨S8192x512, .f32⟩
  | .hbm, ⟨91, _⟩ => ⟨S2048x4x512, .f32⟩
  | .hbm, ⟨92, _⟩ => ⟨S4x2048x512, .f32⟩
  | .hbm, ⟨93, _⟩ => ⟨S4x2048x512, .bf16⟩
  | .hbm, ⟨94, _⟩ => ⟨S8192x512, .f32⟩
  | .hbm, ⟨95, _⟩ => ⟨S2048x4x512, .f32⟩
  | .hbm, ⟨96, _⟩ => ⟨S4x2048x512, .f32⟩
  | .hbm, ⟨97, _⟩ => ⟨S4x2048x512, .bf16⟩
  | .hbm, ⟨98, _⟩ => ⟨S8192x8, .f32⟩
  | .hbm, ⟨99, _⟩ => ⟨S8192x8x16, .f32⟩
  | .hbm, ⟨100, _⟩ => ⟨S8192x128, .f32⟩
  | .hbm, ⟨101, _⟩ => ⟨S2048x4x128, .f32⟩
  | .hbm, ⟨102, _⟩ => ⟨S4x2048x128, .f32⟩
  | .hbm, ⟨103, _⟩ => ⟨S8192x8, .f32⟩
  | .hbm, ⟨104, _⟩ => ⟨S8192x8x16, .f32⟩
  | .hbm, ⟨105, _⟩ => ⟨S8192x128, .f32⟩
  | .hbm, ⟨106, _⟩ => ⟨S2048x4x128, .f32⟩
  | .hbm, ⟨107, _⟩ => ⟨S4x2048x128, .f32⟩
  | .hbm, ⟨108, _⟩ => ⟨S8192x512, .f32⟩
  | .hbm, ⟨109, _⟩ => ⟨S2048x4x512, .f32⟩
  | .hbm, ⟨110, _⟩ => ⟨S4x2048x512, .f32⟩
  | .hbm, ⟨111, _⟩ => ⟨S4x2048x512, .bf16⟩
  | .hbm, ⟨112, _⟩ => ⟨S8192x512, .f32⟩
  | .hbm, ⟨113, _⟩ => ⟨S2048x4x512, .f32⟩
  | .hbm, ⟨114, _⟩ => ⟨S4x2048x512, .f32⟩
  | .hbm, ⟨115, _⟩ => ⟨S4x2048x512, .bf16⟩
  | .hbm, ⟨116, _⟩ => ⟨S4x2048x512, .bf16⟩
  | .hbm, ⟨117, _⟩ => ⟨S4x2048x512, .bf16⟩
  | .hbm, ⟨118, _⟩ => ⟨S4x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S128x512, .f32⟩
  | .local _ .vmem, ⟨27, _⟩ => ⟨S128x512, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97_0 : Ref sig .tc := ⟨.hbm, 116, rfl⟩
abbrev main_v97_1 : Ref sig .tc := ⟨.hbm, 117, rfl⟩
abbrev main_v97_2 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttpIdeal.lean ====
variable {F : FTy → Type} [FloatOps F] [Named F]
def κ : String → Option EReal := fun
  | "mask" => some ⊥
  | _ => none
-- ==== AttpRefIdeal.lean ====
abbrev S1x8192x8x64 : Shape := ⟨4, ![1, 8192, 8, 64]⟩
abbrev S1x8192x8 : Shape := ⟨3, ![1, 8192, 8]⟩
abbrev S_ : Shape := ⟨0, ![]⟩
abbrev S1x4x8x1x128x64 : Shape := ⟨6, ![1, 4, 8, 1, 128, 64]⟩
abbrev S1x2048x4x8x64 : Shape := ⟨5, ![1, 2048, 4, 8, 64]⟩
abbrev S1x4x8x2048x64 : Shape := ⟨5, ![1, 4, 8, 2048, 64]⟩
abbrev S1x4x8x16x128x64 : Shape := ⟨6, ![1, 4, 8, 16, 128, 64]⟩
abbrev S1x4x8x15x128x64 : Shape := ⟨6, ![1, 4, 8, 15, 128, 64]⟩
abbrev S1x4x8x16x256x64 : Shape := ⟨6, ![1, 4, 8, 16, 256, 64]⟩
abbrev S1x4x8x16x128x256 : Shape := ⟨6, ![1, 4, 8, 16, 128, 256]⟩
abbrev S16x128x256 : Shape := ⟨3, ![16, 128, 256]⟩
abbrev S1x4x8x16x128 : Shape := ⟨5, ![1, 4, 8, 16, 128]⟩
abbrev S1x4x8x16x128x1 : Shape := ⟨6, ![1, 4, 8, 16, 128, 1]⟩
abbrev S1x4x8x2048 : Shape := ⟨4, ![1, 4, 8, 2048]⟩
abbrev S1x2048x4x8 : Shape := ⟨4, ![1, 2048, 4, 8]⟩
abbrev S1x4x8x16x64x256 : Shape := ⟨6, ![1, 4, 8, 16, 64, 256]⟩
abbrev S4x8x16x128 : Shape := ⟨4, ![4, 8, 16, 128]⟩
abbrev S2048x4x512 : Shape := ⟨3, ![2048, 4, 512]⟩
abbrev S4x2048x512 : Shape := ⟨3, ![4, 2048, 512]⟩

abbrev nBuf : Space → Nat
  | .hbm => 175
  | .vmem => 0
  | .smem => 0
  | _ => 0

abbrev hbmTy0_0 (i : Nat) : BufTy := match i % 128 with
  | 0 => ⟨S1x8192x8x64, .f32⟩
  | 1 => ⟨S1x8192x8x64, .f32⟩
  | 2 => ⟨S1x8192x8x64, .f32⟩
  | 3 => ⟨S1x8192x8x64, .f32⟩
  | 4 => ⟨S1x8192x8, .f32⟩
  | 5 => ⟨S1x8192x8x64, .f32⟩
  | 6 => ⟨S1x8192x8x64, .f32⟩
  | 7 => ⟨S_, .f32⟩
  | 8 => ⟨S1x4x8x1x128x64, .f32⟩
  | 9 => ⟨S1x2048x4x8x64, .f32⟩
  | 10 => ⟨S1x4x8x2048x64, .f32⟩
  | 11 => ⟨S1x4x8x16x128x64, .f32⟩
  | 12 => ⟨S1x2048x4x8x64, .f32⟩
  | 13 => ⟨S1x4x8x2048x64, .f32⟩
  | 14 => ⟨S1x4x8x16x128x64, .f32⟩
  | 15 => ⟨S1x4x8x15x128x64, .f32⟩
  | 16 => ⟨S1x4x8x16x128x64, .f32⟩
  | 17 => ⟨S_, .f32⟩
  | 18 => ⟨S1x4x8x1x128x64, .f32⟩
  | 19 => ⟨S1x4x8x16x256x64, .f32⟩
  | 20 => ⟨S1x2048x4x8x64, .f32⟩
  | 21 => ⟨S1x4x8x2048x64, .f32⟩
  | 22 => ⟨S1x4x8x16x128x64, .f32⟩
  | 23 => ⟨S1x4x8x15x128x64, .f32⟩
  | 24 => ⟨S1x4x8x16x128x64, .f32⟩
  | 25 => ⟨S_, .f32⟩
  | 26 => ⟨S1x4x8x1x128x64, .f32⟩
  | 27 => ⟨S1x4x8x16x256x64, .f32⟩
  | 28 => ⟨S1x4x8x16x128x256, .f32⟩
  | 29 => ⟨S_, .f32⟩
  | 30 => ⟨S1x4x8x16x128x256, .f32⟩
  | 31 => ⟨S1x4x8x16x128x256, .f32⟩
  | 32 => ⟨S16x128x256, .i32⟩
  | 33 => ⟨S16x128x256, .i32⟩
  | 34 => ⟨S16x128x256, .i32⟩
  | 35 => ⟨S_, .i32⟩
  | 36 => ⟨S16x128x256, .i32⟩
  | 37 => ⟨S16x128x256, .i32⟩
  | 38 => ⟨S16x128x256, .i32⟩
  | 39 => ⟨S_, .i32⟩
  | 40 => ⟨S16x128x256, .i32⟩
  | 41 => ⟨S16x128x256, .i1⟩
  | 42 => ⟨S_, .i32⟩
  | 43 => ⟨S16x128x256, .i32⟩
  | 44 => ⟨S16x128x256, .i1⟩
  | 45 => ⟨S16x128x256, .i1⟩
  | 46 => ⟨S_, .i32⟩
  | 47 => ⟨S16x128x256, .i32⟩
  | 48 => ⟨S16x128x256, .i32⟩
  | 49 => ⟨S_, .i32⟩
  | 50 => ⟨S16x128x256, .i32⟩
  | 51 => ⟨S16x128x256, .i32⟩
  | 52 => ⟨S16x128x256, .i32⟩
  | 53 => ⟨S_, .i32⟩
  | 54 => ⟨S16x128x256, .i32⟩
  | 55 => ⟨S16x128x256, .i1⟩
  | 56 => ⟨S16x128x256, .i1⟩
  | 57 => ⟨S1x4x8x16x128x256, .i1⟩
  | 58 => ⟨S_, .f32⟩
  | 59 => ⟨S1x4x8x16x128x256, .f32⟩
  | 60 => ⟨S1x4x8x16x128x256, .f32⟩
  | 61 => ⟨S_, .f32⟩
  | 62 => ⟨S1x4x8x16x128x256, .f32⟩
  | 63 => ⟨S_, .f32⟩
  | 64 => ⟨S1x4x8x16x128, .f32⟩
  | 65 => ⟨S1x4x8x16x128x1, .f32⟩
  | 66 => ⟨S1x4x8x16x128x256, .f32⟩
  | 67 => ⟨S1x4x8x16x128x256, .i1⟩
  | 68 => ⟨S1x4x8x16x128x256, .f32⟩
  | 69 => ⟨S_, .f32⟩
  | 70 => ⟨S1x4x8x16x128, .f32⟩
  | 71 => ⟨S1x4x8x16x128x1, .f32⟩
  | 72 => ⟨S1x4x8x16x128x256, .f32⟩
  | 73 => ⟨S1x4x8x16x128x256, .f32⟩
  | 74 => ⟨S1x4x8x16x128x256, .f32⟩
  | 75 => ⟨S_, .f32⟩
  | 76 => ⟨S1x4x8x16x128, .f32⟩
  | 77 => ⟨S1x4x8x16x128x1, .f32⟩
  | 78 => ⟨S1x4x8x16x128x256, .f32⟩
  | 79 => ⟨S1x4x8x16x128x256, .f32⟩
  | 80 => ⟨S1x4x8x16x128x1, .f32⟩
  | 81 => ⟨S_, .f32⟩
  | 82 => ⟨S1x4x8x16x128x1, .f32⟩
  | 83 => ⟨S1x4x8x16x128x1, .f32⟩
  | 84 => ⟨S1x4x8x16x128x64, .f32⟩
  | 85 => ⟨S1x4x8x16x128x1, .f32⟩
  | 86 => ⟨S1x4x8x16x128x1, .f32⟩
  | 87 => ⟨S1x4x8x16x128, .f32⟩
  | 88 => ⟨S1x4x8x2048x64, .f32⟩
  | 89 => ⟨S1x2048x4x8x64, .f32⟩
  | 90 => ⟨S1x8192x8x64, .f32⟩
  | 91 => ⟨S1x4x8x2048, .f32⟩
  | 92 => ⟨S1x2048x4x8, .f32⟩
  | 93 => ⟨S1x8192x8, .f32⟩
  | 94 => ⟨S1x2048x4x8, .f32⟩
  | 95 => ⟨S1x4x8x2048, .f32⟩
  | 96 => ⟨S1x4x8x16x128, .f32⟩
  | 97 => ⟨S1x2048x4x8x64, .f32⟩
  | 98 => ⟨S1x4x8x2048x64, .f32⟩
  | 99 => ⟨S1x4x8x16x128x64, .f32⟩
  | 100 => ⟨S1x4x8x16x128x1, .f32⟩
  | 101 => ⟨S1x4x8x16x128x1, .f32⟩
  | 102 => ⟨S1x4x8x16x64x256, .f32⟩
  | 103 => ⟨S1x4x8x16x256x64, .f32⟩
  | 104 => ⟨S1x4x8x16x128x256, .f32⟩
  | 105 => ⟨S1x4x8x16x128x256, .f32⟩
  | 106 => ⟨S1x4x8x16x128x256, .f32⟩
  | 107 => ⟨S1x4x8x16x128x256, .f32⟩
  | 108 => ⟨S_, .f32⟩
  | 109 => ⟨S1x4x8x16x128, .f32⟩
  | 110 => ⟨S1x4x8x16x128x1, .f32⟩
  | 111 => ⟨S1x4x8x16x128x1, .f32⟩
  | 112 => ⟨S1x4x8x16x128x1, .f32⟩
  | 113 => ⟨S1x4x8x16x128x256, .f32⟩
  | 114 => ⟨S1x4x8x16x128x256, .f32⟩
  | 115 => ⟨S_, .f32⟩
  | 116 => ⟨S4x8x16x128, .f32⟩
  | 117 => ⟨S1x4x8x16x128, .f32⟩
  | 118 => ⟨S1x4x8x16x128x256, .f32⟩
  | 119 => ⟨S1x4x8x16x128x256, .f32⟩
  | 120 => ⟨S1x4x8x16x128x256, .f32⟩
  | 121 => ⟨S1x4x8x16x128x256, .f32⟩
  | 122 => ⟨S_, .f32⟩
  | 123 => ⟨S1x4x8x16x128, .f32⟩
  | 124 => ⟨S1x4x8x16x128x1, .f32⟩
  | 125 => ⟨S1x4x8x16x128x1, .f32⟩
  | 126 => ⟨S_, .f32⟩
  | 127 => ⟨S4x8x16x128, .f32⟩
  | _ => ⟨S1x8192x8x64, .f32⟩

abbrev hbmTy0_1 (i : Nat) : BufTy := match i % 128 with
  | 0 => ⟨S1x4x8x16x128, .f32⟩
  | 1 => ⟨S1x4x8x16x128, .f32⟩
  | 2 => ⟨S1x4x8x16x128x256, .f32⟩
  | 3 => ⟨S1x4x8x16x128x256, .f32⟩
  | 4 => ⟨S1x4x8x16x128x256, .f32⟩
  | 5 => ⟨S_, .f32⟩
  | 6 => ⟨S1x4x8x16x128x256, .f32⟩
  | 7 => ⟨S1x4x8x16x128x256, .f32⟩
  | 8 => ⟨S_, .f32⟩
  | 9 => ⟨S1x4x8x16x128x256, .f32⟩
  | 10 => ⟨S1x4x8x16x128x256, .f32⟩
  | 11 => ⟨S1x4x8x16x256x64, .f32⟩
  | 12 => ⟨S1x4x8x16x128x64, .f32⟩
  | 13 => ⟨S1x4x8x16x128x64, .f32⟩
  | 14 => ⟨S1x4x8x16x128x64, .f32⟩
  | 15 => ⟨S1x4x8x1x128x64, .f32⟩
  | 16 => ⟨S1x4x8x15x128x64, .f32⟩
  | 17 => ⟨S_, .f32⟩
  | 18 => ⟨S1x4x8x16x128x64, .f32⟩
  | 19 => ⟨S1x4x8x16x128x64, .f32⟩
  | 20 => ⟨S1x4x8x2048x64, .f32⟩
  | 21 => ⟨S1x2048x4x8x64, .f32⟩
  | 22 => ⟨S1x8192x8x64, .f32⟩
  | 23 => ⟨S1x4x8x16x128x64, .f32⟩
  | 24 => ⟨S1x4x8x16x128x64, .f32⟩
  | 25 => ⟨S1x4x8x1x128x64, .f32⟩
  | 26 => ⟨S1x4x8x15x128x64, .f32⟩
  | 27 => ⟨S_, .f32⟩
  | 28 => ⟨S1x4x8x16x128x64, .f32⟩
  | 29 => ⟨S1x4x8x16x128x64, .f32⟩
  | 30 => ⟨S1x4x8x2048x64, .f32⟩
  | 31 => ⟨S1x2048x4x8x64, .f32⟩
  | 32 => ⟨S1x8192x8x64, .f32⟩
  | 33 => ⟨S1x4x8x2048x64, .f32⟩
  | 34 => ⟨S1x2048x4x8x64, .f32⟩
  | 35 => ⟨S1x8192x8x64, .f32⟩
  | 36 => ⟨S1x8192x8x64, .f32⟩
  | 37 => ⟨S1x8192x8x64, .f32⟩
  | 38 => ⟨S2048x4x512, .f32⟩
  | 39 => ⟨S4x2048x512, .f32⟩
  | 40 => ⟨S4x2048x512, .bf16⟩
  | 41 => ⟨S2048x4x512, .f32⟩
  | 42 => ⟨S4x2048x512, .f32⟩
  | 43 => ⟨S4x2048x512, .bf16⟩
  | 44 => ⟨S2048x4x512, .f32⟩
  | 45 => ⟨S4x2048x512, .f32⟩
  | 46 => ⟨S4x2048x512, .bf16⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_16 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_17 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_18 : Ref sig .tc := ⟨.hbm, 133, rfl⟩
abbrev main_v106 : Ref sig .tc := ⟨.hbm, 134, rfl⟩
abbrev main_v107 : Ref sig .tc := ⟨.hbm, 135, rfl⟩
abbrev main_cst_19 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_20 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_21 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩

abbrev nD : Nat := 1
abbrev τ : Topo := Topo.v7x

variable {F : FTy → Type} [FloatOps F]
-- ==== Qb.lean ====
abbrev S8192x1024 : Shape := ⟨2, ![8192, 1024]⟩
abbrev S1024 : Shape := ⟨1, ![1024]⟩
abbrev S1024x1536 : Shape := ⟨2, ![1024, 1536]⟩
abbrev S8192 : Shape := ⟨1, ![8192]⟩
abbrev S8192x8x64 : Shape := ⟨3, ![8192, 8, 64]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S8192x512 : Shape := ⟨2, ![8192, 512]⟩
abbrev S8192x1x512 : Shape := ⟨3, ![8192, 1, 512]⟩
abbrev S1x8192x512 : Shape := ⟨3, ![1, 8192, 512]⟩
abbrev S2048x4x512 : Shape := ⟨3, ![2048, 4, 512]⟩
abbrev S4x2048x512 : Shape := ⟨3, ![4, 2048, 512]⟩
abbrev S512x16x512 : Shape := ⟨3, ![512, 16, 512]⟩
abbrev S16x512x512 : Shape := ⟨3, ![16, 512, 512]⟩
abbrev S1536x1024 : Shape := ⟨2, ![1536, 1024]⟩
abbrev S128 : Shape := ⟨1, ![128]⟩
abbrev S8 : Shape := ⟨1, ![8]⟩
abbrev S128x1 : Shape := ⟨2, ![128, 1]⟩
abbrev S8192x1 : Shape := ⟨2, ![8192, 1]⟩
abbrev S1x128 : Shape := ⟨2, ![1, 128]⟩
abbrev S8192x128 : Shape := ⟨2, ![8192, 128]⟩
abbrev S8192x1536 : Shape := ⟨2, ![8192, 1536]⟩
abbrev S1x512x512 : Shape := ⟨3, ![1, 512, 512]⟩
abbrev S4x128x512 : Shape := ⟨3, ![4, 128, 512]⟩
abbrev S16x32x512 : Shape := ⟨3, ![16, 32, 512]⟩
abbrev S512x1024 : Shape := ⟨2, ![512, 1024]⟩
abbrev S512x128 : Shape := ⟨2, ![512, 128]⟩
abbrev S512x1536 : Shape := ⟨2, ![512, 1536]⟩
abbrev S4x512x128 : Shape := ⟨3, ![4, 512, 128]⟩
abbrev S512x512 : Shape := ⟨2, ![512, 512]⟩
abbrev S1x128x512 : Shape := ⟨3, ![1, 128, 512]⟩
abbrev S128x512 : Shape := ⟨2, ![128, 512]⟩
abbrev S128x128 : Shape := ⟨2, ![128, 128]⟩
abbrev S1x128x128 : Shape := ⟨3, ![1, 128, 128]⟩
abbrev S1x512x128 : Shape := ⟨3, ![1, 512, 128]⟩
abbrev S1x32x512 : Shape := ⟨3, ![1, 32, 512]⟩
abbrev S32x512 : Shape := ⟨2, ![32, 512]⟩
abbrev S32x128 : Shape := ⟨2, ![32, 128]⟩
abbrev S1x32x128 : Shape := ⟨3, ![1, 32, 128]⟩
abbrev S512 : Shape := ⟨1, ![512]⟩
abbrev S512x1 : Shape := ⟨2, ![512, 1]⟩

abbrev nBuf : Space → Nat
  | .hbm => 148
  | .vmem => 24
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024x1536, .f32⟩
  | 5 => ⟨S8192, .i32⟩
  | 6 => ⟨S8192x8x64, .f32⟩
  | 7 => ⟨S8192x8x64, .f32⟩
  | 8 => ⟨S8192x8x64, .f32⟩
  | 9 => ⟨S8192x1024, .f32⟩
  | 10 => ⟨S1x1024, .f32⟩
  | 11 => ⟨S1x1024, .f32⟩
  | 12 => ⟨S1x1024, .f32⟩
  | 13 => ⟨S_, .f32⟩
  | 14 => ⟨S5x1024, .f32⟩
  | 15 => ⟨S8x1024, .f32⟩
  | 16 => ⟨S8192x512, .f32⟩
  | 17 => ⟨S8192x1x512, .f32⟩
  | 18 => ⟨S1x8192x512, .f32⟩
  | 19 => ⟨S1x8192x512, .bf16⟩
  | 20 => ⟨S8192x512, .f32⟩
  | 21 => ⟨S2048x4x512, .f32⟩
  | 22 => ⟨S4x2048x512, .f32⟩
  | 23 => ⟨S4x2048x512, .bf16⟩
  | 24 => ⟨S8192x512, .f32⟩
  | 25 => ⟨S512x16x512, .f32⟩
  | 26 => ⟨S16x512x512, .f32⟩
  | 27 => ⟨S16x512x512, .bf16⟩
  | 28 => ⟨S1536x1024, .f32⟩
  | 29 => ⟨S1536x1024, .bf16⟩
  | 30 => ⟨S128, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S128, .i32⟩
  | 38 => ⟨S128, .i32⟩
  | 39 => ⟨S_, .i32⟩
  | 40 => ⟨S128, .i32⟩
  | 41 => ⟨S128, .i1⟩
  | 42 => ⟨S_, .i32⟩
  | 43 => ⟨S128, .i32⟩
  | 44 => ⟨S128, .i1⟩
  | 45 => ⟨S_, .i32⟩
  | 46 => ⟨S_, .i1⟩
  | 47 => ⟨S128, .i1⟩
  | 48 => ⟨S128, .i1⟩
  | 49 => ⟨S128, .i1⟩
  | 50 => ⟨S128, .i32⟩
  | 51 => ⟨S128, .i32⟩
  | 52 => ⟨S128, .i32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S_, .i32⟩
  | 68 => ⟨S128, .i32⟩
  | 69 => ⟨S128, .i1⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S128, .i32⟩
  | 77 => ⟨S128, .i32⟩
  | 78 => ⟨S_, .i32⟩
  | 79 => ⟨S128, .i32⟩
  | 80 => ⟨S128, .i1⟩
  | 81 => ⟨S_, .i32⟩
  | 82 => ⟨S128, .i32⟩
  | 83 => ⟨S128, .i1⟩
  | 84 => ⟨S_, .i32⟩
  | 85 => ⟨S_, .i1⟩
  | 86 => ⟨S128, .i1⟩
  | 87 => ⟨S128, .i1⟩
  | 88 => ⟨S128, .i1⟩
  | 89 => ⟨S128, .i32⟩
  | 90 => ⟨S128, .i32⟩
  | 91 => ⟨S128, .i32⟩
  | 92 => ⟨S_, .i32⟩
  | 93 => ⟨S128, .i32⟩
  | 94 => ⟨S128, .i1⟩
  | 95 => ⟨S_, .i32⟩
  | 96 => ⟨S128, .i32⟩
  | 97 => ⟨S128, .i32⟩
  | 98 => ⟨S128, .i32⟩
  | 99 => ⟨S128x1, .i32⟩
  | 100 => ⟨S128, .f32⟩
  | 101 => ⟨S_, .f32⟩
  | 102 => ⟨S_, .f32⟩
  | 103 => ⟨S128, .f32⟩
  | 104 => ⟨S128, .f32⟩
  | 105 => ⟨S8192, .f32⟩
  | 106 => ⟨S8192x1, .f32⟩
  | 107 => ⟨S1x128, .f32⟩
  | 108 => ⟨S8192x128, .f32⟩
  | 109 => ⟨S8192x128, .f32⟩
  | 110 => ⟨S8192x128, .f32⟩
  | 111 => ⟨S8192x128, .f32⟩
  | 112 => ⟨S8192x128, .f32⟩
  | 113 => ⟨S_, .i32⟩
  | 114 => ⟨S128, .i32⟩
  | 115 => ⟨S128, .i1⟩
  | 116 => ⟨S1x128, .i1⟩
  | 117 => ⟨S_, .f32⟩
  | 118 => ⟨S_, .f32⟩
  | 119 => ⟨S8192x128, .i1⟩
  | 120 => ⟨S8192x128, .f32⟩
  | 121 => ⟨S8192x128, .f32⟩
  | 122 => ⟨S_, .i32⟩
  | 123 => ⟨S128, .i32⟩
  | 124 => ⟨S128, .i1⟩
  | 125 => ⟨S_, .i32⟩
  | 126 => ⟨S128, .i32⟩
  | 127 => ⟨S128, .i1⟩
  | _ => ⟨S8192x1024, .f32⟩

abbrev hbmTy0_1 (i : Nat) : BufTy := match i % 128 with
  | 0 => ⟨S128, .i1⟩
  | 1 => ⟨S1x128, .i1⟩
  | 2 => ⟨S_, .f32⟩
  | 3 => ⟨S_, .f32⟩
  | 4 => ⟨S8192x128, .i1⟩
  | 5 => ⟨S8192x128, .f32⟩
  | 6 => ⟨S8192x128, .f32⟩
  | 7 => ⟨S_, .i32⟩
  | 8 => ⟨S128, .i32⟩
  | 9 => ⟨S128, .i1⟩
  | 10 => ⟨S1x128, .i1⟩
  | 11 => ⟨S8192x128, .f32⟩
  | 12 => ⟨S_, .f32⟩
  | 13 => ⟨S_, .f32⟩
  | 14 => ⟨S8192x128, .i1⟩
  | 15 => ⟨S8192x128, .f32⟩
  | 16 => ⟨S8192x128, .f32⟩
  | 17 => ⟨S8192x1024, .f32⟩
  | 18 => ⟨S8192x1536, .bf16⟩
  | 19 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1x512x512, .bf16⟩
  | .local _ .vmem, ⟨1, _⟩ => ⟨S1x512x512, .bf16⟩
  | .local _ .vmem, ⟨2, _⟩ => ⟨S4x128x512, .bf16⟩
  | .local _ .vmem, ⟨3, _⟩ => ⟨S4x128x512, .bf16⟩
  | .local _ .vmem, ⟨4, _⟩ => ⟨S16x32x512, .bf16⟩
  | .local _ .vmem, ⟨5, _⟩ => ⟨S16x32x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S1536x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .f32⟩
  | .local _ .vmem, ⟨19, _⟩ => ⟨S512x1024, .f32⟩
  | .local _ .vmem, ⟨20, _⟩ => ⟨S512x1536, .bf16⟩
  | .local _ .vmem, ⟨21, _⟩ => ⟨S512x1536, .bf16⟩
  | .local _ .vmem, ⟨22, _⟩ => ⟨S8x1024, .f32⟩
  | .local _ .vmem, ⟨23, _⟩ => ⟨S4x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v20 : Ref sig .tc := ⟨.hbm, 52, rfl⟩
abbrev main_v21 : Ref sig .tc := ⟨.hbm, 53, rfl⟩
abbrev main_cst_0 : Ref sig .tc := ⟨.hbm, 54, rfl⟩
abbrev main_v22 : Ref sig .tc := ⟨.hbm, 55, rfl⟩
abbrev main_v23 : Ref sig .tc := ⟨.hbm, 56, rfl⟩
abbrev main_cst_1 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_2 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_v30 : Ref sig .tc := ⟨.hbm, 66, rfl⟩
abbrev main_c_4 : Ref sig .tc := ⟨.hbm, 67, rfl⟩
abbrev main_v31 : Ref sig .tc := ⟨.hbm, 68, rfl⟩
abbrev main_v32 : Ref sig .tc := ⟨.hbm, 69, rfl⟩
abbrev main_c_5 : Ref sig .tc := ⟨.hbm, 70, rfl⟩
abbrev main_call1_v0 : Ref sig .tc := ⟨.hbm, 71, rfl⟩
abbrev main_call1_c : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_c_1 : Ref sig .tc := ⟨.hbm, 78, rfl⟩
abbrev main_call1_v5 : Ref sig .tc := ⟨.hbm, 79, rfl⟩
abbrev main_call1_v6 : Ref sig .tc := ⟨.hbm, 80, rfl⟩
abbrev main_call1_c_2 : Ref sig .tc := ⟨.hbm, 81, rfl⟩
abbrev main_call1_v7 : Ref sig .tc := ⟨.hbm, 82, rfl⟩
abbrev main_call1_v8 : Ref sig .tc := ⟨.hbm, 83, rfl⟩
abbrev main_call1_c_3 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_v33 : Ref sig .tc := ⟨.hbm, 91, rfl⟩
abbrev main_c_6 : Ref sig .tc := ⟨.hbm, 92, rfl⟩
abbrev main_v34 : Ref sig .tc := ⟨.hbm, 93, rfl⟩
abbrev main_v35 : Ref sig .tc := ⟨.hbm, 94, rfl⟩
abbrev main_c_7 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_cst_8 : Ref sig .tc := ⟨.hbm, 101, rfl⟩
abbrev main_call2_v0 : Ref sig .tc := ⟨.hbm, 102, rfl⟩
abbrev main_call2_v1 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_c_9 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_10 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_v53 : Ref sig .tc := ⟨.hbm, 121, rfl⟩
abbrev main_c_11 : Ref sig .tc := ⟨.hbm, 122, rfl⟩
abbrev main_v54 : Ref sig .tc := ⟨.hbm, 123, rfl⟩
abbrev main_v55 : Ref sig .tc := ⟨.hbm, 124, rfl⟩
abbrev main_c_12 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_cst_13 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v60 : Ref sig .tc := ⟨.hbm, 134, rfl⟩
abbrev main_c_14 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_cst_15 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_v65 : Ref sig .tc := ⟨.hbm, 144, rfl⟩
abbrev main_v66_0 : Ref sig .tc := ⟨.hbm, 145, rfl⟩
abbrev main_v66_1 : Ref sig .tc := ⟨.hbm, 146, rfl⟩
abbrev main_v66_2 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v477 : BitVec 1 := Scalar.cmpi .eq arg0 c0_i32
  let v478 : BitVec 32 := Scalar.extui v477
  let c0_i32_343 : BitVec 32 := 0#32
  let v479 : BitVec 1 := Scalar.cmpi .ne v478 c0_i32_343
  v479

def k0_cond2 (i : grid0.Coords) : BitVec 1 :=
  let arg0 : BitVec 32 := BitVec.ofNat 32 (i 0).val
  let c0_i32 : BitVec 32 := 0#32
  let v477 : BitVec 1 := Scalar.cmpi .eq arg0 c0_i32
  let v_true : BitVec 1 := 1#1
  let v480 : BitVec 1 := Scalar.xori v477 v_true
  let v481 : BitVec 32 := Scalar.extui v480
  let c0_i32_344 : BitVec 32 := 0#32
  let v482 : BitVec 1 := Scalar.cmpi .ne v481 c0_i32_344
  v482

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== QbRefIdeal.lean ====
abbrev S8192x1024 : Shape := ⟨2, ![8192, 1024]⟩
abbrev S1024 : Shape := ⟨1, ![1024]⟩
abbrev S1024x1536 : Shape := ⟨2, ![1024, 1536]⟩
abbrev S8192 : Shape := ⟨1, ![8192]⟩
abbrev S8192x8x64 : Shape := ⟨3, ![8192, 8, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S1x1024 : Shape := ⟨2, ![1, 1024]⟩
abbrev S8192x1536 : Shape := ⟨2, ![8192, 1536]⟩
abbrev S8192x24x64 : Shape := ⟨3, ![8192, 24, 64]⟩
abbrev S8192x24x8 : Shape := ⟨3, ![8192, 24, 8]⟩
abbrev S8192x24x48 : Shape := ⟨3, ![8192, 24, 48]⟩
abbrev S5x1024 : Shape := ⟨2, ![5, 1024]⟩
abbrev S8x1024 : Shape := ⟨2, ![8, 1024]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024x1536, .f32⟩
  | 5 => ⟨S8192, .i32⟩
  | 6 => ⟨S8192x8x64, .f32⟩
  | 7 => ⟨S8192x8x64, .f32⟩
  | 8 => ⟨S8192x8x64, .f32⟩
  | 9 => ⟨S8192x1024, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S8192, .f32⟩
  | 25 => ⟨S8192x1, .f32⟩
  | 26 => ⟨S1x8, .f32⟩
  | 27 => ⟨S8192x8, .f32⟩
  | 28 => ⟨S8192x8, .f32⟩
  | 29 => ⟨S8192x8, .f32⟩
  | 30 => ⟨S8192x8, .f32⟩
  | 31 => ⟨S8192x1x8, .f32⟩
  | 32 => ⟨S8192x8, .f32⟩
  | 33 => ⟨S8192x1x8, .f32⟩
  | 34 => ⟨S8192x1024, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S1x1024, .f32⟩
  | 52 => ⟨S8192x1024, .f32⟩
  | 53 => ⟨S8192x1024, .f32⟩
  | 54 => ⟨S1x1024, .f32⟩
  | 55 => ⟨S_, .f32⟩
  | 56 => ⟨S1x1024, .f32⟩
  | 57 => ⟨S1x1024, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S8192x1536, .f32⟩
  | 64 => ⟨S8192x1536, .f32⟩
  | 65 => ⟨S8192x24x64, .f32⟩
  | 66 => ⟨S8192x24x8, .f32⟩
  | 67 => ⟨S8192x24x8, .f32⟩
  | 68 => ⟨S8192x24x8, .f32⟩
  | 69 => ⟨S8192x24x8, .f32⟩
  | 70 => ⟨S8192x24x8, .f32⟩
  | 71 => ⟨S8192x24x8, .f32⟩
  | 72 => ⟨S8192x24x8, .f32⟩
  | 73 => ⟨S8192x24x8, .f32⟩
  | 74 => ⟨S8192x24x8, .f32⟩
  | 75 => ⟨S8192x24x8, .f32⟩
  | 76 => ⟨S8192x24x8, .f32⟩
  | 77 => ⟨S8192x24x8, .f32⟩
  | 78 => ⟨S8192x24x48, .f32⟩
  | 79 => ⟨S8192x24x64, .f32⟩
  | 80 => ⟨S8192x24x64, .f32⟩
  | 81 => ⟨S8192x24x8, .f32⟩
  | 82 => ⟨S8192x24x8, .f32⟩
  | 83 => ⟨S8192x24x48, .f32⟩
  | 84 => ⟨S_, .f32⟩
  | 85 => ⟨S8192x24x64, .f32⟩
  | 86 => ⟨S8192x24x8, .f32⟩
  | 87 => ⟨S8192x24x8, .f32⟩
  | 88 => ⟨S8192x24x8, .f32⟩
  | 89 => ⟨S8192x24x8, .f32⟩
  | 90 => ⟨S8192x24x8, .f32⟩
  | 91 => ⟨S8192x24x8, .f32⟩
  | 92 => ⟨S8192x24x8, .f32⟩
  | 93 => ⟨S8192x24x8, .f32⟩
  | 94 => ⟨S8192x24x8, .f32⟩
  | 95 => ⟨S8192x24x8, .f32⟩
  | 96 => ⟨S8192x24x8, .f32⟩
  | 97 => ⟨S_, .f32⟩
  | 98 => ⟨S8192x24x64, .f32⟩
  | 99 => ⟨S8192x24x64, .f32⟩
  | 100 => ⟨S_, .f32⟩
  | 101 => ⟨S8192x24x64, .f32⟩
  | 102 => ⟨S8192x24x64, .f32⟩
  | 103 => ⟨S8192x1536, .f32⟩
  | 104 => ⟨S8192x1024, .f32⟩
  | 105 => ⟨S_, .f32⟩
  | 106 => ⟨S1024, .f32⟩
  | 107 => ⟨S1x1024, .f32⟩
  | 108 => ⟨S_, .f32⟩
  | 109 => ⟨S1024, .f32⟩
  | 110 => ⟨S8192x1024, .f32⟩
  | 111 => ⟨S_, .f32⟩
  | 112 => ⟨S1024, .f32⟩
  | 113 => ⟨S1x1024, .f32⟩
  | 114 => ⟨S8192x1024, .f32⟩
  | 115 => ⟨S8192x1024, .f32⟩
  | 116 => ⟨S_, .f32⟩
  | 117 => ⟨S1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S_, .f32⟩
  | 125 => ⟨S1024, .f32⟩
  | 126 => ⟨S8192x1024, .f32⟩
  | 127 => ⟨S_, .f32⟩
  | _ => ⟨S8192x1024, .f32⟩

abbrev hbmTy0_1 (i : Nat) : BufTy := match i % 128 with
  | 0 => ⟨S8192, .f32⟩
  | 1 => ⟨S8192x1, .f32⟩
  | 2 => ⟨S8192x1024, .f32⟩
  | 3 => ⟨S8192x1024, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1536, .bf16⟩
  | 17 => ⟨S1x1024, .f32⟩
  | 18 => ⟨S1x1024, .f32⟩
  | 19 => ⟨S1x1024, .f32⟩
  | 20 => ⟨S_, .f32⟩
  | 21 => ⟨S5x1024, .f32⟩
  | 22 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_9 : Ref sig .tc := ⟨.hbm, 97, rfl⟩
abbrev main_v77 : Ref sig .tc := ⟨.hbm, 98, rfl⟩
abbrev main_v78 : Ref sig .tc := ⟨.hbm, 99, rfl⟩
abbrev main_cst_10 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_11 : Ref sig .tc := ⟨.hbm, 105, rfl⟩
abbrev main_v83 : Ref sig .tc := ⟨.hbm, 106, rfl⟩
abbrev main_v84 : Ref sig .tc := ⟨.hbm, 107, rfl⟩
abbrev main_cst_12 : Ref sig .tc := ⟨.hbm, 108, rfl⟩
abbrev main_v85 : Ref sig .tc := ⟨.hbm, 109, rfl⟩
abbrev main_v86 : Ref sig .tc := ⟨.hbm, 110, rfl⟩
abbrev main_cst_13 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_14 : Ref sig .tc := ⟨.hbm, 116, rfl⟩
abbrev main_v91 : Ref sig .tc := ⟨.hbm, 117, rfl⟩
abbrev main_v92 : Ref sig .tc := ⟨.hbm, 118, rfl⟩
abbrev main_cst_15 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_16 : Ref sig .tc := ⟨.hbm, 124, rfl⟩
abbrev main_v97 : Ref sig .tc := ⟨.hbm, 125, rfl⟩
abbrev main_v98 : Ref sig .tc := ⟨.hbm, 126, rfl⟩
abbrev main_cst_17 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_18 : Ref sig .tc := ⟨.hbm, 133, rfl⟩
abbrev main_v104 : Ref sig .tc := ⟨.hbm, 134, rfl⟩
abbrev main_v105 : Ref sig .tc := ⟨.hbm, 135, rfl⟩
abbrev main_cst_19 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_20 : Ref sig .tc := ⟨.hbm, 148, rfl⟩
abbrev main_v117 : Ref sig .tc := ⟨.hbm, 149, rfl⟩
abbrev main_v118 : Ref sig .tc := ⟨.hbm, 150, rfl⟩

abbrev nD : Nat := 1
abbrev τ : Topo := Topo.v7x

variable {F : FTy → Type} [FloatOps F]
-- ==== Kvb.lean ====
abbrev S8192x1024 : Shape := ⟨2, ![8192, 1024]⟩
abbrev S1024 : Shape := ⟨1, ![1024]⟩
abbrev S1024x3072 : Shape := ⟨2, ![1024, 3072]⟩
abbrev S8192 : Shape := ⟨1, ![8192]⟩
abbrev S8192x8x64 : Shape := ⟨3, ![8192, 8, 64]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S8192x512 : Shape := ⟨2, ![8192, 512]⟩
abbrev S8192x1x512 : Shape := ⟨3, ![8192, 1, 512]⟩
abbrev S1x8192x512 : Shape := ⟨3, ![1, 8192, 512]⟩
abbrev S2048x4x512 : Shape := ⟨3, ![2048, 4, 512]⟩
abbrev S4x2048x512 : Shape := ⟨3, ![4, 2048, 512]⟩
abbrev S512x16x512 : Shape := ⟨3, ![512, 16, 512]⟩
abbrev S16x512x512 : Shape := ⟨3, ![16, 512, 512]⟩
abbrev S128 : Shape := ⟨1, ![128]⟩
abbrev S8 : Shape := ⟨1, ![8]⟩
abbrev S128x1 : Shape := ⟨2, ![128, 1]⟩
abbrev S8192x1 : Shape := ⟨2, ![8192, 1]⟩
abbrev S1x128 : Shape := ⟨2, ![1, 128]⟩
abbrev S8192x128 : Shape := ⟨2, ![8192, 128]⟩
abbrev S8192x3072 : Shape := ⟨2, ![8192, 3072]⟩
abbrev S1x512x512 : Shape := ⟨3, ![1, 512, 512]⟩
abbrev S4x128x512 : Shape := ⟨3, ![4, 128, 512]⟩
abbrev S16x32x512 : Shape := ⟨3, ![16, 32, 512]⟩
abbrev S512x1024 : Shape := ⟨2, ![512, 1024]⟩
abbrev S512x128 : Shape := ⟨2, ![512, 128]⟩
abbrev S512x3072 : Shape := ⟨2, ![512, 3072]⟩
abbrev S4x512x128 : Shape := ⟨3, ![4, 512, 128]⟩
abbrev S512x512 : Shape := ⟨2, ![512, 512]⟩
abbrev S1x128x512 : Shape := ⟨3, ![1, 128, 512]⟩
abbrev S128x512 : Shape := ⟨2, ![128, 512]⟩
abbrev S128x128 : Shape := ⟨2, ![128, 128]⟩
abbrev S1x128x128 : Shape := ⟨3, ![1, 128, 128]⟩
abbrev S1x512x128 : Shape := ⟨3, ![1, 512, 128]⟩
abbrev S1x32x512 : Shape := ⟨3, ![1, 32, 512]⟩
abbrev S32x512 : Shape := ⟨2, ![32, 512]⟩
abbrev S32x128 : Shape := ⟨2, ![32, 128]⟩
abbrev S1x32x128 : Shape := ⟨3, ![1, 32, 128]⟩
abbrev S512x1536 : Shape := ⟨2, ![512, 1536]⟩
abbrev S512 : Shape := ⟨1, ![512]⟩
abbrev S512x1 : Shape := ⟨2, ![512, 1]⟩

abbrev nBuf : Space → Nat
  | .hbm => 162
  | .vmem => 30
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024x3072, .f32⟩
  | 5 => ⟨S8192, .i32⟩
  | 6 => ⟨S8192x8x64, .f32⟩
  | 7 => ⟨S8192x8x64, .f32⟩
  | 8 => ⟨S8192x8x64, .f32⟩
  | 9 => ⟨S8192x8x64, .f32⟩
  | 10 => ⟨S8192x8x64, .f32⟩
  | 11 => ⟨S8192x8x64, .f32⟩
  | 12 => ⟨S8192x1024, .f32⟩
  | 13 => ⟨S1x1024, .f32⟩
  | 14 => ⟨S1x1024, .f32⟩
  | 15 => ⟨S1x1024, .f32⟩
  | 16 => ⟨S_, .f32⟩
  | 17 => ⟨S5x1024, .f32⟩
  | 18 => ⟨S8x1024, .f32⟩
  | 19 => ⟨S8192x512, .f32⟩
  | 20 => ⟨S8192x1x512, .f32⟩
  | 21 => ⟨S1x8192x512, .f32⟩
  | 22 => ⟨S1x8192x512, .bf16⟩
  | 23 => ⟨S8192x512, .f32⟩
  | 24 => ⟨S2048x4x512, .f32⟩
  | 25 => ⟨S4x2048x512, .f32⟩
  | 26 => ⟨S4x2048x512, .bf16⟩
  | 27 => ⟨S8192x512, .f32⟩
  | 28 => ⟨S512x16x512, .f32⟩
  | 29 => ⟨S16x512x512, .f32⟩
  | 30 => ⟨S16x512x512, .bf16⟩
  | 31 => ⟨S8192x512, .f32⟩
  | 32 => ⟨S8192x1x512, .f32⟩
  | 33 => ⟨S1x8192x512, .f32⟩
  | 34 => ⟨S1x8192x512, .bf16⟩
  | 35 => ⟨S8192x512, .f32⟩
  | 36 => ⟨S2048x4x512, .f32⟩
  | 37 => ⟨S4x2048x512, .f32⟩
  | 38 => ⟨S4x2048x512, .bf16⟩
  | 39 => ⟨S8192x512, .f32⟩
  | 40 => ⟨S512x16x512, .f32⟩
  | 41 => ⟨S16x512x512, .f32⟩
  | 42 => ⟨S16x512x512, .bf16⟩
  | 43 => ⟨S1024x3072, .bf16⟩
  | 44 => ⟨S128, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S128, .i32⟩
  | 52 => ⟨S128, .i32⟩
  | 53 => ⟨S_, .i32⟩
  | 54 => ⟨S128, .i32⟩
  | 55 => ⟨S128, .i1⟩
  | 56 => ⟨S_, .i32⟩
  | 57 => ⟨S128, .i32⟩
  | 58 => ⟨S128, .i1⟩
  | 59 => ⟨S_, .i32⟩
  | 60 => ⟨S_, .i1⟩
  | 61 => ⟨S128, .i1⟩
  | 62 => ⟨S128, .i1⟩
  | 63 => ⟨S128, .i1⟩
  | 64 => ⟨S128, .i32⟩
  | 65 => ⟨S128, .i32⟩
  | 66 => ⟨S128, .i32⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S_, .i32⟩
  | 82 => ⟨S128, .i32⟩
  | 83 => ⟨S128, .i1⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S128, .i32⟩
  | 91 => ⟨S128, .i32⟩
  | 92 => ⟨S_, .i32⟩
  | 93 => ⟨S128, .i32⟩
  | 94 => ⟨S128, .i1⟩
  | 95 => ⟨S_, .i32⟩
  | 96 => ⟨S128, .i32⟩
  | 97 => ⟨S128, .i1⟩
  | 98 => ⟨S_, .i32⟩
  | 99 => ⟨S_, .i1⟩
  | 100 => ⟨S128, .i1⟩
  | 101 => ⟨S128, .i1⟩
  | 102 => ⟨S128, .i1⟩
  | 103 => ⟨S128, .i32⟩
  | 104 => ⟨S128, .i32⟩
  | 105 => ⟨S128, .i32⟩
  | 106 => ⟨S_, .i32⟩
  | 107 => ⟨S128, .i32⟩
  | 108 => ⟨S128, .i1⟩
  | 109 => ⟨S_, .i32⟩
  | 110 => ⟨S128, .i32⟩
  | 111 => ⟨S128, .i32⟩
  | 112 => ⟨S128, .i32⟩
  | 113 => ⟨S128x1, .i32⟩
  | 114 => ⟨S128, .f32⟩
  | 115 => ⟨S_, .f32⟩
  | 116 => ⟨S_, .f32⟩
  | 117 => ⟨S128, .f32⟩
  | 118 => ⟨S128, .f32⟩
  | 119 => ⟨S8192, .f32⟩
  | 120 => ⟨S8192x1, .f32⟩
  | 121 => ⟨S1x128, .f32⟩
  | 122 => ⟨S8192x128, .f32⟩
  | 123 => ⟨S8192x128, .f32⟩
  | 124 => ⟨S8192x128, .f32⟩
  | 125 => ⟨S8192x128, .f32⟩
  | 126 => ⟨S8192x128, .f32⟩
  | 127 => ⟨S_, .i32⟩
  | _ => ⟨S8192x1024, .f32⟩

abbrev hbmTy0_1 (i : Nat) : BufTy := match i % 128 with
  | 0 => ⟨S128, .i32⟩
  | 1 => ⟨S128, .i1⟩
  | 2 => ⟨S1x128, .i1⟩
  | 3 => ⟨S_, .f32⟩
  | 4 => ⟨S_, .f32⟩
  | 5 => ⟨S8192x128, .i1⟩
  | 6 => ⟨S8192x128, .f32⟩
  | 7 => ⟨S8192x128, .f32⟩
  | 8 => ⟨S_, .i32⟩
  | 9 => ⟨S128, .i32⟩
  | 10 => ⟨S128, .i1⟩
  | 11 => ⟨S_, .i32⟩
  | 12 => ⟨S128, .i32⟩
  | 13 => ⟨S128, .i1⟩
  | 14 => ⟨S128, .i1⟩
  | 15 => ⟨S1x128, .i1⟩
  | 16 => ⟨S_, .f32⟩
  | 17 => ⟨S_, .f32⟩
  | 18 => ⟨S8192x128, .i1⟩
  | 19 => ⟨S8192x128, .f32⟩
  | 20 => ⟨S8192x128, .f32⟩
  | 21 => ⟨S_, .i32⟩
  | 22 => ⟨S128, .i32⟩
  | 23 => ⟨S128, .i1⟩
  | 24 => ⟨S1x128, .i1⟩
  | 25 => ⟨S8192x128, .f32⟩
  | 26 => ⟨S_, .f32⟩
  | 27 => ⟨S_, .f32⟩
  | 28 => ⟨S8192x128, .i1⟩
  | 29 => ⟨S8192x128, .f32⟩
  | 30 => ⟨S8192x128, .f32⟩
  | 31 => ⟨S8192x1024, .f32⟩
  | 32 => ⟨S8192x3072, .bf16⟩
  | 33 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1x512x512, .bf16⟩
  | .local _ .vmem, ⟨1, _⟩ => ⟨S1x512x512, .bf16⟩
  | .local _ .vmem, ⟨2, _⟩ => ⟨S4x128x512, .bf16⟩
  | .local _ .vmem, ⟨3, _⟩ => ⟨S4x128x512, .bf16⟩
  | .local _ .vmem, ⟨4, _⟩ => ⟨S16x32x512, .bf16⟩
  | .local _ .vmem, ⟨5, _⟩ => ⟨S16x32x512, .bf16⟩
  | .local _ .vmem, ⟨6, _⟩ => ⟨S1x512x512, .bf16⟩
  | .local _ .vmem, ⟨7, _⟩ => ⟨S1x512x512, .bf16⟩
  | .local _ .vmem, ⟨8, _⟩ => ⟨S4x128x512, .bf16⟩
  | .local _ .vmem, ⟨9, _⟩ => ⟨S4x128x512, .bf16⟩
  | .local _ .vmem, ⟨10, _⟩ => ⟨S16x32x512, .bf16⟩
  | .local _ .vmem, ⟨11, _⟩ => ⟨S16x32x512, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S1024x3072, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x1024, .f32⟩
  | .local _ .vmem, ⟨25, _⟩ => ⟨S512x1024, .f32⟩
  | .local _ .vmem, ⟨26, _⟩ => ⟨S512x3072, .bf16⟩
  | .local _ .vmem, ⟨27, _⟩ => ⟨S512x3072, .bf16⟩
  | .local _ .vmem, ⟨28, _⟩ => ⟨S8x1024, .f32⟩
  | .local _ .vmem, ⟨29, _⟩ => ⟨S4x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_1 : Ref sig .tc := ⟨.hbm, 53, rfl⟩
abbrev main_call0_v5 : Ref sig .tc := ⟨.hbm, 54, rfl⟩
abbrev main_call0_v6 : Ref sig .tc := ⟨.hbm, 55, rfl⟩
abbrev main_call0_c_2 : Ref sig .tc := ⟨.hbm, 56, rfl⟩
abbrev main_call0_v7 : Ref sig .tc := ⟨.hbm, 57, rfl⟩
abbrev main_call0_v8 : Ref sig .tc := ⟨.hbm, 58, rfl⟩
abbrev main_call0_c_3 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_v31 : Ref sig .tc := ⟨.hbm, 66, rfl⟩
abbrev main_v32 : Ref sig .tc := ⟨.hbm, 67, rfl⟩
abbrev main_cst_0 : Ref sig .tc := ⟨.hbm, 68, rfl⟩
abbrev main_v33 : Ref sig .tc := ⟨.hbm, 69, rfl⟩
abbrev main_v34 : Ref sig .tc := ⟨.hbm, 70, rfl⟩
abbrev main_cst_1 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_2 : Ref sig .tc := ⟨.hbm, 75, rfl⟩
abbrev main_v38 : Ref sig .tc := ⟨.hbm, 76, rfl⟩
abbrev main_v39 : Ref sig .tc := ⟨.hbm, 77, rfl⟩
abbrev main_cst_3 : Ref sig .tc := ⟨.hbm, 78, rfl⟩
abbrev main_v40 : Ref sig .tc := ⟨.hbm, 79, rfl⟩
abbrev main_v41 : Ref sig .tc := ⟨.hbm, 80, rfl⟩
abbrev main_c_4 : Ref sig .tc := ⟨.hbm, 81, rfl⟩
abbrev main_v42 : Ref sig .tc := ⟨.hbm, 82, rfl⟩
abbrev main_v43 : Ref sig .tc := ⟨.hbm, 83, rfl⟩
abbrev main_c_5 : Ref sig .tc := ⟨.hbm, 84, rfl⟩
abbrev main_call1_v0 : Ref sig .tc := ⟨.hbm, 85, rfl⟩
abbrev main_call1_c : Ref sig .tc := ⟨.hbm, 86, rfl⟩
abbrev main_call1_v1 : Ref sig .tc := ⟨.hbm, 87, rfl⟩
abbrev main_call1_c_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_c_1 : Ref sig .tc := ⟨.hbm, 92, rfl⟩
abbrev main_call1_v5 : Ref sig .tc := ⟨.hbm, 93, rfl⟩
abbrev main_call1_v6 : Ref sig .tc := ⟨.hbm, 94, rfl⟩
abbrev main_call1_c_2 : Ref sig .tc := ⟨.hbm, 95, rfl⟩
abbrev main_call1_v7 : Ref sig .tc := ⟨.hbm, 96, rfl⟩
abbrev main_call1_v8 : Ref sig .tc := ⟨.hbm, 97, rfl⟩
abbrev main_call1_c_3 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_v12 : Ref sig .tc := ⟨.hbm, 102, rfl⟩
abbrev main_call1_v13 : Ref sig .tc := ⟨.hbm, 103, rfl⟩
abbrev main_call1_v14 : Ref sig .tc := ⟨.hbm, 104, rfl⟩
abbrev main_v44 : Ref sig .tc := ⟨.hbm, 105, rfl⟩
abbrev main_c_6 : Ref sig .tc := ⟨.hbm, 106, rfl⟩
abbrev main_v45 : Ref sig .tc := ⟨.hbm, 107, rfl⟩
abbrev main_v46 : Ref sig .tc := ⟨.hbm, 108, rfl⟩
abbrev main_c_7 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_cst_8 : Ref sig .tc := ⟨.hbm, 115, rfl⟩
abbrev main_call2_v0 : Ref sig .tc := ⟨.hbm, 116, rfl⟩
abbrev main_call2_v1 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_c_9 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_cst_10 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v64 : Ref sig .tc := ⟨.hbm, 135, rfl⟩
abbrev main_c_11 : Ref sig .tc := ⟨.hbm, 136, rfl⟩
abbrev main_v65 : Ref sig .tc := ⟨.hbm, 137, rfl⟩
abbrev main_v66 : Ref sig .tc := ⟨.hbm, 138, rfl⟩
abbrev main_c_12 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_cst_13 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_v71 : Ref sig .tc := ⟨.hbm, 148, rfl⟩
abbrev main_c_14 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_cst_15 : Ref sig .tc := ⟨.hbm, 154, rfl⟩
abbrev main_call5_v0 : Ref sig .tc := ⟨.hbm, 155, rfl⟩
abbrev main_call5_v1 : Ref sig .tc := ⟨.hbm, 156, rfl⟩
abbrev main_call5_v2 : Ref sig .tc := ⟨.hbm, 157, rfl⟩
abbrev main_v76 : Ref sig .tc := ⟨.hbm, 158, rfl⟩
abbrev main_v77_0 : Ref sig .tc := ⟨.hbm, 159, rfl⟩
abbrev main_v77_1 : Ref sig .tc := ⟨.hbm, 160, rfl⟩
abbrev main_v77_2 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v881 : BitVec 1 := Scalar.cmpi .eq arg0 c0_i32
  let v882 : BitVec 32 := Scalar.extui v881
  let c0_i32_670 : BitVec 32 := 0#32
  let v883 : BitVec 1 := Scalar.cmpi .ne v882 c0_i32_670
  v883

def k0_cond2 (i : grid0.Coords) : BitVec 1 :=
  let arg0 : BitVec 32 := BitVec.ofNat 32 (i 0).val
  let c0_i32 : BitVec 32 := 0#32
  let v881 : BitVec 1 := Scalar.cmpi .eq arg0 c0_i32
  let v_true : BitVec 1 := 1#1
  let v884 : BitVec 1 := Scalar.xori v881 v_true
  let v885 : BitVec 32 := Scalar.extui v884
  let c0_i32_671 : BitVec 32 := 0#32
  let v886 : BitVec 1 := Scalar.cmpi .ne v885 c0_i32_671
  v886

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KvbRefIdeal.lean ====
abbrev S8192x1024 : Shape := ⟨2, ![8192, 1024]⟩
abbrev S1024 : Shape := ⟨1, ![1024]⟩
abbrev S1024x3072 : Shape := ⟨2, ![1024, 3072]⟩
abbrev S8192 : Shape := ⟨1, ![8192]⟩
abbrev S8192x8x64 : Shape := ⟨3, ![8192, 8, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S1x1024 : Shape := ⟨2, ![1, 1024]⟩
abbrev S8192x3072 : Shape := ⟨2, ![8192, 3072]⟩
abbrev S8192x1536 : Shape := ⟨2, ![8192, 1536]⟩
abbrev S8192x24x64 : Shape := ⟨3, ![8192, 24, 64]⟩
abbrev S8192x24x8 : Shape := ⟨3, ![8192, 24, 8]⟩
abbrev S8192x24x48 : Shape := ⟨3, ![8192, 24, 48]⟩
abbrev S5x1024 : Shape := ⟨2, ![5, 1024]⟩
abbrev S8x1024 : Shape := ⟨2, ![8, 1024]⟩

abbrev nBuf : Space → Nat
  | .hbm => 159
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024x3072, .f32⟩
  | 5 => ⟨S8192, .i32⟩
  | 6 => ⟨S8192x8x64, .f32⟩
  | 7 => ⟨S8192x8x64, .f32⟩
  | 8 => ⟨S8192x8x64, .f32⟩
  | 9 => ⟨S8192x8x64, .f32⟩
  | 10 => ⟨S8192x8x64, .f32⟩
  | 11 => ⟨S8192x8x64, .f32⟩
  | 12 => ⟨S8192x1024, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S8192, .f32⟩
  | 28 => ⟨S8192x1, .f32⟩
  | 29 => ⟨S1x8, .f32⟩
  | 30 => ⟨S8192x8, .f32⟩
  | 31 => ⟨S8192x8, .f32⟩
  | 32 => ⟨S8192x8, .f32⟩
  | 33 => ⟨S8192x8, .f32⟩
  | 34 => ⟨S8192x1x8, .f32⟩
  | 35 => ⟨S8192x8, .f32⟩
  | 36 => ⟨S8192x1x8, .f32⟩
  | 37 => ⟨S8192x1024, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1024, .f32⟩
  | 53 => ⟨S8192x1024, .f32⟩
  | 54 => ⟨S1x1024, .f32⟩
  | 55 => ⟨S8192x1024, .f32⟩
  | 56 => ⟨S8192x1024, .f32⟩
  | 57 => ⟨S1x1024, .f32⟩
  | 58 => ⟨S_, .f32⟩
  | 59 => ⟨S1x1024, .f32⟩
  | 60 => ⟨S1x1024, .f32⟩
  | 61 => ⟨S8192x1024, .f32⟩
  | 62 => ⟨S8192x1024, .f32⟩
  | 63 => ⟨S1x1024, .f32⟩
  | 64 => ⟨S8192x1024, .f32⟩
  | 65 => ⟨S8192x1024, .f32⟩
  | 66 => ⟨S8192x3072, .f32⟩
  | 67 => ⟨S8192x3072, .f32⟩
  | 68 => ⟨S8192x1536, .f32⟩
  | 69 => ⟨S8192x1536, .f32⟩
  | 70 => ⟨S8192x24x64, .f32⟩
  | 71 => ⟨S8192x24x8, .f32⟩
  | 72 => ⟨S8192x24x8, .f32⟩
  | 73 => ⟨S8192x24x8, .f32⟩
  | 74 => ⟨S8192x24x8, .f32⟩
  | 75 => ⟨S8192x24x8, .f32⟩
  | 76 => ⟨S8192x24x8, .f32⟩
  | 77 => ⟨S8192x24x8, .f32⟩
  | 78 => ⟨S8192x24x8, .f32⟩
  | 79 => ⟨S8192x24x8, .f32⟩
  | 80 => ⟨S8192x24x8, .f32⟩
  | 81 => ⟨S8192x24x8, .f32⟩
  | 82 => ⟨S8192x24x8, .f32⟩
  | 83 => ⟨S8192x24x48, .f32⟩
  | 84 => ⟨S8192x24x64, .f32⟩
  | 85 => ⟨S8192x24x64, .f32⟩
  | 86 => ⟨S8192x24x8, .f32⟩
  | 87 => ⟨S8192x24x8, .f32⟩
  | 88 => ⟨S8192x24x48, .f32⟩
  | 89 => ⟨S_, .f32⟩
  | 90 => ⟨S8192x24x64, .f32⟩
  | 91 => ⟨S8192x24x8, .f32⟩
  | 92 => ⟨S8192x24x8, .f32⟩
  | 93 => ⟨S8192x24x8, .f32⟩
  | 94 => ⟨S8192x24x8, .f32⟩
  | 95 => ⟨S8192x24x8, .f32⟩
  | 96 => ⟨S8192x24x8, .f32⟩
  | 97 => ⟨S8192x24x8, .f32⟩
  | 98 => ⟨S8192x24x8, .f32⟩
  | 99 => ⟨S8192x24x8, .f32⟩
  | 100 => ⟨S8192x24x8, .f32⟩
  | 101 => ⟨S8192x24x8, .f32⟩
  | 102 => ⟨S_, .f32⟩
  | 103 => ⟨S8192x24x64, .f32⟩
  | 104 => ⟨S8192x24x64, .f32⟩
  | 105 => ⟨S_, .f32⟩
  | 106 => ⟨S8192x24x64, .f32⟩
  | 107 => ⟨S8192x24x64, .f32⟩
  | 108 => ⟨S8192x1536, .f32⟩
  | 109 => ⟨S8192x24x64, .f32⟩
  | 110 => ⟨S8192x1536, .f32⟩
  | 111 => ⟨S8192x3072, .f32⟩
  | 112 => ⟨S8192x1024, .f32⟩
  | 113 => ⟨S_, .f32⟩
  | 114 => ⟨S1024, .f32⟩
  | 115 => ⟨S1x1024, .f32⟩
  | 116 => ⟨S_, .f32⟩
  | 117 => ⟨S1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S_, .f32⟩
  | 125 => ⟨S1024, .f32⟩
  | 126 => ⟨S8192x1024, .f32⟩
  | 127 => ⟨S_, .f32⟩
  | _ => ⟨S8192x1024, .f32⟩

abbrev hbmTy0_1 (i : Nat) : BufTy := match i % 128 with
  | 0 => ⟨S1024, .f32⟩
  | 1 => ⟨S1x1024, .f32⟩
  | 2 => ⟨S8192x1024, .f32⟩
  | 3 => ⟨S8192x1024, .f32⟩
  | 4 => ⟨S_, .f32⟩
  | 5 => ⟨S1024, .f32⟩
  | 6 => ⟨S8192x1024, .f32⟩
  | 7 => ⟨S_, .f32⟩
  | 8 => ⟨S8192, .f32⟩
  | 9 => ⟨S8192x1, .f32⟩
  | 10 => ⟨S8192x1024, .f32⟩
  | 11 => ⟨S8192x1024, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x3072, .bf16⟩
  | 25 => ⟨S1x1024, .f32⟩
  | 26 => ⟨S1x1024, .f32⟩
  | 27 => ⟨S1x1024, .f32⟩
  | 28 => ⟨S_, .f32⟩
  | 29 => ⟨S5x1024, .f32⟩
  | 30 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_8 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_9 : Ref sig .tc := ⟨.hbm, 102, rfl⟩
abbrev main_v79 : Ref sig .tc := ⟨.hbm, 103, rfl⟩
abbrev main_v80 : Ref sig .tc := ⟨.hbm, 104, rfl⟩
abbrev main_cst_10 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_11 : Ref sig .tc := ⟨.hbm, 113, rfl⟩
abbrev main_v88 : Ref sig .tc := ⟨.hbm, 114, rfl⟩
abbrev main_v89 : Ref sig .tc := ⟨.hbm, 115, rfl⟩
abbrev main_cst_12 : Ref sig .tc := ⟨.hbm, 116, rfl⟩
abbrev main_v90 : Ref sig .tc := ⟨.hbm, 117, rfl⟩
abbrev main_v91 : Ref sig .tc := ⟨.hbm, 118, rfl⟩
abbrev main_cst_13 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_14 : Ref sig .tc := ⟨.hbm, 124, rfl⟩
abbrev main_v96 : Ref sig .tc := ⟨.hbm, 125, rfl⟩
abbrev main_v97 : Ref sig .tc := ⟨.hbm, 126, rfl⟩
abbrev main_cst_15 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_16 : Ref sig .tc := ⟨.hbm, 132, rfl⟩
abbrev main_v102 : Ref sig .tc := ⟨.hbm, 133, rfl⟩
abbrev main_v103 : Ref sig .tc := ⟨.hbm, 134, rfl⟩
abbrev main_cst_17 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_18 : Ref sig .tc := ⟨.hbm, 141, rfl⟩
abbrev main_v109 : Ref sig .tc := ⟨.hbm, 142, rfl⟩
abbrev main_v110 : Ref sig .tc := ⟨.hbm, 143, rfl⟩
abbrev main_cst_19 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_20 : Ref sig .tc := ⟨.hbm, 156, rfl⟩
abbrev main_v122 : Ref sig .tc := ⟨.hbm, 157, rfl⟩
abbrev main_v123 : Ref sig .tc := ⟨.hbm, 158, rfl⟩

abbrev nD : Nat := 1
abbrev τ : Topo := Topo.v7x

variable {F : FTy → Type} [FloatOps F]
-- ==== Ffw.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S5632x1024 : Shape := ⟨2, ![5632, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 23
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S4x1024, .f32⟩
  | .hbm, ⟨13, _⟩ => ⟨S8x1024, .f32⟩
  | .hbm, ⟨14, _⟩ => ⟨S5632x1024, .f32⟩
  | .hbm, ⟨15, _⟩ => ⟨S5632x1024, .bf16⟩
  | .hbm, ⟨16, _⟩ => ⟨S2816x1024, .bf16⟩
  | .hbm, ⟨17, _⟩ => ⟨S8192x1024, .f32⟩
  | .hbm, ⟨18, _⟩ => ⟨S8192x1024, .bf16⟩
  | .hbm, ⟨19, _⟩ => ⟨S8192x2816, .bf16⟩
  | .hbm, ⟨20, _⟩ => ⟨S8192x2816, .bf16⟩
  | .hbm, ⟨21, _⟩ => ⟨S8192x2816, .bf16⟩
  | .hbm, ⟨22, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S5632x1024, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfwRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S8192x2816, .bf16⟩
  | .hbm, ⟨70, _⟩ => ⟨S8192x2816, .bf16⟩
  | .hbm, ⟨71, _⟩ => ⟨S8192x2816, .bf16⟩
  | .hbm, ⟨72, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Mods.lean ====
abbrev S8x1024 : Shape := ⟨2, ![8, 1024]⟩
abbrev S4x1024x1152 : Shape := ⟨3, ![4, 1024, 1152]⟩
abbrev S4x1152 : Shape := ⟨2, ![4, 1152]⟩
abbrev S4x1x1152 : Shape := ⟨3, ![4, 1, 1152]⟩
abbrev S4x8x1152 : Shape := ⟨3, ![4, 8, 1152]⟩
abbrev S1x1024x1152 : Shape := ⟨3, ![1, 1024, 1152]⟩
abbrev S1x1x1152 : Shape := ⟨3, ![1, 1, 1152]⟩
abbrev S1x8x1152 : Shape := ⟨3, ![1, 8, 1152]⟩
abbrev S1024x1152 : Shape := ⟨2, ![1024, 1152]⟩
abbrev S8x1152 : Shape := ⟨2, ![8, 1152]⟩
abbrev S1x1152 : Shape := ⟨2, ![1, 1152]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1152, .f32⟩
  | .hbm, ⟨2, _⟩ => ⟨S4x1152, .f32⟩
  | .hbm, ⟨3, _⟩ => ⟨S4x1x1152, .f32⟩
  | .hbm, ⟨4, _⟩ => ⟨S4x8x1152, .f32⟩
  | .local _ .vmem, ⟨0, _⟩ => ⟨S8x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x8x1152, .f32⟩
  | .local _ .vmem, ⟨6, _⟩ => ⟨S1x8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModsRefIdeal.lean ====
abbrev S8x1024 : Shape := ⟨2, ![8, 1024]⟩
abbrev S4x1024x1152 : Shape := ⟨3, ![4, 1024, 1152]⟩
abbrev S4x1152 : Shape := ⟨2, ![4, 1152]⟩
abbrev S_ : Shape := ⟨0, ![]⟩
abbrev S4x1152x8 : Shape := ⟨3, ![4, 1152, 8]⟩
abbrev S4x8x1152 : Shape := ⟨3, ![4, 8, 1152]⟩
abbrev S4x1x1152 : Shape := ⟨3, ![4, 1, 1152]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1152, .f32⟩
  | .hbm, ⟨2, _⟩ => ⟨S4x1152, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x1152x8, .f32⟩
  | .hbm, ⟨13, _⟩ => ⟨S4x8x1152, .f32⟩
  | .hbm, ⟨14, _⟩ => ⟨S4x1x1152, .f32⟩
  | .hbm, ⟨15, _⟩ => ⟨S4x8x1152, .f32⟩
  | .hbm, ⟨16, _⟩ => ⟨S4x8x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Modw.lean ====
abbrev S8x1024 : Shape := ⟨2, ![8, 1024]⟩
abbrev S4x8x1152 : Shape := ⟨3, ![4, 8, 1152]⟩
abbrev S4x1024x1152 : Shape := ⟨3, ![4, 1024, 1152]⟩
abbrev S1x8x1152 : Shape := ⟨3, ![1, 8, 1152]⟩
abbrev S1x1024x1152 : Shape := ⟨3, ![1, 1024, 1152]⟩
abbrev S8x1152 : Shape := ⟨2, ![8, 1152]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x1152, .f32⟩
  | .hbm, ⟨2, _⟩ => ⟨S4x1024x1152, .f32⟩
  | .local _ .vmem, ⟨0, _⟩ => ⟨S8x1024, .f32⟩
  | .local _ .vmem, ⟨1, _⟩ => ⟨S1x8x1152, .f32⟩
  | .local _ .vmem, ⟨2, _⟩ => ⟨S1x8x1152, .f32⟩
  | .local _ .vmem, ⟨3, _⟩ => ⟨S1x1024x1152, .f32⟩
  | .local _ .vmem, ⟨4, _⟩ => ⟨S1x1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModwRefIdeal.lean ====
abbrev S8x1024 : Shape := ⟨2, ![8, 1024]⟩
abbrev S4x8x1152 : Shape := ⟨3, ![4, 8, 1152]⟩
abbrev S_ : Shape := ⟨0, ![]⟩
abbrev S4x1024x1152 : Shape := ⟨3, ![4, 1024, 1152]⟩
abbrev S4x1152x8 : Shape := ⟨3, ![4, 1152, 8]⟩
abbrev S4x1152x1024 : Shape := ⟨3, ![4, 1152, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1152, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S4x1024x1152, .f32⟩
  | .hbm, ⟨13, _⟩ => ⟨S4x1152x8, .f32⟩
  | .hbm, ⟨14, _⟩ => ⟨S4x8x1152, .f32⟩
  | .hbm, ⟨15, _⟩ => ⟨S4x1152x8, .f32⟩
  | .hbm, ⟨16, _⟩ => ⟨S4x1152x1024, .f32⟩
  | .hbm, ⟨17, _⟩ => ⟨S4x1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Adam.lean ====
abbrev S8x12x128 : Shape := ⟨3, ![8, 12, 128]⟩
abbrev S12x128 : Shape := ⟨2, ![12, 128]⟩
abbrev S1x12x128 : Shape := ⟨3, ![1, 12, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S12x128, .f32⟩
  | .hbm, ⟨5, _⟩ => ⟨S12x128, .f32⟩
  | .hbm, ⟨6, _⟩ => ⟨S12x128, .f32⟩
  | .hbm, ⟨7, _⟩ => ⟨S12x128, .f32⟩
  | .local _ .vmem, ⟨0, _⟩ => ⟨S8x12x128, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | .local _ .vmem, ⟨7, _⟩ => ⟨S12x128, .f32⟩
  | _, _ => ⟨S8x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRefIdeal.lean ====
abbrev S8x12x128 : Shape := ⟨3, ![8, 12, 128]⟩
abbrev S12x128 : Shape := ⟨2, ![12, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S_, .f32⟩
  | .hbm, ⟨5, _⟩ => ⟨S12x128, .f32⟩
  | .hbm, ⟨6, _⟩ => ⟨S_, .f32⟩
  | .hbm, ⟨7, _⟩ => ⟨S12x128, .f32⟩
  | .hbm, ⟨8, _⟩ => ⟨S12x128, .f32⟩
  | .hbm, ⟨9, _⟩ => ⟨S_, .f32⟩
  | .hbm, ⟨10, _⟩ => ⟨S12x128, .f32⟩
  | .hbm, ⟨11, _⟩ => ⟨S12x128, .f32⟩
  | .hbm, ⟨12, _⟩ => ⟨S12x128, .f32⟩
  | .hbm, ⟨13, _⟩ => ⟨S_, .f32⟩
  | .hbm, ⟨14, _⟩ => ⟨S12x128, .f32⟩
  | .hbm, ⟨15, _⟩ => ⟨S12x128, .f32⟩
  | .hbm, ⟨16, _⟩ => ⟨S12x128, .f32⟩
  | .hbm, ⟨17, _⟩ => ⟨S_, .f32⟩
  | .hbm, ⟨18, _⟩ => ⟨S12x128, .f32⟩
  | .hbm, ⟨19, _⟩ => ⟨S12x128, .f32⟩
  | .hbm, ⟨20, _⟩ => ⟨S12x128, .f32⟩
  | .hbm, ⟨21, _⟩ => ⟨S_, .f32⟩
  | .hbm, ⟨22, _⟩ => ⟨S12x128, .f32⟩
  | .hbm, ⟨23, _⟩ => ⟨S12x128, .f32⟩
  | .hbm, ⟨24, _⟩ => ⟨S_, .f32⟩
  | .hbm, ⟨25, _⟩ => ⟨S12x128, .f32⟩
  | .hbm, ⟨26, _⟩ => ⟨S12x128, .f32⟩
  | .hbm, ⟨27, _⟩ => ⟨S12x128, .f32⟩
  | .hbm, ⟨28, _⟩ => ⟨S_, .f32⟩
  | .hbm, ⟨29, _⟩ => ⟨S12x128, .f32⟩
  | .hbm, ⟨30, _⟩ => ⟨S12x128, .f32⟩
  | .hbm, ⟨31, _⟩ => ⟨S12x128, .f32⟩
  | .hbm, ⟨32, _⟩ => ⟨S_, .f32⟩
  | .hbm, ⟨33, _⟩ => ⟨S12x128, .f32⟩
  | .hbm, ⟨34, _⟩ => ⟨S12x128, .f32⟩
  | .hbm, ⟨35, _⟩ => ⟨S12x128, .f32⟩
  | .hbm, ⟨36, _⟩ => ⟨S_, .f32⟩
  | .hbm, ⟨37, _⟩ => ⟨S12x128, .f32⟩
  | .hbm, ⟨38, _⟩ => ⟨S12x128, .f32⟩
  | _, _ => ⟨S8x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Mix.lean ====
abbrev S8192x8x64 : Shape := ⟨3, ![8192, 8, 64]⟩
abbrev S8192x8 : Shape := ⟨2, ![8192, 8]⟩
abbrev S1024 : Shape := ⟨1, ![1024]⟩
abbrev S512x1024 : Shape := ⟨2, ![512, 1024]⟩
abbrev S8192x1024 : Shape := ⟨2, ![8192, 1024]⟩
abbrev S1x8192x8 : Shape := ⟨3, ![1, 8192, 8]⟩
abbrev S3x8192x8 : Shape := ⟨3, ![3, 8192, 8]⟩
abbrev S_ : Shape := ⟨0, ![]⟩
abbrev S3x8192x8x1 : Shape := ⟨4, ![3, 8192, 8, 1]⟩
abbrev S1x8192x8x64 : Shape := ⟨4, ![1, 8192, 8, 64]⟩
abbrev S3x8192x8x64 : Shape := ⟨4, ![3, 8192, 8, 64]⟩
abbrev S8192x512 : Shape := ⟨2, ![8192, 512]⟩
abbrev S4x1024 : Shape := ⟨2, ![4, 1024]⟩
abbrev S3x1024 : Shape := ⟨2, ![3, 1024]⟩
abbrev S1x1024 : Shape := ⟨2, ![1, 1024]⟩
abbrev S8x1024 : Shape := ⟨2, ![8, 1024]⟩
abbrev S1x8192x512 : Shape := ⟨3, ![1, 8192, 512]⟩
abbrev S2048x4x512 : Shape := ⟨3, ![2048, 4, 512]⟩
abbrev S4x2048x512 : Shape := ⟨3, ![4, 2048, 512]⟩
abbrev S512x16x512 : Shape := ⟨3, ![512, 16, 512]⟩
abbrev S16x512x512 : Shape := ⟨3, ![16, 512, 512]⟩
abbrev S8192x8x16 : Shape := ⟨3, ![8192, 8, 16]⟩
abbrev S8192x128 : Shape := ⟨2, ![8192, 128]⟩
abbrev S1x8192x128 : Shape := ⟨3, ![1, 8192, 128]⟩
abbrev S2048x4x128 : Shape := ⟨3, ![2048, 4, 128]⟩
abbrev S4x2048x128 : Shape := ⟨3, ![4, 2048, 128]⟩
abbrev S512x16x128 : Shape := ⟨3, ![512, 16, 128]⟩
abbrev S16x512x128 : Shape := ⟨3, ![16, 512, 128]⟩
abbrev S1x512x512 : Shape := ⟨3, ![1, 512, 512]⟩
abbrev S4x128x512 : Shape := ⟨3, ![4, 128, 512]⟩
abbrev S16x32x512 : Shape := ⟨3, ![16, 32, 512]⟩
abbrev S1x512x128 : Shape := ⟨3, ![1, 512, 128]⟩
abbrev S4x128x128 : Shape := ⟨3, ![4, 128, 128]⟩
abbrev S16x32x128 : Shape := ⟨3, ![16, 32, 128]⟩
abbrev S4x512x128 : Shape := ⟨3, ![4, 512, 128]⟩
abbrev S7x1024 : Shape := ⟨2, ![7, 1024]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S1x128 : Shape := ⟨2, ![1, 128]⟩
abbrev S512x1 : Shape := ⟨2, ![512, 1]⟩
abbrev S1x128x512 : Shape := ⟨3, ![1, 128, 512]⟩
abbrev S128x512 : Shape := ⟨2, ![128, 512]⟩
abbrev S1x32x512 : Shape := ⟨3, ![1, 32, 512]⟩
abbrev S32x512 : Shape := ⟨2, ![32, 512]⟩

abbrev nBuf : Space → Nat
  | .hbm => 75
  | .vmem => 34
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8, .f32⟩
  | .hbm, ⟨5, _⟩ => ⟨S8192x8, .f32⟩
  | .hbm, ⟨6, _⟩ => ⟨S1024, .f32⟩
  | .hbm, ⟨7, _⟩ => ⟨S512x1024, .f32⟩
  | .hbm, ⟨8, _⟩ => ⟨S8192x1024, .f32⟩
  | .hbm, ⟨9, _⟩ => ⟨S1x8192x8, .f32⟩
  | .hbm, ⟨10, _⟩ => ⟨S1x8192x8, .f32⟩
  | .hbm, ⟨11, _⟩ => ⟨S1x8192x8, .f32⟩
  | .hbm, ⟨12, _⟩ => ⟨S3x8192x8, .f32⟩
  | .hbm, ⟨13, _⟩ => ⟨S_, .f32⟩
  | .hbm, ⟨14, _⟩ => ⟨S8192x8, .f32⟩
  | .hbm, ⟨15, _⟩ => ⟨S_, .f32⟩
  | .hbm, ⟨16, _⟩ => ⟨S8192x8, .f32⟩
  | .hbm, ⟨17, _⟩ => ⟨S8192x8, .f32⟩
  | .hbm, ⟨18, _⟩ => ⟨S1x8192x8, .f32⟩
  | .hbm, ⟨19, _⟩ => ⟨S3x8192x8, .f32⟩
  | .hbm, ⟨20, _⟩ => ⟨S3x8192x8, .f32⟩
  | .hbm, ⟨21, _⟩ => ⟨S3x8192x8, .f32⟩
  | .hbm, ⟨22, _⟩ => ⟨S_, .f32⟩
  | .hbm, ⟨23, _⟩ => ⟨S8192x8, .f32⟩
  | .hbm, ⟨24, _⟩ => ⟨S1x8192x8, .f32⟩
  | .hbm, ⟨25, _⟩ => ⟨S3x8192x8, .f32⟩
  | .hbm, ⟨26, _⟩ => ⟨S3x8192x8, .f32⟩
  | .hbm, ⟨27, _⟩ => ⟨S3x8192x8x1, .f32⟩
  | .hbm, ⟨28, _⟩ => ⟨S1x8192x8x64, .f32⟩
  | .hbm, ⟨29, _⟩ => ⟨S1x8192x8x64, .f32⟩
  | .hbm, ⟨30, _⟩ => ⟨S1x8192x8x64, .f32⟩
  | .hbm, ⟨31, _⟩ => ⟨S3x8192x8x64, .f32⟩
  | .hbm, ⟨32, _⟩ => ⟨S3x8192x8x64, .f32⟩
  | .hbm, ⟨33, _⟩ => ⟨S3x8192x8x64, .f32⟩
  | .hbm, ⟨34, _⟩ => ⟨S_, .f32⟩
  | .hbm, ⟨35, _⟩ => ⟨S8192x8x64, .f32⟩
  | .hbm, ⟨36, _⟩ => ⟨S8192x512, .f32⟩
  | .hbm, ⟨37, _⟩ => ⟨S8192x1024, .f32⟩
  | .hbm, ⟨38, _⟩ => ⟨S_, .f32⟩
  | .hbm, ⟨39, _⟩ => ⟨S4x1024, .f32⟩
  | .hbm, ⟨40, _⟩ => ⟨S3x1024, .f32⟩
  | .hbm, ⟨41, _⟩ => ⟨S1x1024, .f32⟩
  | .hbm, ⟨42, _⟩ => ⟨S8x1024, .f32⟩
  | .hbm, ⟨43, _⟩ => ⟨S8192x512, .f32⟩
  | .hbm, ⟨44, _⟩ => ⟨S1x8192x512, .f32⟩
  | .hbm, ⟨45, _⟩ => ⟨S1x8192x512, .bf16⟩
  | .hbm, ⟨46, _⟩ => ⟨S8192x512, .f32⟩
  | .hbm, ⟨47, _⟩ => ⟨S2048x4x512, .f32⟩
  | .hbm, ⟨48, _⟩ => ⟨S4x2048x512, .f32⟩
  | .hbm, ⟨49, _⟩ => ⟨S4x2048x512, .bf16⟩
  | .hbm, ⟨50, _⟩ => ⟨S8192x512, .f32⟩
  | .hbm, ⟨51, _⟩ => ⟨S512x16x512, .f32⟩
  | .hbm, ⟨52, _⟩ => ⟨S16x512x512, .f32⟩
  | .hbm, ⟨53, _⟩ => ⟨S16x512x512, .bf16⟩
  | .hbm, ⟨54, _⟩ => ⟨S8192x8x16, .f32⟩
  | .hbm, ⟨55, _⟩ => ⟨S8192x128, .f32⟩
  | .hbm, ⟨56, _⟩ => ⟨S1x8192x128, .f32⟩
  | .hbm, ⟨57, _⟩ => ⟨S8192x8x16, .f32⟩
  | .hbm, ⟨58, _⟩ => ⟨S8192x128, .f32⟩
  | .hbm, ⟨59, _⟩ => ⟨S2048x4x128, .f32⟩
  | .hbm, ⟨60, _⟩ => ⟨S4x2048x128, .f32⟩
  | .hbm, ⟨61, _⟩ => ⟨S8192x8x16, .f32⟩
  | .hbm, ⟨62, _⟩ => ⟨S8192x128, .f32⟩
  | .hbm, ⟨63, _⟩ => ⟨S512x16x128, .f32⟩
  | .hbm, ⟨64, _⟩ => ⟨S16x512x128, .f32⟩
  | .hbm, ⟨65, _⟩ => ⟨S8192x1024, .bf16⟩
  | .hbm, ⟨66, _⟩ => ⟨S512x1024, .bf16⟩
  | .hbm, ⟨67, _⟩ => ⟨S8192x1024, .bf16⟩
  | .hbm, ⟨68, _⟩ => ⟨S1x8192x512, .bf16⟩
  | .hbm, ⟨69, _⟩ => ⟨S4x2048x512, .bf16⟩
  | .hbm, ⟨70, _⟩ => ⟨S16x512x512, .bf16⟩
  | .hbm, ⟨71, _⟩ => ⟨S1x8192x128, .f32⟩
  | .hbm, ⟨72, _⟩ => ⟨S4x2048x128, .f32⟩
  | .hbm, ⟨73, _⟩ => ⟨S16x512x128, .f32⟩
  | .hbm, ⟨74, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S8x1024, .f32⟩
  | .local _ .vmem, ⟨5, _⟩ => ⟨S512x1024, .bf16⟩
  | .local _ .vmem, ⟨6, _⟩ => ⟨S1x512x512, .bf16⟩
  | .local _ .vmem, ⟨7, _⟩ => ⟨S1x512x512, .bf16⟩
  | .local _ .vmem, ⟨8, _⟩ => ⟨S4x128x512, .bf16⟩
  | .local _ .vmem, ⟨9, _⟩ => ⟨S4x128x512, .bf16⟩
  | .local _ .vmem, ⟨10, _⟩ => ⟨S16x32x512, .bf16⟩
  | .local _ .vmem, ⟨11, _⟩ => ⟨S16x32x512, .bf16⟩
  | .local _ .vmem, ⟨12, _⟩ => ⟨S1x512x128, .f32⟩
  | .local _ .vmem, ⟨13, _⟩ => ⟨S1x512x128, .f32⟩
  | .local _ .vmem, ⟨14, _⟩ => ⟨S4x128x128, .f32⟩
  | .local _ .vmem, ⟨15, _⟩ => ⟨S4x128x128, .f32⟩
  | .local _ .vmem, ⟨16, _⟩ => ⟨S16x32x128, .f32⟩
  | .local _ .vmem, ⟨17, _⟩ => ⟨S16x32x128, .f32⟩
  | .local _ .vmem, ⟨18, _⟩ => ⟨S512x1024, .bf16⟩
  | .local _ .vmem, ⟨19, _⟩ => ⟨S512x1024, .bf16⟩
  | .local _ .vmem, ⟨20, _⟩ => ⟨S1x512x512, .bf16⟩
  | .local _ .vmem, ⟨21, _⟩ => ⟨S1x512x512, .bf16⟩
  | .local _ .vmem, ⟨22, _⟩ => ⟨S4x128x512, .bf16⟩
  | .local _ .vmem, ⟨23, _⟩ => ⟨S4x128x512, .bf16⟩
  | .local _ .vmem, ⟨24, _⟩ => ⟨S16x32x512, .bf16⟩
  | .local _ .vmem, ⟨25, _⟩ => ⟨S16x32x512, .bf16⟩
  | .local _ .vmem, ⟨26, _⟩ => ⟨S1x512x128, .f32⟩
  | .local _ .vmem, ⟨27, _⟩ => ⟨S1x512x128, .f32⟩
  | .local _ .vmem, ⟨28, _⟩ => ⟨S4x128x128, .f32⟩
  | .local _ .vmem, ⟨29, _⟩ => ⟨S4x128x128, .f32⟩
  | .local _ .vmem, ⟨30, _⟩ => ⟨S16x32x128, .f32⟩
  | .local _ .vmem, ⟨31, _⟩ => ⟨S16x32x128, .f32⟩
  | .local _ .vmem, ⟨32, _⟩ => ⟨S8x1024, .f32⟩
  | .local _ .vmem, ⟨33, _⟩ => ⟨S4x512x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53_0 : Ref sig .tc := ⟨.hbm, 67, rfl⟩
abbrev main_v53_1 : Ref sig .tc := ⟨.hbm, 68, rfl⟩
abbrev main_v53_2 : Ref sig .tc := ⟨.hbm, 69, rfl⟩
abbrev main_v53_3 : Ref sig .tc := ⟨.hbm, 70, rfl⟩
abbrev main_v53_4 : Ref sig .tc := ⟨.hbm, 71, rfl⟩
abbrev main_v53_5 : Ref sig .tc := ⟨.hbm, 72, rfl⟩
abbrev main_v53_6 : Ref sig .tc := ⟨.hbm, 73, rfl⟩
abbrev main_v53_7 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_8 : BitVec 32 := 0#32
  let v19 : BitVec 1 := Scalar.cmpi .ne v18 c0_i32_8
  v19

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v20 : BitVec 1 := Scalar.xori v17 v_true
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x32x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x32x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixRefIdeal.lean ====
abbrev S8192x8x64 : Shape := ⟨3, ![8192, 8, 64]⟩
abbrev S8192x8 : Shape := ⟨2, ![8192, 8]⟩
abbrev S1024 : Shape := ⟨1, ![1024]⟩
abbrev S512x1024 : Shape := ⟨2, ![512, 1024]⟩
abbrev S8192x1024 : Shape := ⟨2, ![8192, 1024]⟩
abbrev S1x8192x8 : Shape := ⟨3, ![1, 8192, 8]⟩
abbrev S3x8192x8 : Shape := ⟨3, ![3, 8192, 8]⟩
abbrev S_ : Shape := ⟨0, ![]⟩
abbrev S3x8192x8x1 : Shape := ⟨4, ![3, 8192, 8, 1]⟩
abbrev S1x8192x8x64 : Shape := ⟨4, ![1, 8192, 8, 64]⟩
abbrev S3x8192x8x64 : Shape := ⟨4, ![3, 8192, 8, 64]⟩
abbrev S8192x512 : Shape := ⟨2, ![8192, 512]⟩
abbrev S1x1024 : Shape := ⟨2, ![1, 1024]⟩
abbrev S8192x1x512 : Shape := ⟨3, ![8192, 1, 512]⟩
abbrev S1x8192x512 : Shape := ⟨3, ![1, 8192, 512]⟩
abbrev S2048x4x512 : Shape := ⟨3, ![2048, 4, 512]⟩
abbrev S4x2048x512 : Shape := ⟨3, ![4, 2048, 512]⟩
abbrev S512x16x512 : Shape := ⟨3, ![512, 16, 512]⟩
abbrev S16x512x512 : Shape := ⟨3, ![16, 512, 512]⟩
abbrev S8192x8x16 : Shape := ⟨3, ![8192, 8, 16]⟩
abbrev S8192x128 : Shape := ⟨2, ![8192, 128]⟩
abbrev S8192x1x128 : Shape := ⟨3, ![8192, 1, 128]⟩
abbrev S1x8192x128 : Shape := ⟨3, ![1, 8192, 128]⟩
abbrev S2048x4x128 : Shape := ⟨3, ![2048, 4, 128]⟩
abbrev S4x2048x128 : Shape := ⟨3, ![4, 2048, 128]⟩
abbrev S512x16x128 : Shape := ⟨3, ![512, 16, 128]⟩
abbrev S16x512x128 : Shape := ⟨3, ![16, 512, 128]⟩
abbrev S7x1024 : Shape := ⟨2, ![7, 1024]⟩
abbrev S8x1024 : Shape := ⟨2, ![8, 1024]⟩

abbrev nBuf : Space → Nat
  | .hbm => 151
  | .vmem => 0
  | .smem => 0
  | _ => 0

abbrev hbmTy0_0 (i : Nat) : BufTy := match i % 128 with
  | 0 => ⟨S8192x8x64, .f32⟩
  | 1 => ⟨S8192x8x64, .f32⟩
  | 2 => ⟨S8192x8x64, .f32⟩
  | 3 => ⟨S8192x8, .f32⟩
  | 4 => ⟨S8192x8, .f32⟩
  | 5 => ⟨S8192x8, .f32⟩
  | 6 => ⟨S1024, .f32⟩
  | 7 => ⟨S512x1024, .f32⟩
  | 8 => ⟨S8192x1024, .f32⟩
  | 9 => ⟨S1x8192x8, .f32⟩
  | 10 => ⟨S1x8192x8, .f32⟩
  | 11 => ⟨S1x8192x8, .f32⟩
  | 12 => ⟨S3x8192x8, .f32⟩
  | 13 => ⟨S_, .f32⟩
  | 14 => ⟨S8192x8, .f32⟩
  | 15 => ⟨S1x8192x8, .f32⟩
  | 16 => ⟨S3x8192x8, .f32⟩
  | 17 => ⟨S3x8192x8, .i1⟩
  | 18 => ⟨S3x8192x8, .f32⟩
  | 19 => ⟨S_, .f32⟩
  | 20 => ⟨S8192x8, .f32⟩
  | 21 => ⟨S_, .f32⟩
  | 22 => ⟨S8192x8, .f32⟩
  | 23 => ⟨S8192x8, .f32⟩
  | 24 => ⟨S_, .f32⟩
  | 25 => ⟨S8192x8, .f32⟩
  | 26 => ⟨S8192x8, .i1⟩
  | 27 => ⟨S_, .f32⟩
  | 28 => ⟨S8192x8, .f32⟩
  | 29 => ⟨S8192x8, .i1⟩
  | 30 => ⟨S_, .f32⟩
  | 31 => ⟨S8192x8, .f32⟩
  | 32 => ⟨S_, .f32⟩
  | 33 => ⟨S8192x8, .f32⟩
  | 34 => ⟨S_, .f32⟩
  | 35 => ⟨S8192x8, .f32⟩
  | 36 => ⟨S8192x8, .f32⟩
  | 37 => ⟨S8192x8, .f32⟩
  | 38 => ⟨S1x8192x8, .f32⟩
  | 39 => ⟨S3x8192x8, .f32⟩
  | 40 => ⟨S3x8192x8, .f32⟩
  | 41 => ⟨S3x8192x8, .f32⟩
  | 42 => ⟨S_, .f32⟩
  | 43 => ⟨S8192x8, .f32⟩
  | 44 => ⟨S1x8192x8, .f32⟩
  | 45 => ⟨S3x8192x8, .f32⟩
  | 46 => ⟨S3x8192x8, .f32⟩
  | 47 => ⟨S1x8192x8, .f32⟩
  | 48 => ⟨S_, .f32⟩
  | 49 => ⟨S1x8192x8, .f32⟩
  | 50 => ⟨S1x8192x8, .f32⟩
  | 51 => ⟨S3x8192x8x1, .f32⟩
  | 52 => ⟨S1x8192x8x64, .f32⟩
  | 53 => ⟨S1x8192x8x64, .f32⟩
  | 54 => ⟨S1x8192x8x64, .f32⟩
  | 55 => ⟨S3x8192x8x64, .f32⟩
  | 56 => ⟨S3x8192x8x64, .f32⟩
  | 57 => ⟨S3x8192x8x64, .f32⟩
  | 58 => ⟨S_, .f32⟩
  | 59 => ⟨S8192x8x64, .f32⟩
  | 60 => ⟨S8192x512, .f32⟩
  | 61 => ⟨S8192x1024, .f32⟩
  | 62 => ⟨S_, .f32⟩
  | 63 => ⟨S1024, .f32⟩
  | 64 => ⟨S1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S_, .f32⟩
  | 72 => ⟨S1024, .f32⟩
  | 73 => ⟨S1x1024, .f32⟩
  | 74 => ⟨S_, .f32⟩
  | 75 => ⟨S1024, .f32⟩
  | 76 => ⟨S8192x512, .f32⟩
  | 77 => ⟨S8192x8x64, .f32⟩
  | 78 => ⟨S3x8192x8x64, .f32⟩
  | 79 => ⟨S3x8192x8x64, .f32⟩
  | 80 => ⟨S3x8192x8x64, .f32⟩
  | 81 => ⟨S3x8192x8x64, .f32⟩
  | 82 => ⟨S_, .f32⟩
  | 83 => ⟨S3x8192x8, .f32⟩
  | 84 => ⟨S3x8192x8x1, .f32⟩
  | 85 => ⟨S1x8192x8x64, .f32⟩
  | 86 => ⟨S8192x8x64, .f32⟩
  | 87 => ⟨S1x8192x8x64, .f32⟩
  | 88 => ⟨S8192x8x64, .f32⟩
  | 89 => ⟨S1x8192x8x64, .f32⟩
  | 90 => ⟨S8192x8x64, .f32⟩
  | 91 => ⟨S_, .f32⟩
  | 92 => ⟨S3x8192x8, .f32⟩
  | 93 => ⟨S3x8192x8, .f32⟩
  | 94 => ⟨S3x8192x8, .f32⟩
  | 95 => ⟨S3x8192x8, .f32⟩
  | 96 => ⟨S_, .f32⟩
  | 97 => ⟨S8192x8, .f32⟩
  | 98 => ⟨S1x8192x8, .f32⟩
  | 99 => ⟨S1x8192x8, .f32⟩
  | 100 => ⟨S3x8192x8, .f32⟩
  | 101 => ⟨S3x8192x8, .f32⟩
  | 102 => ⟨S_, .f32⟩
  | 103 => ⟨S8192x8, .f32⟩
  | 104 => ⟨S3x8192x8, .f32⟩
  | 105 => ⟨S3x8192x8, .f32⟩
  | 106 => ⟨S3x8192x8, .f32⟩
  | 107 => ⟨S1x8192x8, .f32⟩
  | 108 => ⟨S8192x8, .f32⟩
  | 109 => ⟨S1x8192x8, .f32⟩
  | 110 => ⟨S8192x8, .f32⟩
  | 111 => ⟨S1x8192x8, .f32⟩
  | 112 => ⟨S8192x8, .f32⟩
  | 113 => ⟨S8192x8x64, .f32⟩
  | 114 => ⟨S_, .f32⟩
  | 115 => ⟨S8192x8, .f32⟩
  | 116 => ⟨S8192x8, .f32⟩
  | 117 => ⟨S8192x8x64, .f32⟩
  | 118 => ⟨S_, .f32⟩
  | 119 => ⟨S8192x8, .f32⟩
  | 120 => ⟨S8192x8, .f32⟩
  | 121 => ⟨S8192x8x64, .f32⟩
  | 122 => ⟨S_, .f32⟩
  | 123 => ⟨S8192x8, .f32⟩
  | 124 => ⟨S8192x8, .f32⟩
  | 125 => ⟨S8192x1x512, .f32⟩
  | 126 => ⟨S1x8192x512, .f32⟩
  | 127 => ⟨S1x8192x512, .bf16⟩
  | _ => ⟨S8192x8x64, .f32⟩

abbrev hbmTy0_1 (i : Nat) : BufTy := match i % 128 with
  | 0 => ⟨S2048x4x512, .f32⟩
  | 1 => ⟨S4x2048x512, .f32⟩
  | 2 => ⟨S4x2048x512, .bf16⟩
  | 3 => ⟨S512x16x512, .f32⟩
  | 4 => ⟨S16x512x512, .f32⟩
  | 5 => ⟨S16x512x512, .bf16⟩
  | 6 => ⟨S8192x8x16, .f32⟩
  | 7 => ⟨S8192x128, .f32⟩
  | 8 => ⟨S8192x1x128, .f32⟩
  | 9 => ⟨S1x8192x128, .f32⟩
  | 10 => ⟨S8192x8x16, .f32⟩
  | 11 => ⟨S8192x128, .f32⟩
  | 12 => ⟨S2048x4x128, .f32⟩
  | 13 => ⟨S4x2048x128, .f32⟩
  | 14 => ⟨S8192x8x16, .f32⟩
  | 15 => ⟨S8192x128, .f32⟩
  | 16 => ⟨S512x16x128, .f32⟩
  | 17 => ⟨S16x512x128, .f32⟩
  | 18 => ⟨S8192x1024, .bf16⟩
  | 19 => ⟨S1x1024, .f32⟩
  | 20 => ⟨S_, .f32⟩
  | 21 => ⟨S7x1024, .f32⟩
  | 22 => ⟨S8x1024, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_16 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_18 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_19 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_20 : Ref sig .tc := ⟨.hbm, 148, rfl⟩
abbrev main_v118 : Ref sig .tc := ⟨.hbm, 149, rfl⟩
abbrev main_v119 : Ref sig .tc := ⟨.hbm, 150, rfl⟩

abbrev nD : Nat := 1
abbrev τ : Topo := Topo.v7x

variable {F : FTy → Type} [FloatOps F]
-- ==== AttnA.lean ====
abbrev S1x8192x8x64 : Shape := ⟨4, ![1, 8192, 8, 64]⟩
abbrev S1x8192x8 : Shape := ⟨3, ![1, 8192, 8]⟩
abbrev S_ : Shape := ⟨0, ![]⟩
abbrev S1x1x8x1x128x64 : Shape := ⟨6, ![1, 1, 8, 1, 128, 64]⟩
abbrev S1x8192x1x8x64 : Shape := ⟨5, ![1, 8192, 1, 8, 64]⟩
abbrev S1x1x8x8192x64 : Shape := ⟨5, ![1, 1, 8, 8192, 64]⟩
abbrev S1x1x8x64x128x64 : Shape := ⟨6, ![1, 1, 8, 64, 128, 64]⟩
abbrev S1x1x8x63x128x64 : Shape := ⟨6, ![1, 1, 8, 63, 128, 64]⟩
abbrev S1x1x8x64x256x64 : Shape := ⟨6, ![1, 1, 8, 64, 256, 64]⟩
abbrev S1x1x8x64x128x256 : Shape := ⟨6, ![1, 1, 8, 64, 128, 256]⟩
abbrev S64x128x256 : Shape := ⟨3, ![64, 128, 256]⟩
abbrev S1x1x8x64x128 : Shape := ⟨5, ![1, 1, 8, 64, 128]⟩
abbrev S1x1x8x64x128x1 : Shape := ⟨6, ![1, 1, 8, 64, 128, 1]⟩
abbrev S1x1x8x8192 : Shape := ⟨4, ![1, 1, 8, 8192]⟩
abbrev S1x8192x1x8 : Shape := ⟨4, ![1, 8192, 1, 8]⟩
abbrev S8192x512 : Shape := ⟨2, ![8192, 512]⟩
abbrev S8192x1x512 : Shape := ⟨3, ![8192, 1, 512]⟩
abbrev S1x8192x512 : Shape := ⟨3, ![1, 8192, 512]⟩
abbrev S8192x8 : Shape := ⟨2, ![8192, 8]⟩
abbrev S8192x8x16 : Shape := ⟨3, ![8192, 8, 16]⟩
abbrev S8192x128 : Shape := ⟨2, ![8192, 128]⟩
abbrev S8192x1x128 : Shape := ⟨3, ![8192, 1, 128]⟩
abbrev S1x8192x128 : Shape := ⟨3, ![1, 8192, 128]⟩
abbrev S1x512x512 : Shape := ⟨3, ![1, 512, 512]⟩
abbrev S1x128x512 : Shape := ⟨3, ![1, 128, 512]⟩
abbrev S1x512x128 : Shape := ⟨3, ![1, 512, 128]⟩
abbrev S128x512 : Shape := ⟨2, ![128, 512]⟩
abbrev S128x256 : Shape := ⟨2, ![128, 256]⟩
abbrev S1x128 : Shape := ⟨2, ![1, 128]⟩
abbrev S1x128x128 : Shape := ⟨3, ![1, 128, 128]⟩
abbrev S128x128 : Shape := ⟨2, ![128, 128]⟩
abbrev S512x128 : Shape := ⟨2, ![512, 128]⟩
abbrev S640x128 : Shape := ⟨2, ![640, 128]⟩
abbrev S256x128 : Shape := ⟨2, ![256, 128]⟩
abbrev S1x128x1 : Shape := ⟨3, ![1, 128, 1]⟩
abbrev S128x1 : Shape := ⟨2, ![128, 1]⟩

abbrev nBuf : Space → Nat
  | .hbm => 109
  | .vmem => 24
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8x64, .f32⟩
  | .hbm, ⟨4, _⟩ => ⟨S1x8192x8, .f32⟩
  | .hbm, ⟨5, _⟩ => ⟨S_, .f32⟩
  | .hbm, ⟨6, _⟩ => ⟨S1x1x8x1x128x64, .f32⟩
  | .hbm, ⟨7, _⟩ => ⟨S1x8192x1x8x64, .f32⟩
  | .hbm, ⟨8, _⟩ => ⟨S1x1x8x8192x64, .f32⟩
  | .hbm, ⟨9, _⟩ => ⟨S1x1x8x64x128x64, .f32⟩
  | .hbm, ⟨10, _⟩ => ⟨S1x8192x1x8x64, .f32⟩
  | .hbm, ⟨11, _⟩ => ⟨S1x1x8x8192x64, .f32⟩
  | .hbm, ⟨12, _⟩ => ⟨S1x1x8x64x128x64, .f32⟩
  | .hbm, ⟨13, _⟩ => ⟨S1x1x8x63x128x64, .f32⟩
  | .hbm, ⟨14, _⟩ => ⟨S1x1x8x64x128x64, .f32⟩
  | .hbm, ⟨15, _⟩ => ⟨S1x1x8x64x256x64, .f32⟩
  | .hbm, ⟨16, _⟩ => ⟨S1x8192x1x8x64, .f32⟩
  | .hbm, ⟨17, _⟩ => ⟨S1x1x8x8192x64, .f32⟩
  | .hbm, ⟨18, _⟩ => ⟨S1x1x8x64x128x64, .f32⟩
  | .hbm, ⟨19, _⟩ => ⟨S1x1x8x63x128x64, .f32⟩
  | .hbm, ⟨20, _⟩ => ⟨S1x1x8x64x128x64, .f32⟩
  | .hbm, ⟨21, _⟩ => ⟨S1x1x8x64x256x64, .f32⟩
  | .hbm, ⟨22, _⟩ => ⟨S1x1x8x64x128x256, .f32⟩
  | .hbm, ⟨23, _⟩ => ⟨S_, .f32⟩
  | .hbm, ⟨24, _⟩ => ⟨S1x1x8x64x128x256, .f32⟩
  | .hbm, ⟨25, _⟩ => ⟨S1x1x8x64x128x256, .f32⟩
  | .hbm, ⟨26, _⟩ => ⟨S64x128x256, .i32⟩
  | .hbm, ⟨27, _⟩ => ⟨S64x128x256, .i32⟩
  | .hbm, ⟨28, _⟩ => ⟨S64x128x256, .i32⟩
  | .hbm, ⟨29, _⟩ => ⟨S_, .i32⟩
  | .hbm, ⟨30, _⟩ => ⟨S64x128x256, .i32⟩
  | .hbm, ⟨31, _⟩ => ⟨S64x128x256, .i32⟩
  | .hbm, ⟨32, _⟩ => ⟨S64x128x256, .i32⟩
  | .hbm, ⟨33, _⟩ => ⟨S_, .i32⟩
  | .hbm, ⟨34, _⟩ => ⟨S64x128x256, .i32⟩
  | .hbm, ⟨35, _⟩ => ⟨S64x128x256, .i1⟩
  | .hbm, ⟨36, _⟩ => ⟨S_, .i32⟩
  | .hbm, ⟨37, _⟩ => ⟨S64x128x256, .i32⟩
  | .hbm, ⟨38, _⟩ => ⟨S64x128x256, .i1⟩
  | .hbm, ⟨39, _⟩ => ⟨S64x128x256, .i1⟩
  | .hbm, ⟨40, _⟩ => ⟨S_, .i32⟩
  | .hbm, ⟨41, _⟩ => ⟨S64x128x256, .i32⟩
  | .hbm, ⟨42, _⟩ => ⟨S64x128x256, .i32⟩
  | .hbm, ⟨43, _⟩ => ⟨S_, .i32⟩
  | .hbm, ⟨44, _⟩ => ⟨S64x128x256, .i32⟩
  | .hbm, ⟨45, _⟩ => ⟨S64x128x256, .i32⟩
  | .hbm, ⟨46, _⟩ => ⟨S64x128x256, .i32⟩
  | .hbm, ⟨47, _⟩ => ⟨S_, .i32⟩
  | .hbm, ⟨48, _⟩ => ⟨S64x128x256, .i32⟩
  | .hbm, ⟨49, _⟩ => ⟨S64x128x256, .i1⟩
  | .hbm, ⟨50, _⟩ => ⟨S64x128x256, .i1⟩
  | .hbm, ⟨51, _⟩ => ⟨S1x1x8x64x128x256, .i1⟩
  | .hbm, ⟨52, _⟩ => ⟨S_, .f32⟩
  | .hbm, ⟨53, _⟩ => ⟨S1x1x8x64x128x256, .f32⟩
  | .hbm, ⟨54, _⟩ => ⟨S1x1x8x64x128x256, .f32⟩
  | .hbm, ⟨55, _⟩ => ⟨S_, .f32⟩
  | .hbm, ⟨56, _⟩ => ⟨S1x1x8x64x128, .f32⟩
  | .hbm, ⟨57, _⟩ => ⟨S1x1x8x64x128x1, .f32⟩
  | .hbm, ⟨58, _⟩ => ⟨S1x1x8x64x128x256, .f32⟩
  | .hbm, ⟨59, _⟩ => ⟨S1x1x8x64x128x256, .f32⟩
  | .hbm, ⟨60, _⟩ => ⟨S1x1x8x64x128x256, .f32⟩
  | .hbm, ⟨61, _⟩ => ⟨S_, .f32⟩
  | .hbm, ⟨62, _⟩ => ⟨S1x1x8x64x128, .f32⟩
  | .hbm, ⟨63, _⟩ => ⟨S1x1x8x64x128x1, .f32⟩
  | .hbm, ⟨64, _⟩ => ⟨S1x1x8x64x128x256, .f32⟩
  | .hbm, ⟨65, _⟩ => ⟨S1x1x8x64x128x256, .f32⟩
  | .hbm, ⟨66, _⟩ => ⟨S1x1x8x64x128x64, .f32⟩
  | .hbm, ⟨67, _⟩ => ⟨S1x1x8x64x128x1, .f32⟩
  | .hbm, ⟨68, _⟩ => ⟨S1x1x8x64x128x1, .f32⟩
  | .hbm, ⟨69, _⟩ => ⟨S1x1x8x64x128, .f32⟩
  | .hbm, ⟨70, _⟩ => ⟨S1x1x8x8192x64, .f32⟩
  | .hbm, ⟨71, _⟩ => ⟨S1x8192x1x8x64, .f32⟩
  | .hbm, ⟨72, _⟩ => ⟨S1x8192x8x64, .f32⟩
  | .hbm, ⟨73, _⟩ => ⟨S1x1x8x8192, .f32⟩
  | .hbm, ⟨74, _⟩ => ⟨S1x8192x1x8, .f32⟩
  | .hbm, ⟨75, _⟩ => ⟨S1x8192x8, .f32⟩
  | .hbm, ⟨76, _⟩ => ⟨S1x8192x8x64, .f32⟩
  | .hbm, ⟨77, _⟩ => ⟨S_, .f32⟩
  | .hbm, ⟨78, _⟩ => ⟨S1x8192x8, .f32⟩
  | .hbm, ⟨79, _⟩ => ⟨S1x8192x8, .f32⟩
  | .hbm, ⟨80, _⟩ => ⟨S8192x512, .f32⟩
  | .hbm, ⟨81, _⟩ => ⟨S8192x1x512, .f32⟩
  | .hbm, ⟨82, _⟩ => ⟨S1x8192x512, .f32⟩
  | .hbm, ⟨83, _⟩ => ⟨S1x8192x512, .bf16⟩
  | .hbm, ⟨84, _⟩ => ⟨S8192x512, .f32⟩
  | .hbm, ⟨85, _⟩ => ⟨S8192x1x512, .f32⟩
  | .hbm, ⟨86, _⟩ => ⟨S1x8192x512, .f32⟩
  | .hbm, ⟨87, _⟩ => ⟨S1x8192x512, .bf16⟩
  | .hbm, ⟨88, _⟩ => ⟨S8192x512, .f32⟩
  | .hbm, ⟨89, _⟩ => ⟨S8192x1x512, .f32⟩
  | .hbm, ⟨90, _⟩ => ⟨S1x8192x512, .f32⟩
  | .hbm, ⟨91, _⟩ => ⟨S1x8192x512, .bf16⟩
  | .hbm, ⟨92, _⟩ => ⟨S8192x512, .f32⟩
  | .hbm, ⟨93, _⟩ => ⟨S8192x1x512, .f32⟩
  | .hbm, ⟨94, _⟩ => ⟨S1x8192x512, .f32⟩
  | .hbm, ⟨95, _⟩ => ⟨S1x8192x512, .bf16⟩
  | .hbm, ⟨96, _⟩ => ⟨S8192x8, .f32⟩
  | .hbm, ⟨97, _⟩ => ⟨S8192x8x16, .f32⟩
  | .hbm, ⟨98, _⟩ => ⟨S8192x128, .f32⟩
  | .hbm, ⟨99, _⟩ => ⟨S8192x1x128, .f32⟩
  | .hbm, ⟨100, _⟩ => ⟨S1x8192x128, .f32⟩
  | .hbm, ⟨101, _⟩ => ⟨S8192x8, .f32⟩
  | .hbm, ⟨102, _⟩ => ⟨S8192x8x16, .f32⟩
  | .hbm, ⟨103, _⟩ => ⟨S8192x128, .f32⟩
  | .hbm, ⟨104, _⟩ => ⟨S8192x1x128, .f32⟩
  | .hbm, ⟨105, _⟩ => ⟨S1x8192x128, .f32⟩
  | .hbm, ⟨106, _⟩ => ⟨S1x8192x512, .bf16⟩
  | .hbm, ⟨107, _⟩ => ⟨S1x8192x512, .bf16⟩
  | .hbm, ⟨108, _⟩ => ⟨S1x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S128x512, .f32⟩
  | .local _ .vmem, ⟨23, _⟩ => ⟨S128x512, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89_0 : Ref sig .tc := ⟨.hbm, 106, rfl⟩
abbrev main_v89_1 : Ref sig .tc := ⟨.hbm, 107, rfl⟩
abbrev main_v89_2 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnAIdeal.lean ====
variable {F : FTy → Type} [FloatOps F] [Named F]
def κ : String → Option EReal := fun
  | "mask" => some ⊥
  | _ => none
-- ==== AttnARefIdeal.lean ====
abbrev S1x8192x8x64 : Shape := ⟨4, ![1, 8192, 8, 64]⟩
abbrev S1x8192x8 : Shape := ⟨3, ![1, 8192, 8]⟩
abbrev S_ : Shape := ⟨0, ![]⟩
abbrev S1x1x8x1x128x64 : Shape := ⟨6, ![1, 1, 8, 1, 128, 64]⟩
abbrev S1x8192x1x8x64 : Shape := ⟨5, ![1, 8192, 1, 8, 64]⟩
abbrev S1x1x8x8192x64 : Shape := ⟨5, ![1, 1, 8, 8192, 64]⟩
abbrev S1x1x8x64x128x64 : Shape := ⟨6, ![1, 1, 8, 64, 128, 64]⟩
abbrev S1x1x8x63x128x64 : Shape := ⟨6, ![1, 1, 8, 63, 128, 64]⟩
abbrev S1x1x8x64x256x64 : Shape := ⟨6, ![1, 1, 8, 64, 256, 64]⟩
abbrev S1x1x8x64x128x256 : Shape := ⟨6, ![1, 1, 8, 64, 128, 256]⟩
abbrev S64x128x256 : Shape := ⟨3, ![64, 128, 256]⟩
abbrev S1x1x8x64x128 : Shape := ⟨5, ![1, 1, 8, 64, 128]⟩
abbrev S1x1x8x64x128x1 : Shape := ⟨6, ![1, 1, 8, 64, 128, 1]⟩
abbrev S1x1x8x8192 : Shape := ⟨4, ![1, 1, 8, 8192]⟩
abbrev S1x8192x1x8 : Shape := ⟨4, ![1, 8192, 1, 8]⟩
abbrev S1x1x8x64x64x256 : Shape := ⟨6, ![1, 1, 8, 64, 64, 256]⟩
abbrev S8x64x128 : Shape := ⟨3, ![8, 64, 128]⟩
abbrev S8192x1x512 : Shape := ⟨3, ![8192, 1, 512]⟩
abbrev S1x8192x512 : Shape := ⟨3, ![1, 8192, 512]⟩

abbrev nBuf : Space → Nat
  | .hbm => 171
  | .vmem => 0
  | .smem => 0
  | _ => 0

abbrev hbmTy0_0 (i : Nat) : BufTy := match i % 128 with
  | 0 => ⟨S1x8192x8x64, .f32⟩
  | 1 => ⟨S1x8192x8x64, .f32⟩
  | 2 => ⟨S1x8192x8x64, .f32⟩
  | 3 => ⟨S1x8192x8x64, .f32⟩
  | 4 => ⟨S1x8192x8, .f32⟩
  | 5 => ⟨S_, .f32⟩
  | 6 => ⟨S1x1x8x1x128x64, .f32⟩
  | 7 => ⟨S1x8192x1x8x64, .f32⟩
  | 8 => ⟨S1x1x8x8192x64, .f32⟩
  | 9 => ⟨S1x1x8x64x128x64, .f32⟩
  | 10 => ⟨S1x8192x1x8x64, .f32⟩
  | 11 => ⟨S1x1x8x8192x64, .f32⟩
  | 12 => ⟨S1x1x8x64x128x64, .f32⟩
  | 13 => ⟨S1x1x8x63x128x64, .f32⟩
  | 14 => ⟨S1x1x8x64x128x64, .f32⟩
  | 15 => ⟨S_, .f32⟩
  | 16 => ⟨S1x1x8x1x128x64, .f32⟩
  | 17 => ⟨S1x1x8x64x256x64, .f32⟩
  | 18 => ⟨S1x8192x1x8x64, .f32⟩
  | 19 => ⟨S1x1x8x8192x64, .f32⟩
  | 20 => ⟨S1x1x8x64x128x64, .f32⟩
  | 21 => ⟨S1x1x8x63x128x64, .f32⟩
  | 22 => ⟨S1x1x8x64x128x64, .f32⟩
  | 23 => ⟨S_, .f32⟩
  | 24 => ⟨S1x1x8x1x128x64, .f32⟩
  | 25 => ⟨S1x1x8x64x256x64, .f32⟩
  | 26 => ⟨S1x1x8x64x128x256, .f32⟩
  | 27 => ⟨S_, .f32⟩
  | 28 => ⟨S1x1x8x64x128x256, .f32⟩
  | 29 => ⟨S1x1x8x64x128x256, .f32⟩
  | 30 => ⟨S64x128x256, .i32⟩
  | 31 => ⟨S64x128x256, .i32⟩
  | 32 => ⟨S64x128x256, .i32⟩
  | 33 => ⟨S_, .i32⟩
  | 34 => ⟨S64x128x256, .i32⟩
  | 35 => ⟨S64x128x256, .i32⟩
  | 36 => ⟨S64x128x256, .i32⟩
  | 37 => ⟨S_, .i32⟩
  | 38 => ⟨S64x128x256, .i32⟩
  | 39 => ⟨S64x128x256, .i1⟩
  | 40 => ⟨S_, .i32⟩
  | 41 => ⟨S64x128x256, .i32⟩
  | 42 => ⟨S64x128x256, .i1⟩
  | 43 => ⟨S64x128x256, .i1⟩
  | 44 => ⟨S_, .i32⟩
  | 45 => ⟨S64x128x256, .i32⟩
  | 46 => ⟨S64x128x256, .i32⟩
  | 47 => ⟨S_, .i32⟩
  | 48 => ⟨S64x128x256, .i32⟩
  | 49 => ⟨S64x128x256, .i32⟩
  | 50 => ⟨S64x128x256, .i32⟩
  | 51 => ⟨S_, .i32⟩
  | 52 => ⟨S64x128x256, .i32⟩
  | 53 => ⟨S64x128x256, .i1⟩
  | 54 => ⟨S64x128x256, .i1⟩
  | 55 => ⟨S1x1x8x64x128x256, .i1⟩
  | 56 => ⟨S_, .f32⟩
  | 57 => ⟨S1x1x8x64x128x256, .f32⟩
  | 58 => ⟨S1x1x8x64x128x256, .f32⟩
  | 59 => ⟨S_, .f32⟩
  | 60 => ⟨S1x1x8x64x128x256, .f32⟩
  | 61 => ⟨S_, .f32⟩
  | 62 => ⟨S1x1x8x64x128, .f32⟩
  | 63 => ⟨S1x1x8x64x128x1, .f32⟩
  | 64 => ⟨S1x1x8x64x128x256, .f32⟩
  | 65 => ⟨S1x1x8x64x128x256, .i1⟩
  | 66 => ⟨S1x1x8x64x128x256, .f32⟩
  | 67 => ⟨S_, .f32⟩
  | 68 => ⟨S1x1x8x64x128, .f32⟩
  | 69 => ⟨S1x1x8x64x128x1, .f32⟩
  | 70 => ⟨S1x1x8x64x128x256, .f32⟩
  | 71 => ⟨S1x1x8x64x128x256, .f32⟩
  | 72 => ⟨S1x1x8x64x128x256, .f32⟩
  | 73 => ⟨S_, .f32⟩
  | 74 => ⟨S1x1x8x64x128, .f32⟩
  | 75 => ⟨S1x1x8x64x128x1, .f32⟩
  | 76 => ⟨S1x1x8x64x128x256, .f32⟩
  | 77 => ⟨S1x1x8x64x128x256, .f32⟩
  | 78 => ⟨S1x1x8x64x128x1, .f32⟩
  | 79 => ⟨S_, .f32⟩
  | 80 => ⟨S1x1x8x64x128x1, .f32⟩
  | 81 => ⟨S1x1x8x64x128x1, .f32⟩
  | 82 => ⟨S1x1x8x64x128x64, .f32⟩
  | 83 => ⟨S1x1x8x64x128x1, .f32⟩
  | 84 => ⟨S1x1x8x64x128x1, .f32⟩
  | 85 => ⟨S1x1x8x64x128, .f32⟩
  | 86 => ⟨S1x1x8x8192x64, .f32⟩
  | 87 => ⟨S1x8192x1x8x64, .f32⟩
  | 88 => ⟨S1x8192x8x64, .f32⟩
  | 89 => ⟨S1x1x8x8192, .f32⟩
  | 90 => ⟨S1x8192x1x8, .f32⟩
  | 91 => ⟨S1x8192x8, .f32⟩
  | 92 => ⟨S1x8192x1x8, .f32⟩
  | 93 => ⟨S1x1x8x8192, .f32⟩
  | 94 => ⟨S1x1x8x64x128, .f32⟩
  | 95 => ⟨S1x8192x1x8x64, .f32⟩
  | 96 => ⟨S1x1x8x8192x64, .f32⟩
  | 97 => ⟨S1x1x8x64x128x64, .f32⟩
  | 98 => ⟨S1x1x8x64x128x1, .f32⟩
  | 99 => ⟨S1x1x8x64x128x1, .f32⟩
  | 100 => ⟨S1x1x8x64x64x256, .f32⟩
  | 101 => ⟨S1x1x8x64x256x64, .f32⟩
  | 102 => ⟨S1x1x8x64x128x256, .f32⟩
  | 103 => ⟨S1x1x8x64x128x256, .f32⟩
  | 104 => ⟨S1x1x8x64x128x256, .f32⟩
  | 105 => ⟨S1x1x8x64x128x256, .f32⟩
  | 106 => ⟨S_, .f32⟩
  | 107 => ⟨S1x1x8x64x128, .f32⟩
  | 108 => ⟨S1x1x8x64x128x1, .f32⟩
  | 109 => ⟨S1x1x8x64x128x1, .f32⟩
  | 110 => ⟨S1x1x8x64x128x1, .f32⟩
  | 111 => ⟨S1x1x8x64x128x256, .f32⟩
  | 112 => ⟨S1x1x8x64x128x256, .f32⟩
  | 113 => ⟨S_, .f32⟩
  | 114 => ⟨S8x64x128, .f32⟩
  | 115 => ⟨S1x1x8x64x128, .f32⟩
  | 116 => ⟨S1x1x8x64x128x256, .f32⟩
  | 117 => ⟨S1x1x8x64x128x256, .f32⟩
  | 118 => ⟨S1x1x8x64x128x256, .f32⟩
  | 119 => ⟨S1x1x8x64x128x256, .f32⟩
  | 120 => ⟨S_, .f32⟩
  | 121 => ⟨S1x1x8x64x128, .f32⟩
  | 122 => ⟨S1x1x8x64x128x1, .f32⟩
  | 123 => ⟨S1x1x8x64x128x1, .f32⟩
  | 124 => ⟨S_, .f32⟩
  | 125 => ⟨S8x64x128, .f32⟩
  | 126 => ⟨S1x1x8x64x128, .f32⟩
  | 127 => ⟨S1x1x8x64x128, .f32⟩
  | _ => ⟨S1x8192x8x64, .f32⟩

abbrev hbmTy0_1 (i : Nat) : BufTy := match i % 128 with
  | 0 => ⟨S1x1x8x64x128x256, .f32⟩
  | 1 => ⟨S1x1x8x64x128x256, .f32⟩
  | 2 => ⟨S1x1x8x64x128x256, .f32⟩
  | 3 => ⟨S_, .f32⟩
  | 4 => ⟨S1x1x8x64x128x256, .f32⟩
  | 5 => ⟨S1x1x8x64x128x256, .f32⟩
  | 6 => ⟨S_, .f32⟩
  | 7 => ⟨S1x1x8x64x128x256, .f32⟩
  | 8 => ⟨S1x1x8x64x128x256, .f32⟩
  | 9 => ⟨S1x1x8x64x256x64, .f32⟩
  | 10 => ⟨S1x1x8x64x128x64, .f32⟩
  | 11 => ⟨S1x1x8x64x128x64, .f32⟩
  | 12 => ⟨S1x1x8x64x128x64, .f32⟩
  | 13 => ⟨S1x1x8x1x128x64, .f32⟩
  | 14 => ⟨S1x1x8x63x128x64, .f32⟩
  | 15 => ⟨S_, .f32⟩
  | 16 => ⟨S1x1x8x64x128x64, .f32⟩
  | 17 => ⟨S1x1x8x64x128x64, .f32⟩
  | 18 => ⟨S1x1x8x8192x64, .f32⟩
  | 19 => ⟨S1x8192x1x8x64, .f32⟩
  | 20 => ⟨S1x8192x8x64, .f32⟩
  | 21 => ⟨S1x1x8x64x128x64, .f32⟩
  | 22 => ⟨S1x1x8x64x128x64, .f32⟩
  | 23 => ⟨S1x1x8x1x128x64, .f32⟩
  | 24 => ⟨S1x1x8x63x128x64, .f32⟩
  | 25 => ⟨S_, .f32⟩
  | 26 => ⟨S1x1x8x64x128x64, .f32⟩
  | 27 => ⟨S1x1x8x64x128x64, .f32⟩
  | 28 => ⟨S1x1x8x8192x64, .f32⟩
  | 29 => ⟨S1x8192x1x8x64, .f32⟩
  | 30 => ⟨S1x8192x8x64, .f32⟩
  | 31 => ⟨S1x1x8x8192x64, .f32⟩
  | 32 => ⟨S1x8192x1x8x64, .f32⟩
  | 33 => ⟨S1x8192x8x64, .f32⟩
  | 34 => ⟨S8192x1x512, .f32⟩
  | 35 => ⟨S1x8192x512, .f32⟩
  | 36 => ⟨S1x8192x512, .bf16⟩
  | 37 => ⟨S8192x1x512, .f32⟩
  | 38 => ⟨S1x8192x512, .f32⟩
  | 39 => ⟨S1x8192x512, .bf16⟩
  | 40 => ⟨S8192x1x512, .f32⟩
  | 41 => ⟨S1x8192x512, .f32⟩
  | 42 => ⟨S1x8192x512, .bf16⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_15 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_16 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_17 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_18 : Ref sig .tc := ⟨.hbm, 131, rfl⟩
abbrev main_v106 : Ref sig .tc := ⟨.hbm, 132, rfl⟩
abbrev main_v107 : Ref sig .tc := ⟨.hbm, 133, rfl⟩
abbrev main_cst_19 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_20 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_21 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩

abbrev nD : Nat := 1
abbrev τ : Topo := Topo.v7x

variable {F : FTy → Type} [FloatOps F]
-- ==== AttnC.lean ====
abbrev S1x8192x8x64 : Shape := ⟨4, ![1, 8192, 8, 64]⟩
abbrev S1x8192x8 : Shape := ⟨3, ![1, 8192, 8]⟩
abbrev S_ : Shape := ⟨0, ![]⟩
abbrev S1x16x8x1x128x64 : Shape := ⟨6, ![1, 16, 8, 1, 128, 64]⟩
abbrev S1x512x16x8x64 : Shape := ⟨5, ![1, 512, 16, 8, 64]⟩
abbrev S1x16x8x512x64 : Shape := ⟨5, ![1, 16, 8, 512, 64]⟩
abbrev S1x16x8x4x128x64 : Shape := ⟨6, ![1, 16, 8, 4, 128, 64]⟩
abbrev S1x16x8x3x128x64 : Shape := ⟨6, ![1, 16, 8, 3, 128, 64]⟩
abbrev S1x16x8x4x256x64 : Shape := ⟨6, ![1, 16, 8, 4, 256, 64]⟩
abbrev S1x16x8x4x128x256 : Shape := ⟨6, ![1, 16, 8, 4, 128, 256]⟩
abbrev S4x128x256 : Shape := ⟨3, ![4, 128, 256]⟩
abbrev S1x16x8x4x128 : Shape := ⟨5, ![1, 16, 8, 4, 128]⟩
abbrev S1x16x8x4x128x1 : Shape := ⟨6, ![1, 16, 8, 4, 128, 1]⟩
abbrev S1x16x8x512 : Shape := ⟨4, ![1, 16, 8, 512]⟩
abbrev S1x512x16x8 : Shape := ⟨4, ![1, 512, 16, 8]⟩
abbrev S8192x512 : Shape := ⟨2, ![8192, 512]⟩
abbrev S512x16x512 : Shape := ⟨3, ![512, 16, 512]⟩
abbrev S16x512x512 : Shape := ⟨3, ![16, 512, 512]⟩
abbrev S8192x8 : Shape := ⟨2, ![8192, 8]⟩
abbrev S8192x8x16 : Shape := ⟨3, ![8192, 8, 16]⟩
abbrev S8192x128 : Shape := ⟨2, ![8192, 128]⟩
abbrev S512x16x128 : Shape := ⟨3, ![512, 16, 128]⟩
abbrev S16x512x128 : Shape := ⟨3, ![16, 512, 128]⟩
abbrev S1x512x512 : Shape := ⟨3, ![1, 512, 512]⟩
abbrev S1x128x512 : Shape := ⟨3, ![1, 128, 512]⟩
abbrev S1x512x128 : Shape := ⟨3, ![1, 512, 128]⟩
abbrev S128x512 : Shape := ⟨2, ![128, 512]⟩
abbrev S128x256 : Shape := ⟨2, ![128, 256]⟩
abbrev S1x128 : Shape := ⟨2, ![1, 128]⟩
abbrev S1x128x128 : Shape := ⟨3, ![1, 128, 128]⟩
abbrev S128x128 : Shape := ⟨2, ![128, 128]⟩
abbrev S512x128 : Shape := ⟨2, ![512, 128]⟩
abbrev S640x128 : Shape := ⟨2, ![640, 128]⟩
abbrev S256x128 : Shape := ⟨2, ![256, 128]⟩
abbrev S1x128x1 : Shape := ⟨3, ![1, 128, 1]⟩
abbrev S128x1 : Shape := ⟨2, ![128, 1]⟩

abbrev nBuf : Space → Nat
  | .hbm => 109
  | .vmem => 24
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8x64, .f32⟩
  | .hbm, ⟨4, _⟩ => ⟨S1x8192x8, .f32⟩
  | .hbm, ⟨5, _⟩ => ⟨S_, .f32⟩
  | .hbm, ⟨6, _⟩ => ⟨S1x16x8x1x128x64, .f32⟩
  | .hbm, ⟨7, _⟩ => ⟨S1x512x16x8x64, .f32⟩
  | .hbm, ⟨8, _⟩ => ⟨S1x16x8x512x64, .f32⟩
  | .hbm, ⟨9, _⟩ => ⟨S1x16x8x4x128x64, .f32⟩
  | .hbm, ⟨10, _⟩ => ⟨S1x512x16x8x64, .f32⟩
  | .hbm, ⟨11, _⟩ => ⟨S1x16x8x512x64, .f32⟩
  | .hbm, ⟨12, _⟩ => ⟨S1x16x8x4x128x64, .f32⟩
  | .hbm, ⟨13, _⟩ => ⟨S1x16x8x3x128x64, .f32⟩
  | .hbm, ⟨14, _⟩ => ⟨S1x16x8x4x128x64, .f32⟩
  | .hbm, ⟨15, _⟩ => ⟨S1x16x8x4x256x64, .f32⟩
  | .hbm, ⟨16, _⟩ => ⟨S1x512x16x8x64, .f32⟩
  | .hbm, ⟨17, _⟩ => ⟨S1x16x8x512x64, .f32⟩
  | .hbm, ⟨18, _⟩ => ⟨S1x16x8x4x128x64, .f32⟩
  | .hbm, ⟨19, _⟩ => ⟨S1x16x8x3x128x64, .f32⟩
  | .hbm, ⟨20, _⟩ => ⟨S1x16x8x4x128x64, .f32⟩
  | .hbm, ⟨21, _⟩ => ⟨S1x16x8x4x256x64, .f32⟩
  | .hbm, ⟨22, _⟩ => ⟨S1x16x8x4x128x256, .f32⟩
  | .hbm, ⟨23, _⟩ => ⟨S_, .f32⟩
  | .hbm, ⟨24, _⟩ => ⟨S1x16x8x4x128x256, .f32⟩
  | .hbm, ⟨25, _⟩ => ⟨S1x16x8x4x128x256, .f32⟩
  | .hbm, ⟨26, _⟩ => ⟨S4x128x256, .i32⟩
  | .hbm, ⟨27, _⟩ => ⟨S4x128x256, .i32⟩
  | .hbm, ⟨28, _⟩ => ⟨S4x128x256, .i32⟩
  | .hbm, ⟨29, _⟩ => ⟨S_, .i32⟩
  | .hbm, ⟨30, _⟩ => ⟨S4x128x256, .i32⟩
  | .hbm, ⟨31, _⟩ => ⟨S4x128x256, .i32⟩
  | .hbm, ⟨32, _⟩ => ⟨S4x128x256, .i32⟩
  | .hbm, ⟨33, _⟩ => ⟨S_, .i32⟩
  | .hbm, ⟨34, _⟩ => ⟨S4x128x256, .i32⟩
  | .hbm, ⟨35, _⟩ => ⟨S4x128x256, .i1⟩
  | .hbm, ⟨36, _⟩ => ⟨S_, .i32⟩
  | .hbm, ⟨37, _⟩ => ⟨S4x128x256, .i32⟩
  | .hbm, ⟨38, _⟩ => ⟨S4x128x256, .i1⟩
  | .hbm, ⟨39, _⟩ => ⟨S4x128x256, .i1⟩
  | .hbm, ⟨40, _⟩ => ⟨S_, .i32⟩
  | .hbm, ⟨41, _⟩ => ⟨S4x128x256, .i32⟩
  | .hbm, ⟨42, _⟩ => ⟨S4x128x256, .i32⟩
  | .hbm, ⟨43, _⟩ => ⟨S_, .i32⟩
  | .hbm, ⟨44, _⟩ => ⟨S4x128x256, .i32⟩
  | .hbm, ⟨45, _⟩ => ⟨S4x128x256, .i32⟩
  | .hbm, ⟨46, _⟩ => ⟨S4x128x256, .i32⟩
  | .hbm, ⟨47, _⟩ => ⟨S_, .i32⟩
  | .hbm, ⟨48, _⟩ => ⟨S4x128x256, .i32⟩
  | .hbm, ⟨49, _⟩ => ⟨S4x128x256, .i1⟩
  | .hbm, ⟨50, _⟩ => ⟨S4x128x256, .i1⟩
  | .hbm, ⟨51, _⟩ => ⟨S1x16x8x4x128x256, .i1⟩
  | .hbm, ⟨52, _⟩ => ⟨S_, .f32⟩
  | .hbm, ⟨53, _⟩ => ⟨S1x16x8x4x128x256, .f32⟩
  | .hbm, ⟨54, _⟩ => ⟨S1x16x8x4x128x256, .f32⟩
  | .hbm, ⟨55, _⟩ => ⟨S_, .f32⟩
  | .hbm, ⟨56, _⟩ => ⟨S1x16x8x4x128, .f32⟩
  | .hbm, ⟨57, _⟩ => ⟨S1x16x8x4x128x1, .f32⟩
  | .hbm, ⟨58, _⟩ => ⟨S1x16x8x4x128x256, .f32⟩
  | .hbm, ⟨59, _⟩ => ⟨S1x16x8x4x128x256, .f32⟩
  | .hbm, ⟨60, _⟩ => ⟨S1x16x8x4x128x256, .f32⟩
  | .hbm, ⟨61, _⟩ => ⟨S_, .f32⟩
  | .hbm, ⟨62, _⟩ => ⟨S1x16x8x4x128, .f32⟩
  | .hbm, ⟨63, _⟩ => ⟨S1x16x8x4x128x1, .f32⟩
  | .hbm, ⟨64, _⟩ => ⟨S1x16x8x4x128x256, .f32⟩
  | .hbm, ⟨65, _⟩ => ⟨S1x16x8x4x128x256, .f32⟩
  | .hbm, ⟨66, _⟩ => ⟨S1x16x8x4x128x64, .f32⟩
  | .hbm, ⟨67, _⟩ => ⟨S1x16x8x4x128x1, .f32⟩
  | .hbm, ⟨68, _⟩ => ⟨S1x16x8x4x128x1, .f32⟩
  | .hbm, ⟨69, _⟩ => ⟨S1x16x8x4x128, .f32⟩
  | .hbm, ⟨70, _⟩ => ⟨S1x16x8x512x64, .f32⟩
  | .hbm, ⟨71, _⟩ => ⟨S1x512x16x8x64, .f32⟩
  | .hbm, ⟨72, _⟩ => ⟨S1x8192x8x64, .f32⟩
  | .hbm, ⟨73, _⟩ => ⟨S1x16x8x512, .f32⟩
  | .hbm, ⟨74, _⟩ => ⟨S1x512x16x8, .f32⟩
  | .hbm, ⟨75, _⟩ => ⟨S1x8192x8, .f32⟩
  | .hbm, ⟨76, _⟩ => ⟨S1x8192x8x64, .f32⟩
  | .hbm, ⟨77, _⟩ => ⟨S_, .f32⟩
  | .hbm, ⟨78, _⟩ => ⟨S1x8192x8, .f32⟩
  | .hbm, ⟨79, _⟩ => ⟨S1x8192x8, .f32⟩
  | .hbm, ⟨80, _⟩ => ⟨S8192x512, .f32⟩
  | .hbm, ⟨81, _⟩ => ⟨S512x16x512, .f32⟩
  | .hbm, ⟨82, _⟩ => ⟨S16x512x512, .f32⟩
  | .hbm, ⟨83, _⟩ => ⟨S16x512x512, .bf16⟩
  | .hbm, ⟨84, _⟩ => ⟨S8192x512, .f32⟩
  | .hbm, ⟨85, _⟩ => ⟨S512x16x512, .f32⟩
  | .hbm, ⟨86, _⟩ => ⟨S16x512x512, .f32⟩
  | .hbm, ⟨87, _⟩ => ⟨S16x512x512, .bf16⟩
  | .hbm, ⟨88, _⟩ => ⟨S8192x512, .f32⟩
  | .hbm, ⟨89, _⟩ => ⟨S512x16x512, .f32⟩
  | .hbm, ⟨90, _⟩ => ⟨S16x512x512, .f32⟩
  | .hbm, ⟨91, _⟩ => ⟨S16x512x512, .bf16⟩
  | .hbm, ⟨92, _⟩ => ⟨S8192x512, .f32⟩
  | .hbm, ⟨93, _⟩ => ⟨S512x16x512, .f32⟩
  | .hbm, ⟨94, _⟩ => ⟨S16x512x512, .f32⟩
  | .hbm, ⟨95, _⟩ => ⟨S16x512x512, .bf16⟩
  | .hbm, ⟨96, _⟩ => ⟨S8192x8, .f32⟩
  | .hbm, ⟨97, _⟩ => ⟨S8192x8x16, .f32⟩
  | .hbm, ⟨98, _⟩ => ⟨S8192x128, .f32⟩
  | .hbm, ⟨99, _⟩ => ⟨S512x16x128, .f32⟩
  | .hbm, ⟨100, _⟩ => ⟨S16x512x128, .f32⟩
  | .hbm, ⟨101, _⟩ => ⟨S8192x8, .f32⟩
  | .hbm, ⟨102, _⟩ => ⟨S8192x8x16, .f32⟩
  | .hbm, ⟨103, _⟩ => ⟨S8192x128, .f32⟩
  | .hbm, ⟨104, _⟩ => ⟨S512x16x128, .f32⟩
  | .hbm, ⟨105, _⟩ => ⟨S16x512x128, .f32⟩
  | .hbm, ⟨106, _⟩ => ⟨S16x512x512, .bf16⟩
  | .hbm, ⟨107, _⟩ => ⟨S16x512x512, .bf16⟩
  | .hbm, ⟨108, _⟩ => ⟨S16x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S128x512, .f32⟩
  | .local _ .vmem, ⟨23, _⟩ => ⟨S128x512, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89_0 : Ref sig .tc := ⟨.hbm, 106, rfl⟩
abbrev main_v89_1 : Ref sig .tc := ⟨.hbm, 107, rfl⟩
abbrev main_v89_2 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c4_i32 : BitVec 32 := 4#32
  let v1 : BitVec 32 := Scalar.muli c4_i32 v0
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c4_i32 : BitVec 32 := 4#32
  let v1 : BitVec 32 := Scalar.muli c4_i32 v0
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnCIdeal.lean ====
variable {F : FTy → Type} [FloatOps F] [Named F]
def κ : String → Option EReal := fun
  | "mask" => some ⊥
  | _ => none
-- ==== AttnCRefIdeal.lean ====
abbrev S1x8192x8x64 : Shape := ⟨4, ![1, 8192, 8, 64]⟩
abbrev S1x8192x8 : Shape := ⟨3, ![1, 8192, 8]⟩
abbrev S_ : Shape := ⟨0, ![]⟩
abbrev S1x16x8x1x128x64 : Shape := ⟨6, ![1, 16, 8, 1, 128, 64]⟩
abbrev S1x512x16x8x64 : Shape := ⟨5, ![1, 512, 16, 8, 64]⟩
abbrev S1x16x8x512x64 : Shape := ⟨5, ![1, 16, 8, 512, 64]⟩
abbrev S1x16x8x4x128x64 : Shape := ⟨6, ![1, 16, 8, 4, 128, 64]⟩
abbrev S1x16x8x3x128x64 : Shape := ⟨6, ![1, 16, 8, 3, 128, 64]⟩
abbrev S1x16x8x4x256x64 : Shape := ⟨6, ![1, 16, 8, 4, 256, 64]⟩
abbrev S1x16x8x4x128x256 : Shape := ⟨6, ![1, 16, 8, 4, 128, 256]⟩
abbrev S4x128x256 : Shape := ⟨3, ![4, 128, 256]⟩
abbrev S1x16x8x4x128 : Shape := ⟨5, ![1, 16, 8, 4, 128]⟩
abbrev S1x16x8x4x128x1 : Shape := ⟨6, ![1, 16, 8, 4, 128, 1]⟩
abbrev S1x16x8x512 : Shape := ⟨4, ![1, 16, 8, 512]⟩
abbrev S1x512x16x8 : Shape := ⟨4, ![1, 512, 16, 8]⟩
abbrev S1x16x8x4x64x256 : Shape := ⟨6, ![1, 16, 8, 4, 64, 256]⟩
abbrev S16x8x4x128 : Shape := ⟨4, ![16, 8, 4, 128]⟩
abbrev S512x16x512 : Shape := ⟨3, ![512, 16, 512]⟩
abbrev S16x512x512 : Shape := ⟨3, ![16, 512, 512]⟩

abbrev nBuf : Space → Nat
  | .hbm => 171
  | .vmem => 0
  | .smem => 0
  | _ => 0

abbrev hbmTy0_0 (i : Nat) : BufTy := match i % 128 with
  | 0 => ⟨S1x8192x8x64, .f32⟩
  | 1 => ⟨S1x8192x8x64, .f32⟩
  | 2 => ⟨S1x8192x8x64, .f32⟩
  | 3 => ⟨S1x8192x8x64, .f32⟩
  | 4 => ⟨S1x8192x8, .f32⟩
  | 5 => ⟨S_, .f32⟩
  | 6 => ⟨S1x16x8x1x128x64, .f32⟩
  | 7 => ⟨S1x512x16x8x64, .f32⟩
  | 8 => ⟨S1x16x8x512x64, .f32⟩
  | 9 => ⟨S1x16x8x4x128x64, .f32⟩
  | 10 => ⟨S1x512x16x8x64, .f32⟩
  | 11 => ⟨S1x16x8x512x64, .f32⟩
  | 12 => ⟨S1x16x8x4x128x64, .f32⟩
  | 13 => ⟨S1x16x8x3x128x64, .f32⟩
  | 14 => ⟨S1x16x8x4x128x64, .f32⟩
  | 15 => ⟨S_, .f32⟩
  | 16 => ⟨S1x16x8x1x128x64, .f32⟩
  | 17 => ⟨S1x16x8x4x256x64, .f32⟩
  | 18 => ⟨S1x512x16x8x64, .f32⟩
  | 19 => ⟨S1x16x8x512x64, .f32⟩
  | 20 => ⟨S1x16x8x4x128x64, .f32⟩
  | 21 => ⟨S1x16x8x3x128x64, .f32⟩
  | 22 => ⟨S1x16x8x4x128x64, .f32⟩
  | 23 => ⟨S_, .f32⟩
  | 24 => ⟨S1x16x8x1x128x64, .f32⟩
  | 25 => ⟨S1x16x8x4x256x64, .f32⟩
  | 26 => ⟨S1x16x8x4x128x256, .f32⟩
  | 27 => ⟨S_, .f32⟩
  | 28 => ⟨S1x16x8x4x128x256, .f32⟩
  | 29 => ⟨S1x16x8x4x128x256, .f32⟩
  | 30 => ⟨S4x128x256, .i32⟩
  | 31 => ⟨S4x128x256, .i32⟩
  | 32 => ⟨S4x128x256, .i32⟩
  | 33 => ⟨S_, .i32⟩
  | 34 => ⟨S4x128x256, .i32⟩
  | 35 => ⟨S4x128x256, .i32⟩
  | 36 => ⟨S4x128x256, .i32⟩
  | 37 => ⟨S_, .i32⟩
  | 38 => ⟨S4x128x256, .i32⟩
  | 39 => ⟨S4x128x256, .i1⟩
  | 40 => ⟨S_, .i32⟩
  | 41 => ⟨S4x128x256, .i32⟩
  | 42 => ⟨S4x128x256, .i1⟩
  | 43 => ⟨S4x128x256, .i1⟩
  | 44 => ⟨S_, .i32⟩
  | 45 => ⟨S4x128x256, .i32⟩
  | 46 => ⟨S4x128x256, .i32⟩
  | 47 => ⟨S_, .i32⟩
  | 48 => ⟨S4x128x256, .i32⟩
  | 49 => ⟨S4x128x256, .i32⟩
  | 50 => ⟨S4x128x256, .i32⟩
  | 51 => ⟨S_, .i32⟩
  | 52 => ⟨S4x128x256, .i32⟩
  | 53 => ⟨S4x128x256, .i1⟩
  | 54 => ⟨S4x128x256, .i1⟩
  | 55 => ⟨S1x16x8x4x128x256, .i1⟩
  | 56 => ⟨S_, .f32⟩
  | 57 => ⟨S1x16x8x4x128x256, .f32⟩
  | 58 => ⟨S1x16x8x4x128x256, .f32⟩
  | 59 => ⟨S_, .f32⟩
  | 60 => ⟨S1x16x8x4x128x256, .f32⟩
  | 61 => ⟨S_, .f32⟩
  | 62 => ⟨S1x16x8x4x128, .f32⟩
  | 63 => ⟨S1x16x8x4x128x1, .f32⟩
  | 64 => ⟨S1x16x8x4x128x256, .f32⟩
  | 65 => ⟨S1x16x8x4x128x256, .i1⟩
  | 66 => ⟨S1x16x8x4x128x256, .f32⟩
  | 67 => ⟨S_, .f32⟩
  | 68 => ⟨S1x16x8x4x128, .f32⟩
  | 69 => ⟨S1x16x8x4x128x1, .f32⟩
  | 70 => ⟨S1x16x8x4x128x256, .f32⟩
  | 71 => ⟨S1x16x8x4x128x256, .f32⟩
  | 72 => ⟨S1x16x8x4x128x256, .f32⟩
  | 73 => ⟨S_, .f32⟩
  | 74 => ⟨S1x16x8x4x128, .f32⟩
  | 75 => ⟨S1x16x8x4x128x1, .f32⟩
  | 76 => ⟨S1x16x8x4x128x256, .f32⟩
  | 77 => ⟨S1x16x8x4x128x256, .f32⟩
  | 78 => ⟨S1x16x8x4x128x1, .f32⟩
  | 79 => ⟨S_, .f32⟩
  | 80 => ⟨S1x16x8x4x128x1, .f32⟩
  | 81 => ⟨S1x16x8x4x128x1, .f32⟩
  | 82 => ⟨S1x16x8x4x128x64, .f32⟩
  | 83 => ⟨S1x16x8x4x128x1, .f32⟩
  | 84 => ⟨S1x16x8x4x128x1, .f32⟩
  | 85 => ⟨S1x16x8x4x128, .f32⟩
  | 86 => ⟨S1x16x8x512x64, .f32⟩
  | 87 => ⟨S1x512x16x8x64, .f32⟩
  | 88 => ⟨S1x8192x8x64, .f32⟩
  | 89 => ⟨S1x16x8x512, .f32⟩
  | 90 => ⟨S1x512x16x8, .f32⟩
  | 91 => ⟨S1x8192x8, .f32⟩
  | 92 => ⟨S1x512x16x8, .f32⟩
  | 93 => ⟨S1x16x8x512, .f32⟩
  | 94 => ⟨S1x16x8x4x128, .f32⟩
  | 95 => ⟨S1x512x16x8x64, .f32⟩
  | 96 => ⟨S1x16x8x512x64, .f32⟩
  | 97 => ⟨S1x16x8x4x128x64, .f32⟩
  | 98 => ⟨S1x16x8x4x128x1, .f32⟩
  | 99 => ⟨S1x16x8x4x128x1, .f32⟩
  | 100 => ⟨S1x16x8x4x64x256, .f32⟩
  | 101 => ⟨S1x16x8x4x256x64, .f32⟩
  | 102 => ⟨S1x16x8x4x128x256, .f32⟩
  | 103 => ⟨S1x16x8x4x128x256, .f32⟩
  | 104 => ⟨S1x16x8x4x128x256, .f32⟩
  | 105 => ⟨S1x16x8x4x128x256, .f32⟩
  | 106 => ⟨S_, .f32⟩
  | 107 => ⟨S1x16x8x4x128, .f32⟩
  | 108 => ⟨S1x16x8x4x128x1, .f32⟩
  | 109 => ⟨S1x16x8x4x128x1, .f32⟩
  | 110 => ⟨S1x16x8x4x128x1, .f32⟩
  | 111 => ⟨S1x16x8x4x128x256, .f32⟩
  | 112 => ⟨S1x16x8x4x128x256, .f32⟩
  | 113 => ⟨S_, .f32⟩
  | 114 => ⟨S16x8x4x128, .f32⟩
  | 115 => ⟨S1x16x8x4x128, .f32⟩
  | 116 => ⟨S1x16x8x4x128x256, .f32⟩
  | 117 => ⟨S1x16x8x4x128x256, .f32⟩
  | 118 => ⟨S1x16x8x4x128x256, .f32⟩
  | 119 => ⟨S1x16x8x4x128x256, .f32⟩
  | 120 => ⟨S_, .f32⟩
  | 121 => ⟨S1x16x8x4x128, .f32⟩
  | 122 => ⟨S1x16x8x4x128x1, .f32⟩
  | 123 => ⟨S1x16x8x4x128x1, .f32⟩
  | 124 => ⟨S_, .f32⟩
  | 125 => ⟨S16x8x4x128, .f32⟩
  | 126 => ⟨S1x16x8x4x128, .f32⟩
  | 127 => ⟨S1x16x8x4x128, .f32⟩
  | _ => ⟨S1x8192x8x64, .f32⟩

abbrev hbmTy0_1 (i : Nat) : BufTy := match i % 128 with
  | 0 => ⟨S1x16x8x4x128x256, .f32⟩
  | 1 => ⟨S1x16x8x4x128x256, .f32⟩
  | 2 => ⟨S1x16x8x4x128x256, .f32⟩
  | 3 => ⟨S_, .f32⟩
  | 4 => ⟨S1x16x8x4x128x256, .f32⟩
  | 5 => ⟨S1x16x8x4x128x256, .f32⟩
  | 6 => ⟨S_, .f32⟩
  | 7 => ⟨S1x16x8x4x128x256, .f32⟩
  | 8 => ⟨S1x16x8x4x128x256, .f32⟩
  | 9 => ⟨S1x16x8x4x256x64, .f32⟩
  | 10 => ⟨S1x16x8x4x128x64, .f32⟩
  | 11 => ⟨S1x16x8x4x128x64, .f32⟩
  | 12 => ⟨S1x16x8x4x128x64, .f32⟩
  | 13 => ⟨S1x16x8x1x128x64, .f32⟩
  | 14 => ⟨S1x16x8x3x128x64, .f32⟩
  | 15 => ⟨S_, .f32⟩
  | 16 => ⟨S1x16x8x4x128x64, .f32⟩
  | 17 => ⟨S1x16x8x4x128x64, .f32⟩
  | 18 => ⟨S1x16x8x512x64, .f32⟩
  | 19 => ⟨S1x512x16x8x64, .f32⟩
  | 20 => ⟨S1x8192x8x64, .f32⟩
  | 21 => ⟨S1x16x8x4x128x64, .f32⟩
  | 22 => ⟨S1x16x8x4x128x64, .f32⟩
  | 23 => ⟨S1x16x8x1x128x64, .f32⟩
  | 24 => ⟨S1x16x8x3x128x64, .f32⟩
  | 25 => ⟨S_, .f32⟩
  | 26 => ⟨S1x16x8x4x128x64, .f32⟩
  | 27 => ⟨S1x16x8x4x128x64, .f32⟩
  | 28 => ⟨S1x16x8x512x64, .f32⟩
  | 29 => ⟨S1x512x16x8x64, .f32⟩
  | 30 => ⟨S1x8192x8x64, .f32⟩
  | 31 => ⟨S1x16x8x512x64, .f32⟩
  | 32 => ⟨S1x512x16x8x64, .f32⟩
  | 33 => ⟨S1x8192x8x64, .f32⟩
  | 34 => ⟨S512x16x512, .f32⟩
  | 35 => ⟨S16x512x512, .f32⟩
  | 36 => ⟨S16x512x512, .bf16⟩
  | 37 => ⟨S512x16x512, .f32⟩
  | 38 => ⟨S16x512x512, .f32⟩
  | 39 => ⟨S16x512x512, .bf16⟩
  | 40 => ⟨S512x16x512, .f32⟩
  | 41 => ⟨S16x512x512, .f32⟩
  | 42 => ⟨S16x512x512, .bf16⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_15 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_16 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_17 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_18 : Ref sig .tc := ⟨.hbm, 131, rfl⟩
abbrev main_v106 : Ref sig .tc := ⟨.hbm, 132, rfl⟩
abbrev main_v107 : Ref sig .tc := ⟨.hbm, 133, rfl⟩
abbrev main_cst_19 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_20 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_21 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩

abbrev nD : Nat := 1
abbrev τ : Topo := Topo.v7x

variable {F : FTy → Type} [FloatOps F]
-- ==== AttpA.lean ====
abbrev S1x8192x8x64 : Shape := ⟨4, ![1, 8192, 8, 64]⟩
abbrev S1x8192x8 : Shape := ⟨3, ![1, 8192, 8]⟩
abbrev S_ : Shape := ⟨0, ![]⟩
abbrev S1x1x8x1x128x64 : Shape := ⟨6, ![1, 1, 8, 1, 128, 64]⟩
abbrev S1x8192x1x8x64 : Shape := ⟨5, ![1, 8192, 1, 8, 64]⟩
abbrev S1x1x8x8192x64 : Shape := ⟨5, ![1, 1, 8, 8192, 64]⟩
abbrev S1x1x8x64x128x64 : Shape := ⟨6, ![1, 1, 8, 64, 128, 64]⟩
abbrev S1x1x8x63x128x64 : Shape := ⟨6, ![1, 1, 8, 63, 128, 64]⟩
abbrev S1x1x8x64x256x64 : Shape := ⟨6, ![1, 1, 8, 64, 256, 64]⟩
abbrev S1x1x8x64x128x256 : Shape := ⟨6, ![1, 1, 8, 64, 128, 256]⟩
abbrev S64x128x256 : Shape := ⟨3, ![64, 128, 256]⟩
abbrev S1x1x8x64x128 : Shape := ⟨5, ![1, 1, 8, 64, 128]⟩
abbrev S1x1x8x64x128x1 : Shape := ⟨6, ![1, 1, 8, 64, 128, 1]⟩
abbrev S1x1x8x8192 : Shape := ⟨4, ![1, 1, 8, 8192]⟩
abbrev S1x8192x1x8 : Shape := ⟨4, ![1, 8192, 1, 8]⟩
abbrev S8192x512 : Shape := ⟨2, ![8192, 512]⟩
abbrev S8192x1x512 : Shape := ⟨3, ![8192, 1, 512]⟩
abbrev S1x8192x512 : Shape := ⟨3, ![1, 8192, 512]⟩
abbrev S8192x8 : Shape := ⟨2, ![8192, 8]⟩
abbrev S8192x8x16 : Shape := ⟨3, ![8192, 8, 16]⟩
abbrev S8192x128 : Shape := ⟨2, ![8192, 128]⟩
abbrev S8192x1x128 : Shape := ⟨3, ![8192, 1, 128]⟩
abbrev S1x8192x128 : Shape := ⟨3, ![1, 8192, 128]⟩
abbrev S1x512x512 : Shape := ⟨3, ![1, 512, 512]⟩
abbrev S1x128x512 : Shape := ⟨3, ![1, 128, 512]⟩
abbrev S1x512x128 : Shape := ⟨3, ![1, 512, 128]⟩
abbrev S128x512 : Shape := ⟨2, ![128, 512]⟩
abbrev S128x256 : Shape := ⟨2, ![128, 256]⟩
abbrev S1x128 : Shape := ⟨2, ![1, 128]⟩
abbrev S1x128x128 : Shape := ⟨3, ![1, 128, 128]⟩
abbrev S128x128 : Shape := ⟨2, ![128, 128]⟩
abbrev S512x128 : Shape := ⟨2, ![512, 128]⟩
abbrev S640x128 : Shape := ⟨2, ![640, 128]⟩
abbrev S256x128 : Shape := ⟨2, ![256, 128]⟩
abbrev S1x128x1 : Shape := ⟨3, ![1, 128, 1]⟩
abbrev S128x1 : Shape := ⟨2, ![128, 1]⟩

abbrev nBuf : Space → Nat
  | .hbm => 119
  | .vmem => 28
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8x64, .f32⟩
  | .hbm, ⟨4, _⟩ => ⟨S1x8192x8, .f32⟩
  | .hbm, ⟨5, _⟩ => ⟨S1x8192x8x64, .f32⟩
  | .hbm, ⟨6, _⟩ => ⟨S1x8192x8x64, .f32⟩
  | .hbm, ⟨7, _⟩ => ⟨S_, .f32⟩
  | .hbm, ⟨8, _⟩ => ⟨S1x1x8x1x128x64, .f32⟩
  | .hbm, ⟨9, _⟩ => ⟨S1x8192x1x8x64, .f32⟩
  | .hbm, ⟨10, _⟩ => ⟨S1x1x8x8192x64, .f32⟩
  | .hbm, ⟨11, _⟩ => ⟨S1x1x8x64x128x64, .f32⟩
  | .hbm, ⟨12, _⟩ => ⟨S1x8192x1x8x64, .f32⟩
  | .hbm, ⟨13, _⟩ => ⟨S1x1x8x8192x64, .f32⟩
  | .hbm, ⟨14, _⟩ => ⟨S1x1x8x64x128x64, .f32⟩
  | .hbm, ⟨15, _⟩ => ⟨S1x1x8x63x128x64, .f32⟩
  | .hbm, ⟨16, _⟩ => ⟨S1x1x8x64x128x64, .f32⟩
  | .hbm, ⟨17, _⟩ => ⟨S1x1x8x64x256x64, .f32⟩
  | .hbm, ⟨18, _⟩ => ⟨S1x8192x1x8x64, .f32⟩
  | .hbm, ⟨19, _⟩ => ⟨S1x1x8x8192x64, .f32⟩
  | .hbm, ⟨20, _⟩ => ⟨S1x1x8x64x128x64, .f32⟩
  | .hbm, ⟨21, _⟩ => ⟨S1x1x8x63x128x64, .f32⟩
  | .hbm, ⟨22, _⟩ => ⟨S1x1x8x64x128x64, .f32⟩
  | .hbm, ⟨23, _⟩ => ⟨S1x1x8x64x256x64, .f32⟩
  | .hbm, ⟨24, _⟩ => ⟨S1x1x8x64x128x256, .f32⟩
  | .hbm, ⟨25, _⟩ => ⟨S_, .f32⟩
  | .hbm, ⟨26, _⟩ => ⟨S1x1x8x64x128x256, .f32⟩
  | .hbm, ⟨27, _⟩ => ⟨S1x1x8x64x128x256, .f32⟩
  | .hbm, ⟨28, _⟩ => ⟨S64x128x256, .i32⟩
  | .hbm, ⟨29, _⟩ => ⟨S64x128x256, .i32⟩
  | .hbm, ⟨30, _⟩ => ⟨S64x128x256, .i32⟩
  | .hbm, ⟨31, _⟩ => ⟨S_, .i32⟩
  | .hbm, ⟨32, _⟩ => ⟨S64x128x256, .i32⟩
  | .hbm, ⟨33, _⟩ => ⟨S64x128x256, .i32⟩
  | .hbm, ⟨34, _⟩ => ⟨S64x128x256, .i32⟩
  | .hbm, ⟨35, _⟩ => ⟨S_, .i32⟩
  | .hbm, ⟨36, _⟩ => ⟨S64x128x256, .i32⟩
  | .hbm, ⟨37, _⟩ => ⟨S64x128x256, .i1⟩
  | .hbm, ⟨38, _⟩ => ⟨S_, .i32⟩
  | .hbm, ⟨39, _⟩ => ⟨S64x128x256, .i32⟩
  | .hbm, ⟨40, _⟩ => ⟨S64x128x256, .i1⟩
  | .hbm, ⟨41, _⟩ => ⟨S64x128x256, .i1⟩
  | .hbm, ⟨42, _⟩ => ⟨S_, .i32⟩
  | .hbm, ⟨43, _⟩ => ⟨S64x128x256, .i32⟩
  | .hbm, ⟨44, _⟩ => ⟨S64x128x256, .i32⟩
  | .hbm, ⟨45, _⟩ => ⟨S_, .i32⟩
  | .hbm, ⟨46, _⟩ => ⟨S64x128x256, .i32⟩
  | .hbm, ⟨47, _⟩ => ⟨S64x128x256, .i32⟩
  | .hbm, ⟨48, _⟩ => ⟨S64x128x256, .i32⟩
  | .hbm, ⟨49, _⟩ => ⟨S_, .i32⟩
  | .hbm, ⟨50, _⟩ => ⟨S64x128x256, .i32⟩
  | .hbm, ⟨51, _⟩ => ⟨S64x128x256, .i1⟩
  | .hbm, ⟨52, _⟩ => ⟨S64x128x256, .i1⟩
  | .hbm, ⟨53, _⟩ => ⟨S1x1x8x64x128x256, .i1⟩
  | .hbm, ⟨54, _⟩ => ⟨S_, .f32⟩
  | .hbm, ⟨55, _⟩ => ⟨S1x1x8x64x128x256, .f32⟩
  | .hbm, ⟨56, _⟩ => ⟨S1x1x8x64x128x256, .f32⟩
  | .hbm, ⟨57, _⟩ => ⟨S_, .f32⟩
  | .hbm, ⟨58, _⟩ => ⟨S1x1x8x64x128, .f32⟩
  | .hbm, ⟨59, _⟩ => ⟨S1x1x8x64x128x1, .f32⟩
  | .hbm, ⟨60, _⟩ => ⟨S1x1x8x64x128x256, .f32⟩
  | .hbm, ⟨61, _⟩ => ⟨S1x1x8x64x128x256, .f32⟩
  | .hbm, ⟨62, _⟩ => ⟨S1x1x8x64x128x256, .f32⟩
  | .hbm, ⟨63, _⟩ => ⟨S_, .f32⟩
  | .hbm, ⟨64, _⟩ => ⟨S1x1x8x64x128, .f32⟩
  | .hbm, ⟨65, _⟩ => ⟨S1x1x8x64x128x1, .f32⟩
  | .hbm, ⟨66, _⟩ => ⟨S1x1x8x64x128x256, .f32⟩
  | .hbm, ⟨67, _⟩ => ⟨S1x1x8x64x128x256, .f32⟩
  | .hbm, ⟨68, _⟩ => ⟨S1x1x8x64x128x64, .f32⟩
  | .hbm, ⟨69, _⟩ => ⟨S1x1x8x64x128x1, .f32⟩
  | .hbm, ⟨70, _⟩ => ⟨S1x1x8x64x128x1, .f32⟩
  | .hbm, ⟨71, _⟩ => ⟨S1x1x8x64x128, .f32⟩
  | .hbm, ⟨72, _⟩ => ⟨S1x1x8x8192x64, .f32⟩
  | .hbm, ⟨73, _⟩ => ⟨S1x8192x1x8x64, .f32⟩
  | .hbm, ⟨74, _⟩ => ⟨S1x8192x8x64, .f32⟩
  | .hbm, ⟨75, _⟩ => ⟨S1x1x8x8192, .f32⟩
  | .hbm, ⟨76, _⟩ => ⟨S1x8192x1x8, .f32⟩
  | .hbm, ⟨77, _⟩ => ⟨S1x8192x8, .f32⟩
  | .hbm, ⟨78, _⟩ => ⟨S1x8192x8x64, .f32⟩
  | .hbm, ⟨79, _⟩ => ⟨S_, .f32⟩
  | .hbm, ⟨80, _⟩ => ⟨S1x8192x8, .f32⟩
  | .hbm, ⟨81, _⟩ => ⟨S1x8192x8, .f32⟩
  | .hbm, ⟨82, _⟩ => ⟨S8192x512, .f32⟩
  | .hbm, ⟨83, _⟩ => ⟨S8192x1x512, .f32⟩
  | .hbm, ⟨84, _⟩ => ⟨S1x8192x512, .f32⟩
  | .hbm, ⟨85, _⟩ => ⟨S1x8192x512, .bf16⟩
  | .hbm, ⟨86, _⟩ => ⟨S8192x512, .f32⟩
  | .hbm, ⟨87, _⟩ => ⟨S8192x1x512, .f32⟩
  | .hbm, ⟨88, _⟩ => ⟨S1x8192x512, .f32⟩
  | .hbm, ⟨89, _⟩ => ⟨S1x8192x512, .bf16⟩
  | .hbm, ⟨90, _⟩ => ⟨S8192x512, .f32⟩
  | .hbm, ⟨91, _⟩ => ⟨S8192x1x512, .f32⟩
  | .hbm, ⟨92, _⟩ => ⟨S1x8192x512, .f32⟩
  | .hbm, ⟨93, _⟩ => ⟨S1x8192x512, .bf16⟩
  | .hbm, ⟨94, _⟩ => ⟨S8192x512, .f32⟩
  | .hbm, ⟨95, _⟩ => ⟨S8192x1x512, .f32⟩
  | .hbm, ⟨96, _⟩ => ⟨S1x8192x512, .f32⟩
  | .hbm, ⟨97, _⟩ => ⟨S1x8192x512, .bf16⟩
  | .hbm, ⟨98, _⟩ => ⟨S8192x8, .f32⟩
  | .hbm, ⟨99, _⟩ => ⟨S8192x8x16, .f32⟩
  | .hbm, ⟨100, _⟩ => ⟨S8192x128, .f32⟩
  | .hbm, ⟨101, _⟩ => ⟨S8192x1x128, .f32⟩
  | .hbm, ⟨102, _⟩ => ⟨S1x8192x128, .f32⟩
  | .hbm, ⟨103, _⟩ => ⟨S8192x8, .f32⟩
  | .hbm, ⟨104, _⟩ => ⟨S8192x8x16, .f32⟩
  | .hbm, ⟨105, _⟩ => ⟨S8192x128, .f32⟩
  | .hbm, ⟨106, _⟩ => ⟨S8192x1x128, .f32⟩
  | .hbm, ⟨107, _⟩ => ⟨S1x8192x128, .f32⟩
  | .hbm, ⟨108, _⟩ => ⟨S8192x512, .f32⟩
  | .hbm, ⟨109, _⟩ => ⟨S8192x1x512, .f32⟩
  | .hbm, ⟨110, _⟩ => ⟨S1x8192x512, .f32⟩
  | .hbm, ⟨111, _⟩ => ⟨S1x8192x512, .bf16⟩
  | .hbm, ⟨112, _⟩ => ⟨S8192x512, .f32⟩
  | .hbm, ⟨113, _⟩ => ⟨S8192x1x512, .f32⟩
  | .hbm, ⟨114, _⟩ => ⟨S1x8192x512, .f32⟩
  | .hbm, ⟨115, _⟩ => ⟨S1x8192x512, .bf16⟩
  | .hbm, ⟨116, _⟩ => ⟨S1x8192x512, .bf16⟩
  | .hbm, ⟨117, _⟩ => ⟨S1x8192x512, .bf16⟩
  | .hbm, ⟨118, _⟩ => ⟨S1x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S128x512, .f32⟩
  | .local _ .vmem, ⟨27, _⟩ => ⟨S128x512, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97_0 : Ref sig .tc := ⟨.hbm, 116, rfl⟩
abbrev main_v97_1 : Ref sig .tc := ⟨.hbm, 117, rfl⟩
abbrev main_v97_2 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttpAIdeal.lean ====
variable {F : FTy → Type} [FloatOps F] [Named F]
def κ : String → Option EReal := fun
  | "mask" => some ⊥
  | _ => none
-- ==== AttpARefIdeal.lean ====
abbrev S1x8192x8x64 : Shape := ⟨4, ![1, 8192, 8, 64]⟩
abbrev S1x8192x8 : Shape := ⟨3, ![1, 8192, 8]⟩
abbrev S_ : Shape := ⟨0, ![]⟩
abbrev S1x1x8x1x128x64 : Shape := ⟨6, ![1, 1, 8, 1, 128, 64]⟩
abbrev S1x8192x1x8x64 : Shape := ⟨5, ![1, 8192, 1, 8, 64]⟩
abbrev S1x1x8x8192x64 : Shape := ⟨5, ![1, 1, 8, 8192, 64]⟩
abbrev S1x1x8x64x128x64 : Shape := ⟨6, ![1, 1, 8, 64, 128, 64]⟩
abbrev S1x1x8x63x128x64 : Shape := ⟨6, ![1, 1, 8, 63, 128, 64]⟩
abbrev S1x1x8x64x256x64 : Shape := ⟨6, ![1, 1, 8, 64, 256, 64]⟩
abbrev S1x1x8x64x128x256 : Shape := ⟨6, ![1, 1, 8, 64, 128, 256]⟩
abbrev S64x128x256 : Shape := ⟨3, ![64, 128, 256]⟩
abbrev S1x1x8x64x128 : Shape := ⟨5, ![1, 1, 8, 64, 128]⟩
abbrev S1x1x8x64x128x1 : Shape := ⟨6, ![1, 1, 8, 64, 128, 1]⟩
abbrev S1x1x8x8192 : Shape := ⟨4, ![1, 1, 8, 8192]⟩
abbrev S1x8192x1x8 : Shape := ⟨4, ![1, 8192, 1, 8]⟩
abbrev S1x1x8x64x64x256 : Shape := ⟨6, ![1, 1, 8, 64, 64, 256]⟩
abbrev S8x64x128 : Shape := ⟨3, ![8, 64, 128]⟩
abbrev S8192x1x512 : Shape := ⟨3, ![8192, 1, 512]⟩
abbrev S1x8192x512 : Shape := ⟨3, ![1, 8192, 512]⟩

abbrev nBuf : Space → Nat
  | .hbm => 175
  | .vmem => 0
  | .smem => 0
  | _ => 0

abbrev hbmTy0_0 (i : Nat) : BufTy := match i % 128 with
  | 0 => ⟨S1x8192x8x64, .f32⟩
  | 1 => ⟨S1x8192x8x64, .f32⟩
  | 2 => ⟨S1x8192x8x64, .f32⟩
  | 3 => ⟨S1x8192x8x64, .f32⟩
  | 4 => ⟨S1x8192x8, .f32⟩
  | 5 => ⟨S1x8192x8x64, .f32⟩
  | 6 => ⟨S1x8192x8x64, .f32⟩
  | 7 => ⟨S_, .f32⟩
  | 8 => ⟨S1x1x8x1x128x64, .f32⟩
  | 9 => ⟨S1x8192x1x8x64, .f32⟩
  | 10 => ⟨S1x1x8x8192x64, .f32⟩
  | 11 => ⟨S1x1x8x64x128x64, .f32⟩
  | 12 => ⟨S1x8192x1x8x64, .f32⟩
  | 13 => ⟨S1x1x8x8192x64, .f32⟩
  | 14 => ⟨S1x1x8x64x128x64, .f32⟩
  | 15 => ⟨S1x1x8x63x128x64, .f32⟩
  | 16 => ⟨S1x1x8x64x128x64, .f32⟩
  | 17 => ⟨S_, .f32⟩
  | 18 => ⟨S1x1x8x1x128x64, .f32⟩
  | 19 => ⟨S1x1x8x64x256x64, .f32⟩
  | 20 => ⟨S1x8192x1x8x64, .f32⟩
  | 21 => ⟨S1x1x8x8192x64, .f32⟩
  | 22 => ⟨S1x1x8x64x128x64, .f32⟩
  | 23 => ⟨S1x1x8x63x128x64, .f32⟩
  | 24 => ⟨S1x1x8x64x128x64, .f32⟩
  | 25 => ⟨S_, .f32⟩
  | 26 => ⟨S1x1x8x1x128x64, .f32⟩
  | 27 => ⟨S1x1x8x64x256x64, .f32⟩
  | 28 => ⟨S1x1x8x64x128x256, .f32⟩
  | 29 => ⟨S_, .f32⟩
  | 30 => ⟨S1x1x8x64x128x256, .f32⟩
  | 31 => ⟨S1x1x8x64x128x256, .f32⟩
  | 32 => ⟨S64x128x256, .i32⟩
  | 33 => ⟨S64x128x256, .i32⟩
  | 34 => ⟨S64x128x256, .i32⟩
  | 35 => ⟨S_, .i32⟩
  | 36 => ⟨S64x128x256, .i32⟩
  | 37 => ⟨S64x128x256, .i32⟩
  | 38 => ⟨S64x128x256, .i32⟩
  | 39 => ⟨S_, .i32⟩
  | 40 => ⟨S64x128x256, .i32⟩
  | 41 => ⟨S64x128x256, .i1⟩
  | 42 => ⟨S_, .i32⟩
  | 43 => ⟨S64x128x256, .i32⟩
  | 44 => ⟨S64x128x256, .i1⟩
  | 45 => ⟨S64x128x256, .i1⟩
  | 46 => ⟨S_, .i32⟩
  | 47 => ⟨S64x128x256, .i32⟩
  | 48 => ⟨S64x128x256, .i32⟩
  | 49 => ⟨S_, .i32⟩
  | 50 => ⟨S64x128x256, .i32⟩
  | 51 => ⟨S64x128x256, .i32⟩
  | 52 => ⟨S64x128x256, .i32⟩
  | 53 => ⟨S_, .i32⟩
  | 54 => ⟨S64x128x256, .i32⟩
  | 55 => ⟨S64x128x256, .i1⟩
  | 56 => ⟨S64x128x256, .i1⟩
  | 57 => ⟨S1x1x8x64x128x256, .i1⟩
  | 58 => ⟨S_, .f32⟩
  | 59 => ⟨S1x1x8x64x128x256, .f32⟩
  | 60 => ⟨S1x1x8x64x128x256, .f32⟩
  | 61 => ⟨S_, .f32⟩
  | 62 => ⟨S1x1x8x64x128x256, .f32⟩
  | 63 => ⟨S_, .f32⟩
  | 64 => ⟨S1x1x8x64x128, .f32⟩
  | 65 => ⟨S1x1x8x64x128x1, .f32⟩
  | 66 => ⟨S1x1x8x64x128x256, .f32⟩
  | 67 => ⟨S1x1x8x64x128x256, .i1⟩
  | 68 => ⟨S1x1x8x64x128x256, .f32⟩
  | 69 => ⟨S_, .f32⟩
  | 70 => ⟨S1x1x8x64x128, .f32⟩
  | 71 => ⟨S1x1x8x64x128x1, .f32⟩
  | 72 => ⟨S1x1x8x64x128x256, .f32⟩
  | 73 => ⟨S1x1x8x64x128x256, .f32⟩
  | 74 => ⟨S1x1x8x64x128x256, .f32⟩
  | 75 => ⟨S_, .f32⟩
  | 76 => ⟨S1x1x8x64x128, .f32⟩
  | 77 => ⟨S1x1x8x64x128x1, .f32⟩
  | 78 => ⟨S1x1x8x64x128x256, .f32⟩
  | 79 => ⟨S1x1x8x64x128x256, .f32⟩
  | 80 => ⟨S1x1x8x64x128x1, .f32⟩
  | 81 => ⟨S_, .f32⟩
  | 82 => ⟨S1x1x8x64x128x1, .f32⟩
  | 83 => ⟨S1x1x8x64x128x1, .f32⟩
  | 84 => ⟨S1x1x8x64x128x64, .f32⟩
  | 85 => ⟨S1x1x8x64x128x1, .f32⟩
  | 86 => ⟨S1x1x8x64x128x1, .f32⟩
  | 87 => ⟨S1x1x8x64x128, .f32⟩
  | 88 => ⟨S1x1x8x8192x64, .f32⟩
  | 89 => ⟨S1x8192x1x8x64, .f32⟩
  | 90 => ⟨S1x8192x8x64, .f32⟩
  | 91 => ⟨S1x1x8x8192, .f32⟩
  | 92 => ⟨S1x8192x1x8, .f32⟩
  | 93 => ⟨S1x8192x8, .f32⟩
  | 94 => ⟨S1x8192x1x8, .f32⟩
  | 95 => ⟨S1x1x8x8192, .f32⟩
  | 96 => ⟨S1x1x8x64x128, .f32⟩
  | 97 => ⟨S1x8192x1x8x64, .f32⟩
  | 98 => ⟨S1x1x8x8192x64, .f32⟩
  | 99 => ⟨S1x1x8x64x128x64, .f32⟩
  | 100 => ⟨S1x1x8x64x128x1, .f32⟩
  | 101 => ⟨S1x1x8x64x128x1, .f32⟩
  | 102 => ⟨S1x1x8x64x64x256, .f32⟩
  | 103 => ⟨S1x1x8x64x256x64, .f32⟩
  | 104 => ⟨S1x1x8x64x128x256, .f32⟩
  | 105 => ⟨S1x1x8x64x128x256, .f32⟩
  | 106 => ⟨S1x1x8x64x128x256, .f32⟩
  | 107 => ⟨S1x1x8x64x128x256, .f32⟩
  | 108 => ⟨S_, .f32⟩
  | 109 => ⟨S1x1x8x64x128, .f32⟩
  | 110 => ⟨S1x1x8x64x128x1, .f32⟩
  | 111 => ⟨S1x1x8x64x128x1, .f32⟩
  | 112 => ⟨S1x1x8x64x128x1, .f32⟩
  | 113 => ⟨S1x1x8x64x128x256, .f32⟩
  | 114 => ⟨S1x1x8x64x128x256, .f32⟩
  | 115 => ⟨S_, .f32⟩
  | 116 => ⟨S8x64x128, .f32⟩
  | 117 => ⟨S1x1x8x64x128, .f32⟩
  | 118 => ⟨S1x1x8x64x128x256, .f32⟩
  | 119 => ⟨S1x1x8x64x128x256, .f32⟩
  | 120 => ⟨S1x1x8x64x128x256, .f32⟩
  | 121 => ⟨S1x1x8x64x128x256, .f32⟩
  | 122 => ⟨S_, .f32⟩
  | 123 => ⟨S1x1x8x64x128, .f32⟩
  | 124 => ⟨S1x1x8x64x128x1, .f32⟩
  | 125 => ⟨S1x1x8x64x128x1, .f32⟩
  | 126 => ⟨S_, .f32⟩
  | 127 => ⟨S8x64x128, .f32⟩
  | _ => ⟨S1x8192x8x64, .f32⟩

abbrev hbmTy0_1 (i : Nat) : BufTy := match i % 128 with
  | 0 => ⟨S1x1x8x64x128, .f32⟩
  | 1 => ⟨S1x1x8x64x128, .f32⟩
  | 2 => ⟨S1x1x8x64x128x256, .f32⟩
  | 3 => ⟨S1x1x8x64x128x256, .f32⟩
  | 4 => ⟨S1x1x8x64x128x256, .f32⟩
  | 5 => ⟨S_, .f32⟩
  | 6 => ⟨S1x1x8x64x128x256, .f32⟩
  | 7 => ⟨S1x1x8x64x128x256, .f32⟩
  | 8 => ⟨S_, .f32⟩
  | 9 => ⟨S1x1x8x64x128x256, .f32⟩
  | 10 => ⟨S1x1x8x64x128x256, .f32⟩
  | 11 => ⟨S1x1x8x64x256x64, .f32⟩
  | 12 => ⟨S1x1x8x64x128x64, .f32⟩
  | 13 => ⟨S1x1x8x64x128x64, .f32⟩
  | 14 => ⟨S1x1x8x64x128x64, .f32⟩
  | 15 => ⟨S1x1x8x1x128x64, .f32⟩
  | 16 => ⟨S1x1x8x63x128x64, .f32⟩
  | 17 => ⟨S_, .f32⟩
  | 18 => ⟨S1x1x8x64x128x64, .f32⟩
  | 19 => ⟨S1x1x8x64x128x64, .f32⟩
  | 20 => ⟨S1x1x8x8192x64, .f32⟩
  | 21 => ⟨S1x8192x1x8x64, .f32⟩
  | 22 => ⟨S1x8192x8x64, .f32⟩
  | 23 => ⟨S1x1x8x64x128x64, .f32⟩
  | 24 => ⟨S1x1x8x64x128x64, .f32⟩
  | 25 => ⟨S1x1x8x1x128x64, .f32⟩
  | 26 => ⟨S1x1x8x63x128x64, .f32⟩
  | 27 => ⟨S_, .f32⟩
  | 28 => ⟨S1x1x8x64x128x64, .f32⟩
  | 29 => ⟨S1x1x8x64x128x64, .f32⟩
  | 30 => ⟨S1x1x8x8192x64, .f32⟩
  | 31 => ⟨S1x8192x1x8x64, .f32⟩
  | 32 => ⟨S1x8192x8x64, .f32⟩
  | 33 => ⟨S1x1x8x8192x64, .f32⟩
  | 34 => ⟨S1x8192x1x8x64, .f32⟩
  | 35 => ⟨S1x8192x8x64, .f32⟩
  | 36 => ⟨S1x8192x8x64, .f32⟩
  | 37 => ⟨S1x8192x8x64, .f32⟩
  | 38 => ⟨S8192x1x512, .f32⟩
  | 39 => ⟨S1x8192x512, .f32⟩
  | 40 => ⟨S1x8192x512, .bf16⟩
  | 41 => ⟨S8192x1x512, .f32⟩
  | 42 => ⟨S1x8192x512, .f32⟩
  | 43 => ⟨S1x8192x512, .bf16⟩
  | 44 => ⟨S8192x1x512, .f32⟩
  | 45 => ⟨S1x8192x512, .f32⟩
  | 46 => ⟨S1x8192x512, .bf16⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_16 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_17 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_18 : Ref sig .tc := ⟨.hbm, 133, rfl⟩
abbrev main_v106 : Ref sig .tc := ⟨.hbm, 134, rfl⟩
abbrev main_v107 : Ref sig .tc := ⟨.hbm, 135, rfl⟩
abbrev main_cst_19 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_20 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_21 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩

abbrev nD : Nat := 1
abbrev τ : Topo := Topo.v7x

variable {F : FTy → Type} [FloatOps F]
-- ==== AttpC.lean ====
abbrev S1x8192x8x64 : Shape := ⟨4, ![1, 8192, 8, 64]⟩
abbrev S1x8192x8 : Shape := ⟨3, ![1, 8192, 8]⟩
abbrev S_ : Shape := ⟨0, ![]⟩
abbrev S1x16x8x1x128x64 : Shape := ⟨6, ![1, 16, 8, 1, 128, 64]⟩
abbrev S1x512x16x8x64 : Shape := ⟨5, ![1, 512, 16, 8, 64]⟩
abbrev S1x16x8x512x64 : Shape := ⟨5, ![1, 16, 8, 512, 64]⟩
abbrev S1x16x8x4x128x64 : Shape := ⟨6, ![1, 16, 8, 4, 128, 64]⟩
abbrev S1x16x8x3x128x64 : Shape := ⟨6, ![1, 16, 8, 3, 128, 64]⟩
abbrev S1x16x8x4x256x64 : Shape := ⟨6, ![1, 16, 8, 4, 256, 64]⟩
abbrev S1x16x8x4x128x256 : Shape := ⟨6, ![1, 16, 8, 4, 128, 256]⟩
abbrev S4x128x256 : Shape := ⟨3, ![4, 128, 256]⟩
abbrev S1x16x8x4x128 : Shape := ⟨5, ![1, 16, 8, 4, 128]⟩
abbrev S1x16x8x4x128x1 : Shape := ⟨6, ![1, 16, 8, 4, 128, 1]⟩
abbrev S1x16x8x512 : Shape := ⟨4, ![1, 16, 8, 512]⟩
abbrev S1x512x16x8 : Shape := ⟨4, ![1, 512, 16, 8]⟩
abbrev S8192x512 : Shape := ⟨2, ![8192, 512]⟩
abbrev S512x16x512 : Shape := ⟨3, ![512, 16, 512]⟩
abbrev S16x512x512 : Shape := ⟨3, ![16, 512, 512]⟩
abbrev S8192x8 : Shape := ⟨2, ![8192, 8]⟩
abbrev S8192x8x16 : Shape := ⟨3, ![8192, 8, 16]⟩
abbrev S8192x128 : Shape := ⟨2, ![8192, 128]⟩
abbrev S512x16x128 : Shape := ⟨3, ![512, 16, 128]⟩
abbrev S16x512x128 : Shape := ⟨3, ![16, 512, 128]⟩
abbrev S1x512x512 : Shape := ⟨3, ![1, 512, 512]⟩
abbrev S1x128x512 : Shape := ⟨3, ![1, 128, 512]⟩
abbrev S1x512x128 : Shape := ⟨3, ![1, 512, 128]⟩
abbrev S128x512 : Shape := ⟨2, ![128, 512]⟩
abbrev S128x256 : Shape := ⟨2, ![128, 256]⟩
abbrev S1x128 : Shape := ⟨2, ![1, 128]⟩
abbrev S1x128x128 : Shape := ⟨3, ![1, 128, 128]⟩
abbrev S128x128 : Shape := ⟨2, ![128, 128]⟩
abbrev S512x128 : Shape := ⟨2, ![512, 128]⟩
abbrev S640x128 : Shape := ⟨2, ![640, 128]⟩
abbrev S256x128 : Shape := ⟨2, ![256, 128]⟩
abbrev S1x128x1 : Shape := ⟨3, ![1, 128, 1]⟩
abbrev S128x1 : Shape := ⟨2, ![128, 1]⟩

abbrev nBuf : Space → Nat
  | .hbm => 119
  | .vmem => 28
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8x64, .f32⟩
  | .hbm, ⟨4, _⟩ => ⟨S1x8192x8, .f32⟩
  | .hbm, ⟨5, _⟩ => ⟨S1x8192x8x64, .f32⟩
  | .hbm, ⟨6, _⟩ => ⟨S1x8192x8x64, .f32⟩
  | .hbm, ⟨7, _⟩ => ⟨S_, .f32⟩
  | .hbm, ⟨8, _⟩ => ⟨S1x16x8x1x128x64, .f32⟩
  | .hbm, ⟨9, _⟩ => ⟨S1x512x16x8x64, .f32⟩
  | .hbm, ⟨10, _⟩ => ⟨S1x16x8x512x64, .f32⟩
  | .hbm, ⟨11, _⟩ => ⟨S1x16x8x4x128x64, .f32⟩
  | .hbm, ⟨12, _⟩ => ⟨S1x512x16x8x64, .f32⟩
  | .hbm, ⟨13, _⟩ => ⟨S1x16x8x512x64, .f32⟩
  | .hbm, ⟨14, _⟩ => ⟨S1x16x8x4x128x64, .f32⟩
  | .hbm, ⟨15, _⟩ => ⟨S1x16x8x3x128x64, .f32⟩
  | .hbm, ⟨16, _⟩ => ⟨S1x16x8x4x128x64, .f32⟩
  | .hbm, ⟨17, _⟩ => ⟨S1x16x8x4x256x64, .f32⟩
  | .hbm, ⟨18, _⟩ => ⟨S1x512x16x8x64, .f32⟩
  | .hbm, ⟨19, _⟩ => ⟨S1x16x8x512x64, .f32⟩
  | .hbm, ⟨20, _⟩ => ⟨S1x16x8x4x128x64, .f32⟩
  | .hbm, ⟨21, _⟩ => ⟨S1x16x8x3x128x64, .f32⟩
  | .hbm, ⟨22, _⟩ => ⟨S1x16x8x4x128x64, .f32⟩
  | .hbm, ⟨23, _⟩ => ⟨S1x16x8x4x256x64, .f32⟩
  | .hbm, ⟨24, _⟩ => ⟨S1x16x8x4x128x256, .f32⟩
  | .hbm, ⟨25, _⟩ => ⟨S_, .f32⟩
  | .hbm, ⟨26, _⟩ => ⟨S1x16x8x4x128x256, .f32⟩
  | .hbm, ⟨27, _⟩ => ⟨S1x16x8x4x128x256, .f32⟩
  | .hbm, ⟨28, _⟩ => ⟨S4x128x256, .i32⟩
  | .hbm, ⟨29, _⟩ => ⟨S4x128x256, .i32⟩
  | .hbm, ⟨30, _⟩ => ⟨S4x128x256, .i32⟩
  | .hbm, ⟨31, _⟩ => ⟨S_, .i32⟩
  | .hbm, ⟨32, _⟩ => ⟨S4x128x256, .i32⟩
  | .hbm, ⟨33, _⟩ => ⟨S4x128x256, .i32⟩
  | .hbm, ⟨34, _⟩ => ⟨S4x128x256, .i32⟩
  | .hbm, ⟨35, _⟩ => ⟨S_, .i32⟩
  | .hbm, ⟨36, _⟩ => ⟨S4x128x256, .i32⟩
  | .hbm, ⟨37, _⟩ => ⟨S4x128x256, .i1⟩
  | .hbm, ⟨38, _⟩ => ⟨S_, .i32⟩
  | .hbm, ⟨39, _⟩ => ⟨S4x128x256, .i32⟩
  | .hbm, ⟨40, _⟩ => ⟨S4x128x256, .i1⟩
  | .hbm, ⟨41, _⟩ => ⟨S4x128x256, .i1⟩
  | .hbm, ⟨42, _⟩ => ⟨S_, .i32⟩
  | .hbm, ⟨43, _⟩ => ⟨S4x128x256, .i32⟩
  | .hbm, ⟨44, _⟩ => ⟨S4x128x256, .i32⟩
  | .hbm, ⟨45, _⟩ => ⟨S_, .i32⟩
  | .hbm, ⟨46, _⟩ => ⟨S4x128x256, .i32⟩
  | .hbm, ⟨47, _⟩ => ⟨S4x128x256, .i32⟩
  | .hbm, ⟨48, _⟩ => ⟨S4x128x256, .i32⟩
  | .hbm, ⟨49, _⟩ => ⟨S_, .i32⟩
  | .hbm, ⟨50, _⟩ => ⟨S4x128x256, .i32⟩
  | .hbm, ⟨51, _⟩ => ⟨S4x128x256, .i1⟩
  | .hbm, ⟨52, _⟩ => ⟨S4x128x256, .i1⟩
  | .hbm, ⟨53, _⟩ => ⟨S1x16x8x4x128x256, .i1⟩
  | .hbm, ⟨54, _⟩ => ⟨S_, .f32⟩
  | .hbm, ⟨55, _⟩ => ⟨S1x16x8x4x128x256, .f32⟩
  | .hbm, ⟨56, _⟩ => ⟨S1x16x8x4x128x256, .f32⟩
  | .hbm, ⟨57, _⟩ => ⟨S_, .f32⟩
  | .hbm, ⟨58, _⟩ => ⟨S1x16x8x4x128, .f32⟩
  | .hbm, ⟨59, _⟩ => ⟨S1x16x8x4x128x1, .f32⟩
  | .hbm, ⟨60, _⟩ => ⟨S1x16x8x4x128x256, .f32⟩
  | .hbm, ⟨61, _⟩ => ⟨S1x16x8x4x128x256, .f32⟩
  | .hbm, ⟨62, _⟩ => ⟨S1x16x8x4x128x256, .f32⟩
  | .hbm, ⟨63, _⟩ => ⟨S_, .f32⟩
  | .hbm, ⟨64, _⟩ => ⟨S1x16x8x4x128, .f32⟩
  | .hbm, ⟨65, _⟩ => ⟨S1x16x8x4x128x1, .f32⟩
  | .hbm, ⟨66, _⟩ => ⟨S1x16x8x4x128x256, .f32⟩
  | .hbm, ⟨67, _⟩ => ⟨S1x16x8x4x128x256, .f32⟩
  | .hbm, ⟨68, _⟩ => ⟨S1x16x8x4x128x64, .f32⟩
  | .hbm, ⟨69, _⟩ => ⟨S1x16x8x4x128x1, .f32⟩
  | .hbm, ⟨70, _⟩ => ⟨S1x16x8x4x128x1, .f32⟩
  | .hbm, ⟨71, _⟩ => ⟨S1x16x8x4x128, .f32⟩
  | .hbm, ⟨72, _⟩ => ⟨S1x16x8x512x64, .f32⟩
  | .hbm, ⟨73, _⟩ => ⟨S1x512x16x8x64, .f32⟩
  | .hbm, ⟨74, _⟩ => ⟨S1x8192x8x64, .f32⟩
  | .hbm, ⟨75, _⟩ => ⟨S1x16x8x512, .f32⟩
  | .hbm, ⟨76, _⟩ => ⟨S1x512x16x8, .f32⟩
  | .hbm, ⟨77, _⟩ => ⟨S1x8192x8, .f32⟩
  | .hbm, ⟨78, _⟩ => ⟨S1x8192x8x64, .f32⟩
  | .hbm, ⟨79, _⟩ => ⟨S_, .f32⟩
  | .hbm, ⟨80, _⟩ => ⟨S1x8192x8, .f32⟩
  | .hbm, ⟨81, _⟩ => ⟨S1x8192x8, .f32⟩
  | .hbm, ⟨82, _⟩ => ⟨S8192x512, .f32⟩
  | .hbm, ⟨83, _⟩ => ⟨S512x16x512, .f32⟩
  | .hbm, ⟨84, _⟩ => ⟨S16x512x512, .f32⟩
  | .hbm, ⟨85, _⟩ => ⟨S16x512x512, .bf16⟩
  | .hbm, ⟨86, _⟩ => ⟨S8192x512, .f32⟩
  | .hbm, ⟨87, _⟩ => ⟨S512x16x512, .f32⟩
  | .hbm, ⟨88, _⟩ => ⟨S16x512x512, .f32⟩
  | .hbm, ⟨89, _⟩ => ⟨S16x512x512, .bf16⟩
  | .hbm, ⟨90, _⟩ => ⟨S8192x512, .f32⟩
  | .hbm, ⟨91, _⟩ => ⟨S512x16x512, .f32⟩
  | .hbm, ⟨92, _⟩ => ⟨S16x512x512, .f32⟩
  | .hbm, ⟨93, _⟩ => ⟨S16x512x512, .bf16⟩
  | .hbm, ⟨94, _⟩ => ⟨S8192x512, .f32⟩
  | .hbm, ⟨95, _⟩ => ⟨S512x16x512, .f32⟩
  | .hbm, ⟨96, _⟩ => ⟨S16x512x512, .f32⟩
  | .hbm, ⟨97, _⟩ => ⟨S16x512x512, .bf16⟩
  | .hbm, ⟨98, _⟩ => ⟨S8192x8, .f32⟩
  | .hbm, ⟨99, _⟩ => ⟨S8192x8x16, .f32⟩
  | .hbm, ⟨100, _⟩ => ⟨S8192x128, .f32⟩
  | .hbm, ⟨101, _⟩ => ⟨S512x16x128, .f32⟩
  | .hbm, ⟨102, _⟩ => ⟨S16x512x128, .f32⟩
  | .hbm, ⟨103, _⟩ => ⟨S8192x8, .f32⟩
  | .hbm, ⟨104, _⟩ => ⟨S8192x8x16, .f32⟩
  | .hbm, ⟨105, _⟩ => ⟨S8192x128, .f32⟩
  | .hbm, ⟨106, _⟩ => ⟨S512x16x128, .f32⟩
  | .hbm, ⟨107, _⟩ => ⟨S16x512x128, .f32⟩
  | .hbm, ⟨108, _⟩ => ⟨S8192x512, .f32⟩
  | .hbm, ⟨109, _⟩ => ⟨S512x16x512, .f32⟩
  | .hbm, ⟨110, _⟩ => ⟨S16x512x512, .f32⟩
  | .hbm, ⟨111, _⟩ => ⟨S16x512x512, .bf16⟩
  | .hbm, ⟨112, _⟩ => ⟨S8192x512, .f32⟩
  | .hbm, ⟨113, _⟩ => ⟨S512x16x512, .f32⟩
  | .hbm, ⟨114, _⟩ => ⟨S16x512x512, .f32⟩
  | .hbm, ⟨115, _⟩ => ⟨S16x512x512, .bf16⟩
  | .hbm, ⟨116, _⟩ => ⟨S16x512x512, .bf16⟩
  | .hbm, ⟨117, _⟩ => ⟨S16x512x512, .bf16⟩
  | .hbm, ⟨118, _⟩ => ⟨S16x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S128x512, .f32⟩
  | .local _ .vmem, ⟨27, _⟩ => ⟨S128x512, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97_0 : Ref sig .tc := ⟨.hbm, 116, rfl⟩
abbrev main_v97_1 : Ref sig .tc := ⟨.hbm, 117, rfl⟩
abbrev main_v97_2 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c4_i32 : BitVec 32 := 4#32
  let v1 : BitVec 32 := Scalar.muli c4_i32 v0
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c4_i32 : BitVec 32 := 4#32
  let v1 : BitVec 32 := Scalar.muli c4_i32 v0
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttpCIdeal.lean ====
variable {F : FTy → Type} [FloatOps F] [Named F]
def κ : String → Option EReal := fun
  | "mask" => some ⊥
  | _ => none
-- ==== AttpCRefIdeal.lean ====
abbrev S1x8192x8x64 : Shape := ⟨4, ![1, 8192, 8, 64]⟩
abbrev S1x8192x8 : Shape := ⟨3, ![1, 8192, 8]⟩
abbrev S_ : Shape := ⟨0, ![]⟩
abbrev S1x16x8x1x128x64 : Shape := ⟨6, ![1, 16, 8, 1, 128, 64]⟩
abbrev S1x512x16x8x64 : Shape := ⟨5, ![1, 512, 16, 8, 64]⟩
abbrev S1x16x8x512x64 : Shape := ⟨5, ![1, 16, 8, 512, 64]⟩
abbrev S1x16x8x4x128x64 : Shape := ⟨6, ![1, 16, 8, 4, 128, 64]⟩
abbrev S1x16x8x3x128x64 : Shape := ⟨6, ![1, 16, 8, 3, 128, 64]⟩
abbrev S1x16x8x4x256x64 : Shape := ⟨6, ![1, 16, 8, 4, 256, 64]⟩
abbrev S1x16x8x4x128x256 : Shape := ⟨6, ![1, 16, 8, 4, 128, 256]⟩
abbrev S4x128x256 : Shape := ⟨3, ![4, 128, 256]⟩
abbrev S1x16x8x4x128 : Shape := ⟨5, ![1, 16, 8, 4, 128]⟩
abbrev S1x16x8x4x128x1 : Shape := ⟨6, ![1, 16, 8, 4, 128, 1]⟩
abbrev S1x16x8x512 : Shape := ⟨4, ![1, 16, 8, 512]⟩
abbrev S1x512x16x8 : Shape := ⟨4, ![1, 512, 16, 8]⟩
abbrev S1x16x8x4x64x256 : Shape := ⟨6, ![1, 16, 8, 4, 64, 256]⟩
abbrev S16x8x4x128 : Shape := ⟨4, ![16, 8, 4, 128]⟩
abbrev S512x16x512 : Shape := ⟨3, ![512, 16, 512]⟩
abbrev S16x512x512 : Shape := ⟨3, ![16, 512, 512]⟩

abbrev nBuf : Space → Nat
  | .hbm => 175
  | .vmem => 0
  | .smem => 0
  | _ => 0

abbrev hbmTy0_0 (i : Nat) : BufTy := match i % 128 with
  | 0 => ⟨S1x8192x8x64, .f32⟩
  | 1 => ⟨S1x8192x8x64, .f32⟩
  | 2 => ⟨S1x8192x8x64, .f32⟩
  | 3 => ⟨S1x8192x8x64, .f32⟩
  | 4 => ⟨S1x8192x8, .f32⟩
  | 5 => ⟨S1x8192x8x64, .f32⟩
  | 6 => ⟨S1x8192x8x64, .f32⟩
  | 7 => ⟨S_, .f32⟩
  | 8 => ⟨S1x16x8x1x128x64, .f32⟩
  | 9 => ⟨S1x512x16x8x64, .f32⟩
  | 10 => ⟨S1x16x8x512x64, .f32⟩
  | 11 => ⟨S1x16x8x4x128x64, .f32⟩
  | 12 => ⟨S1x512x16x8x64, .f32⟩
  | 13 => ⟨S1x16x8x512x64, .f32⟩
  | 14 => ⟨S1x16x8x4x128x64, .f32⟩
  | 15 => ⟨S1x16x8x3x128x64, .f32⟩
  | 16 => ⟨S1x16x8x4x128x64, .f32⟩
  | 17 => ⟨S_, .f32⟩
  | 18 => ⟨S1x16x8x1x128x64, .f32⟩
  | 19 => ⟨S1x16x8x4x256x64, .f32⟩
  | 20 => ⟨S1x512x16x8x64, .f32⟩
  | 21 => ⟨S1x16x8x512x64, .f32⟩
  | 22 => ⟨S1x16x8x4x128x64, .f32⟩
  | 23 => ⟨S1x16x8x3x128x64, .f32⟩
  | 24 => ⟨S1x16x8x4x128x64, .f32⟩
  | 25 => ⟨S_, .f32⟩
  | 26 => ⟨S1x16x8x1x128x64, .f32⟩
  | 27 => ⟨S1x16x8x4x256x64, .f32⟩
  | 28 => ⟨S1x16x8x4x128x256, .f32⟩
  | 29 => ⟨S_, .f32⟩
  | 30 => ⟨S1x16x8x4x128x256, .f32⟩
  | 31 => ⟨S1x16x8x4x128x256, .f32⟩
  | 32 => ⟨S4x128x256, .i32⟩
  | 33 => ⟨S4x128x256, .i32⟩
  | 34 => ⟨S4x128x256, .i32⟩
  | 35 => ⟨S_, .i32⟩
  | 36 => ⟨S4x128x256, .i32⟩
  | 37 => ⟨S4x128x256, .i32⟩
  | 38 => ⟨S4x128x256, .i32⟩
  | 39 => ⟨S_, .i32⟩
  | 40 => ⟨S4x128x256, .i32⟩
  | 41 => ⟨S4x128x256, .i1⟩
  | 42 => ⟨S_, .i32⟩
  | 43 => ⟨S4x128x256, .i32⟩
  | 44 => ⟨S4x128x256, .i1⟩
  | 45 => ⟨S4x128x256, .i1⟩
  | 46 => ⟨S_, .i32⟩
  | 47 => ⟨S4x128x256, .i32⟩
  | 48 => ⟨S4x128x256, .i32⟩
  | 49 => ⟨S_, .i32⟩
  | 50 => ⟨S4x128x256, .i32⟩
  | 51 => ⟨S4x128x256, .i32⟩
  | 52 => ⟨S4x128x256, .i32⟩
  | 53 => ⟨S_, .i32⟩
  | 54 => ⟨S4x128x256, .i32⟩
  | 55 => ⟨S4x128x256, .i1⟩
  | 56 => ⟨S4x128x256, .i1⟩
  | 57 => ⟨S1x16x8x4x128x256, .i1⟩
  | 58 => ⟨S_, .f32⟩
  | 59 => ⟨S1x16x8x4x128x256, .f32⟩
  | 60 => ⟨S1x16x8x4x128x256, .f32⟩
  | 61 => ⟨S_, .f32⟩
  | 62 => ⟨S1x16x8x4x128x256, .f32⟩
  | 63 => ⟨S_, .f32⟩
  | 64 => ⟨S1x16x8x4x128, .f32⟩
  | 65 => ⟨S1x16x8x4x128x1, .f32⟩
  | 66 => ⟨S1x16x8x4x128x256, .f32⟩
  | 67 => ⟨S1x16x8x4x128x256, .i1⟩
  | 68 => ⟨S1x16x8x4x128x256, .f32⟩
  | 69 => ⟨S_, .f32⟩
  | 70 => ⟨S1x16x8x4x128, .f32⟩
  | 71 => ⟨S1x16x8x4x128x1, .f32⟩
  | 72 => ⟨S1x16x8x4x128x256, .f32⟩
  | 73 => ⟨S1x16x8x4x128x256, .f32⟩
  | 74 => ⟨S1x16x8x4x128x256, .f32⟩
  | 75 => ⟨S_, .f32⟩
  | 76 => ⟨S1x16x8x4x128, .f32⟩
  | 77 => ⟨S1x16x8x4x128x1, .f32⟩
  | 78 => ⟨S1x16x8x4x128x256, .f32⟩
  | 79 => ⟨S1x16x8x4x128x256, .f32⟩
  | 80 => ⟨S1x16x8x4x128x1, .f32⟩
  | 81 => ⟨S_, .f32⟩
  | 82 => ⟨S1x16x8x4x128x1, .f32⟩
  | 83 => ⟨S1x16x8x4x128x1, .f32⟩
  | 84 => ⟨S1x16x8x4x128x64, .f32⟩
  | 85 => ⟨S1x16x8x4x128x1, .f32⟩
  | 86 => ⟨S1x16x8x4x128x1, .f32⟩
  | 87 => ⟨S1x16x8x4x128, .f32⟩
  | 88 => ⟨S1x16x8x512x64, .f32⟩
  | 89 => ⟨S1x512x16x8x64, .f32⟩
  | 90 => ⟨S1x8192x8x64, .f32⟩
  | 91 => ⟨S1x16x8x512, .f32⟩
  | 92 => ⟨S1x512x16x8, .f32⟩
  | 93 => ⟨S1x8192x8, .f32⟩
  | 94 => ⟨S1x512x16x8, .f32⟩
  | 95 => ⟨S1x16x8x512, .f32⟩
  | 96 => ⟨S1x16x8x4x128, .f32⟩
  | 97 => ⟨S1x512x16x8x64, .f32⟩
  | 98 => ⟨S1x16x8x512x64, .f32⟩
  | 99 => ⟨S1x16x8x4x128x64, .f32⟩
  | 100 => ⟨S1x16x8x4x128x1, .f32⟩
  | 101 => ⟨S1x16x8x4x128x1, .f32⟩
  | 102 => ⟨S1x16x8x4x64x256, .f32⟩
  | 103 => ⟨S1x16x8x4x256x64, .f32⟩
  | 104 => ⟨S1x16x8x4x128x256, .f32⟩
  | 105 => ⟨S1x16x8x4x128x256, .f32⟩
  | 106 => ⟨S1x16x8x4x128x256, .f32⟩
  | 107 => ⟨S1x16x8x4x128x256, .f32⟩
  | 108 => ⟨S_, .f32⟩
  | 109 => ⟨S1x16x8x4x128, .f32⟩
  | 110 => ⟨S1x16x8x4x128x1, .f32⟩
  | 111 => ⟨S1x16x8x4x128x1, .f32⟩
  | 112 => ⟨S1x16x8x4x128x1, .f32⟩
  | 113 => ⟨S1x16x8x4x128x256, .f32⟩
  | 114 => ⟨S1x16x8x4x128x256, .f32⟩
  | 115 => ⟨S_, .f32⟩
  | 116 => ⟨S16x8x4x128, .f32⟩
  | 117 => ⟨S1x16x8x4x128, .f32⟩
  | 118 => ⟨S1x16x8x4x128x256, .f32⟩
  | 119 => ⟨S1x16x8x4x128x256, .f32⟩
  | 120 => ⟨S1x16x8x4x128x256, .f32⟩
  | 121 => ⟨S1x16x8x4x128x256, .f32⟩
  | 122 => ⟨S_, .f32⟩
  | 123 => ⟨S1x16x8x4x128, .f32⟩
  | 124 => ⟨S1x16x8x4x128x1, .f32⟩
  | 125 => ⟨S1x16x8x4x128x1, .f32⟩
  | 126 => ⟨S_, .f32⟩
  | 127 => ⟨S16x8x4x128, .f32⟩
  | _ => ⟨S1x8192x8x64, .f32⟩

abbrev hbmTy0_1 (i : Nat) : BufTy := match i % 128 with
  | 0 => ⟨S1x16x8x4x128, .f32⟩
  | 1 => ⟨S1x16x8x4x128, .f32⟩
  | 2 => ⟨S1x16x8x4x128x256, .f32⟩
  | 3 => ⟨S1x16x8x4x128x256, .f32⟩
  | 4 => ⟨S1x16x8x4x128x256, .f32⟩
  | 5 => ⟨S_, .f32⟩
  | 6 => ⟨S1x16x8x4x128x256, .f32⟩
  | 7 => ⟨S1x16x8x4x128x256, .f32⟩
  | 8 => ⟨S_, .f32⟩
  | 9 => ⟨S1x16x8x4x128x256, .f32⟩
  | 10 => ⟨S1x16x8x4x128x256, .f32⟩
  | 11 => ⟨S1x16x8x4x256x64, .f32⟩
  | 12 => ⟨S1x16x8x4x128x64, .f32⟩
  | 13 => ⟨S1x16x8x4x128x64, .f32⟩
  | 14 => ⟨S1x16x8x4x128x64, .f32⟩
  | 15 => ⟨S1x16x8x1x128x64, .f32⟩
  | 16 => ⟨S1x16x8x3x128x64, .f32⟩
  | 17 => ⟨S_, .f32⟩
  | 18 => ⟨S1x16x8x4x128x64, .f32⟩
  | 19 => ⟨S1x16x8x4x128x64, .f32⟩
  | 20 => ⟨S1x16x8x512x64, .f32⟩
  | 21 => ⟨S1x512x16x8x64, .f32⟩
  | 22 => ⟨S1x8192x8x64, .f32⟩
  | 23 => ⟨S1x16x8x4x128x64, .f32⟩
  | 24 => ⟨S1x16x8x4x128x64, .f32⟩
  | 25 => ⟨S1x16x8x1x128x64, .f32⟩
  | 26 => ⟨S1x16x8x3x128x64, .f32⟩
  | 27 => ⟨S_, .f32⟩
  | 28 => ⟨S1x16x8x4x128x64, .f32⟩
  | 29 => ⟨S1x16x8x4x128x64, .f32⟩
  | 30 => ⟨S1x16x8x512x64, .f32⟩
  | 31 => ⟨S1x512x16x8x64, .f32⟩
  | 32 => ⟨S1x8192x8x64, .f32⟩
  | 33 => ⟨S1x16x8x512x64, .f32⟩
  | 34 => ⟨S1x512x16x8x64, .f32⟩
  | 35 => ⟨S1x8192x8x64, .f32⟩
  | 36 => ⟨S1x8192x8x64, .f32⟩
  | 37 => ⟨S1x8192x8x64, .f32⟩
  | 38 => ⟨S512x16x512, .f32⟩
  | 39 => ⟨S16x512x512, .f32⟩
  | 40 => ⟨S16x512x512, .bf16⟩
  | 41 => ⟨S512x16x512, .f32⟩
  | 42 => ⟨S16x512x512, .f32⟩
  | 43 => ⟨S16x512x512, .bf16⟩
  | 44 => ⟨S512x16x512, .f32⟩
  | 45 => ⟨S16x512x512, .f32⟩
  | 46 => ⟨S16x512x512, .bf16⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_16 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_17 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_18 : Ref sig .tc := ⟨.hbm, 133, rfl⟩
abbrev main_v106 : Ref sig .tc := ⟨.hbm, 134, rfl⟩
abbrev main_v107 : Ref sig .tc := ⟨.hbm, 135, rfl⟩
abbrev main_cst_19 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_20 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_21 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩

abbrev nD : Nat := 1
abbrev τ : Topo := Topo.v7x

variable {F : FTy → Type} [FloatOps F]
-- ==== Proof.Base.lean ====
module

public import Idealize.ShloMosaic.Lib.Pipeline.Value
public import Idealize.ShloMosaic.Lib.Pointwise

@[expose] public section

set_option maxRecDepth 16384

noncomputable section

namespace Cert.Base

open Idealize.ShloMosaic Idealize.ShloMosaic.TcCoe
open Idealize.ShloMosaic.Pipeline (Dat)

/-- The zero offset of a rank 2 shape. -/
theorem hz2 : (![0, 0] : Fin 2 → Nat) = fun _ => 0 := funext fun a => by fin_cases a <;> rfl

/-- The zero offset of a rank 3 shape. -/
theorem hz3 : (![0, 0, 0] : Fin 3 → Nat) = fun _ => 0 := funext fun a => by fin_cases a <;> rfl

section Reads
variable {sig : RefSig} {Val : EltTy → Type} {κ : Kind} {sp : Space} {s : Shape} {e : EltTy} {M : Memref sig κ sp s e}

/-- A load of a part of the buffer held at the contents reading `X` reads that part of `X`. -/
theorem readAt_ld (h : M.IsWhole) (X : s.Idx → Val e) (r : Rect s) :
    View.readAt Val M.view r.toLoadRect (h.unread X) = View.ld X r :=
  funext fun _ => congrFun (h.read_unread X) _

/-- A load of the whole buffer held at the contents reading `X` reads `X`. -/
theorem readAt_whole (h : M.IsWhole) (X : s.Idx → Val e) {off : Fin s.rank → Nat} (ho : off = fun _ => 0)
    (inb : ∀ a, off a + s.size a ≤ s.size a) :
    View.readAt Val M.view (Rect.unit off s.size inb).toLoadRect (h.unread X) = X :=
  (readAt_ld h X (Rect.unit off s.size inb)).trans (View.ld_unit_zero ho inb X)

end Reads

/-- An accumulator over the grid: a sequence that starts at `p 0` and adds `p n` at every later point is the sum of
    the points up to it. -/
theorem acc_sum {N : Nat} {ι : Type} (f p : Fin N → ι → EReal)
    (h0 : ∀ (h : 0 < N) j, f ⟨0, h⟩ j = p ⟨0, h⟩ j)
    (hs : ∀ (n : Nat) (h : n + 1 < N) j, f ⟨n + 1, h⟩ j = f ⟨n, Nat.lt_of_succ_lt h⟩ j + p ⟨n + 1, h⟩ j) :
    ∀ (n : Nat) (h : n < N) (j : ι), f ⟨n, h⟩ j = ∑ k : Fin (n + 1), p ⟨k.val, Nat.lt_of_lt_of_le k.isLt h⟩ j := by
  intro n
  induction n with
  | zero => intro h j; rw [h0 h j]; simp
  | succ n ih => intro h j; rw [hs n h j, ih (Nat.lt_of_succ_lt h) j, Fin.sum_univ_castSucc (n := n + 1)]; rfl

/-- A sum over `a * b` rows cut into `a` blocks of `b`. -/
theorem sum_blocks (a b n : Nat) (hn : a * b = n) (f : Fin n → EReal) (g : Fin a → Fin b → Fin n)
    (hg : ∀ t r, (g t r).val = b * t.val + r.val) : ∑ i, f i = ∑ t, ∑ r, f (g t r) := by
  subst hn
  rw [← Finset.sum_product']
  refine (Fintype.sum_equiv finProdFinEquiv _ _ fun x => ?_).symm
  refine congrArg f (Fin.ext ?_)
  rw [hg]
  show _ = (x.2 : Nat) + b * x.1
  omega

/-- Two matrices are equal where all their entries are. -/
theorem ext2 {n0 n1 : Nat} {α : Type} {f g : (⟨2, ![n0, n1]⟩ : Shape).Idx → α} (h : ∀ r k, f (ix2 r k) = g (ix2 r k)) : f = g := by
  funext i
  have e : i = ix2 (i 0) (i 1) := by
    funext a
    match a with
    | ⟨0, _⟩ => rfl
    | ⟨1, _⟩ => rfl
  rw [e]
  exact h _ _

/-! ## Constants and real multiples -/

theorem ofBits_half : Ideal.ofBits .f32 1056964608#32 = ((1 / 2 : ℝ) : EReal) := by
  simp [Ideal.ofBits, Ideal.ieee]; rw [← EReal.coe_mul]; norm_num
theorem ofBits_two : Ideal.ofBits .f32 1073741824#32 = ((2 : ℝ) : EReal) := by
  simp [Ideal.ofBits, Ideal.ieee]; rw [← EReal.coe_mul]; norm_num
theorem ofBits_1024 : Ideal.ofBits .f32 1149239296#32 = ((1024 : ℝ) : EReal) := by
  simp [Ideal.ofBits, Ideal.ieee]; rw [← EReal.coe_mul]; norm_num
theorem ofBits_inv1024 : Ideal.ofBits .f32 981467136#32 = ((1 / 1024 : ℝ) : EReal) := by
  simp [Ideal.ofBits, Ideal.ieee]; rw [← EReal.coe_mul]; norm_num

/-- A nonnegative real factor goes through a sum of nonnegative terms. -/
theorem mul_sum_nonneg {ι : Type*} (s : Finset ι) (a : EReal) (f : ι → EReal) (hf : ∀ i, 0 ≤ f i) :
    a * ∑ i ∈ s, f i = ∑ i ∈ s, a * f i := by
  classical
  induction s using Finset.induction with
  | empty => simp
  | insert i s hi ih =>
    rw [Finset.sum_insert hi, Finset.sum_insert hi, EReal.left_distrib_of_nonneg (hf i) (Finset.sum_nonneg fun j _ => hf j), ih]

/-- A square is not negative. -/
theorem sq_nonneg' (x : EReal) : 0 ≤ x * x := by
  induction x with
  | bot => simp
  | top => simp
  | coe r => rw [← EReal.coe_mul]; exact_mod_cast mul_self_nonneg r

/-! ## The root mean square norm and its gradient, one row of length 1024 -/

/-- The row's length, the norm's small term and the factor of the square root's derivative, as the programs write them. -/
abbrev cN : EReal := Ideal.ofBits .f32 1149239296#32
abbrev cEps : EReal := Ideal.ofBits .f32 925353388#32
abbrev cMHalf : EReal := Ideal.ofBits .f32 3204448256#32

/-- The mean square of a row plus the small term. -/
def ms (x : Fin 1024 → EReal) : EReal := Ideal.div (∑ k, x k * x k) cN + cEps

/-- The normalised row before its scale. -/
def nrm (x : Fin 1024 → EReal) (j : Fin 1024) : EReal := x j * Ideal.rsqrt (ms x)

/-- What the row's mean square sends back to each entry, the cotangent of the normalised row being `w`. -/
def nback (x w : Fin 1024 → EReal) : EReal :=
  Ideal.div ((∑ k, x k * w k) * (cMHalf * Ideal.div (Ideal.rsqrt (ms x)) (ms x))) cN

/-- The norm's gradient in the row, the cotangent of the normalised row being `w`. -/
def ngrad (x w : Fin 1024 → EReal) (j : Fin 1024) : EReal :=
  w j * Ideal.rsqrt (ms x) + x j * nback x w + nback x w * x j

/-- The bits of minus infinity. -/
theorem ofBits_ninf : Ideal.ofBits .f32 0xFF800000#32 = (⊥ : EReal) := by
  simp [Ideal.ofBits, Ideal.ieee]

/-- The set bit as a number. -/
theorem bit_one : (FloatOps.uitofp (F := Ideal) .f32 (BitVec.ofBool true) : EReal) = ((1 : ℝ) : EReal) := by
  simp [FloatOps.uitofp]

/-- The clear bit as a number. -/
theorem bit_zero : (FloatOps.uitofp (F := Ideal) .f32 (BitVec.ofBool false) : EReal) = ((0 : ℝ) : EReal) := by
  simp [FloatOps.uitofp]

end Cert.Base

end
-- ==== Proof.LossOut.lean ====
module

public import proofs.«01_k».proof.Defs
public import proofs.«01_k».proof.Proof.Gen.LossIdeal.Value
public import proofs.«01_k».proof.Proof.Gen.LossRefIdeal.Run
public import proofs.«01_k».proof.Proof.Gen.LossRefIdeal.Read
public import proofs.«01_k».proof.Proof.Base

@[expose] public section

set_option maxRecDepth 16384

noncomputable section

namespace Cert.LossIdeal.Out

open Cert.LossIdeal Cert.LossIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The row of the scale block that the body reads. -/
abbrev row0 (X : Vec F S8x1024 .f32) : Vec F S1x1024 .f32 :=
  View.ld (Val := Elt F) (e' := .f32) X (Rect.unit ![0, 0] ![1, 1024] inb_S8x1024_S1x1024_0_0)

/-- What the first point leaves. -/
theorem out_A (c : Dev nD) (t : Fin cfg0.N) (h0 : t.val % 16 = 0) (h1 : ¬1 ≤ t.val) :
    outsAt0 m c t.val t.isLt = (k0_pay12 (iblk m c 0 t) (row0 (iblk m c 1 t)) (iblk m c 2 t),
      k0_pay1 (k0_pay11 (iblk m c 0 t) (row0 (iblk m c 1 t)) (iblk m c 2 t)),
      k0_pay3 (k0_pay9 (iblk m c 0 t) (row0 (iblk m c 1 t)) (iblk m c 2 t))) := by
  rw [outsAt0_A m c t h0 h1 h0 h1]
  unfold out0_A_3 out0_A_4 out0_A_5
  rw [View.read_writes_eq_canon _ _ _ (cover0_A_3 _ _ _ _ _ _ _ _ _ _ _ _ _ _ _ _ _ _ _ _ _),
    View.read_writes_eq_canon _ _ _ (cover0_A_4 _ _ _ _ _ _ _ _ _ _ _ _ _ _ _ _ _ _ _ _ _),
    View.read_writes_eq_canon _ _ _ (cover0_A_5 _ _ _ _ _ _ _ _ _ _ _ _ _ _ _ _ _ _ _ _ _)]
  unfold kernelRun0_A
  dsimp only
  rw [View.canon_unit_zero Base.hz2, View.canon_unit_zero Base.hz2, View.canon_unit_zero Base.hz2]
  delta kernelRun0_A.sl.r_2 kernelRun0_A.sl.r_1 kernelRun0_A.sl.r
  rw [Base.readAt_whole _ _ Base.hz2, Base.readAt_whole _ _ Base.hz2, Base.readAt_ld]

/-- What a later point leaves, over what the point before left. -/
theorem out_B (c : Dev nD) (t : Fin cfg0.N) (h0 : ¬t.val % 16 = 0) (h1 : 1 ≤ t.val) :
    outsAt0 m c t.val t.isLt = (k0_pay12 (iblk m c 0 t) (row0 (iblk m c 1 t)) (iblk m c 2 t),
      k0_pay2 (k0_pay11 (iblk m c 0 t) (row0 (iblk m c 1 t)) (iblk m c 2 t)) (outsAt0 m c (t.val - 1) (Nat.lt_of_le_of_lt (Nat.sub_le _ _) t.isLt)).2.1,
      k0_pay4 (k0_pay9 (iblk m c 0 t) (row0 (iblk m c 1 t)) (iblk m c 2 t)) (outsAt0 m c (t.val - 1) (Nat.lt_of_le_of_lt (Nat.sub_le _ _) t.isLt)).2.2) := by
  rw [outsAt0_B m c t h0 h1 h0 h1]
  unfold out0_B_3 out0_B_4 out0_B_5
  rw [View.read_writes_eq_canon _ _ _ (cover0_B_3 _ _ _ _ _ _ _ _ _ _ _ _ _ _ _ _ _ _ _ _ _ _ _),
    View.read_writes_eq_canon _ _ _ (cover0_B_4 _ _ _ _ _ _ _ _ _ _ _ _ _ _ _ _ _ _ _ _ _ _ _),
    View.read_writes_eq_canon _ _ _ (cover0_B_5 _ _ _ _ _ _ _ _ _ _ _ _ _ _ _ _ _ _ _ _ _ _ _)]
  unfold kernelRun0_B
  dsimp only
  rw [View.canon_unit_zero Base.hz2, View.canon_unit_zero Base.hz2, View.canon_unit_zero Base.hz2]
  delta kernelRun0_B.sl.r_2 kernelRun0_B.sl.r_1 kernelRun0_B.sl.r
  rw [Base.readAt_whole _ _ Base.hz2, Base.readAt_whole _ _ Base.hz2, Base.readAt_ld, Base.readAt_whole _ _ Base.hz2,
    Base.readAt_whole _ _ Base.hz2]

end Cert.LossIdeal.Out
-- ==== Proof.LossPure.lean ====
module

public import proofs.«01_k».proof.Defs
public import proofs.«01_k».proof.Proof.Gen.LossIdeal.Skeleton
public import proofs.«01_k».proof.Proof.Gen.LossRefIdeal.Read
public import proofs.«01_k».proof.Proof.Base

@[expose] public section

set_option maxRecDepth 16384

noncomputable section

namespace Cert.LossIdeal.Pure

open Cert.LossIdeal Cert.LossIdeal.Gen Idealize.ShloMosaic

open Base

/-- The error of a row: the scaled norm minus the target. -/
def err (x g t : Fin 1024 → EReal) (j : Fin 1024) : EReal := nrm x j * g j - t j

/-- The cotangent of the norm's value, as the kernel takes it. -/
def ct (x g t : Fin 1024 → EReal) (j : Fin 1024) : EReal := err x g t j * Ideal.ofBits .f32 981467136#32

/-- A row of a matrix. -/
abbrev rowOf {n d : Nat} (v : (⟨2, ![n, d]⟩ : Shape).Idx → EReal) (r : Fin n) (k : Fin d) : EReal := v (ix2 r k)

theorem p9 (v1 : Vec Ideal S512x1024 .f32) (v2 : Vec Ideal S1x1024 .f32) (v19 : Vec Ideal S512x1024 .f32) (r : Fin 512) (j : Fin 1024) :
    k0_pay9 v1 v2 v19 (ix2 r j) = err (rowOf v1 r) (rowOf v2 0) (rowOf v19 r) j := by
  pointwise [k0_pay9, k0_pay8, k0_pay7, k0_pay6, k0_pay5]
  rfl

theorem p12 (v1 : Vec Ideal S512x1024 .f32) (v2 : Vec Ideal S1x1024 .f32) (v19 : Vec Ideal S512x1024 .f32) (r : Fin 512) (j : Fin 1024) :
    k0_pay12 v1 v2 v19 (ix2 r j)
      = ngrad (rowOf v1 r) (fun k => ct (rowOf v1 r) (rowOf v2 0) (rowOf v19 r) k * rowOf v2 0 k) j := by
  pointwise [k0_pay12, k0_pay10, k0_pay9, k0_pay8, k0_pay7, k0_pay6, k0_pay5]
  simp only [Finset.univ_unique, Finset.sum_singleton]
  rfl

theorem p1 (v1 : Vec Ideal S512x1024 .f32) (v2 : Vec Ideal S1x1024 .f32) (v19 : Vec Ideal S512x1024 .f32) (r : Fin 8) (j : Fin 1024) :
    k0_pay1 (k0_pay11 v1 v2 v19) (ix2 r j) = if r.val < 1 then
      ∑ i, nrm (rowOf v1 i) j * ct (rowOf v1 i) (rowOf v2 0) (rowOf v19 i) j else 0 := by
  pointwise [k0_pay1, k0_pay11, k0_pay10, k0_pay9, k0_pay8, k0_pay7, k0_pay6, k0_pay5]
  rfl

/-- The squared error of a row, as the loss sums it. -/
def rowLoss (e : Fin 1024 → EReal) : EReal := (∑ k, e k * e k) * Ideal.ofBits .f32 981467136#32

theorem rowLoss_nonneg (e : Fin 1024 → EReal) : 0 ≤ rowLoss e := by
  unfold rowLoss
  refine mul_nonneg (Finset.sum_nonneg fun k _ => sq_nonneg' _) ?_
  rw [ofBits_inv1024]
  exact_mod_cast (by norm_num : (0 : ℝ) ≤ 1 / 1024)

theorem p3 (v : FVec Ideal S512x1024 .f32) (r : Fin 8) (j : Fin 128) :
    k0_pay3 v (ix2 r j) = Ideal.ofBits .f32 1056964608#32 * ∑ i, rowLoss (rowOf v i) := by
  pointwise [k0_pay3]
  rfl

theorem p2 (v : FVec Ideal S1x1024 .f32) (w : FVec Ideal S8x1024 .f32) (r : Fin 8) (j : Fin 1024) :
    k0_pay2 v w (ix2 r j) = w (ix2 r j) + k0_pay1 v (ix2 r j) := by
  unfold k0_pay2
  generalize k0_pay1 v = z
  pointwise []

theorem p4 (v : FVec Ideal S512x1024 .f32) (w : FVec Ideal S8x128 .f32) (r : Fin 8) (j : Fin 128) :
    k0_pay4 v w (ix2 r j) = w (ix2 r j) + k0_pay3 v (ix2 r j) := by
  unfold k0_pay4
  generalize k0_pay3 v = z
  pointwise []

open Cert.LossRefIdeal.Gen Cert.LossRefIdeal.Read

/-- The cotangent as the reference's derivative of the mean of squares writes it. -/
theorem ct_eq (x g t : Fin 1024 → EReal) (j : Fin 1024) :
    Ideal.div (Ideal.ofBits .f32 1056964608#32) (Ideal.ofBits .f32 1149239296#32) * (Ideal.ofBits .f32 1073741824#32 * err x g t j)
      = ct x g t j := by
  unfold ct
  rw [ofBits_half, ofBits_1024, ofBits_two, ofBits_inv1024, Ideal.div_coe (by norm_num), ← mul_assoc, ← EReal.coe_mul, ← EReal.coe_mul, mul_comm]
  norm_num

variable (x : (⟨S8192x1024, .f32⟩ : BufTy).Contents (Elt Ideal)) (g : (⟨S1024, .f32⟩ : BufTy).Contents (Elt Ideal))
  (y : (⟨S8192x1024, .f32⟩ : BufTy).Contents (Elt Ideal))

/-- The scale as a row. -/
abbrev vecOf {d : Nat} (v : (⟨1, ![d]⟩ : Shape).Idx → EReal) (k : Fin d) : EReal := v (ix1 k)

theorem r16 (r : Fin 8192) (j : Fin 1024) : val_main_v16 (F := Ideal) x g y (ix2 r j) = err (rowOf x r) (vecOf g) (rowOf y r) j := by
  pointwise [val_main_v16, val_main_v15, val_main_v14, val_main_v13, val_main_v12, val_main_v11, val_main_v7, val_main_v6, val_main_v5,
    val_main_v4, val_main_v3, val_main_v2, val_main_v1, val_main_v0, val_main_cst, val_main_cst_0, val_main_cst_1]
  rfl

theorem r30 (r : Fin 8192) (j : Fin 1024) : val_main_v30 (F := Ideal) x g y (ix2 r j) = ct (rowOf x r) (vecOf g) (rowOf y r) j := by
  rw [← ct_eq, ← r16]
  pointwise [val_main_v30,val_main_v29,val_main_v28,val_main_v27,val_main_v26,val_main_v25, val_main_v19, val_main_v18, val_main_cst_3, val_main_cst_8, val_main_cst_9, val_main_cst_10]

theorem r50 (r : Fin 8192) (j : Fin 1024) : val_main_v50 (F := Ideal) x g y (ix2 r j)
    = ngrad (rowOf x r) (fun k => ct (rowOf x r) (vecOf g) (rowOf y r) k * vecOf g k) j := by
  have e : ∀ k, val_main_v35 (F := Ideal) x g y (ix2 r k) = ct (rowOf x r) (vecOf g) (rowOf y r) k * vecOf g k := by
    intro k
    rw [← r30]
    pointwise [val_main_v35, val_main_v34, val_main_v13]
  rw [← funext e]
  pointwise [val_main_v50, val_main_v49, val_main_v48, val_main_v47, val_main_v46, val_main_v45, val_main_v44, val_main_v43,
    val_main_v42, val_main_v41, val_main_v40, val_main_v39, val_main_v38, val_main_v37, val_main_v10, val_main_v9, val_main_v8,
    val_main_v7, val_main_v6, val_main_v5, val_main_v4, val_main_v3, val_main_v2, val_main_v1, val_main_v0, val_main_cst,
    val_main_cst_0, val_main_cst_1, val_main_cst_2, val_main_cst_13, val_main_cst_14, val_main_cst_15]
  simp only [Finset.univ_unique, Finset.sum_singleton]
  rfl

theorem r53 (r : Fin 8) (j : Fin 1024) : val_main_v53 (F := Ideal) x g y (ix2 r j)
    = if r.val < 1 then ∑ i, nrm (rowOf x i) j * ct (rowOf x i) (vecOf g) (rowOf y i) j else 0 := by
  have e : ∀ i, val_main_v30 (F := Ideal) x g y (ix2 i j) = ct (rowOf x i) (vecOf g) (rowOf y i) j := fun i => r30 x g y i j
  simp only [← e]
  pointwise [val_main_v53, val_main_v51, val_main_v36, val_main_v33, val_main_v32, val_main_v31, val_main_v12, val_main_v11,
    val_main_v7, val_main_v6, val_main_v5, val_main_v4, val_main_v3, val_main_v2, val_main_v1, val_main_v0, val_main_cst,
    val_main_cst_0, val_main_cst_1, val_main_v52, val_main_cst_11, val_main_cst_12, val_main_cst_16]
  simp only [Finset.univ_unique, Finset.sum_singleton]
  rfl

theorem r54 (r : Fin 8) (j : Fin 128) : val_main_v54 (F := Ideal) x g y (ix2 r j)
    = Ideal.ofBits .f32 1056964608#32 * ∑ i, rowLoss (err (rowOf x i) (vecOf g) (rowOf y i)) := by
  have e : ∀ i, err (rowOf x i) (vecOf g) (rowOf y i) = fun k => val_main_v16 (F := Ideal) x g y (ix2 i k) := fun i => funext fun k => (r16 x g y i k).symm
  simp only [e, rowLoss]
  pointwise [val_main_v54, val_main_v24, val_main_v23, val_main_v22, val_main_v21, val_main_v20, val_main_v17, val_main_cst_4, val_main_cst_5, val_main_cst_6, val_main_cst_7]
  simp only [ofBits_1024, ofBits_inv1024, Ideal.div_coe (show (1024 : ℝ) ≠ 0 by norm_num)]

end Cert.LossIdeal.Pure
-- ==== Proof.LossVal.lean ====
module

public import proofs.«01_k».proof.Proof.LossOut
public import proofs.«01_k».proof.Proof.LossPure

@[expose] public section

set_option maxRecDepth 16384

noncomputable section

namespace Cert.LossIdeal.Val

open Cert.LossIdeal Cert.LossIdeal.Gen Idealize.ShloMosaic Idealize.ShloMosaic.TcCoe Idealize.SL.Sem
open Idealize.ShloMosaic.Pipeline (Dat)
open Base Pure Out

variable (m : (ℓ : Loc nD τ sig) → Buf (Elt Ideal) ℓ) (c : Dev nD)

/-- The kernel's arguments, as matrices. -/
abbrev X : (⟨2, ![8192, 1024]⟩ : Shape).Idx → EReal := m ((c : Thread nD τ).loc main_arg0)
abbrev G : (⟨1, ![1024]⟩ : Shape).Idx → EReal := m ((c : Thread nD τ).loc main_arg1)
abbrev T : (⟨2, ![8192, 1024]⟩ : Shape).Idx → EReal := m ((c : Thread nD τ).loc main_arg2)

/-- The row of the whole matrix that is row `r` of block `t`. -/
def at_ (t : Fin cfg0.N) (r : Fin 512) : Fin 8192 := ⟨512 * t.val + r.val, by have := t.isLt; have e : cfg0.N = 16 := rfl; omega⟩

theorem index0 : ∀ t : Fin cfg0.N, win0_0.index t 0 = t.val ∧ win0_0.index t 1 = 0 ∧ win0_2.index t 0 = t.val ∧ win0_2.index t 1 = 0
    ∧ win0_3.index t 0 = t.val ∧ win0_3.index t 1 = 0 ∧ win0_1.index t 0 = 0 ∧ win0_1.index t 1 = 0 :=
  (by decide +kernel : ∀ t : Fin grid0.N, win0_0.index t 0 = t.val ∧ win0_0.index t 1 = 0 ∧ win0_2.index t 0 = t.val ∧ win0_2.index t 1 = 0
    ∧ win0_3.index t 0 = t.val ∧ win0_3.index t 1 = 0 ∧ win0_1.index t 0 = 0 ∧ win0_1.index t 1 = 0)

theorem emb0 (t : Fin cfg0.N) (r : Fin 512) (k : Fin 1024) : (win0_0.rect t).emb (ix2 r k) = ix2 (at_ t r) k := by
  funext a
  refine Fin.ext ((win0_0.rect_emb_val t _ a).trans ?_)
  match a with
  | ⟨0, _⟩ => show win0_0.index t 0 * 512 + r.val = 512 * t.val + r.val; rw [(index0 t).1]; omega
  | ⟨1, _⟩ => show win0_0.index t 1 * 1024 + k.val = k.val; rw [(index0 t).2.1]; omega

theorem iblk0 (t : Fin cfg0.N) (r : Fin 512) (k : Fin 1024) : iblk m c 0 t (ix2 r k) = X m c (ix2 (at_ t r) k) := by
  unfold iblk
  show V m c main_arg0 ((win0_0.rect t).emb (ix2 r k)) = _
  rw [emb0, V_main_arg0]

theorem iblk2 (t : Fin cfg0.N) (r : Fin 512) (k : Fin 1024) : iblk m c 2 t (ix2 r k) = T m c (ix2 (at_ t r) k) := by
  unfold iblk
  show V m c main_arg2 ((win0_2.rect t).emb (ix2 r k)) = _
  have e : (win0_2.rect t).emb (ix2 r k) = ix2 (at_ t r) k := by
    funext a
    refine Fin.ext ((win0_2.rect_emb_val t _ a).trans ?_)
    match a with
    | ⟨0, _⟩ => show win0_2.index t 0 * 512 + r.val = 512 * t.val + r.val; rw [(index0 t).2.2.1]; omega
    | ⟨1, _⟩ => show win0_2.index t 1 * 1024 + k.val = k.val; rw [(index0 t).2.2.2.1]; omega
  rw [e, V_main_arg2]

/-- Row 0 of the vectors the host packs is the scale. -/
theorem vec_apply (k : Fin 1024) : V m c main_v2 (ix2 (0 : Fin 8) k) = (G m c (ix1 k) : EReal) := by
  unfold V
  after_results_simp
  pointwise []

theorem row0_apply (x : Vec Ideal S8x1024 .f32) (k : Fin 1024) : row0 x (ix2 0 k) = x (ix2 0 k) := by
  show x _ = x _
  congr 1
  funext a
  refine Fin.ext ?_
  match a with
  | ⟨0, _⟩ => rfl
  | ⟨1, _⟩ => show 0 + 1 * k.val = k.val; omega

theorem row0_iblk (t : Fin cfg0.N) (k : Fin 1024) : row0 (iblk m c 1 t) (ix2 0 k) = G m c (ix1 k) := by
  rw [← vec_apply, row0_apply]
  unfold iblk
  show V m c main_v2 ((win0_1.rect t).emb (ix2 (0 : Fin 8) k)) = _
  congr 1
  funext a
  refine Fin.ext ((win0_1.rect_emb_val t _ a).trans ?_)
  match a with
  | ⟨0, _⟩ => show win0_1.index t 0 * 8 + 0 = 0; rw [(index0 t).2.2.2.2.2.2.1]
  | ⟨1, _⟩ => show win0_1.index t 1 * 1024 + k.val = k.val; rw [(index0 t).2.2.2.2.2.2.2]; omega

/-- The rows of a block: of the input, of the target; and the scale. -/
theorem rows (t : Fin cfg0.N) (r : Fin 512) : rowOf (iblk m c 0 t) r = rowOf (X m c) (at_ t r) := funext fun k => iblk0 m c t r k
theorem rowsT (t : Fin cfg0.N) (r : Fin 512) : rowOf (iblk m c 2 t) r = rowOf (T m c) (at_ t r) := funext fun k => iblk2 m c t r k
theorem scale (t : Fin cfg0.N) : rowOf (row0 (iblk m c 1 t)) 0 = vecOf (G m c) := funext fun k => row0_iblk m c t k

/-- What a grid point adds to the gradient of the scale and to the loss. -/
def dgAt (t : Fin cfg0.N) (j : Fin 1024) : EReal :=
  ∑ r : Fin 512, nrm (rowOf (X m c) (at_ t r)) j * ct (rowOf (X m c) (at_ t r)) (vecOf (G m c)) (rowOf (T m c) (at_ t r)) j
def lossAt (t : Fin cfg0.N) : EReal :=
  Ideal.ofBits .f32 1056964608#32 * ∑ r : Fin 512, rowLoss (err (rowOf (X m c) (at_ t r)) (vecOf (G m c)) (rowOf (T m c) (at_ t r)))

theorem dg_eq (t : Fin cfg0.N) (r : Fin 8) (j : Fin 1024) :
    k0_pay1 (k0_pay11 (iblk m c 0 t) (row0 (iblk m c 1 t)) (iblk m c 2 t)) (ix2 r j) = if r.val < 1 then dgAt m c t j else 0 := by
  rw [p1]
  simp only [rows, rowsT, scale]
  rfl

theorem loss_eq (t : Fin cfg0.N) (r : Fin 8) (j : Fin 128) :
    k0_pay3 (k0_pay9 (iblk m c 0 t) (row0 (iblk m c 1 t)) (iblk m c 2 t)) (ix2 r j) = lossAt m c t := by
  rw [p3]
  have e : ∀ i : Fin 512, rowOf (k0_pay9 (iblk m c 0 t) (row0 (iblk m c 1 t)) (iblk m c 2 t)) i
      = err (rowOf (X m c) (at_ t i)) (vecOf (G m c)) (rowOf (T m c) (at_ t i)) := fun i => funext fun k => by
    show k0_pay9 _ _ _ (ix2 i k) = _
    rw [p9, rows, rowsT, scale]
  simp only [e]
  rfl

/-- The accumulated rows after a point: the sums over the points up to it. -/
theorem acc4 (n : Nat) (h : n < cfg0.N) (r : Fin 8) (j : Fin 1024) : (outsAt0 m c n h).2.1 (ix2 r j)
    = ∑ k : Fin (n + 1), if r.val < 1 then dgAt m c ⟨k.val, Nat.lt_of_lt_of_le k.isLt h⟩ j else 0 := by
  refine acc_sum (N := cfg0.N) (fun t (x : Fin 8 × Fin 1024) => (outsAt0 m c t.val t.isLt).2.1 (ix2 x.1 x.2))
    (fun t x => if x.1.val < 1 then dgAt m c t x.2 else 0) ?_ ?_ n h (r, j)
  · intro h x
    show (outsAt0 m c 0 h).2.1 _ = _
    rw [out_A m c ⟨0, h⟩ rfl (by simp)]
    exact dg_eq m c _ _ _
  · intro n h x
    have hN : cfg0.N = 16 := rfl
    show (outsAt0 m c (n + 1) h).2.1 _ = _
    rw [out_B m c ⟨n + 1, h⟩ (by show ¬(n + 1) % 16 = 0; omega) (by show 1 ≤ n + 1; omega)]
    exact (p2 _ _ _ _).trans (congrArg _ (dg_eq m c _ _ _))

theorem acc5 (n : Nat) (h : n < cfg0.N) (r : Fin 8) (j : Fin 128) : (outsAt0 m c n h).2.2 (ix2 r j)
    = ∑ k : Fin (n + 1), lossAt m c ⟨k.val, Nat.lt_of_lt_of_le k.isLt h⟩ := by
  refine acc_sum (N := cfg0.N) (fun t (x : Fin 8 × Fin 128) => (outsAt0 m c t.val t.isLt).2.2 (ix2 x.1 x.2))
    (fun t x => lossAt m c t) ?_ ?_ n h (r, j)
  · intro h x
    show (outsAt0 m c 0 h).2.2 _ = _
    rw [out_A m c ⟨0, h⟩ rfl (by simp)]
    exact loss_eq m c _ _ _
  · intro n h x
    have hN : cfg0.N = 16 := rfl
    show (outsAt0 m c (n + 1) h).2.2 _ = _
    rw [out_B m c ⟨n + 1, h⟩ (by show ¬(n + 1) % 16 = 0; omega) (by show 1 ≤ n + 1; omega)]
    exact (p4 _ _ _ _).trans (congrArg _ (loss_eq m c _ _ _))

theorem out3 (t : Fin cfg0.N) (r : Fin 512) (k : Fin 1024) : (outsAt0 m c t.val t.isLt).1 (ix2 r k)
    = ngrad (rowOf (X m c) (at_ t r)) (fun k => ct (rowOf (X m c) (at_ t r)) (vecOf (G m c)) (rowOf (T m c) (at_ t r)) k * vecOf (G m c) k) k := by
  have hN : cfg0.N = 16 := rfl
  have ht := t.isLt
  have e : (outsAt0 m c t.val t.isLt).1 = k0_pay12 (iblk m c 0 t) (row0 (iblk m c 1 t)) (iblk m c 2 t) := by
    by_cases h : t.val % 16 = 0
    · rw [out_A m c t h (by omega)]
    · rw [out_B m c t h (by omega)]
  rw [e, p12, rows, rowsT, scale]

/-! ## The results -/

theorem final3 (r : Fin 8192) (k : Fin 1024) : (dats m 0 c).arrAt 3 cfg0.N (ix2 r k)
    = ngrad (rowOf (X m c) r) (fun k => ct (rowOf (X m c) r) (vecOf (G m c)) (rowOf (T m c) r) k * vecOf (G m c) k) k := by
  let t : Fin cfg0.N := ⟨r.val / 512, by have := r.isLt; show _ < 16; omega⟩
  let i : Fin 512 := ⟨r.val % 512, Nat.mod_lt _ (by decide)⟩
  have er : at_ t i = r := Fin.ext (by show 512 * (r.val / 512) + r.val % 512 = r.val; omega)
  have h := congrFun (Value.blocks3 m c t (flush0_3 t)) (ix2 i k)
  rw [Value.flushed3] at h
  rw [← er]
  refine Eq.trans ?_ (h.trans (out3 m c t i k))
  show _ = (dats m 0 c).arrAt 3 cfg0.N ((win0_3.rect t).emb (ix2 i k))
  congr 1
  funext a
  refine Fin.ext (Eq.trans ?_ (win0_3.rect_emb_val t _ a).symm)
  match a with
  | ⟨0, _⟩ => show 512 * t.val + i.val = win0_3.index t 0 * 512 + i.val; rw [(index0 t).2.2.2.2.1]; omega
  | ⟨1, _⟩ => show k.val = win0_3.index t 1 * 1024 + k.val; rw [(index0 t).2.2.2.2.2.1]; omega

theorem index4 : ∀ t : Fin cfg0.N, win0_4.index t 0 = 0 ∧ win0_4.index t 1 = 0 ∧ win0_5.index t 0 = 0 ∧ win0_5.index t 1 = 0 :=
  (by decide +kernel : ∀ t : Fin grid0.N, win0_4.index t 0 = 0 ∧ win0_4.index t 1 = 0 ∧ win0_5.index t 0 = 0 ∧ win0_5.index t 1 = 0)

/-- The last grid point. -/
def last : Fin cfg0.N := ⟨15, by decide⟩

theorem final4 (r : Fin 8) (j : Fin 1024) : (dats m 0 c).arrAt 4 cfg0.N (ix2 r j)
    = if r.val < 1 then ∑ i, nrm (rowOf (X m c) i) j * ct (rowOf (X m c) i) (vecOf (G m c)) (rowOf (T m c) i) j else 0 := by
  have hd : ∀ t t' : Fin cfg0.N, (cfg0.win 4).flush t = true → (cfg0.win 4).flush t' = true → t ≠ t' →
      Disjoint ((cfg0.win 4).blk t).view.set ((cfg0.win 4).blk t').view.set := fun t t' h h' hne => by
    have e : cfg0.N = 16 := rfl
    have := t.isLt; have := t'.isLt; have := (flush0_4 t).mp h; have := (flush0_4 t').mp h'
    exact absurd (Fin.ext (by omega)) hne
  have h := congrFun ((dats m 0 c).read_blk_arrAt_eq_flushed 4 hd cfg0.N last last.isLt ((flush0_4 last).mpr rfl)) (ix2 r j)
  rw [Value.flushed4] at h
  refine Eq.trans ?_ (h.trans ((acc4 m c 15 last.isLt r j).trans ?_))
  · show _ = (dats m 0 c).arrAt 4 cfg0.N ((win0_4.rect last).emb (ix2 r j))
    congr 1
    funext a
    refine Fin.ext (Eq.trans ?_ (win0_4.rect_emb_val last _ a).symm)
    match a with
    | ⟨0, _⟩ => show r.val = win0_4.index last 0 * 8 + r.val; rw [(index4 last).1]; omega
    | ⟨1, _⟩ => show j.val = win0_4.index last 1 * 1024 + j.val; rw [(index4 last).2.1]; omega
  · by_cases hr : r.val < 1
    · simp only [hr, if_true]
      rw [sum_blocks 16 512 8192 (by decide) _ (fun t r => at_ t r) fun _ _ => rfl]
      rfl
    · simp [hr]

theorem final5 (r : Fin 8) (j : Fin 128) : (dats m 0 c).arrAt 5 cfg0.N (ix2 r j)
    = Ideal.ofBits .f32 1056964608#32 * ∑ i, rowLoss (err (rowOf (X m c) i) (vecOf (G m c)) (rowOf (T m c) i)) := by
  have hd : ∀ t t' : Fin cfg0.N, (cfg0.win 5).flush t = true → (cfg0.win 5).flush t' = true → t ≠ t' →
      Disjoint ((cfg0.win 5).blk t).view.set ((cfg0.win 5).blk t').view.set := fun t t' h h' hne => by
    have e : cfg0.N = 16 := rfl
    have := t.isLt; have := t'.isLt; have := (flush0_5 t).mp h; have := (flush0_5 t').mp h'
    exact absurd (Fin.ext (by omega)) hne
  have h := congrFun ((dats m 0 c).read_blk_arrAt_eq_flushed 5 hd cfg0.N last last.isLt ((flush0_5 last).mpr rfl)) (ix2 r j)
  rw [Value.flushed5] at h
  refine Eq.trans ?_ (h.trans ((acc5 m c 15 last.isLt r j).trans ?_))
  · show _ = (dats m 0 c).arrAt 5 cfg0.N ((win0_5.rect last).emb (ix2 r j))
    congr 1
    funext a
    refine Fin.ext (Eq.trans ?_ (win0_5.rect_emb_val last _ a).symm)
    match a with
    | ⟨0, _⟩ => show r.val = win0_5.index last 0 * 8 + r.val; rw [(index4 last).2.2.1]; omega
    | ⟨1, _⟩ => show j.val = win0_5.index last 1 * 128 + j.val; rw [(index4 last).2.2.2]; omega
  · rw [sum_blocks 16 512 8192 (by decide) _ (fun t r => at_ t r) fun _ _ => rfl, ofBits_half, mul_sum_nonneg]
    · exact Finset.sum_congr rfl fun t _ => by unfold lossAt; rw [ofBits_half]; rfl
    · exact fun t => Finset.sum_nonneg fun r _ => rowLoss_nonneg _

end Cert.LossIdeal.Val
-- ==== Proof.Finite.lean ====
module

public import proofs.«01_k».proof.Proof.Base
public import Idealize.ShloMosaic.Lib.ReduceAll
public import Idealize.ShloMosaic.Lib.Pointwise

@[expose] public section

noncomputable section

namespace Cert.Finite

open Idealize.ShloMosaic

/-- The word of infinity. -/
theorem inf : Ideal.ofBits .f32 0x7F800000#32 = (⊤ : EReal) := by
  simp [Ideal.ofBits, Ideal.ieee]

/-- A value whose absolute value lies under infinity is a real. -/
theorem of_lt {x : EReal} (h : Ideal.cmp .olt (max x (-x)) ⊤ = 1#1) : ∃ r : ℝ, x = (r : EReal) := by
  have hl : max x (-x) < ⊤ := by
    by_contra hn
    have : Ideal.cmp .olt (max x (-x)) ⊤ = 0#1 := by
      simp only [Ideal.cmp, hn, decide_false]; rfl
    rw [this] at h
    exact absurd h (by decide)
  rw [max_lt_iff] at hl
  refine ⟨x.toReal, (EReal.coe_toReal hl.1.ne ?_).symm⟩
  rintro rfl
  exact absurd hl.2 (by simp)

/-- An array all of whose absolute values lie under infinity holds reals. -/
theorem of_all {s t u : Shape} {axes : List (Fin s.rank)} [Subsingleton t.Idx] {x y : FVec Ideal s .f32} (hy : ∀ i, y i = (⊤ : EReal)) {init : u.Idx → BitVec 1}
    {h : s.ReducesTo axes t} {hu : 0 < u.numel} {j : t.Idx} (e : Host.reduce IntOp.andi (cmpf .olt (Host.absf x) y) init h hu j = 1#1) (i : s.Idx) : ∃ r : ℝ, x i = (r : EReal) := by
  have h1 := Host.reduce_andi_all _ _ _ _ j e i
  refine of_lt ?_
  rw [← hy i]
  exact h1

/-- Both of two bits that together are one. -/
theorem both {u : Shape} {x y : IVec u 1} {j : u.Idx} (h : andi x y j = 1#1) : x j = 1#1 ∧ y j = 1#1 := by
  have h' : IntOp.andi (x j) (y j) = 1#1 := h
  generalize x j = p at *
  generalize y j = q at *
  revert p q; decide

end Cert.Finite
-- ==== Proof.AttnOut.lean ====
module

public import proofs.«01_k».proof.Defs
public import proofs.«01_k».proof.Proof.Gen.AttnIdeal.Value
public import proofs.«01_k».proof.Proof.Base

@[expose] public section

set_option maxRecDepth 16384

noncomputable section

namespace Cert.AttnIdeal.Out

open Cert.AttnIdeal Cert.AttnIdeal.Gen Idealize.ShloMosaic Idealize.ShloMosaic.TcCoe Idealize.SL.Sem

/-! ## What one block of one pair of heads computes -/

section Core

variable {F : FTy → Type} [FloatOps F] [Named F]

theorem slb (b : Fin 4) : S640x128.Slices ![128 * b.val, 0] S256x128 := by
  revert b; decide

/-- The two blocks of rows that block `b` reads. -/
def rows2 (kp : Vec F S1x128x128 .bf16) (kc : Vec F S1x512x128 .bf16) (b : Fin 4) : FVec F S256x128 .bf16 :=
  extractStridedSlice S256x128 ![128 * b.val, 0] (k0_pay11 kp kc) (slb b)

variable (mk : IVec S128x256 1) (keys vals : FVec F S256x128 .bf16) (q g : Vec F S1x128x128 .bf16)

/-- One head's weights from its row's log-sum. -/
def pH (sel : IVec S1x128 1) (l : Vec F S1x128x1 .f32) : FVec F S128x256 .f32 := k0_pay27 mk keys (k0_pay14 q) sel l

/-- One head's scores' cotangent. -/
def dsH (sel : IVec S1x128 1) (l d : Vec F S1x128x1 .f32) : FVec F S128x256 .bf16 := k0_pay28 mk keys vals (k0_pay14 q) (k0_pay15 g) sel l d

/-- One head's part of the keys' gradient. -/
def dkH (sel : IVec S1x128 1) (l d : Vec F S1x128x1 .f32) : FVec F S256x128 .f32 :=
  matmul dot_S128x256_S128x128_S256x128_0_0_1_1_n_n none (dsH mk keys vals q g sel l d) (k0_pay25 (k0_pay14 q) sel) (constant S256x128 .f32 0x00000000#32)

/-- One head's part of the values' gradient. -/
def dvH (sel : IVec S1x128 1) (l : Vec F S1x128x1 .f32) : FVec F S256x128 .f32 :=
  matmul dot_S128x256_S128x128_S256x128_0_0_1_1_n_n none (truncf .bf16 (pH mk keys q sel l) bitsLt_bf16_f32) (k0_pay25 (k0_pay14 g) sel) (constant S256x128 .f32 0x00000000#32)

variable (l0 d0 l1 d1 : Vec F S1x128x1 .f32)

/-- Both heads' queries' gradient. -/
def dqB : FVec F S1x128x128 .bf16 :=
  k0_pay32 k0_pay8 (k0_pay29 mk keys vals (k0_pay14 q) (k0_pay15 g) k0_pay8 l0 d0) (k0_pay29 mk keys vals (k0_pay14 q) (k0_pay15 g) (k0_pay16 k0_pay8) l1 d1)

/-- Both heads' keys' gradient. -/
def dkB : FVec F S256x128 .f32 := addf (dkH mk keys vals q g k0_pay8 l0 d0) (dkH mk keys vals q g (k0_pay16 k0_pay8) l1 d1)

/-- Both heads' values' gradient. -/
def dvB : FVec F S256x128 .f32 := addf (dvH mk keys q g k0_pay8 l0) (dvH mk keys q g (k0_pay16 k0_pay8) l1)

/-- A block's own half and what follows it gives. -/
def ownPlus (x : FVec F S256x128 .f32) (y : FVec F S128x128 .f32) : FVec F S1x128x128 .bf16 :=
  k0_pay1 (addf (extractStridedSlice S128x128 ![128, 0] x slices_S256x128_o128_0_S128x128) y)

/-- A block's earlier half. -/
def early (x : FVec F S256x128 .f32) : FVec F S128x128 .f32 := extractStridedSlice S128x128 ![0, 0] x slices_S256x128_o0_0_S128x128

/-- A block's earlier half, as the carry keeps it. -/
def kept (x : FVec F S256x128 .f32) : FVec F S128x128 .f32 := shapeCast S128x128 (early x) shapeCasts_S128x128_S128x128

end Core

/-! ## At one point -/

section Point

variable {F : FTy → Type} [FloatOps F] [Named F]
variable (m : (ℓ : Loc nD τ sig) → Buf (Elt F) ℓ) (c : Dev nD) (t : Fin cfg0.N) (b p : Fin 4)

theorem ib : ∀ (b p : Fin 4) (a : Fin 3), (![0, 128 * b.val, 128 * p.val] : Fin 3 → ℕ) a + (![1, 128, 128] : Fin 3 → ℕ) a ≤ S1x512x512.size a := by decide
theorem ib0 : ∀ (p : Fin 4) (a : Fin 3), (![0, 0, 128 * p.val] : Fin 3 → ℕ) a + (![1, 128, 128] : Fin 3 → ℕ) a ≤ S1x128x512.size a := by decide
theorem ibC : ∀ (p : Fin 4) (a : Fin 3), (![0, 0, 128 * p.val] : Fin 3 → ℕ) a + (![1, 512, 128] : Fin 3 → ℕ) a ≤ S1x512x512.size a := by decide
theorem ibL : ∀ (b : Fin 4) (h : Fin 8) (a : Fin 3), (![0, 128 * b.val, 16 * h.val] : Fin 3 → ℕ) a + (![1, 128, 1] : Fin 3 → ℕ) a ≤ S1x512x128.size a := by decide
theorem ibS : ∀ (p : Fin 4) (a : Fin 2), (![0, 128 * p.val] : Fin 2 → ℕ) a + (![128, 128] : Fin 2 → ℕ) a ≤ S128x512.size a := by decide

/-- The head of a pair's half. -/
abbrev hd (p : Fin 4) (s : Fin 2) : Fin 8 := ⟨2 * p.val + s.val, by omega⟩

abbrev rB : Rect S1x512x512 := Rect.unit ![0, 128 * b.val, 128 * p.val] ![1, 128, 128] (ib b p)
abbrev rP : Rect S1x128x512 := Rect.unit ![0, 0, 128 * p.val] ![1, 128, 128] (ib0 p)
abbrev rC : Rect S1x512x512 := Rect.unit ![0, 0, 128 * p.val] ![1, 512, 128] (ibC p)
abbrev rL (h : Fin 8) : Rect S1x512x128 := Rect.unit ![0, 128 * b.val, 16 * h.val] ![1, 128, 1] (ibL b h)
abbrev rS : Rect S128x512 := Rect.unit ![0, 128 * p.val] ![128, 128] (ibS p)

def lq : Vec F S1x128x128 .bf16 := View.readAt (Elt F) (ms0_0 t).view (rB b p).toLoadRect ((hs0_0 t).unread (iblk m c 0 t))
def lkp : Vec F S1x128x128 .bf16 := View.readAt (Elt F) (ms0_1 t).view (rP p).toLoadRect ((hs0_1 t).unread (iblk m c 1 t))
def lkc : Vec F S1x512x128 .bf16 := View.readAt (Elt F) (ms0_2 t).view (rC p).toLoadRect ((hs0_2 t).unread (iblk m c 2 t))
def lvp : Vec F S1x128x128 .bf16 := View.readAt (Elt F) (ms0_3 t).view (rP p).toLoadRect ((hs0_3 t).unread (iblk m c 3 t))
def lvc : Vec F S1x512x128 .bf16 := View.readAt (Elt F) (ms0_4 t).view (rC p).toLoadRect ((hs0_4 t).unread (iblk m c 4 t))
def lg : Vec F S1x128x128 .bf16 := View.readAt (Elt F) (ms0_5 t).view (rB b p).toLoadRect ((hs0_5 t).unread (iblk m c 5 t))
def ld (h : Fin 8) : Vec F S1x128x1 .f32 := View.readAt (Elt F) (ms0_6 t).view (rL b h).toLoadRect ((hs0_6 t).unread (iblk m c 6 t))
def ll (h : Fin 8) : Vec F S1x128x1 .f32 := View.readAt (Elt F) (ms0_7 t).view (rL b h).toLoadRect ((hs0_7 t).unread (iblk m c 7 t))

/-- The mask of block `b`: the first block of all has no keys before it. -/
def mk : IVec S128x256 1 := match b with
  | ⟨0, _⟩ => k0_pay6 (grid0.coords t)
  | ⟨_ + 1, _⟩ => k0_pay7

def keys : FVec F S256x128 .bf16 := rows2 (lkp m c t p) (lkc m c t p) b
def vals : FVec F S256x128 .bf16 := rows2 (lvp m c t p) (lvc m c t p) b

/-- The queries' gradient of block `b`, heads `2 p` and `2 p + 1`. -/
def dqP : FVec F S1x128x128 .bf16 :=
  dqB (mk t b) (keys m c t b p) (vals m c t b p) (lq m c t b p) (lg m c t b p) (ll m c t b (hd p 0)) (ld m c t b (hd p 0)) (ll m c t b (hd p 1)) (ld m c t b (hd p 1))

/-- What block `b` gives the keys it reads. -/
def dkP : FVec F S256x128 .f32 :=
  dkB (mk t b) (keys m c t b p) (vals m c t b p) (lq m c t b p) (lg m c t b p) (ll m c t b (hd p 0)) (ld m c t b (hd p 0)) (ll m c t b (hd p 1)) (ld m c t b (hd p 1))

/-- What block `b` gives the values it reads. -/
def dvP : FVec F S256x128 .f32 :=
  dvB (mk t b) (keys m c t b p) (lq m c t b p) (lg m c t b p) (ll m c t b (hd p 0)) (ll m c t b (hd p 1))

/-- An array by its blocks. -/
def byBlocks {α : Type} (H : Fin 4 → Fin 4 → S1x128x128.Idx → α) : S1x512x512.Idx → α := fun y =>
  H ⟨(y 1).val / 128, by have : (y 1).val < 512 := (y 1).isLt; omega⟩ ⟨(y 2).val / 128, by have : (y 2).val < 512 := (y 2).isLt; omega⟩
    (ix3 0 ⟨(y 1).val % 128, by omega⟩ ⟨(y 2).val % 128, by omega⟩)

theorem byBlocks_emb {α : Type} (H : Fin 4 → Fin 4 → S1x128x128.Idx → α) (b p : Fin 4) (x : S1x128x128.Idx) :
    byBlocks H ((rB b p).emb x) = H b p x := by
  obtain ⟨z, a, l, rfl⟩ : ∃ z a l, x = ix3 z a l := ⟨x 0, x 1, x 2, by funext k; fin_cases k <;> rfl⟩
  have e1 : 128 * b.val + 1 * a.val = 128 * b.val + a.val := by omega
  unfold byBlocks
  congr 1
  · apply Fin.ext; show (128 * b.val + 1 * a.val) / 128 = b.val; omega
  · apply Fin.ext; show (128 * p.val + 1 * l.val) / 128 = p.val; omega
  · funext k
    fin_cases k
    · exact Subsingleton.elim (α := Fin 1) _ _
    · apply Fin.ext; show (128 * b.val + 1 * a.val) % 128 = a.val; omega
    · apply Fin.ext; show (128 * p.val + 1 * l.val) % 128 = l.val; omega

/-- A stored block is the array's. -/
theorem stored {α : Type} (H : Fin 4 → Fin 4 → S1x128x128.Idx → α) (b p : Fin 4) {w : S1x128x128.Idx → α} (e : w = H b p) :
    ∀ x, w x = byBlocks H ((rB b p).emb x) := fun x => (congrFun e x).trans (byBlocks_emb H b p x).symm

/-- A carry by its pairs of heads. -/
def byPairs {α : Type} (H : Fin 4 → S128x128.Idx → α) : S128x512.Idx → α := fun y =>
  H ⟨(y 1).val / 128, by have : (y 1).val < 512 := (y 1).isLt; omega⟩ (ix2 (y 0) ⟨(y 1).val % 128, by omega⟩)

theorem byPairs_emb {α : Type} (H : Fin 4 → S128x128.Idx → α) (p : Fin 4) (x : S128x128.Idx) : byPairs H ((rS p).emb x) = H p x := by
  obtain ⟨a, l, rfl⟩ : ∃ a l, x = ix2 a l := ⟨x 0, x 1, by funext k; fin_cases k <;> rfl⟩
  unfold byPairs
  congr 1
  · apply Fin.ext; show (128 * p.val + 1 * l.val) / 128 = p.val; omega
  · funext k
    fin_cases k
    · apply Fin.ext; show 0 + 1 * a.val = a.val; omega
    · apply Fin.ext; show (128 * p.val + 1 * l.val) % 128 = l.val; omega

/-- What follows block `b`: the next block's earlier half, or the carry. -/
def next (own : Fin 4 → Fin 4 → FVec F S256x128 .f32) (cr : Fin 4 → FVec F S128x128 .f32) (b p : Fin 4) : FVec F S128x128 .f32 := match b with
  | ⟨0, _⟩ => early (own 1 p)
  | ⟨1, _⟩ => early (own 2 p)
  | ⟨2, _⟩ => early (own 3 p)
  | ⟨_ + 3, _⟩ => cr p

/-- A block's own half and what follows it. -/
def whole (own : Fin 4 → Fin 4 → FVec F S256x128 .f32) (cr : Fin 4 → FVec F S128x128 .f32) (b p : Fin 4) : FVec F S1x128x128 .bf16 :=
  ownPlus (own b p) (next own cr b p)

def crK (xs : S128x512.Idx → F .f32) (p : Fin 4) : FVec F S128x128 .f32 := fun x => xs ((rS p).emb x)

theorem crB {sg : RefSig} {M : Memref sg .tc .vmem S128x512 .f32} (hM : M.IsWhole) (xs : S128x512.Idx → F .f32) (p : Fin 4) :
    View.readAt (Elt F) M.view (rS p).toLoadRect (hM.unread xs) = crK xs p :=
  funext fun _ => congrFun (hM.read_unread (Val := Elt F) xs) _

/-- The carry before any point of a residue. -/
def cr0 (_ : Fin 4) : FVec F S128x128 .f32 := fun _ => Scalar.ofBits .f32 0x00000000#32

theorem crA {sg : RefSig} {v : View sg .tc .vmem S128x512 .f32} (inb : ∀ a, (![0, 0] : Fin 2 → ℕ) a + S128x512.size a ≤ S128x512.size a) (p : Fin 4) :
    v.readCov [(⟨Rect.unit ![0, 0] S128x512.size inb, k0_pay4⟩ : View.Piece (Elt F) S128x512 .f32)] (rS p).toLoadRect = cr0 p := by
  rw [View.readCov_eq_canon']
  rw [View.canon_cons_unit_zero (by funext a; fin_cases a <;> rfl)]
  rfl

theorem disj : ∀ p q : Fin 4, q < p → Disjoint (rS q).set (rS p).toLoadRect.set := by
  intro p q h
  rw [Finset.disjoint_left]
  intro y h1 h2
  have a1 := Rect.mem_set_unit.mp h1 1
  have a2 := Rect.mem_set_unit.mp h2 1
  have b1 : (y 1).val < 128 * q.val + 128 := a1.2
  have b2 : 128 * p.val ≤ (y 1).val := a2.1
  have : q.val < p.val := h
  omega

theorem skip {sg : RefSig} {v : View sg .tc .vmem S128x512 .f32} {L : List (View.Piece (Elt F) S128x512 .f32)} {p q : Fin 4} {w : (rS q).shape.Idx → F .f32} (h : q < p) :
    v.readCov (⟨rS q, w⟩ :: L) (rS p).toLoadRect = v.readCov L (rS p).toLoadRect :=
  View.readCov_cons_of_disjoint v _ L _ (disj p q h)

/-- Four stores side by side, after anything, leave their payloads. -/
theorem four {sg : RefSig} (v : View sg .tc .vmem S128x512 .f32) (H : Fin 4 → S128x128.Idx → F .f32) (w0 w1 w2 w3 : S128x128.Idx → F .f32)
    (L : List (View.Piece (Elt F) S128x512 .f32)) (y : S128x512.Idx) (h0 : w0 = H 0) (h1 : w1 = H 1) (h2 : w2 = H 2) (h3 : w3 = H 3) :
    v.read (Elt F) (v.writes (Elt F) v.junk
      ((⟨rS 3, w3⟩ : View.Piece (Elt F) S128x512 .f32) :: ⟨rS 2, w2⟩ :: ⟨rS 1, w1⟩ :: ⟨rS 0, w0⟩ :: L)) y = byPairs H y := by
  subst h0 h1 h2 h3
  rw [View.read_writes_junk_apply_eq_canon]
  have hy : (y 1).val < 512 := (y 1).isLt
  have no : ∀ q : Fin 4, q.val ≠ (y 1).val / 128 → y ∉ (rS q).set := fun q hq hm => by
    have a1 := Rect.mem_set_unit.mp hm 1
    have b1 : (y 1).val < 128 * q.val + 128 := a1.2
    have b2 : 128 * q.val ≤ (y 1).val := a1.1
    omega
  have yes : ∀ q : Fin 4, q.val = (y 1).val / 128 → ∃ x, y = (rS q).emb x := fun q hq => by
    refine ⟨ix2 (y 0) ⟨(y 1).val % 128, by omega⟩, ?_⟩
    funext k
    fin_cases k
    · apply Fin.ext; show (y 0).val = 0 + 1 * (y 0).val; omega
    · apply Fin.ext; show (y 1).val = 128 * q.val + 1 * ((y 1).val % 128); omega
  rcases (by omega : (y 1).val / 128 = 3 ∨ (y 1).val / 128 = 2 ∨ (y 1).val / 128 = 1 ∨ (y 1).val / 128 = 0) with h | h | h | h
  · obtain ⟨x, rfl⟩ := yes 3 h.symm
    exact (View.canon_cons_emb (rS 3) _ _ x).trans (byPairs_emb H 3 x).symm
  · refine (View.canon_cons_of_not_mem (⟨rS 3, _⟩ : View.Piece (Elt F) S128x512 .f32) _ (no 3 (by rw [h]; decide))).trans ?_
    obtain ⟨x, rfl⟩ := yes 2 h.symm
    exact (View.canon_cons_emb (rS 2) _ _ x).trans (byPairs_emb H 2 x).symm
  · refine (View.canon_cons_of_not_mem (⟨rS 3, _⟩ : View.Piece (Elt F) S128x512 .f32) _ (no 3 (by rw [h]; decide))).trans ?_
    refine (View.canon_cons_of_not_mem (⟨rS 2, _⟩ : View.Piece (Elt F) S128x512 .f32) _ (no 2 (by rw [h]; decide))).trans ?_
    obtain ⟨x, rfl⟩ := yes 1 h.symm
    exact (View.canon_cons_emb (rS 1) _ _ x).trans (byPairs_emb H 1 x).symm
  · refine (View.canon_cons_of_not_mem (⟨rS 3, _⟩ : View.Piece (Elt F) S128x512 .f32) _ (no 3 (by rw [h]; decide))).trans ?_
    refine (View.canon_cons_of_not_mem (⟨rS 2, _⟩ : View.Piece (Elt F) S128x512 .f32) _ (no 2 (by rw [h]; decide))).trans ?_
    refine (View.canon_cons_of_not_mem (⟨rS 1, _⟩ : View.Piece (Elt F) S128x512 .f32) _ (no 1 (by rw [h]; decide))).trans ?_
    obtain ⟨x, rfl⟩ := yes 0 h.symm
    exact (View.canon_cons_emb (rS 0) _ _ x).trans (byPairs_emb H 0 x).symm

/-- At a later point of a residue, the queries' gradient by its blocks. -/
theorem dq_B (h0 : ¬t.val % 4 = 0) : (outsAt0 m c t.val t.isLt).1 = byBlocks (dqP m c t) := by
  rw [outsAt0_B m c t h0]
  dsimp only
  unfold out0_B_8
  funext y
  refine View.read_writes_apply_of_pieces _ _ (byBlocks (dqP m c t)) _ ?_ y (cover0_B_8 ..)
  unfold kernelRun0_B
  dsimp only
  simp only [List.forall_mem_cons]
  refine ⟨?_, ?_, ?_, ?_, ?_, ?_, ?_, ?_, ?_, ?_, ?_, ?_, ?_, ?_, ?_, ?_, fun _ h => absurd h List.not_mem_nil⟩
  · exact stored (dqP m c t) 3 3 rfl
  · exact stored (dqP m c t) 2 3 rfl
  · exact stored (dqP m c t) 1 3 rfl
  · exact stored (dqP m c t) 0 3 rfl
  · exact stored (dqP m c t) 3 2 rfl
  · exact stored (dqP m c t) 2 2 rfl
  · exact stored (dqP m c t) 1 2 rfl
  · exact stored (dqP m c t) 0 2 rfl
  · exact stored (dqP m c t) 3 1 rfl
  · exact stored (dqP m c t) 2 1 rfl
  · exact stored (dqP m c t) 1 1 rfl
  · exact stored (dqP m c t) 0 1 rfl
  · exact stored (dqP m c t) 3 0 rfl
  · exact stored (dqP m c t) 2 0 rfl
  · exact stored (dqP m c t) 1 0 rfl
  · exact stored (dqP m c t) 0 0 rfl

/-- At a first point of a residue, the queries' gradient by its blocks. -/
theorem dq_A (h0 : t.val % 4 = 0) : (outsAt0 m c t.val t.isLt).1 = byBlocks (dqP m c t) := by
  rw [outsAt0_A m c t h0]
  dsimp only
  unfold out0_A_8
  funext y
  refine View.read_writes_apply_of_pieces _ _ (byBlocks (dqP m c t)) _ ?_ y (cover0_A_8 ..)
  unfold kernelRun0_A
  dsimp only
  simp only [List.forall_mem_cons]
  refine ⟨?_, ?_, ?_, ?_, ?_, ?_, ?_, ?_, ?_, ?_, ?_, ?_, ?_, ?_, ?_, ?_, fun _ h => absurd h List.not_mem_nil⟩
  · exact stored (dqP m c t) 3 3 rfl
  · exact stored (dqP m c t) 2 3 rfl
  · exact stored (dqP m c t) 1 3 rfl
  · exact stored (dqP m c t) 0 3 rfl
  · exact stored (dqP m c t) 3 2 rfl
  · exact stored (dqP m c t) 2 2 rfl
  · exact stored (dqP m c t) 1 2 rfl
  · exact stored (dqP m c t) 0 2 rfl
  · exact stored (dqP m c t) 3 1 rfl
  · exact stored (dqP m c t) 2 1 rfl
  · exact stored (dqP m c t) 1 1 rfl
  · exact stored (dqP m c t) 0 1 rfl
  · exact stored (dqP m c t) 3 0 rfl
  · exact stored (dqP m c t) 2 0 rfl
  · exact stored (dqP m c t) 1 0 rfl
  · exact stored (dqP m c t) 0 0 rfl

/-- At a later point of a residue, the keys' gradient by its blocks. -/
theorem dk_B (h0 : ¬t.val % 4 = 0) (xs : S128x512.Idx → F .f32) (hx : (outsAt0 m c (t.val - 1) (Nat.lt_of_le_of_lt (Nat.sub_le _ _) t.isLt)).2.2.2.1 = xs) : (outsAt0 m c t.val t.isLt).2.1 = byBlocks (whole (dkP m c t) (crK xs)) := by
  rw [outsAt0_B m c t h0]
  dsimp only
  rw [hx]
  unfold out0_B_9
  funext y
  refine View.read_writes_apply_of_pieces _ _ (byBlocks (whole (dkP m c t) (crK xs))) _ ?_ y (cover0_B_9 ..)
  unfold kernelRun0_B
  dsimp only
  simp only [List.forall_mem_cons]
  refine ⟨?_, ?_, ?_, ?_, ?_, ?_, ?_, ?_, ?_, ?_, ?_, ?_, ?_, ?_, ?_, ?_, fun _ h => absurd h List.not_mem_nil⟩
  · exact fun x => (congrFun ((show _ = ownPlus (dkP m c t 3 3) _ from rfl).trans (congrArg (ownPlus (dkP m c t 3 3)) (crB _ xs 3))) x).trans (byBlocks_emb (whole (dkP m c t) (crK xs)) 3 3 x).symm
  · exact stored (whole (dkP m c t) (crK xs)) 2 3 rfl
  · exact stored (whole (dkP m c t) (crK xs)) 1 3 rfl
  · exact stored (whole (dkP m c t) (crK xs)) 0 3 rfl
  · exact fun x => (congrFun ((show _ = ownPlus (dkP m c t 3 2) _ from rfl).trans (congrArg (ownPlus (dkP m c t 3 2)) (crB _ xs 2))) x).trans (byBlocks_emb (whole (dkP m c t) (crK xs)) 3 2 x).symm
  · exact stored (whole (dkP m c t) (crK xs)) 2 2 rfl
  · exact stored (whole (dkP m c t) (crK xs)) 1 2 rfl
  · exact stored (whole (dkP m c t) (crK xs)) 0 2 rfl
  · exact fun x => (congrFun ((show _ = ownPlus (dkP m c t 3 1) _ from rfl).trans (congrArg (ownPlus (dkP m c t 3 1)) (crB _ xs 1))) x).trans (byBlocks_emb (whole (dkP m c t) (crK xs)) 3 1 x).symm
  · exact stored (whole (dkP m c t) (crK xs)) 2 1 rfl
  · exact stored (whole (dkP m c t) (crK xs)) 1 1 rfl
  · exact stored (whole (dkP m c t) (crK xs)) 0 1 rfl
  · exact fun x => (congrFun ((show _ = ownPlus (dkP m c t 3 0) _ from rfl).trans (congrArg (ownPlus (dkP m c t 3 0)) (crB _ xs 0))) x).trans (byBlocks_emb (whole (dkP m c t) (crK xs)) 3 0 x).symm
  · exact stored (whole (dkP m c t) (crK xs)) 2 0 rfl
  · exact stored (whole (dkP m c t) (crK xs)) 1 0 rfl
  · exact stored (whole (dkP m c t) (crK xs)) 0 0 rfl

/-- What a later point of a residue leaves for the next of the keys' gradient. -/
theorem dk_carryB (h0 : ¬t.val % 4 = 0) : (outsAt0 m c t.val t.isLt).2.2.2.1 = byPairs fun p => kept (dkP m c t 0 p) := by
  rw [outsAt0_B m c t h0]
  dsimp only
  unfold sout0_B_0
  funext y
  refine View.read_writes_apply_of_pieces _ _ (byPairs fun p => kept (dkP m c t 0 p)) _ ?_ y (scover0_B_0 ..)
  unfold kernelRun0_B
  dsimp only
  simp only [List.forall_mem_cons]
  refine ⟨?_, ?_, ?_, ?_, fun _ h => absurd h List.not_mem_nil⟩
  · exact fun x => (congrFun (show _ = kept (dkP m c t 0 3) from rfl) x).trans (byPairs_emb (fun p => kept (dkP m c t 0 p)) 3 x).symm
  · exact fun x => (congrFun (show _ = kept (dkP m c t 0 2) from rfl) x).trans (byPairs_emb (fun p => kept (dkP m c t 0 p)) 2 x).symm
  · exact fun x => (congrFun (show _ = kept (dkP m c t 0 1) from rfl) x).trans (byPairs_emb (fun p => kept (dkP m c t 0 p)) 1 x).symm
  · exact fun x => (congrFun (show _ = kept (dkP m c t 0 0) from rfl) x).trans (byPairs_emb (fun p => kept (dkP m c t 0 p)) 0 x).symm

/-- At a first point of a residue, the keys' gradient by its blocks. -/
theorem dk_A (h0 : t.val % 4 = 0) : (outsAt0 m c t.val t.isLt).2.1 = byBlocks (whole (dkP m c t) cr0) := by
  rw [outsAt0_A m c t h0]
  dsimp only
  unfold out0_A_9
  funext y
  refine View.read_writes_apply_of_pieces _ _ (byBlocks (whole (dkP m c t) cr0)) _ ?_ y (cover0_A_9 ..)
  unfold kernelRun0_A
  dsimp only
  simp only [List.forall_mem_cons]
  refine ⟨?_, ?_, ?_, ?_, ?_, ?_, ?_, ?_, ?_, ?_, ?_, ?_, ?_, ?_, ?_, ?_, fun _ h => absurd h List.not_mem_nil⟩
  · exact fun x => (congrFun ((show _ = ownPlus (dkP m c t 3 3) _ from rfl).trans (congrArg (ownPlus (dkP m c t 3 3)) ((skip (p := 3) (q := 2) (by decide)).trans ((skip (p := 3) (q := 1) (by decide)).trans ((skip (p := 3) (q := 0) (by decide)).trans (crA _ 3)))))) x).trans (byBlocks_emb (whole (dkP m c t) cr0) 3 3 x).symm
  · exact stored (whole (dkP m c t) cr0) 2 3 rfl
  · exact stored (whole (dkP m c t) cr0) 1 3 rfl
  · exact stored (whole (dkP m c t) cr0) 0 3 rfl
  · exact fun x => (congrFun ((show _ = ownPlus (dkP m c t 3 2) _ from rfl).trans (congrArg (ownPlus (dkP m c t 3 2)) ((skip (p := 2) (q := 1) (by decide)).trans ((skip (p := 2) (q := 0) (by decide)).trans (crA _ 2))))) x).trans (byBlocks_emb (whole (dkP m c t) cr0) 3 2 x).symm
  · exact stored (whole (dkP m c t) cr0) 2 2 rfl
  · exact stored (whole (dkP m c t) cr0) 1 2 rfl
  · exact stored (whole (dkP m c t) cr0) 0 2 rfl
  · exact fun x => (congrFun ((show _ = ownPlus (dkP m c t 3 1) _ from rfl).trans (congrArg (ownPlus (dkP m c t 3 1)) ((skip (p := 1) (q := 0) (by decide)).trans (crA _ 1)))) x).trans (byBlocks_emb (whole (dkP m c t) cr0) 3 1 x).symm
  · exact stored (whole (dkP m c t) cr0) 2 1 rfl
  · exact stored (whole (dkP m c t) cr0) 1 1 rfl
  · exact stored (whole (dkP m c t) cr0) 0 1 rfl
  · exact fun x => (congrFun ((show _ = ownPlus (dkP m c t 3 0) _ from rfl).trans (congrArg (ownPlus (dkP m c t 3 0)) (crA _ 0))) x).trans (byBlocks_emb (whole (dkP m c t) cr0) 3 0 x).symm
  · exact stored (whole (dkP m c t) cr0) 2 0 rfl
  · exact stored (whole (dkP m c t) cr0) 1 0 rfl
  · exact stored (whole (dkP m c t) cr0) 0 0 rfl

/-- What a first point of a residue leaves for the next of the keys' gradient. -/
theorem dk_carryA (h0 : t.val % 4 = 0) : (outsAt0 m c t.val t.isLt).2.2.2.1 = byPairs fun p => kept (dkP m c t 0 p) := by
  rw [outsAt0_A m c t h0]
  dsimp only
  unfold sout0_A_0
  funext y
  unfold kernelRun0_A
  dsimp only
  exact four _ (fun p => kept (dkP m c t 0 p)) _ _ _ _ _ y
    (show _ = kept (dkP m c t 0 0) from rfl) (show _ = kept (dkP m c t 0 1) from rfl) (show _ = kept (dkP m c t 0 2) from rfl) (show _ = kept (dkP m c t 0 3) from rfl)

/-- At a later point of a residue, the values' gradient by its blocks. -/
theorem dv_B (h0 : ¬t.val % 4 = 0) (xs : S128x512.Idx → F .f32) (hx : (outsAt0 m c (t.val - 1) (Nat.lt_of_le_of_lt (Nat.sub_le _ _) t.isLt)).2.2.2.2 = xs) : (outsAt0 m c t.val t.isLt).2.2.1 = byBlocks (whole (dvP m c t) (crK xs)) := by
  rw [outsAt0_B m c t h0]
  dsimp only
  rw [hx]
  unfold out0_B_10
  funext y
  refine View.read_writes_apply_of_pieces _ _ (byBlocks (whole (dvP m c t) (crK xs))) _ ?_ y (cover0_B_10 ..)
  unfold kernelRun0_B
  dsimp only
  simp only [List.forall_mem_cons]
  refine ⟨?_, ?_, ?_, ?_, ?_, ?_, ?_, ?_, ?_, ?_, ?_, ?_, ?_, ?_, ?_, ?_, fun _ h => absurd h List.not_mem_nil⟩
  · exact fun x => (congrFun ((show _ = ownPlus (dvP m c t 3 3) _ from rfl).trans (congrArg (ownPlus (dvP m c t 3 3)) (crB _ xs 3))) x).trans (byBlocks_emb (whole (dvP m c t) (crK xs)) 3 3 x).symm
  · exact stored (whole (dvP m c t) (crK xs)) 2 3 rfl
  · exact stored (whole (dvP m c t) (crK xs)) 1 3 rfl
  · exact stored (whole (dvP m c t) (crK xs)) 0 3 rfl
  · exact fun x => (congrFun ((show _ = ownPlus (dvP m c t 3 2) _ from rfl).trans (congrArg (ownPlus (dvP m c t 3 2)) (crB _ xs 2))) x).trans (byBlocks_emb (whole (dvP m c t) (crK xs)) 3 2 x).symm
  · exact stored (whole (dvP m c t) (crK xs)) 2 2 rfl
  · exact stored (whole (dvP m c t) (crK xs)) 1 2 rfl
  · exact stored (whole (dvP m c t) (crK xs)) 0 2 rfl
  · exact fun x => (congrFun ((show _ = ownPlus (dvP m c t 3 1) _ from rfl).trans (congrArg (ownPlus (dvP m c t 3 1)) (crB _ xs 1))) x).trans (byBlocks_emb (whole (dvP m c t) (crK xs)) 3 1 x).symm
  · exact stored (whole (dvP m c t) (crK xs)) 2 1 rfl
  · exact stored (whole (dvP m c t) (crK xs)) 1 1 rfl
  · exact stored (whole (dvP m c t) (crK xs)) 0 1 rfl
  · exact fun x => (congrFun ((show _ = ownPlus (dvP m c t 3 0) _ from rfl).trans (congrArg (ownPlus (dvP m c t 3 0)) (crB _ xs 0))) x).trans (byBlocks_emb (whole (dvP m c t) (crK xs)) 3 0 x).symm
  · exact stored (whole (dvP m c t) (crK xs)) 2 0 rfl
  · exact stored (whole (dvP m c t) (crK xs)) 1 0 rfl
  · exact stored (whole (dvP m c t) (crK xs)) 0 0 rfl

/-- What a later point of a residue leaves for the next of the values' gradient. -/
theorem dv_carryB (h0 : ¬t.val % 4 = 0) : (outsAt0 m c t.val t.isLt).2.2.2.2 = byPairs fun p => kept (dvP m c t 0 p) := by
  rw [outsAt0_B m c t h0]
  dsimp only
  unfold sout0_B_1
  funext y
  refine View.read_writes_apply_of_pieces _ _ (byPairs fun p => kept (dvP m c t 0 p)) _ ?_ y (scover0_B_1 ..)
  unfold kernelRun0_B
  dsimp only
  simp only [List.forall_mem_cons]
  refine ⟨?_, ?_, ?_, ?_, fun _ h => absurd h List.not_mem_nil⟩
  · exact fun x => (congrFun (show _ = kept (dvP m c t 0 3) from rfl) x).trans (byPairs_emb (fun p => kept (dvP m c t 0 p)) 3 x).symm
  · exact fun x => (congrFun (show _ = kept (dvP m c t 0 2) from rfl) x).trans (byPairs_emb (fun p => kept (dvP m c t 0 p)) 2 x).symm
  · exact fun x => (congrFun (show _ = kept (dvP m c t 0 1) from rfl) x).trans (byPairs_emb (fun p => kept (dvP m c t 0 p)) 1 x).symm
  · exact fun x => (congrFun (show _ = kept (dvP m c t 0 0) from rfl) x).trans (byPairs_emb (fun p => kept (dvP m c t 0 p)) 0 x).symm

/-- At a first point of a residue, the values' gradient by its blocks. -/
theorem dv_A (h0 : t.val % 4 = 0) : (outsAt0 m c t.val t.isLt).2.2.1 = byBlocks (whole (dvP m c t) cr0) := by
  rw [outsAt0_A m c t h0]
  dsimp only
  unfold out0_A_10
  funext y
  refine View.read_writes_apply_of_pieces _ _ (byBlocks (whole (dvP m c t) cr0)) _ ?_ y (cover0_A_10 ..)
  unfold kernelRun0_A
  dsimp only
  simp only [List.forall_mem_cons]
  refine ⟨?_, ?_, ?_, ?_, ?_, ?_, ?_, ?_, ?_, ?_, ?_, ?_, ?_, ?_, ?_, ?_, fun _ h => absurd h List.not_mem_nil⟩
  · exact fun x => (congrFun ((show _ = ownPlus (dvP m c t 3 3) _ from rfl).trans (congrArg (ownPlus (dvP m c t 3 3)) ((skip (p := 3) (q := 2) (by decide)).trans ((skip (p := 3) (q := 1) (by decide)).trans ((skip (p := 3) (q := 0) (by decide)).trans (crA _ 3)))))) x).trans (byBlocks_emb (whole (dvP m c t) cr0) 3 3 x).symm
  · exact stored (whole (dvP m c t) cr0) 2 3 rfl
  · exact stored (whole (dvP m c t) cr0) 1 3 rfl
  · exact stored (whole (dvP m c t) cr0) 0 3 rfl
  · exact fun x => (congrFun ((show _ = ownPlus (dvP m c t 3 2) _ from rfl).trans (congrArg (ownPlus (dvP m c t 3 2)) ((skip (p := 2) (q := 1) (by decide)).trans ((skip (p := 2) (q := 0) (by decide)).trans (crA _ 2))))) x).trans (byBlocks_emb (whole (dvP m c t) cr0) 3 2 x).symm
  · exact stored (whole (dvP m c t) cr0) 2 2 rfl
  · exact stored (whole (dvP m c t) cr0) 1 2 rfl
  · exact stored (whole (dvP m c t) cr0) 0 2 rfl
  · exact fun x => (congrFun ((show _ = ownPlus (dvP m c t 3 1) _ from rfl).trans (congrArg (ownPlus (dvP m c t 3 1)) ((skip (p := 1) (q := 0) (by decide)).trans (crA _ 1)))) x).trans (byBlocks_emb (whole (dvP m c t) cr0) 3 1 x).symm
  · exact stored (whole (dvP m c t) cr0) 2 1 rfl
  · exact stored (whole (dvP m c t) cr0) 1 1 rfl
  · exact stored (whole (dvP m c t) cr0) 0 1 rfl
  · exact fun x => (congrFun ((show _ = ownPlus (dvP m c t 3 0) _ from rfl).trans (congrArg (ownPlus (dvP m c t 3 0)) (crA _ 0))) x).trans (byBlocks_emb (whole (dvP m c t) cr0) 3 0 x).symm
  · exact stored (whole (dvP m c t) cr0) 2 0 rfl
  · exact stored (whole (dvP m c t) cr0) 1 0 rfl
  · exact stored (whole (dvP m c t) cr0) 0 0 rfl

/-- What a first point of a residue leaves for the next of the values' gradient. -/
theorem dv_carryA (h0 : t.val % 4 = 0) : (outsAt0 m c t.val t.isLt).2.2.2.2 = byPairs fun p => kept (dvP m c t 0 p) := by
  rw [outsAt0_A m c t h0]
  dsimp only
  unfold sout0_A_1
  funext y
  unfold kernelRun0_A
  dsimp only
  exact four _ (fun p => kept (dvP m c t 0 p)) _ _ _ _ _ y
    (show _ = kept (dvP m c t 0 0) from rfl) (show _ = kept (dvP m c t 0 1) from rfl) (show _ = kept (dvP m c t 0 2) from rfl) (show _ = kept (dvP m c t 0 3) from rfl)

end Point

end Cert.AttnIdeal.Out
-- ==== Proof.AttnMath.lean ====
module

public import proofs.«01_k».proof.Proof.Base

@[expose] public section

noncomputable section

namespace Cert.AttnMath

open Idealize.ShloMosaic
open scoped BigOperators

/-! ## Real numbers among the extended ones -/

/-- A finite sum of reals is the sum of their embeddings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a real. -/
theorem exp_coe (x : ℝ) : Ideal.exp (x : EReal) = (Real.exp x : EReal) := rfl

/-- A small number as a word reads back as itself. -/
theorem word (n : ℤ) (h0 : -2147483648 ≤ n) (h1 : n < 2147483648) : (BitVec.ofInt 32 n).toInt = n := by
  rw [BitVec.toInt_ofInt]
  exact Int.bmod_eq_of_le (by norm_num; omega) (by norm_num; omega)

/-- The exponential of minus infinity. -/
theorem exp_bot : Ideal.exp (⊥ : EReal) = 0 := rfl

/-- The logarithm of a positive real. -/
theorem log_coe {x : ℝ} (h : 0 < x) : Ideal.log (x : EReal) = (Real.log x : EReal) := by
  show (if x ≤ 0 then _ else _) = _
  rw [if_neg (not_le.mpr h)]

/-- The quotient of two reals. -/
theorem div_coe (x : ℝ) {y : ℝ} (h : y ≠ 0) : Ideal.div (x : EReal) (y : EReal) = ((x / y : ℝ) : EReal) := by
  rw [Ideal.div_coe h, ← EReal.coe_mul]; congr 1; ring

/-- Minus infinity less a real. -/
theorem bot_sub_coe (x : ℝ) : (⊥ : EReal) - (x : EReal) = ⊥ := rfl

/-- A value strictly between the infinities is a real. -/
theorem eq_coe {x : EReal} (h : x ≠ ⊥) (h' : x ≠ ⊤) : x = ((x.toReal : ℝ) : EReal) := (EReal.coe_toReal h' h).symm

/-- The greatest of some values, minus infinity among them, is minus infinity or one of them. -/
theorem fold_max_mem {ι : Type*} (s : Finset ι) (f : ι → EReal) : s.fold max (⊥ : EReal) f = ⊥ ∨ ∃ i ∈ s, f i = s.fold max (⊥ : EReal) f := by
  classical
  induction s using Finset.induction_on with
  | empty => exact Or.inl rfl
  | insert a s ha ih =>
    rw [Finset.fold_insert ha]
    rcases max_choice (f a) (s.fold max ⊥ f) with h | h <;> rw [h]
    · exact Or.inr ⟨a, Finset.mem_insert_self _ _, rfl⟩
    · exact ih.imp id fun ⟨i, hi, e⟩ => ⟨i, Finset.mem_insert_of_mem hi, e⟩

/-- The greatest of finitely many scores, each a real or minus infinity, one of them a real, is a real. -/
theorem fold_max_real {ι : Type*} (s : Finset ι) (f : ι → EReal) (ht : ∀ i, f i ≠ ⊤) {i₀ : ι} (h₀ : i₀ ∈ s) (hb : f i₀ ≠ ⊥) :
    ∃ μ : ℝ, s.fold max (⊥ : EReal) f = (μ : EReal) ∧ ∃ i ∈ s, f i = (μ : EReal) := by
  classical
  have h1 : s.fold max (⊥ : EReal) f ≠ ⊤ := by
    clear h₀
    induction s using Finset.induction_on with
    | empty => simp
    | insert a s ha ih =>
      rw [Finset.fold_insert ha]
      rcases max_choice (f a) (s.fold max ⊥ f) with h | h <;> rw [h]
      · exact ht a
      · exact ih
  have h2 : f i₀ ≤ s.fold max (⊥ : EReal) f := by
    rw [Finset.le_fold_max]
    exact Or.inr ⟨i₀, h₀, le_rfl⟩
  have h3 : s.fold max (⊥ : EReal) f ≠ ⊥ := fun h => hb (le_bot_iff.mp (h ▸ h2))
  refine ⟨_, eq_coe h3 h1, ?_⟩
  rw [← eq_coe h3 h1]
  exact (fold_max_mem s f).resolve_left h3

/-! ## One row of a masked softmax -/

section Row

variable {ι : Type*} [Fintype ι] (ok : ι → Prop) [DecidablePred ok] (s : ι → ℝ)

/-- The exponentials of the scores that the mask keeps. -/
def ex (κ : ι) : ℝ := if ok κ then Real.exp (s κ) else 0

/-- Their sum. -/
def zed : ℝ := ∑ κ, ex ok s κ

/-- The softmax's weights. -/
def wt (κ : ι) : ℝ := ex ok s κ / zed ok s

variable {ok s}

theorem ex_nonneg (κ : ι) : 0 ≤ ex ok s κ := by
  unfold ex; split
  · exact (Real.exp_pos _).le
  · exact le_rfl

theorem zed_pos {κ₀ : ι} (h : ok κ₀) : 0 < zed ok s := by
  refine Finset.sum_pos' (fun κ _ => ex_nonneg κ) ⟨κ₀, Finset.mem_univ _, ?_⟩
  simp [ex, h, Real.exp_pos]

/-- Less any amount `μ`, the exponentials scale. -/
theorem ex_shift (μ : ℝ) (κ : ι) : (if ok κ then Real.exp (s κ - μ) else 0) = ex ok s κ * Real.exp (-μ) := by
  unfold ex; split
  · rw [← Real.exp_add]; rfl
  · simp

theorem zed_shift (μ : ℝ) : ∑ κ, ex ok s κ * Real.exp (-μ) = zed ok s * Real.exp (-μ) := by
  rw [zed, Finset.sum_mul]

/-- The weights do not see the amount taken off. -/
theorem wt_shift (μ : ℝ) (κ : ι) : ex ok s κ * Real.exp (-μ) / (zed ok s * Real.exp (-μ)) = wt ok s κ :=
  mul_div_mul_right _ _ (Real.exp_pos _).ne'

/-- Nor does the logarithm of the sum. -/
theorem log_shift (h : 0 < zed ok s) (μ : ℝ) : μ + Real.log (zed ok s * Real.exp (-μ)) = Real.log (zed ok s) := by
  rw [Real.log_mul h.ne' (Real.exp_pos _).ne', Real.log_exp]; ring

/-- The weights from the logarithm of the sum. -/
theorem wt_of_log (h : 0 < zed ok s) (κ : ι) : (if ok κ then Real.exp (s κ - Real.log (zed ok s)) else 0) = wt ok s κ := by
  rw [ex_shift, Real.exp_neg, Real.exp_log h]; rfl

theorem sum_wt (h : 0 < zed ok s) : ∑ κ, wt ok s κ = 1 := by
  unfold wt; rw [← Finset.sum_div]; exact div_self h.ne'

/-- The cotangent of the masked scores, as differentiating the quotient and the logarithm gives it. -/
theorem ds_eq (h : 0 < zed ok s) (μ dl : ℝ) (dp : ι → ℝ) (κ : ι) :
    (dp κ / (zed ok s * Real.exp (-μ)) + (dl / (zed ok s * Real.exp (-μ))
        + -∑ κ', dp κ' * (1 / (zed ok s * Real.exp (-μ) * (zed ok s * Real.exp (-μ)))) * (ex ok s κ' * Real.exp (-μ)))) * (ex ok s κ * Real.exp (-μ))
      = wt ok s κ * (dp κ - (∑ κ', wt ok s κ' * dp κ' - dl)) := by
  have hz := h.ne'
  have he := (Real.exp_pos (-μ)).ne'
  have e1 : ∀ κ', dp κ' * (1 / (zed ok s * Real.exp (-μ) * (zed ok s * Real.exp (-μ)))) * (ex ok s κ' * Real.exp (-μ))
      = (wt ok s κ' * dp κ') * (1 / (zed ok s * Real.exp (-μ))) := by
    intro κ'; unfold wt; field_simp
  rw [Finset.sum_congr rfl (fun κ' _ => e1 κ'), ← Finset.sum_mul]
  generalize ∑ κ', wt ok s κ' * dp κ' = X
  unfold wt; field_simp; ring

/-- The cotangents of a row's scores sum to the logarithm's cotangent. -/
theorem sum_ds (h : 0 < zed ok s) (dl : ℝ) (dp : ι → ℝ) :
    ∑ κ, wt ok s κ * (dp κ - (∑ κ', wt ok s κ' * dp κ' - dl)) = dl := by
  simp only [mul_sub, Finset.sum_sub_distrib, ← Finset.sum_mul, sum_wt h]
  ring

theorem wt_not {κ : ι} (h : ¬ ok κ) : wt ok s κ = 0 := by simp [wt, ex, h]

end Row

/-! ## One head of one residue class: sixteen blocks of 128 queries, each over its own block of keys and the one before -/

/-- Whether query `a` of block `i` sees key `κ` of the two blocks. -/
abbrev ok (i : Fin 16) (a : Fin 128) (κ : Fin 256) : Prop := κ.val ≤ 128 + a.val ∧ a.val ≤ κ.val ∧ (i.val = 0 → 128 ≤ κ.val)

theorem ok_self (i : Fin 16) (a : Fin 128) : ok i a ⟨128 + a.val, by omega⟩ := ⟨le_rfl, by simp, fun _ => by simp⟩

/-- The keys (or values) that block `i` reads: the block before, zeros before the first, then its own. -/
def two (k : Fin 16 → Fin 128 → Fin 64 → ℝ) (i : Fin 16) (κ : Fin 256) (e : Fin 64) : ℝ :=
  if h : κ.val < 128 then (if h0 : i.val = 0 then 0 else k ⟨i.val - 1, by omega⟩ ⟨κ.val, h⟩ e) else k i ⟨κ.val - 128, by omega⟩ e

section Head

variable (q k v g : Fin 16 → Fin 128 → Fin 64 → ℝ) (dl : Fin 16 → Fin 128 → ℝ)

/-- The scaled scores. -/
def sc (i : Fin 16) (a : Fin 128) (κ : Fin 256) : ℝ := (∑ e, q i a e * two k i κ e) * (1 / 8)

/-- The softmax's weights. -/
def w (i : Fin 16) (a : Fin 128) (κ : Fin 256) : ℝ := wt (ok i a) (sc q k i a) κ

/-- The row's log-sum. -/
def lse (i : Fin 16) (a : Fin 128) : ℝ := Real.log (zed (ok i a) (sc q k i a))

/-- The attention's output. -/
def o (i : Fin 16) (a : Fin 128) (e : Fin 64) : ℝ := ∑ κ, w q k i a κ * two v i κ e

/-- The weights' cotangent. -/
def dp (i : Fin 16) (a : Fin 128) (κ : Fin 256) : ℝ := ∑ e, g i a e * two v i κ e

/-- What a row's weights share: the output's product with its cotangent less the log-sum's cotangent. -/
def delta (i : Fin 16) (a : Fin 128) : ℝ := ∑ e, g i a e * o q k v i a e - dl i a

/-- The scores' cotangent, scaled. -/
def ds (i : Fin 16) (a : Fin 128) (κ : Fin 256) : ℝ := w q k i a κ * (dp v g i a κ - delta q k v g dl i a) * (1 / 8)

/-- The queries' gradient. -/
def dq (i : Fin 16) (a : Fin 128) (e : Fin 64) : ℝ := ∑ κ, ds q k v g dl i a κ * two k i κ e

/-- What block `i` gives the gradient of the keys it reads. -/
def dkk (i : Fin 16) (κ : Fin 256) (e : Fin 64) : ℝ := ∑ a, ds q k v g dl i a κ * q i a e

/-- What block `i` gives the gradient of the values it reads. -/
def dvv (i : Fin 16) (κ : Fin 256) (e : Fin 64) : ℝ := ∑ a, w q k i a κ * g i a e

/-- A block's own half and the next block's earlier half. -/
def join (t : Fin 16 → Fin 256 → Fin 64 → ℝ) (i : Fin 16) (a : Fin 128) (e : Fin 64) : ℝ :=
  t i ⟨128 + a.val, by omega⟩ e + (if h : i.val + 1 < 16 then t ⟨i.val + 1, h⟩ ⟨a.val, by omega⟩ e else 0)

variable {q k v g dl}

theorem z_pos (i : Fin 16) (a : Fin 128) : 0 < zed (ok i a) (sc q k i a) := zed_pos (ok_self i a)

/-- A row's delta through its weights. -/
theorem delta_eq (i : Fin 16) (a : Fin 128) : delta q k v g dl i a = ∑ κ, w q k i a κ * dp v g i a κ - dl i a := by
  unfold delta o dp
  congr 1
  simp only [Finset.mul_sum]
  rw [Finset.sum_comm]
  exact Finset.sum_congr rfl fun κ _ => Finset.sum_congr rfl fun e _ => by ring

theorem w_not {i : Fin 16} {a : Fin 128} {κ : Fin 256} (h : ¬ ok i a κ) : w q k i a κ = 0 := wt_not h

end Head

end Cert.AttnMath
-- ==== Proof.AttnRef.lean ====
module

public import proofs.«01_k».proof.Proof.Gen.AttnRefIdeal.Run
public import Idealize.ShloMosaic.Lib.WordCmp
public import proofs.«01_k».proof.Proof.AttnMath

@[expose] public section

set_option maxRecDepth 16384

noncomputable section

namespace Cert.AttnRefIdeal.Rd

open Cert.AttnRefIdeal Cert.AttnRefIdeal.Gen Cert.AttnRefIdeal.Value Idealize.ShloMosaic Idealize.ShloMosaic.StableHlo Idealize.ShloMosaic.TcCoe Idealize.SL.Sem
open Cert.AttnMath (coe_sum word)
open Idealize.ShloMosaic.WordCmp (cmpi_sge_eq cmpi_sle_eq)
open scoped BigOperators

/-- The token at place `a` of block `i` in residue class `r`. -/
abbrev tok (r : Fin 4) (i : Fin 16) (a : Fin 128) : Fin 8192 := ⟨(i.val * 128 + a.val) * 4 + r.val, by omega⟩

/-- One head of one residue class, by blocks. -/
def blk (Q : Fin 8192 → Fin 8 → Fin 64 → ℝ) (r : Fin 4) (h : Fin 8) (i : Fin 16) (a : Fin 128) (e : Fin 64) : ℝ := Q (tok r i a) h e

/-- One head's row numbers of one residue class, by blocks. -/
def blk1 (D : Fin 8192 → Fin 8 → ℝ) (r : Fin 4) (h : Fin 8) (i : Fin 16) (a : Fin 128) : ℝ := D (tok r i a) h

/-- The array that holds the reals `Q`. -/
def Holds (x : (⟨S1x8192x8x64, .f32⟩ : BufTy).Contents (Elt Ideal)) (Q : Fin 8192 → Fin 8 → Fin 64 → ℝ) : Prop :=
  ∀ (z : Fin 1) (t : Fin 8192) (h : Fin 8) (e : Fin 64), x (ix4 z t h e) = (Q t h e : EReal)

/-- The array of row numbers that holds the reals `D`. -/
def Holds1 (x : (⟨S1x8192x8, .f32⟩ : BufTy).Contents (Elt Ideal)) (D : Fin 8192 → Fin 8 → ℝ) : Prop :=
  ∀ (z : Fin 1) (t : Fin 8192) (h : Fin 8), x (ix3 z t h) = (D t h : EReal)

variable (V0 : Valuation τ sig (Elt Ideal)) {Q K V G : Fin 8192 → Fin 8 → Fin 64 → ℝ} {D : Fin 8192 → Fin 8 → ℝ}
variable (r : Fin 4) (h : Fin 8) (i : Fin 16) (a : Fin 128) (κ : Fin 256) (e : Fin 64)

theorem eighth : Ideal.ofBits .f32 0x3E000000#32 = ((1 / 8 : ℝ) : EReal) := by
  simp [Ideal.ofBits, Ideal.ieee]; rw [← EReal.coe_mul]; norm_num

section Blocks

variable {x : (⟨S1x8192x8x64, .f32⟩ : BufTy).Contents (Elt Ideal)}

theorem toBlocks (hx : Holds x Q) : (shapeCast S1x4x8x16x128x64 (transpose S1x4x8x2048x64 [0, 2, 3, 1, 4] (shapeCast S1x2048x4x8x64 x shapeCasts_S1x8192x8x64_S1x2048x4x8x64) transposes_S1x2048x4x8x64_S1x4x8x2048x64_0_2_3_1_4) shapeCasts_S1x4x8x2048x64_S1x4x8x16x128x64) (ix6 0 r h i a e) = (blk Q r h i a e : EReal) := by
  pointwise []
  exact hx _ _ _ _

theorem zeros : res_main_v0 (F := Ideal) V0 (ix6 0 r h 0 a e) = (0 : EReal) := by
  unfold res_main_v0
  pointwise []

theorem withPrev {y : (⟨S1x4x8x16x128x64, .f32⟩ : BufTy).Contents (Elt Ideal)} {w0 : (⟨S1x4x8x1x128x64, .f32⟩ : BufTy).Contents (Elt Ideal)}
    (h0 : ∀ a e, w0 (ix6 0 r h 0 a e) = (0 : EReal)) {k : Fin 16 → Fin 128 → Fin 64 → ℝ} (hy : ∀ i a e, y (ix6 0 r h i a e) = (k i a e : EReal)) :
    (concatenate S1x4x8x16x256x64 4 [⟨S1x4x8x16x128x64, (concatenate S1x4x8x16x128x64 3 [⟨S1x4x8x1x128x64, w0⟩, ⟨S1x4x8x15x128x64, (extractStridedSlice S1x4x8x15x128x64 ![0, 0, 0, 0, 0, 0] y slices_S1x4x8x16x128x64_S1x4x8x15x128x64_0_0_0_0_0_0)⟩] concatenates_S1x4x8x1x128x64_S1x4x8x15x128x64_S1x4x8x16x128x64_d3)⟩, ⟨S1x4x8x16x128x64, y⟩] concatenates_S1x4x8x16x128x64_S1x4x8x16x128x64_S1x4x8x16x256x64_d4) (ix6 0 r h i κ e)
      = (AttnMath.two k i κ e : EReal) := by
  pointwise []
  unfold AttnMath.two
  by_cases h1 : κ.val < 128
  · by_cases h2 : i.val < 1
    · rw [dif_pos h1, dif_pos h2, dif_pos h1, dif_pos (by omega), show (⟨i.val, by omega⟩ : Fin 1) = 0 from Subsingleton.elim _ _]; exact h0 ..
    · rw [dif_pos h1, dif_neg h2, dif_pos h1, dif_neg (by omega)]; exact hy ..
  · rw [dif_neg h1, dif_neg h1]; exact hy ..

end Blocks

theorem mask : res_main_v40 (F := Ideal) V0 (ix6 0 r h i a κ) = if AttnMath.ok i a κ then 1#1 else 0#1 := by
  unfold res_main_v40 res_main_v26 res_main_v23
  pointwise []
  have e1 : IntOp.subi (IntOp.addi (128#32) (BitVec.ofNat 32 a.val)) (BitVec.ofNat 32 κ.val) = BitVec.ofInt 32 (128 + a.val - κ.val) := by
    unfold IntOp.subi IntOp.addi
    rw [sub_eq_add_neg, BitVec.ofInt_add, BitVec.ofInt_add, BitVec.ofInt_neg, BitVec.ofInt_natCast, BitVec.ofInt_natCast, BitVec.sub_eq_add_neg]; rfl
  have e2 : IntOp.addi (IntOp.muli (IntOp.subi (BitVec.ofNat 32 i.val) 1#32) 128#32) (BitVec.ofNat 32 κ.val) = BitVec.ofInt 32 ((i.val - 1) * 128 + κ.val) := by
    unfold IntOp.subi IntOp.addi IntOp.muli
    rw [sub_eq_add_neg, BitVec.ofInt_add, BitVec.ofInt_mul, BitVec.ofInt_add, BitVec.ofInt_neg, BitVec.ofInt_natCast, BitVec.ofInt_natCast, BitVec.sub_eq_add_neg]; rfl
  rw [e1, e2, cmpi_sge_eq, cmpi_sle_eq, cmpi_sge_eq, word _ (by omega) (by omega), word _ (by omega) (by omega)]
  have z0 : (0#32).toInt = 0 := rfl
  have z1 : (128#32).toInt = 128 := rfl
  rw [z0, z1]
  unfold IntOp.andi
  by_cases c1 : (0 : ℤ) ≤ 128 + a.val - κ.val <;> by_cases c2 : (128 + a.val - κ.val : ℤ) ≤ 128 <;> by_cases c3 : (0 : ℤ) ≤ (i.val - 1) * 128 + κ.val
  all_goals simp only [c1, c2, c3, decide_true, decide_false]
  · rw [if_pos (by refine ⟨?_, ?_, ?_⟩ <;> omega)]; rfl
  all_goals rw [if_neg (by intro ⟨h1, h2, h3⟩; omega)]; rfl

section Inputs

variable (hq : Holds (V0 (Proc.devRef .tc main_arg0)) Q) (hk : Holds (V0 (Proc.devRef .tc main_arg1)) K) (hv : Holds (V0 (Proc.devRef .tc main_arg2)) V) (hg : Holds (V0 (Proc.devRef .tc main_arg3)) G) (hd : Holds1 (V0 (Proc.devRef .tc main_arg4)) D)

include hq in
theorem r3 : res_main_v3 V0 (ix6 0 r h i a e) = (blk Q r h i a e : EReal) := toBlocks r h i a e hq

include hk in
theorem r6 : res_main_v6 V0 (ix6 0 r h i a e) = (blk K r h i a e : EReal) := toBlocks r h i a e hk

include hv in
theorem r13 : res_main_v13 V0 (ix6 0 r h i a e) = (blk V r h i a e : EReal) := toBlocks r h i a e hv

include hg in
theorem r76 : res_main_v76 V0 (ix6 0 r h i a e) = (blk G r h i a e : EReal) := toBlocks r h i a e hg

include hk in
theorem r10 : res_main_v10 V0 (ix6 0 r h i κ e) = (AttnMath.two (blk K r h) i κ e : EReal) :=
  withPrev r h i κ e (fun a e => zeros V0 r h a e) fun i a e => r6 V0 r h i a e hk

include hv in
theorem r17 : res_main_v17 V0 (ix6 0 r h i κ e) = (AttnMath.two (blk V r h) i κ e : EReal) :=
  withPrev r h i κ e (fun a e => zeros V0 r h a e) fun i a e => r13 V0 r h i a e hv

include hd in
theorem r77 : res_main_v77 V0 (ix6 0 r h i a 0) = (blk1 D r h i a : EReal) := by
  unfold res_main_v77
  generalize V0 (Proc.devRef .tc main_arg4) = x at *
  pointwise []
  exact hd _ _ _

theorem maskBit {c : Prop} [Decidable c] {x y : EReal} : (if (if c then 1#1 else 0#1) = 1#1 then x else y) = if c then x else y := by
  by_cases h : c <;> simp [h]

include hq hk in
theorem r42 : res_main_v42 V0 (ix6 0 r h i a κ) = if AttnMath.ok i a κ then (AttnMath.sc (blk Q r h) (blk K r h) i a κ : EReal) else ⊥ := by
  unfold res_main_v42
  have h3 := fun e => r3 V0 r h i a e hq
  have h10 := fun e => r10 V0 r h i κ e hk
  have hm := mask V0 r h i a κ
  generalize res_main_v3 V0 = x at *
  generalize res_main_v10 V0 = y at *
  generalize res_main_v40 V0 = m at *
  pointwise []
  rw [hm]
  simp only [h3, h10, eighth]
  by_cases c : AttnMath.ok i a κ
  · rw [if_pos c, if_pos c]
    unfold AttnMath.sc
    push_cast
    rw [coe_sum]
    rfl
  · rw [if_neg c, if_neg c]
    exact Base.ofBits_ninf

theorem dropLast {j : S1x4x8x16x128x256.Idx} (hj : reducesTo_S1x4x8x16x128x256_S1x4x8x16x128_d5.drop j = ix5 0 r h i a) : ∃ κ : Fin 256, j = ix6 0 r h i a κ := by
  refine ⟨j 5, ?_⟩
  funext b
  fin_cases b
  exacts [Subsingleton.elim (α := Fin 1) _ _, congrFun hj 1, congrFun hj 2, congrFun hj 3, congrFun hj 4, rfl]

theorem ofKey : reducesTo_S1x4x8x16x128x256_S1x4x8x16x128_d5.drop (ix6 0 r h i a κ) = ix5 0 r h i a := by
  funext b
  fin_cases b <;> rfl

/-- The sum over the keys. -/
theorem overKeys (x : S1x4x8x16x128x256.Idx → EReal) (c : EReal) : Ideal.hostReduceAdd reducesTo_S1x4x8x16x128x256_S1x4x8x16x128_d5 x c (ix5 0 r h i a) = c + ∑ κ, x (ix6 0 r h i a κ) := by
  refine congrArg (c + ·) (Eq.symm (Finset.sum_nbij (fun κ => ix6 0 r h i a κ) ?_ ?_ ?_ ?_))
  · intro κ _
    rw [Finset.mem_filter]
    exact ⟨Finset.mem_univ _, ofKey r h i a κ⟩
  · intro κ _ κ' _ e
    exact congrFun e 5
  · intro j hj
    rw [Finset.coe_filter, Set.mem_setOf_eq] at hj
    obtain ⟨κ, e⟩ := dropLast r h i a hj.2
    exact ⟨κ, Finset.mem_coe.mpr (Finset.mem_univ κ), e.symm⟩
  · exact fun κ _ => rfl

/-- The sum over the two axes of one place. -/
theorem overOnes (x : S1x4x8x16x128x1.Idx → EReal) (c : EReal) : Ideal.hostReduceAdd reducesTo_S1x4x8x16x128x1_S4x8x16x128_d0_5 x c (ix4 r h i a) = c + x (ix6 0 r h i a 0) := by
  refine congrArg (c + ·) ?_
  refine (Finset.sum_eq_single_of_mem (ix6 0 r h i a 0) ?_ ?_)
  · rw [Finset.mem_filter]
    refine ⟨Finset.mem_univ _, ?_⟩
    funext b
    fin_cases b <;> rfl
  · intro j hj hn
    rw [Finset.mem_filter] at hj
    refine absurd ?_ hn
    funext b
    fin_cases b
    exacts [Subsingleton.elim (α := Fin 1) _ _, congrFun hj.2 0, congrFun hj.2 1, congrFun hj.2 2, congrFun hj.2 3, Subsingleton.elim (α := Fin 1) _ _]

include hq hk in
theorem r44 : ∃ μ : ℝ, res_main_v44 V0 (ix5 0 r h i a) = (μ : EReal) ∧ ∃ κ, res_main_v42 V0 (ix6 0 r h i a κ) = (μ : EReal) := by
  unfold res_main_v44
  have h42 := fun κ => r42 V0 r h i a κ hq hk
  generalize res_main_v42 V0 = x at *
  pointwise []
  rw [Base.ofBits_ninf]
  have ht : ∀ j : S1x4x8x16x128x256.Idx, @Ne EReal (if reducesTo_S1x4x8x16x128x256_S1x4x8x16x128_d5.drop j = ix5 0 r h i a then x j else (0 : EReal)) ⊤ := by
    intro j
    by_cases hj : reducesTo_S1x4x8x16x128x256_S1x4x8x16x128_d5.drop j = ix5 0 r h i a
    · rw [if_pos hj]
      obtain ⟨κ, rfl⟩ := dropLast r h i a hj
      rw [h42]
      split
      · exact EReal.coe_ne_top _
      · exact ((EReal.bot_lt_coe 0).trans (EReal.coe_lt_top 0)).ne
    · rw [if_neg hj]
      exact EReal.zero_ne_top
  have hb : @Ne EReal (if reducesTo_S1x4x8x16x128x256_S1x4x8x16x128_d5.drop (ix6 0 r h i a ⟨128 + a.val, by omega⟩) = ix5 0 r h i a then x (ix6 0 r h i a ⟨128 + a.val, by omega⟩) else (0 : EReal)) ⊥ := by
    rw [if_pos (ofKey r h i a _), h42, if_pos (AttnMath.ok_self i a)]
    exact EReal.coe_ne_bot _
  obtain ⟨μ, e, j, hj, e'⟩ := AttnMath.fold_max_real (Finset.univ.filter fun j => reducesTo_S1x4x8x16x128x256_S1x4x8x16x128_d5.drop j = ix5 0 r h i a) _ ht
    (by rw [Finset.mem_filter]; exact ⟨Finset.mem_univ _, ofKey r h i a _⟩) hb
  refine ⟨μ, ?_, ?_⟩
  · rw [← e]
    refine Finset.fold_congr fun j hj => ?_
    rw [if_pos (Finset.mem_filter.mp hj).2]
  · have hj2 := (Finset.mem_filter.mp hj).2
    obtain ⟨κ, rfl⟩ := dropLast r h i a hj2
    rw [if_pos hj2] at e'
    exact ⟨κ, e'⟩

section Max

variable {μ : ℝ} (hμ : res_main_v44 V0 (ix5 0 r h i a) = (μ : EReal))

include hq hk hμ in
theorem r53 : res_main_v53 V0 (ix6 0 r h i a κ) = ((AttnMath.ex (AttnMath.ok i a) (AttnMath.sc (blk Q r h) (blk K r h) i a) κ * Real.exp (-μ) : ℝ) : EReal) := by
  unfold res_main_v53 res_main_v50
  have h42 := r42 V0 r h i a κ hq hk
  generalize res_main_v44 V0 = y at *
  generalize res_main_v42 V0 = x at *
  pointwise []
  rw [h42, hμ, ← AttnMath.ex_shift]
  split
  · rfl
  · rfl

include hq hk hμ in
theorem r55 : res_main_v55 V0 (ix6 0 r h i a 0) = ((AttnMath.zed (AttnMath.ok i a) (AttnMath.sc (blk Q r h) (blk K r h) i a) * Real.exp (-μ) : ℝ) : EReal) := by
  unfold res_main_v55
  have h53 := fun κ => r53 V0 r h i a κ hq hk hμ
  generalize res_main_v53 V0 = x at *
  pointwise []
  refine (overKeys r h i a x 0).trans ?_
  rw [zero_add, ← AttnMath.zed_shift, coe_sum]
  exact Finset.sum_congr rfl fun κ _ => h53 κ

include hq hk in
theorem r57 : res_main_v57 V0 (ix6 0 r h i a κ) = (AttnMath.w (blk Q r h) (blk K r h) i a κ : EReal) := by
  obtain ⟨μ, hμ, -⟩ := r44 V0 r h i a hq hk
  unfold res_main_v57
  have h53 := r53 V0 r h i a κ hq hk hμ
  have h55 := r55 V0 r h i a hq hk hμ
  generalize res_main_v53 V0 = x at *
  generalize res_main_v55 V0 = y at *
  pointwise []
  rw [h53, h55, AttnMath.div_coe _ (mul_pos (AttnMath.z_pos i a) (Real.exp_pos _)).ne', AttnMath.wt_shift]
  rfl

include hv hg in
theorem r81 : res_main_v81 V0 (ix6 0 r h i a κ) = (AttnMath.dp (blk V r h) (blk G r h) i a κ : EReal) := by
  unfold res_main_v81
  have h76 := fun e => r76 V0 r h i a e hg
  have h17 := fun e => r17 V0 r h i κ e hv
  generalize res_main_v76 V0 = x at *
  generalize res_main_v17 V0 = y at *
  pointwise []
  simp only [h76, h17]
  unfold AttnMath.dp
  push_cast
  rw [coe_sum]
  rfl

include hq hk hg in
theorem r80 : res_main_v80 V0 (ix6 0 r h i κ e) = (AttnMath.dvv (blk Q r h) (blk K r h) (blk G r h) i κ e : EReal) := by
  unfold res_main_v80
  have h76 := fun a => r76 V0 r h i a e hg
  have h57 := fun a => r57 V0 r h i a κ hq hk
  generalize res_main_v76 V0 = x at *
  generalize res_main_v57 V0 = y at *
  pointwise []
  simp only [h76, h57]
  exact (Finset.sum_congr rfl fun a _ => (EReal.coe_mul _ _).symm.trans (congrArg _ (mul_comm _ _))).trans (coe_sum Finset.univ fun a => AttnMath.w (blk Q r h) (blk K r h) i a κ * blk G r h i a e).symm

/-- The scores' cotangent before the scale. -/
abbrev dsRaw (r : Fin 4) (h : Fin 8) (Q K V G : Fin 8192 → Fin 8 → Fin 64 → ℝ) (D : Fin 8192 → Fin 8 → ℝ) (i : Fin 16) (a : Fin 128) (κ : Fin 256) : ℝ :=
  AttnMath.w (blk Q r h) (blk K r h) i a κ * (AttnMath.dp (blk V r h) (blk G r h) i a κ
    - (∑ κ', AttnMath.w (blk Q r h) (blk K r h) i a κ' * AttnMath.dp (blk V r h) (blk G r h) i a κ' - blk1 D r h i a))

include hq hk hv hg hd in
theorem r95 : res_main_v95 V0 (ix6 0 r h i a κ) = (dsRaw r h Q K V G D i a κ : EReal) := by
  obtain ⟨μ, hμ, -⟩ := r44 V0 r h i a hq hk
  unfold res_main_v95
  have h53 := fun κ => r53 V0 r h i a κ hq hk hμ
  have h55 := r55 V0 r h i a hq hk hμ
  have h81 := fun κ => r81 V0 r h i a κ hv hg
  have h77 := r77 V0 r h i a hd
  generalize res_main_v53 V0 = x at *
  generalize res_main_v55 V0 = y at *
  generalize res_main_v81 V0 = u at *
  generalize res_main_v77 V0 = t at *
  pointwise []
  rw [overOnes]
  pointwise []
  rw [overKeys]
  pointwise []
  simp only [h53, h55, h81, h77]
  have hz := (mul_pos (AttnMath.z_pos (q := blk Q r h) (k := blk K r h) i a) (Real.exp_pos (-μ))).ne'
  unfold dsRaw AttnMath.w
  rw [← AttnMath.ds_eq (AttnMath.z_pos i a) μ, ← EReal.coe_mul, show (1 : EReal) = ((1 : ℝ) : EReal) from rfl, AttnMath.div_coe _ hz, AttnMath.div_coe _ hz, AttnMath.div_coe _ (mul_ne_zero hz hz)]
  simp only [← EReal.coe_mul, ← coe_sum, ← EReal.coe_neg, ← EReal.coe_add]

include hq hk in
theorem r48 : ∃ c : Fin 256 → ℝ, (∀ κ, res_main_v48 V0 (ix6 0 r h i a κ) = (c κ : EReal)) ∧ 0 < ∑ κ, c κ := by
  obtain ⟨μ, hμ, κ₀, h0⟩ := r44 V0 r h i a hq hk
  unfold res_main_v48
  generalize res_main_v42 V0 = x at *
  generalize res_main_v44 V0 = y at *
  refine ⟨fun κ => if x (ix6 0 r h i a κ) = (μ : EReal) then 1 else 0, fun κ => ?_, ?_⟩
  · pointwise []
    rw [hμ]
    by_cases hx : x (ix6 0 r h i a κ) = (μ : EReal)
    · rw [if_pos hx, decide_eq_true hx]
      exact Base.bit_one
    · rw [if_neg hx, decide_eq_false hx]
      exact Base.bit_zero
  · refine Finset.sum_pos' (fun κ _ => ?_) ⟨κ₀, Finset.mem_univ _, ?_⟩
    · split
      · exact zero_le_one
      · exact le_rfl
    · rw [if_pos h0]
      exact zero_lt_one

include hq hk hv hg hd in
theorem r109 : res_main_v109 V0 (ix6 0 r h i a κ) = (AttnMath.ds (blk Q r h) (blk K r h) (blk V r h) (blk G r h) (blk1 D r h) i a κ : EReal) := by
  unfold res_main_v109
  have h95 := fun κ => r95 V0 r h i a κ hq hk hv hg hd
  have h77 := r77 V0 r h i a hd
  obtain ⟨c, h48, hc⟩ := r48 V0 r h i a hq hk
  have hm := mask V0 r h i a κ
  generalize res_main_v95 V0 = x at *
  generalize res_main_v77 V0 = t at *
  generalize res_main_v48 V0 = y at *
  generalize res_main_v40 V0 = m at *
  pointwise []
  rw [overOnes, overKeys]
  pointwise []
  rw [overKeys]
  pointwise []
  rw [hm]
  simp only [h95, h77, h48, eighth]
  have hs : ((blk1 D r h i a : EReal) + ∑ κ, -(dsRaw r h Q K V G D i a κ : EReal)) = ((0 : ℝ) : EReal) := by
    simp only [← EReal.coe_neg, ← coe_sum, ← EReal.coe_add]
    rw [Finset.sum_neg_distrib]
    unfold dsRaw AttnMath.w
    rw [AttnMath.sum_ds (AttnMath.z_pos i a), add_neg_cancel]
  rw [hs, ← coe_sum, AttnMath.div_coe _ hc.ne', zero_div, EReal.coe_zero, zero_mul, add_zero]
  unfold AttnMath.ds
  rw [AttnMath.delta_eq]
  by_cases hok : AttnMath.ok i a κ
  · rw [if_pos hok]
    exact (EReal.coe_mul _ _).symm
  · rw [if_neg hok, AttnMath.w_not hok, zero_mul, zero_mul]
    rfl

include hq hk hv hg hd in
theorem r110 : res_main_v110 V0 (ix6 0 r h i κ e) = (AttnMath.dkk (blk Q r h) (blk K r h) (blk V r h) (blk G r h) (blk1 D r h) i κ e : EReal) := by
  unfold res_main_v110
  have h109 := fun a => r109 V0 r h i a κ hq hk hv hg hd
  have h3 := fun a => r3 V0 r h i a e hq
  generalize res_main_v109 V0 = x at *
  generalize res_main_v3 V0 = y at *
  pointwise []
  simp only [h109, h3]
  unfold AttnMath.dkk
  push_cast
  rw [coe_sum]
  rfl

end Max

section Results

/-- The block of a row of a residue class. -/
abbrev rowBlk (t : Fin 2048) : Fin 16 := ⟨t.val / 128, by omega⟩
/-- The place of a row in its block. -/
abbrev rowAt (t : Fin 2048) : Fin 128 := ⟨t.val % 128, by omega⟩
/-- The head of a column. -/
abbrev colHead (c : Fin 512) : Fin 8 := ⟨c.val / 64, by omega⟩
/-- The feature of a column. -/
abbrev colFeat (c : Fin 512) : Fin 64 := ⟨c.val % 64, by omega⟩

variable (t : Fin 2048) (c : Fin 512)

/-- Heads and residue classes laid out as the call returns them. -/
theorem layout (y : FVec Ideal S1x4x8x16x128x64 .f32) {Y : Fin 16 → Fin 128 → Fin 64 → ℝ} (hy : ∀ i a e, y (ix6 0 r (colHead c) i a e) = (Y i a e : EReal)) :
    (truncf .bf16 (transpose S4x2048x512 [1, 0, 2] (shapeCast _ (shapeCast _ (transpose S1x2048x4x8x64 [0, 3, 1, 2, 4] (shapeCast _ y shapeCasts_S1x4x8x16x128x64_S1x4x8x2048x64) transposes_S1x4x8x2048x64_S1x2048x4x8x64_0_3_1_2_4) shapeCasts_S1x2048x4x8x64_S1x8192x8x64) shapeCasts_S1x8192x8x64_S2048x4x512) transposes_S2048x4x512_S4x2048x512_1_0_2) bitsLt_bf16_f32 : FVec Ideal S4x2048x512 .bf16) (ix3 r t c)
      = (Y (rowBlk t) (rowAt t) (colFeat c) : EReal) := by
  pointwise []
  exact hy _ _ _

/-- A block's own half of a pair and the next block's earlier half. -/
theorem joined (x : FVec Ideal S1x4x8x16x256x64 .f32) {T : Fin 16 → Fin 256 → Fin 64 → ℝ} (hx : ∀ i κ e, x (ix6 0 r h i κ e) = (T i κ e : EReal)) :
    (addf (extractStridedSlice S1x4x8x16x128x64 ![0, 0, 0, 0, 128, 0] x slices_S1x4x8x16x256x64_S1x4x8x16x128x64_0_0_0_0_128_0) (pad S1x4x8x16x128x64 ![0, 0, 0, 0, 0, 0] ![0, 0, 0, 1, 0, 0] ![0, 0, 0, 0, 0, 0] (extractStridedSlice S1x4x8x15x128x64 ![0, 0, 0, 1, 0, 0] (extractStridedSlice S1x4x8x16x128x64 ![0, 0, 0, 0, 0, 0] x slices_S1x4x8x16x256x64_S1x4x8x16x128x64_0_0_0_0_0_0) slices_S1x4x8x16x128x64_S1x4x8x15x128x64_0_0_0_1_0_0) (constant S_ .f32 0x00000000#32) pads_S1x4x8x15x128x64_S1x4x8x16x128x64_000_000_000_010_000_000 h_S_) : FVec Ideal S1x4x8x16x128x64 .f32) (ix6 0 r h i a e)
      = (AttnMath.join T i a e : EReal) := by
  pointwise []
  rw [hx]
  unfold AttnMath.join
  by_cases c : i.val < 15
  · rw [dif_pos c, dif_pos (by omega), hx, ← EReal.coe_add]
    congr 3
    exact Fin.ext (Nat.add_comm _ _)
  · rw [dif_neg c, dif_neg (by omega)]
    exact (EReal.coe_add _ _).symm

include hq hk hv hg hd in
/-- The queries' gradient. -/
theorem outQ : (truncf .bf16 (transpose S4x2048x512 [1, 0, 2] (shapeCast _ (shapeCast _ (transpose S1x2048x4x8x64 [0, 3, 1, 2, 4] (shapeCast _ (Host.dotGeneral (φ₁ := .f32) (φ₂ := .f32) dot_S1x4x8x16x128x256_S1x4x8x16x256x64_S1x4x8x16x128x64_5_4_4_5_0123_0123 none (res_main_v109 V0) (res_main_v10 V0)) shapeCasts_S1x4x8x16x128x64_S1x4x8x2048x64) transposes_S1x4x8x2048x64_S1x2048x4x8x64_0_3_1_2_4) shapeCasts_S1x2048x4x8x64_S1x8192x8x64) shapeCasts_S1x8192x8x64_S2048x4x512) transposes_S2048x4x512_S4x2048x512_1_0_2) bitsLt_bf16_f32 : FVec Ideal S4x2048x512 .bf16) (ix3 r t c)
      = (AttnMath.dq (blk Q r (colHead c)) (blk K r (colHead c)) (blk V r (colHead c)) (blk G r (colHead c)) (blk1 D r (colHead c)) (rowBlk t) (rowAt t) (colFeat c) : EReal) := by
  refine layout r t c _ fun i a e => ?_
  have h109 := fun κ => r109 V0 r (colHead c) i a κ hq hk hv hg hd
  have h10 := fun κ => r10 V0 r (colHead c) i κ e hk
  generalize res_main_v109 V0 = x at *
  generalize res_main_v10 V0 = y at *
  pointwise []
  simp only [h109, h10]
  exact (Finset.sum_congr rfl fun a _ => (EReal.coe_mul _ _).symm).trans (coe_sum Finset.univ _).symm

include hq hk hv hg hd in
/-- The keys' gradient. -/
theorem outK : (truncf .bf16 (transpose S4x2048x512 [1, 0, 2] (shapeCast _ (shapeCast _ (transpose S1x2048x4x8x64 [0, 3, 1, 2, 4] (shapeCast _ (addf (extractStridedSlice S1x4x8x16x128x64 ![0, 0, 0, 0, 128, 0] (res_main_v110 V0) slices_S1x4x8x16x256x64_S1x4x8x16x128x64_0_0_0_0_128_0) (pad S1x4x8x16x128x64 ![0, 0, 0, 0, 0, 0] ![0, 0, 0, 1, 0, 0] ![0, 0, 0, 0, 0, 0] (extractStridedSlice S1x4x8x15x128x64 ![0, 0, 0, 1, 0, 0] (res_main_v121 V0) slices_S1x4x8x16x128x64_S1x4x8x15x128x64_0_0_0_1_0_0) (constant S_ .f32 0x00000000#32) pads_S1x4x8x15x128x64_S1x4x8x16x128x64_000_000_000_010_000_000 h_S_)) shapeCasts_S1x4x8x16x128x64_S1x4x8x2048x64) transposes_S1x4x8x2048x64_S1x2048x4x8x64_0_3_1_2_4) shapeCasts_S1x2048x4x8x64_S1x8192x8x64) shapeCasts_S1x8192x8x64_S2048x4x512) transposes_S2048x4x512_S4x2048x512_1_0_2) bitsLt_bf16_f32 : FVec Ideal S4x2048x512 .bf16) (ix3 r t c)
      = (AttnMath.join (AttnMath.dkk (blk Q r (colHead c)) (blk K r (colHead c)) (blk V r (colHead c)) (blk G r (colHead c)) (blk1 D r (colHead c))) (rowBlk t) (rowAt t) (colFeat c) : EReal) :=
  layout r t c _ fun i a e => joined r (colHead c) i a e _ fun i κ e => r110 V0 r (colHead c) i κ e hq hk hv hg hd

include hq hk hg in
/-- The values' gradient. -/
theorem outV : (truncf .bf16 (transpose S4x2048x512 [1, 0, 2] (shapeCast _ (shapeCast _ (transpose S1x2048x4x8x64 [0, 3, 1, 2, 4] (shapeCast _ (addf (extractStridedSlice S1x4x8x16x128x64 ![0, 0, 0, 0, 128, 0] (res_main_v80 V0) slices_S1x4x8x16x256x64_S1x4x8x16x128x64_0_0_0_0_128_0) (pad S1x4x8x16x128x64 ![0, 0, 0, 0, 0, 0] ![0, 0, 0, 1, 0, 0] ![0, 0, 0, 0, 0, 0] (extractStridedSlice S1x4x8x15x128x64 ![0, 0, 0, 1, 0, 0] (res_main_v112 V0) slices_S1x4x8x16x128x64_S1x4x8x15x128x64_0_0_0_1_0_0) (constant S_ .f32 0x00000000#32) pads_S1x4x8x15x128x64_S1x4x8x16x128x64_000_000_000_010_000_000 h_S_)) shapeCasts_S1x4x8x16x128x64_S1x4x8x2048x64) transposes_S1x4x8x2048x64_S1x2048x4x8x64_0_3_1_2_4) shapeCasts_S1x2048x4x8x64_S1x8192x8x64) shapeCasts_S1x8192x8x64_S2048x4x512) transposes_S2048x4x512_S4x2048x512_1_0_2) bitsLt_bf16_f32 : FVec Ideal S4x2048x512 .bf16) (ix3 r t c)
      = (AttnMath.join (AttnMath.dvv (blk Q r (colHead c)) (blk K r (colHead c)) (blk G r (colHead c))) (rowBlk t) (rowAt t) (colFeat c) : EReal) :=
  layout r t c _ fun i a e => joined r (colHead c) i a e _ fun i κ e => r80 V0 r (colHead c) i κ e hq hk hg

end Results

end Inputs

end Cert.AttnRefIdeal.Rd
-- ==== Proof.AttnHost.lean ====
module

public import proofs.«01_k».proof.Proof.AttnOut
public import proofs.«01_k».proof.Proof.AttnRef
public import Idealize.ShloMosaic.Lib.StableHlo.RunRead

@[expose] public section

set_option maxRecDepth 16384

noncomputable section

namespace Cert.AttnIdeal.Pre

open Cert.AttnIdeal Cert.AttnIdeal.Gen Idealize.ShloMosaic Idealize.ShloMosaic.StableHlo Idealize.ShloMosaic.TcCoe Idealize.SL.Sem
open Cert.AttnRefIdeal.Value (res_main_v17 res_main_v50 res_main_v53 res_main_v55)
open Cert.AttnMath (coe_sum)

variable (m : (ℓ : Loc nD τ sig) → Buf (Elt Ideal) ℓ) (c : Dev nD) (V0 : Valuation Cert.AttnRefIdeal.τ Cert.AttnRefIdeal.sig (Elt Ideal))
variable (e0 : V0 (Proc.devRef .tc Cert.AttnRefIdeal.main_arg0) = m ((c : Thread nD τ).loc main_arg0))
variable (e1 : V0 (Proc.devRef .tc Cert.AttnRefIdeal.main_arg1) = m ((c : Thread nD τ).loc main_arg1))
variable (e2 : V0 (Proc.devRef .tc Cert.AttnRefIdeal.main_arg2) = m ((c : Thread nD τ).loc main_arg2))
variable (e3 : V0 (Proc.devRef .tc Cert.AttnRefIdeal.main_arg3) = m ((c : Thread nD τ).loc main_arg3))
variable (e4 : V0 (Proc.devRef .tc Cert.AttnRefIdeal.main_arg4) = m ((c : Thread nD τ).loc main_arg4))

/-- The rows' log-sums as the host computes them. -/
def lseT : FVec Ideal S1x4x8x16x128x1 .f32 := addf (res_main_v50 V0 : S1x4x8x16x128x1.Idx → EReal) (Host.log (res_main_v55 V0 : S1x4x8x16x128x1.Idx → EReal))

/-- A number of each row and head, by residue classes, each head's in its lanes. -/
def lseLay (x : FVec Ideal S1x4x8x16x128x1 .f32) : FVec Ideal S4x2048x128 .f32 := transpose S4x2048x128 [1, 0, 2] (shapeCast _ (shapeCast S8192x128 (broadcastInDim S8192x8x16 ![0, 1] bcast_S8192x8_S8192x8x16_0_1
    (shapeCast S8192x8 (shapeCast S1x8192x8 (transpose S1x2048x4x8 [0, 3, 1, 2] (shapeCast S1x4x8x2048 (shapeCast S1x4x8x16x128 x shapeCasts_S1x4x8x16x128x1_S1x4x8x16x128) shapeCasts_S1x4x8x16x128_S1x4x8x2048)
      transposes_S1x4x8x2048_S1x2048x4x8_0_3_1_2) shapeCasts_S1x2048x4x8_S1x8192x8) shapeCasts_S1x8192x8_S8192x8)) shapeCasts_S8192x8x16_S8192x128) shapeCasts_S8192x128_S2048x4x128) transposes_S2048x4x128_S4x2048x128_1_0_2

include e0 e1 in
theorem lse_term : V m c main_v88 = lseLay (lseT V0) := by
  unfold V
  after_results
  rw [← e0, ← e1]
  rfl

/-- The attention's output as the host computes it. -/
def oT : FVec Ideal S1x4x8x16x128x64 .f32 :=
  Host.dotGeneral (φ₁ := .f32) (φ₂ := .f32) dot_S1x4x8x16x128x256_S1x4x8x16x256x64_S1x4x8x16x128x64_5_4_4_5_0123_0123 none
    (Host.divf (res_main_v53 V0 : FVec Ideal S1x4x8x16x128x256 .f32) (broadcastInDim S1x4x8x16x128x256 ![0, 1, 2, 3, 4, 5] bcast_S1x4x8x16x128x1_S1x4x8x16x128x256_0_1_2_3_4_5 (res_main_v55 V0 : FVec Ideal S1x4x8x16x128x1 .f32)))
    (res_main_v17 V0 : FVec Ideal S1x4x8x16x256x64 .f32)

/-- The rows' sums of the cotangent times the output, less the log-sums' cotangent, by residue classes. -/
def deltaLay (y : FVec Ideal S1x8192x8x64 .f32) (w : FVec Ideal S1x8192x8 .f32) (x : FVec Ideal S1x4x8x16x128x64 .f32) : FVec Ideal S4x2048x128 .f32 :=
  transpose S4x2048x128 [1, 0, 2] (shapeCast _ (shapeCast S8192x128 (broadcastInDim S8192x8x16 ![0, 1] bcast_S8192x8_S8192x8x16_0_1
    (shapeCast S8192x8 (subf (Host.reduceAdd (mulf y
      (shapeCast S1x8192x8x64 (transpose S1x2048x4x8x64 [0, 3, 1, 2, 4] (shapeCast S1x4x8x2048x64 x shapeCasts_S1x4x8x16x128x64_S1x4x8x2048x64) transposes_S1x4x8x2048x64_S1x2048x4x8x64_0_3_1_2_4) shapeCasts_S1x2048x4x8x64_S1x8192x8x64))
      (constant S_ .f32 0x00000000#32) reducesTo_S1x8192x8x64_S1x8192x8_d3 h_S_) w) shapeCasts_S1x8192x8_S8192x8)) shapeCasts_S8192x8x16_S8192x128) shapeCasts_S8192x128_S2048x4x128) transposes_S2048x4x128_S4x2048x128_1_0_2

include e0 e1 e2 in
theorem delta_term : V m c main_v83 = deltaLay (m ((c : Thread nD τ).loc main_arg3)) (m ((c : Thread nD τ).loc main_arg4)) (oT V0) := by
  unfold V
  after_results
  rw [← e0, ← e1, ← e2]
  rfl

section Reals

open Cert.AttnRefIdeal.Rd (blk blk1 Holds Holds1 rowBlk rowAt colHead colFeat tok)

variable {Q K W G : Fin 8192 → Fin 8 → Fin 64 → ℝ} {D : Fin 8192 → Fin 8 → ℝ}
variable (hq : Holds (V0 (Proc.devRef .tc Cert.AttnRefIdeal.main_arg0)) Q) (hk : Holds (V0 (Proc.devRef .tc Cert.AttnRefIdeal.main_arg1)) K)
variable (hv : Holds (V0 (Proc.devRef .tc Cert.AttnRefIdeal.main_arg2)) W)

variable (hg : Holds (V0 (Proc.devRef .tc Cert.AttnRefIdeal.main_arg3)) G) (hd : Holds1 (V0 (Proc.devRef .tc Cert.AttnRefIdeal.main_arg4)) D)

/-- The head whose number a lane carries. -/
abbrev laneHead (l : Fin 128) : Fin 8 := ⟨l.val / 16, by omega⟩

/-- The log-sum of a row from its greatest score and the sum of the exponentials. -/
theorem lse_of (x : FVec Ideal S1x4x8x16x128x1 .f32) (y : FVec Ideal S1x4x8x16x128x1 .f32) {i : Fin 16} {a : Fin 128} (j : S1x4x8x16x128x1.Idx) (q k : Fin 16 → Fin 128 → Fin 64 → ℝ) {μ : ℝ}
    (hx : x j = (μ : EReal)) (hy : y j = ((AttnMath.zed (AttnMath.ok i a) (AttnMath.sc q k i a) * Real.exp (-μ) : ℝ) : EReal)) :
    (addf x (Host.log y) : FVec Ideal S1x4x8x16x128x1 .f32) j = (AttnMath.lse q k i a : EReal) := by
  show x j + Ideal.log (y j) = _
  rw [hx, hy, AttnMath.log_coe (mul_pos (AttnMath.z_pos i a) (Real.exp_pos _)), ← EReal.coe_add, AttnMath.log_shift (AttnMath.z_pos i a)]
  rfl

theorem r50 {μ : ℝ} (r : Fin 4) (h : Fin 8) (i : Fin 16) (a : Fin 128) (hμ : Cert.AttnRefIdeal.Value.res_main_v44 V0 (ix5 0 r h i a) = (μ : EReal)) : res_main_v50 V0 (ix6 0 r h i a 0) = (μ : EReal) := by
  unfold res_main_v50
  generalize Cert.AttnRefIdeal.Value.res_main_v44 V0 = x at *
  pointwise []
  exact hμ

include hq hk in
theorem lse_real (r : Fin 4) (h : Fin 8) (i : Fin 16) (a : Fin 128) : lseT V0 (ix6 0 r h i a 0) = (AttnMath.lse (blk Q r h) (blk K r h) i a : EReal) := by
  obtain ⟨μ, hμ, -⟩ := AttnRefIdeal.Rd.r44 V0 r h i a hq hk
  exact lse_of _ _ _ _ _ (r50 V0 r h i a hμ) (AttnRefIdeal.Rd.r55 V0 r h i a hq hk hμ)

include hq hk hv in
theorem o_real (r : Fin 4) (h : Fin 8) (i : Fin 16) (a : Fin 128) (e : Fin 64) : oT V0 (ix6 0 r h i a e) = (AttnMath.o (blk Q r h) (blk K r h) (blk W r h) i a e : EReal) := by
  obtain ⟨μ, hμ, -⟩ := AttnRefIdeal.Rd.r44 V0 r h i a hq hk
  have h5 := AttnRefIdeal.Rd.r55 V0 r h i a hq hk hμ
  have h3 := fun κ => AttnRefIdeal.Rd.r53 V0 r h i a κ hq hk hμ
  have h7 := fun κ => AttnRefIdeal.Rd.r17 V0 r h i κ e hv
  unfold oT
  generalize res_main_v53 V0 = x at *
  generalize res_main_v55 V0 = y at *
  generalize res_main_v17 V0 = z at *
  pointwise []
  simp only [h3, h5, h7]
  simp only [AttnMath.div_coe _ (mul_pos (AttnMath.z_pos i a) (Real.exp_pos _)).ne', AttnMath.wt_shift, ← EReal.coe_mul]
  exact (coe_sum Finset.univ _).symm

include hq hk in
theorem lse_lay (r : Fin 4) (t : Fin 2048) (l : Fin 128) : lseLay (lseT V0) (ix3 r t l) = (AttnMath.lse (blk Q r (laneHead l)) (blk K r (laneHead l)) (rowBlk t) (rowAt t) : EReal) := by
  have hl := lse_real V0 hq hk r (laneHead l) (rowBlk t) (rowAt t)
  generalize lseT V0 = x at *
  unfold lseLay
  pointwise []
  exact hl

include e0 e1 hq hk in
theorem lse_val (r : Fin 4) (t : Fin 2048) (l : Fin 128) : V m c main_v88 (ix3 r t l) = (AttnMath.lse (blk Q r (laneHead l)) (blk K r (laneHead l)) (rowBlk t) (rowAt t) : EReal) :=
  (congrFun (lse_term m c V0 e0 e1) _).trans (lse_lay V0 hq hk r t l)

include hq hk hv hg hd in
theorem delta_lay (r : Fin 4) (t : Fin 2048) (l : Fin 128) : deltaLay (V0 (Proc.devRef .tc Cert.AttnRefIdeal.main_arg3)) (V0 (Proc.devRef .tc Cert.AttnRefIdeal.main_arg4)) (oT V0) (ix3 r t l) = (AttnMath.delta (blk Q r (laneHead l)) (blk K r (laneHead l)) (blk W r (laneHead l)) (blk G r (laneHead l)) (blk1 D r (laneHead l)) (rowBlk t) (rowAt t) : EReal) := by
  have ho := fun e => o_real V0 hq hk hv r (laneHead l) (rowBlk t) (rowAt t) e
  generalize oT V0 = x at *
  generalize V0 (Proc.devRef .tc Cert.AttnRefIdeal.main_arg3) = y at *
  generalize V0 (Proc.devRef .tc Cert.AttnRefIdeal.main_arg4) = w at *
  unfold deltaLay
  pointwise []
  have hw : w (ix3 0 ⟨t.val * 4 + r.val, by omega⟩ (laneHead l)) = (blk1 D r (laneHead l) (rowBlk t) (rowAt t) : EReal) := by
    refine (hd 0 _ _).trans ?_
    unfold blk1
    congr 2
    exact Fin.ext (show t.val * 4 + r.val = (t.val / 128 * 128 + t.val % 128) * 4 + r.val by omega)
  have hy : ∀ e, y (ix4 0 ⟨t.val * 4 + r.val, by omega⟩ (laneHead l) e) = (blk G r (laneHead l) (rowBlk t) (rowAt t) e : EReal) := by
    intro e
    refine (hg 0 _ _ _).trans ?_
    unfold blk
    congr 2
    exact Fin.ext (show t.val * 4 + r.val = (t.val / 128 * 128 + t.val % 128) * 4 + r.val by omega)
  refine (congrArg₂ (fun p q : EReal => p - q) (Finset.sum_congr rfl fun e _ => congrArg₂ (fun p q : EReal => p * q) (hy e) (ho e)) hw).trans ?_
  simp only [← EReal.coe_mul]
  rw [← coe_sum]
  exact (EReal.coe_sub _ _).symm

include e0 e1 e2 e3 e4 hq hk hv hg hd in
theorem delta_val (r : Fin 4) (t : Fin 2048) (l : Fin 128) : V m c main_v83 (ix3 r t l) = (AttnMath.delta (blk Q r (laneHead l)) (blk K r (laneHead l)) (blk W r (laneHead l)) (blk G r (laneHead l)) (blk1 D r (laneHead l)) (rowBlk t) (rowAt t) : EReal) := by
  rw [delta_term m c V0 e0 e1 e2, ← e3, ← e4]
  exact delta_lay V0 hq hk hv hg hd r t l

/-- A token's heads laid out by residue classes. -/
def clsLay (x : FVec Ideal S1x8192x8x64 .f32) : FVec Ideal S4x2048x512 .bf16 := (truncf .bf16 (transpose S4x2048x512 [1, 0, 2] (shapeCast _ (shapeCast S8192x512 x shapeCasts_S1x8192x8x64_S8192x512) shapeCasts_S8192x512_S2048x4x512) transposes_S2048x4x512_S4x2048x512_1_0_2) bitsLt_bf16_f32 : FVec Ideal S4x2048x512 .bf16)

theorem byClass {X : Fin 8192 → Fin 8 → Fin 64 → ℝ} (x : FVec Ideal S1x8192x8x64 .f32) (hx : Holds x X) (r : Fin 4) (t : Fin 2048) (j : Fin 512) :
    clsLay x (ix3 r t j)
      = (blk X r (colHead j) (rowBlk t) (rowAt t) (colFeat j) : EReal) := by
  unfold clsLay
  pointwise []
  refine (hx 0 _ _ _).trans ?_
  unfold blk
  congr 2
  exact Fin.ext (show t.val * 4 + r.val = (t.val / 128 * 128 + t.val % 128) * 4 + r.val by omega)

theorem q_term : V m c main_v66 = clsLay (m ((c : Thread nD τ).loc main_arg0)) := by
  unfold V
  after_results
  rfl

include e0 hq in
theorem q_val (r : Fin 4) (t : Fin 2048) (j : Fin 512) : V m c main_v66 (ix3 r t j) = (blk Q r (colHead j) (rowBlk t) (rowAt t) (colFeat j) : EReal) :=
  (congrFun (q_term m c) _).trans (byClass _ (e0 ▸ hq) r t j)

theorem k_term : V m c main_v70 = clsLay (m ((c : Thread nD τ).loc main_arg1)) := by
  unfold V
  after_results
  rfl

include e1 hk in
theorem k_val (r : Fin 4) (t : Fin 2048) (j : Fin 512) : V m c main_v70 (ix3 r t j) = (blk K r (colHead j) (rowBlk t) (rowAt t) (colFeat j) : EReal) :=
  (congrFun (k_term m c) _).trans (byClass _ (e1 ▸ hk) r t j)

theorem v_term : V m c main_v74 = clsLay (m ((c : Thread nD τ).loc main_arg2)) := by
  unfold V
  after_results
  rfl

include e2 hv in
theorem v_val (r : Fin 4) (t : Fin 2048) (j : Fin 512) : V m c main_v74 (ix3 r t j) = (blk W r (colHead j) (rowBlk t) (rowAt t) (colFeat j) : EReal) :=
  (congrFun (v_term m c) _).trans (byClass _ (e2 ▸ hv) r t j)

theorem g_term : V m c main_v78 = clsLay (m ((c : Thread nD τ).loc main_arg3)) := by
  unfold V
  after_results
  rfl

include e3 hg in
theorem g_val (r : Fin 4) (t : Fin 2048) (j : Fin 512) : V m c main_v78 (ix3 r t j) = (blk G r (colHead j) (rowBlk t) (rowAt t) (colFeat j) : EReal) :=
  (congrFun (g_term m c) _).trans (byClass _ (e3 ▸ hg) r t j)

end Reals

end Cert.AttnIdeal.Pre
-- ==== Proof.AttnPure.lean ====
module

public import proofs.«01_k».proof.Proof.AttnOut
public import proofs.«01_k».proof.Proof.AttnMath
public import Idealize.ShloMosaic.Lib.Pointwise
public import Idealize.ShloMosaic.Lib.WordCmp

@[expose] public section

set_option maxRecDepth 16384

noncomputable section

namespace Cert.AttnIdeal.Pure

open Cert.AttnIdeal Cert.AttnIdeal.Gen Cert.AttnIdeal.Out Cert.AttnMath Cert.Base Idealize.ShloMosaic Idealize.ShloMosaic.TcCoe Idealize.SL.Sem
open Idealize.ShloMosaic.WordCmp (cmpi_sge_eq cmpi_sle_eq)

/-! ## One block of one pair of heads over the reals -/

section Real

variable {mk : IVec S128x256 1} {keys vals : FVec Ideal S256x128 .bf16} {q g : Vec Ideal S1x128x128 .bf16} {sel : IVec S1x128 1} {l d : Vec Ideal S1x128x1 .f32}
variable {M : Fin 128 → Fin 256 → Prop} [∀ a κ, Decidable (M a κ)] {H : Fin 128 → Prop} [DecidablePred H]
variable {K V : Fin 256 → Fin 128 → ℝ} {Q G : Fin 128 → Fin 128 → ℝ} {L D : Fin 128 → ℝ}
variable (hm : ∀ a κ, mk (ix2 a κ) = if M a κ then 1#1 else 0#1) (hs : ∀ e, sel (ix2 0 e) = if H e then 1#1 else 0#1)
variable (hk : ∀ κ e, keys (ix2 κ e) = (K κ e : EReal)) (hv : ∀ κ e, vals (ix2 κ e) = (V κ e : EReal))
variable (hq : ∀ a e, q (ix3 0 a e) = (Q a e : EReal)) (hg : ∀ a e, g (ix3 0 a e) = (G a e : EReal))
variable (hl : ∀ a, l (ix3 0 a 0) = (L a : EReal)) (hd : ∀ a, d (ix3 0 a 0) = (D a : EReal))

include hs hq in
theorem pick (a e : Fin 128) : k0_pay25 (k0_pay14 q) sel (ix2 a e) = ((if H e then Q a e else 0 : ℝ) : EReal) := by
  unfold k0_pay25 k0_pay14
  pointwise []
  simp only [hs, hq]
  by_cases h : H e
  · rw [if_pos h, if_pos h]; rfl
  · rw [if_neg h, if_neg h]; simp [Scalar.select]

include hm hs hk hq hl in
theorem p_real (a : Fin 128) (κ : Fin 256) :
    pH mk keys q sel l (ix2 a κ) = ((if M a κ then Real.exp ((∑ e, (if H e then Q a e else 0) * K κ e) * (1 / 8) - L a) else 0 : ℝ) : EReal) := by
  have hp := pick hs hq
  unfold pH k0_pay27
  generalize k0_pay25 (k0_pay14 q) sel = x at *
  pointwise []
  simp only [hm, hk, hl, hp]
  have e8 : Ideal.ofBits .f32 1040187392#32 = ((1 / 8 : ℝ) : EReal) := by
    simp [Ideal.ofBits, Ideal.ieee]; rw [← EReal.coe_mul]; norm_num
  by_cases h : M a κ
  · rw [if_pos h, if_pos h, e8]
    show Ideal.exp ((∑ x, _) * _ - _) = _
    simp only [← EReal.coe_mul]
    rw [← coe_sum, ← EReal.coe_mul, ← EReal.coe_sub]
    rfl
  · rw [if_neg h, if_neg h]
    rfl

include hm hs hk hv hq hg hl hd in
theorem ds_real (a : Fin 128) (κ : Fin 256) :
    dsH mk keys vals q g sel l d (ix2 a κ) = (((if M a κ then Real.exp ((∑ e, (if H e then Q a e else 0) * K κ e) * (1 / 8) - L a) else 0)
      * ((∑ e, (if H e then G a e else 0) * V κ e) - D a) * (1 / 8) : ℝ) : EReal) := by
  have hp : ∀ a κ, k0_pay27 mk keys (k0_pay14 q) sel l (ix2 a κ) = _ := p_real hm hs hk hq hl
  have hgp : ∀ a e, k0_pay26 (k0_pay15 g) sel (ix2 a e) = _ := pick hs hg
  unfold dsH k0_pay28
  generalize k0_pay27 mk keys (k0_pay14 q) sel l = x at *
  generalize k0_pay26 (k0_pay15 g) sel = y at *
  pointwise []
  simp only [hv, hd, hp, hgp]
  have e8 : Ideal.ofBits .f32 1040187392#32 = ((1 / 8 : ℝ) : EReal) := by
    simp [Ideal.ofBits, Ideal.ieee]; rw [← EReal.coe_mul]; norm_num
  rw [e8]
  simp only [← EReal.coe_mul]
  rw [← coe_sum, ← EReal.coe_sub, ← EReal.coe_mul, ← EReal.coe_mul]

include hm hs hk hv hq hg hl hd in
theorem dk_real (κ : Fin 256) (e : Fin 128) :
    dkH mk keys vals q g sel l d (ix2 κ e) = ((∑ a, ((if M a κ then Real.exp ((∑ e, (if H e then Q a e else 0) * K κ e) * (1 / 8) - L a) else 0)
      * ((∑ e, (if H e then G a e else 0) * V κ e) - D a) * (1 / 8)) * (if H e then Q a e else 0) : ℝ) : EReal) := by
  have h1 := ds_real hm hs hk hv hq hg hl hd
  have h2 := pick hs hq
  unfold dkH
  generalize dsH mk keys vals q g sel l d = x at *
  generalize k0_pay25 (k0_pay14 q) sel = y at *
  pointwise []
  simp only [h1, h2, ← EReal.coe_mul]
  exact (coe_sum Finset.univ _).symm

include hm hs hk hq hg hl in
theorem dv_real (κ : Fin 256) (e : Fin 128) :
    dvH mk keys q g sel l (ix2 κ e) = ((∑ a, (if M a κ then Real.exp ((∑ e, (if H e then Q a e else 0) * K κ e) * (1 / 8) - L a) else 0)
      * (if H e then G a e else 0) : ℝ) : EReal) := by
  have h1 := p_real hm hs hk hq hl
  have h2 := pick hs hg
  unfold dvH
  generalize pH mk keys q sel l = x at *
  generalize k0_pay25 (k0_pay14 g) sel = y at *
  pointwise []
  simp only [h1, h2, ← EReal.coe_mul]
  exact (coe_sum Finset.univ _).symm

include hm hs hk hv hq hg hl hd in
theorem dq_real (a : Fin 128) (e : Fin 128) :
    k0_pay29 mk keys vals (k0_pay14 q) (k0_pay15 g) sel l d (ix2 a e) = ((∑ κ, ((if M a κ then Real.exp ((∑ e, (if H e then Q a e else 0) * K κ e) * (1 / 8) - L a) else 0)
      * ((∑ e, (if H e then G a e else 0) * V κ e) - D a) * (1 / 8)) * K κ e : ℝ) : EReal) := by
  have h1 : ∀ a κ, k0_pay28 mk keys vals (k0_pay14 q) (k0_pay15 g) sel l d (ix2 a κ) = _ := ds_real hm hs hk hv hq hg hl hd
  unfold k0_pay29
  generalize k0_pay28 mk keys vals (k0_pay14 q) (k0_pay15 g) sel l d = x at *
  pointwise []
  simp only [h1, hk, ← EReal.coe_mul]
  exact (coe_sum Finset.univ _).symm

end Real

/-! ## The masks and the halves -/

theorem lo_eq (e : Fin 128) : k0_pay8 (ix2 0 e) = if e.val / 64 = (0 : Fin 2).val then 1#1 else 0#1 := by
  revert e; decide +kernel

theorem hi_eq (e : Fin 128) : k0_pay16 k0_pay8 (ix2 0 e) = if e.val / 64 = (1 : Fin 2).val then 1#1 else 0#1 := by
  revert e; decide +kernel

theorem diff_eq (a : Fin 128) (κ : Fin 256) :
    IntOp.subi (IntOp.addi (128#32) (BitVec.ofNat 32 a.val)) (BitVec.ofNat 32 κ.val) = BitVec.ofInt 32 (128 + a.val - κ.val) := by
  unfold IntOp.subi IntOp.addi
  rw [sub_eq_add_neg, BitVec.ofInt_add, BitVec.ofInt_add, BitVec.ofInt_neg, BitVec.ofInt_natCast, BitVec.ofInt_natCast, BitVec.sub_eq_add_neg]; rfl

theorem bits (c1 c2 c3 : Bool) : IntOp.andi (IntOp.andi (BitVec.ofBool c1) (BitVec.ofBool c2)) (IntOp.ori (BitVec.ofBool c3) 0#1)
    = if c1 ∧ c2 ∧ c3 then 1#1 else 0#1 := by
  revert c1 c2 c3; decide

theorem bits' (c1 c2 c3 : Bool) : IntOp.andi (IntOp.andi (BitVec.ofBool c1) (BitVec.ofBool c2)) (IntOp.ori (BitVec.ofBool c3) 1#1)
    = if c1 ∧ c2 then 1#1 else 0#1 := by
  revert c1 c2 c3; decide

theorem ofNat_toInt (n : ℕ) (h : n < 2147483648) : (BitVec.ofNat 32 n).toInt = n := by
  rw [← BitVec.ofInt_natCast]; exact word n (by omega) (by omega)

theorem band_eq (i : Fin 16) (h : i.val ≠ 0) (a : Fin 128) (κ : Fin 256) : k0_pay7 (ix2 a κ) = if ok i a κ then 1#1 else 0#1 := by
  unfold k0_pay7
  pointwise []
  rw [diff_eq, cmpi_sge_eq, cmpi_sle_eq, cmpi_sge_eq, bits', word _ (by omega) (by omega)]
  have z0 : (0#32).toInt = 0 := rfl
  have z1 : (128#32).toInt = 128 := rfl
  rw [z0, z1]
  refine if_congr ?_ rfl rfl
  simp only [decide_eq_true_eq]
  exact ⟨fun ⟨x, y⟩ => ⟨by omega, by omega, fun h0 => absurd h0 h⟩, fun ⟨x, y, _⟩ => ⟨by omega, by omega⟩⟩

theorem first_eq (c : grid0.Coords) (i : Fin 16) (hi : i.val = 4 * (3 - (c 1).val)) (hc : (c 1).val < 4) (a : Fin 128) (κ : Fin 256) :
    k0_pay6 c (ix2 a κ) = if ok i a κ then 1#1 else 0#1 := by
  unfold k0_pay6
  pointwise []
  rw [diff_eq, cmpi_sge_eq, cmpi_sle_eq, cmpi_sge_eq, word _ (by omega) (by omega), ofNat_toInt κ.val (by omega)]
  have z0 : (0#32).toInt = 0 := rfl
  have z1 : (128#32).toInt = 128 := rfl
  rw [z0, z1]
  by_cases h3 : (c 1).val = 3
  · rw [h3, show Scalar.cmpi .sgt (Scalar.subi 3#32 (BitVec.ofNat 32 3)) 0#32 = 0#1 from rfl, bits]
    refine if_congr ?_ rfl rfl
    simp only [decide_eq_true_eq]
    exact ⟨fun ⟨x, y, z⟩ => ⟨by omega, by omega, fun _ => by omega⟩, fun ⟨x, y, z⟩ => ⟨by omega, by omega, by have := z (by omega); omega⟩⟩
  · have e : Scalar.cmpi .sgt (Scalar.subi 3#32 (BitVec.ofNat 32 (c 1).val)) 0#32 = 1#1 := by
      rcases (by omega : (c 1).val = 0 ∨ (c 1).val = 1 ∨ (c 1).val = 2) with h | h | h <;> rw [h] <;> rfl
    rw [e, bits']
    refine if_congr ?_ rfl rfl
    simp only [decide_eq_true_eq]
    exact ⟨fun ⟨x, y⟩ => ⟨by omega, by omega, fun h0 => absurd h0 (by omega)⟩, fun ⟨x, y, _⟩ => ⟨by omega, by omega⟩⟩

/-- The lane of feature `e` in a pair's half. -/
abbrev lane (s : Fin 2) (e : Fin 64) : Fin 128 := ⟨64 * s.val + e.val, by omega⟩

theorem sum_half (s : Fin 2) (f : Fin 128 → ℝ) : ∑ l : Fin 128, (if l.val / 64 = s.val then f l else 0) = ∑ e, f (lane s e) := by
  rw [← (finProdFinEquiv (m := 2) (n := 64)).sum_comp, Fintype.sum_prod_type, Finset.sum_eq_single s]
  · refine Finset.sum_congr rfl fun e _ => ?_
    have h : (finProdFinEquiv (m := 2) (n := 64) (s, e)) = lane s e := Fin.ext (by show e.val + 64 * s.val = _; simp [add_comm])
    rw [h, if_pos (by show (64 * s.val + e.val) / 64 = s.val; omega)]
  · intro s' _ hs
    refine Finset.sum_eq_zero fun e _ => if_neg fun h => hs (Fin.ext ?_)
    have h' : (e.val + 64 * s'.val) / 64 = s.val := h
    omega
  · exact fun h => absurd (Finset.mem_univ _) h

section Heads

variable {K V : Fin 256 → Fin 128 → ℝ} {Q G : Fin 128 → Fin 128 → ℝ} {L D : Fin 2 → Fin 128 → ℝ}
variable {q k v g : Fin 2 → Fin 16 → Fin 128 → Fin 64 → ℝ} {dl : Fin 2 → Fin 16 → Fin 128 → ℝ} {i : Fin 16}
variable (hK : ∀ s κ e, (i.val = 0 → 128 ≤ κ.val) → K κ (lane s e) = two (k s) i κ e) (hV : ∀ s κ e, (i.val = 0 → 128 ≤ κ.val) → V κ (lane s e) = two (v s) i κ e)
variable (hQ : ∀ s a e, Q a (lane s e) = q s i a e) (hG : ∀ s a e, G a (lane s e) = g s i a e)
variable (hL : ∀ s a, L s a = lse (q s) (k s) i a) (hD : ∀ s a, D s a = delta (q s) (k s) (v s) (g s) (dl s) i a)

include hK hQ hL in
theorem p_half (s : Fin 2) (a : Fin 128) (κ : Fin 256) :
    (if ok i a κ then Real.exp ((∑ e : Fin 128, (if e.val / 64 = s.val then Q a e else 0) * K κ e) * (1 / 8) - L s a) else 0) = w (q s) (k s) i a κ := by
  by_cases h : ok i a κ
  · rw [if_pos h]
    unfold w
    rw [← wt_of_log (z_pos i a), if_pos h, hL]
    simp only [ite_mul, zero_mul]
    rw [sum_half]
    simp only [hQ, hK s κ _ h.2.2]
    rfl
  · rw [if_neg h, w_not h]

include hK hV hQ hG hL hD in
theorem ds_half (s : Fin 2) (a : Fin 128) (κ : Fin 256) :
    ((if ok i a κ then Real.exp ((∑ e : Fin 128, (if e.val / 64 = s.val then Q a e else 0) * K κ e) * (1 / 8) - L s a) else 0)
      * ((∑ e : Fin 128, (if e.val / 64 = s.val then G a e else 0) * V κ e) - D s a) * (1 / 8)) = ds (q s) (k s) (v s) (g s) (dl s) i a κ := by
  rw [p_half hK hQ hL, hD]
  unfold ds
  by_cases h : ok i a κ
  · simp only [ite_mul, zero_mul]
    rw [sum_half]
    simp only [hG, hV s κ _ h.2.2]
    rfl
  · rw [w_not h, zero_mul, zero_mul, zero_mul, zero_mul]

variable {mk : IVec S128x256 1} {keys vals : FVec Ideal S256x128 .bf16} {x y : Vec Ideal S1x128x128 .bf16} {l0 d0 l1 d1 : Vec Ideal S1x128x1 .f32}
variable (hm : ∀ a κ, mk (ix2 a κ) = if ok i a κ then 1#1 else 0#1)
variable (hk : ∀ κ e, keys (ix2 κ e) = (K κ e : EReal)) (hv : ∀ κ e, vals (ix2 κ e) = (V κ e : EReal))
variable (hx : ∀ a e, x (ix3 0 a e) = (Q a e : EReal)) (hy : ∀ a e, y (ix3 0 a e) = (G a e : EReal))
variable (hl0 : ∀ a, l0 (ix3 0 a 0) = (L 0 a : EReal)) (hd0 : ∀ a, d0 (ix3 0 a 0) = (D 0 a : EReal))
variable (hl1 : ∀ a, l1 (ix3 0 a 0) = (L 1 a : EReal)) (hd1 : ∀ a, d1 (ix3 0 a 0) = (D 1 a : EReal))

include hK hV hQ hG hL hD hm hk hv hx hy hl0 hd0 hl1 hd1

/-- The queries' gradient of one block. -/
theorem dqB_real (s : Fin 2) (a : Fin 128) (e : Fin 64) :
    dqB mk keys vals x y l0 d0 l1 d1 (ix3 0 a (lane s e)) = ((dq (q s) (k s) (v s) (g s) (dl s) i a e : ℝ) : EReal) := by
  have h0 := dq_real hm lo_eq hk hv hx hy hl0 hd0
  have h1 := dq_real hm hi_eq hk hv hx hy hl1 hd1
  have hlo := lo_eq
  unfold dqB k0_pay32
  generalize k0_pay29 mk keys vals (k0_pay14 x) (k0_pay15 y) k0_pay8 l0 d0 = u at *
  generalize k0_pay29 mk keys vals (k0_pay14 x) (k0_pay15 y) (k0_pay16 k0_pay8) l1 d1 = u' at *
  generalize k0_pay8 = sel at *
  pointwise []
  rw [h0, h1, hlo]
  simp only [ds_half hK hV hQ hG hL hD]
  have key : ∀ s' : Fin 2, s' = s → ((∑ κ, ds (q s') (k s') (v s') (g s') (dl s') i a κ * K κ (lane s e) : ℝ) : EReal) = (dq (q s) (k s) (v s) (g s) (dl s) i a e : ℝ) := by
    rintro _ rfl
    unfold dq
    congr 1
    refine Finset.sum_congr rfl fun κ _ => ?_
    by_cases h : ok i a κ
    · rw [hK _ _ _ h.2.2]
    · unfold ds; rw [w_not h, zero_mul, zero_mul, zero_mul, zero_mul]
  obtain rfl | rfl := (by omega : s = 0 ∨ s = 1)
  · rw [if_pos (by show (64 * 0 + e.val) / 64 = 0; omega)]; exact key 0 rfl
  · rw [if_neg (by show ¬ (64 * 1 + e.val) / 64 = 0; omega)]; exact key 1 rfl

/-- What one block gives its keys. -/
theorem dkB_real (s : Fin 2) (κ : Fin 256) (e : Fin 64) :
    dkB mk keys vals x y l0 d0 l1 d1 (ix2 κ (lane s e)) = ((dkk (q s) (k s) (v s) (g s) (dl s) i κ e : ℝ) : EReal) := by
  have h0 := dk_real hm lo_eq hk hv hx hy hl0 hd0
  have h1 := dk_real hm hi_eq hk hv hx hy hl1 hd1
  unfold dkB
  show dkH .. + dkH .. = _
  rw [h0, h1, ← EReal.coe_add]
  simp only [ds_half hK hV hQ hG hL hD]
  congr 1
  unfold dkk
  obtain rfl | rfl := (by omega : s = 0 ∨ s = 1)
  · simp only [if_pos (show (64 * (0 : Fin 2).val + e.val) / 64 = (0 : Fin 2).val by show (64 * 0 + e.val) / 64 = 0; omega), hQ,
      if_neg (show ¬ (64 * (0 : Fin 2).val + e.val) / 64 = (1 : Fin 2).val by show ¬ (64 * 0 + e.val) / 64 = 1; omega), mul_zero, Finset.sum_const_zero, add_zero]
  · simp only [if_pos (show (64 * (1 : Fin 2).val + e.val) / 64 = (1 : Fin 2).val by show (64 * 1 + e.val) / 64 = 1; omega), hQ,
      if_neg (show ¬ (64 * (1 : Fin 2).val + e.val) / 64 = (0 : Fin 2).val by show ¬ (64 * 1 + e.val) / 64 = 0; omega), mul_zero, Finset.sum_const_zero, zero_add]

/-- What one block gives its values. -/
theorem dvB_real (s : Fin 2) (κ : Fin 256) (e : Fin 64) :
    dvB mk keys x y l0 l1 (ix2 κ (lane s e)) = ((dvv (q s) (k s) (g s) i κ e : ℝ) : EReal) := by
  have h0 := dv_real hm lo_eq hk hx hy hl0
  have h1 := dv_real hm hi_eq hk hx hy hl1
  unfold dvB
  show dvH .. + dvH .. = _
  rw [h0, h1, ← EReal.coe_add]
  simp only [p_half hK hQ hL]
  congr 1
  unfold dvv
  obtain rfl | rfl := (by omega : s = 0 ∨ s = 1)
  · simp only [if_pos (show (64 * (0 : Fin 2).val + e.val) / 64 = (0 : Fin 2).val by show (64 * 0 + e.val) / 64 = 0; omega), hG,
      if_neg (show ¬ (64 * (0 : Fin 2).val + e.val) / 64 = (1 : Fin 2).val by show ¬ (64 * 0 + e.val) / 64 = 1; omega), mul_zero, Finset.sum_const_zero, add_zero]
  · simp only [if_pos (show (64 * (1 : Fin 2).val + e.val) / 64 = (1 : Fin 2).val by show (64 * 1 + e.val) / 64 = 1; omega), hG,
      if_neg (show ¬ (64 * (1 : Fin 2).val + e.val) / 64 = (0 : Fin 2).val by show ¬ (64 * 1 + e.val) / 64 = 0; omega), mul_zero, Finset.sum_const_zero, zero_add]

end Heads

end Cert.AttnIdeal.Pure
-- ==== Proof.AttnVal.lean ====
module

public import proofs.«01_k».proof.Proof.AttnHost
public import proofs.«01_k».proof.Proof.AttnPure

@[expose] public section

set_option maxRecDepth 16384

noncomputable section

namespace Cert.AttnIdeal.Val

open Cert.AttnIdeal Cert.AttnIdeal.Gen Idealize.ShloMosaic Idealize.ShloMosaic.StableHlo Idealize.ShloMosaic.TcCoe Idealize.SL.Sem
open Out Pure Pre
open Cert.AttnRefIdeal.Rd (blk blk1 Holds Holds1 rowBlk rowAt colHead colFeat tok)

/-! ## Where a point's blocks lie -/

/-- The residue class of a point. -/
abbrev cls (t : Fin cfg0.N) : Fin 4 := ⟨t.val / 4, by have := t.isLt; have e : cfg0.N = 16 := rfl; omega⟩

/-- The four blocks of a point, the last ones at the first point. -/
abbrev bk (t : Fin cfg0.N) (b : Fin 4) : Fin 16 := ⟨4 * (3 - t.val % 4) + b.val, by omega⟩

/-- A row of one of a point's blocks. -/
abbrev rw_ (t : Fin cfg0.N) (b : Fin 4) (a : Fin 128) : Fin 2048 := ⟨512 * (3 - t.val % 4) + 128 * b.val + a.val, by omega⟩

/-- A row of the block before a point's (of the first block where none is before). -/
abbrev rwP (t : Fin cfg0.N) (a : Fin 128) : Fin 2048 := ⟨128 * (4 * (3 - t.val % 4) - 1) + a.val, by omega⟩

/-- A row of a point's four blocks. -/
abbrev rwC (t : Fin cfg0.N) (a : Fin 512) : Fin 2048 := ⟨512 * (3 - t.val % 4) + a.val, by omega⟩

/-- A column of a pair of heads. -/
abbrev cl (p : Fin 4) (l : Fin 128) : Fin 512 := ⟨128 * p.val + l.val, by omega⟩

/-- A head's lane of the row numbers. -/
abbrev ln (h : Fin 8) : Fin 128 := ⟨16 * h.val, by omega⟩

theorem index0 : ∀ t : Fin cfg0.N, win0_0.index t 0 = t.val / 4 ∧ win0_0.index t 1 = 3 - t.val % 4 ∧ win0_0.index t 2 = 0 :=
  (by decide +kernel : ∀ t : Fin grid0.N, win0_0.index t 0 = t.val / 4 ∧ win0_0.index t 1 = 3 - t.val % 4 ∧ win0_0.index t 2 = 0)
theorem index1 : ∀ t : Fin cfg0.N, win0_1.index t 0 = t.val / 4 ∧ win0_1.index t 1 = 4 * (3 - t.val % 4) - 1 ∧ win0_1.index t 2 = 0 :=
  (by decide +kernel : ∀ t : Fin grid0.N, win0_1.index t 0 = t.val / 4 ∧ win0_1.index t 1 = 4 * (3 - t.val % 4) - 1 ∧ win0_1.index t 2 = 0)
theorem index2 : ∀ t : Fin cfg0.N, win0_2.index t 0 = t.val / 4 ∧ win0_2.index t 1 = 3 - t.val % 4 ∧ win0_2.index t 2 = 0 :=
  (by decide +kernel : ∀ t : Fin grid0.N, win0_2.index t 0 = t.val / 4 ∧ win0_2.index t 1 = 3 - t.val % 4 ∧ win0_2.index t 2 = 0)
theorem index3 : ∀ t : Fin cfg0.N, win0_3.index t 0 = t.val / 4 ∧ win0_3.index t 1 = 4 * (3 - t.val % 4) - 1 ∧ win0_3.index t 2 = 0 :=
  (by decide +kernel : ∀ t : Fin grid0.N, win0_3.index t 0 = t.val / 4 ∧ win0_3.index t 1 = 4 * (3 - t.val % 4) - 1 ∧ win0_3.index t 2 = 0)
theorem index4 : ∀ t : Fin cfg0.N, win0_4.index t 0 = t.val / 4 ∧ win0_4.index t 1 = 3 - t.val % 4 ∧ win0_4.index t 2 = 0 :=
  (by decide +kernel : ∀ t : Fin grid0.N, win0_4.index t 0 = t.val / 4 ∧ win0_4.index t 1 = 3 - t.val % 4 ∧ win0_4.index t 2 = 0)
theorem index5 : ∀ t : Fin cfg0.N, win0_5.index t 0 = t.val / 4 ∧ win0_5.index t 1 = 3 - t.val % 4 ∧ win0_5.index t 2 = 0 :=
  (by decide +kernel : ∀ t : Fin grid0.N, win0_5.index t 0 = t.val / 4 ∧ win0_5.index t 1 = 3 - t.val % 4 ∧ win0_5.index t 2 = 0)
theorem index6 : ∀ t : Fin cfg0.N, win0_6.index t 0 = t.val / 4 ∧ win0_6.index t 1 = 3 - t.val % 4 ∧ win0_6.index t 2 = 0 :=
  (by decide +kernel : ∀ t : Fin grid0.N, win0_6.index t 0 = t.val / 4 ∧ win0_6.index t 1 = 3 - t.val % 4 ∧ win0_6.index t 2 = 0)
theorem index7 : ∀ t : Fin cfg0.N, win0_7.index t 0 = t.val / 4 ∧ win0_7.index t 1 = 3 - t.val % 4 ∧ win0_7.index t 2 = 0 :=
  (by decide +kernel : ∀ t : Fin grid0.N, win0_7.index t 0 = t.val / 4 ∧ win0_7.index t 1 = 3 - t.val % 4 ∧ win0_7.index t 2 = 0)
theorem index8 : ∀ t : Fin cfg0.N, win0_8.index t 0 = t.val / 4 ∧ win0_8.index t 1 = 3 - t.val % 4 ∧ win0_8.index t 2 = 0 :=
  (by decide +kernel : ∀ t : Fin grid0.N, win0_8.index t 0 = t.val / 4 ∧ win0_8.index t 1 = 3 - t.val % 4 ∧ win0_8.index t 2 = 0)
theorem index9 : ∀ t : Fin cfg0.N, win0_9.index t 0 = t.val / 4 ∧ win0_9.index t 1 = 3 - t.val % 4 ∧ win0_9.index t 2 = 0 :=
  (by decide +kernel : ∀ t : Fin grid0.N, win0_9.index t 0 = t.val / 4 ∧ win0_9.index t 1 = 3 - t.val % 4 ∧ win0_9.index t 2 = 0)
theorem index10 : ∀ t : Fin cfg0.N, win0_10.index t 0 = t.val / 4 ∧ win0_10.index t 1 = 3 - t.val % 4 ∧ win0_10.index t 2 = 0 :=
  (by decide +kernel : ∀ t : Fin grid0.N, win0_10.index t 0 = t.val / 4 ∧ win0_10.index t 1 = 3 - t.val % 4 ∧ win0_10.index t 2 = 0)

theorem coord1 : ∀ t : Fin cfg0.N, (grid0.coords t 1).val = t.val % 4 :=
  (by decide +kernel : ∀ t : Fin grid0.N, (grid0.coords t 1).val = t.val % 4)

section Loads

variable {F : FTy → Type} [FloatOps F] [Named F]
variable (m : (ℓ : Loc nD τ sig) → Buf (Elt F) ℓ) (c : Dev nD) (t : Fin cfg0.N) (b p : Fin 4)

theorem lq_at (a l : Fin 128) : lq m c t b p (ix3 0 a l) = V m c main_v66 (ix3 (cls t) (rw_ t b a) (cl p l)) := by
  show View.read _ _ ((hs0_0 t).unread (iblk m c 0 t)) ((rB b p).emb (ix3 0 a l)) = _
  rw [(hs0_0 t).read_unread (Val := Elt F)]
  unfold iblk
  show V m c main_v66 ((win0_0.rect t).emb ((rB b p).emb (ix3 0 a l))) = _
  refine congrArg (V m c main_v66) ?_
  funext k
  refine Fin.ext ((win0_0.rect_emb_val t _ k).trans ?_)
  match k with
  | ⟨0, _⟩ => show win0_0.index t 0 * 1 + 0 = t.val / 4; rw [(index0 t).1]; omega
  | ⟨1, _⟩ => show win0_0.index t 1 * 512 + (128 * b.val + 1 * a.val) = 512 * (3 - t.val % 4) + 128 * b.val + a.val; rw [(index0 t).2.1]; omega
  | ⟨2, _⟩ => show win0_0.index t 2 * 512 + (128 * p.val + 1 * l.val) = 128 * p.val + l.val; rw [(index0 t).2.2]; omega

theorem lg_at (a l : Fin 128) : lg m c t b p (ix3 0 a l) = V m c main_v78 (ix3 (cls t) (rw_ t b a) (cl p l)) := by
  show View.read _ _ ((hs0_5 t).unread (iblk m c 5 t)) ((rB b p).emb (ix3 0 a l)) = _
  rw [(hs0_5 t).read_unread (Val := Elt F)]
  unfold iblk
  show V m c main_v78 ((win0_5.rect t).emb ((rB b p).emb (ix3 0 a l))) = _
  refine congrArg (V m c main_v78) ?_
  funext k
  refine Fin.ext ((win0_5.rect_emb_val t _ k).trans ?_)
  match k with
  | ⟨0, _⟩ => show win0_5.index t 0 * 1 + 0 = t.val / 4; rw [(index5 t).1]; omega
  | ⟨1, _⟩ => show win0_5.index t 1 * 512 + (128 * b.val + 1 * a.val) = 512 * (3 - t.val % 4) + 128 * b.val + a.val; rw [(index5 t).2.1]; omega
  | ⟨2, _⟩ => show win0_5.index t 2 * 512 + (128 * p.val + 1 * l.val) = 128 * p.val + l.val; rw [(index5 t).2.2]; omega

theorem lkp_at (a l : Fin 128) : lkp m c t p (ix3 0 a l) = V m c main_v70 (ix3 (cls t) (rwP t a) (cl p l)) := by
  show View.read _ _ ((hs0_1 t).unread (iblk m c 1 t)) ((rP p).emb (ix3 0 a l)) = _
  rw [(hs0_1 t).read_unread (Val := Elt F)]
  unfold iblk
  show V m c main_v70 ((win0_1.rect t).emb ((rP p).emb (ix3 0 a l))) = _
  refine congrArg (V m c main_v70) ?_
  funext k
  refine Fin.ext ((win0_1.rect_emb_val t _ k).trans ?_)
  match k with
  | ⟨0, _⟩ => show win0_1.index t 0 * 1 + 0 = t.val / 4; rw [(index1 t).1]; omega
  | ⟨1, _⟩ => show win0_1.index t 1 * 128 + (0 + 1 * a.val) = 128 * (4 * (3 - t.val % 4) - 1) + a.val; rw [(index1 t).2.1]; omega
  | ⟨2, _⟩ => show win0_1.index t 2 * 512 + (128 * p.val + 1 * l.val) = 128 * p.val + l.val; rw [(index1 t).2.2]; omega

theorem lvp_at (a l : Fin 128) : lvp m c t p (ix3 0 a l) = V m c main_v74 (ix3 (cls t) (rwP t a) (cl p l)) := by
  show View.read _ _ ((hs0_3 t).unread (iblk m c 3 t)) ((rP p).emb (ix3 0 a l)) = _
  rw [(hs0_3 t).read_unread (Val := Elt F)]
  unfold iblk
  show V m c main_v74 ((win0_3.rect t).emb ((rP p).emb (ix3 0 a l))) = _
  refine congrArg (V m c main_v74) ?_
  funext k
  refine Fin.ext ((win0_3.rect_emb_val t _ k).trans ?_)
  match k with
  | ⟨0, _⟩ => show win0_3.index t 0 * 1 + 0 = t.val / 4; rw [(index3 t).1]; omega
  | ⟨1, _⟩ => show win0_3.index t 1 * 128 + (0 + 1 * a.val) = 128 * (4 * (3 - t.val % 4) - 1) + a.val; rw [(index3 t).2.1]; omega
  | ⟨2, _⟩ => show win0_3.index t 2 * 512 + (128 * p.val + 1 * l.val) = 128 * p.val + l.val; rw [(index3 t).2.2]; omega

theorem lkc_at (a : Fin 512) (l : Fin 128) : lkc m c t p (ix3 0 a l) = V m c main_v70 (ix3 (cls t) (rwC t a) (cl p l)) := by
  show View.read _ _ ((hs0_2 t).unread (iblk m c 2 t)) ((rC p).emb (ix3 0 a l)) = _
  rw [(hs0_2 t).read_unread (Val := Elt F)]
  unfold iblk
  show V m c main_v70 ((win0_2.rect t).emb ((rC p).emb (ix3 0 a l))) = _
  refine congrArg (V m c main_v70) ?_
  funext k
  refine Fin.ext ((win0_2.rect_emb_val t _ k).trans ?_)
  match k with
  | ⟨0, _⟩ => show win0_2.index t 0 * 1 + 0 = t.val / 4; rw [(index2 t).1]; omega
  | ⟨1, _⟩ => show win0_2.index t 1 * 512 + (0 + 1 * a.val) = 512 * (3 - t.val % 4) + a.val; rw [(index2 t).2.1]; omega
  | ⟨2, _⟩ => show win0_2.index t 2 * 512 + (128 * p.val + 1 * l.val) = 128 * p.val + l.val; rw [(index2 t).2.2]; omega

theorem lvc_at (a : Fin 512) (l : Fin 128) : lvc m c t p (ix3 0 a l) = V m c main_v74 (ix3 (cls t) (rwC t a) (cl p l)) := by
  show View.read _ _ ((hs0_4 t).unread (iblk m c 4 t)) ((rC p).emb (ix3 0 a l)) = _
  rw [(hs0_4 t).read_unread (Val := Elt F)]
  unfold iblk
  show V m c main_v74 ((win0_4.rect t).emb ((rC p).emb (ix3 0 a l))) = _
  refine congrArg (V m c main_v74) ?_
  funext k
  refine Fin.ext ((win0_4.rect_emb_val t _ k).trans ?_)
  match k with
  | ⟨0, _⟩ => show win0_4.index t 0 * 1 + 0 = t.val / 4; rw [(index4 t).1]; omega
  | ⟨1, _⟩ => show win0_4.index t 1 * 512 + (0 + 1 * a.val) = 512 * (3 - t.val % 4) + a.val; rw [(index4 t).2.1]; omega
  | ⟨2, _⟩ => show win0_4.index t 2 * 512 + (128 * p.val + 1 * l.val) = 128 * p.val + l.val; rw [(index4 t).2.2]; omega

theorem ld_at (h : Fin 8) (a : Fin 128) : ld m c t b h (ix3 0 a 0) = V m c main_v83 (ix3 (cls t) (rw_ t b a) (ln h)) := by
  show View.read _ _ ((hs0_6 t).unread (iblk m c 6 t)) ((rL b h).emb (ix3 0 a 0)) = _
  rw [(hs0_6 t).read_unread (Val := Elt F)]
  unfold iblk
  show V m c main_v83 ((win0_6.rect t).emb ((rL b h).emb (ix3 0 a 0))) = _
  refine congrArg (V m c main_v83) ?_
  funext k
  refine Fin.ext ((win0_6.rect_emb_val t _ k).trans ?_)
  match k with
  | ⟨0, _⟩ => show win0_6.index t 0 * 1 + 0 = t.val / 4; rw [(index6 t).1]; omega
  | ⟨1, _⟩ => show win0_6.index t 1 * 512 + (128 * b.val + 1 * a.val) = 512 * (3 - t.val % 4) + 128 * b.val + a.val; rw [(index6 t).2.1]; omega
  | ⟨2, _⟩ => show win0_6.index t 2 * 128 + (16 * h.val + 1 * 0) = 16 * h.val; rw [(index6 t).2.2]; omega

theorem ll_at (h : Fin 8) (a : Fin 128) : ll m c t b h (ix3 0 a 0) = V m c main_v88 (ix3 (cls t) (rw_ t b a) (ln h)) := by
  show View.read _ _ ((hs0_7 t).unread (iblk m c 7 t)) ((rL b h).emb (ix3 0 a 0)) = _
  rw [(hs0_7 t).read_unread (Val := Elt F)]
  unfold iblk
  show V m c main_v88 ((win0_7.rect t).emb ((rL b h).emb (ix3 0 a 0))) = _
  refine congrArg (V m c main_v88) ?_
  funext k
  refine Fin.ext ((win0_7.rect_emb_val t _ k).trans ?_)
  match k with
  | ⟨0, _⟩ => show win0_7.index t 0 * 1 + 0 = t.val / 4; rw [(index7 t).1]; omega
  | ⟨1, _⟩ => show win0_7.index t 1 * 512 + (128 * b.val + 1 * a.val) = 512 * (3 - t.val % 4) + 128 * b.val + a.val; rw [(index7 t).2.1]; omega
  | ⟨2, _⟩ => show win0_7.index t 2 * 128 + (16 * h.val + 1 * 0) = 16 * h.val; rw [(index7 t).2.2]; omega

end Loads

end Cert.AttnIdeal.Val
-- ==== Proof.AttnFin.lean ====
module

public import proofs.«01_k».proof.Proof.AttnVal

@[expose] public section

set_option maxRecDepth 16384

noncomputable section

namespace Cert.AttnIdeal.Val

open Cert.AttnIdeal Cert.AttnIdeal.Gen Idealize.ShloMosaic Idealize.ShloMosaic.StableHlo Idealize.ShloMosaic.TcCoe Idealize.SL.Sem
open Out Pure Pre
open Cert.AttnRefIdeal.Rd (blk blk1 Holds Holds1 rowBlk rowAt colHead colFeat tok)

/-! ## What a point computes, as real numbers -/

/-- A head of a residue class: the block before (the first where none is before), then its own. -/
def near {n : ℕ} (k : Fin 16 → Fin 128 → Fin n → ℝ) (i : Fin 16) (κ : Fin 256) (e : Fin n) : ℝ :=
  if h : κ.val < 128 then k ⟨i.val - 1, by omega⟩ ⟨κ.val, h⟩ e else k i ⟨κ.val - 128, by omega⟩ e

theorem near_two (k : Fin 16 → Fin 128 → Fin 64 → ℝ) (i : Fin 16) (κ : Fin 256) (e : Fin 64) (h : i.val = 0 → 128 ≤ κ.val) : near k i κ e = AttnMath.two k i κ e := by
  unfold near AttnMath.two
  by_cases h1 : κ.val < 128
  · rw [dif_pos h1, dif_pos h1, dif_neg (by omega)]
  · rw [dif_neg h1, dif_neg h1]

/-- A pair's lane: its head and its feature. -/
abbrev lh (l : Fin 128) : Fin 2 := ⟨l.val / 64, by omega⟩
abbrev le (l : Fin 128) : Fin 64 := ⟨l.val % 64, by omega⟩

theorem lh_lane (s : Fin 2) (e : Fin 64) : lh (lane s e) = s := Fin.ext (show (64 * s.val + e.val) / 64 = s.val by omega)
theorem le_lane (s : Fin 2) (e : Fin 64) : le (lane s e) = e := Fin.ext (show (64 * s.val + e.val) % 64 = e.val by omega)

section Points

variable (m : (ℓ : Loc nD τ sig) → Buf (Elt Ideal) ℓ) (c : Dev nD)
variable {Q K W G : Fin 8192 → Fin 8 → Fin 64 → ℝ} {D : Fin 8192 → Fin 8 → ℝ}

/-- What the arrays that the call reads hold. -/
structure Reads : Prop where
  q : ∀ r t j, V m c main_v66 (ix3 r t j) = (blk Q r (colHead j) (rowBlk t) (rowAt t) (colFeat j) : EReal)
  k : ∀ r t j, V m c main_v70 (ix3 r t j) = (blk K r (colHead j) (rowBlk t) (rowAt t) (colFeat j) : EReal)
  v : ∀ r t j, V m c main_v74 (ix3 r t j) = (blk W r (colHead j) (rowBlk t) (rowAt t) (colFeat j) : EReal)
  g : ∀ r t j, V m c main_v78 (ix3 r t j) = (blk G r (colHead j) (rowBlk t) (rowAt t) (colFeat j) : EReal)
  d : ∀ r t l, V m c main_v83 (ix3 r t l) = (AttnMath.delta (blk Q r (laneHead l)) (blk K r (laneHead l)) (blk W r (laneHead l)) (blk G r (laneHead l)) (blk1 D r (laneHead l)) (rowBlk t) (rowAt t) : EReal)
  l : ∀ r t l, V m c main_v88 (ix3 r t l) = (AttnMath.lse (blk Q r (laneHead l)) (blk K r (laneHead l)) (rowBlk t) (rowAt t) : EReal)

variable (R : Reads m c (Q := Q) (K := K) (W := W) (G := G) (D := D)) (t : Fin cfg0.N) (b p : Fin 4)

theorem colHead_cl (l : Fin 128) : colHead (cl p l) = hd p (lh l) := Fin.ext (show (128 * p.val + l.val) / 64 = 2 * p.val + l.val / 64 by omega)
theorem colFeat_cl (l : Fin 128) : colFeat (cl p l) = le l := Fin.ext (show (128 * p.val + l.val) % 64 = l.val % 64 by omega)
theorem rowBlk_rw (a : Fin 128) : rowBlk (rw_ t b a) = bk t b := Fin.ext (show (512 * (3 - t.val % 4) + 128 * b.val + a.val) / 128 = 4 * (3 - t.val % 4) + b.val by omega)
theorem rowAt_rw (a : Fin 128) : rowAt (rw_ t b a) = a := Fin.ext (show (512 * (3 - t.val % 4) + 128 * b.val + a.val) % 128 = a.val by omega)
theorem laneHead_ln (h : Fin 8) : laneHead (ln h) = h := Fin.ext (show 16 * h.val / 16 = h.val by omega)

include R in
theorem q_at (a l : Fin 128) : lq m c t b p (ix3 0 a l) = (blk Q (cls t) (hd p (lh l)) (bk t b) a (le l) : EReal) := by
  rw [lq_at, R.q, colHead_cl, colFeat_cl, rowBlk_rw, rowAt_rw]

include R in
theorem g_at (a l : Fin 128) : lg m c t b p (ix3 0 a l) = (blk G (cls t) (hd p (lh l)) (bk t b) a (le l) : EReal) := by
  rw [lg_at, R.g, colHead_cl, colFeat_cl, rowBlk_rw, rowAt_rw]

include R in
theorem l_at (h : Fin 8) (a : Fin 128) : ll m c t b h (ix3 0 a 0) = (AttnMath.lse (blk Q (cls t) h) (blk K (cls t) h) (bk t b) a : EReal) := by
  rw [ll_at, R.l, laneHead_ln, rowBlk_rw, rowAt_rw]

include R in
theorem d_at (h : Fin 8) (a : Fin 128) : ld m c t b h (ix3 0 a 0) = (AttnMath.delta (blk Q (cls t) h) (blk K (cls t) h) (blk W (cls t) h) (blk G (cls t) h) (blk1 D (cls t) h) (bk t b) a : EReal) := by
  rw [ld_at, R.d, laneHead_ln, rowBlk_rw, rowAt_rw]

/-- The rows that block `b` reads, from the block before and a point's four blocks. -/
theorem rows2_at {f : Fin 16 → Fin 128 → Fin 128 → ℝ} (kp : Vec Ideal S1x128x128 .bf16) (kc : Vec Ideal S1x512x128 .bf16)
    (hp : ∀ a l, kp (ix3 0 a l) = (f (rowBlk (rwP t a)) (rowAt (rwP t a)) l : EReal)) (hc : ∀ a l, kc (ix3 0 a l) = (f (rowBlk (rwC t a)) (rowAt (rwC t a)) l : EReal)) (κ : Fin 256) (l : Fin 128) :
    rows2 kp kc b (ix2 κ l) = (near f (bk t b) κ l : EReal) := by
  unfold rows2 k0_pay11
  pointwise []
  unfold near
  by_cases h : 128 * b.val + κ.val < 128
  · rw [dif_pos h, hp, dif_pos (by omega : κ.val < 128)]
    congr 2
    congr 1
    · exact Fin.ext (show (128 * (4 * (3 - t.val % 4) - 1) + (128 * b.val + κ.val)) / 128 = 4 * (3 - t.val % 4) + b.val - 1 by omega)
    · exact Fin.ext (show (128 * (4 * (3 - t.val % 4) - 1) + (128 * b.val + κ.val)) % 128 = κ.val by omega)
  · rw [dif_neg h, hc]
    by_cases h' : κ.val < 128
    · rw [dif_pos h']
      congr 2
      congr 1
      · exact Fin.ext (show (512 * (3 - t.val % 4) + (128 * b.val + κ.val - 128)) / 128 = 4 * (3 - t.val % 4) + b.val - 1 by omega)
      · exact Fin.ext (show (512 * (3 - t.val % 4) + (128 * b.val + κ.val - 128)) % 128 = κ.val by omega)
    · rw [dif_neg h']
      congr 2
      congr 1
      · exact Fin.ext (show (512 * (3 - t.val % 4) + (128 * b.val + κ.val - 128)) / 128 = 4 * (3 - t.val % 4) + b.val by omega)
      · exact Fin.ext (show (512 * (3 - t.val % 4) + (128 * b.val + κ.val - 128)) % 128 = κ.val - 128 by omega)

/-- A pair of heads by lanes. -/
def pair (K : Fin 8192 → Fin 8 → Fin 64 → ℝ) (r : Fin 4) (p : Fin 4) (i : Fin 16) (a : Fin 128) (l : Fin 128) : ℝ := blk K r (hd p (lh l)) i a (le l)

theorem near_pair (K : Fin 8192 → Fin 8 → Fin 64 → ℝ) (r p : Fin 4) (i : Fin 16) (κ : Fin 256) (s : Fin 2) (e : Fin 64) :
    near (pair K r p) i κ (lane s e) = near (blk K r (hd p s)) i κ e := by
  unfold near pair
  simp only [lh_lane, le_lane]

include R in
theorem keys_at (κ : Fin 256) (l : Fin 128) : keys m c t b p (ix2 κ l) = (near (pair K (cls t) p) (bk t b) κ l : EReal) :=
  rows2_at t b _ _ (fun a l => by rw [lkp_at, R.k, colHead_cl, colFeat_cl]; rfl) (fun a l => by rw [lkc_at, R.k, colHead_cl, colFeat_cl]; rfl) κ l

include R in
theorem vals_at (κ : Fin 256) (l : Fin 128) : vals m c t b p (ix2 κ l) = (near (pair W (cls t) p) (bk t b) κ l : EReal) :=
  rows2_at t b _ _ (fun a l => by rw [lvp_at, R.v, colHead_cl, colFeat_cl]; rfl) (fun a l => by rw [lvc_at, R.v, colHead_cl, colFeat_cl]; rfl) κ l

/-- The mask of a point's block. -/
theorem mk_at (a : Fin 128) (κ : Fin 256) : mk t b (ix2 a κ) = if AttnMath.ok (bk t b) a κ then 1#1 else 0#1 := by
  have e := coord1 t
  unfold mk
  match b with
  | ⟨0, _⟩ => exact first_eq (grid0.coords t) _ (show 4 * (3 - t.val % 4) + 0 = 4 * (3 - (grid0.coords t 1).val) by rw [e, Nat.add_zero]) (by rw [e]; omega) a κ
  | ⟨n + 1, _⟩ => exact band_eq _ (show ¬ 4 * (3 - t.val % 4) + (n + 1) = 0 by omega) a κ

variable (s : Fin 2) (e : Fin 64)

/-- The gradients that the plain mathematics gives a head of a residue class. -/
abbrev gq (Q K W G : Fin 8192 → Fin 8 → Fin 64 → ℝ) (D : Fin 8192 → Fin 8 → ℝ) (r : Fin 4) (h : Fin 8) := AttnMath.dq (blk Q r h) (blk K r h) (blk W r h) (blk G r h) (blk1 D r h)
abbrev gk (Q K W G : Fin 8192 → Fin 8 → Fin 64 → ℝ) (D : Fin 8192 → Fin 8 → ℝ) (r : Fin 4) (h : Fin 8) := AttnMath.dkk (blk Q r h) (blk K r h) (blk W r h) (blk G r h) (blk1 D r h)
abbrev gv (Q K G : Fin 8192 → Fin 8 → Fin 64 → ℝ) (r : Fin 4) (h : Fin 8) := AttnMath.dvv (blk Q r h) (blk K r h) (blk G r h)

include R in
theorem dq_at (a : Fin 128) : dqP m c t b p (ix3 0 a (lane s e)) = (gq Q K W G D (cls t) (hd p s) (bk t b) a e : EReal) :=
  dqB_real (K := fun κ l => near (pair K (cls t) p) (bk t b) κ l) (V := fun κ l => near (pair W (cls t) p) (bk t b) κ l)
    (Q := fun a l => pair Q (cls t) p (bk t b) a l) (G := fun a l => pair G (cls t) p (bk t b) a l)
    (L := fun s a => AttnMath.lse (blk Q (cls t) (hd p s)) (blk K (cls t) (hd p s)) (bk t b) a)
    (D := fun s a => AttnMath.delta (blk Q (cls t) (hd p s)) (blk K (cls t) (hd p s)) (blk W (cls t) (hd p s)) (blk G (cls t) (hd p s)) (blk1 D (cls t) (hd p s)) (bk t b) a)
    (q := fun s => blk Q (cls t) (hd p s)) (k := fun s => blk K (cls t) (hd p s)) (v := fun s => blk W (cls t) (hd p s)) (g := fun s => blk G (cls t) (hd p s)) (dl := fun s => blk1 D (cls t) (hd p s))
    (fun s κ e h => (near_pair ..).trans (near_two _ _ _ _ h)) (fun s κ e h => (near_pair ..).trans (near_two _ _ _ _ h))
    (fun s a e => by unfold pair; rw [lh_lane, le_lane]) (fun s a e => by unfold pair; rw [lh_lane, le_lane]) (fun _ _ => rfl) (fun _ _ => rfl)
    (mk_at t b) (keys_at m c R t b p) (vals_at m c R t b p) (q_at m c R t b p) (g_at m c R t b p) (l_at m c R t b _) (d_at m c R t b _) (l_at m c R t b _) (d_at m c R t b _) s a e

include R in
theorem dk_at (κ : Fin 256) : dkP m c t b p (ix2 κ (lane s e)) = (gk Q K W G D (cls t) (hd p s) (bk t b) κ e : EReal) :=
  dkB_real (K := fun κ l => near (pair K (cls t) p) (bk t b) κ l) (V := fun κ l => near (pair W (cls t) p) (bk t b) κ l)
    (Q := fun a l => pair Q (cls t) p (bk t b) a l) (G := fun a l => pair G (cls t) p (bk t b) a l)
    (L := fun s a => AttnMath.lse (blk Q (cls t) (hd p s)) (blk K (cls t) (hd p s)) (bk t b) a)
    (D := fun s a => AttnMath.delta (blk Q (cls t) (hd p s)) (blk K (cls t) (hd p s)) (blk W (cls t) (hd p s)) (blk G (cls t) (hd p s)) (blk1 D (cls t) (hd p s)) (bk t b) a)
    (q := fun s => blk Q (cls t) (hd p s)) (k := fun s => blk K (cls t) (hd p s)) (v := fun s => blk W (cls t) (hd p s)) (g := fun s => blk G (cls t) (hd p s)) (dl := fun s => blk1 D (cls t) (hd p s))
    (fun s κ e h => (near_pair ..).trans (near_two _ _ _ _ h)) (fun s κ e h => (near_pair ..).trans (near_two _ _ _ _ h))
    (fun s a e => by unfold pair; rw [lh_lane, le_lane]) (fun s a e => by unfold pair; rw [lh_lane, le_lane]) (fun _ _ => rfl) (fun _ _ => rfl)
    (mk_at t b) (keys_at m c R t b p) (vals_at m c R t b p) (q_at m c R t b p) (g_at m c R t b p) (l_at m c R t b _) (d_at m c R t b _) (l_at m c R t b _) (d_at m c R t b _) s κ e

include R in
theorem dv_at (κ : Fin 256) : dvP m c t b p (ix2 κ (lane s e)) = (gv Q K G (cls t) (hd p s) (bk t b) κ e : EReal) :=
  dvB_real (K := fun κ l => near (pair K (cls t) p) (bk t b) κ l) (V := fun κ l => near (pair W (cls t) p) (bk t b) κ l)
    (Q := fun a l => pair Q (cls t) p (bk t b) a l) (G := fun a l => pair G (cls t) p (bk t b) a l)
    (L := fun s a => AttnMath.lse (blk Q (cls t) (hd p s)) (blk K (cls t) (hd p s)) (bk t b) a)
    (D := fun s a => AttnMath.delta (blk Q (cls t) (hd p s)) (blk K (cls t) (hd p s)) (blk W (cls t) (hd p s)) (blk G (cls t) (hd p s)) (blk1 D (cls t) (hd p s)) (bk t b) a)
    (q := fun s => blk Q (cls t) (hd p s)) (k := fun s => blk K (cls t) (hd p s)) (v := fun s => blk W (cls t) (hd p s)) (g := fun s => blk G (cls t) (hd p s)) (dl := fun s => blk1 D (cls t) (hd p s))
    (fun s κ e h => (near_pair ..).trans (near_two _ _ _ _ h)) (fun s κ e h => (near_pair ..).trans (near_two _ _ _ _ h))
    (fun s a e => by unfold pair; rw [lh_lane, le_lane]) (fun s a e => by unfold pair; rw [lh_lane, le_lane]) (fun _ _ => rfl) (fun _ _ => rfl)
    (mk_at t b) (keys_at m c R t b p) (vals_at m c R t b p) (q_at m c R t b p) (g_at m c R t b p) (l_at m c R t b _) (d_at m c R t b _) (l_at m c R t b _) (d_at m c R t b _) s κ e

/-! ## The results -/

/-- What a block gives, joined with what the block after it gives. -/
theorem whole_at (own : Fin 4 → Fin 4 → FVec Ideal S256x128 .f32) (cr : Fin 4 → FVec Ideal S128x128 .f32) (T : Fin 16 → Fin 256 → Fin 64 → ℝ)
    (ho : ∀ b κ, own b p (ix2 κ (lane s e)) = (T (bk t b) κ e : EReal))
    (hc : ∀ a, cr p (ix2 a (lane s e)) = ((if h : (bk t 3).val + 1 < 16 then T ⟨(bk t 3).val + 1, h⟩ ⟨a.val, by omega⟩ e else 0 : ℝ) : EReal)) (a : Fin 128) :
    whole own cr b p (ix3 0 a (lane s e)) = (AttnMath.join T (bk t b) a e : EReal) := by
  have hn : next own cr b p (ix2 a (lane s e)) = ((if h : (bk t b).val + 1 < 16 then T ⟨(bk t b).val + 1, h⟩ ⟨a.val, by omega⟩ e else 0 : ℝ) : EReal) := by
    have h1 : ∀ b b' : Fin 4, b'.val = b.val + 1 → early (own b' p) (ix2 a (lane s e)) = ((if h : (bk t b).val + 1 < 16 then T ⟨(bk t b).val + 1, h⟩ ⟨a.val, by omega⟩ e else 0 : ℝ) : EReal) := by
      intro b b' hb
      have hh : (bk t b).val + 1 < 16 := by show 4 * (3 - t.val % 4) + b.val + 1 < 16; omega
      rw [dif_pos hh]
      have h2 := ho b' ⟨a.val, by omega⟩
      have h3 : bk t b' = ⟨(bk t b).val + 1, hh⟩ := Fin.ext (show 4 * (3 - t.val % 4) + b'.val = 4 * (3 - t.val % 4) + b.val + 1 by omega)
      rw [← h3, ← h2]
      unfold early
      generalize own b' p = x
      pointwise []
    match b with
    | ⟨0, _⟩ => exact h1 0 1 rfl
    | ⟨1, _⟩ => exact h1 1 2 rfl
    | ⟨2, _⟩ => exact h1 2 3 rfl
    | ⟨3, _⟩ => exact hc a
  have hb := ho b
  unfold whole ownPlus k0_pay1
  generalize next own cr b p = y at *
  generalize own b p = x at *
  pointwise []
  refine (congrArg₂ (fun u w : EReal => u + w) (hb _) hn).trans ?_
  exact (EReal.coe_add _ _).symm

theorem kept_at (x : FVec Ideal S256x128 .f32) (a l : Fin 128) : kept x (ix2 a l) = x (ix2 ⟨a.val, by omega⟩ l) := by
  unfold kept early
  pointwise []

theorem zero_at (p : Fin 4) (x) : cr0 (F := Ideal) p x = ((0 : ℝ) : EReal) := by
  show Ideal.ofBits .f32 0x00000000#32 = _
  simp [Ideal.ofBits, Ideal.ieee]

include R in
theorem dqs_at (a : Fin 128) : (outsAt0 m c t.val t.isLt).1 ((rB b p).emb (ix3 0 a (lane s e))) = (gq Q K W G D (cls t) (hd p s) (bk t b) a e : EReal) := by
  have hq : (outsAt0 m c t.val t.isLt).1 = byBlocks (dqP m c t) := by
    by_cases h0 : t.val % 4 = 0
    · exact dq_A m c t h0
    · exact dq_B m c t h0
  rw [hq, byBlocks_emb, dq_at m c R t b p s e a]

include R in
/-- What the point before leaves: its first block's earlier half. -/
theorem dk_carry (h0 : ¬t.val % 4 = 0) (a : Fin 128) : crK (F := Ideal) (outsAt0 m c (t.val - 1) (Nat.lt_of_le_of_lt (Nat.sub_le _ _) t.isLt)).2.2.2.1 p (ix2 a (lane s e))
    = ((if h : (bk t 3).val + 1 < 16 then gk Q K W G D (cls t) (hd p s) ⟨(bk t 3).val + 1, h⟩ ⟨a.val, by omega⟩ e else 0 : ℝ) : EReal) := by
  have hN : cfg0.N = 16 := rfl
  have ht := t.isLt
  let t' : Fin cfg0.N := ⟨t.val - 1, by omega⟩
  have hk : (outsAt0 m c t'.val t'.isLt).2.2.2.1 = byPairs fun p => kept (dkP m c t' 0 p) := by
    by_cases h : t'.val % 4 = 0
    · exact dk_carryA m c t' h
    · exact dk_carryB m c t' h
  have hh : (bk t 3).val + 1 < 16 := by show 4 * (3 - t.val % 4) + 3 + 1 < 16; omega
  have hc : cls t' = cls t := Fin.ext (show (t.val - 1) / 4 = t.val / 4 by omega)
  have hb : bk t' 0 = ⟨(bk t 3).val + 1, hh⟩ := Fin.ext (show 4 * (3 - (t.val - 1) % 4) + 0 = 4 * (3 - t.val % 4) + 3 + 1 by omega)
  rw [dif_pos hh]
  show (outsAt0 m c t'.val t'.isLt).2.2.2.1 ((rS p).emb (ix2 a (lane s e))) = _
  rw [hk, byPairs_emb, kept_at, dk_at m c R t' 0 p s e, hc, hb]

include R in
theorem dks_at (a : Fin 128) : (outsAt0 m c t.val t.isLt).2.1 ((rB b p).emb (ix3 0 a (lane s e)))
    = (AttnMath.join (gk Q K W G D (cls t) (hd p s)) (bk t b) a e : EReal) := by
  by_cases h0 : t.val % 4 = 0
  · rw [dk_A m c t h0, byBlocks_emb]
    refine whole_at t b p s e _ _ (gk Q K W G D (cls t) (hd p s)) (fun b κ => dk_at m c R t b p s e κ) (fun a => ?_) a
    rw [dif_neg (show ¬ (bk t 3).val + 1 < 16 by show ¬ 4 * (3 - t.val % 4) + 3 + 1 < 16; omega)]
    exact zero_at _ _
  · rw [dk_B m c t h0 _ rfl, byBlocks_emb]
    exact whole_at t b p s e _ _ (gk Q K W G D (cls t) (hd p s)) (fun b κ => dk_at m c R t b p s e κ) (dk_carry m c R t p s e h0) a

include R in
/-- What the point before leaves: its first block's earlier half. -/
theorem dv_carry (h0 : ¬t.val % 4 = 0) (a : Fin 128) : crK (F := Ideal) (outsAt0 m c (t.val - 1) (Nat.lt_of_le_of_lt (Nat.sub_le _ _) t.isLt)).2.2.2.2 p (ix2 a (lane s e))
    = ((if h : (bk t 3).val + 1 < 16 then gv Q K G (cls t) (hd p s) ⟨(bk t 3).val + 1, h⟩ ⟨a.val, by omega⟩ e else 0 : ℝ) : EReal) := by
  have hN : cfg0.N = 16 := rfl
  have ht := t.isLt
  let t' : Fin cfg0.N := ⟨t.val - 1, by omega⟩
  have hk : (outsAt0 m c t'.val t'.isLt).2.2.2.2 = byPairs fun p => kept (dvP m c t' 0 p) := by
    by_cases h : t'.val % 4 = 0
    · exact dv_carryA m c t' h
    · exact dv_carryB m c t' h
  have hh : (bk t 3).val + 1 < 16 := by show 4 * (3 - t.val % 4) + 3 + 1 < 16; omega
  have hc : cls t' = cls t := Fin.ext (show (t.val - 1) / 4 = t.val / 4 by omega)
  have hb : bk t' 0 = ⟨(bk t 3).val + 1, hh⟩ := Fin.ext (show 4 * (3 - (t.val - 1) % 4) + 0 = 4 * (3 - t.val % 4) + 3 + 1 by omega)
  rw [dif_pos hh]
  show (outsAt0 m c t'.val t'.isLt).2.2.2.2 ((rS p).emb (ix2 a (lane s e))) = _
  rw [hk, byPairs_emb, kept_at, dv_at m c R t' 0 p s e, hc, hb]

include R in
theorem dvs_at (a : Fin 128) : (outsAt0 m c t.val t.isLt).2.2.1 ((rB b p).emb (ix3 0 a (lane s e)))
    = (AttnMath.join (gv Q K G (cls t) (hd p s)) (bk t b) a e : EReal) := by
  by_cases h0 : t.val % 4 = 0
  · rw [dv_A m c t h0, byBlocks_emb]
    refine whole_at t b p s e _ _ (gv Q K G (cls t) (hd p s)) (fun b κ => dv_at m c R t b p s e κ) (fun a => ?_) a
    rw [dif_neg (show ¬ (bk t 3).val + 1 < 16 by show ¬ 4 * (3 - t.val % 4) + 3 + 1 < 16; omega)]
    exact zero_at _ _
  · rw [dv_B m c t h0 _ rfl, byBlocks_emb]
    exact whole_at t b p s e _ _ (gv Q K G (cls t) (hd p s)) (fun b κ => dv_at m c R t b p s e κ) (dv_carry m c R t p s e h0) a

/-- Every place of a result lies in one block of one pair of heads of one point. -/
theorem places (r : Fin 4) (x : Fin 2048) (j : Fin 512) : ∃ (t : Fin cfg0.N) (b p : Fin 4) (s : Fin 2) (e : Fin 64) (a : Fin 128), r = cls t ∧ x = rw_ t b a ∧ j = cl p (lane s e) := by
  have hN : cfg0.N = 16 := rfl
  refine ⟨⟨4 * r.val + (3 - x.val / 512), by omega⟩, ⟨x.val % 512 / 128, by omega⟩, ⟨j.val / 128, by omega⟩, ⟨j.val % 128 / 64, by omega⟩, ⟨j.val % 64, by omega⟩, ⟨x.val % 128, by omega⟩, Fin.ext ?_, Fin.ext ?_, Fin.ext ?_⟩
  · show r.val = (4 * r.val + (3 - x.val / 512)) / 4; omega
  · show x.val = 512 * (3 - (4 * r.val + (3 - x.val / 512)) % 4) + 128 * (x.val % 512 / 128) + x.val % 128; omega
  · show j.val = 128 * (j.val / 128) + (64 * (j.val % 128 / 64) + j.val % 64); omega

theorem place8 (a : Fin 128) : (win0_8.rect t).emb ((rB b p).emb (ix3 0 a (lane s e))) = ix3 (cls t) (rw_ t b a) (cl p (lane s e)) := by
  funext k
  refine Fin.ext ((win0_8.rect_emb_val t _ k).trans ?_)
  match k with
  | ⟨0, _⟩ => show win0_8.index t 0 * 1 + 0 = t.val / 4; rw [(index8 t).1]; omega
  | ⟨1, _⟩ => show win0_8.index t 1 * 512 + (128 * b.val + 1 * a.val) = 512 * (3 - t.val % 4) + 128 * b.val + a.val; rw [(index8 t).2.1]; omega
  | ⟨2, _⟩ => show win0_8.index t 2 * 512 + (128 * p.val + 1 * (64 * s.val + e.val)) = 128 * p.val + (64 * s.val + e.val); rw [(index8 t).2.2]; omega

include R in
theorem final8 (r : Fin 4) (x : Fin 2048) (j : Fin 512) : (dats m 0 c).arrAt 8 cfg0.N (ix3 r x j) = (gq Q K W G D r (colHead j) (rowBlk x) (rowAt x) (colFeat j) : EReal) := by
  obtain ⟨t, b, p, s, e, a, rfl, rfl, rfl⟩ := places r x j
  have h := congrFun (Value.blocks8 m c t (flush0_8 t)) ((rB b p).emb (ix3 0 a (lane s e)))
  rw [Value.flushed8] at h
  rw [colHead_cl, colFeat_cl, rowBlk_rw, rowAt_rw, lh_lane, le_lane]
  refine Eq.trans ?_ (h.trans (dqs_at m c R t b p s e a))
  exact congrArg ((dats m 0 c).arrAt 8 cfg0.N) (place8 t b p s e a).symm

theorem place9 (a : Fin 128) : (win0_9.rect t).emb ((rB b p).emb (ix3 0 a (lane s e))) = ix3 (cls t) (rw_ t b a) (cl p (lane s e)) := by
  funext k
  refine Fin.ext ((win0_9.rect_emb_val t _ k).trans ?_)
  match k with
  | ⟨0, _⟩ => show win0_9.index t 0 * 1 + 0 = t.val / 4; rw [(index9 t).1]; omega
  | ⟨1, _⟩ => show win0_9.index t 1 * 512 + (128 * b.val + 1 * a.val) = 512 * (3 - t.val % 4) + 128 * b.val + a.val; rw [(index9 t).2.1]; omega
  | ⟨2, _⟩ => show win0_9.index t 2 * 512 + (128 * p.val + 1 * (64 * s.val + e.val)) = 128 * p.val + (64 * s.val + e.val); rw [(index9 t).2.2]; omega

include R in
theorem final9 (r : Fin 4) (x : Fin 2048) (j : Fin 512) : (dats m 0 c).arrAt 9 cfg0.N (ix3 r x j) = (AttnMath.join (gk Q K W G D r (colHead j)) (rowBlk x) (rowAt x) (colFeat j) : EReal) := by
  obtain ⟨t, b, p, s, e, a, rfl, rfl, rfl⟩ := places r x j
  have h := congrFun (Value.blocks9 m c t (flush0_9 t)) ((rB b p).emb (ix3 0 a (lane s e)))
  rw [Value.flushed9] at h
  rw [colHead_cl, colFeat_cl, rowBlk_rw, rowAt_rw, lh_lane, le_lane]
  refine Eq.trans ?_ (h.trans (dks_at m c R t b p s e a))
  exact congrArg ((dats m 0 c).arrAt 9 cfg0.N) (place9 t b p s e a).symm

theorem place10 (a : Fin 128) : (win0_10.rect t).emb ((rB b p).emb (ix3 0 a (lane s e))) = ix3 (cls t) (rw_ t b a) (cl p (lane s e)) := by
  funext k
  refine Fin.ext ((win0_10.rect_emb_val t _ k).trans ?_)
  match k with
  | ⟨0, _⟩ => show win0_10.index t 0 * 1 + 0 = t.val / 4; rw [(index10 t).1]; omega
  | ⟨1, _⟩ => show win0_10.index t 1 * 512 + (128 * b.val + 1 * a.val) = 512 * (3 - t.val % 4) + 128 * b.val + a.val; rw [(index10 t).2.1]; omega
  | ⟨2, _⟩ => show win0_10.index t 2 * 512 + (128 * p.val + 1 * (64 * s.val + e.val)) = 128 * p.val + (64 * s.val + e.val); rw [(index10 t).2.2]; omega

include R in
theorem final10 (r : Fin 4) (x : Fin 2048) (j : Fin 512) : (dats m 0 c).arrAt 10 cfg0.N (ix3 r x j) = (AttnMath.join (gv Q K G r (colHead j)) (rowBlk x) (rowAt x) (colFeat j) : EReal) := by
  obtain ⟨t, b, p, s, e, a, rfl, rfl, rfl⟩ := places r x j
  have h := congrFun (Value.blocks10 m c t (flush0_10 t)) ((rB b p).emb (ix3 0 a (lane s e)))
  rw [Value.flushed10] at h
  rw [colHead_cl, colFeat_cl, rowBlk_rw, rowAt_rw, lh_lane, le_lane]
  refine Eq.trans ?_ (h.trans (dvs_at m c R t b p s e a))
  exact congrArg ((dats m 0 c).arrAt 10 cfg0.N) (place10 t b p s e a).symm

end Points

end Cert.AttnIdeal.Val
-- ==== Proof.AttnClaim.lean ====
module

public import proofs.«01_k».proof.Defs
public import proofs.«01_k».proof.Proof.Finite
public import proofs.«01_k».proof.Proof.AttnFin
public import proofs.«01_k».proof.Proof.Gen.Pre_finite_attn

@[expose] public section

set_option maxRecDepth 16384

noncomputable section

namespace Cert.AttnClaim

open Idealize.ShloMosaic Idealize.ShloMosaic.TcCoe Idealize.SL.Sem
open Cert.AttnRefIdeal.Rd (Holds Holds1)
open Cert.Finite (of_all both)

/-- The arguments that the precondition admits hold reals. -/
theorem reals [hp : Cert.Pre_finite_attn.Facts] {q k v g : FVec Ideal Cert.AttnIdeal.S1x8192x8x64 .f32} {d : FVec Ideal Cert.AttnIdeal.S1x8192x8 .f32}
    (h : Cert.Pre_finite_attn.fn (F := Ideal) q k v g d = fun _ => 1#1) : (∃ Q, Holds q Q) ∧ (∃ K, Holds k K) ∧ (∃ W, Holds v W) ∧ (∃ G, Holds g G) ∧ ∃ D, Holds1 d D := by
  have hx : ∀ x : FVec Ideal Cert.AttnIdeal.S1x8192x8x64 .f32, (∀ i, ∃ r : ℝ, x i = (r : EReal)) → ∃ X, Holds x X := fun x hx => by
    choose X hX using hx
    exact ⟨fun t h e => X (ix4 0 t h e), fun z t h e => by obtain rfl : z = 0 := Subsingleton.elim _ _; exact hX _⟩
  have hd : ∀ x : FVec Ideal Cert.AttnIdeal.S1x8192x8 .f32, (∀ i, ∃ r : ℝ, x i = (r : EReal)) → ∃ X, Holds1 x X := fun x hx => by
    choose X hX using hx
    exact ⟨fun t h => X (ix3 0 t h), fun z t h => by obtain rfl : z = 0 := Subsingleton.elim _ _; exact hX _⟩
  have h0 := congrFun h ix0
  unfold Cert.Pre_finite_attn.fn Cert.Pre_finite_attn.fn_part1 at h0
  dsimp only at h0
  haveI : Subsingleton Cert.Pre_finite_attn.S_.Idx := ⟨fun a b => funext fun i => i.elim0⟩
  obtain ⟨h0, h4⟩ := both h0
  obtain ⟨h0, h3⟩ := both h0
  obtain ⟨h0, h2⟩ := both h0
  obtain ⟨h0, h1⟩ := both h0
  exact ⟨hx q (of_all (fun _ => Finite.inf) h0), hx k (of_all (fun _ => Finite.inf) h1), hx v (of_all (fun _ => Finite.inf) h2), hx g (of_all (fun _ => Finite.inf) h3),
    hd d (of_all (fun _ => Finite.inf) h4)⟩

/-- A rank 3 array by its places. -/
theorem ext3 {n0 n1 n2 : ℕ} {α : Type} {f g : (⟨3, ![n0, n1, n2]⟩ : Shape).Idx → α} (h : ∀ r k l, f (ix3 r k l) = g (ix3 r k l)) : f = g := by
  funext y
  have e : y = ix3 (y 0) (y 1) (y 2) := by funext k; fin_cases k <;> rfl
  rw [e]
  exact h _ _ _

/-- The attention's three gradients, as the reference's derivative writes them. -/
theorem attn_algebraic : algebraic_AttnIdeal_AttnRefIdeal_pre_finite_attn (hAttnIdeal := Cert.AttnIdeal.Gen.facts) (hAttnRefIdeal := Cert.AttnRefIdeal.Gen.facts) (hPre_finite_attn := Cert.Pre_finite_attn.Gen.facts) := by
  intro m g m' g' hp hm
  refine ⟨_, _, _, Cert.AttnIdeal.Value.run_blocks m g, (θ_run _ _ _).mono (fun r h c => ?_) (Cert.AttnRefIdeal.Value.run m' g')⟩
  obtain ⟨h0, h1, h2, ha⟩ := h c
  obtain ⟨e0, e1, e2, e3, e4⟩ := hm c
  letI := Cert.Pre_finite_attn.Gen.facts
  obtain ⟨⟨Q, hq⟩, ⟨K, hk⟩, ⟨W, hv⟩, ⟨G, hg⟩, ⟨D, hd⟩⟩ := reals (hp c)
  let V0 := StableHlo.launchContents m' c
  have f0 : V0 (Proc.devRef .tc Cert.AttnRefIdeal.main_arg0) = m ((c : Thread Cert.AttnIdeal.nD Cert.AttnIdeal.τ).loc Cert.AttnIdeal.main_arg0) := e0
  have f1 : V0 (Proc.devRef .tc Cert.AttnRefIdeal.main_arg1) = m ((c : Thread Cert.AttnIdeal.nD Cert.AttnIdeal.τ).loc Cert.AttnIdeal.main_arg1) := e1
  have f2 : V0 (Proc.devRef .tc Cert.AttnRefIdeal.main_arg2) = m ((c : Thread Cert.AttnIdeal.nD Cert.AttnIdeal.τ).loc Cert.AttnIdeal.main_arg2) := e2
  have f3 : V0 (Proc.devRef .tc Cert.AttnRefIdeal.main_arg3) = m ((c : Thread Cert.AttnIdeal.nD Cert.AttnIdeal.τ).loc Cert.AttnIdeal.main_arg3) := e3
  have f4 : V0 (Proc.devRef .tc Cert.AttnRefIdeal.main_arg4) = m ((c : Thread Cert.AttnIdeal.nD Cert.AttnIdeal.τ).loc Cert.AttnIdeal.main_arg4) := e4
  have hq' : Holds (V0 (Proc.devRef .tc Cert.AttnRefIdeal.main_arg0)) Q := by rw [f0]; exact hq
  have hk' : Holds (V0 (Proc.devRef .tc Cert.AttnRefIdeal.main_arg1)) K := by rw [f1]; exact hk
  have hv' : Holds (V0 (Proc.devRef .tc Cert.AttnRefIdeal.main_arg2)) W := by rw [f2]; exact hv
  have hg' : Holds (V0 (Proc.devRef .tc Cert.AttnRefIdeal.main_arg3)) G := by rw [f3]; exact hg
  have hd' : Holds1 (V0 (Proc.devRef .tc Cert.AttnRefIdeal.main_arg4)) D := by rw [f4]; exact hd
  have R : Cert.AttnIdeal.Val.Reads m c (Q := Q) (K := K) (W := W) (G := G) (D := D) :=
    ⟨Cert.AttnIdeal.Pre.q_val m c V0 f0 hq', Cert.AttnIdeal.Pre.k_val m c V0 f1 hk', Cert.AttnIdeal.Pre.v_val m c V0 f2 hv', Cert.AttnIdeal.Pre.g_val m c V0 f3 hg',
      Cert.AttnIdeal.Pre.delta_val m c V0 f0 f1 f2 f3 f4 hq' hk' hv' hg' hd', Cert.AttnIdeal.Pre.lse_val m c V0 f0 f1 hq' hk'⟩
  refine ⟨h0.trans ?_, h1.trans ?_, h2.trans ?_, ha⟩
  · exact ext3 fun r t j => (Cert.AttnRefIdeal.Rd.outQ V0 (hq := hq') (hk := hk') (hv := hv') (hg := hg') (hd := hd') (r := r) (t := t) (c := j)).trans (Cert.AttnIdeal.Val.final8 m c R r t j).symm
  · exact ext3 fun r t j => (Cert.AttnRefIdeal.Rd.outK V0 (hq := hq') (hk := hk') (hv := hv') (hg := hg') (hd := hd') (r := r) (t := t) (c := j)).trans (Cert.AttnIdeal.Val.final9 m c R r t j).symm
  · exact ext3 fun r t j => (Cert.AttnRefIdeal.Rd.outV V0 (hq := hq') (hk := hk') (hg := hg') (r := r) (t := t) (c := j)).trans (Cert.AttnIdeal.Val.final10 m c R r t j).symm

/-- The attention's reference leaves its arguments as they are; it declares no semaphore. -/
theorem attn_ref_frame : quiescent_AttnRefIdeal (hAttnRefIdeal := Cert.AttnRefIdeal.Gen.facts) := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

end Cert.AttnClaim
-- ==== Proof.At.lean ====
module

public import proofs.«01_k».proof.Proof.Base

@[expose] public section

namespace Cert.Base

open Idealize.ShloMosaic

/-- Two places of a matrix are one where the first is on every axis the block's number times its size plus a place in the block, the block is the one of `q` rows of blocks before and of no columns before, and the second is that place. -/
theorem at2 {n0 n1 : Nat} {x y : (⟨2, ![n0, n1]⟩ : Shape).Idx} {i b z : Fin 2 → Nat} {q : Nat} (h : ∀ a, (x a).val = i a * b a + z a)
    (e : i 0 = q ∧ i 1 = 0) (h0 : b 0 * q + z 0 = (y 0).val) (h1 : z 1 = (y 1).val) : x = y := by
  funext a
  refine Fin.ext ((h a).trans ?_)
  match a with
  | ⟨0, _⟩ => exact (show i 0 * b 0 + z 0 = b 0 * q + z 0 by rw [e.1, Nat.mul_comm]).trans h0
  | ⟨1, _⟩ => exact (show i 1 * b 1 + z 1 = z 1 by rw [e.2, Nat.zero_mul, Nat.zero_add]).trans h1

/-- The same of an array of three axes, whose block is one of none before on the last. -/
theorem at3 {n0 n1 n2 : Nat} {x y : (⟨3, ![n0, n1, n2]⟩ : Shape).Idx} {i b z : Fin 3 → Nat} {p q : Nat} (h : ∀ a, (x a).val = i a * b a + z a)
    (e : i 0 = p ∧ i 1 = q ∧ i 2 = 0) (h0 : b 0 * p + z 0 = (y 0).val) (h1 : b 1 * q + z 1 = (y 1).val) (h2 : z 2 = (y 2).val) : x = y := by
  funext a
  refine Fin.ext ((h a).trans ?_)
  match a with
  | ⟨0, _⟩ => exact (show i 0 * b 0 + z 0 = b 0 * p + z 0 by rw [e.1, Nat.mul_comm]).trans h0
  | ⟨1, _⟩ => exact (show i 1 * b 1 + z 1 = b 1 * q + z 1 by rw [e.2.1, Nat.mul_comm]).trans h1
  | ⟨2, _⟩ => exact (show i 2 * b 2 + z 2 = z 2 by rw [e.2.2, Nat.zero_mul, Nat.zero_add]).trans h2

/-- Two arrays of three axes are equal where all their entries are. -/
theorem ext3 {n0 n1 n2 : Nat} {α : Type} {f g : (⟨3, ![n0, n1, n2]⟩ : Shape).Idx → α} (h : ∀ l r k, f (ix3 l r k) = g (ix3 l r k)) : f = g := by
  funext i
  rw [eq_ix3 i]
  exact h _ _ _

end Cert.Base
-- ==== Proof.ConvPure.lean ====
module

public import proofs.«01_k».proof.Defs
public import proofs.«01_k».proof.Proof.Gen.ConvIdeal.Skeleton
public import proofs.«01_k».proof.Proof.Base

@[expose] public section

set_option maxRecDepth 16384

noncomputable section

namespace Cert.ConvIdeal.Pure

open Cert.ConvIdeal Cert.ConvIdeal.Gen Idealize.ShloMosaic

open Base

/-- The cotangent of the normalised row, from that of the modulated row. -/
def wrow (g sc d : Fin 1024 → EReal) (j : Fin 1024) : EReal := d j * (1 + sc j) * g j

/-- A row of a matrix. -/
abbrev rowOf {n d : Nat} (v : (⟨2, ![n, d]⟩ : Shape).Idx → EReal) (r : Fin n) (k : Fin d) : EReal := v (ix2 r k)

theorem p7 (v3 : Vec Ideal S512x1024 .f32) (v4 : Vec Ideal S1x1024 .f32) (r : Fin 512) (j : Fin 1024) :
    k0_pay7 v3 v4 (ix2 r j) = v3 (ix2 r j) * (1 + v4 (ix2 0 j)) := by
  pointwise [k0_pay7]

theorem p8 (v3 : Vec Ideal S512x1024 .f32) (v12 : Vec Ideal S512x1024 .bf16) (z : Fin 1) (j : Fin 1024) :
    k0_pay8 v3 v12 (ix2 z j) = ∑ i, v3 (ix2 i j) * v12 (ix2 i j) := by
  pointwise [k0_pay8]

theorem p9 (v3 : Vec Ideal S512x1024 .f32) (v4 : Vec Ideal S1x1024 .f32) (v18 : Vec Ideal S1024x1024 .bf16) (r : Fin 512) (j : Fin 1024) :
    k0_pay9 v3 v4 v18 (ix2 r j) = ∑ k, v3 (ix2 r k) * (1 + v4 (ix2 0 k)) * v18 (ix2 j k) := by
  unfold k0_pay9
  generalize h : k0_pay7 v3 v4 = x
  pointwise []
  subst h
  exact Finset.sum_congr rfl fun k _ => congrArg (· * v18 (ix2 j k)) (p7 v3 v4 r k)

theorem p11 (v21 : Vec Ideal S512x3072 .bf16) (r : Fin 512) (j : Fin 1024) :
    k0_pay11 v21 (ix2 r j) = v21 (ix2 r ⟨1024 + j.val, by omega⟩) := by
  pointwise [k0_pay11, k0_pay10]

theorem p12 (v21 : Vec Ideal S512x3072 .bf16) (r : Fin 512) (j : Fin 1024) :
    k0_pay12 v21 (ix2 r j) = v21 (ix2 r ⟨2048 + j.val, by omega⟩) := by
  pointwise [k0_pay12, k0_pay10]

theorem p13 (v3 : Vec Ideal S512x1024 .f32) (v4 : Vec Ideal S1x1024 .f32) (v18 : Vec Ideal S1024x1024 .bf16) (v21 : Vec Ideal S512x3072 .bf16) (r : Fin 512) (j : Fin 1024) :
    k0_pay13 v3 v4 v18 v21 (ix2 r j) = k0_pay9 v3 v4 v18 (ix2 r j) * v21 (ix2 r ⟨j.val, by omega⟩) := by
  unfold k0_pay13 k0_pay10
  generalize k0_pay9 v3 v4 v18 = x
  pointwise []

theorem p14 (v3 : Vec Ideal S512x1024 .f32) (v4 : Vec Ideal S1x1024 .f32) (v18 : Vec Ideal S1024x1024 .bf16) (v28 : Vec Ideal S512x1024 .bf16) (r : Fin 512) (j : Fin 1024) :
    k0_pay14 v3 v4 v18 v28 (ix2 r j) = k0_pay9 v3 v4 v18 (ix2 r j) * v28 (ix2 r j) := by
  unfold k0_pay14
  generalize k0_pay9 v3 v4 v18 = x
  pointwise []

theorem p15 (v3 : Vec Ideal S512x1024 .f32) (v4 : Vec Ideal S1x1024 .f32) (v18 : Vec Ideal S1024x1024 .bf16) (v21 : Vec Ideal S512x3072 .bf16) (r : Fin 512) (j : Fin 1024) :
    k0_pay15 v3 v4 v18 v21 (ix2 r j) = k0_pay13 v3 v4 v18 v21 (ix2 r j) := by
  unfold k0_pay15
  generalize k0_pay13 v3 v4 v18 v21 = x
  pointwise []

theorem p16 (v25 v26 v27 v35 v36 : FVec Ideal S512x1024 .f32) (r : Fin 8) (j : Fin 1024) :
    k0_pay16 v25 v26 v27 v35 v36 (ix2 r j) =
      if r.val < 1 then ∑ i, v36 (ix2 i j) * (v25 (ix2 i j) * v26 (ix2 i j)) else
      if r.val - 1 < 1 then ∑ i, v35 (ix2 i j) * (v25 (ix2 i j) * v26 (ix2 i j)) else
      if r.val - 1 - 1 < 1 then ∑ i, v27 (ix2 i j) * (v25 (ix2 i j) * v26 (ix2 i j)) else 0 := by
  pointwise [k0_pay16]
  rfl

/-- The cotangent of the convolution's input, at a row's entry, from three rows' cotangents of its output. -/
def dv (c0 c1 c2 d0 d1 d2 : EReal) : EReal := c2 * d0 + c1 * d1 + c0 * d2

theorem p17 (v25 v26 v27 v31 v35 v36 : FVec Ideal S512x1024 .f32) (v37 v41 v46 : Vec Ideal S1x1024 .f32) (r : Fin 512) (k : Fin 3072) :
    k0_pay17 v25 v26 v27 v31 v35 v36 v37 v41 v46 (ix2 r k) =
      if h : k.val < 1024 then v31 (ix2 r ⟨k.val, h⟩) else
      if h' : k.val - 1024 < 1024 then dv (v46 (ix2 0 ⟨k.val - 1024, by omega⟩)) (v41 (ix2 0 ⟨k.val - 1024, by omega⟩)) (v37 (ix2 0 ⟨k.val - 1024, by omega⟩))
        (v27 (ix2 r ⟨k.val - 1024, by omega⟩)) (v35 (ix2 r ⟨k.val - 1024, by omega⟩)) (v36 (ix2 r ⟨k.val - 1024, by omega⟩)) * v26 (ix2 r ⟨k.val - 1024, by omega⟩) else
      dv (v46 (ix2 0 ⟨k.val - 1024 - 1024, by omega⟩)) (v41 (ix2 0 ⟨k.val - 1024 - 1024, by omega⟩)) (v37 (ix2 0 ⟨k.val - 1024 - 1024, by omega⟩))
        (v27 (ix2 r ⟨k.val - 1024 - 1024, by omega⟩)) (v35 (ix2 r ⟨k.val - 1024 - 1024, by omega⟩)) (v36 (ix2 r ⟨k.val - 1024 - 1024, by omega⟩)) * v25 (ix2 r ⟨k.val - 1024 - 1024, by omega⟩) := by
  pointwise [k0_pay17]
  rfl

theorem p18 (v25 v26 v27 v31 v35 v36 : FVec Ideal S512x1024 .f32) (v37 v41 v46 : Vec Ideal S1x1024 .f32) (v68 : Vec Ideal S1024x3072 .bf16) (r : Fin 512) (j : Fin 1024) :
    k0_pay18 v25 v26 v27 v31 v35 v36 v37 v41 v46 v68 (ix2 r j) = ∑ k, k0_pay17 v25 v26 v27 v31 v35 v36 v37 v41 v46 (ix2 r k) * v68 (ix2 j k) := by
  unfold k0_pay18
  generalize k0_pay17 v25 v26 v27 v31 v35 v36 v37 v41 v46 = x
  pointwise []

theorem p23 (v70 : FVec Ideal S512x1024 .f32) (z : Fin 1) (j : Fin 1024) : k0_pay23 v70 (ix2 z j) = ∑ i, v70 (ix2 i j) := by
  pointwise [k0_pay23]

theorem p24 (v70 : FVec Ideal S512x1024 .f32) (v71 : Vec Ideal S512x1024 .f32) (v72 : Vec Ideal S1x1024 .f32) (z : Fin 1) (j : Fin 1024) :
    k0_pay24 v70 v71 v72 (ix2 z j) = ∑ i, nrm (rowOf v71 i) j * v72 (ix2 0 j) * v70 (ix2 i j) := by
  pointwise [k0_pay24, k0_pay22, k0_pay21, k0_pay20, k0_pay19]
  rfl

theorem p26 (v70 : FVec Ideal S512x1024 .f32) (v71 : Vec Ideal S512x1024 .f32) (v74 : Vec Ideal S1x1024 .f32) (z : Fin 1) (j : Fin 1024) :
    k0_pay26 v70 v71 v74 (ix2 z j) = ∑ i, nrm (rowOf v71 i) j * (v70 (ix2 i j) * (1 + v74 (ix2 0 j))) := by
  pointwise [k0_pay26, k0_pay25, k0_pay22, k0_pay21, k0_pay20, k0_pay19]
  rfl

theorem p1 (v3 v71 v70 : FVec Ideal S512x1024 .f32) (v72 v74 : Vec Ideal S1x1024 .f32) (r : Fin 512) (j : Fin 1024) :
    k0_pay1 v3 v71 (k0_pay28 v70 v71 v72 v74) (k0_pay29 v70 v71 v72 v74) (ix2 r j) =
      v3 (ix2 r j) + ngrad (rowOf v71 r) (wrow (rowOf v72 0) (rowOf v74 0) (rowOf v70 r)) j := by
  pointwise [k0_pay1, k0_pay29, k0_pay28, k0_pay27, k0_pay25, k0_pay22, k0_pay21, k0_pay20, k0_pay19]
  simp only [Finset.univ_unique, Finset.sum_singleton]
  rfl

theorem p2 (v17 v94 v97 v102 : FVec Ideal S1x1024 .f32) (r : Fin 8) (j : Fin 1024) :
    k0_pay2 v17 v94 v97 v102 (ix2 r j) =
      if r.val < 1 then v102 (ix2 0 j) else if r.val - 1 < 1 then v94 (ix2 0 j) else if r.val - 1 - 1 < 1 then v97 (ix2 0 j) else
      if r.val - 1 - 1 - 1 < 1 then v17 (ix2 0 j) else 0 := by
  have e : ∀ (v : FVec Ideal S1x1024 .f32) (z : Fin 1), v (ix2 z j) = v (ix2 0 j) := fun v z => by rw [Subsingleton.elim z 0]
  pointwise [k0_pay2]
  split_ifs <;> first | exact e _ _ | rfl

theorem p3 (v17 v94 v97 v102 : FVec Ideal S1x1024 .f32) (w : Vec Ideal S8x1024 .f32) (r : Fin 8) (j : Fin 1024) :
    k0_pay3 v17 v94 v97 v102 w (ix2 r j) = w (ix2 r j) + k0_pay2 v17 v94 v97 v102 (ix2 r j) := by
  unfold k0_pay3
  generalize k0_pay2 v17 v94 v97 v102 = z
  pointwise []

theorem p4 (v : FVec Ideal S8x1024 .f32) (w : Vec Ideal S8x1024 .f32) (r : Fin 8) (j : Fin 1024) :
    k0_pay4 v w (ix2 r j) = w (ix2 r j) + v (ix2 r j) := by
  pointwise [k0_pay4]

theorem p5 (w : Vec Ideal S8x1024 .f32) : k0_pay5 w = w := ext2 fun r j => by pointwise [k0_pay5]

theorem p6 : k0_pay6 (F := Ideal) = fun _ => 0 := ext2 fun r j => by pointwise [k0_pay6]

end Cert.ConvIdeal.Pure
-- ==== Proof.ConvOut.lean ====
module

public import proofs.«01_k».proof.Proof.Gen.ConvIdeal.Value
public import proofs.«01_k».proof.Proof.ConvPure
public import Idealize.ShloMosaic.Lib.WritesUnit

@[expose] public section

set_option maxRecDepth 16384

noncomputable section

namespace Cert.ConvIdeal.Out

open Cert.ConvIdeal Cert.ConvIdeal.Gen Idealize.ShloMosaic Idealize.ShloMosaic.TcCoe

section Rows
variable {sig' : RefSig} {κ : Kind} {sp : Space} {N n k D : ℕ}

/-- Rows of a buffer from `d` on: its first `n` rows hold `w`, the `k` after them `u`. -/
def sh (d : ℕ) (hd : d ≤ k) (w : (⟨2, ![n, D]⟩ : Shape).Idx → EReal) (u : (⟨2, ![k, D]⟩ : Shape).Idx → EReal) (y : (⟨2, ![n, D]⟩ : Shape).Idx) : EReal :=
  if h : d + (y 0).val < n then w (ix2 ⟨d + (y 0).val, h⟩ (y 1)) else
    u (ix2 ⟨d + (y 0).val - n, by have : (y 0).val < n := (y 0).isLt; show _ < k; omega⟩ (y 1))

/-- The rows after the first `n`. -/
def hi (hN : n + k = N) (xs : (⟨2, ![N, D]⟩ : Shape).Idx → EReal) (y : (⟨2, ![k, D]⟩ : Shape).Idx) : EReal :=
  xs (ix2 ⟨n + (y 0).val, by have : (y 0).val < k := (y 0).isLt; show _ < N; omega⟩ (y 1))

/-- The first `k` rows of a block. -/
def top (hk : k ≤ n) (w : (⟨2, ![n, D]⟩ : Shape).Idx → EReal) (y : (⟨2, ![k, D]⟩ : Shape).Idx) : EReal :=
  w (ix2 ⟨(y 0).val, lt_of_lt_of_le (y 0).isLt hk⟩ (y 1))

variable (v : View sig' κ sp (⟨2, ![N, D]⟩ : Shape) .f32) (f : v.ty.Contents (Elt Ideal))
variable (w : (⟨2, ![n, D]⟩ : Shape).Idx → EReal) (u : (⟨2, ![k, D]⟩ : Shape).Idx → EReal)

abbrev pc (o n : ℕ) (inb : ∀ a : Fin 2, (![o, 0] : Fin 2 → ℕ) a + (![n, D] : Fin 2 → ℕ) a ≤ (![N, D] : Fin 2 → ℕ) a) (w : (⟨2, ![n, D]⟩ : Shape).Idx → EReal) :
    View.Piece (Elt Ideal) (⟨2, ![N, D]⟩ : Shape) .f32 := ⟨Rect.unit (s := ⟨2, ![N, D]⟩) ![o, 0] ![n, D] inb, w⟩

/-- A load from row `d` on of a buffer whose first `n` rows have just been written. -/
theorem load_over (hN : n + k = N) (d : ℕ) (hd : d ≤ k) (inw) (inb : ∀ a : Fin 2, (![d, 0] : Fin 2 → ℕ) a + (![n, D] : Fin 2 → ℕ) a ≤ (![N, D] : Fin 2 → ℕ) a) (L)
    (h : ∀ y, u y = v.read (Elt Ideal) (v.writes (Elt Ideal) f L) (ix2 ⟨n + (y 0).val, by have : (y 0).val < k := (y 0).isLt; show _ < N; omega⟩ (y 1))) :
    View.readAt (Elt Ideal) v (Rect.unit (s := ⟨2, ![N, D]⟩) ![d, 0] ![n, D] inb).toLoadRect (v.writes (Elt Ideal) f (pc 0 n inw w :: L)) = sh d hd w u := by
  funext y
  have hy : (y 0).val < n := (y 0).isLt
  show v.read (Elt Ideal) (v.writes (Elt Ideal) f _) ((Rect.unit (s := ⟨2, ![N, D]⟩) ![d, 0] ![n, D] inb).emb y) = _
  have e0 : (((Rect.unit (s := ⟨2, ![N, D]⟩) ![d, 0] ![n, D] inb).emb y) 0).val = d + (y 0).val := by show d + 1 * (y 0).val = _; omega
  have e1 : (((Rect.unit (s := ⟨2, ![N, D]⟩) ![d, 0] ![n, D] inb).emb y) 1).val = (y 1).val := by show 0 + 1 * (y 1).val = _; omega
  unfold sh
  split_ifs with h'
  · exact View.read_writes_cons_rows_of_mem v f inw w L _ (ix2 ⟨d + (y 0).val, h'⟩ (y 1)) rfl (e0.trans (Nat.zero_add _).symm) e1
  · refine (View.read_writes_cons_rows_of_not_mem (W := n) v f inw w L _ rfl rfl (Or.inr (by rw [e0]; omega))).trans ?_
    refine Eq.trans (congrArg _ ?_) (h _).symm
    funext a
    match a with
    | ⟨0, _⟩ => exact Fin.ext (e0.trans (by show d + (y 0).val = n + (d + (y 0).val - n); omega))
    | ⟨1, _⟩ => exact Fin.ext e1

theorem load_carried {M : Memref sig' κ sp (⟨2, ![N, D]⟩ : Shape) .f32} (hM : M.IsWhole) (xs : (⟨2, ![N, D]⟩ : Shape).Idx → EReal) (hN : n + k = N) (d : ℕ) (hd : d ≤ k) (inw)
    (inb : ∀ a : Fin 2, (![d, 0] : Fin 2 → ℕ) a + (![n, D] : Fin 2 → ℕ) a ≤ (![N, D] : Fin 2 → ℕ) a) :
    View.readAt (Elt Ideal) M.view (Rect.unit (s := ⟨2, ![N, D]⟩) ![d, 0] ![n, D] inb).toLoadRect (M.view.writes (Elt Ideal) (hM.unread xs) [pc 0 n inw w]) = sh d hd w (hi hN xs) :=
  load_over M.view _ w _ hN d hd inw inb [] fun _ => (congrFun (hM.read_unread (Val := Elt Ideal) xs) _).symm

theorem load_fresh (hN : n + k = N) (d : ℕ) (hd : d ≤ k) (inw inu) (inb : ∀ a : Fin 2, (![d, 0] : Fin 2 → ℕ) a + (![n, D] : Fin 2 → ℕ) a ≤ (![N, D] : Fin 2 → ℕ) a) :
    v.readCov [pc 0 n inw w, pc n k inu u] (Rect.unit (s := ⟨2, ![N, D]⟩) ![d, 0] ![n, D] inb).toLoadRect = sh d hd w u :=
  load_over v _ w u hN d hd inw inb [pc n k inu u] fun y => (View.read_writes_cons_rows_of_mem (Val := Elt Ideal) v v.junk inu u [] (ix2 ⟨n + (y 0).val, _⟩ (y 1)) y rfl rfl rfl).symm

theorem load_top (hk : k ≤ n) (inw) (inb : ∀ a : Fin 2, (![0, 0] : Fin 2 → ℕ) a + (![k, D] : Fin 2 → ℕ) a ≤ (![N, D] : Fin 2 → ℕ) a) (L) :
    v.readCov (pc 0 n inw w :: L) (Rect.unit (s := ⟨2, ![N, D]⟩) ![0, 0] ![k, D] inb).toLoadRect = top hk w := by
  funext y
  show v.read (Elt Ideal) (v.writes (Elt Ideal) v.junk _) ((Rect.unit (s := ⟨2, ![N, D]⟩) ![0, 0] ![k, D] inb).emb y) = _
  exact View.read_writes_cons_rows_of_mem v v.junk inw w L ((Rect.unit (s := ⟨2, ![N, D]⟩) ![0, 0] ![k, D] inb).emb y) (ix2 ⟨(y 0).val, lt_of_lt_of_le (y 0).isLt hk⟩ (y 1)) rfl
    (by show 0 + 1 * (y 0).val = 0 + (y 0).val; omega) (by show 0 + 1 * (y 1).val = (y 1).val; omega)

theorem hi_written (hN : n + k = N) (inu) (L) : hi hN (v.read (Elt Ideal) (v.writes (Elt Ideal) f (pc n k inu u :: L))) = u :=
  funext fun y => View.read_writes_cons_rows_of_mem v f inu u L _ y rfl rfl rfl
end Rows

section Loads
variable (m : (ℓ : Loc nD τ sig) → Buf (Elt Ideal) ℓ) (c : Dev nD) (t : Fin cfg0.N)

/-- A row of the block of vectors. -/
abbrev row (k : ℕ) (inb : ∀ a, (![k, 0] : Fin 2 → ℕ) a + S1x1024.size a ≤ S8x1024.size a) (X : Vec Ideal S8x1024 .f32) : Vec Ideal S1x1024 .f32 :=
  View.ld (Val := Elt Ideal) (e' := .f32) X (Rect.unit ![k, 0] S1x1024.size inb)

abbrev bO : Vec Ideal S512x1024 .f32 := iblk m c 0 t
abbrev bX : Vec Ideal S512x1024 .f32 := iblk m c 1 t
abbrev bY : Vec Ideal S512x1024 .bf16 := iblk m c 2 t
abbrev bB : Vec Ideal S512x3072 .bf16 := iblk m c 3 t
abbrev bC : Vec Ideal S512x1024 .bf16 := iblk m c 4 t
abbrev vG : Vec Ideal S1x1024 .f32 := row 0 inb_S8x1024_S1x1024_0_0 (iblk m c 5 t)
abbrev vS : Vec Ideal S1x1024 .f32 := row 2 inb_S8x1024_S1x1024_2_0 (iblk m c 5 t)
abbrev vA : Vec Ideal S1x1024 .f32 := row 3 inb_S8x1024_S1x1024_3_0 (iblk m c 5 t)
abbrev w0 : Vec Ideal S1x1024 .f32 := row 0 inb_S8x1024_S1x1024_0_0 (iblk m c 6 t)
abbrev w1 : Vec Ideal S1x1024 .f32 := row 1 inb_S8x1024_S1x1024_1_0 (iblk m c 6 t)
abbrev w2 : Vec Ideal S1x1024 .f32 := row 2 inb_S8x1024_S1x1024_2_0 (iblk m c 6 t)
abbrev wI : Vec Ideal S1024x3072 .bf16 := iblk m c 7 t
abbrev wO : Vec Ideal S1024x1024 .bf16 := iblk m c 8 t

/-- A block's cotangent of the convolution's output, and the rows one and two further on, `nx` following the block. -/
abbrev dc0 : FVec Ideal S512x1024 .f32 := k0_pay13 (bO m c t) (vA m c t) (wO m c t) (bB m c t)
abbrev dc1 (nx : FVec Ideal S8x1024 .f32) : FVec Ideal S512x1024 .f32 := sh (n := 512) (k := 8) (D := 1024) 1 (by decide) (k0_pay15 (bO m c t) (vA m c t) (wO m c t) (bB m c t)) nx
abbrev dc2 (nx : FVec Ideal S8x1024 .f32) : FVec Ideal S512x1024 .f32 := sh (n := 512) (k := 8) (D := 1024) 2 (by decide) (k0_pay15 (bO m c t) (vA m c t) (wO m c t) (bB m c t)) nx

/-- A block's gradient of the product before the gates. -/
abbrev dB (nx : FVec Ideal S8x1024 .f32) : FVec Ideal S512x3072 .bf16 :=
  k0_pay17 (k0_pay11 (bB m c t)) (k0_pay12 (bB m c t)) (dc0 m c t) (k0_pay14 (bO m c t) (vA m c t) (wO m c t) (bC m c t)) (dc1 m c t nx) (dc2 m c t nx) (w2 m c t) (w1 m c t) (w0 m c t)

/-- A block's cotangent of the modulated rows. -/
abbrev dH (nx : FVec Ideal S8x1024 .f32) : FVec Ideal S512x1024 .f32 :=
  k0_pay18 (k0_pay11 (bB m c t)) (k0_pay12 (bB m c t)) (dc0 m c t) (k0_pay14 (bO m c t) (vA m c t) (wO m c t) (bC m c t)) (dc1 m c t nx) (dc2 m c t nx) (w2 m c t) (w1 m c t) (w0 m c t) (wI m c t)

abbrev dX (nx : FVec Ideal S8x1024 .f32) : FVec Ideal S512x1024 .f32 :=
  k0_pay1 (bO m c t) (bX m c t) (k0_pay28 (dH m c t nx) (bX m c t) (vG m c t) (vS m c t)) (k0_pay29 (dH m c t nx) (bX m c t) (vG m c t) (vS m c t))

/-- A block's share of the vectors' gradients. -/
abbrev dP (nx : FVec Ideal S8x1024 .f32) : FVec Ideal S8x1024 .f32 :=
  k0_pay2 (k0_pay8 (bO m c t) (bY m c t)) (k0_pay23 (dH m c t nx)) (k0_pay24 (dH m c t nx) (bX m c t) (vG m c t)) (k0_pay26 (dH m c t nx) (bX m c t) (vS m c t))

/-- A block's share of the taps' gradients. -/
abbrev dW (nx : FVec Ideal S8x1024 .f32) : FVec Ideal S8x1024 .f32 :=
  k0_pay16 (k0_pay11 (bB m c t)) (k0_pay12 (bB m c t)) (dc0 m c t) (dc1 m c t nx) (dc2 m c t nx)

abbrev prev (h : 1 ≤ t.val) := outsAt0 m c (t.val - 1) (Nat.lt_of_le_of_lt (Nat.sub_le _ _) t.isLt)

/-- The loads of the blocks, and of the block of vectors. -/
theorem ldX {S : Shape} {e : EltTy} {M : Memref sig .tc .vmem S e} (hM : M.IsWhole) (X : S.Idx → Elt Ideal e) (r : Rect S) :
    View.readAt (Elt Ideal) M.view r.toLoadRect (hM.unread X) = View.ld (Val := Elt Ideal) (e' := e) X r := Base.readAt_ld hM X r

section A
variable (h0 : t.val % 16 = 0) (h1 : ¬1 ≤ t.val)

include h0 h1 in
theorem a9 : (outsAt0 m c t.val t.isLt).1 = dX m c t (k0_pay6 (F := Ideal)) := by
  rw [outsAt0_A m c t h0 h0 h1 h0 h1]
  dsimp only
  unfold out0_A_9
  rw [View.read_writes_junk_eq_canon]
  unfold kernelRun0_A
  dsimp only
  rw [View.canon_unit_zero Base.hz2]
  delta kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v35 kernelRun0_A.sl.v36 kernelRun0_A.sl.HS0_2
  rw [load_fresh (N := 520) (n := 512) (k := 8) (D := 1024) _ _ _ rfl 1 (by decide), load_fresh (N := 520) (n := 512) (k := 8) (D := 1024) _ _ _ rfl 2 (by decide)]
  simp only [Base.readAt_whole (hs0_0 t) _ Base.hz2, Base.readAt_whole (hs0_1 t) _ Base.hz2, Base.readAt_whole (hs0_2 t) _ Base.hz2, Base.readAt_whole (hs0_3 t) _ Base.hz2, Base.readAt_whole (hs0_4 t) _ Base.hz2, Base.readAt_whole (hs0_7 t) _ Base.hz2, Base.readAt_whole (hs0_8 t) _ Base.hz2, Base.readAt_whole (hs0_12 t) _ Base.hz2, Base.readAt_whole (hs0_13 t) _ Base.hz2, ldX]
  rfl

include h0 h1 in
theorem a10 : (outsAt0 m c t.val t.isLt).2.1 = k0_pay7 (bO m c t) (vA m c t) := by
  rw [outsAt0_A m c t h0 h0 h1 h0 h1]
  dsimp only
  unfold out0_A_10
  rw [View.read_writes_junk_eq_canon]
  unfold kernelRun0_A
  dsimp only
  rw [View.canon_unit_zero Base.hz2]
  simp only [Base.readAt_whole (hs0_0 t) _ Base.hz2, Base.readAt_whole (hs0_1 t) _ Base.hz2, Base.readAt_whole (hs0_2 t) _ Base.hz2, Base.readAt_whole (hs0_3 t) _ Base.hz2, Base.readAt_whole (hs0_4 t) _ Base.hz2, Base.readAt_whole (hs0_7 t) _ Base.hz2, Base.readAt_whole (hs0_8 t) _ Base.hz2, Base.readAt_whole (hs0_12 t) _ Base.hz2, Base.readAt_whole (hs0_13 t) _ Base.hz2, ldX]
  rfl

include h0 h1 in
theorem a11 : (outsAt0 m c t.val t.isLt).2.2.1 = dB m c t (k0_pay6 (F := Ideal)) := by
  rw [outsAt0_A m c t h0 h0 h1 h0 h1]
  dsimp only
  unfold out0_A_11
  rw [View.read_writes_junk_eq_canon]
  unfold kernelRun0_A
  dsimp only
  rw [View.canon_unit_zero Base.hz2]
  delta kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v35 kernelRun0_A.sl.v36 kernelRun0_A.sl.HS0_2
  rw [load_fresh (N := 520) (n := 512) (k := 8) (D := 1024) _ _ _ rfl 1 (by decide), load_fresh (N := 520) (n := 512) (k := 8) (D := 1024) _ _ _ rfl 2 (by decide)]
  simp only [Base.readAt_whole (hs0_0 t) _ Base.hz2, Base.readAt_whole (hs0_1 t) _ Base.hz2, Base.readAt_whole (hs0_2 t) _ Base.hz2, Base.readAt_whole (hs0_3 t) _ Base.hz2, Base.readAt_whole (hs0_4 t) _ Base.hz2, Base.readAt_whole (hs0_7 t) _ Base.hz2, Base.readAt_whole (hs0_8 t) _ Base.hz2, Base.readAt_whole (hs0_12 t) _ Base.hz2, Base.readAt_whole (hs0_13 t) _ Base.hz2, ldX]
  rfl

include h0 h1 in
theorem a12 : (outsAt0 m c t.val t.isLt).2.2.2.1 = dP m c t (k0_pay6 (F := Ideal)) := by
  rw [outsAt0_A m c t h0 h0 h1 h0 h1]
  dsimp only
  unfold out0_A_12
  rw [View.read_writes_junk_eq_canon]
  unfold kernelRun0_A
  dsimp only
  rw [View.canon_unit_zero Base.hz2]
  delta kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v35 kernelRun0_A.sl.v36 kernelRun0_A.sl.HS0_2
  rw [load_fresh (N := 520) (n := 512) (k := 8) (D := 1024) _ _ _ rfl 1 (by decide), load_fresh (N := 520) (n := 512) (k := 8) (D := 1024) _ _ _ rfl 2 (by decide)]
  simp only [Base.readAt_whole (hs0_0 t) _ Base.hz2, Base.readAt_whole (hs0_1 t) _ Base.hz2, Base.readAt_whole (hs0_2 t) _ Base.hz2, Base.readAt_whole (hs0_3 t) _ Base.hz2, Base.readAt_whole (hs0_4 t) _ Base.hz2, Base.readAt_whole (hs0_7 t) _ Base.hz2, Base.readAt_whole (hs0_8 t) _ Base.hz2, Base.readAt_whole (hs0_12 t) _ Base.hz2, Base.readAt_whole (hs0_13 t) _ Base.hz2, ldX]
  rfl

include h0 h1 in
theorem a13 : (outsAt0 m c t.val t.isLt).2.2.2.2.1 = dW m c t (k0_pay6 (F := Ideal)) := by
  rw [outsAt0_A m c t h0 h0 h1 h0 h1]
  dsimp only
  unfold out0_A_13
  rw [View.read_writes_junk_eq_canon]
  unfold kernelRun0_A
  dsimp only
  rw [View.canon_unit_zero Base.hz2]
  delta kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v35 kernelRun0_A.sl.v36 kernelRun0_A.sl.HS0_2
  rw [load_fresh (N := 520) (n := 512) (k := 8) (D := 1024) _ _ _ rfl 1 (by decide), load_fresh (N := 520) (n := 512) (k := 8) (D := 1024) _ _ _ rfl 2 (by decide)]
  simp only [Base.readAt_whole (hs0_0 t) _ Base.hz2, Base.readAt_whole (hs0_1 t) _ Base.hz2, Base.readAt_whole (hs0_2 t) _ Base.hz2, Base.readAt_whole (hs0_3 t) _ Base.hz2, Base.readAt_whole (hs0_4 t) _ Base.hz2, Base.readAt_whole (hs0_7 t) _ Base.hz2, Base.readAt_whole (hs0_8 t) _ Base.hz2, Base.readAt_whole (hs0_12 t) _ Base.hz2, Base.readAt_whole (hs0_13 t) _ Base.hz2, ldX]
  rfl

include h0 h1 in
/-- The first rows of the block's cotangent are left for the block before it. -/
theorem tailA : hi (N := 520) (n := 512) (k := 8) (D := 1024) rfl (outsAt0 m c t.val t.isLt).2.2.2.2.2 =
    k0_pay5 (F := Ideal) (top (n := 512) (k := 8) (D := 1024) (by decide) (k0_pay15 (bO m c t) (vA m c t) (wO m c t) (bB m c t))) := by
  rw [outsAt0_A m c t h0 h0 h1 h0 h1]
  dsimp only
  unfold sout0_A_0 kernelRun0_A
  dsimp only
  refine (hi_written (N := 520) (n := 512) (k := 8) (D := 1024) _ _ _ rfl _ _).trans (congrArg k0_pay5 ?_)
  delta kernelRun0_A.sl.v134 kernelRun0_A.sl.HS0_2
  refine (load_top (N := 520) (n := 512) (k := 8) (D := 1024) _ _ (by decide) _ _ _).trans ?_
  simp only [Base.readAt_whole (hs0_0 t) _ Base.hz2, Base.readAt_whole (hs0_3 t) _ Base.hz2, Base.readAt_whole (hs0_8 t) _ Base.hz2, ldX]
  rfl

end A

section B
variable (h0 : ¬t.val % 16 = 0) (h1 : 1 ≤ t.val)

include h0 h1 in
theorem b9 : (outsAt0 m c t.val t.isLt).1 = dX m c t (hi (N := 520) (n := 512) (k := 8) (D := 1024) rfl (prev m c t h1).2.2.2.2.2) := by
  rw [outsAt0_B m c t h0 h0 h1 h0 h1]
  dsimp only
  unfold out0_B_9
  rw [View.read_writes_junk_eq_canon]
  unfold kernelRun0_B
  dsimp only
  rw [View.canon_unit_zero Base.hz2]
  delta kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r kernelRun0_B.sl.v35 kernelRun0_B.sl.v36 kernelRun0_B.sl.HS0_1
  rw [load_carried (N := 520) (n := 512) (k := 8) (D := 1024) _ _ _ rfl 1 (by decide), load_carried (N := 520) (n := 512) (k := 8) (D := 1024) _ _ _ rfl 2 (by decide)]
  simp only [Base.readAt_whole (hs0_0 t) _ Base.hz2, Base.readAt_whole (hs0_1 t) _ Base.hz2, Base.readAt_whole (hs0_2 t) _ Base.hz2, Base.readAt_whole (hs0_3 t) _ Base.hz2, Base.readAt_whole (hs0_4 t) _ Base.hz2, Base.readAt_whole (hs0_7 t) _ Base.hz2, Base.readAt_whole (hs0_8 t) _ Base.hz2, Base.readAt_whole (hs0_12 t) _ Base.hz2, Base.readAt_whole (hs0_13 t) _ Base.hz2, ldX]
  rfl

include h0 h1 in
theorem b10 : (outsAt0 m c t.val t.isLt).2.1 = k0_pay7 (bO m c t) (vA m c t) := by
  rw [outsAt0_B m c t h0 h0 h1 h0 h1]
  dsimp only
  unfold out0_B_10
  rw [View.read_writes_junk_eq_canon]
  unfold kernelRun0_B
  dsimp only
  rw [View.canon_unit_zero Base.hz2]
  simp only [Base.readAt_whole (hs0_0 t) _ Base.hz2, Base.readAt_whole (hs0_1 t) _ Base.hz2, Base.readAt_whole (hs0_2 t) _ Base.hz2, Base.readAt_whole (hs0_3 t) _ Base.hz2, Base.readAt_whole (hs0_4 t) _ Base.hz2, Base.readAt_whole (hs0_7 t) _ Base.hz2, Base.readAt_whole (hs0_8 t) _ Base.hz2, Base.readAt_whole (hs0_12 t) _ Base.hz2, Base.readAt_whole (hs0_13 t) _ Base.hz2, ldX]
  rfl

include h0 h1 in
theorem b11 : (outsAt0 m c t.val t.isLt).2.2.1 = dB m c t (hi (N := 520) (n := 512) (k := 8) (D := 1024) rfl (prev m c t h1).2.2.2.2.2) := by
  rw [outsAt0_B m c t h0 h0 h1 h0 h1]
  dsimp only
  unfold out0_B_11
  rw [View.read_writes_junk_eq_canon]
  unfold kernelRun0_B
  dsimp only
  rw [View.canon_unit_zero Base.hz2]
  delta kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r kernelRun0_B.sl.v35 kernelRun0_B.sl.v36 kernelRun0_B.sl.HS0_1
  rw [load_carried (N := 520) (n := 512) (k := 8) (D := 1024) _ _ _ rfl 1 (by decide), load_carried (N := 520) (n := 512) (k := 8) (D := 1024) _ _ _ rfl 2 (by decide)]
  simp only [Base.readAt_whole (hs0_0 t) _ Base.hz2, Base.readAt_whole (hs0_1 t) _ Base.hz2, Base.readAt_whole (hs0_2 t) _ Base.hz2, Base.readAt_whole (hs0_3 t) _ Base.hz2, Base.readAt_whole (hs0_4 t) _ Base.hz2, Base.readAt_whole (hs0_7 t) _ Base.hz2, Base.readAt_whole (hs0_8 t) _ Base.hz2, Base.readAt_whole (hs0_12 t) _ Base.hz2, Base.readAt_whole (hs0_13 t) _ Base.hz2, ldX]
  rfl

include h0 h1 in
theorem b12 : (outsAt0 m c t.val t.isLt).2.2.2.1 = k0_pay3 (k0_pay8 (bO m c t) (bY m c t)) (k0_pay23 (dH m c t (hi (N := 520) (n := 512) (k := 8) (D := 1024) rfl (prev m c t h1).2.2.2.2.2))) (k0_pay24 (dH m c t (hi (N := 520) (n := 512) (k := 8) (D := 1024) rfl (prev m c t h1).2.2.2.2.2)) (bX m c t) (vG m c t)) (k0_pay26 (dH m c t (hi (N := 520) (n := 512) (k := 8) (D := 1024) rfl (prev m c t h1).2.2.2.2.2)) (bX m c t) (vS m c t)) (prev m c t h1).2.2.2.1 := by
  rw [outsAt0_B m c t h0 h0 h1 h0 h1]
  dsimp only
  unfold out0_B_12
  rw [View.read_writes_junk_eq_canon]
  unfold kernelRun0_B
  dsimp only
  rw [View.canon_unit_zero Base.hz2]
  delta kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r kernelRun0_B.sl.v35 kernelRun0_B.sl.v36 kernelRun0_B.sl.HS0_1
  rw [load_carried (N := 520) (n := 512) (k := 8) (D := 1024) _ _ _ rfl 1 (by decide), load_carried (N := 520) (n := 512) (k := 8) (D := 1024) _ _ _ rfl 2 (by decide)]
  simp only [Base.readAt_whole (hs0_0 t) _ Base.hz2, Base.readAt_whole (hs0_1 t) _ Base.hz2, Base.readAt_whole (hs0_2 t) _ Base.hz2, Base.readAt_whole (hs0_3 t) _ Base.hz2, Base.readAt_whole (hs0_4 t) _ Base.hz2, Base.readAt_whole (hs0_7 t) _ Base.hz2, Base.readAt_whole (hs0_8 t) _ Base.hz2, Base.readAt_whole (hs0_12 t) _ Base.hz2, Base.readAt_whole (hs0_13 t) _ Base.hz2, ldX]
  rfl

include h0 h1 in
theorem b13 : (outsAt0 m c t.val t.isLt).2.2.2.2.1 = k0_pay4 (dW m c t (hi (N := 520) (n := 512) (k := 8) (D := 1024) rfl (prev m c t h1).2.2.2.2.2)) (prev m c t h1).2.2.2.2.1 := by
  rw [outsAt0_B m c t h0 h0 h1 h0 h1]
  dsimp only
  unfold out0_B_13
  rw [View.read_writes_junk_eq_canon]
  unfold kernelRun0_B
  dsimp only
  rw [View.canon_unit_zero Base.hz2]
  delta kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r kernelRun0_B.sl.v35 kernelRun0_B.sl.v36 kernelRun0_B.sl.HS0_1
  rw [load_carried (N := 520) (n := 512) (k := 8) (D := 1024) _ _ _ rfl 1 (by decide), load_carried (N := 520) (n := 512) (k := 8) (D := 1024) _ _ _ rfl 2 (by decide)]
  simp only [Base.readAt_whole (hs0_0 t) _ Base.hz2, Base.readAt_whole (hs0_1 t) _ Base.hz2, Base.readAt_whole (hs0_2 t) _ Base.hz2, Base.readAt_whole (hs0_3 t) _ Base.hz2, Base.readAt_whole (hs0_4 t) _ Base.hz2, Base.readAt_whole (hs0_7 t) _ Base.hz2, Base.readAt_whole (hs0_8 t) _ Base.hz2, Base.readAt_whole (hs0_12 t) _ Base.hz2, Base.readAt_whole (hs0_13 t) _ Base.hz2, ldX]
  rfl

include h0 h1 in
/-- The first rows of the block's cotangent are left for the block before it. -/
theorem tailB : hi (N := 520) (n := 512) (k := 8) (D := 1024) rfl (outsAt0 m c t.val t.isLt).2.2.2.2.2 =
    k0_pay5 (F := Ideal) (top (n := 512) (k := 8) (D := 1024) (by decide) (k0_pay15 (bO m c t) (vA m c t) (wO m c t) (bB m c t))) := by
  rw [outsAt0_B m c t h0 h0 h1 h0 h1]
  dsimp only
  unfold sout0_B_0 kernelRun0_B
  dsimp only
  refine (hi_written (N := 520) (n := 512) (k := 8) (D := 1024) _ _ _ rfl _ _).trans (congrArg k0_pay5 ?_)
  delta kernelRun0_B.sl.v134 kernelRun0_B.sl.HS0_1
  refine (load_top (N := 520) (n := 512) (k := 8) (D := 1024) _ _ (by decide) _ _ _).trans ?_
  simp only [Base.readAt_whole (hs0_0 t) _ Base.hz2, Base.readAt_whole (hs0_3 t) _ Base.hz2, Base.readAt_whole (hs0_8 t) _ Base.hz2, ldX]
  rfl

end B

end Loads
end Cert.ConvIdeal.Out
-- ==== Proof.ConvSpec.lean ====
module

public import proofs.«01_k».proof.Proof.Base

@[expose] public section

noncomputable section

namespace Cert.ConvSpec

open Idealize.ShloMosaic Base

/-- What both programs compute with: the cotangent `O`, the rows `X`, the mixer's output `Y`, the product before the gates `B`, the convolution's
output `C`, the gate `A`, the norm's factor `G`, the scale `S`, the taps and the weights. -/
structure Args where
  O : Fin 8192 → Fin 1024 → EReal
  X : Fin 8192 → Fin 1024 → EReal
  Y : Fin 8192 → Fin 1024 → EReal
  B : Fin 8192 → Fin 3072 → EReal
  C : Fin 8192 → Fin 1024 → EReal
  A : Fin 1024 → EReal
  G : Fin 1024 → EReal
  S : Fin 1024 → EReal
  w0 : Fin 1024 → EReal
  w1 : Fin 1024 → EReal
  w2 : Fin 1024 → EReal
  WI : Fin 1024 → Fin 3072 → EReal
  WO : Fin 1024 → Fin 1024 → EReal

variable (a : Args)

/-- The three thirds of the columns. -/
def c0 (j : Fin 1024) : Fin 3072 := ⟨j.val, by omega⟩
def c1 (j : Fin 1024) : Fin 3072 := ⟨1024 + j.val, by omega⟩
def c2 (j : Fin 1024) : Fin 3072 := ⟨2048 + j.val, by omega⟩

/-- The cotangent of the mixer's output. -/
def dy (i : Fin 8192) (j : Fin 1024) : EReal := a.O i j * (1 + a.A j)

/-- The cotangent of the gated rows. -/
def dz (i : Fin 8192) (j : Fin 1024) : EReal := ∑ k, dy a i k * a.WO j k

/-- The cotangent of the convolution's output, zero after the last row. -/
def dc (i : Fin 8192) (j : Fin 1024) : EReal := dz a i j * a.B i (c0 j)
def dcE (n : ℕ) (j : Fin 1024) : EReal := if h : n < 8192 then dc a ⟨n, h⟩ j else 0

theorem dcE_of (i : Fin 8192) (j : Fin 1024) : dc a i j = dcE a i.val j := by
  unfold dcE
  rw [dif_pos i.isLt]

theorem dcE_out (n : ℕ) (h : ¬n < 8192) (j : Fin 1024) : dcE a n j = 0 := by
  unfold dcE
  rw [dif_neg h]

/-- The cotangent of the convolution's input. -/
def dvE (i : Fin 8192) (j : Fin 1024) : EReal := a.w2 j * dcE a i.val j + a.w1 j * dcE a (i.val + 1) j + a.w0 j * dcE a (i.val + 2) j

/-- The cotangent of the product before the gates. -/
def db (i : Fin 8192) (k : Fin 3072) : EReal :=
  if h : k.val < 1024 then dz a i ⟨k.val, h⟩ * a.C i ⟨k.val, h⟩ else
  if h' : k.val - 1024 < 1024 then dvE a i ⟨k.val - 1024, h'⟩ * a.B i (c2 ⟨k.val - 1024, h'⟩) else
  dvE a i ⟨k.val - 1024 - 1024, by omega⟩ * a.B i (c1 ⟨k.val - 1024 - 1024, by omega⟩)

/-- The cotangent of the modulated rows. -/
def dh (i : Fin 8192) (j : Fin 1024) : EReal := ∑ k, db a i k * a.WI j k

/-- The cotangent of the normalised row. -/
def wr (i : Fin 8192) (j : Fin 1024) : EReal := dh a i j * (1 + a.S j) * a.G j

def dx (i : Fin 8192) (j : Fin 1024) : EReal := a.O i j + ngrad (a.X i) (wr a i) j

/-- A row's share of the vectors' gradients. -/
def part (i : Fin 8192) (r : Fin 8) (j : Fin 1024) : EReal :=
  if r.val < 1 then nrm (a.X i) j * (dh a i j * (1 + a.S j)) else if r.val - 1 < 1 then dh a i j else
  if r.val - 1 - 1 < 1 then nrm (a.X i) j * a.G j * dh a i j else if r.val - 1 - 1 - 1 < 1 then a.O i j * a.Y i j else 0

/-- A row's share of the taps' gradients. -/
def taps (i : Fin 8192) (r : Fin 8) (j : Fin 1024) : EReal :=
  if r.val < 1 then dcE a (i.val + 2) j * (a.B i (c1 j) * a.B i (c2 j)) else
  if r.val - 1 < 1 then dcE a (i.val + 1) j * (a.B i (c1 j) * a.B i (c2 j)) else
  if r.val - 1 - 1 < 1 then dcE a i.val j * (a.B i (c1 j) * a.B i (c2 j)) else 0

/-- A sum of products with the first factor taken `d` rows further on is one with the second factor taken `d` rows back. -/
theorem shift_sum (N d : ℕ) (f v : Fin N → EReal) :
    (∑ i : Fin N, (if h : i.val + d < N then f ⟨i.val + d, h⟩ else 0) * v i) = ∑ k : Fin N, f k * (if h : k.val < d then 0 else v ⟨k.val - d, by omega⟩) := by
  have l : ∀ i : Fin N, (if h : i.val + d < N then f ⟨i.val + d, h⟩ else 0) * v i = ∑ k : Fin N, if k.val = i.val + d then f k * v i else 0 := fun i => by
    by_cases h : i.val + d < N
    · rw [dif_pos h, Finset.sum_eq_single (⟨i.val + d, h⟩ : Fin N) (fun b _ hb => if_neg fun e => hb (Fin.ext e)) (fun hn => absurd (Finset.mem_univ _) hn), if_pos rfl]
    · rw [dif_neg h, zero_mul]
      exact (Finset.sum_eq_zero fun k _ => if_neg fun e => h (lt_of_eq_of_lt e.symm k.isLt)).symm
  have r : ∀ k : Fin N, f k * (if h : k.val < d then 0 else v ⟨k.val - d, by omega⟩) = ∑ i : Fin N, if k.val = i.val + d then f k * v i else 0 := fun k => by
    by_cases h : k.val < d
    · rw [dif_pos h, mul_zero]
      exact (Finset.sum_eq_zero fun i _ => if_neg (by omega)).symm
    · rw [dif_neg h, Finset.sum_eq_single (⟨k.val - d, by omega⟩ : Fin N) (fun b _ hb => if_neg fun e => hb (Fin.ext (by show b.val = k.val - d; omega))) (fun hn => absurd (Finset.mem_univ _) hn), if_pos (by show k.val = k.val - d + d; omega)]
  rw [Finset.sum_congr rfl fun i _ => l i, Finset.sum_congr rfl fun k _ => r k, Finset.sum_comm]

end Cert.ConvSpec
-- ==== Proof.ConvVal.lean ====
module

public import proofs.«01_k».proof.Proof.At
public import proofs.«01_k».proof.Proof.ConvOut
public import proofs.«01_k».proof.Proof.ConvSpec

@[expose] public section

set_option maxRecDepth 16384

noncomputable section

namespace Cert.ConvIdeal.Val

open Cert.ConvIdeal Cert.ConvIdeal.Gen Idealize.ShloMosaic Idealize.ShloMosaic.TcCoe Idealize.SL.Sem
open Idealize.ShloMosaic.Pipeline (Dat)
open Base Pure Out ConvSpec

variable (m : (ℓ : Loc nD τ sig) → Buf (Elt Ideal) ℓ) (c : Dev nD)

/-- What the call reads. -/
def K : Args where
  O i j := V m c main_arg8 (ix2 i j)
  X i j := V m c main_arg0 (ix2 i j)
  Y i j := V m c main_v66 (ix2 i j)
  B i k := V m c main_v67 (ix2 i k)
  C i j := V m c main_v68 (ix2 i j)
  A j := V m c main_v5 (ix2 3 j)
  G j := V m c main_v5 (ix2 0 j)
  S j := V m c main_v5 (ix2 2 j)
  w0 j := V m c main_v16 (ix2 0 j)
  w1 j := V m c main_v16 (ix2 1 j)
  w2 j := V m c main_v16 (ix2 2 j)
  WI j k := V m c main_v69 (ix2 j k)
  WO j k := V m c main_v70 (ix2 j k)

/-- The row of the whole matrix that is row `r` of the block of point `t`: the blocks run from the last to the first. -/
def at_ (t : Fin cfg0.N) (r : Fin 512) : Fin 8192 := ⟨512 * (15 - t.val) + r.val, by have := t.isLt; have e : cfg0.N = 16 := rfl; omega⟩

theorem emb0 (t : Fin cfg0.N) (r : Fin 512) (k : Fin 1024) : (win0_0.rect t).emb (ix2 r k) = ix2 (at_ t r) k :=
  at2 (fun a => win0_0.rect_emb_val t _ a) (by revert t; decide +kernel) rfl rfl

theorem emb1 (t : Fin cfg0.N) (r : Fin 512) (k : Fin 1024) : (win0_1.rect t).emb (ix2 r k) = ix2 (at_ t r) k :=
  at2 (fun a => win0_1.rect_emb_val t _ a) (by revert t; decide +kernel) rfl rfl

theorem emb2 (t : Fin cfg0.N) (r : Fin 512) (k : Fin 1024) : (win0_2.rect t).emb (ix2 r k) = ix2 (at_ t r) k :=
  at2 (fun a => win0_2.rect_emb_val t _ a) (by revert t; decide +kernel) rfl rfl

theorem emb3 (t : Fin cfg0.N) (r : Fin 512) (k : Fin 3072) : (win0_3.rect t).emb (ix2 r k) = ix2 (at_ t r) k :=
  at2 (fun a => win0_3.rect_emb_val t _ a) (by revert t; decide +kernel) rfl rfl

theorem emb4 (t : Fin cfg0.N) (r : Fin 512) (k : Fin 1024) : (win0_4.rect t).emb (ix2 r k) = ix2 (at_ t r) k :=
  at2 (fun a => win0_4.rect_emb_val t _ a) (by revert t; decide +kernel) rfl rfl

theorem emb9 (t : Fin cfg0.N) (r : Fin 512) (k : Fin 1024) : (win0_9.rect t).emb (ix2 r k) = ix2 (at_ t r) k :=
  at2 (fun a => win0_9.rect_emb_val t _ a) (by revert t; decide +kernel) rfl rfl

theorem emb10 (t : Fin cfg0.N) (r : Fin 512) (k : Fin 1024) : (win0_10.rect t).emb (ix2 r k) = ix2 (at_ t r) k :=
  at2 (fun a => win0_10.rect_emb_val t _ a) (by revert t; decide +kernel) rfl rfl

theorem emb11 (t : Fin cfg0.N) (r : Fin 512) (k : Fin 3072) : (win0_11.rect t).emb (ix2 r k) = ix2 (at_ t r) k :=
  at2 (fun a => win0_11.rect_emb_val t _ a) (by revert t; decide +kernel) rfl rfl

theorem emb5 (t : Fin cfg0.N) (r : Fin 8) (k : Fin 1024) : (win0_5.rect t).emb (ix2 r k) = ix2 r k :=
  at2 (q := 0) (fun a => win0_5.rect_emb_val t _ a) (by revert t; decide +kernel) (Nat.zero_add _) rfl

theorem emb6 (t : Fin cfg0.N) (r : Fin 8) (k : Fin 1024) : (win0_6.rect t).emb (ix2 r k) = ix2 r k :=
  at2 (q := 0) (fun a => win0_6.rect_emb_val t _ a) (by revert t; decide +kernel) (Nat.zero_add _) rfl

theorem emb7 (t : Fin cfg0.N) (r : Fin 1024) (k : Fin 3072) : (win0_7.rect t).emb (ix2 r k) = ix2 r k :=
  at2 (q := 0) (fun a => win0_7.rect_emb_val t _ a) (by revert t; decide +kernel) (Nat.zero_add _) rfl

theorem emb8 (t : Fin cfg0.N) (r : Fin 1024) (k : Fin 1024) : (win0_8.rect t).emb (ix2 r k) = ix2 r k :=
  at2 (q := 0) (fun a => win0_8.rect_emb_val t _ a) (by revert t; decide +kernel) (Nat.zero_add _) rfl

theorem emb12 (t : Fin cfg0.N) (r : Fin 8) (k : Fin 1024) : (win0_12.rect t).emb (ix2 r k) = ix2 r k :=
  at2 (q := 0) (fun a => win0_12.rect_emb_val t _ a) (by revert t; decide +kernel) (Nat.zero_add _) rfl

theorem emb13 (t : Fin cfg0.N) (r : Fin 8) (k : Fin 1024) : (win0_13.rect t).emb (ix2 r k) = ix2 r k :=
  at2 (q := 0) (fun a => win0_13.rect_emb_val t _ a) (by revert t; decide +kernel) (Nat.zero_add _) rfl

theorem hO (t : Fin cfg0.N) (r : Fin 512) (k : Fin 1024) : bO m c t (ix2 r k) = (K m c).O (at_ t r) k := by
  show V m c main_arg8 ((win0_0.rect t).emb (ix2 r k)) = V m c main_arg8 (ix2 (at_ t r) k)
  rw [emb0]

theorem hX (t : Fin cfg0.N) (r : Fin 512) (k : Fin 1024) : bX m c t (ix2 r k) = (K m c).X (at_ t r) k := by
  show V m c main_arg0 ((win0_1.rect t).emb (ix2 r k)) = V m c main_arg0 (ix2 (at_ t r) k)
  rw [emb1]

theorem hY (t : Fin cfg0.N) (r : Fin 512) (k : Fin 1024) : bY m c t (ix2 r k) = (K m c).Y (at_ t r) k := by
  show V m c main_v66 ((win0_2.rect t).emb (ix2 r k)) = V m c main_v66 (ix2 (at_ t r) k)
  rw [emb2]

theorem hB (t : Fin cfg0.N) (r : Fin 512) (k : Fin 3072) : bB m c t (ix2 r k) = (K m c).B (at_ t r) k := by
  show V m c main_v67 ((win0_3.rect t).emb (ix2 r k)) = V m c main_v67 (ix2 (at_ t r) k)
  rw [emb3]

theorem hC (t : Fin cfg0.N) (r : Fin 512) (k : Fin 1024) : bC m c t (ix2 r k) = (K m c).C (at_ t r) k := by
  show V m c main_v68 ((win0_4.rect t).emb (ix2 r k)) = V m c main_v68 (ix2 (at_ t r) k)
  rw [emb4]

theorem hWI (t : Fin cfg0.N) (j : Fin 1024) (k : Fin 3072) : wI m c t (ix2 j k) = (K m c).WI j k := by
  show V m c main_v69 ((win0_7.rect t).emb (ix2 j k)) = V m c main_v69 (ix2 j k)
  rw [emb7]

theorem hWO (t : Fin cfg0.N) (j : Fin 1024) (k : Fin 1024) : wO m c t (ix2 j k) = (K m c).WO j k := by
  show V m c main_v70 ((win0_8.rect t).emb (ix2 j k)) = V m c main_v70 (ix2 j k)
  rw [emb8]

theorem hG (t : Fin cfg0.N) (j : Fin 1024) : Out.vG m c t (ix2 0 j) = (K m c).G j := by
  show V m c main_v5 ((win0_5.rect t).emb ((Rect.unit (s := S8x1024) ![0, 0] S1x1024.size inb_S8x1024_S1x1024_0_0).emb (ix2 0 j))) = V m c main_v5 (ix2 0 j)
  rw [show (Rect.unit (s := S8x1024) ![0, 0] S1x1024.size inb_S8x1024_S1x1024_0_0).emb (ix2 0 j) = ix2 0 j from by
    funext a
    match a with
    | ⟨0, _⟩ => rfl
    | ⟨1, _⟩ => exact Fin.ext (by show 0 + 1 * j.val = j.val; omega), emb5]

theorem hS (t : Fin cfg0.N) (j : Fin 1024) : Out.vS m c t (ix2 0 j) = (K m c).S j := by
  show V m c main_v5 ((win0_5.rect t).emb ((Rect.unit (s := S8x1024) ![2, 0] S1x1024.size inb_S8x1024_S1x1024_2_0).emb (ix2 0 j))) = V m c main_v5 (ix2 2 j)
  rw [show (Rect.unit (s := S8x1024) ![2, 0] S1x1024.size inb_S8x1024_S1x1024_2_0).emb (ix2 0 j) = ix2 2 j from by
    funext a
    match a with
    | ⟨0, _⟩ => rfl
    | ⟨1, _⟩ => exact Fin.ext (by show 0 + 1 * j.val = j.val; omega), emb5]

theorem hA (t : Fin cfg0.N) (j : Fin 1024) : Out.vA m c t (ix2 0 j) = (K m c).A j := by
  show V m c main_v5 ((win0_5.rect t).emb ((Rect.unit (s := S8x1024) ![3, 0] S1x1024.size inb_S8x1024_S1x1024_3_0).emb (ix2 0 j))) = V m c main_v5 (ix2 3 j)
  rw [show (Rect.unit (s := S8x1024) ![3, 0] S1x1024.size inb_S8x1024_S1x1024_3_0).emb (ix2 0 j) = ix2 3 j from by
    funext a
    match a with
    | ⟨0, _⟩ => rfl
    | ⟨1, _⟩ => exact Fin.ext (by show 0 + 1 * j.val = j.val; omega), emb5]

theorem hw0 (t : Fin cfg0.N) (j : Fin 1024) : Out.w0 m c t (ix2 0 j) = (K m c).w0 j := by
  show V m c main_v16 ((win0_6.rect t).emb ((Rect.unit (s := S8x1024) ![0, 0] S1x1024.size inb_S8x1024_S1x1024_0_0).emb (ix2 0 j))) = V m c main_v16 (ix2 0 j)
  rw [show (Rect.unit (s := S8x1024) ![0, 0] S1x1024.size inb_S8x1024_S1x1024_0_0).emb (ix2 0 j) = ix2 0 j from by
    funext a
    match a with
    | ⟨0, _⟩ => rfl
    | ⟨1, _⟩ => exact Fin.ext (by show 0 + 1 * j.val = j.val; omega), emb6]

theorem hw1 (t : Fin cfg0.N) (j : Fin 1024) : Out.w1 m c t (ix2 0 j) = (K m c).w1 j := by
  show V m c main_v16 ((win0_6.rect t).emb ((Rect.unit (s := S8x1024) ![1, 0] S1x1024.size inb_S8x1024_S1x1024_1_0).emb (ix2 0 j))) = V m c main_v16 (ix2 1 j)
  rw [show (Rect.unit (s := S8x1024) ![1, 0] S1x1024.size inb_S8x1024_S1x1024_1_0).emb (ix2 0 j) = ix2 1 j from by
    funext a
    match a with
    | ⟨0, _⟩ => rfl
    | ⟨1, _⟩ => exact Fin.ext (by show 0 + 1 * j.val = j.val; omega), emb6]

theorem hw2 (t : Fin cfg0.N) (j : Fin 1024) : Out.w2 m c t (ix2 0 j) = (K m c).w2 j := by
  show V m c main_v16 ((win0_6.rect t).emb ((Rect.unit (s := S8x1024) ![2, 0] S1x1024.size inb_S8x1024_S1x1024_2_0).emb (ix2 0 j))) = V m c main_v16 (ix2 2 j)
  rw [show (Rect.unit (s := S8x1024) ![2, 0] S1x1024.size inb_S8x1024_S1x1024_2_0).emb (ix2 0 j) = ix2 2 j from by
    funext a
    match a with
    | ⟨0, _⟩ => rfl
    | ⟨1, _⟩ => exact Fin.ext (by show 0 + 1 * j.val = j.val; omega), emb6]

/-! ## One block -/

section Block
variable (t : Fin cfg0.N) (nx : FVec Ideal S8x1024 .f32)

theorem bdz (r : Fin 512) (j : Fin 1024) : k0_pay9 (bO m c t) (vA m c t) (wO m c t) (ix2 r j) = dz (K m c) (at_ t r) j := by
  rw [p9]
  exact Finset.sum_congr rfl fun k _ => by rw [hO, hA, hWO]; rfl

theorem bdc (r : Fin 512) (j : Fin 1024) : dc0 m c t (ix2 r j) = dc (K m c) (at_ t r) j := by
  rw [dc0, p13, bdz, hB]
  rfl

theorem dcE_at (r : Fin 512) (j : Fin 1024) : dc (K m c) (at_ t r) j = dcE (K m c) (512 * (15 - t.val) + r.val) j :=
  dcE_of _ _ _

/-- The rows after the block. -/
def Next : Prop := ∀ (r : Fin 8) (j : Fin 1024), nx (ix2 r j) = dcE (K m c) (512 * (15 - t.val) + 512 + r.val) j

theorem bsh (hn : Next m c t nx) (d : ℕ) (hd : d ≤ 8) (r : Fin 512) (j : Fin 1024) :
    sh (n := 512) (k := 8) (D := 1024) d hd (k0_pay15 (bO m c t) (vA m c t) (wO m c t) (bB m c t)) nx (ix2 r j) = dcE (K m c) ((at_ t r).val + d) j := by
  unfold sh
  split_ifs with h
  · refine (p15 _ _ _ _ ⟨d + r.val, h⟩ j).trans ?_
    exact (bdc m c t ⟨d + r.val, h⟩ j).trans ((dcE_at m c t _ j).trans (congrArg (fun n => dcE (K m c) n j) (by show 512 * (15 - t.val) + (d + r.val) = 512 * (15 - t.val) + r.val + d; omega)))
  · exact (hn _ j).trans (congrArg (fun n => dcE (K m c) n j) (by
      have h' : ¬d + r.val < 512 := h
      show 512 * (15 - t.val) + 512 + (d + r.val - 512) = 512 * (15 - t.val) + r.val + d; omega))

theorem bdv (hn : Next m c t nx) (r : Fin 512) (j : Fin 1024) :
    dv (Out.w0 m c t (ix2 0 j)) (Out.w1 m c t (ix2 0 j)) (Out.w2 m c t (ix2 0 j)) (dc0 m c t (ix2 r j)) (dc1 m c t nx (ix2 r j)) (dc2 m c t nx (ix2 r j)) = dvE (K m c) (at_ t r) j := by
  rw [hw0, hw1, hw2, bdc, dc1, dc2, bsh m c t nx hn, bsh m c t nx hn, dcE_at]
  rfl

theorem bdb (hn : Next m c t nx) (r : Fin 512) (k : Fin 3072) : dB m c t nx (ix2 r k) = db (K m c) (at_ t r) k := by
  rw [dB, p17]
  unfold db
  split_ifs with h h'
  · rw [p14, bdz, hC]
  · rw [bdv m c t nx hn, p12, hB]; rfl
  · rw [bdv m c t nx hn, p11, hB]; rfl

theorem bdh (hn : Next m c t nx) (r : Fin 512) (j : Fin 1024) : dH m c t nx (ix2 r j) = dh (K m c) (at_ t r) j := by
  rw [dH, p18]
  exact Finset.sum_congr rfl fun k _ => by rw [hWI]; exact congrArg (· * _) (bdb m c t nx hn r k)

theorem bdx (hn : Next m c t nx) (r : Fin 512) (j : Fin 1024) : dX m c t nx (ix2 r j) = dx (K m c) (at_ t r) j := by
  rw [dX, p1, hO]
  have e1 : rowOf (bX m c t) r = (K m c).X (at_ t r) := funext fun k => hX m c t r k
  have e2 : wrow (rowOf (vG m c t) 0) (rowOf (vS m c t) 0) (rowOf (dH m c t nx) r) = wr (K m c) (at_ t r) := funext fun k => by
    show dH m c t nx (ix2 r k) * (1 + vS m c t (ix2 0 k)) * vG m c t (ix2 0 k) = _
    rw [bdh m c t nx hn, hS, hG]; rfl
  rw [e1, e2]
  rfl

theorem bpart (hn : Next m c t nx) (r : Fin 8) (j : Fin 1024) : dP m c t nx (ix2 r j) = ∑ i, part (K m c) (at_ t i) r j := by
  have e1 : ∀ i, rowOf (bX m c t) i = (K m c).X (at_ t i) := fun i => funext fun k => hX m c t i k
  rw [dP, p2, p26, p23, p24, p8]
  unfold part
  split_ifs
  · exact Finset.sum_congr rfl fun i _ => by rw [e1, bdh m c t nx hn, hS]
  · exact Finset.sum_congr rfl fun i _ => bdh m c t nx hn i j
  · exact Finset.sum_congr rfl fun i _ => by rw [e1, bdh m c t nx hn, hG]
  · exact Finset.sum_congr rfl fun i _ => by rw [hO, hY]
  · exact Finset.sum_const_zero.symm

theorem btaps (hn : Next m c t nx) (r : Fin 8) (j : Fin 1024) : dW m c t nx (ix2 r j) = ∑ i, taps (K m c) (at_ t i) r j := by
  have e : ∀ i : Fin 512, k0_pay11 (bB m c t) (ix2 i j) * k0_pay12 (bB m c t) (ix2 i j) = (K m c).B (at_ t i) (c1 j) * (K m c).B (at_ t i) (c2 j) := fun i => by
    rw [p11, p12, hB, hB]; rfl
  rw [dW, p16]
  unfold taps
  split_ifs
  · exact Finset.sum_congr rfl fun i _ => by rw [e]; exact congrArg (· * _) (bsh m c t nx hn 2 (by decide) i j)
  · exact Finset.sum_congr rfl fun i _ => by rw [e]; exact congrArg (· * _) (bsh m c t nx hn 1 (by decide) i j)
  · exact Finset.sum_congr rfl fun i _ => by rw [e, bdc, dcE_at]; rfl
  · exact Finset.sum_const_zero.symm

end Block

/-! ## The points in order -/

theorem tail (t : Fin cfg0.N) (r : Fin 8) (j : Fin 1024) :
    hi (N := 520) (n := 512) (k := 8) (D := 1024) rfl (outsAt0 m c t.val t.isLt).2.2.2.2.2 (ix2 r j) = dcE (K m c) (512 * (15 - t.val) + r.val) j := by
  have hN : cfg0.N = 16 := rfl
  have ht := t.isLt
  have e : hi (N := 520) (n := 512) (k := 8) (D := 1024) rfl (outsAt0 m c t.val t.isLt).2.2.2.2.2 =
      k0_pay5 (F := Ideal) (top (n := 512) (k := 8) (D := 1024) (by decide) (k0_pay15 (bO m c t) (vA m c t) (wO m c t) (bB m c t))) := by
    by_cases h : t.val % 16 = 0
    · exact tailA m c t h (by omega)
    · exact tailB m c t h (by omega)
  rw [e, p5]
  show k0_pay15 _ _ _ _ (ix2 ⟨r.val, _⟩ j) = _
  rw [p15]
  exact (bdc m c t _ j).trans (dcE_at m c t _ j)

theorem next0 (t : Fin cfg0.N) (h : ¬1 ≤ t.val) : Next m c t (k0_pay6 (F := Ideal)) := fun r j => by
  rw [p6]
  exact (dcE_out _ _ (by omega) _).symm

theorem nextS (t : Fin cfg0.N) (h : 1 ≤ t.val) : Next m c t (hi (N := 520) (n := 512) (k := 8) (D := 1024) rfl (prev m c t h).2.2.2.2.2) := fun r j => by
  have hN : cfg0.N = 16 := rfl
  have ht := t.isLt
  refine (tail m c ⟨t.val - 1, by omega⟩ r j).trans (congrArg (fun n => dcE (K m c) n j) ?_)
  show 512 * (15 - (t.val - 1)) + r.val = 512 * (15 - t.val) + 512 + r.val
  omega

theorem out9 (t : Fin cfg0.N) (r : Fin 512) (j : Fin 1024) : (outsAt0 m c t.val t.isLt).1 (ix2 r j) = dx (K m c) (at_ t r) j := by
  have hN : cfg0.N = 16 := rfl
  have ht := t.isLt
  by_cases h : t.val % 16 = 0
  · rw [a9 m c t h (by omega), bdx m c t _ (next0 m c t (by omega))]
  · rw [b9 m c t h (by omega), bdx m c t _ (nextS m c t (by omega))]

theorem out10 (t : Fin cfg0.N) (r : Fin 512) (j : Fin 1024) : (outsAt0 m c t.val t.isLt).2.1 (ix2 r j) = dy (K m c) (at_ t r) j := by
  have hN : cfg0.N = 16 := rfl
  have ht := t.isLt
  have e : (outsAt0 m c t.val t.isLt).2.1 = k0_pay7 (bO m c t) (vA m c t) := by
    by_cases h : t.val % 16 = 0
    · exact a10 m c t h (by omega)
    · exact b10 m c t h (by omega)
  rw [e, p7, hO, hA]
  rfl

theorem out11 (t : Fin cfg0.N) (r : Fin 512) (k : Fin 3072) : (outsAt0 m c t.val t.isLt).2.2.1 (ix2 r k) = db (K m c) (at_ t r) k := by
  have hN : cfg0.N = 16 := rfl
  have ht := t.isLt
  by_cases h : t.val % 16 = 0
  · rw [a11 m c t h (by omega), bdb m c t _ (next0 m c t (by omega))]
  · rw [b11 m c t h (by omega), bdb m c t _ (nextS m c t (by omega))]

theorem acc12 (n : Nat) (h : n < cfg0.N) (r : Fin 8) (j : Fin 1024) : (outsAt0 m c n h).2.2.2.1 (ix2 r j)
    = ∑ k : Fin (n + 1), ∑ i, part (K m c) (at_ ⟨k.val, Nat.lt_of_lt_of_le k.isLt h⟩ i) r j := by
  refine acc_sum (N := cfg0.N) (fun t (x : Fin 8 × Fin 1024) => (outsAt0 m c t.val t.isLt).2.2.2.1 (ix2 x.1 x.2))
    (fun t x => ∑ i, part (K m c) (at_ t i) x.1 x.2) ?_ ?_ n h (r, j)
  · intro h x
    show (outsAt0 m c 0 h).2.2.2.1 _ = _
    exact (congrFun (a12 m c ⟨0, h⟩ rfl (by simp)) _).trans (bpart m c ⟨0, h⟩ _ (next0 m c _ (by simp)) _ _)
  · intro n h x
    have hN : cfg0.N = 16 := rfl
    exact (congrFun (b12 m c ⟨n + 1, h⟩ (by show ¬(n + 1) % 16 = 0; omega) (by show 1 ≤ n + 1; omega)) _).trans
      ((p3 _ _ _ _ _ _ _).trans (congrArg _ (bpart m c ⟨n + 1, h⟩ _ (nextS m c _ (by show 1 ≤ n + 1; omega)) _ _)))

theorem acc13 (n : Nat) (h : n < cfg0.N) (r : Fin 8) (j : Fin 1024) : (outsAt0 m c n h).2.2.2.2.1 (ix2 r j)
    = ∑ k : Fin (n + 1), ∑ i, taps (K m c) (at_ ⟨k.val, Nat.lt_of_lt_of_le k.isLt h⟩ i) r j := by
  refine acc_sum (N := cfg0.N) (fun t (x : Fin 8 × Fin 1024) => (outsAt0 m c t.val t.isLt).2.2.2.2.1 (ix2 x.1 x.2))
    (fun t x => ∑ i, taps (K m c) (at_ t i) x.1 x.2) ?_ ?_ n h (r, j)
  · intro h x
    exact (congrFun (a13 m c ⟨0, h⟩ rfl (by simp)) _).trans (btaps m c ⟨0, h⟩ _ (next0 m c _ (by simp)) _ _)
  · intro n h x
    have hN : cfg0.N = 16 := rfl
    exact (congrFun (b13 m c ⟨n + 1, h⟩ (by show ¬(n + 1) % 16 = 0; omega) (by show 1 ≤ n + 1; omega)) _).trans
      ((p4 _ _ _ _).trans (congrArg _ (btaps m c ⟨n + 1, h⟩ _ (nextS m c _ (by show 1 ≤ n + 1; omega)) _ _)))

/-! ## The results -/

theorem final9 (r : Fin 8192) (k : Fin 1024) : (dats m 0 c).arrAt 9 cfg0.N (ix2 r k) = dx (K m c) r k := by
  let t : Fin cfg0.N := ⟨15 - r.val / 512, by have := r.isLt; show _ < 16; omega⟩
  let i : Fin 512 := ⟨r.val % 512, Nat.mod_lt _ (by decide)⟩
  have er : at_ t i = r := Fin.ext (by have := r.isLt; show 512 * (15 - (15 - r.val / 512)) + r.val % 512 = r.val; omega)
  have h := congrFun (Value.blocks9 m c t (flush0_9 t)) (ix2 i k)
  rw [Value.flushed9] at h
  rw [← er]
  refine Eq.trans ?_ (h.trans (out9 m c t i k))
  show _ = (dats m 0 c).arrAt 9 cfg0.N ((win0_9.rect t).emb (ix2 i k))
  rw [emb9]

theorem final10 (r : Fin 8192) (k : Fin 1024) : (dats m 0 c).arrAt 10 cfg0.N (ix2 r k) = dy (K m c) r k := by
  let t : Fin cfg0.N := ⟨15 - r.val / 512, by have := r.isLt; show _ < 16; omega⟩
  let i : Fin 512 := ⟨r.val % 512, Nat.mod_lt _ (by decide)⟩
  have er : at_ t i = r := Fin.ext (by have := r.isLt; show 512 * (15 - (15 - r.val / 512)) + r.val % 512 = r.val; omega)
  have h := congrFun (Value.blocks10 m c t (flush0_10 t)) (ix2 i k)
  rw [Value.flushed10] at h
  rw [← er]
  refine Eq.trans ?_ (h.trans (out10 m c t i k))
  show _ = (dats m 0 c).arrAt 10 cfg0.N ((win0_10.rect t).emb (ix2 i k))
  rw [emb10]

theorem final11 (r : Fin 8192) (k : Fin 3072) : (dats m 0 c).arrAt 11 cfg0.N (ix2 r k) = db (K m c) r k := by
  let t : Fin cfg0.N := ⟨15 - r.val / 512, by have := r.isLt; show _ < 16; omega⟩
  let i : Fin 512 := ⟨r.val % 512, Nat.mod_lt _ (by decide)⟩
  have er : at_ t i = r := Fin.ext (by have := r.isLt; show 512 * (15 - (15 - r.val / 512)) + r.val % 512 = r.val; omega)
  have h := congrFun (Value.blocks11 m c t (flush0_11 t)) (ix2 i k)
  rw [Value.flushed11] at h
  rw [← er]
  refine Eq.trans ?_ (h.trans (out11 m c t i k))
  show _ = (dats m 0 c).arrAt 11 cfg0.N ((win0_11.rect t).emb (ix2 i k))
  rw [emb11]

def last : Fin cfg0.N := ⟨15, by decide⟩

/-- The sum over the points, taken from the last block to the first, is the sum over the rows. -/
theorem sum_rows (f : Fin 8192 → EReal) : ∑ k : Fin (15 + 1), ∑ i, f (at_ ⟨k.val, k.isLt⟩ i) = ∑ i, f i := by
  rw [sum_blocks 16 512 8192 (by decide) f (fun t r => ⟨512 * t.val + r.val, by omega⟩) fun _ _ => rfl]
  exact Fintype.sum_equiv Fin.revPerm _ _ fun k => Finset.sum_congr rfl fun i _ => congrArg f (Fin.ext (by
    show 512 * (15 - k.val) + i.val = 512 * (Fin.rev k).val + i.val
    rw [Fin.val_rev]; omega))

theorem final12 (r : Fin 8) (j : Fin 1024) : (dats m 0 c).arrAt 12 cfg0.N (ix2 r j) = ∑ i, part (K m c) i r j := by
  have hd : ∀ t t' : Fin cfg0.N, (cfg0.win 12).flush t = true → (cfg0.win 12).flush t' = true → t ≠ t' →
      Disjoint ((cfg0.win 12).blk t).view.set ((cfg0.win 12).blk t').view.set := fun t t' h h' hne => by
    have e : cfg0.N = 16 := rfl
    have := t.isLt; have := t'.isLt; have := (flush0_12 t).mp h; have := (flush0_12 t').mp h'
    exact absurd (Fin.ext (by omega)) hne
  have h := congrFun ((dats m 0 c).read_blk_arrAt_eq_flushed 12 hd cfg0.N last last.isLt ((flush0_12 last).mpr rfl)) (ix2 r j)
  rw [Value.flushed12] at h
  refine Eq.trans ?_ (h.trans ((acc12 m c 15 last.isLt r j).trans (sum_rows fun i => part (K m c) i r j)))
  show _ = (dats m 0 c).arrAt 12 cfg0.N ((win0_12.rect last).emb (ix2 r j))
  rw [emb12]

theorem final13 (r : Fin 8) (j : Fin 1024) : (dats m 0 c).arrAt 13 cfg0.N (ix2 r j) = ∑ i, taps (K m c) i r j := by
  have hd : ∀ t t' : Fin cfg0.N, (cfg0.win 13).flush t = true → (cfg0.win 13).flush t' = true → t ≠ t' →
      Disjoint ((cfg0.win 13).blk t).view.set ((cfg0.win 13).blk t').view.set := fun t t' h h' hne => by
    have e : cfg0.N = 16 := rfl
    have := t.isLt; have := t'.isLt; have := (flush0_13 t).mp h; have := (flush0_13 t').mp h'
    exact absurd (Fin.ext (by omega)) hne
  have h := congrFun ((dats m 0 c).read_blk_arrAt_eq_flushed 13 hd cfg0.N last last.isLt ((flush0_13 last).mpr rfl)) (ix2 r j)
  rw [Value.flushed13] at h
  refine Eq.trans ?_ (h.trans ((acc13 m c 15 last.isLt r j).trans (sum_rows fun i => taps (K m c) i r j)))
  show _ = (dats m 0 c).arrAt 13 cfg0.N ((win0_13.rect last).emb (ix2 r j))
  rw [emb13]

end Cert.ConvIdeal.Val
-- ==== Proof.ConvRef.lean ====
module

public import proofs.«01_k».proof.Proof.Gen.ConvRefIdeal.Read
public import proofs.«01_k».proof.Proof.ConvSpec

@[expose] public section

set_option maxRecDepth 16384

noncomputable section

namespace Cert.ConvRefIdeal.Rd

open Cert.ConvRefIdeal Cert.ConvRefIdeal.Read Idealize.ShloMosaic
open Base ConvSpec

variable (x0 : S8192x1024.Idx → EReal) (x1 x2 x3 x4 : S1024.Idx → EReal) (x5 : S1024x3072.Idx → EReal) (x6 : S3x1024.Idx → EReal)
  (x7 : S1024x1024.Idx → EReal) (x8 : S8192x1024.Idx → EReal)

/-- What the reference computes with. -/
def R : Args where
  O i j := x8 (ix2 i j)
  X i j := x0 (ix2 i j)
  Y i j := val_main_v52 (F := Ideal) x0 x1 x2 x3 x5 x6 x7 (ix2 i j)
  B i k := val_main_v24 (F := Ideal) x0 x1 x2 x3 x5 (ix2 i k)
  C i j := val_main_v50 (F := Ideal) x0 x1 x2 x3 x5 x6 (ix2 i j)
  A j := x4 (ix1 j)
  G j := x1 (ix1 j)
  S j := x3 (ix1 j)
  w0 j := x6 (ix2 0 j)
  w1 j := x6 (ix2 1 j)
  w2 j := x6 (ix2 2 j)
  WI j k := x5 (ix2 j k)
  WO j k := x7 (ix2 j k)

/-- The product of the two gated thirds. -/
def bb (i : Fin 8192) (j : Fin 1024) : EReal := val_main_v24 (F := Ideal) x0 x1 x2 x3 x5 (ix2 i (c1 j)) * val_main_v24 (F := Ideal) x0 x1 x2 x3 x5 (ix2 i (c2 j))

/-- A sum whose last terms are zero. -/
theorem sum_cut (n d : ℕ) (f : Fin (n + d) → EReal) (h : ∀ x : Fin d, f (Fin.natAdd n x) = 0) : ∑ i, f i = ∑ x : Fin n, f (Fin.castAdd d x) := by
  rw [Fin.sum_univ_add, Finset.sum_eq_zero fun x _ => h x, add_zero]

theorem r61 (i : Fin 8192) (j : Fin 1024) : val_main_v61 (F := Ideal) x4 x8 (ix2 i j) = dy (R x0 x1 x2 x3 x4 x5 x6 x7 x8) i j := by
  pointwise [val_main_v61, val_main_v60, val_main_v59, val_main_v55, val_main_v54, val_main_v53, val_main_cst_6]
  exact mul_comm _ _

theorem r66 (i : Fin 8192) (j : Fin 1024) : val_main_v66 (F := Ideal) x4 x7 x8 (ix2 i j) = dz (R x0 x1 x2 x3 x4 x5 x6 x7 x8) i j := by
  unfold dz
  simp only [← r61]
  pointwise [val_main_v66]
  rfl

theorem r67 (i : Fin 8192) (j : Fin 1024) : val_main_v67 (F := Ideal) x0 x1 x2 x3 x4 x5 x7 x8 (ix2 i j) = dc (R x0 x1 x2 x3 x4 x5 x6 x7 x8) i j := by
  unfold dc
  rw [← r66, mul_comm]
  pointwise [val_main_v67, val_main_v25]
  rfl

theorem r68 (i : Fin 8192) (j : Fin 1024) : val_main_v68 (F := Ideal) x0 x1 x2 x3 x4 x5 x6 x7 x8 (ix2 i j) = dz (R x0 x1 x2 x3 x4 x5 x6 x7 x8) i j * (R x0 x1 x2 x3 x4 x5 x6 x7 x8).C i j := by
  rw [← r66]
  pointwise [val_main_v68]
  rfl

theorem r67E (n : ℕ) (h : n < 8192) (j : Fin 1024) : val_main_v67 (F := Ideal) x0 x1 x2 x3 x4 x5 x7 x8 (ix2 ⟨n, h⟩ j) = dcE (R x0 x1 x2 x3 x4 x5 x6 x7 x8) n j :=
  (r67 x0 x1 x2 x3 x4 x5 x6 x7 x8 ⟨n, h⟩ j).trans (dcE_of _ _ _)

theorem r100 (i : Fin 8192) (j : Fin 1024) : val_main_v100 (F := Ideal) x0 x1 x2 x3 x4 x5 x6 x7 x8 (ix2 i j) = dvE (R x0 x1 x2 x3 x4 x5 x6 x7 x8) i j := by
  pointwise [val_main_v100, val_main_v70, val_main_v69, val_main_v47, val_main_v46, val_main_v45, val_main_v99, val_main_v93, val_main_v82, val_main_v92, val_main_v78, val_main_v88, val_main_v77, val_main_v87, val_main_v40, val_main_v39, val_main_v38, val_main_v34, val_main_v33, val_main_v32, val_main_cst_13, val_main_cst_17]
  have e1 : (if h : 1 ≤ 2 + i.val ∧ 2 + i.val - 1 < 8192 then x6 (ix2 1 j) * val_main_v67 (F := Ideal) x0 x1 x2 x3 x4 x5 x7 x8 (ix2 ⟨2 + i.val - 1, h.2⟩ j) else 0) = x6 (ix2 1 j) * dcE (R x0 x1 x2 x3 x4 x5 x6 x7 x8) (i.val + 1) j := by
    by_cases h : i.val + 1 < 8192
    · rw [dif_pos (by omega), r67E x0 x1 x2 x3 x4 x5 x6 x7 x8]
      exact congrArg (fun n => x6 (ix2 1 j) * dcE (R x0 x1 x2 x3 x4 x5 x6 x7 x8) n j) (by omega)
    · rw [dif_neg (by omega), dcE_out _ _ h, mul_zero]
  have e0 : (if h : 2 + i.val < 8192 then x6 (ix2 0 j) * val_main_v67 (F := Ideal) x0 x1 x2 x3 x4 x5 x7 x8 (ix2 ⟨2 + i.val, h⟩ j) else 0) = x6 (ix2 0 j) * dcE (R x0 x1 x2 x3 x4 x5 x6 x7 x8) (i.val + 2) j := by
    by_cases h : 2 + i.val < 8192
    · rw [dif_pos h, r67E x0 x1 x2 x3 x4 x5 x6 x7 x8]
      exact congrArg (fun n => x6 (ix2 0 j) * dcE (R x0 x1 x2 x3 x4 x5 x6 x7 x8) n j) (by omega)
    · rw [dif_neg h, dcE_out _ _ (by omega), mul_zero]
  refine (congrArg₂ (· + ·) (congrArg (x6 (ix2 2 j) * ·) ((r67 x0 x1 x2 x3 x4 x5 x6 x7 x8 i j).trans (dcE_of _ _ _))) (congrArg₂ (· + ·) e1 e0)).trans ?_
  exact (add_assoc _ _ _).symm

theorem r103 (i : Fin 8192) (k : Fin 3072) : val_main_v103 (F := Ideal) x0 x1 x2 x3 x4 x5 x6 x7 x8 (ix2 i k) = db (R x0 x1 x2 x3 x4 x5 x6 x7 x8) i k := by
  unfold db
  simp only [← r100, ← r68]
  pointwise [val_main_v103, val_main_v102, val_main_v101, val_main_v26, val_main_v27]
  refine dite_congr rfl (fun _ => rfl) fun _ => dite_congr rfl (fun _ => rfl) fun _ => ?_
  rw [mul_comm]
  rfl

theorem r104 (i : Fin 8192) (j : Fin 1024) : val_main_v104 (F := Ideal) x0 x1 x2 x3 x4 x5 x6 x7 x8 (ix2 i j) = dh (R x0 x1 x2 x3 x4 x5 x6 x7 x8) i j := by
  unfold dh
  simp only [← r103]
  pointwise [val_main_v104]
  rfl

theorem r118 (i : Fin 8192) (j : Fin 1024) : val_main_v118 (F := Ideal) x0 x1 x2 x3 x4 x5 x6 x7 x8 (ix2 i j) = wr (R x0 x1 x2 x3 x4 x5 x6 x7 x8) i j := by
  unfold wr
  rw [← r104]
  pointwise [val_main_v118, val_main_v112, val_main_v111, val_main_v18, val_main_v17, val_main_v16, val_main_v117, val_main_v13, val_main_cst_3]
  rfl

theorem r134 (i : Fin 8192) (j : Fin 1024) : val_main_v134 (F := Ideal) x0 x1 x2 x3 x4 x5 x6 x7 x8 (ix2 i j) = dx (R x0 x1 x2 x3 x4 x5 x6 x7 x8) i j := by
  unfold dx
  rw [show wr (R x0 x1 x2 x3 x4 x5 x6 x7 x8) i = fun k => val_main_v118 (F := Ideal) x0 x1 x2 x3 x4 x5 x6 x7 x8 (ix2 i k) from funext fun k => (r118 x0 x1 x2 x3 x4 x5 x6 x7 x8 i k).symm]
  pointwise [val_main_v134, val_main_v133, val_main_v132, val_main_v131, val_main_v130, val_main_v129, val_main_v128, val_main_v127, val_main_v126, val_main_v125, val_main_v124, val_main_v123, val_main_v122, val_main_v121, val_main_v120, val_main_v10, val_main_v9, val_main_v8, val_main_v7, val_main_v6, val_main_v5, val_main_v4, val_main_v3, val_main_v2, val_main_v1, val_main_v0, val_main_cst, val_main_cst_0, val_main_cst_1, val_main_cst_2, val_main_cst_26, val_main_cst_27, val_main_cst_28]
  simp only [Finset.univ_unique, Finset.sum_singleton]
  rfl

theorem r142 (r : Fin 8) (j : Fin 1024) : val_main_v142 (F := Ideal) x0 x1 x2 x3 x4 x5 x6 x7 x8 (ix2 r j) = ∑ i, part (R x0 x1 x2 x3 x4 x5 x6 x7 x8) i r j := by
  unfold part
  simp only [← r104]
  pointwise [val_main_v142, val_main_v137, val_main_v138, val_main_v139, val_main_v140, val_main_v141, val_main_cst_29, val_main_v119, val_main_v116, val_main_v115, val_main_v114, val_main_v112, val_main_v111, val_main_v18, val_main_v17, val_main_v16, val_main_v113, val_main_v110, val_main_v109, val_main_v108, val_main_v107, val_main_v106, val_main_v105, val_main_v65, val_main_v64, val_main_v63, val_main_v62, val_main_v59, val_main_v15, val_main_v14, val_main_v13, val_main_v12, val_main_v11, val_main_v7, val_main_v6, val_main_v5, val_main_v4, val_main_v3, val_main_v2, val_main_v1, val_main_v0, val_main_cst, val_main_cst_0, val_main_cst_1, val_main_cst_3, val_main_cst_7, val_main_cst_8, val_main_cst_20, val_main_cst_21, val_main_cst_22, val_main_cst_23, val_main_cst_24, val_main_cst_25]
  simp only [Finset.univ_unique, Finset.sum_singleton]
  by_cases h0 : r.val < 1
  · simp only [h0, if_true, dif_pos]
    rfl
  by_cases h1 : r.val - 1 < 1
  · simp only [h0, h1, if_true, if_false, dif_pos, dif_neg, not_false_eq_true]
  by_cases h2 : r.val - 1 - 1 < 1
  · simp only [h0, h1, h2, if_true, if_false, dif_pos, dif_neg, not_false_eq_true]
    rfl
  by_cases h3 : r.val - 1 - 1 - 1 < 1
  · simp only [h0, h1, h2, h3, if_true, if_false, dif_pos, dif_neg, not_false_eq_true]
    rfl
  · simp only [h0, h1, h2, h3, if_false, dif_neg, not_false_eq_true, Finset.sum_const_zero]

theorem r144 (r : Fin 8) (j : Fin 1024) : val_main_v144 (F := Ideal) x0 x1 x2 x3 x4 x5 x7 x8 (ix2 r j) = ∑ i, taps (R x0 x1 x2 x3 x4 x5 x6 x7 x8) i r j := by
  unfold taps
  pointwise [val_main_v144, val_main_v143, val_main_v97, val_main_v96, val_main_v95, val_main_v94, val_main_v91, val_main_v90, val_main_v89, val_main_v86, val_main_v85, val_main_v84, val_main_v83, val_main_v81, val_main_v80, val_main_v79, val_main_v76, val_main_v75, val_main_v74, val_main_v73, val_main_v72, val_main_v71, val_main_v41, val_main_v35, val_main_v30, val_main_v29, val_main_cst_4, val_main_cst_9, val_main_cst_10, val_main_cst_11, val_main_cst_12, val_main_cst_14, val_main_cst_15, val_main_cst_16, val_main_cst_18, val_main_cst_19, val_main_cst_30, val_main_v28, val_main_v26, val_main_v27]
  simp only [Finset.univ_unique, Finset.sum_singleton]
  have q2 : (∑ x : Fin 8192, val_main_v67 (F := Ideal) x0 x1 x2 x3 x4 x5 x7 x8 (ix2 x j) * bb x0 x1 x2 x3 x5 x j) = ∑ i : Fin 8192, dcE (R x0 x1 x2 x3 x4 x5 x6 x7 x8) i.val j * bb x0 x1 x2 x3 x5 i j :=
    Finset.sum_congr rfl fun i _ => congrArg (· * _) ((r67 x0 x1 x2 x3 x4 x5 x6 x7 x8 i j).trans (dcE_of _ _ _))
  have q1 : (∑ x : Fin 8192, val_main_v67 (F := Ideal) x0 x1 x2 x3 x4 x5 x7 x8 (ix2 x j) * (if h : 1 + x.val < 2 then 0 else bb x0 x1 x2 x3 x5 ⟨1 + x.val - 2, by omega⟩ j)) = ∑ i : Fin 8192, dcE (R x0 x1 x2 x3 x4 x5 x6 x7 x8) (i.val + 1) j * bb x0 x1 x2 x3 x5 i j := by
    refine Eq.trans ?_ ((shift_sum 8192 1 (fun i => val_main_v67 (F := Ideal) x0 x1 x2 x3 x4 x5 x7 x8 (ix2 i j)) (fun i => bb x0 x1 x2 x3 x5 i j)).symm.trans ?_)
    · refine Finset.sum_congr rfl fun x _ => congrArg (fun b : EReal => (val_main_v67 (F := Ideal) x0 x1 x2 x3 x4 x5 x7 x8 (ix2 x j) : EReal) * b) ?_
      by_cases h : x.val < 1
      · rw [dif_pos h, dif_pos (by omega)]
      · rw [dif_neg h, dif_neg (by omega)]
        exact congrArg (fun i => bb x0 x1 x2 x3 x5 i j) (Fin.ext (by show 1 + x.val - 2 = x.val - 1; omega))
    · refine Finset.sum_congr rfl fun i _ => congrArg (· * _) ?_
      by_cases h : i.val + 1 < 8192
      · rw [dif_pos h]
        exact r67E x0 x1 x2 x3 x4 x5 x6 x7 x8 _ h j
      · rw [dif_neg h, dcE_out _ _ h]
  have q0 : (∑ x : Fin 8190, val_main_v67 (F := Ideal) x0 x1 x2 x3 x4 x5 x7 x8 (ix2 ⟨2 + x.val, by omega⟩ j) * bb x0 x1 x2 x3 x5 ⟨x.val, by omega⟩ j) = ∑ i : Fin 8192, dcE (R x0 x1 x2 x3 x4 x5 x6 x7 x8) (i.val + 2) j * bb x0 x1 x2 x3 x5 i j := by
    refine Eq.trans ?_ (sum_cut 8190 2 (fun i => dcE (R x0 x1 x2 x3 x4 x5 x6 x7 x8) (i.val + 2) j * bb x0 x1 x2 x3 x5 i j) fun x => ?_).symm
    · refine Finset.sum_congr rfl fun x _ => ?_
      rw [r67E x0 x1 x2 x3 x4 x5 x6 x7 x8]
      exact congrArg (fun n => dcE (R x0 x1 x2 x3 x4 x5 x6 x7 x8) n j * bb x0 x1 x2 x3 x5 ⟨x.val, by omega⟩ j) (Nat.add_comm 2 x.val)
    · show dcE (R x0 x1 x2 x3 x4 x5 x6 x7 x8) (8190 + x.val + 2) j * _ = 0
      rw [dcE_out _ _ (by omega), zero_mul]
  by_cases h0 : r.val < 1
  · rw [dif_pos (by omega), dif_neg (by omega), dif_neg (by omega), dif_pos h0, zero_add, zero_add]
    simp only [h0, if_true, mul_zero, Finset.sum_const_zero, zero_add]
    exact q0
  by_cases h1 : r.val - 1 < 1
  · rw [dif_pos (by omega), dif_neg (by omega), dif_pos (by omega), dif_neg h0, zero_add, add_zero]
    simp only [h0, h1, if_true, if_false]
    exact q1
  by_cases h2 : r.val - 1 - 1 < 1
  · rw [dif_pos (by omega), dif_pos (by omega), dif_neg (by omega), dif_neg h0, add_zero, add_zero]
    simp only [h0, h1, h2, if_true, if_false]
    exact q2
  · rw [dif_neg (by omega)]
    simp only [h0, h1, h2, if_false, Finset.sum_const_zero]

end Cert.ConvRefIdeal.Rd
-- ==== Proof.ConvClaim.lean ====
module

public import proofs.«01_k».proof.Defs
public import proofs.«01_k».proof.Proof.ConvVal
public import proofs.«01_k».proof.Proof.ConvRef
public import proofs.«01_k».proof.Proof.Gen.ConvIdeal.Value
public import proofs.«01_k».proof.Proof.Gen.ConvRefIdeal.Run

@[expose] public section

set_option maxRecDepth 16384

noncomputable section

namespace Cert.ConvClaim

open Idealize.ShloMosaic Idealize.ShloMosaic.TcCoe Idealize.SL.Sem Cert.ConvIdeal Cert.ConvIdeal.Gen
open Cert.ConvSpec (Args)

variable (m : (ℓ : Loc Cert.ConvIdeal.nD Cert.ConvIdeal.τ Cert.ConvIdeal.sig) → Buf (Elt Ideal) ℓ) (c : Dev Cert.ConvIdeal.nD)

/-! The arguments. -/

abbrev A0 : FVec Ideal S8192x1024 .f32 := m ((c.tc : Thread nD τ).loc main_arg0)
abbrev A1 : FVec Ideal S1024 .f32 := m ((c.tc : Thread nD τ).loc main_arg1)
abbrev A2 : FVec Ideal S1024 .f32 := m ((c.tc : Thread nD τ).loc main_arg2)
abbrev A3 : FVec Ideal S1024 .f32 := m ((c.tc : Thread nD τ).loc main_arg3)
abbrev A4 : FVec Ideal S1024 .f32 := m ((c.tc : Thread nD τ).loc main_arg4)
abbrev A5 : FVec Ideal S1024x3072 .f32 := m ((c.tc : Thread nD τ).loc main_arg5)
abbrev A6 : FVec Ideal S3x1024 .f32 := m ((c.tc : Thread nD τ).loc main_arg6)
abbrev A7 : FVec Ideal S1024x1024 .f32 := m ((c.tc : Thread nD τ).loc main_arg7)
abbrev A8 : FVec Ideal S8192x1024 .f32 := m ((c.tc : Thread nD τ).loc main_arg8)

theorem host66 : V m c main_v66 = (truncf .bf16 (ConvRefIdeal.Read.val_main_v52 (F := Ideal) (A0 m c) (A1 m c) (A2 m c) (A3 m c) (A5 m c) (A6 m c) (A7 m c)) bitsLt_bf16_f32 : FVec Ideal S8192x1024 .bf16) := by
  unfold V
  after_results
  rfl

theorem host67 : V m c main_v67 = (truncf .bf16 (ConvRefIdeal.Read.val_main_v24 (F := Ideal) (A0 m c) (A1 m c) (A2 m c) (A3 m c) (A5 m c)) bitsLt_bf16_f32 : FVec Ideal S8192x3072 .bf16) := by
  unfold V
  after_results
  rfl

theorem host68 : V m c main_v68 = (truncf .bf16 (ConvRefIdeal.Read.val_main_v50 (F := Ideal) (A0 m c) (A1 m c) (A2 m c) (A3 m c) (A5 m c) (A6 m c)) bitsLt_bf16_f32 : FVec Ideal S8192x1024 .bf16) := by
  unfold V
  after_results
  rfl

theorem host5 : V m c main_v5 = (concatenate S8x1024 0 [⟨S1x1024, shapeCast S1x1024 (m ((c.tc : Thread Cert.ConvIdeal.nD Cert.ConvIdeal.τ).loc main_arg1) : FVec Ideal S1024 .f32) shapeCasts_S1024_S1x1024⟩, ⟨S1x1024, shapeCast S1x1024 (m ((c.tc : Thread Cert.ConvIdeal.nD Cert.ConvIdeal.τ).loc main_arg2) : FVec Ideal S1024 .f32) shapeCasts_S1024_S1x1024⟩, ⟨S1x1024, shapeCast S1x1024 (m ((c.tc : Thread Cert.ConvIdeal.nD Cert.ConvIdeal.τ).loc main_arg3) : FVec Ideal S1024 .f32) shapeCasts_S1024_S1x1024⟩, ⟨S1x1024, shapeCast S1x1024 (m ((c.tc : Thread Cert.ConvIdeal.nD Cert.ConvIdeal.τ).loc main_arg4) : FVec Ideal S1024 .f32) shapeCasts_S1024_S1x1024⟩,
    ⟨S4x1024, broadcastInDim S4x1024 ![] bcast_S_S4x1024 (constant S_ .f32 0#32)⟩] concatenates_S1x1024_S1x1024_S1x1024_S1x1024_S4x1024_S8x1024_d0 : FVec Ideal S8x1024 .f32) := by
  unfold V
  after_results
  rfl

theorem host16 : V m c main_v16 = (concatenate S8x1024 0 [⟨S1x1024, shapeCast S1x1024 (shapeCast S1024 (extractStridedSlice S1x1024 ![0, 0] (m ((c.tc : Thread Cert.ConvIdeal.nD Cert.ConvIdeal.τ).loc main_arg6) : FVec Ideal S3x1024 .f32) slices_S3x1024_S1x1024_0_0) shapeCasts_S1x1024_S1024) shapeCasts_S1024_S1x1024⟩,
    ⟨S1x1024, shapeCast S1x1024 (shapeCast S1024 (extractStridedSlice S1x1024 ![1, 0] (m ((c.tc : Thread Cert.ConvIdeal.nD Cert.ConvIdeal.τ).loc main_arg6) : FVec Ideal S3x1024 .f32) slices_S3x1024_S1x1024_1_0) shapeCasts_S1x1024_S1024) shapeCasts_S1024_S1x1024⟩,
    ⟨S1x1024, shapeCast S1x1024 (shapeCast S1024 (extractStridedSlice S1x1024 ![2, 0] (m ((c.tc : Thread Cert.ConvIdeal.nD Cert.ConvIdeal.τ).loc main_arg6) : FVec Ideal S3x1024 .f32) slices_S3x1024_S1x1024_2_0) shapeCasts_S1x1024_S1024) shapeCasts_S1024_S1x1024⟩,
    ⟨S5x1024, broadcastInDim S5x1024 ![] bcast_S_S5x1024 (constant S_ .f32 0#32)⟩] concatenates_S1x1024_S1x1024_S1x1024_S5x1024_S8x1024_d0 : FVec Ideal S8x1024 .f32) := by
  unfold V
  after_results
  rfl

theorem hO : ∀ i j, V m c main_arg8 (ix2 i j) = (A8 m c) (ix2 i j) := fun i j => by rw [V_main_arg8]

theorem hX : ∀ i j, V m c main_arg0 (ix2 i j) = (A0 m c) (ix2 i j) := fun i j => by rw [V_main_arg0]

theorem hA : ∀ j, V m c main_v5 (ix2 3 j) = (A4 m c) (ix1 j) := fun j => by rw [host5]; pointwise []

theorem hG : ∀ j, V m c main_v5 (ix2 0 j) = (A1 m c) (ix1 j) := fun j => by rw [host5]; pointwise []

theorem hS : ∀ j, V m c main_v5 (ix2 2 j) = (A3 m c) (ix1 j) := fun j => by rw [host5]; pointwise []

theorem h0 : ∀ j, V m c main_v16 (ix2 0 j) = (A6 m c) (ix2 0 j) := fun j => by rw [host16]; pointwise []

theorem h1 : ∀ j, V m c main_v16 (ix2 1 j) = (A6 m c) (ix2 1 j) := fun j => by rw [host16]; pointwise []

theorem h2 : ∀ j, V m c main_v16 (ix2 2 j) = (A6 m c) (ix2 2 j) := fun j => by rw [host16]; pointwise []

theorem hI : ∀ j k, V m c main_v69 (ix2 j k) = (A5 m c) (ix2 j k) := fun j k => by unfold V; after_results; rfl

theorem hW : ∀ j k, V m c main_v70 (ix2 j k) = (A7 m c) (ix2 j k) := fun j k => by unfold V; after_results; rfl

theorem hY : ∀ i j, V m c main_v66 (ix2 i j) = ConvRefIdeal.Read.val_main_v52 (F := Ideal) (A0 m c) (A1 m c) (A2 m c) (A3 m c) (A5 m c) (A6 m c) (A7 m c) (ix2 i j) := fun i j => by rw [host66]; pointwise []

theorem hB : ∀ i k, V m c main_v67 (ix2 i k) = ConvRefIdeal.Read.val_main_v24 (F := Ideal) (A0 m c) (A1 m c) (A2 m c) (A3 m c) (A5 m c) (ix2 i k) := fun i k => by rw [host67]; pointwise []

theorem hC : ∀ i j, V m c main_v68 (ix2 i j) = ConvRefIdeal.Read.val_main_v50 (F := Ideal) (A0 m c) (A1 m c) (A2 m c) (A3 m c) (A5 m c) (A6 m c) (ix2 i j) := fun i j => by rw [host68]; pointwise []

/-- The kernel's quantities are the reference's. -/
theorem K_eq : Cert.ConvIdeal.Val.K m c = ConvRefIdeal.Rd.R (A0 m c) (A1 m c) (A2 m c) (A3 m c) (A4 m c) (A5 m c) (A6 m c) (A7 m c) (A8 m c) := by
  unfold Cert.ConvIdeal.Val.K ConvRefIdeal.Rd.R
  simp only [hO m c, hX m c, hA m c, hG m c, hS m c, h0 m c, h1 m c, h2 m c, hI m c, hW m c, hY m c, hB m c, hC m c]

theorem out134 : ConvRefIdeal.Read.val_main_v134 (F := Ideal) (A0 m c) (A1 m c) (A2 m c) (A3 m c) (A4 m c) (A5 m c) (A6 m c) (A7 m c) (A8 m c) = (dats m 0 c).arrAt 9 cfg0.N := by
  refine Cert.Base.ext2 fun r k => ?_
  have e := ConvRefIdeal.Rd.r134 (A0 m c) (A1 m c) (A2 m c) (A3 m c) (A4 m c) (A5 m c) (A6 m c) (A7 m c) (A8 m c) r k
  rw [← K_eq m c] at e
  exact e.trans (Cert.ConvIdeal.Val.final9 m c r k).symm

theorem out135 : ConvRefIdeal.Read.val_main_v135 (F := Ideal) (A4 m c) (A8 m c) = (dats m 0 c).arrAt 10 cfg0.N := by
  refine Cert.Base.ext2 fun r k => ?_
  have e := ConvRefIdeal.Rd.r61 (A0 m c) (A1 m c) (A2 m c) (A3 m c) (A4 m c) (A5 m c) (A6 m c) (A7 m c) (A8 m c) r k
  rw [← K_eq m c] at e
  exact e.trans (Cert.ConvIdeal.Val.final10 m c r k).symm

theorem out136 : ConvRefIdeal.Read.val_main_v136 (F := Ideal) (A0 m c) (A1 m c) (A2 m c) (A3 m c) (A4 m c) (A5 m c) (A6 m c) (A7 m c) (A8 m c) = (dats m 0 c).arrAt 11 cfg0.N := by
  refine Cert.Base.ext2 fun r k => ?_
  have e := ConvRefIdeal.Rd.r103 (A0 m c) (A1 m c) (A2 m c) (A3 m c) (A4 m c) (A5 m c) (A6 m c) (A7 m c) (A8 m c) r k
  rw [← K_eq m c] at e
  exact e.trans (Cert.ConvIdeal.Val.final11 m c r k).symm

theorem out142 : ConvRefIdeal.Read.val_main_v142 (F := Ideal) (A0 m c) (A1 m c) (A2 m c) (A3 m c) (A4 m c) (A5 m c) (A6 m c) (A7 m c) (A8 m c) = (dats m 0 c).arrAt 12 cfg0.N := by
  refine Cert.Base.ext2 fun r k => ?_
  have e := ConvRefIdeal.Rd.r142 (A0 m c) (A1 m c) (A2 m c) (A3 m c) (A4 m c) (A5 m c) (A6 m c) (A7 m c) (A8 m c) r k
  rw [← K_eq m c] at e
  exact e.trans (Cert.ConvIdeal.Val.final12 m c r k).symm

theorem out144 : ConvRefIdeal.Read.val_main_v144 (F := Ideal) (A0 m c) (A1 m c) (A2 m c) (A3 m c) (A4 m c) (A5 m c) (A7 m c) (A8 m c) = (dats m 0 c).arrAt 13 cfg0.N := by
  refine Cert.Base.ext2 fun r k => ?_
  have e := ConvRefIdeal.Rd.r144 (A0 m c) (A1 m c) (A2 m c) (A3 m c) (A4 m c) (A5 m c) (A6 m c) (A7 m c) (A8 m c) r k
  rw [← K_eq m c] at e
  exact e.trans (Cert.ConvIdeal.Val.final13 m c r k).symm

/-- The five results of the convolution's backward pass are those of the reference's derivative. -/
theorem conv_algebraic : algebraic_ConvIdeal_ConvRefIdeal (hConvIdeal := Cert.ConvIdeal.Gen.facts) (hConvRefIdeal := ConvRefIdeal.Gen.facts) := by
  intro m g m' g' _ hm
  refine ⟨_, _, _, _, _, Cert.ConvIdeal.Value.run_blocks m g, (θ_run _ _ _).mono (fun r h c => ?_) (ConvRefIdeal.Value.run m' g')⟩
  obtain ⟨h0, h1, h2, h3, h4, ha⟩ := h c
  obtain ⟨e0, e1, e2, e3, e4, e5, e6, e7, e8⟩ := hm c
  refine ⟨h0.trans ?_, h1.trans ?_, h2.trans ?_, h3.trans ?_, h4.trans ?_, ha⟩
  · refine (ConvRefIdeal.Read.val_main_v134_eq m' c).trans (Eq.trans ?_ (out134 m c))
    rw [e0, e1, e2, e3, e4, e5, e6, e7, e8]
  · refine (ConvRefIdeal.Read.val_main_v135_eq _ _).trans (Eq.trans ?_ (out135 m c))
    rw [e4, e8]
  · refine (ConvRefIdeal.Read.val_main_v136_eq m' c).trans (Eq.trans ?_ (out136 m c))
    rw [e0, e1, e2, e3, e4, e5, e6, e7, e8]
  · refine (ConvRefIdeal.Read.val_main_v142_eq m' c).trans (Eq.trans ?_ (out142 m c))
    rw [e0, e1, e2, e3, e4, e5, e6, e7, e8]
  · refine (ConvRefIdeal.Read.val_main_v144_eq m' c).trans (Eq.trans ?_ (out144 m c))
    rw [e0, e1, e2, e3, e4, e5, e7, e8]

/-- The reference of the convolution leaves its arguments as they are; it declares no semaphore. -/
theorem conv_ref_frame : quiescent_ConvRefIdeal (hConvRefIdeal := ConvRefIdeal.Gen.facts) := fun m ρ _ =>
  (θ_run ConvRefIdeal.defs _ _).mono (fun r h => ⟨fun c => (h c).2.2.2.2.2, sem_eq_zero_of_no_sems (by decide) r.2⟩)
    (ConvRefIdeal.Value.run (F := Ideal) m ρ)

end Cert.ConvClaim

end
-- ==== Proof.FfnPure.lean ====
module

public import proofs.«01_k».proof.Defs
public import proofs.«01_k».proof.Proof.Gen.FfnIdeal.Skeleton
public import proofs.«01_k».proof.Proof.Base

@[expose] public section

set_option maxRecDepth 16384

noncomputable section

namespace Cert.FfnIdeal.Pure

open Cert.FfnIdeal Cert.FfnIdeal.Gen Idealize.ShloMosaic

open Base

/-- The cotangent of the normalised row, from that of the modulated row. -/
def wrow (g sc d : Fin 1024 → EReal) (j : Fin 1024) : EReal := d j * (1 + sc j) * g j

/-- A row of a matrix. -/
abbrev rowOf {n d : Nat} (v : (⟨2, ![n, d]⟩ : Shape).Idx → EReal) (r : Fin n) (k : Fin d) : EReal := v (ix2 r k)

/-- A block of columns of a gate's cotangent: the rows' product with the block's weights, times the saved derivative. -/
def chunk {n c D : ℕ} (d : (⟨2, ![n, D]⟩ : Shape).Idx → EReal) (w : (⟨2, ![c, D]⟩ : Shape).Idx → EReal) (a : (⟨2, ![n, c]⟩ : Shape).Idx → EReal) (y : (⟨2, ![n, c]⟩ : Shape).Idx) : EReal :=
  (∑ k, d (ix2 (y 0) k) * w (ix2 (y 1) k)) * a (ix2 (y 0) (y 1))

theorem p3 (v0 : Vec Ideal S256x1024 .f32) (v1 : Vec Ideal S1x1024 .f32) (r : Fin 256) (j : Fin 1024) :
    k0_pay3 v0 v1 (ix2 r j) = v0 (ix2 r j) * (Ideal.ofBits .f32 1056964608#32 * (1 + v1 (ix2 0 j))) := by
  pointwise [k0_pay3]

theorem p4 (v0 : Vec Ideal S256x1024 .f32) (v11 : Vec Ideal S256x1024 .bf16) (z : Fin 1) (j : Fin 1024) :
    k0_pay4 v0 v11 (ix2 z j) = Ideal.ofBits .f32 1056964608#32 * ∑ i, v0 (ix2 i j) * v11 (ix2 i j) := by
  pointwise [k0_pay4]

section Chunks
variable (d w : FVec Ideal S256x1024 .bf16) (a : FVec Ideal S256x256 .bf16) (v0 : Vec Ideal S256x1024 .f32) (v1 : Vec Ideal S1x1024 .f32)

theorem c9 : k0_pay9 d w a = chunk (n := 256) (c := 256) (D := 1024) d w a := ext2 fun r j => by
  pointwise [k0_pay9, k0_pay8]
  rfl

theorem c10 : k0_pay10 d w a = chunk (n := 256) (c := 256) (D := 1024) d w a := ext2 fun r j => by
  pointwise [k0_pay10, k0_pay8]
  rfl

theorem c12 : k0_pay12 d w a = chunk (n := 256) (c := 256) (D := 1024) d w a := ext2 fun r j => by
  pointwise [k0_pay12, k0_pay11]
  rfl

theorem c13 : k0_pay13 d w a = chunk (n := 256) (c := 256) (D := 1024) d w a := ext2 fun r j => by
  pointwise [k0_pay13, k0_pay11]
  rfl

theorem c15 : k0_pay15 d w a = chunk (n := 256) (c := 256) (D := 1024) d w a := ext2 fun r j => by
  pointwise [k0_pay15, k0_pay14]
  rfl

theorem c16 : k0_pay16 d w a = chunk (n := 256) (c := 256) (D := 1024) d w a := ext2 fun r j => by
  pointwise [k0_pay16, k0_pay14]
  rfl

theorem c18 : k0_pay18 d w a = chunk (n := 256) (c := 256) (D := 1024) d w a := ext2 fun r j => by
  pointwise [k0_pay18, k0_pay17]
  rfl

theorem c19 : k0_pay19 d w a = chunk (n := 256) (c := 256) (D := 1024) d w a := ext2 fun r j => by
  pointwise [k0_pay19, k0_pay17]
  rfl

theorem c24 : k0_pay24 d w a = chunk (n := 256) (c := 256) (D := 1024) d w a := ext2 fun r j => by
  pointwise [k0_pay24, k0_pay23]
  rfl

theorem c25 : k0_pay25 d w a = chunk (n := 256) (c := 256) (D := 1024) d w a := ext2 fun r j => by
  pointwise [k0_pay25, k0_pay23]
  rfl

theorem c31 : k0_pay31 d w a = chunk (n := 256) (c := 256) (D := 1024) d w a := ext2 fun r j => by
  pointwise [k0_pay31, k0_pay30]
  rfl

theorem c32 : k0_pay32 d w a = chunk (n := 256) (c := 256) (D := 1024) d w a := ext2 fun r j => by
  pointwise [k0_pay32, k0_pay30]
  rfl

theorem c37 : k0_pay37 d w a = chunk (n := 256) (c := 256) (D := 1024) d w a := ext2 fun r j => by
  pointwise [k0_pay37, k0_pay36]
  rfl

theorem c38 : k0_pay38 d w a = chunk (n := 256) (c := 256) (D := 1024) d w a := ext2 fun r j => by
  pointwise [k0_pay38, k0_pay36]
  rfl

theorem c34 : k0_pay34 d w a = chunk (n := 256) (c := 256) (D := 1024) d w a := ext2 fun r j => by
  pointwise [k0_pay34, k0_pay33]
  rfl

theorem c35 : k0_pay35 (k0_pay33 d w) a = chunk (n := 256) (c := 256) (D := 1024) d w a := ext2 fun r j => by
  pointwise [k0_pay35, k0_pay33]
  rfl

theorem c21 : k0_pay21 (k0_pay20 d w) a = chunk (n := 256) (c := 256) (D := 1024) d w a := ext2 fun r j => by
  pointwise [k0_pay21, k0_pay20]
  rfl

theorem c22 : k0_pay22 (k0_pay20 d w) a = chunk (n := 256) (c := 256) (D := 1024) d w a := ext2 fun r j => by
  pointwise [k0_pay22, k0_pay20]
  rfl

theorem c28 : k0_pay28 (k0_pay26 d w) (k0_pay27 a) = chunk (n := 256) (c := 256) (D := 1024) d w a := ext2 fun r j => by
  pointwise [k0_pay28, k0_pay26, k0_pay27]
  rfl

theorem c29 : k0_pay29 (k0_pay26 d w) a = chunk (n := 256) (c := 256) (D := 1024) d w a := ext2 fun r j => by
  pointwise [k0_pay29, k0_pay26]
  rfl

theorem c6 : k0_pay6 v0 v1 w a = chunk (n := 256) (c := 256) (D := 1024) (k0_pay3 v0 v1) w a := ext2 fun r j => by
  unfold k0_pay6 k0_pay5
  generalize k0_pay3 v0 v1 = d
  pointwise []
  rfl

theorem c7 : k0_pay7 v0 v1 w a = chunk (n := 256) (c := 256) (D := 1024) (k0_pay3 v0 v1) w a := ext2 fun r j => by
  unfold k0_pay7 k0_pay5
  generalize k0_pay3 v0 v1 = d
  pointwise []
  rfl

end Chunks

theorem p39 (v184 : Vec Ideal S256x5632 .bf16) (v186 : Vec Ideal S5632x1024 .bf16) (r : Fin 256) (j : Fin 1024) :
    k0_pay39 v184 v186 (ix2 r j) = ∑ k, v184 (ix2 r k) * v186 (ix2 k j) := by
  pointwise [k0_pay39]

theorem p44 (v188 : FVec Ideal S256x1024 .f32) (z : Fin 1) (j : Fin 1024) : k0_pay44 v188 (ix2 z j) = ∑ i, v188 (ix2 i j) := by
  pointwise [k0_pay44]

theorem p45 (v188 : FVec Ideal S256x1024 .f32) (v189 : Vec Ideal S256x1024 .f32) (v190 : Vec Ideal S1x1024 .f32) (z : Fin 1) (j : Fin 1024) :
    k0_pay45 v188 v189 (k0_pay40 v190) (ix2 z j) = ∑ i, nrm (rowOf v189 i) j * v190 (ix2 0 j) * v188 (ix2 i j) := by
  pointwise [k0_pay45, k0_pay40, k0_pay43, k0_pay42, k0_pay41]
  rfl

theorem p47 (v188 : FVec Ideal S256x1024 .f32) (v189 : Vec Ideal S256x1024 .f32) (v192 : Vec Ideal S1x1024 .f32) (z : Fin 1) (j : Fin 1024) :
    k0_pay47 v188 v189 v192 (ix2 z j) = ∑ i, nrm (rowOf v189 i) j * (v188 (ix2 i j) * (1 + v192 (ix2 0 j))) := by
  pointwise [k0_pay47, k0_pay46, k0_pay43, k0_pay42, k0_pay41]
  rfl

theorem p48 (v0 v188 : FVec Ideal S256x1024 .f32) (v189 : Vec Ideal S256x1024 .f32) (v190 v192 : Vec Ideal S1x1024 .f32) (r : Fin 256) (j : Fin 1024) :
    k0_pay48 v0 v188 v189 (k0_pay40 v190) v192 (ix2 r j) =
      v0 (ix2 r j) + ngrad (rowOf v189 r) (wrow (rowOf v190 0) (rowOf v192 0) (rowOf v188 r)) j := by
  pointwise [k0_pay48, k0_pay46, k0_pay43, k0_pay42, k0_pay41, k0_pay40]
  simp only [Finset.univ_unique, Finset.sum_singleton]
  rfl

theorem p1 (v18 v212 v215 v220 : FVec Ideal S1x1024 .f32) (r : Fin 8) (j : Fin 1024) :
    k0_pay1 v18 v212 v215 v220 (ix2 r j) =
      if r.val < 1 then v220 (ix2 0 j) else if r.val - 1 < 1 then v212 (ix2 0 j) else if r.val - 1 - 1 < 1 then v215 (ix2 0 j) else
      if r.val - 1 - 1 - 1 < 1 then v18 (ix2 0 j) else 0 := by
  have e : ∀ (v : FVec Ideal S1x1024 .f32) (z : Fin 1), v (ix2 z j) = v (ix2 0 j) := fun v z => by rw [Subsingleton.elim z 0]
  pointwise [k0_pay1]
  split_ifs <;> first | exact e _ _ | rfl

theorem p2 (v18 v212 v215 v220 : FVec Ideal S1x1024 .f32) (w : Vec Ideal S8x1024 .f32) (r : Fin 8) (j : Fin 1024) :
    k0_pay2 v18 v212 v215 v220 w (ix2 r j) = w (ix2 r j) + k0_pay1 v18 v212 v215 v220 (ix2 r j) := by
  unfold k0_pay2
  generalize k0_pay1 v18 v212 v215 v220 = z
  pointwise []

end Cert.FfnIdeal.Pure
-- ==== Proof.FfnOut.lean ====
module

public import proofs.«01_k».proof.Proof.Gen.FfnIdeal.Value
public import proofs.«01_k».proof.Proof.FfnPure
public import Idealize.ShloMosaic.Lib.WritesUnit

@[expose] public section

set_option maxRecDepth 16384

noncomputable section

namespace Cert.FfnIdeal.Out

open Cert.FfnIdeal Cert.FfnIdeal.Gen Idealize.ShloMosaic Idealize.ShloMosaic.TcCoe
open Pure

section Columns
variable {n c F D E : ℕ}
variable (d : (⟨2, ![n, D]⟩ : Shape).Idx → EReal) (w : (⟨2, ![F, D]⟩ : Shape).Idx → EReal) (a b : (⟨2, ![n, F]⟩ : Shape).Idx → EReal)

/-- Both gates' cotangents side by side. -/
def gates (hE : F + F = E) (y : (⟨2, ![n, E]⟩ : Shape).Idx) : EReal :=
  if h : (y 1).val < F then chunk d w a (ix2 (y 0) ⟨(y 1).val, h⟩) else
    chunk d w b (ix2 (y 0) ⟨(y 1).val - F, by have : (y 1).val < E := (y 1).isLt; omega⟩)

/-- A block of columns of a product with part of the weights. -/
theorem part_chunk (v : (⟨2, ![n, F]⟩ : Shape).Idx → EReal) (o : ℕ) (i1 : ∀ k : Fin 2, (![o, 0] : Fin 2 → ℕ) k + (![c, D] : Fin 2 → ℕ) k ≤ (![F, D] : Fin 2 → ℕ) k)
    (i2 : ∀ k : Fin 2, (![0, o] : Fin 2 → ℕ) k + (![n, c] : Fin 2 → ℕ) k ≤ (![n, F] : Fin 2 → ℕ) k) (x : (⟨2, ![n, c]⟩ : Shape).Idx) (j : Fin F) (hj : j.val = o + (x 1).val) :
    chunk (n := n) (c := c) (D := D) d (View.ld (Val := Elt Ideal) (e' := .bf16) w (Rect.unit (s := ⟨2, ![F, D]⟩) ![o, 0] ![c, D] i1)) (View.ld (Val := Elt Ideal) (e' := .bf16) v (Rect.unit (s := ⟨2, ![n, F]⟩) ![0, o] ![n, c] i2)) x = chunk d w v (ix2 (x 0) j) := by
  unfold chunk
  have ew : ∀ k : Fin D, (Rect.unit (s := ⟨2, ![F, D]⟩) ![o, 0] ![c, D] i1).emb (ix2 (x 1) k) = ix2 j k := fun k => by
    funext a
    match a with
    | ⟨0, _⟩ => exact Fin.ext (by show o + 1 * (x 1).val = j.val; omega)
    | ⟨1, _⟩ => exact Fin.ext (by show 0 + 1 * k.val = k.val; omega)
  have ev : (Rect.unit (s := ⟨2, ![n, F]⟩) ![0, o] ![n, c] i2).emb (ix2 (x 0) (x 1)) = ix2 (x 0) j := by
    funext a
    match a with
    | ⟨0, _⟩ => exact Fin.ext (by show 0 + 1 * (x 0).val = (x 0).val; omega)
    | ⟨1, _⟩ => exact Fin.ext (by show o + 1 * (x 1).val = j.val; omega)
  exact congrArg₂ (· * ·) (Finset.sum_congr rfl fun k _ => congrArg (fun y => (d (ix2 (x 0) k) * w y : EReal)) (ew k)) (congrArg v ev)

theorem lo (hE : F + F = E) (o : ℕ) (ho : o + c ≤ F) (i1) (i2) (i3 : ∀ k : Fin 2, (![0, o] : Fin 2 → ℕ) k + (![n, c] : Fin 2 → ℕ) k ≤ (![n, E] : Fin 2 → ℕ) k) (x : (⟨2, ![n, c]⟩ : Shape).Idx) :
    chunk (n := n) (c := c) (D := D) d (View.ld (Val := Elt Ideal) (e' := .bf16) w (Rect.unit (s := ⟨2, ![F, D]⟩) ![o, 0] ![c, D] i1)) (View.ld (Val := Elt Ideal) (e' := .bf16) a (Rect.unit (s := ⟨2, ![n, F]⟩) ![0, o] ![n, c] i2)) x =
      gates d w a b hE ((Rect.unit (s := ⟨2, ![n, E]⟩) ![0, o] ![n, c] i3).emb x) := by
  have hx : (x 1).val < c := (x 1).isLt
  have e0 : ((Rect.unit (s := ⟨2, ![n, E]⟩) ![0, o] ![n, c] i3).emb x) 0 = x 0 := Fin.ext (by show 0 + 1 * (x 0).val = (x 0).val; omega)
  have e1 : (((Rect.unit (s := ⟨2, ![n, E]⟩) ![0, o] ![n, c] i3).emb x) 1).val = o + (x 1).val := by show o + 1 * (x 1).val = _; omega
  unfold gates
  rw [dif_pos (by rw [e1]; omega)]
  refine (part_chunk d w a o i1 i2 x ⟨(((Rect.unit (s := ⟨2, ![n, E]⟩) ![0, o] ![n, c] i3).emb x) 1).val, by rw [e1]; omega⟩ e1).trans ?_
  rw [e0]

theorem hi (hE : F + F = E) (o p : ℕ) (ho : o + c ≤ F) (hp : p = F + o) (i1) (i2) (i3 : ∀ k : Fin 2, (![0, p] : Fin 2 → ℕ) k + (![n, c] : Fin 2 → ℕ) k ≤ (![n, E] : Fin 2 → ℕ) k) (x : (⟨2, ![n, c]⟩ : Shape).Idx) :
    chunk (n := n) (c := c) (D := D) d (View.ld (Val := Elt Ideal) (e' := .bf16) w (Rect.unit (s := ⟨2, ![F, D]⟩) ![o, 0] ![c, D] i1)) (View.ld (Val := Elt Ideal) (e' := .bf16) b (Rect.unit (s := ⟨2, ![n, F]⟩) ![0, o] ![n, c] i2)) x =
      gates d w a b hE ((Rect.unit (s := ⟨2, ![n, E]⟩) ![0, p] ![n, c] i3).emb x) := by
  have hx : (x 1).val < c := (x 1).isLt
  have e0 : ((Rect.unit (s := ⟨2, ![n, E]⟩) ![0, p] ![n, c] i3).emb x) 0 = x 0 := Fin.ext (by show 0 + 1 * (x 0).val = (x 0).val; omega)
  have e1 : (((Rect.unit (s := ⟨2, ![n, E]⟩) ![0, p] ![n, c] i3).emb x) 1).val = p + (x 1).val := by show p + 1 * (x 1).val = _; omega
  unfold gates
  rw [dif_neg (by rw [e1]; omega)]
  refine (part_chunk d w b o i1 i2 x ⟨(((Rect.unit (s := ⟨2, ![n, E]⟩) ![0, p] ![n, c] i3).emb x) 1).val - F, by rw [e1]; omega⟩ ?_).trans ?_
  · show _ - F = _
    rw [e1]; omega
  · rw [e0]
end Columns

section Loads
variable (m : (ℓ : Loc nD τ sig) → Buf (Elt Ideal) ℓ) (c : Dev nD) (t : Fin cfg0.N)

/-- A row of the block of vectors. -/
abbrev row (k : ℕ) (inb : ∀ a, (![k, 0] : Fin 2 → ℕ) a + S1x1024.size a ≤ S8x1024.size a) (X : Vec Ideal S8x1024 .f32) : Vec Ideal S1x1024 .f32 :=
  View.ld (Val := Elt Ideal) (e' := .f32) X (Rect.unit ![k, 0] S1x1024.size inb)

abbrev bO : Vec Ideal S256x1024 .f32 := iblk m c 0 t
abbrev bY : Vec Ideal S256x1024 .bf16 := iblk m c 1 t
abbrev vG : Vec Ideal S1x1024 .f32 := row 0 inb_S8x1024_S1x1024_0_0 (iblk m c 2 t)
abbrev vS : Vec Ideal S1x1024 .f32 := row 2 inb_S8x1024_S1x1024_2_0 (iblk m c 2 t)
abbrev vA : Vec Ideal S1x1024 .f32 := row 3 inb_S8x1024_S1x1024_3_0 (iblk m c 2 t)
abbrev wO : Vec Ideal S2816x1024 .bf16 := iblk m c 3 t
abbrev wI : Vec Ideal S5632x1024 .bf16 := iblk m c 4 t
abbrev bA : Vec Ideal S256x2816 .bf16 := iblk m c 5 t
abbrev bB : Vec Ideal S256x2816 .bf16 := iblk m c 6 t
abbrev bX : Vec Ideal S256x1024 .f32 := iblk m c 7 t

abbrev dY : FVec Ideal S256x1024 .bf16 := k0_pay3 (bO m c t) (vA m c t)

/-- A block's gates' cotangents. -/
abbrev dG : FVec Ideal S256x5632 .bf16 := gates (n := 256) (F := 2816) (D := 1024) (E := 5632) (dY m c t) (wO m c t) (bA m c t) (bB m c t) rfl

/-- A block's cotangent of the modulated rows. -/
abbrev dH : FVec Ideal S256x1024 .f32 := k0_pay39 (dG m c t) (wI m c t)

abbrev dX : FVec Ideal S256x1024 .f32 := k0_pay48 (bO m c t) (dH m c t) (bX m c t) (k0_pay40 (vG m c t)) (vS m c t)

/-- A block's share of the vectors' gradients. -/
abbrev dP : FVec Ideal S8x1024 .f32 :=
  k0_pay1 (k0_pay4 (bO m c t) (bY m c t)) (k0_pay44 (dH m c t)) (k0_pay45 (dH m c t) (bX m c t) (k0_pay40 (vG m c t))) (k0_pay47 (dH m c t) (bX m c t) (vS m c t))

abbrev prev (h : 1 ≤ t.val) := outsAt0 m c (t.val - 1) (Nat.lt_of_le_of_lt (Nat.sub_le _ _) t.isLt)

/-- The loads of the blocks, and of the block of vectors. -/
theorem ldX {S : Shape} {e : EltTy} {M : Memref sig .tc .vmem S e} (hM : M.IsWhole) (X : S.Idx → Elt Ideal e) (r : Rect S) :
    View.readAt (Elt Ideal) M.view r.toLoadRect (hM.unread X) = View.ld (Val := Elt Ideal) (e' := e) X r := Base.readAt_ld hM X r

/-- A load of the whole of what the stores left. -/
theorem covWhole {v : View sig .tc .vmem S256x5632 .bf16} (L : List (View.Piece (Elt Ideal) S256x5632 .bf16)) (inb : ∀ a, (![0, 0] : Fin 2 → ℕ) a + S256x5632.size a ≤ S256x5632.size a) :
    v.readCov L (Rect.unit (s := S256x5632) ![0, 0] S256x5632.size inb).toLoadRect = View.canon L := by
  rw [View.readCov_eq_canon']
  exact View.ld_unit_zero (Val := Elt Ideal) (e := .bf16) Base.hz2 inb (View.canon L)

section A
variable (h0 : t.val % 32 = 0) (h1 : ¬1 ≤ t.val)

include h0 h1 in
theorem a8 : (outsAt0 m c t.val t.isLt).1 = dY m c t := by
  rw [outsAt0_A m c t h0 h1]
  dsimp only
  unfold out0_A_8
  rw [View.read_writes_junk_eq_canon]
  unfold kernelRun0_A
  dsimp only
  rw [View.canon_unit_zero Base.hz2]
  try delta kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [Base.readAt_whole (hs0_0 t) _ Base.hz2, Base.readAt_whole (hs0_1 t) _ Base.hz2, Base.readAt_whole (hs0_3 t) _ Base.hz2, Base.readAt_whole (hs0_4 t) _ Base.hz2, Base.readAt_whole (hs0_7 t) _ Base.hz2, Base.readAt_whole (hs0_11 t) _ Base.hz2, ldX]
  try rfl

include h0 h1 in
/-- The blocks of columns are stored one after another. -/
theorem a9 : (outsAt0 m c t.val t.isLt).2.1 = dG m c t := by
  rw [outsAt0_A m c t h0 h1]
  dsimp only
  unfold out0_A_9
  funext y
  refine View.read_writes_apply_of_pieces (Val := Elt Ideal) _ _ (dG m c t : S256x5632.Idx → Elt Ideal .bf16) _ ?_ y (cover0_A_9 ..)
  unfold kernelRun0_A
  dsimp only
  delta kernelRun0_A.sl.H9_22 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [List.forall_mem_cons, Base.readAt_whole (hs0_0 t) _ Base.hz2, Base.readAt_whole (hs0_1 t) _ Base.hz2, Base.readAt_whole (hs0_3 t) _ Base.hz2, Base.readAt_whole (hs0_4 t) _ Base.hz2, Base.readAt_whole (hs0_7 t) _ Base.hz2, Base.readAt_whole (hs0_11 t) _ Base.hz2, ldX, c6, c7, c9, c10, c12, c13, c15, c16, c18, c19, c21, c22, c24, c25, c28, c29, c31, c32, c34, c35, c37, c38]
  have H := hi (n := 256) (c := 256) (F := 2816) (D := 1024) (E := 5632) (dY m c t) (wO m c t) (bA m c t) (bB m c t) rfl
  have L := lo (n := 256) (c := 256) (F := 2816) (D := 1024) (E := 5632) (dY m c t) (wO m c t) (bA m c t) (bB m c t) rfl
  refine ⟨?_, ?_, ?_, ?_, ?_, ?_, ?_, ?_, ?_, ?_, ?_, ?_, ?_, ?_, ?_, ?_, ?_, ?_, ?_, ?_, ?_, ?_, fun _ h => absurd h List.not_mem_nil⟩
  · exact H 2560 5376 (by decide) rfl _ _ _
  · exact L 2560 (by decide) _ _ _
  · exact H 2304 5120 (by decide) rfl _ _ _
  · exact L 2304 (by decide) _ _ _
  · exact H 2048 4864 (by decide) rfl _ _ _
  · exact L 2048 (by decide) _ _ _
  · exact H 1792 4608 (by decide) rfl _ _ _
  · exact L 1792 (by decide) _ _ _
  · exact H 1536 4352 (by decide) rfl _ _ _
  · exact L 1536 (by decide) _ _ _
  · exact H 1280 4096 (by decide) rfl _ _ _
  · exact L 1280 (by decide) _ _ _
  · exact H 1024 3840 (by decide) rfl _ _ _
  · exact L 1024 (by decide) _ _ _
  · exact H 768 3584 (by decide) rfl _ _ _
  · exact L 768 (by decide) _ _ _
  · exact H 512 3328 (by decide) rfl _ _ _
  · exact L 512 (by decide) _ _ _
  · exact H 256 3072 (by decide) rfl _ _ _
  · exact L 256 (by decide) _ _ _
  · exact H 0 2816 (by decide) rfl _ _ _
  · exact L 0 (by decide) _ _ _

include h0 h1 in
theorem aH : View.canon (kernelRun0_A.sl.H9_22 (F := Ideal) c (ms0_0 t) (hs0_0 t) (ms0_2 t) (hs0_2 t) (ms0_3 t) (hs0_3 t) (ms0_5 t) (hs0_5 t) (ms0_6 t) (hs0_6 t) (iblk m c 0 t) (iblk m c 2 t) (iblk m c 3 t) (iblk m c 5 t) (iblk m c 6 t)) = dG m c t := by
  have e := a9 m c t h0 h1
  rw [outsAt0_A m c t h0 h1] at e
  dsimp only at e
  unfold out0_A_9 kernelRun0_A at e
  dsimp only at e
  rw [View.read_writes_junk_eq_canon] at e
  exact e

include h0 h1 in
theorem a10 : (outsAt0 m c t.val t.isLt).2.2.1 = dX m c t := by
  rw [outsAt0_A m c t h0 h1]
  dsimp only
  unfold out0_A_10
  rw [View.read_writes_junk_eq_canon]
  unfold kernelRun0_A
  dsimp only
  rw [View.canon_unit_zero Base.hz2]
  delta kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v184
  rw [covWhole, aH m c t h0 h1]
  simp only [Base.readAt_whole (hs0_0 t) _ Base.hz2, Base.readAt_whole (hs0_1 t) _ Base.hz2, Base.readAt_whole (hs0_3 t) _ Base.hz2, Base.readAt_whole (hs0_4 t) _ Base.hz2, Base.readAt_whole (hs0_7 t) _ Base.hz2, Base.readAt_whole (hs0_11 t) _ Base.hz2, ldX]
  try rfl

include h0 h1 in
theorem a11 : (outsAt0 m c t.val t.isLt).2.2.2 = dP m c t := by
  rw [outsAt0_A m c t h0 h1]
  dsimp only
  unfold out0_A_11
  rw [View.read_writes_junk_eq_canon]
  unfold kernelRun0_A
  dsimp only
  rw [View.canon_unit_zero Base.hz2]
  delta kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v184
  rw [covWhole, aH m c t h0 h1]
  simp only [Base.readAt_whole (hs0_0 t) _ Base.hz2, Base.readAt_whole (hs0_1 t) _ Base.hz2, Base.readAt_whole (hs0_3 t) _ Base.hz2, Base.readAt_whole (hs0_4 t) _ Base.hz2, Base.readAt_whole (hs0_7 t) _ Base.hz2, Base.readAt_whole (hs0_11 t) _ Base.hz2, ldX]
  try rfl

end A

section B
variable (h0 : ¬t.val % 32 = 0) (h1 : 1 ≤ t.val)

include h0 h1 in
theorem b8 : (outsAt0 m c t.val t.isLt).1 = dY m c t := by
  rw [outsAt0_B m c t h0 h1]
  dsimp only
  unfold out0_B_8
  rw [View.read_writes_junk_eq_canon]
  unfold kernelRun0_B
  dsimp only
  rw [View.canon_unit_zero Base.hz2]
  try delta kernelRun0_B.sl.r_16 kernelRun0_B.sl.r_15 kernelRun0_B.sl.r_14 kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
  simp only [Base.readAt_whole (hs0_0 t) _ Base.hz2, Base.readAt_whole (hs0_1 t) _ Base.hz2, Base.readAt_whole (hs0_3 t) _ Base.hz2, Base.readAt_whole (hs0_4 t) _ Base.hz2, Base.readAt_whole (hs0_7 t) _ Base.hz2, Base.readAt_whole (hs0_11 t) _ Base.hz2, ldX]
  try rfl

include h0 h1 in
/-- The blocks of columns are stored one after another. -/
theorem b9 : (outsAt0 m c t.val t.isLt).2.1 = dG m c t := by
  rw [outsAt0_B m c t h0 h1]
  dsimp only
  unfold out0_B_9
  funext y
  refine View.read_writes_apply_of_pieces (Val := Elt Ideal) _ _ (dG m c t : S256x5632.Idx → Elt Ideal .bf16) _ ?_ y (cover0_B_9 ..)
  unfold kernelRun0_B
  dsimp only
  delta kernelRun0_B.sl.H9_22 kernelRun0_B.sl.r_16 kernelRun0_B.sl.r_15 kernelRun0_B.sl.r_14 kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
  simp only [List.forall_mem_cons, Base.readAt_whole (hs0_0 t) _ Base.hz2, Base.readAt_whole (hs0_1 t) _ Base.hz2, Base.readAt_whole (hs0_3 t) _ Base.hz2, Base.readAt_whole (hs0_4 t) _ Base.hz2, Base.readAt_whole (hs0_7 t) _ Base.hz2, Base.readAt_whole (hs0_11 t) _ Base.hz2, ldX, c6, c7, c9, c10, c12, c13, c15, c16, c18, c19, c21, c22, c24, c25, c28, c29, c31, c32, c34, c35, c37, c38]
  have H := hi (n := 256) (c := 256) (F := 2816) (D := 1024) (E := 5632) (dY m c t) (wO m c t) (bA m c t) (bB m c t) rfl
  have L := lo (n := 256) (c := 256) (F := 2816) (D := 1024) (E := 5632) (dY m c t) (wO m c t) (bA m c t) (bB m c t) rfl
  refine ⟨?_, ?_, ?_, ?_, ?_, ?_, ?_, ?_, ?_, ?_, ?_, ?_, ?_, ?_, ?_, ?_, ?_, ?_, ?_, ?_, ?_, ?_, fun _ h => absurd h List.not_mem_nil⟩
  · exact H 2560 5376 (by decide) rfl _ _ _
  · exact L 2560 (by decide) _ _ _
  · exact H 2304 5120 (by decide) rfl _ _ _
  · exact L 2304 (by decide) _ _ _
  · exact H 2048 4864 (by decide) rfl _ _ _
  · exact L 2048 (by decide) _ _ _
  · exact H 1792 4608 (by decide) rfl _ _ _
  · exact L 1792 (by decide) _ _ _
  · exact H 1536 4352 (by decide) rfl _ _ _
  · exact L 1536 (by decide) _ _ _
  · exact H 1280 4096 (by decide) rfl _ _ _
  · exact L 1280 (by decide) _ _ _
  · exact H 1024 3840 (by decide) rfl _ _ _
  · exact L 1024 (by decide) _ _ _
  · exact H 768 3584 (by decide) rfl _ _ _
  · exact L 768 (by decide) _ _ _
  · exact H 512 3328 (by decide) rfl _ _ _
  · exact L 512 (by decide) _ _ _
  · exact H 256 3072 (by decide) rfl _ _ _
  · exact L 256 (by decide) _ _ _
  · exact H 0 2816 (by decide) rfl _ _ _
  · exact L 0 (by decide) _ _ _

include h0 h1 in
theorem bH : View.canon (kernelRun0_B.sl.H9_22 (F := Ideal) c (ms0_0 t) (hs0_0 t) (ms0_2 t) (hs0_2 t) (ms0_3 t) (hs0_3 t) (ms0_5 t) (hs0_5 t) (ms0_6 t) (hs0_6 t) (iblk m c 0 t) (iblk m c 2 t) (iblk m c 3 t) (iblk m c 5 t) (iblk m c 6 t)) = dG m c t := by
  have e := b9 m c t h0 h1
  rw [outsAt0_B m c t h0 h1] at e
  dsimp only at e
  unfold out0_B_9 kernelRun0_B at e
  dsimp only at e
  rw [View.read_writes_junk_eq_canon] at e
  exact e

include h0 h1 in
theorem b10 : (outsAt0 m c t.val t.isLt).2.2.1 = dX m c t := by
  rw [outsAt0_B m c t h0 h1]
  dsimp only
  unfold out0_B_10
  rw [View.read_writes_junk_eq_canon]
  unfold kernelRun0_B
  dsimp only
  rw [View.canon_unit_zero Base.hz2]
  delta kernelRun0_B.sl.r_16 kernelRun0_B.sl.r_15 kernelRun0_B.sl.r_14 kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r kernelRun0_B.sl.v184
  rw [covWhole, bH m c t h0 h1]
  simp only [Base.readAt_whole (hs0_0 t) _ Base.hz2, Base.readAt_whole (hs0_1 t) _ Base.hz2, Base.readAt_whole (hs0_3 t) _ Base.hz2, Base.readAt_whole (hs0_4 t) _ Base.hz2, Base.readAt_whole (hs0_7 t) _ Base.hz2, Base.readAt_whole (hs0_11 t) _ Base.hz2, ldX]
  try rfl

include h0 h1 in
theorem b11 : (outsAt0 m c t.val t.isLt).2.2.2 = k0_pay2 (k0_pay4 (bO m c t) (bY m c t)) (k0_pay44 (dH m c t)) (k0_pay45 (dH m c t) (bX m c t) (k0_pay40 (vG m c t))) (k0_pay47 (dH m c t) (bX m c t) (vS m c t)) (prev m c t h1).2.2.2 := by
  rw [outsAt0_B m c t h0 h1]
  dsimp only
  unfold out0_B_11
  rw [View.read_writes_junk_eq_canon]
  unfold kernelRun0_B
  dsimp only
  rw [View.canon_unit_zero Base.hz2]
  delta kernelRun0_B.sl.r_16 kernelRun0_B.sl.r_15 kernelRun0_B.sl.r_14 kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r kernelRun0_B.sl.v184
  rw [covWhole, bH m c t h0 h1]
  simp only [Base.readAt_whole (hs0_0 t) _ Base.hz2, Base.readAt_whole (hs0_1 t) _ Base.hz2, Base.readAt_whole (hs0_3 t) _ Base.hz2, Base.readAt_whole (hs0_4 t) _ Base.hz2, Base.readAt_whole (hs0_7 t) _ Base.hz2, Base.readAt_whole (hs0_11 t) _ Base.hz2, ldX]
  try rfl

end B

end Loads

end Cert.FfnIdeal.Out
-- ==== Proof.FfnSpec.lean ====
module

public import proofs.«01_k».proof.Proof.Base

@[expose] public section

noncomputable section

namespace Cert.FfnSpec

open Idealize.ShloMosaic Base

/-- What both programs compute with: the cotangent `O`, the rows `X`, the block's output `Y`, the gates' saved derivatives `GA` and `GB`, the gate `A`,
the norm's factor `G`, the scale `S` and the weights. -/
structure Args where
  O : Fin 8192 → Fin 1024 → EReal
  X : Fin 8192 → Fin 1024 → EReal
  Y : Fin 8192 → Fin 1024 → EReal
  GA : Fin 8192 → Fin 2816 → EReal
  GB : Fin 8192 → Fin 2816 → EReal
  A : Fin 1024 → EReal
  G : Fin 1024 → EReal
  S : Fin 1024 → EReal
  WI : Fin 5632 → Fin 1024 → EReal
  WO : Fin 2816 → Fin 1024 → EReal

variable (a : Args)

/-- One half, as the programs write it. -/
abbrev cHalf : EReal := Ideal.ofBits .f32 1056964608#32

/-- The cotangent of the block's output. -/
def dy (i : Fin 8192) (j : Fin 1024) : EReal := a.O i j * (cHalf * (1 + a.A j))

/-- The cotangent of the gated rows. -/
def du (i : Fin 8192) (k : Fin 2816) : EReal := ∑ j, dy a i j * a.WO k j

/-- The cotangent of the product before the gates. -/
def db (i : Fin 8192) (k : Fin 5632) : EReal :=
  if h : k.val < 2816 then du a i ⟨k.val, h⟩ * a.GA i ⟨k.val, h⟩ else du a i ⟨k.val - 2816, by omega⟩ * a.GB i ⟨k.val - 2816, by omega⟩

/-- The cotangent of the modulated rows. -/
def dh (i : Fin 8192) (j : Fin 1024) : EReal := ∑ k, db a i k * a.WI k j

/-- The cotangent of the normalised row. -/
def wr (i : Fin 8192) (j : Fin 1024) : EReal := dh a i j * (1 + a.S j) * a.G j

def dx (i : Fin 8192) (j : Fin 1024) : EReal := a.O i j + ngrad (a.X i) (wr a i) j

/-- A row's share of the vectors' gradients. -/
def part (i : Fin 8192) (r : Fin 8) (j : Fin 1024) : EReal :=
  if r.val < 1 then nrm (a.X i) j * (dh a i j * (1 + a.S j)) else if r.val - 1 < 1 then dh a i j else
  if r.val - 1 - 1 < 1 then nrm (a.X i) j * a.G j * dh a i j else if r.val - 1 - 1 - 1 < 1 then cHalf * (a.O i j * a.Y i j) else 0

/-- One half goes through a sum. -/
theorem half_sum {ι : Type*} (s : Finset ι) (f : ι → EReal) : cHalf * ∑ i ∈ s, f i = ∑ i ∈ s, cHalf * f i := by
  classical
  have h0 : (0 : EReal) ≤ cHalf := by rw [cHalf, ofBits_half]; exact_mod_cast (by norm_num : (0 : ℝ) ≤ 1 / 2)
  have h1 : cHalf ≠ ⊤ := by rw [cHalf, ofBits_half]; exact EReal.coe_ne_top _
  induction s using Finset.induction with
  | empty => simp
  | insert i s hi ih => rw [Finset.sum_insert hi, Finset.sum_insert hi, EReal.left_distrib_of_nonneg_of_ne_top h0 h1, ih]

end Cert.FfnSpec
-- ==== Proof.FfnVal.lean ====
module

public import proofs.«01_k».proof.Proof.At
public import proofs.«01_k».proof.Proof.FfnOut
public import proofs.«01_k».proof.Proof.FfnSpec

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)
open Base Pure Out FfnSpec

variable (m : (ℓ : Loc nD τ sig) → Buf (Elt Ideal) ℓ) (c : Dev nD)

/-- What the call reads. -/
def K : Args where
  O i j := V m c main_arg7 (ix2 i j)
  X i j := V m c main_arg0 (ix2 i j)
  Y i j := V m c main_v44 (ix2 i j)
  GA i k := V m c main_v48 (ix2 i k)
  GB i k := V m c main_v49 (ix2 i k)
  A j := V m c main_v5 (ix2 3 j)
  G j := V m c main_v5 (ix2 0 j)
  S j := V m c main_v5 (ix2 2 j)
  WI k j := V m c main_v47 (ix2 k j)
  WO k j := V m c main_v45 (ix2 k j)

/-- The row of the whole matrix that is row `r` of the block of point `t`. -/
def at_ (t : Fin cfg0.N) (r : Fin 256) : Fin 8192 := ⟨256 * t.val + r.val, by have := t.isLt; have e : cfg0.N = 32 := rfl; omega⟩

theorem emb0 (t : Fin cfg0.N) (r : Fin 256) (k : Fin 1024) : (win0_0.rect t).emb (ix2 r k) = ix2 (at_ t r) k :=
  at2 (fun a => win0_0.rect_emb_val t _ a) (by revert t; decide +kernel) rfl rfl

theorem emb1 (t : Fin cfg0.N) (r : Fin 256) (k : Fin 1024) : (win0_1.rect t).emb (ix2 r k) = ix2 (at_ t r) k :=
  at2 (fun a => win0_1.rect_emb_val t _ a) (by revert t; decide +kernel) rfl rfl

theorem emb5 (t : Fin cfg0.N) (r : Fin 256) (k : Fin 2816) : (win0_5.rect t).emb (ix2 r k) = ix2 (at_ t r) k :=
  at2 (fun a => win0_5.rect_emb_val t _ a) (by revert t; decide +kernel) rfl rfl

theorem emb6 (t : Fin cfg0.N) (r : Fin 256) (k : Fin 2816) : (win0_6.rect t).emb (ix2 r k) = ix2 (at_ t r) k :=
  at2 (fun a => win0_6.rect_emb_val t _ a) (by revert t; decide +kernel) rfl rfl

theorem emb7 (t : Fin cfg0.N) (r : Fin 256) (k : Fin 1024) : (win0_7.rect t).emb (ix2 r k) = ix2 (at_ t r) k :=
  at2 (fun a => win0_7.rect_emb_val t _ a) (by revert t; decide +kernel) rfl rfl

theorem emb8 (t : Fin cfg0.N) (r : Fin 256) (k : Fin 1024) : (win0_8.rect t).emb (ix2 r k) = ix2 (at_ t r) k :=
  at2 (fun a => win0_8.rect_emb_val t _ a) (by revert t; decide +kernel) rfl rfl

theorem emb9 (t : Fin cfg0.N) (r : Fin 256) (k : Fin 5632) : (win0_9.rect t).emb (ix2 r k) = ix2 (at_ t r) k :=
  at2 (fun a => win0_9.rect_emb_val t _ a) (by revert t; decide +kernel) rfl rfl

theorem emb10 (t : Fin cfg0.N) (r : Fin 256) (k : Fin 1024) : (win0_10.rect t).emb (ix2 r k) = ix2 (at_ t r) k :=
  at2 (fun a => win0_10.rect_emb_val t _ a) (by revert t; decide +kernel) rfl rfl

theorem emb2 (t : Fin cfg0.N) (r : Fin 8) (k : Fin 1024) : (win0_2.rect t).emb (ix2 r k) = ix2 r k :=
  at2 (q := 0) (fun a => win0_2.rect_emb_val t _ a) (by revert t; decide +kernel) (Nat.zero_add _) rfl

theorem emb3 (t : Fin cfg0.N) (r : Fin 2816) (k : Fin 1024) : (win0_3.rect t).emb (ix2 r k) = ix2 r k :=
  at2 (q := 0) (fun a => win0_3.rect_emb_val t _ a) (by revert t; decide +kernel) (Nat.zero_add _) rfl

theorem emb4 (t : Fin cfg0.N) (r : Fin 5632) (k : Fin 1024) : (win0_4.rect t).emb (ix2 r k) = ix2 r k :=
  at2 (q := 0) (fun a => win0_4.rect_emb_val t _ a) (by revert t; decide +kernel) (Nat.zero_add _) rfl

theorem emb11 (t : Fin cfg0.N) (r : Fin 8) (k : Fin 1024) : (win0_11.rect t).emb (ix2 r k) = ix2 r k :=
  at2 (q := 0) (fun a => win0_11.rect_emb_val t _ a) (by revert t; decide +kernel) (Nat.zero_add _) rfl

theorem hO (t : Fin cfg0.N) (r : Fin 256) (k : Fin 1024) : bO m c t (ix2 r k) = (K m c).O (at_ t r) k := by
  show V m c main_arg7 ((win0_0.rect t).emb (ix2 r k)) = V m c main_arg7 (ix2 (at_ t r) k)
  rw [emb0]

theorem hY (t : Fin cfg0.N) (r : Fin 256) (k : Fin 1024) : bY m c t (ix2 r k) = (K m c).Y (at_ t r) k := by
  show V m c main_v44 ((win0_1.rect t).emb (ix2 r k)) = V m c main_v44 (ix2 (at_ t r) k)
  rw [emb1]

theorem hGA (t : Fin cfg0.N) (r : Fin 256) (k : Fin 2816) : bA m c t (ix2 r k) = (K m c).GA (at_ t r) k := by
  show V m c main_v48 ((win0_5.rect t).emb (ix2 r k)) = V m c main_v48 (ix2 (at_ t r) k)
  rw [emb5]

theorem hGB (t : Fin cfg0.N) (r : Fin 256) (k : Fin 2816) : bB m c t (ix2 r k) = (K m c).GB (at_ t r) k := by
  show V m c main_v49 ((win0_6.rect t).emb (ix2 r k)) = V m c main_v49 (ix2 (at_ t r) k)
  rw [emb6]

theorem hX (t : Fin cfg0.N) (r : Fin 256) (k : Fin 1024) : bX m c t (ix2 r k) = (K m c).X (at_ t r) k := by
  show V m c main_arg0 ((win0_7.rect t).emb (ix2 r k)) = V m c main_arg0 (ix2 (at_ t r) k)
  rw [emb7]

theorem hWI (t : Fin cfg0.N) (j : Fin 5632) (k : Fin 1024) : wI m c t (ix2 j k) = (K m c).WI j k := by
  show V m c main_v47 ((win0_4.rect t).emb (ix2 j k)) = V m c main_v47 (ix2 j k)
  rw [emb4]

theorem hWO (t : Fin cfg0.N) (j : Fin 2816) (k : Fin 1024) : wO m c t (ix2 j k) = (K m c).WO j k := by
  show V m c main_v45 ((win0_3.rect t).emb (ix2 j k)) = V m c main_v45 (ix2 j k)
  rw [emb3]

theorem hG (t : Fin cfg0.N) (j : Fin 1024) : Out.vG m c t (ix2 0 j) = (K m c).G j := by
  show V m c main_v5 ((win0_2.rect t).emb ((Rect.unit (s := S8x1024) ![0, 0] S1x1024.size inb_S8x1024_S1x1024_0_0).emb (ix2 0 j))) = V m c main_v5 (ix2 0 j)
  rw [show (Rect.unit (s := S8x1024) ![0, 0] S1x1024.size inb_S8x1024_S1x1024_0_0).emb (ix2 0 j) = ix2 0 j from by
    funext a
    match a with
    | ⟨0, _⟩ => rfl
    | ⟨1, _⟩ => exact Fin.ext (by show 0 + 1 * j.val = j.val; omega), emb2]

theorem hS (t : Fin cfg0.N) (j : Fin 1024) : Out.vS m c t (ix2 0 j) = (K m c).S j := by
  show V m c main_v5 ((win0_2.rect t).emb ((Rect.unit (s := S8x1024) ![2, 0] S1x1024.size inb_S8x1024_S1x1024_2_0).emb (ix2 0 j))) = V m c main_v5 (ix2 2 j)
  rw [show (Rect.unit (s := S8x1024) ![2, 0] S1x1024.size inb_S8x1024_S1x1024_2_0).emb (ix2 0 j) = ix2 2 j from by
    funext a
    match a with
    | ⟨0, _⟩ => rfl
    | ⟨1, _⟩ => exact Fin.ext (by show 0 + 1 * j.val = j.val; omega), emb2]

theorem hA (t : Fin cfg0.N) (j : Fin 1024) : Out.vA m c t (ix2 0 j) = (K m c).A j := by
  show V m c main_v5 ((win0_2.rect t).emb ((Rect.unit (s := S8x1024) ![3, 0] S1x1024.size inb_S8x1024_S1x1024_3_0).emb (ix2 0 j))) = V m c main_v5 (ix2 3 j)
  rw [show (Rect.unit (s := S8x1024) ![3, 0] S1x1024.size inb_S8x1024_S1x1024_3_0).emb (ix2 0 j) = ix2 3 j from by
    funext a
    match a with
    | ⟨0, _⟩ => rfl
    | ⟨1, _⟩ => exact Fin.ext (by show 0 + 1 * j.val = j.val; omega), emb2]

/-! ## One block -/

section Block
variable (t : Fin cfg0.N)

theorem bdy (r : Fin 256) (j : Fin 1024) : dY m c t (ix2 r j) = dy (K m c) (at_ t r) j := by
  rw [dY, p3, hO, hA]
  rfl

theorem bchunk (a : (⟨2, ![256, 2816]⟩ : Shape).Idx → EReal) (r : Fin 256) (k : Fin 2816) :
    chunk (n := 256) (c := 2816) (D := 1024) (dY m c t) (wO m c t) a (ix2 r k) = du (K m c) (at_ t r) k * a (ix2 r k) := by
  show (∑ j, dY m c t (ix2 r j) * wO m c t (ix2 k j)) * a (ix2 r k) = _
  exact congrArg (fun b : EReal => b * (a (ix2 r k) : EReal)) (Finset.sum_congr rfl fun j _ => by rw [bdy, hWO])

theorem bdb (r : Fin 256) (k : Fin 5632) : dG m c t (ix2 r k) = db (K m c) (at_ t r) k := by
  show gates (n := 256) (F := 2816) (D := 1024) (E := 5632) (dY m c t) (wO m c t) (bA m c t) (bB m c t) rfl (ix2 r k) = _
  unfold gates db
  refine dite_congr rfl (fun h => ?_) fun h => ?_
  · exact (bchunk m c t _ r ⟨k.val, h⟩).trans (congrArg (du (K m c) (at_ t r) ⟨k.val, h⟩ * ·) (hGA m c t r ⟨k.val, h⟩))
  · exact (bchunk m c t _ r ⟨k.val - 2816, by omega⟩).trans (congrArg (du (K m c) (at_ t r) ⟨k.val - 2816, by omega⟩ * ·) (hGB m c t r ⟨k.val - 2816, by omega⟩))

theorem bdh (r : Fin 256) (j : Fin 1024) : dH m c t (ix2 r j) = dh (K m c) (at_ t r) j := by
  rw [dH, p39]
  exact Finset.sum_congr rfl fun k _ => by rw [hWI]; exact congrArg (· * _) (bdb m c t r k)

theorem bdx (r : Fin 256) (j : Fin 1024) : dX m c t (ix2 r j) = dx (K m c) (at_ t r) j := by
  rw [dX, p48, hO]
  have e1 : rowOf (bX m c t) r = (K m c).X (at_ t r) := funext fun k => hX m c t r k
  have e2 : wrow (rowOf (vG m c t) 0) (rowOf (vS m c t) 0) (rowOf (dH m c t) r) = wr (K m c) (at_ t r) := funext fun k => by
    show dH m c t (ix2 r k) * (1 + vS m c t (ix2 0 k)) * vG m c t (ix2 0 k) = _
    rw [bdh m c t, hS, hG]; rfl
  rw [e1, e2]
  rfl

theorem bpart (r : Fin 8) (j : Fin 1024) : dP m c t (ix2 r j) = ∑ i, part (K m c) (at_ t i) r j := by
  have e1 : ∀ i, rowOf (bX m c t) i = (K m c).X (at_ t i) := fun i => funext fun k => hX m c t i k
  rw [dP, p1, p47, p44, p45, p4]
  unfold part
  split_ifs
  · exact Finset.sum_congr rfl fun i _ => by rw [e1, bdh m c t, hS]
  · exact Finset.sum_congr rfl fun i _ => bdh m c t i j
  · exact Finset.sum_congr rfl fun i _ => by rw [e1, bdh m c t, hG]
  · exact (half_sum _ _).trans (Finset.sum_congr rfl fun i _ => by rw [hO, hY])
  · exact Finset.sum_const_zero.symm

end Block

/-! ## The points in order -/

theorem out8 (t : Fin cfg0.N) (r : Fin 256) (j : Fin 1024) : (outsAt0 m c t.val t.isLt).1 (ix2 r j) = dy (K m c) (at_ t r) j := by
  have hN : cfg0.N = 32 := rfl
  have ht := t.isLt
  by_cases h : t.val % 32 = 0
  · rw [a8 m c t h (by omega), bdy m c t]
  · rw [b8 m c t h (by omega), bdy m c t]

theorem out9 (t : Fin cfg0.N) (r : Fin 256) (j : Fin 5632) : (outsAt0 m c t.val t.isLt).2.1 (ix2 r j) = db (K m c) (at_ t r) j := by
  have hN : cfg0.N = 32 := rfl
  have ht := t.isLt
  by_cases h : t.val % 32 = 0
  · rw [a9 m c t h (by omega), bdb m c t]
  · rw [b9 m c t h (by omega), bdb m c t]

theorem out10 (t : Fin cfg0.N) (r : Fin 256) (j : Fin 1024) : (outsAt0 m c t.val t.isLt).2.2.1 (ix2 r j) = dx (K m c) (at_ t r) j := by
  have hN : cfg0.N = 32 := rfl
  have ht := t.isLt
  by_cases h : t.val % 32 = 0
  · rw [a10 m c t h (by omega), bdx m c t]
  · rw [b10 m c t h (by omega), bdx m c t]

theorem acc11 (n : Nat) (h : n < cfg0.N) (r : Fin 8) (j : Fin 1024) : (outsAt0 m c n h).2.2.2 (ix2 r j)
    = ∑ k : Fin (n + 1), ∑ i, part (K m c) (at_ ⟨k.val, Nat.lt_of_lt_of_le k.isLt h⟩ i) r j := by
  refine acc_sum (N := cfg0.N) (fun t (x : Fin 8 × Fin 1024) => (outsAt0 m c t.val t.isLt).2.2.2 (ix2 x.1 x.2))
    (fun t x => ∑ i, part (K m c) (at_ t i) x.1 x.2) ?_ ?_ n h (r, j)
  · intro h x
    exact (congrFun (a11 m c ⟨0, h⟩ rfl (by simp)) _).trans (bpart m c ⟨0, h⟩ _ _)
  · intro n h x
    have hN : cfg0.N = 32 := rfl
    exact (congrFun (b11 m c ⟨n + 1, h⟩ (by show ¬(n + 1) % 32 = 0; omega) (by show 1 ≤ n + 1; omega)) _).trans
      ((p2 _ _ _ _ _ _ _).trans (congrArg _ (bpart m c ⟨n + 1, h⟩ _ _)))

/-! ## The results -/

theorem final8 (r : Fin 8192) (k : Fin 1024) : (dats m 0 c).arrAt 8 cfg0.N (ix2 r k) = dy (K m c) r k := by
  let t : Fin cfg0.N := ⟨r.val / 256, by have := r.isLt; show _ < 32; omega⟩
  let i : Fin 256 := ⟨r.val % 256, Nat.mod_lt _ (by decide)⟩
  have er : at_ t i = r := Fin.ext (by show 256 * (r.val / 256) + r.val % 256 = r.val; omega)
  have h := congrFun (Value.blocks8 m c t (flush0_8 t)) (ix2 i k)
  rw [Value.flushed8] at h
  rw [← er]
  refine Eq.trans ?_ (h.trans (out8 m c t i k))
  show _ = (dats m 0 c).arrAt 8 cfg0.N ((win0_8.rect t).emb (ix2 i k))
  rw [emb8]

theorem final9 (r : Fin 8192) (k : Fin 5632) : (dats m 0 c).arrAt 9 cfg0.N (ix2 r k) = db (K m c) r k := by
  let t : Fin cfg0.N := ⟨r.val / 256, by have := r.isLt; show _ < 32; omega⟩
  let i : Fin 256 := ⟨r.val % 256, Nat.mod_lt _ (by decide)⟩
  have er : at_ t i = r := Fin.ext (by show 256 * (r.val / 256) + r.val % 256 = r.val; omega)
  have h := congrFun (Value.blocks9 m c t (flush0_9 t)) (ix2 i k)
  rw [Value.flushed9] at h
  rw [← er]
  refine Eq.trans ?_ (h.trans (out9 m c t i k))
  show _ = (dats m 0 c).arrAt 9 cfg0.N ((win0_9.rect t).emb (ix2 i k))
  rw [emb9]

theorem final10 (r : Fin 8192) (k : Fin 1024) : (dats m 0 c).arrAt 10 cfg0.N (ix2 r k) = dx (K m c) r k := by
  let t : Fin cfg0.N := ⟨r.val / 256, by have := r.isLt; show _ < 32; omega⟩
  let i : Fin 256 := ⟨r.val % 256, Nat.mod_lt _ (by decide)⟩
  have er : at_ t i = r := Fin.ext (by show 256 * (r.val / 256) + r.val % 256 = r.val; omega)
  have h := congrFun (Value.blocks10 m c t (flush0_10 t)) (ix2 i k)
  rw [Value.flushed10] at h
  rw [← er]
  refine Eq.trans ?_ (h.trans (out10 m c t i k))
  show _ = (dats m 0 c).arrAt 10 cfg0.N ((win0_10.rect t).emb (ix2 i k))
  rw [emb10]

def last : Fin cfg0.N := ⟨31, by decide⟩

/-- The sum over the points is the sum over the rows. -/
theorem sum_rows (f : Fin 8192 → EReal) : ∑ k : Fin (31 + 1), ∑ i, f (at_ ⟨k.val, k.isLt⟩ i) = ∑ i, f i :=
  (sum_blocks 32 256 8192 (by decide) f (fun t r => ⟨256 * t.val + r.val, by omega⟩) fun _ _ => rfl).symm

theorem final11 (r : Fin 8) (j : Fin 1024) : (dats m 0 c).arrAt 11 cfg0.N (ix2 r j) = ∑ i, part (K m c) i r j := by
  have hd : ∀ t t' : Fin cfg0.N, (cfg0.win 11).flush t = true → (cfg0.win 11).flush t' = true → t ≠ t' →
      Disjoint ((cfg0.win 11).blk t).view.set ((cfg0.win 11).blk t').view.set := fun t t' h h' hne => by
    have e : cfg0.N = 32 := rfl
    have := t.isLt; have := t'.isLt; have := (flush0_11 t).mp h; have := (flush0_11 t').mp h'
    exact absurd (Fin.ext (by omega)) hne
  have h := congrFun ((dats m 0 c).read_blk_arrAt_eq_flushed 11 hd cfg0.N last last.isLt ((flush0_11 last).mpr rfl)) (ix2 r j)
  rw [Value.flushed11] at h
  refine Eq.trans ?_ (h.trans ((acc11 m c 31 last.isLt r j).trans (sum_rows fun i => part (K m c) i r j)))
  show _ = (dats m 0 c).arrAt 11 cfg0.N ((win0_11.rect last).emb (ix2 r j))
  rw [emb11]

end Cert.FfnIdeal.Val
-- ==== Proof.Reals.lean ====
module

public import proofs.«01_k».proof.Proof.Base
public import proofs.«01_k».proof.Proof.AttnMath

@[expose] public section

noncomputable section

namespace Cert.Rl

open Idealize.ShloMosaic Base

/-- A value that is a real number. -/
def IsR (x : EReal) : Prop := ∃ r : ℝ, x = (r : EReal)

theorem coe (r : ℝ) : IsR (r : EReal) := ⟨r, rfl⟩
theorem one : IsR (1 : EReal) := ⟨1, rfl⟩
theorem add {x y : EReal} (hx : IsR x) (hy : IsR y) : IsR (x + y) := by
  obtain ⟨a, rfl⟩ := hx; obtain ⟨b, rfl⟩ := hy; exact ⟨a + b, (EReal.coe_add a b).symm⟩
theorem mul {x y : EReal} (hx : IsR x) (hy : IsR y) : IsR (x * y) := by
  obtain ⟨a, rfl⟩ := hx; obtain ⟨b, rfl⟩ := hy; exact ⟨a * b, (EReal.coe_mul a b).symm⟩
theorem sum {ι : Type*} (s : Finset ι) {f : ι → EReal} (h : ∀ i, IsR (f i)) : IsR (∑ i ∈ s, f i) := by
  choose g hg using h
  exact ⟨∑ i ∈ s, g i, by rw [AttnMath.coe_sum]; exact Finset.sum_congr rfl fun i _ => hg i⟩

/-- The norm's small term is a positive real. -/
theorem eps : ∃ e : ℝ, 0 < e ∧ cEps = (e : EReal) := by
  have h : cEps = ((2748779 / 274877906944 : ℝ) : EReal) := by
    simp [cEps, Ideal.ofBits, Ideal.ieee]
    rw [← EReal.coe_mul]
    norm_num
  exact ⟨_, by norm_num, h⟩

/-- The mean square of a row of reals plus the small term is a positive real. -/
theorem ms_pos {x : Fin 1024 → EReal} (h : ∀ k, IsR (x k)) : ∃ r : ℝ, 0 < r ∧ ms x = (r : EReal) := by
  choose X hX using h
  obtain ⟨e, he, ee⟩ := eps
  have hs : (∑ k, x k * x k) = ((∑ k, X k * X k : ℝ) : EReal) := by
    rw [AttnMath.coe_sum]
    exact Finset.sum_congr rfl fun k _ => by rw [hX, EReal.coe_mul]
  have hn : (0 : ℝ) ≤ ∑ k, X k * X k := Finset.sum_nonneg fun k _ => mul_self_nonneg _
  refine ⟨(∑ k, X k * X k) / 1024 + e, by positivity, ?_⟩
  rw [ms, hs, ee, cN, ofBits_1024, AttnMath.div_coe _ (by norm_num), ← EReal.coe_add]

/-- The reciprocal root of a positive real is a real. -/
theorem rsqrt {x : EReal} (h : ∃ r : ℝ, 0 < r ∧ x = (r : EReal)) : IsR (Ideal.rsqrt x) := by
  obtain ⟨r, hr, rfl⟩ := h
  refine ⟨(Real.sqrt r)⁻¹, ?_⟩
  show (if r < 0 then (⊥ : EReal) else if r = 0 then ⊤ else (((Real.sqrt r)⁻¹ : ℝ) : EReal)) = _
  rw [if_neg (by linarith), if_neg (by linarith)]

theorem nrm {x : Fin 1024 → EReal} (h : ∀ k, IsR (x k)) (j : Fin 1024) : IsR (Base.nrm x j) := mul (h j) (rsqrt (ms_pos h))

/-- The logistic function of a real is a real. -/
theorem sig {x : EReal} (h : IsR x) : IsR (Ideal.div 1 (1 + Ideal.exp (-x))) := by
  obtain ⟨a, rfl⟩ := h
  have hp : (1 : ℝ) + Real.exp (-a) ≠ 0 := by positivity
  refine ⟨1 / (1 + Real.exp (-a)), ?_⟩
  rw [← AttnMath.div_coe _ hp]
  rfl

/-- The two ways of writing the first gate's cotangent agree on reals. -/
theorem gate {d a b s : EReal} (hd : IsR d) (ha : IsR a) (hb : IsR b) (hs : IsR s) :
    d * b * s + a * (d * b) * (s * (1 - s)) = d * (b * (s + a * s * (1 - s))) := by
  obtain ⟨d, rfl⟩ := hd; obtain ⟨a, rfl⟩ := ha; obtain ⟨b, rfl⟩ := hb; obtain ⟨s, rfl⟩ := hs
  have h1 : (1 : EReal) - (s : EReal) = ((1 - s : ℝ) : EReal) := by rw [EReal.coe_sub]; rfl
  simp only [h1, ← EReal.coe_mul, ← EReal.coe_add]
  exact congrArg _ (by ring)

end Cert.Rl
-- ==== Proof.FfnRef.lean ====
module

public import proofs.«01_k».proof.Proof.Gen.FfnRefIdeal.Read
public import proofs.«01_k».proof.Proof.FfnSpec
public import proofs.«01_k».proof.Proof.Reals

@[expose] public section

set_option maxRecDepth 16384

noncomputable section

namespace Cert.FfnRefIdeal.Rd

open Cert.FfnRefIdeal Cert.FfnRefIdeal.Read Idealize.ShloMosaic
open Base FfnSpec
open Cert.Rl (IsR)

variable (x0 : S8192x1024.Idx → EReal) (x1 x2 x3 x4 : S1024.Idx → EReal) (x5 : S1024x5632.Idx → EReal) (x6 : S2816x1024.Idx → EReal)
  (x7 : S8192x1024.Idx → EReal)

/-- The rows before the gates: the gate's argument, the linear half and the logistic function of the former. -/
abbrev ga (i : Fin 8192) (k : Fin 2816) : EReal := val_main_v25 (F := Ideal) x0 x1 x2 x3 x5 (ix2 i k)
abbrev gb (i : Fin 8192) (k : Fin 2816) : EReal := val_main_v26 (F := Ideal) x0 x1 x2 x3 x5 (ix2 i k)
abbrev gs (i : Fin 8192) (k : Fin 2816) : EReal := val_main_v32 (F := Ideal) x0 x1 x2 x3 x5 (ix2 i k)

/-- What the reference computes with. -/
def R : Args where
  O i j := x7 (ix2 i j)
  X i j := x0 (ix2 i j)
  Y i j := val_main_v38 (F := Ideal) x0 x1 x2 x3 x5 x6 (ix2 i j)
  GA i k := gb x0 x1 x2 x3 x5 i k * (gs x0 x1 x2 x3 x5 i k + ga x0 x1 x2 x3 x5 i k * gs x0 x1 x2 x3 x5 i k * (1 - gs x0 x1 x2 x3 x5 i k))
  GB i k := ga x0 x1 x2 x3 x5 i k * gs x0 x1 x2 x3 x5 i k
  A j := x4 (ix1 j)
  G j := x1 (ix1 j)
  S j := x3 (ix1 j)
  WI k j := x5 (ix2 j k)
  WO k j := x6 (ix2 k j)

/-- The arguments are reals. -/
structure Fin8 : Prop where
  h0 : ∀ i, IsR (x0 i)
  h1 : ∀ i, IsR (x1 i)
  h2 : ∀ i, IsR (x2 i)
  h3 : ∀ i, IsR (x3 i)
  h4 : ∀ i, IsR (x4 i)
  h5 : ∀ i, IsR (x5 i)
  h6 : ∀ i, IsR (x6 i)
  h7 : ∀ i, IsR (x7 i)

theorem r23 (i : Fin 8192) (k : Fin 1024) : val_main_v23 (F := Ideal) x0 x1 x2 x3 (ix2 i k) = Base.nrm (fun j => x0 (ix2 i j)) k * x1 (ix1 k) * (1 + x3 (ix1 k)) + x2 (ix1 k) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_3]
  rfl

theorem r24 (i : Fin 8192) (k : Fin 5632) : val_main_v24 (F := Ideal) x0 x1 x2 x3 x5 (ix2 i k) = ∑ j, val_main_v23 (F := Ideal) x0 x1 x2 x3 (ix2 i j) * x5 (ix2 j k) := by
  pointwise [val_main_v24]

theorem r49 (i : Fin 8192) (j : Fin 1024) : val_main_v49 (F := Ideal) x4 x7 (ix2 i j) = dy (R x0 x1 x2 x3 x4 x5 x6 x7) i j := by
  pointwise [val_main_v49, val_main_v48, val_main_v47, val_main_v43, val_main_v42, val_main_v41, val_main_v40, val_main_v39, val_main_cst_7, val_main_cst_8]
  exact mul_comm _ _

theorem r56 (i : Fin 8192) (k : Fin 2816) : val_main_v56 (F := Ideal) x4 x6 x7 (ix2 i k) = du (R x0 x1 x2 x3 x4 x5 x6 x7) i k := by
  unfold du
  simp only [← r49]
  pointwise [val_main_v56]
  rfl

theorem r32 (i : Fin 8192) (k : Fin 2816) : gs x0 x1 x2 x3 x5 i k = Ideal.div 1 (1 + Ideal.exp (-ga x0 x1 x2 x3 x5 i k)) := by
  unfold gs ga
  pointwise [val_main_v32, val_main_v31, val_main_v30, val_main_v29, val_main_v28, val_main_v27, val_main_cst_4, val_main_cst_5]

theorem r57 (i : Fin 8192) (k : Fin 2816) : val_main_v57 (F := Ideal) x0 x1 x2 x3 x4 x5 x6 x7 (ix2 i k) = du (R x0 x1 x2 x3 x4 x5 x6 x7) i k * (R x0 x1 x2 x3 x4 x5 x6 x7).GB i k := by
  rw [← r56, mul_comm]
  pointwise [val_main_v57, val_main_v36]
  rfl

theorem r62' (i : Fin 8192) (k : Fin 2816) : val_main_v62 (F := Ideal) x0 x1 x2 x3 x4 x5 x6 x7 (ix2 i k) =
    du (R x0 x1 x2 x3 x4 x5 x6 x7) i k * gb x0 x1 x2 x3 x5 i k * gs x0 x1 x2 x3 x5 i k + ga x0 x1 x2 x3 x5 i k * (du (R x0 x1 x2 x3 x4 x5 x6 x7) i k * gb x0 x1 x2 x3 x5 i k) * (gs x0 x1 x2 x3 x5 i k * (1 - gs x0 x1 x2 x3 x5 i k)) := by
  rw [← r56]
  pointwise [val_main_v62, val_main_v61, val_main_v60, val_main_v59, val_main_v58, val_main_v35, val_main_v34, val_main_v33, val_main_cst_6]

section Finite
variable {x0 x1 x2 x3 x4 x5 x6 x7}
variable (H : Fin8 x0 x1 x2 x3 x4 x5 x6 x7)
include H

theorem real24 (i : Fin 8192) (k : Fin 5632) : IsR (val_main_v24 (F := Ideal) x0 x1 x2 x3 x5 (ix2 i k)) := by
  rw [r24]
  refine Rl.sum _ fun j => Rl.mul ?_ (H.h5 _)
  rw [r23]
  exact Rl.add (Rl.mul (Rl.mul (Rl.nrm (fun j => H.h0 _) j) (H.h1 _)) (Rl.add Rl.one (H.h3 _))) (H.h2 _)

theorem realA (i : Fin 8192) (k : Fin 2816) : IsR (ga x0 x1 x2 x3 x5 i k) := by
  have e : ga x0 x1 x2 x3 x5 i k = val_main_v24 (F := Ideal) x0 x1 x2 x3 x5 (ix2 i ⟨k.val, by omega⟩) := by
    unfold ga
    pointwise [val_main_v25]
  rw [e]
  exact real24 H _ _

theorem realB (i : Fin 8192) (k : Fin 2816) : IsR (gb x0 x1 x2 x3 x5 i k) := by
  have e : gb x0 x1 x2 x3 x5 i k = val_main_v24 (F := Ideal) x0 x1 x2 x3 x5 (ix2 i ⟨2816 + k.val, by omega⟩) := by
    unfold gb
    pointwise [val_main_v26]
  rw [e]
  exact real24 H _ _

theorem realS (i : Fin 8192) (k : Fin 2816) : IsR (gs x0 x1 x2 x3 x5 i k) := by
  rw [r32]
  exact Rl.sig (realA H i k)

theorem realU (i : Fin 8192) (k : Fin 2816) : IsR (du (R x0 x1 x2 x3 x4 x5 x6 x7) i k) :=
  Rl.sum _ fun j => Rl.mul (Rl.mul (H.h7 _) (Rl.mul ⟨_, ofBits_half⟩ (Rl.add Rl.one (H.h4 _)))) (H.h6 _)

theorem r62 (i : Fin 8192) (k : Fin 2816) : val_main_v62 (F := Ideal) x0 x1 x2 x3 x4 x5 x6 x7 (ix2 i k) = du (R x0 x1 x2 x3 x4 x5 x6 x7) i k * (R x0 x1 x2 x3 x4 x5 x6 x7).GA i k :=
  (r62' x0 x1 x2 x3 x4 x5 x6 x7 i k).trans (Rl.gate (realU H i k) (realA H i k) (realB H i k) (realS H i k))

theorem r63 (i : Fin 8192) (k : Fin 5632) : val_main_v63 (F := Ideal) x0 x1 x2 x3 x4 x5 x6 x7 (ix2 i k) = db (R x0 x1 x2 x3 x4 x5 x6 x7) i k := by
  unfold db
  simp only [← r57, ← r62 H]
  pointwise [val_main_v63]

theorem r64 (i : Fin 8192) (j : Fin 1024) : val_main_v64 (F := Ideal) x0 x1 x2 x3 x4 x5 x6 x7 (ix2 i j) = dh (R x0 x1 x2 x3 x4 x5 x6 x7) i j := by
  unfold dh
  simp only [← r63 H]
  pointwise [val_main_v64]
  rfl

theorem r78 (i : Fin 8192) (j : Fin 1024) : val_main_v78 (F := Ideal) x0 x1 x2 x3 x4 x5 x6 x7 (ix2 i j) = wr (R x0 x1 x2 x3 x4 x5 x6 x7) i j := by
  unfold wr
  rw [← r64 H]
  pointwise [val_main_v78, val_main_v77, val_main_v72, val_main_v71, val_main_v18, val_main_v17, val_main_v16, val_main_v13, val_main_cst_3]
  rfl

theorem r96 (i : Fin 8192) (j : Fin 1024) : val_main_v96 (F := Ideal) x0 x1 x2 x3 x4 x5 x6 x7 (ix2 i j) = dx (R x0 x1 x2 x3 x4 x5 x6 x7) i j := by
  unfold dx
  rw [show wr (R x0 x1 x2 x3 x4 x5 x6 x7) i = fun k => val_main_v78 (F := Ideal) x0 x1 x2 x3 x4 x5 x6 x7 (ix2 i k) from funext fun k => (r78 H i k).symm]
  pointwise [val_main_v96, val_main_v93, val_main_v92, val_main_v91, val_main_v90, val_main_v89, val_main_v88, val_main_v87, val_main_v86, val_main_v85, val_main_v84, val_main_v83, val_main_v82, val_main_v81, val_main_v80, val_main_v10, val_main_v9, val_main_v8, val_main_v7, val_main_v6, val_main_v5, val_main_v4, val_main_v3, val_main_v2, val_main_v1, val_main_v0, val_main_cst, val_main_cst_0, val_main_cst_1, val_main_cst_2, val_main_cst_18, val_main_cst_19, val_main_cst_20]
  simp only [Finset.univ_unique, Finset.sum_singleton]
  rfl

theorem r102 (r : Fin 8) (j : Fin 1024) : val_main_v102 (F := Ideal) x0 x1 x2 x3 x4 x5 x6 x7 (ix2 r j) = ∑ i, part (R x0 x1 x2 x3 x4 x5 x6 x7) i r j := by
  unfold part
  simp only [← r64 H]
  pointwise [val_main_v102, val_main_v101, val_main_v100, val_main_v99, val_main_v98, val_main_v97, val_main_v79, val_main_v76, val_main_v75, val_main_v74, val_main_v73, val_main_v72, val_main_v71, val_main_v70, val_main_v69, val_main_v68, val_main_v67, val_main_v66, val_main_v65, val_main_v55, val_main_v54, val_main_v53, val_main_v52, val_main_v51, val_main_v50, val_main_v47, val_main_v18, val_main_v17, val_main_v16, val_main_v15, val_main_v14, val_main_v13, val_main_v12, val_main_v11, val_main_v7, val_main_v6, val_main_v5, val_main_v4, val_main_v3, val_main_v2, val_main_v1, val_main_v0, val_main_cst, val_main_cst_0, val_main_cst_1, val_main_cst_3, val_main_cst_9, val_main_cst_10, val_main_cst_11, val_main_cst_12, val_main_cst_13, val_main_cst_14, val_main_cst_15, val_main_cst_16, val_main_cst_17, val_main_cst_21]
  simp only [Finset.univ_unique, Finset.sum_singleton]
  by_cases h0 : r.val < 1
  · simp only [h0, if_true, dif_pos]
    rfl
  by_cases h1 : r.val - 1 < 1
  · simp only [h0, h1, if_true, if_false, dif_pos, dif_neg, not_false_eq_true]
  by_cases h2 : r.val - 1 - 1 < 1
  · simp only [h0, h1, h2, if_true, if_false, dif_pos, dif_neg, not_false_eq_true]
    rfl
  by_cases h3 : r.val - 1 - 1 - 1 < 1
  · simp only [h0, h1, h2, h3, if_true, if_false, dif_pos, dif_neg, not_false_eq_true]
    exact half_sum _ _
  · simp only [h0, h1, h2, h3, if_false, dif_neg, not_false_eq_true, Finset.sum_const_zero]

end Finite

end Cert.FfnRefIdeal.Rd
-- ==== Proof.FfnClaim.lean ====
module

public import proofs.«01_k».proof.Defs
public import proofs.«01_k».proof.Proof.Finite
public import proofs.«01_k».proof.Proof.FfnVal
public import proofs.«01_k».proof.Proof.FfnRef
public import proofs.«01_k».proof.Proof.Gen.FfnIdeal.Value
public import proofs.«01_k».proof.Proof.Gen.FfnRefIdeal.Run
public import proofs.«01_k».proof.Proof.Gen.Pre_finite_ffn

@[expose] public section

set_option maxRecDepth 16384

noncomputable section

namespace Cert.FfnClaim

open Idealize.ShloMosaic Idealize.ShloMosaic.TcCoe Idealize.SL.Sem Cert.FfnIdeal Cert.FfnIdeal.Gen
open Cert.FfnRefIdeal.Rd (Fin8)
open Cert.Finite (of_all both)

/-- The arguments that the precondition admits hold reals. -/
theorem reals [hp : Cert.Pre_finite_ffn.Facts] {x0 : FVec Ideal S8192x1024 .f32} {x1 x2 x3 x4 : FVec Ideal S1024 .f32} {x5 : FVec Ideal S1024x5632 .f32} {x6 : FVec Ideal S2816x1024 .f32} {x7 : FVec Ideal S8192x1024 .f32}
    (h : Cert.Pre_finite_ffn.fn (F := Ideal) x0 x1 x2 x3 x4 x5 x6 x7 = fun _ => 1#1) : Fin8 x0 x1 x2 x3 x4 x5 x6 x7 := by
  have h0 := congrFun h ix0
  unfold Cert.Pre_finite_ffn.fn Cert.Pre_finite_ffn.fn_part1 at h0
  dsimp only at h0
  haveI : Subsingleton Cert.Pre_finite_ffn.S_.Idx := ⟨fun a b => funext fun i => i.elim0⟩
  obtain ⟨h0, h7⟩ := both h0
  obtain ⟨h0, h6⟩ := both h0
  obtain ⟨h0, h5⟩ := both h0
  obtain ⟨h0, h4⟩ := both h0
  obtain ⟨h0, h3⟩ := both h0
  obtain ⟨h0, h2⟩ := both h0
  obtain ⟨h0, h1⟩ := both h0
  exact ⟨of_all (fun _ => Finite.inf) h0, of_all (fun _ => Finite.inf) h1, of_all (fun _ => Finite.inf) h2, of_all (fun _ => Finite.inf) h3,
    of_all (fun _ => Finite.inf) h4, of_all (fun _ => Finite.inf) h5, of_all (fun _ => Finite.inf) h6, of_all (fun _ => Finite.inf) h7⟩

variable (m : (ℓ : Loc Cert.FfnIdeal.nD Cert.FfnIdeal.τ Cert.FfnIdeal.sig) → Buf (Elt Ideal) ℓ) (c : Dev Cert.FfnIdeal.nD)

/-! The arguments. -/

abbrev A0 : FVec Ideal S8192x1024 .f32 := m ((c.tc : Thread nD τ).loc main_arg0)
abbrev A1 : FVec Ideal S1024 .f32 := m ((c.tc : Thread nD τ).loc main_arg1)
abbrev A2 : FVec Ideal S1024 .f32 := m ((c.tc : Thread nD τ).loc main_arg2)
abbrev A3 : FVec Ideal S1024 .f32 := m ((c.tc : Thread nD τ).loc main_arg3)
abbrev A4 : FVec Ideal S1024 .f32 := m ((c.tc : Thread nD τ).loc main_arg4)
abbrev A5 : FVec Ideal S1024x5632 .f32 := m ((c.tc : Thread nD τ).loc main_arg5)
abbrev A6 : FVec Ideal S2816x1024 .f32 := m ((c.tc : Thread nD τ).loc main_arg6)
abbrev A7 : FVec Ideal S8192x1024 .f32 := m ((c.tc : Thread nD τ).loc main_arg7)

theorem host44 : V m c main_v44 = (truncf .bf16 (FfnRefIdeal.Read.val_main_v38 (F := Ideal) (A0 m c) (A1 m c) (A2 m c) (A3 m c) (A5 m c) (A6 m c)) bitsLt_bf16_f32 : FVec Ideal S8192x1024 .bf16) := by
  unfold V
  after_results
  rfl

theorem host48 : V m c main_v48 = (truncf .bf16 (mulf (FfnRefIdeal.Read.val_main_v26 (F := Ideal) (A0 m c) (A1 m c) (A2 m c) (A3 m c) (A5 m c)) (addf (FfnRefIdeal.Read.val_main_v32 (F := Ideal) (A0 m c) (A1 m c) (A2 m c) (A3 m c) (A5 m c)) (mulf (FfnRefIdeal.Read.val_main_v36 (F := Ideal) (A0 m c) (A1 m c) (A2 m c) (A3 m c) (A5 m c)) (FfnRefIdeal.Read.val_main_v34 (F := Ideal) (A0 m c) (A1 m c) (A2 m c) (A3 m c) (A5 m c))))) bitsLt_bf16_f32 : FVec Ideal S8192x2816 .bf16) := by
  unfold V
  after_results
  rfl

theorem host49 : V m c main_v49 = (truncf .bf16 (FfnRefIdeal.Read.val_main_v36 (F := Ideal) (A0 m c) (A1 m c) (A2 m c) (A3 m c) (A5 m c)) bitsLt_bf16_f32 : FVec Ideal S8192x2816 .bf16) := by
  unfold V
  after_results
  rfl

theorem host5 : V m c main_v5 = (concatenate S8x1024 0 [⟨S1x1024, shapeCast S1x1024 (A1 m c) shapeCasts_S1024_S1x1024⟩, ⟨S1x1024, shapeCast S1x1024 (A2 m c) shapeCasts_S1024_S1x1024⟩, ⟨S1x1024, shapeCast S1x1024 (A3 m c) shapeCasts_S1024_S1x1024⟩, ⟨S1x1024, shapeCast S1x1024 (A4 m c) shapeCasts_S1024_S1x1024⟩,
    ⟨S4x1024, broadcastInDim S4x1024 ![] bcast_S_S4x1024 (constant S_ .f32 0#32)⟩] concatenates_S1x1024_S1x1024_S1x1024_S1x1024_S4x1024_S8x1024_d0 : FVec Ideal S8x1024 .f32) := by
  unfold V
  after_results
  rfl

theorem hO : ∀ i j, V m c main_arg7 (ix2 i j) = (A7 m c) (ix2 i j) := fun i j => by rw [V_main_arg7]

theorem hX : ∀ i j, V m c main_arg0 (ix2 i j) = (A0 m c) (ix2 i j) := fun i j => by rw [V_main_arg0]

theorem hA : ∀ j, V m c main_v5 (ix2 3 j) = (A4 m c) (ix1 j) := fun j => by rw [host5]; pointwise []

theorem hG : ∀ j, V m c main_v5 (ix2 0 j) = (A1 m c) (ix1 j) := fun j => by rw [host5]; pointwise []

theorem hS : ∀ j, V m c main_v5 (ix2 2 j) = (A3 m c) (ix1 j) := fun j => by rw [host5]; pointwise []

theorem hI : ∀ k j, V m c main_v47 (ix2 k j) = (A5 m c) (ix2 j k) := fun k j => by unfold V; after_results_simp; pointwise []

theorem hW : ∀ k j, V m c main_v45 (ix2 k j) = (A6 m c) (ix2 k j) := fun k j => by unfold V; after_results; rfl

theorem hY : ∀ i j, V m c main_v44 (ix2 i j) = (FfnRefIdeal.Read.val_main_v38 (F := Ideal) (A0 m c) (A1 m c) (A2 m c) (A3 m c) (A5 m c) (A6 m c)) (ix2 i j) := fun i j => by rw [host44]; pointwise []

theorem hB : ∀ i k, V m c main_v49 (ix2 i k) = FfnRefIdeal.Rd.ga (A0 m c) (A1 m c) (A2 m c) (A3 m c) (A5 m c) i k * FfnRefIdeal.Rd.gs (A0 m c) (A1 m c) (A2 m c) (A3 m c) (A5 m c) i k := fun i k => by
  rw [host49]
  pointwise [FfnRefIdeal.Read.val_main_v36]

theorem hGA : ∀ i k, V m c main_v48 (ix2 i k) = FfnRefIdeal.Rd.gb (A0 m c) (A1 m c) (A2 m c) (A3 m c) (A5 m c) i k * (FfnRefIdeal.Rd.gs (A0 m c) (A1 m c) (A2 m c) (A3 m c) (A5 m c) i k + FfnRefIdeal.Rd.ga (A0 m c) (A1 m c) (A2 m c) (A3 m c) (A5 m c) i k * FfnRefIdeal.Rd.gs (A0 m c) (A1 m c) (A2 m c) (A3 m c) (A5 m c) i k * (1 - FfnRefIdeal.Rd.gs (A0 m c) (A1 m c) (A2 m c) (A3 m c) (A5 m c) i k)) := fun i k => by
  rw [host48]
  pointwise [FfnRefIdeal.Read.val_main_v36, FfnRefIdeal.Read.val_main_v34, FfnRefIdeal.Read.val_main_v33, FfnRefIdeal.Read.val_main_cst_6]

/-- The kernel's quantities are the reference's. -/
theorem K_eq : Cert.FfnIdeal.Val.K m c = FfnRefIdeal.Rd.R (A0 m c) (A1 m c) (A2 m c) (A3 m c) (A4 m c) (A5 m c) (A6 m c) (A7 m c) := by
  unfold Cert.FfnIdeal.Val.K FfnRefIdeal.Rd.R
  simp only [hO m c, hX m c, hA m c, hG m c, hS m c, hI m c, hW m c, hY m c, hB m c, hGA m c]

section Results
variable (H : Fin8 (A0 m c) (A1 m c) (A2 m c) (A3 m c) (A4 m c) (A5 m c) (A6 m c) (A7 m c))

theorem out94 : (FfnRefIdeal.Read.val_main_v94 (F := Ideal) (A4 m c) (A7 m c)) = (dats m 0 c).arrAt 8 cfg0.N := by
  refine Cert.Base.ext2 fun r k => ?_
  have e := FfnRefIdeal.Rd.r49 (A0 m c) (A1 m c) (A2 m c) (A3 m c) (A4 m c) (A5 m c) (A6 m c) (A7 m c) r k
  rw [← K_eq m c] at e
  exact e.trans (Cert.FfnIdeal.Val.final8 m c r k).symm

include H in
theorem out95 : (FfnRefIdeal.Read.val_main_v95 (F := Ideal) (A0 m c) (A1 m c) (A2 m c) (A3 m c) (A4 m c) (A5 m c) (A6 m c) (A7 m c)) = (dats m 0 c).arrAt 9 cfg0.N := by
  refine Cert.Base.ext2 fun r k => ?_
  have e := FfnRefIdeal.Rd.r63 H r k
  rw [← K_eq m c] at e
  exact e.trans (Cert.FfnIdeal.Val.final9 m c r k).symm

include H in
theorem out96 : (FfnRefIdeal.Read.val_main_v96 (F := Ideal) (A0 m c) (A1 m c) (A2 m c) (A3 m c) (A4 m c) (A5 m c) (A6 m c) (A7 m c)) = (dats m 0 c).arrAt 10 cfg0.N := by
  refine Cert.Base.ext2 fun r k => ?_
  have e := FfnRefIdeal.Rd.r96 H r k
  rw [← K_eq m c] at e
  exact e.trans (Cert.FfnIdeal.Val.final10 m c r k).symm

include H in
theorem out102 : (FfnRefIdeal.Read.val_main_v102 (F := Ideal) (A0 m c) (A1 m c) (A2 m c) (A3 m c) (A4 m c) (A5 m c) (A6 m c) (A7 m c)) = (dats m 0 c).arrAt 11 cfg0.N := by
  refine Cert.Base.ext2 fun r k => ?_
  have e := FfnRefIdeal.Rd.r102 H r k
  rw [← K_eq m c] at e
  exact e.trans (Cert.FfnIdeal.Val.final11 m c r k).symm

end Results

/-- The four results of the gated product's backward pass are those of the reference's derivative, on finite arguments. -/
theorem ffn_algebraic : algebraic_FfnIdeal_FfnRefIdeal_pre_finite_ffn (hFfnIdeal := Cert.FfnIdeal.Gen.facts) (hFfnRefIdeal := FfnRefIdeal.Gen.facts) (hPre_finite_ffn := Cert.Pre_finite_ffn.Gen.facts) := by
  intro m g m' g' hp hm
  refine ⟨_, _, _, _, Cert.FfnIdeal.Value.run_blocks m g, (θ_run _ _ _).mono (fun r h c => ?_) (FfnRefIdeal.Value.run m' g')⟩
  obtain ⟨h0, h1, h2, h3, ha⟩ := h c
  obtain ⟨e0, e1, e2, e3, e4, e5, e6, e7⟩ := hm c
  letI := Cert.Pre_finite_ffn.Gen.facts
  have H := reals (hp c)
  refine ⟨h0.trans ?_, h1.trans ?_, h2.trans ?_, h3.trans ?_, ha⟩
  · refine (FfnRefIdeal.Read.val_main_v94_eq _ _).trans (Eq.trans ?_ (out94 m c))
    rw [e4, e7]
  · refine (FfnRefIdeal.Read.val_main_v95_eq m' c).trans (Eq.trans ?_ (out95 m c H))
    rw [e0, e1, e2, e3, e4, e5, e6, e7]
  · refine (FfnRefIdeal.Read.val_main_v96_eq m' c).trans (Eq.trans ?_ (out96 m c H))
    rw [e0, e1, e2, e3, e4, e5, e6, e7]
  · refine (FfnRefIdeal.Read.val_main_v102_eq m' c).trans (Eq.trans ?_ (out102 m c H))
    rw [e0, e1, e2, e3, e4, e5, e6, e7]

/-- The reference of the gated product leaves its arguments as they are; it declares no semaphore. -/
theorem ffn_ref_frame : quiescent_FfnRefIdeal (hFfnRefIdeal := FfnRefIdeal.Gen.facts) := fun m ρ _ =>
  (θ_run FfnRefIdeal.defs _ _).mono (fun r h => ⟨fun c => (h c).2.2.2.2, sem_eq_zero_of_no_sems (by decide) r.2⟩)
    (FfnRefIdeal.Value.run (F := Ideal) m ρ)

end Cert.FfnClaim

end
-- ==== Proof.AttpHost.lean ====
module

public import proofs.«01_k».proof.Proof.AttnHost
public import proofs.«01_k».proof.Proof.Gen.AttpIdeal.Value

@[expose] public section

set_option maxRecDepth 16384

noncomputable section

namespace Cert.AttpIdeal.Pre

open Cert.AttpIdeal Cert.AttpIdeal.Gen Idealize.ShloMosaic Idealize.ShloMosaic.StableHlo Idealize.ShloMosaic.TcCoe Idealize.SL.Sem
open Cert.AttnIdeal.Pre (lseT oT lseLay deltaLay clsLay lse_lay delta_lay byClass laneHead)
open Cert.AttnRefIdeal.Rd (blk blk1 Holds Holds1 rowBlk rowAt colHead colFeat tok)

variable (m : (ℓ : Loc nD τ sig) → Buf (Elt Ideal) ℓ) (c : Dev nD) (V0 : Valuation Cert.AttnRefIdeal.τ Cert.AttnRefIdeal.sig (Elt Ideal))
variable (e0 : V0 (Proc.devRef .tc Cert.AttnRefIdeal.main_arg0) = m ((c : Thread nD τ).loc main_arg0))
variable (e1 : V0 (Proc.devRef .tc Cert.AttnRefIdeal.main_arg1) = m ((c : Thread nD τ).loc main_arg1))
variable (e2 : V0 (Proc.devRef .tc Cert.AttnRefIdeal.main_arg2) = m ((c : Thread nD τ).loc main_arg2))
variable (e3 : V0 (Proc.devRef .tc Cert.AttnRefIdeal.main_arg3) = m ((c : Thread nD τ).loc main_arg3))
variable (e4 : V0 (Proc.devRef .tc Cert.AttnRefIdeal.main_arg4) = m ((c : Thread nD τ).loc main_arg4))

include e0 e1 in
theorem lse_term : V m c main_v88 = lseLay (lseT V0) := by
  unfold V
  after_results
  rw [← e0, ← e1]
  rfl

include e0 e1 e2 in
theorem delta_term : V m c main_v83 = deltaLay (m ((c : Thread nD τ).loc main_arg3)) (m ((c : Thread nD τ).loc main_arg4)) (oT V0) := by
  unfold V
  after_results
  rw [← e0, ← e1, ← e2]
  rfl

variable {Q K W G X : Fin 8192 → Fin 8 → Fin 64 → ℝ} {D : Fin 8192 → Fin 8 → ℝ}
variable (hq : Holds (V0 (Proc.devRef .tc Cert.AttnRefIdeal.main_arg0)) Q)
variable (hk : Holds (V0 (Proc.devRef .tc Cert.AttnRefIdeal.main_arg1)) K)
variable (hv : Holds (V0 (Proc.devRef .tc Cert.AttnRefIdeal.main_arg2)) W)
variable (hg : Holds (V0 (Proc.devRef .tc Cert.AttnRefIdeal.main_arg3)) G)
variable (hd : Holds1 (V0 (Proc.devRef .tc Cert.AttnRefIdeal.main_arg4)) D)

include e0 e1 hq hk in
theorem lse_val (r : Fin 4) (t : Fin 2048) (l : Fin 128) : V m c main_v88 (ix3 r t l) = (AttnMath.lse (blk Q r (laneHead l)) (blk K r (laneHead l)) (rowBlk t) (rowAt t) : EReal) :=
  (congrFun (lse_term m c V0 e0 e1) _).trans (lse_lay V0 hq hk r t l)

include e0 e1 e2 e3 e4 hq hk hv hg hd in
theorem delta_val (r : Fin 4) (t : Fin 2048) (l : Fin 128) : V m c main_v83 (ix3 r t l) = (AttnMath.delta (blk Q r (laneHead l)) (blk K r (laneHead l)) (blk W r (laneHead l)) (blk G r (laneHead l)) (blk1 D r (laneHead l)) (rowBlk t) (rowAt t) : EReal) := by
  rw [delta_term m c V0 e0 e1 e2, ← e3, ← e4]
  exact delta_lay V0 hq hk hv hg hd r t l

theorem q_term : V m c main_v66 = clsLay (m ((c : Thread nD τ).loc main_arg0)) := by
  unfold V
  after_results
  rfl

include e0 hq in
theorem q_val (r : Fin 4) (t : Fin 2048) (j : Fin 512) : V m c main_v66 (ix3 r t j) = (blk Q r (colHead j) (rowBlk t) (rowAt t) (colFeat j) : EReal) :=
  (congrFun (q_term m c) _).trans (byClass _ (e0 ▸ hq) r t j)

theorem k_term : V m c main_v70 = clsLay (m ((c : Thread nD τ).loc main_arg1)) := by
  unfold V
  after_results
  rfl

include e1 hk in
theorem k_val (r : Fin 4) (t : Fin 2048) (j : Fin 512) : V m c main_v70 (ix3 r t j) = (blk K r (colHead j) (rowBlk t) (rowAt t) (colFeat j) : EReal) :=
  (congrFun (k_term m c) _).trans (byClass _ (e1 ▸ hk) r t j)

theorem v_term : V m c main_v74 = clsLay (m ((c : Thread nD τ).loc main_arg2)) := by
  unfold V
  after_results
  rfl

include e2 hv in
theorem v_val (r : Fin 4) (t : Fin 2048) (j : Fin 512) : V m c main_v74 (ix3 r t j) = (blk W r (colHead j) (rowBlk t) (rowAt t) (colFeat j) : EReal) :=
  (congrFun (v_term m c) _).trans (byClass _ (e2 ▸ hv) r t j)

theorem g_term : V m c main_v78 = clsLay (m ((c : Thread nD τ).loc main_arg3)) := by
  unfold V
  after_results
  rfl

include e3 hg in
theorem g_val (r : Fin 4) (t : Fin 2048) (j : Fin 512) : V m c main_v78 (ix3 r t j) = (blk G r (colHead j) (rowBlk t) (rowAt t) (colFeat j) : EReal) :=
  (congrFun (g_term m c) _).trans (byClass _ (e3 ▸ hg) r t j)

theorem pk_term : V m c main_v92 = clsLay (m ((c : Thread nD τ).loc main_arg5)) := by
  unfold V
  after_results
  rfl

theorem pk_val (hx : Holds (m ((c : Thread nD τ).loc main_arg5)) X) (r : Fin 4) (t : Fin 2048) (j : Fin 512) : V m c main_v92 (ix3 r t j) = (blk X r (colHead j) (rowBlk t) (rowAt t) (colFeat j) : EReal) :=
  (congrFun (pk_term m c) _).trans (byClass _ hx r t j)

theorem pv_term : V m c main_v96 = clsLay (m ((c : Thread nD τ).loc main_arg6)) := by
  unfold V
  after_results
  rfl

theorem pv_val (hx : Holds (m ((c : Thread nD τ).loc main_arg6)) X) (r : Fin 4) (t : Fin 2048) (j : Fin 512) : V m c main_v96 (ix3 r t j) = (blk X r (colHead j) (rowBlk t) (rowAt t) (colFeat j) : EReal) :=
  (congrFun (pv_term m c) _).trans (byClass _ hx r t j)

end Cert.AttpIdeal.Pre
-- ==== Proof.AttpOut.lean ====
module

public import proofs.«01_k».proof.Proof.AttnOut
public import proofs.«01_k».proof.Proof.Gen.AttpIdeal.Value

@[expose] public section

set_option maxRecDepth 16384

noncomputable section

namespace Cert.AttpIdeal.Out

open Cert.AttpIdeal Cert.AttpIdeal.Gen Idealize.ShloMosaic Idealize.ShloMosaic.TcCoe Idealize.SL.Sem
open Cert.AttnIdeal.Out (rows2 dqB dkB dvB early kept hd rB rP rC rL rS byBlocks byBlocks_emb byPairs byPairs_emb next crK cr0 crB crA skip four)

variable {F : FTy → Type} [FloatOps F] [Named F]
variable (m : (ℓ : Loc nD τ sig) → Buf (Elt F) ℓ) (c : Dev nD) (t : Fin cfg0.N) (b p : Fin 4)

def lq : Vec F S1x128x128 .bf16 := View.readAt (Elt F) (ms0_0 t).view (rB b p).toLoadRect ((hs0_0 t).unread (iblk m c 0 t))
def lkp : Vec F S1x128x128 .bf16 := View.readAt (Elt F) (ms0_1 t).view (rP p).toLoadRect ((hs0_1 t).unread (iblk m c 1 t))
def lkc : Vec F S1x512x128 .bf16 := View.readAt (Elt F) (ms0_2 t).view (rC p).toLoadRect ((hs0_2 t).unread (iblk m c 2 t))
def lvp : Vec F S1x128x128 .bf16 := View.readAt (Elt F) (ms0_3 t).view (rP p).toLoadRect ((hs0_3 t).unread (iblk m c 3 t))
def lvc : Vec F S1x512x128 .bf16 := View.readAt (Elt F) (ms0_4 t).view (rC p).toLoadRect ((hs0_4 t).unread (iblk m c 4 t))
def lg : Vec F S1x128x128 .bf16 := View.readAt (Elt F) (ms0_5 t).view (rB b p).toLoadRect ((hs0_5 t).unread (iblk m c 5 t))
def ld (h : Fin 8) : Vec F S1x128x1 .f32 := View.readAt (Elt F) (ms0_6 t).view (rL b h).toLoadRect ((hs0_6 t).unread (iblk m c 6 t))
def ll (h : Fin 8) : Vec F S1x128x1 .f32 := View.readAt (Elt F) (ms0_7 t).view (rL b h).toLoadRect ((hs0_7 t).unread (iblk m c 7 t))
def lpk : Vec F S1x128x128 .bf16 := View.readAt (Elt F) (ms0_8 t).view (rB b p).toLoadRect ((hs0_8 t).unread (iblk m c 8 t))
def lpv : Vec F S1x128x128 .bf16 := View.readAt (Elt F) (ms0_9 t).view (rB b p).toLoadRect ((hs0_9 t).unread (iblk m c 9 t))

/-- The mask of block `b`: the first block of all has no keys before it. -/
def mk : IVec S128x256 1 := match b with
  | ⟨0, _⟩ => Cert.AttnIdeal.Gen.k0_pay6 (grid0.coords t)
  | ⟨_ + 1, _⟩ => Cert.AttnIdeal.Gen.k0_pay7

def keys : FVec F S256x128 .bf16 := rows2 (lkp m c t p) (lkc m c t p) b
def vals : FVec F S256x128 .bf16 := rows2 (lvp m c t p) (lvc m c t p) b

/-- The queries' gradient of block `b`, heads `2 p` and `2 p + 1`. -/
def dqP : FVec F S1x128x128 .bf16 :=
  dqB (mk t b) (keys m c t b p) (vals m c t b p) (lq m c t b p) (lg m c t b p) (ll m c t b (hd p 0)) (ld m c t b (hd p 0)) (ll m c t b (hd p 1)) (ld m c t b (hd p 1))

/-- What block `b` gives the keys it reads. -/
def dkP : FVec F S256x128 .f32 :=
  dkB (mk t b) (keys m c t b p) (vals m c t b p) (lq m c t b p) (lg m c t b p) (ll m c t b (hd p 0)) (ld m c t b (hd p 0)) (ll m c t b (hd p 1)) (ld m c t b (hd p 1))

/-- What block `b` gives the values it reads. -/
def dvP : FVec F S256x128 .f32 :=
  dvB (mk t b) (keys m c t b p) (lq m c t b p) (lg m c t b p) (ll m c t b (hd p 0)) (ll m c t b (hd p 1))

/-- A block's own half, what follows it and the earlier layer's part. -/
def ownPlus (x : FVec F S256x128 .f32) (z : Vec F S1x128x128 .bf16) (y : FVec F S128x128 .f32) : FVec F S1x128x128 .bf16 :=
  k0_pay1 (addf (extractStridedSlice S128x128 ![128, 0] x slices_S256x128_o128_0_S128x128) y) z

/-- The whole of a block. -/
def whole (own : Fin 4 → Fin 4 → FVec F S256x128 .f32) (pr : Fin 4 → Fin 4 → Vec F S1x128x128 .bf16) (cr : Fin 4 → FVec F S128x128 .f32) (b p : Fin 4) : FVec F S1x128x128 .bf16 :=
  ownPlus (own b p) (pr b p) (next own cr b p)

/-- A store of a block is that block's place. -/
theorem at_block {H : Fin 4 → Fin 4 → S1x128x128.Idx → F .bf16} {b p : Fin 4} {w : S1x128x128.Idx → F .bf16} (h : w = H b p) (x : S1x128x128.Idx) : w x = byBlocks H ((rB b p).emb x) :=
  (congrFun h x).trans (byBlocks_emb H b p x).symm

/-- A store of a pair is that pair's place. -/
theorem at_pair {H : Fin 4 → S128x128.Idx → F .f32} {p : Fin 4} {w : S128x128.Idx → F .f32} (h : w = H p) (x : S128x128.Idx) : w x = byPairs H ((rS p).emb x) :=
  (congrFun h x).trans (byPairs_emb H p x).symm

/-- At a later point of a residue, the queries' gradient by its blocks. -/
theorem dq_B (h0 : ¬t.val % 4 = 0) : (outsAt0 m c t.val t.isLt).1 = byBlocks (dqP m c t) := by
  rw [outsAt0_B m c t h0]
  dsimp only
  unfold out0_B_10
  funext y
  refine View.read_writes_apply_of_pieces _ _ (byBlocks (dqP m c t)) _ ?_ y (cover0_B_10 ..)
  unfold kernelRun0_B
  dsimp only
  simp only [List.forall_mem_cons]
  exact ⟨at_block (H := dqP m c t) (b := 3) (p := 3) rfl,
    at_block (H := dqP m c t) (b := 2) (p := 3) rfl,
    at_block (H := dqP m c t) (b := 1) (p := 3) rfl,
    at_block (H := dqP m c t) (b := 0) (p := 3) rfl,
    at_block (H := dqP m c t) (b := 3) (p := 2) rfl,
    at_block (H := dqP m c t) (b := 2) (p := 2) rfl,
    at_block (H := dqP m c t) (b := 1) (p := 2) rfl,
    at_block (H := dqP m c t) (b := 0) (p := 2) rfl,
    at_block (H := dqP m c t) (b := 3) (p := 1) rfl,
    at_block (H := dqP m c t) (b := 2) (p := 1) rfl,
    at_block (H := dqP m c t) (b := 1) (p := 1) rfl,
    at_block (H := dqP m c t) (b := 0) (p := 1) rfl,
    at_block (H := dqP m c t) (b := 3) (p := 0) rfl,
    at_block (H := dqP m c t) (b := 2) (p := 0) rfl,
    at_block (H := dqP m c t) (b := 1) (p := 0) rfl,
    at_block (H := dqP m c t) (b := 0) (p := 0) rfl,
    fun _ h => absurd h List.not_mem_nil⟩

/-- At a first point of a residue, the queries' gradient by its blocks. -/
theorem dq_A (h0 : t.val % 4 = 0) : (outsAt0 m c t.val t.isLt).1 = byBlocks (dqP m c t) := by
  rw [outsAt0_A m c t h0]
  dsimp only
  unfold out0_A_10
  funext y
  refine View.read_writes_apply_of_pieces _ _ (byBlocks (dqP m c t)) _ ?_ y (cover0_A_10 ..)
  unfold kernelRun0_A
  dsimp only
  simp only [List.forall_mem_cons]
  exact ⟨at_block (H := dqP m c t) (b := 3) (p := 3) rfl,
    at_block (H := dqP m c t) (b := 2) (p := 3) rfl,
    at_block (H := dqP m c t) (b := 1) (p := 3) rfl,
    at_block (H := dqP m c t) (b := 0) (p := 3) rfl,
    at_block (H := dqP m c t) (b := 3) (p := 2) rfl,
    at_block (H := dqP m c t) (b := 2) (p := 2) rfl,
    at_block (H := dqP m c t) (b := 1) (p := 2) rfl,
    at_block (H := dqP m c t) (b := 0) (p := 2) rfl,
    at_block (H := dqP m c t) (b := 3) (p := 1) rfl,
    at_block (H := dqP m c t) (b := 2) (p := 1) rfl,
    at_block (H := dqP m c t) (b := 1) (p := 1) rfl,
    at_block (H := dqP m c t) (b := 0) (p := 1) rfl,
    at_block (H := dqP m c t) (b := 3) (p := 0) rfl,
    at_block (H := dqP m c t) (b := 2) (p := 0) rfl,
    at_block (H := dqP m c t) (b := 1) (p := 0) rfl,
    at_block (H := dqP m c t) (b := 0) (p := 0) rfl,
    fun _ h => absurd h List.not_mem_nil⟩

/-- At a later point of a residue, the keys' gradient by its blocks. -/
theorem dk_B (h0 : ¬t.val % 4 = 0) (xs : S128x512.Idx → F .f32) (hx : (outsAt0 m c (t.val - 1) (Nat.lt_of_le_of_lt (Nat.sub_le _ _) t.isLt)).2.2.2.1 = xs) : (outsAt0 m c t.val t.isLt).2.1 = byBlocks (whole (dkP m c t) (lpk m c t) (crK xs)) := by
  rw [outsAt0_B m c t h0]
  dsimp only
  rw [hx]
  unfold out0_B_11
  funext y
  refine View.read_writes_apply_of_pieces _ _ (byBlocks (whole (dkP m c t) (lpk m c t) (crK xs))) _ ?_ y (cover0_B_11 ..)
  unfold kernelRun0_B
  dsimp only
  simp only [List.forall_mem_cons]
  exact ⟨at_block (H := whole (dkP m c t) (lpk m c t) (crK xs)) (b := 3) (p := 3) (congrArg (ownPlus (dkP m c t 3 3) (lpk m c t 3 3)) (crB _ xs 3)),
    at_block (H := whole (dkP m c t) (lpk m c t) (crK xs)) (b := 2) (p := 3) rfl,
    at_block (H := whole (dkP m c t) (lpk m c t) (crK xs)) (b := 1) (p := 3) rfl,
    at_block (H := whole (dkP m c t) (lpk m c t) (crK xs)) (b := 0) (p := 3) rfl,
    at_block (H := whole (dkP m c t) (lpk m c t) (crK xs)) (b := 3) (p := 2) (congrArg (ownPlus (dkP m c t 3 2) (lpk m c t 3 2)) (crB _ xs 2)),
    at_block (H := whole (dkP m c t) (lpk m c t) (crK xs)) (b := 2) (p := 2) rfl,
    at_block (H := whole (dkP m c t) (lpk m c t) (crK xs)) (b := 1) (p := 2) rfl,
    at_block (H := whole (dkP m c t) (lpk m c t) (crK xs)) (b := 0) (p := 2) rfl,
    at_block (H := whole (dkP m c t) (lpk m c t) (crK xs)) (b := 3) (p := 1) (congrArg (ownPlus (dkP m c t 3 1) (lpk m c t 3 1)) (crB _ xs 1)),
    at_block (H := whole (dkP m c t) (lpk m c t) (crK xs)) (b := 2) (p := 1) rfl,
    at_block (H := whole (dkP m c t) (lpk m c t) (crK xs)) (b := 1) (p := 1) rfl,
    at_block (H := whole (dkP m c t) (lpk m c t) (crK xs)) (b := 0) (p := 1) rfl,
    at_block (H := whole (dkP m c t) (lpk m c t) (crK xs)) (b := 3) (p := 0) (congrArg (ownPlus (dkP m c t 3 0) (lpk m c t 3 0)) (crB _ xs 0)),
    at_block (H := whole (dkP m c t) (lpk m c t) (crK xs)) (b := 2) (p := 0) rfl,
    at_block (H := whole (dkP m c t) (lpk m c t) (crK xs)) (b := 1) (p := 0) rfl,
    at_block (H := whole (dkP m c t) (lpk m c t) (crK xs)) (b := 0) (p := 0) rfl,
    fun _ h => absurd h List.not_mem_nil⟩

/-- At a first point of a residue, the keys' gradient by its blocks. -/
theorem dk_A (h0 : t.val % 4 = 0) : (outsAt0 m c t.val t.isLt).2.1 = byBlocks (whole (dkP m c t) (lpk m c t) cr0) := by
  rw [outsAt0_A m c t h0]
  dsimp only
  unfold out0_A_11
  funext y
  refine View.read_writes_apply_of_pieces _ _ (byBlocks (whole (dkP m c t) (lpk m c t) cr0)) _ ?_ y (cover0_A_11 ..)
  unfold kernelRun0_A
  dsimp only
  simp only [List.forall_mem_cons]
  exact ⟨at_block (H := whole (dkP m c t) (lpk m c t) cr0) (b := 3) (p := 3) (congrArg (ownPlus (dkP m c t 3 3) (lpk m c t 3 3)) ((skip (p := 3) (q := 2) (by decide)).trans ((skip (p := 3) (q := 1) (by decide)).trans ((skip (p := 3) (q := 0) (by decide)).trans (crA _ 3))))),
    at_block (H := whole (dkP m c t) (lpk m c t) cr0) (b := 2) (p := 3) rfl,
    at_block (H := whole (dkP m c t) (lpk m c t) cr0) (b := 1) (p := 3) rfl,
    at_block (H := whole (dkP m c t) (lpk m c t) cr0) (b := 0) (p := 3) rfl,
    at_block (H := whole (dkP m c t) (lpk m c t) cr0) (b := 3) (p := 2) (congrArg (ownPlus (dkP m c t 3 2) (lpk m c t 3 2)) ((skip (p := 2) (q := 1) (by decide)).trans ((skip (p := 2) (q := 0) (by decide)).trans (crA _ 2)))),
    at_block (H := whole (dkP m c t) (lpk m c t) cr0) (b := 2) (p := 2) rfl,
    at_block (H := whole (dkP m c t) (lpk m c t) cr0) (b := 1) (p := 2) rfl,
    at_block (H := whole (dkP m c t) (lpk m c t) cr0) (b := 0) (p := 2) rfl,
    at_block (H := whole (dkP m c t) (lpk m c t) cr0) (b := 3) (p := 1) (congrArg (ownPlus (dkP m c t 3 1) (lpk m c t 3 1)) ((skip (p := 1) (q := 0) (by decide)).trans (crA _ 1))),
    at_block (H := whole (dkP m c t) (lpk m c t) cr0) (b := 2) (p := 1) rfl,
    at_block (H := whole (dkP m c t) (lpk m c t) cr0) (b := 1) (p := 1) rfl,
    at_block (H := whole (dkP m c t) (lpk m c t) cr0) (b := 0) (p := 1) rfl,
    at_block (H := whole (dkP m c t) (lpk m c t) cr0) (b := 3) (p := 0) (congrArg (ownPlus (dkP m c t 3 0) (lpk m c t 3 0)) (crA _ 0)),
    at_block (H := whole (dkP m c t) (lpk m c t) cr0) (b := 2) (p := 0) rfl,
    at_block (H := whole (dkP m c t) (lpk m c t) cr0) (b := 1) (p := 0) rfl,
    at_block (H := whole (dkP m c t) (lpk m c t) cr0) (b := 0) (p := 0) rfl,
    fun _ h => absurd h List.not_mem_nil⟩

/-- What a later point of a residue leaves for the next of the keys' gradient. -/
theorem dk_carryB (h0 : ¬t.val % 4 = 0) : (outsAt0 m c t.val t.isLt).2.2.2.1 = byPairs fun p => kept (dkP m c t 0 p) := by
  rw [outsAt0_B m c t h0]
  dsimp only
  unfold sout0_B_0
  funext y
  refine View.read_writes_apply_of_pieces _ _ (byPairs fun p => kept (dkP m c t 0 p)) _ ?_ y (scover0_B_0 ..)
  unfold kernelRun0_B
  dsimp only
  simp only [List.forall_mem_cons]
  exact ⟨at_pair (H := fun p => kept (dkP m c t 0 p)) (p := 3) rfl,
    at_pair (H := fun p => kept (dkP m c t 0 p)) (p := 2) rfl,
    at_pair (H := fun p => kept (dkP m c t 0 p)) (p := 1) rfl,
    at_pair (H := fun p => kept (dkP m c t 0 p)) (p := 0) rfl,
    fun _ h => absurd h List.not_mem_nil⟩

/-- What a first point of a residue leaves for the next of the keys' gradient. -/
theorem dk_carryA (h0 : t.val % 4 = 0) : (outsAt0 m c t.val t.isLt).2.2.2.1 = byPairs fun p => kept (dkP m c t 0 p) := by
  rw [outsAt0_A m c t h0]
  dsimp only
  unfold sout0_A_0
  funext y
  unfold kernelRun0_A
  dsimp only
  exact four _ (fun p => kept (dkP m c t 0 p)) _ _ _ _ _ y rfl rfl rfl rfl

/-- At a later point of a residue, the values' gradient by its blocks. -/
theorem dv_B (h0 : ¬t.val % 4 = 0) (xs : S128x512.Idx → F .f32) (hx : (outsAt0 m c (t.val - 1) (Nat.lt_of_le_of_lt (Nat.sub_le _ _) t.isLt)).2.2.2.2 = xs) : (outsAt0 m c t.val t.isLt).2.2.1 = byBlocks (whole (dvP m c t) (lpv m c t) (crK xs)) := by
  rw [outsAt0_B m c t h0]
  dsimp only
  rw [hx]
  unfold out0_B_12
  funext y
  refine View.read_writes_apply_of_pieces _ _ (byBlocks (whole (dvP m c t) (lpv m c t) (crK xs))) _ ?_ y (cover0_B_12 ..)
  unfold kernelRun0_B
  dsimp only
  simp only [List.forall_mem_cons]
  exact ⟨at_block (H := whole (dvP m c t) (lpv m c t) (crK xs)) (b := 3) (p := 3) (congrArg (ownPlus (dvP m c t 3 3) (lpv m c t 3 3)) (crB _ xs 3)),
    at_block (H := whole (dvP m c t) (lpv m c t) (crK xs)) (b := 2) (p := 3) rfl,
    at_block (H := whole (dvP m c t) (lpv m c t) (crK xs)) (b := 1) (p := 3) rfl,
    at_block (H := whole (dvP m c t) (lpv m c t) (crK xs)) (b := 0) (p := 3) rfl,
    at_block (H := whole (dvP m c t) (lpv m c t) (crK xs)) (b := 3) (p := 2) (congrArg (ownPlus (dvP m c t 3 2) (lpv m c t 3 2)) (crB _ xs 2)),
    at_block (H := whole (dvP m c t) (lpv m c t) (crK xs)) (b := 2) (p := 2) rfl,
    at_block (H := whole (dvP m c t) (lpv m c t) (crK xs)) (b := 1) (p := 2) rfl,
    at_block (H := whole (dvP m c t) (lpv m c t) (crK xs)) (b := 0) (p := 2) rfl,
    at_block (H := whole (dvP m c t) (lpv m c t) (crK xs)) (b := 3) (p := 1) (congrArg (ownPlus (dvP m c t 3 1) (lpv m c t 3 1)) (crB _ xs 1)),
    at_block (H := whole (dvP m c t) (lpv m c t) (crK xs)) (b := 2) (p := 1) rfl,
    at_block (H := whole (dvP m c t) (lpv m c t) (crK xs)) (b := 1) (p := 1) rfl,
    at_block (H := whole (dvP m c t) (lpv m c t) (crK xs)) (b := 0) (p := 1) rfl,
    at_block (H := whole (dvP m c t) (lpv m c t) (crK xs)) (b := 3) (p := 0) (congrArg (ownPlus (dvP m c t 3 0) (lpv m c t 3 0)) (crB _ xs 0)),
    at_block (H := whole (dvP m c t) (lpv m c t) (crK xs)) (b := 2) (p := 0) rfl,
    at_block (H := whole (dvP m c t) (lpv m c t) (crK xs)) (b := 1) (p := 0) rfl,
    at_block (H := whole (dvP m c t) (lpv m c t) (crK xs)) (b := 0) (p := 0) rfl,
    fun _ h => absurd h List.not_mem_nil⟩

/-- At a first point of a residue, the values' gradient by its blocks. -/
theorem dv_A (h0 : t.val % 4 = 0) : (outsAt0 m c t.val t.isLt).2.2.1 = byBlocks (whole (dvP m c t) (lpv m c t) cr0) := by
  rw [outsAt0_A m c t h0]
  dsimp only
  unfold out0_A_12
  funext y
  refine View.read_writes_apply_of_pieces _ _ (byBlocks (whole (dvP m c t) (lpv m c t) cr0)) _ ?_ y (cover0_A_12 ..)
  unfold kernelRun0_A
  dsimp only
  simp only [List.forall_mem_cons]
  exact ⟨at_block (H := whole (dvP m c t) (lpv m c t) cr0) (b := 3) (p := 3) (congrArg (ownPlus (dvP m c t 3 3) (lpv m c t 3 3)) ((skip (p := 3) (q := 2) (by decide)).trans ((skip (p := 3) (q := 1) (by decide)).trans ((skip (p := 3) (q := 0) (by decide)).trans (crA _ 3))))),
    at_block (H := whole (dvP m c t) (lpv m c t) cr0) (b := 2) (p := 3) rfl,
    at_block (H := whole (dvP m c t) (lpv m c t) cr0) (b := 1) (p := 3) rfl,
    at_block (H := whole (dvP m c t) (lpv m c t) cr0) (b := 0) (p := 3) rfl,
    at_block (H := whole (dvP m c t) (lpv m c t) cr0) (b := 3) (p := 2) (congrArg (ownPlus (dvP m c t 3 2) (lpv m c t 3 2)) ((skip (p := 2) (q := 1) (by decide)).trans ((skip (p := 2) (q := 0) (by decide)).trans (crA _ 2)))),
    at_block (H := whole (dvP m c t) (lpv m c t) cr0) (b := 2) (p := 2) rfl,
    at_block (H := whole (dvP m c t) (lpv m c t) cr0) (b := 1) (p := 2) rfl,
    at_block (H := whole (dvP m c t) (lpv m c t) cr0) (b := 0) (p := 2) rfl,
    at_block (H := whole (dvP m c t) (lpv m c t) cr0) (b := 3) (p := 1) (congrArg (ownPlus (dvP m c t 3 1) (lpv m c t 3 1)) ((skip (p := 1) (q := 0) (by decide)).trans (crA _ 1))),
    at_block (H := whole (dvP m c t) (lpv m c t) cr0) (b := 2) (p := 1) rfl,
    at_block (H := whole (dvP m c t) (lpv m c t) cr0) (b := 1) (p := 1) rfl,
    at_block (H := whole (dvP m c t) (lpv m c t) cr0) (b := 0) (p := 1) rfl,
    at_block (H := whole (dvP m c t) (lpv m c t) cr0) (b := 3) (p := 0) (congrArg (ownPlus (dvP m c t 3 0) (lpv m c t 3 0)) (crA _ 0)),
    at_block (H := whole (dvP m c t) (lpv m c t) cr0) (b := 2) (p := 0) rfl,
    at_block (H := whole (dvP m c t) (lpv m c t) cr0) (b := 1) (p := 0) rfl,
    at_block (H := whole (dvP m c t) (lpv m c t) cr0) (b := 0) (p := 0) rfl,
    fun _ h => absurd h List.not_mem_nil⟩

/-- What a later point of a residue leaves for the next of the values' gradient. -/
theorem dv_carryB (h0 : ¬t.val % 4 = 0) : (outsAt0 m c t.val t.isLt).2.2.2.2 = byPairs fun p => kept (dvP m c t 0 p) := by
  rw [outsAt0_B m c t h0]
  dsimp only
  unfold sout0_B_1
  funext y
  refine View.read_writes_apply_of_pieces _ _ (byPairs fun p => kept (dvP m c t 0 p)) _ ?_ y (scover0_B_1 ..)
  unfold kernelRun0_B
  dsimp only
  simp only [List.forall_mem_cons]
  exact ⟨at_pair (H := fun p => kept (dvP m c t 0 p)) (p := 3) rfl,
    at_pair (H := fun p => kept (dvP m c t 0 p)) (p := 2) rfl,
    at_pair (H := fun p => kept (dvP m c t 0 p)) (p := 1) rfl,
    at_pair (H := fun p => kept (dvP m c t 0 p)) (p := 0) rfl,
    fun _ h => absurd h List.not_mem_nil⟩

/-- What a first point of a residue leaves for the next of the values' gradient. -/
theorem dv_carryA (h0 : t.val % 4 = 0) : (outsAt0 m c t.val t.isLt).2.2.2.2 = byPairs fun p => kept (dvP m c t 0 p) := by
  rw [outsAt0_A m c t h0]
  dsimp only
  unfold sout0_A_1
  funext y
  unfold kernelRun0_A
  dsimp only
  exact four _ (fun p => kept (dvP m c t 0 p)) _ _ _ _ _ y rfl rfl rfl rfl

end Cert.AttpIdeal.Out
-- ==== Proof.AttpVal.lean ====
module

public import proofs.«01_k».proof.Proof.AttpHost
public import proofs.«01_k».proof.Proof.AttpOut
public import proofs.«01_k».proof.Proof.AttnFin

@[expose] public section

set_option maxRecDepth 16384

noncomputable section

namespace Cert.AttpIdeal.Val

open Cert.AttpIdeal Cert.AttpIdeal.Gen Idealize.ShloMosaic Idealize.ShloMosaic.StableHlo Idealize.ShloMosaic.TcCoe Idealize.SL.Sem
open Cert.AttpIdeal.Out Cert.AttpIdeal.Pre
open Cert.AttnIdeal.Out (rows2 dqB dkB dvB early kept hd rB rP rC rL rS byBlocks byBlocks_emb byPairs byPairs_emb next crK cr0 crB crA skip four)
open Cert.AttnIdeal.Pure (lane dqB_real dkB_real dvB_real first_eq band_eq)
open Cert.AttnIdeal.Pre (laneHead)
open Cert.AttnIdeal.Val (cl ln colHead_cl colFeat_cl near near_two lh le lh_lane le_lane pair near_pair kept_at zero_at gq gk gv laneHead_ln)
open Cert.AttnRefIdeal.Rd (blk blk1 Holds Holds1 rowBlk rowAt colHead colFeat tok)

/-! ## Where a point's blocks lie -/

/-- The residue class of a point. -/
abbrev cls (t : Fin cfg0.N) : Fin 4 := ⟨t.val / 4, by have := t.isLt; have e : cfg0.N = 16 := rfl; omega⟩

/-- The four blocks of a point, the last ones at the first point. -/
abbrev bk (t : Fin cfg0.N) (b : Fin 4) : Fin 16 := ⟨4 * (3 - t.val % 4) + b.val, by omega⟩

/-- A row of one of a point's blocks. -/
abbrev rw_ (t : Fin cfg0.N) (b : Fin 4) (a : Fin 128) : Fin 2048 := ⟨512 * (3 - t.val % 4) + 128 * b.val + a.val, by omega⟩

/-- A row of the block before a point's (of the first block where none is before). -/
abbrev rwP (t : Fin cfg0.N) (a : Fin 128) : Fin 2048 := ⟨128 * (4 * (3 - t.val % 4) - 1) + a.val, by omega⟩

/-- A row of a point's four blocks. -/
abbrev rwC (t : Fin cfg0.N) (a : Fin 512) : Fin 2048 := ⟨512 * (3 - t.val % 4) + a.val, by omega⟩

theorem index0 : ∀ t : Fin cfg0.N, win0_0.index t 0 = t.val / 4 ∧ win0_0.index t 1 = 3 - t.val % 4 ∧ win0_0.index t 2 = 0 :=
  (by decide +kernel : ∀ t : Fin grid0.N, win0_0.index t 0 = t.val / 4 ∧ win0_0.index t 1 = 3 - t.val % 4 ∧ win0_0.index t 2 = 0)
theorem index1 : ∀ t : Fin cfg0.N, win0_1.index t 0 = t.val / 4 ∧ win0_1.index t 1 = 4 * (3 - t.val % 4) - 1 ∧ win0_1.index t 2 = 0 :=
  (by decide +kernel : ∀ t : Fin grid0.N, win0_1.index t 0 = t.val / 4 ∧ win0_1.index t 1 = 4 * (3 - t.val % 4) - 1 ∧ win0_1.index t 2 = 0)
theorem index2 : ∀ t : Fin cfg0.N, win0_2.index t 0 = t.val / 4 ∧ win0_2.index t 1 = 3 - t.val % 4 ∧ win0_2.index t 2 = 0 :=
  (by decide +kernel : ∀ t : Fin grid0.N, win0_2.index t 0 = t.val / 4 ∧ win0_2.index t 1 = 3 - t.val % 4 ∧ win0_2.index t 2 = 0)
theorem index3 : ∀ t : Fin cfg0.N, win0_3.index t 0 = t.val / 4 ∧ win0_3.index t 1 = 4 * (3 - t.val % 4) - 1 ∧ win0_3.index t 2 = 0 :=
  (by decide +kernel : ∀ t : Fin grid0.N, win0_3.index t 0 = t.val / 4 ∧ win0_3.index t 1 = 4 * (3 - t.val % 4) - 1 ∧ win0_3.index t 2 = 0)
theorem index4 : ∀ t : Fin cfg0.N, win0_4.index t 0 = t.val / 4 ∧ win0_4.index t 1 = 3 - t.val % 4 ∧ win0_4.index t 2 = 0 :=
  (by decide +kernel : ∀ t : Fin grid0.N, win0_4.index t 0 = t.val / 4 ∧ win0_4.index t 1 = 3 - t.val % 4 ∧ win0_4.index t 2 = 0)
theorem index5 : ∀ t : Fin cfg0.N, win0_5.index t 0 = t.val / 4 ∧ win0_5.index t 1 = 3 - t.val % 4 ∧ win0_5.index t 2 = 0 :=
  (by decide +kernel : ∀ t : Fin grid0.N, win0_5.index t 0 = t.val / 4 ∧ win0_5.index t 1 = 3 - t.val % 4 ∧ win0_5.index t 2 = 0)
theorem index6 : ∀ t : Fin cfg0.N, win0_6.index t 0 = t.val / 4 ∧ win0_6.index t 1 = 3 - t.val % 4 ∧ win0_6.index t 2 = 0 :=
  (by decide +kernel : ∀ t : Fin grid0.N, win0_6.index t 0 = t.val / 4 ∧ win0_6.index t 1 = 3 - t.val % 4 ∧ win0_6.index t 2 = 0)
theorem index7 : ∀ t : Fin cfg0.N, win0_7.index t 0 = t.val / 4 ∧ win0_7.index t 1 = 3 - t.val % 4 ∧ win0_7.index t 2 = 0 :=
  (by decide +kernel : ∀ t : Fin grid0.N, win0_7.index t 0 = t.val / 4 ∧ win0_7.index t 1 = 3 - t.val % 4 ∧ win0_7.index t 2 = 0)
theorem index8 : ∀ t : Fin cfg0.N, win0_8.index t 0 = t.val / 4 ∧ win0_8.index t 1 = 3 - t.val % 4 ∧ win0_8.index t 2 = 0 :=
  (by decide +kernel : ∀ t : Fin grid0.N, win0_8.index t 0 = t.val / 4 ∧ win0_8.index t 1 = 3 - t.val % 4 ∧ win0_8.index t 2 = 0)
theorem index9 : ∀ t : Fin cfg0.N, win0_9.index t 0 = t.val / 4 ∧ win0_9.index t 1 = 3 - t.val % 4 ∧ win0_9.index t 2 = 0 :=
  (by decide +kernel : ∀ t : Fin grid0.N, win0_9.index t 0 = t.val / 4 ∧ win0_9.index t 1 = 3 - t.val % 4 ∧ win0_9.index t 2 = 0)
theorem index10 : ∀ t : Fin cfg0.N, win0_10.index t 0 = t.val / 4 ∧ win0_10.index t 1 = 3 - t.val % 4 ∧ win0_10.index t 2 = 0 :=
  (by decide +kernel : ∀ t : Fin grid0.N, win0_10.index t 0 = t.val / 4 ∧ win0_10.index t 1 = 3 - t.val % 4 ∧ win0_10.index t 2 = 0)
theorem index11 : ∀ t : Fin cfg0.N, win0_11.index t 0 = t.val / 4 ∧ win0_11.index t 1 = 3 - t.val % 4 ∧ win0_11.index t 2 = 0 :=
  (by decide +kernel : ∀ t : Fin grid0.N, win0_11.index t 0 = t.val / 4 ∧ win0_11.index t 1 = 3 - t.val % 4 ∧ win0_11.index t 2 = 0)
theorem index12 : ∀ t : Fin cfg0.N, win0_12.index t 0 = t.val / 4 ∧ win0_12.index t 1 = 3 - t.val % 4 ∧ win0_12.index t 2 = 0 :=
  (by decide +kernel : ∀ t : Fin grid0.N, win0_12.index t 0 = t.val / 4 ∧ win0_12.index t 1 = 3 - t.val % 4 ∧ win0_12.index t 2 = 0)
theorem coord1 : ∀ t : Fin cfg0.N, (grid0.coords t 1).val = t.val % 4 :=
  (by decide +kernel : ∀ t : Fin grid0.N, (grid0.coords t 1).val = t.val % 4)

section Loads

variable {F : FTy → Type} [FloatOps F] [Named F]
variable (m : (ℓ : Loc nD τ sig) → Buf (Elt F) ℓ) (c : Dev nD) (t : Fin cfg0.N) (b p : Fin 4)

theorem lq_at (a l : Fin 128) : lq m c t b p (ix3 0 a l) = V m c main_v66 (ix3 (cls t) (rw_ t b a) (cl p l)) := by
  show View.read _ _ ((hs0_0 t).unread (iblk m c 0 t)) ((rB b p).emb (ix3 0 a l)) = _
  rw [(hs0_0 t).read_unread (Val := Elt F)]
  unfold iblk
  show V m c main_v66 ((win0_0.rect t).emb ((rB b p).emb (ix3 0 a l))) = _
  refine congrArg (V m c main_v66) ?_
  funext k
  refine Fin.ext ((win0_0.rect_emb_val t _ k).trans ?_)
  match k with
  | ⟨0, _⟩ => show win0_0.index t 0 * 1 + 0 = t.val / 4; rw [(index0 t).1]; omega
  | ⟨1, _⟩ => show win0_0.index t 1 * 512 + (128 * b.val + 1 * a.val) = 512 * (3 - t.val % 4) + 128 * b.val + a.val; rw [(index0 t).2.1]; omega
  | ⟨2, _⟩ => show win0_0.index t 2 * 512 + (128 * p.val + 1 * l.val) = 128 * p.val + l.val; rw [(index0 t).2.2]; omega

theorem lg_at (a l : Fin 128) : lg m c t b p (ix3 0 a l) = V m c main_v78 (ix3 (cls t) (rw_ t b a) (cl p l)) := by
  show View.read _ _ ((hs0_5 t).unread (iblk m c 5 t)) ((rB b p).emb (ix3 0 a l)) = _
  rw [(hs0_5 t).read_unread (Val := Elt F)]
  unfold iblk
  show V m c main_v78 ((win0_5.rect t).emb ((rB b p).emb (ix3 0 a l))) = _
  refine congrArg (V m c main_v78) ?_
  funext k
  refine Fin.ext ((win0_5.rect_emb_val t _ k).trans ?_)
  match k with
  | ⟨0, _⟩ => show win0_5.index t 0 * 1 + 0 = t.val / 4; rw [(index5 t).1]; omega
  | ⟨1, _⟩ => show win0_5.index t 1 * 512 + (128 * b.val + 1 * a.val) = 512 * (3 - t.val % 4) + 128 * b.val + a.val; rw [(index5 t).2.1]; omega
  | ⟨2, _⟩ => show win0_5.index t 2 * 512 + (128 * p.val + 1 * l.val) = 128 * p.val + l.val; rw [(index5 t).2.2]; omega

theorem lkp_at (a l : Fin 128) : lkp m c t p (ix3 0 a l) = V m c main_v70 (ix3 (cls t) (rwP t a) (cl p l)) := by
  show View.read _ _ ((hs0_1 t).unread (iblk m c 1 t)) ((rP p).emb (ix3 0 a l)) = _
  rw [(hs0_1 t).read_unread (Val := Elt F)]
  unfold iblk
  show V m c main_v70 ((win0_1.rect t).emb ((rP p).emb (ix3 0 a l))) = _
  refine congrArg (V m c main_v70) ?_
  funext k
  refine Fin.ext ((win0_1.rect_emb_val t _ k).trans ?_)
  match k with
  | ⟨0, _⟩ => show win0_1.index t 0 * 1 + 0 = t.val / 4; rw [(index1 t).1]; omega
  | ⟨1, _⟩ => show win0_1.index t 1 * 128 + (0 + 1 * a.val) = 128 * (4 * (3 - t.val % 4) - 1) + a.val; rw [(index1 t).2.1]; omega
  | ⟨2, _⟩ => show win0_1.index t 2 * 512 + (128 * p.val + 1 * l.val) = 128 * p.val + l.val; rw [(index1 t).2.2]; omega

theorem lvp_at (a l : Fin 128) : lvp m c t p (ix3 0 a l) = V m c main_v74 (ix3 (cls t) (rwP t a) (cl p l)) := by
  show View.read _ _ ((hs0_3 t).unread (iblk m c 3 t)) ((rP p).emb (ix3 0 a l)) = _
  rw [(hs0_3 t).read_unread (Val := Elt F)]
  unfold iblk
  show V m c main_v74 ((win0_3.rect t).emb ((rP p).emb (ix3 0 a l))) = _
  refine congrArg (V m c main_v74) ?_
  funext k
  refine Fin.ext ((win0_3.rect_emb_val t _ k).trans ?_)
  match k with
  | ⟨0, _⟩ => show win0_3.index t 0 * 1 + 0 = t.val / 4; rw [(index3 t).1]; omega
  | ⟨1, _⟩ => show win0_3.index t 1 * 128 + (0 + 1 * a.val) = 128 * (4 * (3 - t.val % 4) - 1) + a.val; rw [(index3 t).2.1]; omega
  | ⟨2, _⟩ => show win0_3.index t 2 * 512 + (128 * p.val + 1 * l.val) = 128 * p.val + l.val; rw [(index3 t).2.2]; omega

theorem lkc_at (a : Fin 512) (l : Fin 128) : lkc m c t p (ix3 0 a l) = V m c main_v70 (ix3 (cls t) (rwC t a) (cl p l)) := by
  show View.read _ _ ((hs0_2 t).unread (iblk m c 2 t)) ((rC p).emb (ix3 0 a l)) = _
  rw [(hs0_2 t).read_unread (Val := Elt F)]
  unfold iblk
  show V m c main_v70 ((win0_2.rect t).emb ((rC p).emb (ix3 0 a l))) = _
  refine congrArg (V m c main_v70) ?_
  funext k
  refine Fin.ext ((win0_2.rect_emb_val t _ k).trans ?_)
  match k with
  | ⟨0, _⟩ => show win0_2.index t 0 * 1 + 0 = t.val / 4; rw [(index2 t).1]; omega
  | ⟨1, _⟩ => show win0_2.index t 1 * 512 + (0 + 1 * a.val) = 512 * (3 - t.val % 4) + a.val; rw [(index2 t).2.1]; omega
  | ⟨2, _⟩ => show win0_2.index t 2 * 512 + (128 * p.val + 1 * l.val) = 128 * p.val + l.val; rw [(index2 t).2.2]; omega

theorem lvc_at (a : Fin 512) (l : Fin 128) : lvc m c t p (ix3 0 a l) = V m c main_v74 (ix3 (cls t) (rwC t a) (cl p l)) := by
  show View.read _ _ ((hs0_4 t).unread (iblk m c 4 t)) ((rC p).emb (ix3 0 a l)) = _
  rw [(hs0_4 t).read_unread (Val := Elt F)]
  unfold iblk
  show V m c main_v74 ((win0_4.rect t).emb ((rC p).emb (ix3 0 a l))) = _
  refine congrArg (V m c main_v74) ?_
  funext k
  refine Fin.ext ((win0_4.rect_emb_val t _ k).trans ?_)
  match k with
  | ⟨0, _⟩ => show win0_4.index t 0 * 1 + 0 = t.val / 4; rw [(index4 t).1]; omega
  | ⟨1, _⟩ => show win0_4.index t 1 * 512 + (0 + 1 * a.val) = 512 * (3 - t.val % 4) + a.val; rw [(index4 t).2.1]; omega
  | ⟨2, _⟩ => show win0_4.index t 2 * 512 + (128 * p.val + 1 * l.val) = 128 * p.val + l.val; rw [(index4 t).2.2]; omega

theorem ld_at (h : Fin 8) (a : Fin 128) : ld m c t b h (ix3 0 a 0) = V m c main_v83 (ix3 (cls t) (rw_ t b a) (ln h)) := by
  show View.read _ _ ((hs0_6 t).unread (iblk m c 6 t)) ((rL b h).emb (ix3 0 a 0)) = _
  rw [(hs0_6 t).read_unread (Val := Elt F)]
  unfold iblk
  show V m c main_v83 ((win0_6.rect t).emb ((rL b h).emb (ix3 0 a 0))) = _
  refine congrArg (V m c main_v83) ?_
  funext k
  refine Fin.ext ((win0_6.rect_emb_val t _ k).trans ?_)
  match k with
  | ⟨0, _⟩ => show win0_6.index t 0 * 1 + 0 = t.val / 4; rw [(index6 t).1]; omega
  | ⟨1, _⟩ => show win0_6.index t 1 * 512 + (128 * b.val + 1 * a.val) = 512 * (3 - t.val % 4) + 128 * b.val + a.val; rw [(index6 t).2.1]; omega
  | ⟨2, _⟩ => show win0_6.index t 2 * 128 + (16 * h.val + 1 * 0) = 16 * h.val; rw [(index6 t).2.2]; omega

theorem ll_at (h : Fin 8) (a : Fin 128) : ll m c t b h (ix3 0 a 0) = V m c main_v88 (ix3 (cls t) (rw_ t b a) (ln h)) := by
  show View.read _ _ ((hs0_7 t).unread (iblk m c 7 t)) ((rL b h).emb (ix3 0 a 0)) = _
  rw [(hs0_7 t).read_unread (Val := Elt F)]
  unfold iblk
  show V m c main_v88 ((win0_7.rect t).emb ((rL b h).emb (ix3 0 a 0))) = _
  refine congrArg (V m c main_v88) ?_
  funext k
  refine Fin.ext ((win0_7.rect_emb_val t _ k).trans ?_)
  match k with
  | ⟨0, _⟩ => show win0_7.index t 0 * 1 + 0 = t.val / 4; rw [(index7 t).1]; omega
  | ⟨1, _⟩ => show win0_7.index t 1 * 512 + (128 * b.val + 1 * a.val) = 512 * (3 - t.val % 4) + 128 * b.val + a.val; rw [(index7 t).2.1]; omega
  | ⟨2, _⟩ => show win0_7.index t 2 * 128 + (16 * h.val + 1 * 0) = 16 * h.val; rw [(index7 t).2.2]; omega

theorem lpk_at (a l : Fin 128) : lpk m c t b p (ix3 0 a l) = V m c main_v92 (ix3 (cls t) (rw_ t b a) (cl p l)) := by
  show View.read _ _ ((hs0_8 t).unread (iblk m c 8 t)) ((rB b p).emb (ix3 0 a l)) = _
  rw [(hs0_8 t).read_unread (Val := Elt F)]
  unfold iblk
  show V m c main_v92 ((win0_8.rect t).emb ((rB b p).emb (ix3 0 a l))) = _
  refine congrArg (V m c main_v92) ?_
  funext k
  refine Fin.ext ((win0_8.rect_emb_val t _ k).trans ?_)
  match k with
  | ⟨0, _⟩ => show win0_8.index t 0 * 1 + 0 = t.val / 4; rw [(index8 t).1]; omega
  | ⟨1, _⟩ => show win0_8.index t 1 * 512 + (128 * b.val + 1 * a.val) = 512 * (3 - t.val % 4) + 128 * b.val + a.val; rw [(index8 t).2.1]; omega
  | ⟨2, _⟩ => show win0_8.index t 2 * 512 + (128 * p.val + 1 * l.val) = 128 * p.val + l.val; rw [(index8 t).2.2]; omega

theorem lpv_at (a l : Fin 128) : lpv m c t b p (ix3 0 a l) = V m c main_v96 (ix3 (cls t) (rw_ t b a) (cl p l)) := by
  show View.read _ _ ((hs0_9 t).unread (iblk m c 9 t)) ((rB b p).emb (ix3 0 a l)) = _
  rw [(hs0_9 t).read_unread (Val := Elt F)]
  unfold iblk
  show V m c main_v96 ((win0_9.rect t).emb ((rB b p).emb (ix3 0 a l))) = _
  refine congrArg (V m c main_v96) ?_
  funext k
  refine Fin.ext ((win0_9.rect_emb_val t _ k).trans ?_)
  match k with
  | ⟨0, _⟩ => show win0_9.index t 0 * 1 + 0 = t.val / 4; rw [(index9 t).1]; omega
  | ⟨1, _⟩ => show win0_9.index t 1 * 512 + (128 * b.val + 1 * a.val) = 512 * (3 - t.val % 4) + 128 * b.val + a.val; rw [(index9 t).2.1]; omega
  | ⟨2, _⟩ => show win0_9.index t 2 * 512 + (128 * p.val + 1 * l.val) = 128 * p.val + l.val; rw [(index9 t).2.2]; omega

end Loads

end Cert.AttpIdeal.Val
-- ==== Proof.AttpFin.lean ====
module

public import proofs.«01_k».proof.Proof.AttpVal

@[expose] public section

set_option maxRecDepth 16384

noncomputable section

namespace Cert.AttpIdeal.Val

open Cert.AttpIdeal Cert.AttpIdeal.Gen Idealize.ShloMosaic Idealize.ShloMosaic.StableHlo Idealize.ShloMosaic.TcCoe Idealize.SL.Sem
open Cert.AttpIdeal.Out Cert.AttpIdeal.Pre
open Cert.AttnIdeal.Out (rows2 dqB dkB dvB early kept hd rB rP rC rL rS byBlocks byBlocks_emb byPairs byPairs_emb next crK cr0 crB crA skip four)
open Cert.AttnIdeal.Pure (lane dqB_real dkB_real dvB_real first_eq band_eq)
open Cert.AttnIdeal.Pre (laneHead)
open Cert.AttnIdeal.Val (cl ln colHead_cl colFeat_cl near near_two lh le lh_lane le_lane pair near_pair kept_at zero_at gq gk gv laneHead_ln)
open Cert.AttnRefIdeal.Rd (blk blk1 Holds Holds1 rowBlk rowAt colHead colFeat tok)

/-! ## What a point computes, as real numbers -/

section Points

variable (m : (ℓ : Loc nD τ sig) → Buf (Elt Ideal) ℓ) (c : Dev nD)
variable {Q K W G X Y : Fin 8192 → Fin 8 → Fin 64 → ℝ} {D : Fin 8192 → Fin 8 → ℝ}

/-- What the arrays that the call reads hold. -/
structure Reads : Prop where
  q : ∀ r t j, V m c main_v66 (ix3 r t j) = (blk Q r (colHead j) (rowBlk t) (rowAt t) (colFeat j) : EReal)
  k : ∀ r t j, V m c main_v70 (ix3 r t j) = (blk K r (colHead j) (rowBlk t) (rowAt t) (colFeat j) : EReal)
  v : ∀ r t j, V m c main_v74 (ix3 r t j) = (blk W r (colHead j) (rowBlk t) (rowAt t) (colFeat j) : EReal)
  g : ∀ r t j, V m c main_v78 (ix3 r t j) = (blk G r (colHead j) (rowBlk t) (rowAt t) (colFeat j) : EReal)
  d : ∀ r t l, V m c main_v83 (ix3 r t l) = (AttnMath.delta (blk Q r (laneHead l)) (blk K r (laneHead l)) (blk W r (laneHead l)) (blk G r (laneHead l)) (blk1 D r (laneHead l)) (rowBlk t) (rowAt t) : EReal)
  pk : ∀ r t j, V m c main_v92 (ix3 r t j) = (blk X r (colHead j) (rowBlk t) (rowAt t) (colFeat j) : EReal)
  pv : ∀ r t j, V m c main_v96 (ix3 r t j) = (blk Y r (colHead j) (rowBlk t) (rowAt t) (colFeat j) : EReal)
  l : ∀ r t l, V m c main_v88 (ix3 r t l) = (AttnMath.lse (blk Q r (laneHead l)) (blk K r (laneHead l)) (rowBlk t) (rowAt t) : EReal)

variable (R : Reads m c (Q := Q) (K := K) (W := W) (G := G) (X := X) (Y := Y) (D := D)) (t : Fin cfg0.N) (b p : Fin 4)

theorem rowBlk_rw (a : Fin 128) : rowBlk (rw_ t b a) = bk t b := Fin.ext (show (512 * (3 - t.val % 4) + 128 * b.val + a.val) / 128 = 4 * (3 - t.val % 4) + b.val by omega)
theorem rowAt_rw (a : Fin 128) : rowAt (rw_ t b a) = a := Fin.ext (show (512 * (3 - t.val % 4) + 128 * b.val + a.val) % 128 = a.val by omega)

include R in
theorem q_at (a l : Fin 128) : lq m c t b p (ix3 0 a l) = (blk Q (cls t) (hd p (lh l)) (bk t b) a (le l) : EReal) := by
  rw [lq_at, R.q, colHead_cl, colFeat_cl, rowBlk_rw, rowAt_rw]

include R in
theorem g_at (a l : Fin 128) : lg m c t b p (ix3 0 a l) = (blk G (cls t) (hd p (lh l)) (bk t b) a (le l) : EReal) := by
  rw [lg_at, R.g, colHead_cl, colFeat_cl, rowBlk_rw, rowAt_rw]

include R in
theorem lpk_real (a l : Fin 128) : lpk m c t b p (ix3 0 a l) = (blk X (cls t) (hd p (lh l)) (bk t b) a (le l) : EReal) := by
  rw [lpk_at, R.pk, colHead_cl, colFeat_cl, rowBlk_rw, rowAt_rw]

include R in
theorem lpv_real (a l : Fin 128) : lpv m c t b p (ix3 0 a l) = (blk Y (cls t) (hd p (lh l)) (bk t b) a (le l) : EReal) := by
  rw [lpv_at, R.pv, colHead_cl, colFeat_cl, rowBlk_rw, rowAt_rw]

include R in
theorem l_at (h : Fin 8) (a : Fin 128) : ll m c t b h (ix3 0 a 0) = (AttnMath.lse (blk Q (cls t) h) (blk K (cls t) h) (bk t b) a : EReal) := by
  rw [ll_at, R.l, laneHead_ln, rowBlk_rw, rowAt_rw]

include R in
theorem d_at (h : Fin 8) (a : Fin 128) : ld m c t b h (ix3 0 a 0) = (AttnMath.delta (blk Q (cls t) h) (blk K (cls t) h) (blk W (cls t) h) (blk G (cls t) h) (blk1 D (cls t) h) (bk t b) a : EReal) := by
  rw [ld_at, R.d, laneHead_ln, rowBlk_rw, rowAt_rw]

/-- The rows that block `b` reads, from the block before and a point's four blocks. -/
theorem rows2_at {f : Fin 16 → Fin 128 → Fin 128 → ℝ} (kp : Vec Ideal S1x128x128 .bf16) (kc : Vec Ideal S1x512x128 .bf16)
    (hp : ∀ a l, kp (ix3 0 a l) = (f (rowBlk (rwP t a)) (rowAt (rwP t a)) l : EReal)) (hc : ∀ a l, kc (ix3 0 a l) = (f (rowBlk (rwC t a)) (rowAt (rwC t a)) l : EReal)) (κ : Fin 256) (l : Fin 128) :
    rows2 kp kc b (ix2 κ l) = (near f (bk t b) κ l : EReal) := by
  unfold rows2 Cert.AttnIdeal.Gen.k0_pay11
  pointwise []
  unfold near
  by_cases h : 128 * b.val + κ.val < 128
  · rw [dif_pos h, hp, dif_pos (by omega : κ.val < 128)]
    congr 2
    congr 1
    · exact Fin.ext (show (128 * (4 * (3 - t.val % 4) - 1) + (128 * b.val + κ.val)) / 128 = 4 * (3 - t.val % 4) + b.val - 1 by omega)
    · exact Fin.ext (show (128 * (4 * (3 - t.val % 4) - 1) + (128 * b.val + κ.val)) % 128 = κ.val by omega)
  · rw [dif_neg h, hc]
    by_cases h' : κ.val < 128
    · rw [dif_pos h']
      congr 2
      congr 1
      · exact Fin.ext (show (512 * (3 - t.val % 4) + (128 * b.val + κ.val - 128)) / 128 = 4 * (3 - t.val % 4) + b.val - 1 by omega)
      · exact Fin.ext (show (512 * (3 - t.val % 4) + (128 * b.val + κ.val - 128)) % 128 = κ.val by omega)
    · rw [dif_neg h']
      congr 2
      congr 1
      · exact Fin.ext (show (512 * (3 - t.val % 4) + (128 * b.val + κ.val - 128)) / 128 = 4 * (3 - t.val % 4) + b.val by omega)
      · exact Fin.ext (show (512 * (3 - t.val % 4) + (128 * b.val + κ.val - 128)) % 128 = κ.val - 128 by omega)

include R in
theorem keys_at (κ : Fin 256) (l : Fin 128) : keys m c t b p (ix2 κ l) = (near (pair K (cls t) p) (bk t b) κ l : EReal) :=
  rows2_at t b _ _ (fun a l => by rw [lkp_at, R.k, colHead_cl, colFeat_cl]; rfl) (fun a l => by rw [lkc_at, R.k, colHead_cl, colFeat_cl]; rfl) κ l

include R in
theorem vals_at (κ : Fin 256) (l : Fin 128) : vals m c t b p (ix2 κ l) = (near (pair W (cls t) p) (bk t b) κ l : EReal) :=
  rows2_at t b _ _ (fun a l => by rw [lvp_at, R.v, colHead_cl, colFeat_cl]; rfl) (fun a l => by rw [lvc_at, R.v, colHead_cl, colFeat_cl]; rfl) κ l

/-- The mask of a point's block. -/
theorem mk_at (a : Fin 128) (κ : Fin 256) : mk t b (ix2 a κ) = if AttnMath.ok (bk t b) a κ then 1#1 else 0#1 := by
  have e := coord1 t
  unfold mk
  match b with
  | ⟨0, _⟩ => exact first_eq (grid0.coords t) _ (show 4 * (3 - t.val % 4) + 0 = 4 * (3 - (grid0.coords t 1).val) by rw [e, Nat.add_zero]) (by rw [e]; omega) a κ
  | ⟨n + 1, _⟩ => exact band_eq _ (show ¬ 4 * (3 - t.val % 4) + (n + 1) = 0 by omega) a κ

variable (s : Fin 2) (e : Fin 64)

include R in
theorem dq_at (a : Fin 128) : dqP m c t b p (ix3 0 a (lane s e)) = (gq Q K W G D (cls t) (hd p s) (bk t b) a e : EReal) :=
  dqB_real (K := fun κ l => near (pair K (cls t) p) (bk t b) κ l) (V := fun κ l => near (pair W (cls t) p) (bk t b) κ l)
    (Q := fun a l => pair Q (cls t) p (bk t b) a l) (G := fun a l => pair G (cls t) p (bk t b) a l)
    (L := fun s a => AttnMath.lse (blk Q (cls t) (hd p s)) (blk K (cls t) (hd p s)) (bk t b) a)
    (D := fun s a => AttnMath.delta (blk Q (cls t) (hd p s)) (blk K (cls t) (hd p s)) (blk W (cls t) (hd p s)) (blk G (cls t) (hd p s)) (blk1 D (cls t) (hd p s)) (bk t b) a)
    (q := fun s => blk Q (cls t) (hd p s)) (k := fun s => blk K (cls t) (hd p s)) (v := fun s => blk W (cls t) (hd p s)) (g := fun s => blk G (cls t) (hd p s)) (dl := fun s => blk1 D (cls t) (hd p s))
    (fun s κ e h => (near_pair ..).trans (near_two _ _ _ _ h)) (fun s κ e h => (near_pair ..).trans (near_two _ _ _ _ h))
    (fun s a e => by unfold pair; rw [lh_lane, le_lane]) (fun s a e => by unfold pair; rw [lh_lane, le_lane]) (fun _ _ => rfl) (fun _ _ => rfl)
    (mk_at t b) (keys_at m c R t b p) (vals_at m c R t b p) (q_at m c R t b p) (g_at m c R t b p) (l_at m c R t b _) (d_at m c R t b _) (l_at m c R t b _) (d_at m c R t b _) s a e

include R in
theorem dk_at (κ : Fin 256) : dkP m c t b p (ix2 κ (lane s e)) = (gk Q K W G D (cls t) (hd p s) (bk t b) κ e : EReal) :=
  dkB_real (K := fun κ l => near (pair K (cls t) p) (bk t b) κ l) (V := fun κ l => near (pair W (cls t) p) (bk t b) κ l)
    (Q := fun a l => pair Q (cls t) p (bk t b) a l) (G := fun a l => pair G (cls t) p (bk t b) a l)
    (L := fun s a => AttnMath.lse (blk Q (cls t) (hd p s)) (blk K (cls t) (hd p s)) (bk t b) a)
    (D := fun s a => AttnMath.delta (blk Q (cls t) (hd p s)) (blk K (cls t) (hd p s)) (blk W (cls t) (hd p s)) (blk G (cls t) (hd p s)) (blk1 D (cls t) (hd p s)) (bk t b) a)
    (q := fun s => blk Q (cls t) (hd p s)) (k := fun s => blk K (cls t) (hd p s)) (v := fun s => blk W (cls t) (hd p s)) (g := fun s => blk G (cls t) (hd p s)) (dl := fun s => blk1 D (cls t) (hd p s))
    (fun s κ e h => (near_pair ..).trans (near_two _ _ _ _ h)) (fun s κ e h => (near_pair ..).trans (near_two _ _ _ _ h))
    (fun s a e => by unfold pair; rw [lh_lane, le_lane]) (fun s a e => by unfold pair; rw [lh_lane, le_lane]) (fun _ _ => rfl) (fun _ _ => rfl)
    (mk_at t b) (keys_at m c R t b p) (vals_at m c R t b p) (q_at m c R t b p) (g_at m c R t b p) (l_at m c R t b _) (d_at m c R t b _) (l_at m c R t b _) (d_at m c R t b _) s κ e

include R in
theorem dv_at (κ : Fin 256) : dvP m c t b p (ix2 κ (lane s e)) = (gv Q K G (cls t) (hd p s) (bk t b) κ e : EReal) :=
  dvB_real (K := fun κ l => near (pair K (cls t) p) (bk t b) κ l) (V := fun κ l => near (pair W (cls t) p) (bk t b) κ l)
    (Q := fun a l => pair Q (cls t) p (bk t b) a l) (G := fun a l => pair G (cls t) p (bk t b) a l)
    (L := fun s a => AttnMath.lse (blk Q (cls t) (hd p s)) (blk K (cls t) (hd p s)) (bk t b) a)
    (D := fun s a => AttnMath.delta (blk Q (cls t) (hd p s)) (blk K (cls t) (hd p s)) (blk W (cls t) (hd p s)) (blk G (cls t) (hd p s)) (blk1 D (cls t) (hd p s)) (bk t b) a)
    (q := fun s => blk Q (cls t) (hd p s)) (k := fun s => blk K (cls t) (hd p s)) (v := fun s => blk W (cls t) (hd p s)) (g := fun s => blk G (cls t) (hd p s)) (dl := fun s => blk1 D (cls t) (hd p s))
    (fun s κ e h => (near_pair ..).trans (near_two _ _ _ _ h)) (fun s κ e h => (near_pair ..).trans (near_two _ _ _ _ h))
    (fun s a e => by unfold pair; rw [lh_lane, le_lane]) (fun s a e => by unfold pair; rw [lh_lane, le_lane]) (fun _ _ => rfl) (fun _ _ => rfl)
    (mk_at t b) (keys_at m c R t b p) (vals_at m c R t b p) (q_at m c R t b p) (g_at m c R t b p) (l_at m c R t b _) (d_at m c R t b _) (l_at m c R t b _) (d_at m c R t b _) s κ e

/-! ## The results -/

/-- What a block gives, joined with what the block after it gives. -/
theorem whole_at (own : Fin 4 → Fin 4 → FVec Ideal S256x128 .f32) (pr : Fin 4 → Fin 4 → Vec Ideal S1x128x128 .bf16) (cr : Fin 4 → FVec Ideal S128x128 .f32) (T : Fin 16 → Fin 256 → Fin 64 → ℝ)
    (ho : ∀ b κ, own b p (ix2 κ (lane s e)) = (T (bk t b) κ e : EReal))
    (hc : ∀ a, cr p (ix2 a (lane s e)) = ((if h : (bk t 3).val + 1 < 16 then T ⟨(bk t 3).val + 1, h⟩ ⟨a.val, by omega⟩ e else 0 : ℝ) : EReal)) (a : Fin 128)
    {z : ℝ} (hz : pr b p (ix3 0 a (lane s e)) = (z : EReal)) : whole own pr cr b p (ix3 0 a (lane s e)) = ((AttnMath.join T (bk t b) a e + z : ℝ) : EReal) := by
  have hn : next own cr b p (ix2 a (lane s e)) = ((if h : (bk t b).val + 1 < 16 then T ⟨(bk t b).val + 1, h⟩ ⟨a.val, by omega⟩ e else 0 : ℝ) : EReal) := by
    have h1 : ∀ b b' : Fin 4, b'.val = b.val + 1 → early (own b' p) (ix2 a (lane s e)) = ((if h : (bk t b).val + 1 < 16 then T ⟨(bk t b).val + 1, h⟩ ⟨a.val, by omega⟩ e else 0 : ℝ) : EReal) := by
      intro b b' hb
      have hh : (bk t b).val + 1 < 16 := by show 4 * (3 - t.val % 4) + b.val + 1 < 16; omega
      rw [dif_pos hh]
      have h2 := ho b' ⟨a.val, by omega⟩
      have h3 : bk t b' = ⟨(bk t b).val + 1, hh⟩ := Fin.ext (show 4 * (3 - t.val % 4) + b'.val = 4 * (3 - t.val % 4) + b.val + 1 by omega)
      rw [← h3, ← h2]
      unfold early
      generalize own b' p = x
      pointwise []
    match b with
    | ⟨0, _⟩ => exact h1 0 1 rfl
    | ⟨1, _⟩ => exact h1 1 2 rfl
    | ⟨2, _⟩ => exact h1 2 3 rfl
    | ⟨3, _⟩ => exact hc a
  have hb := ho b
  unfold whole ownPlus k0_pay1
  generalize next own cr b p = y at *
  generalize pr b p = u at *
  generalize own b p = x at *
  pointwise []
  refine (congrArg₂ (fun u w : EReal => u + w) (congrArg₂ (fun u w : EReal => u + w) (hb _) hn) hz).trans ?_
  rw [← EReal.coe_add, ← EReal.coe_add]
  rfl

include R in
theorem dqs_at (a : Fin 128) : (outsAt0 m c t.val t.isLt).1 ((rB b p).emb (ix3 0 a (lane s e))) = (gq Q K W G D (cls t) (hd p s) (bk t b) a e : EReal) := by
  have hq : (outsAt0 m c t.val t.isLt).1 = byBlocks (dqP m c t) := by
    by_cases h0 : t.val % 4 = 0
    · exact dq_A m c t h0
    · exact dq_B m c t h0
  rw [hq, byBlocks_emb, dq_at m c R t b p s e a]

include R in
/-- What the point before leaves: its first block's earlier half. -/
theorem dk_carry (h0 : ¬t.val % 4 = 0) (a : Fin 128) : crK (F := Ideal) (outsAt0 m c (t.val - 1) (Nat.lt_of_le_of_lt (Nat.sub_le _ _) t.isLt)).2.2.2.1 p (ix2 a (lane s e))
    = ((if h : (bk t 3).val + 1 < 16 then gk Q K W G D (cls t) (hd p s) ⟨(bk t 3).val + 1, h⟩ ⟨a.val, by omega⟩ e else 0 : ℝ) : EReal) := by
  have hN : cfg0.N = 16 := rfl
  have ht := t.isLt
  let t' : Fin cfg0.N := ⟨t.val - 1, by omega⟩
  have hk : (outsAt0 m c t'.val t'.isLt).2.2.2.1 = byPairs fun p => kept (dkP m c t' 0 p) := by
    by_cases h : t'.val % 4 = 0
    · exact dk_carryA m c t' h
    · exact dk_carryB m c t' h
  have hh : (bk t 3).val + 1 < 16 := by show 4 * (3 - t.val % 4) + 3 + 1 < 16; omega
  have hc : cls t' = cls t := Fin.ext (show (t.val - 1) / 4 = t.val / 4 by omega)
  have hb : bk t' 0 = ⟨(bk t 3).val + 1, hh⟩ := Fin.ext (show 4 * (3 - (t.val - 1) % 4) + 0 = 4 * (3 - t.val % 4) + 3 + 1 by omega)
  rw [dif_pos hh]
  show (outsAt0 m c t'.val t'.isLt).2.2.2.1 ((rS p).emb (ix2 a (lane s e))) = _
  rw [hk, byPairs_emb, kept_at, dk_at m c R t' 0 p s e, hc, hb]

include R in
theorem dks_at (a : Fin 128) : (outsAt0 m c t.val t.isLt).2.1 ((rB b p).emb (ix3 0 a (lane s e)))
    = ((AttnMath.join (gk Q K W G D (cls t) (hd p s)) (bk t b) a e + blk X (cls t) (hd p s) (bk t b) a e : ℝ) : EReal) := by
  have hz : lpk m c t b p (ix3 0 a (lane s e)) = (blk X (cls t) (hd p s) (bk t b) a e : EReal) := by rw [lpk_real m c R t b p, lh_lane, le_lane]
  by_cases h0 : t.val % 4 = 0
  · rw [dk_A m c t h0, byBlocks_emb]
    refine whole_at t b p s e _ _ _ (gk Q K W G D (cls t) (hd p s)) (fun b κ => dk_at m c R t b p s e κ) (fun a => ?_) a hz
    rw [dif_neg (show ¬ (bk t 3).val + 1 < 16 by show ¬ 4 * (3 - t.val % 4) + 3 + 1 < 16; omega)]
    exact zero_at _ _
  · rw [dk_B m c t h0 _ rfl, byBlocks_emb]
    exact whole_at t b p s e _ _ _ (gk Q K W G D (cls t) (hd p s)) (fun b κ => dk_at m c R t b p s e κ) (dk_carry m c R t p s e h0) a hz

include R in
/-- What the point before leaves: its first block's earlier half. -/
theorem dv_carry (h0 : ¬t.val % 4 = 0) (a : Fin 128) : crK (F := Ideal) (outsAt0 m c (t.val - 1) (Nat.lt_of_le_of_lt (Nat.sub_le _ _) t.isLt)).2.2.2.2 p (ix2 a (lane s e))
    = ((if h : (bk t 3).val + 1 < 16 then gv Q K G (cls t) (hd p s) ⟨(bk t 3).val + 1, h⟩ ⟨a.val, by omega⟩ e else 0 : ℝ) : EReal) := by
  have hN : cfg0.N = 16 := rfl
  have ht := t.isLt
  let t' : Fin cfg0.N := ⟨t.val - 1, by omega⟩
  have hk : (outsAt0 m c t'.val t'.isLt).2.2.2.2 = byPairs fun p => kept (dvP m c t' 0 p) := by
    by_cases h : t'.val % 4 = 0
    · exact dv_carryA m c t' h
    · exact dv_carryB m c t' h
  have hh : (bk t 3).val + 1 < 16 := by show 4 * (3 - t.val % 4) + 3 + 1 < 16; omega
  have hc : cls t' = cls t := Fin.ext (show (t.val - 1) / 4 = t.val / 4 by omega)
  have hb : bk t' 0 = ⟨(bk t 3).val + 1, hh⟩ := Fin.ext (show 4 * (3 - (t.val - 1) % 4) + 0 = 4 * (3 - t.val % 4) + 3 + 1 by omega)
  rw [dif_pos hh]
  show (outsAt0 m c t'.val t'.isLt).2.2.2.2 ((rS p).emb (ix2 a (lane s e))) = _
  rw [hk, byPairs_emb, kept_at, dv_at m c R t' 0 p s e, hc, hb]

include R in
theorem dvs_at (a : Fin 128) : (outsAt0 m c t.val t.isLt).2.2.1 ((rB b p).emb (ix3 0 a (lane s e)))
    = ((AttnMath.join (gv Q K G (cls t) (hd p s)) (bk t b) a e + blk Y (cls t) (hd p s) (bk t b) a e : ℝ) : EReal) := by
  have hz : lpv m c t b p (ix3 0 a (lane s e)) = (blk Y (cls t) (hd p s) (bk t b) a e : EReal) := by rw [lpv_real m c R t b p, lh_lane, le_lane]
  by_cases h0 : t.val % 4 = 0
  · rw [dv_A m c t h0, byBlocks_emb]
    refine whole_at t b p s e _ _ _ (gv Q K G (cls t) (hd p s)) (fun b κ => dv_at m c R t b p s e κ) (fun a => ?_) a hz
    rw [dif_neg (show ¬ (bk t 3).val + 1 < 16 by show ¬ 4 * (3 - t.val % 4) + 3 + 1 < 16; omega)]
    exact zero_at _ _
  · rw [dv_B m c t h0 _ rfl, byBlocks_emb]
    exact whole_at t b p s e _ _ _ (gv Q K G (cls t) (hd p s)) (fun b κ => dv_at m c R t b p s e κ) (dv_carry m c R t p s e h0) a hz

/-- Every place of a result lies in one block of one pair of heads of one point. -/
theorem places (r : Fin 4) (x : Fin 2048) (j : Fin 512) : ∃ (t : Fin cfg0.N) (b p : Fin 4) (s : Fin 2) (e : Fin 64) (a : Fin 128), r = cls t ∧ x = rw_ t b a ∧ j = cl p (lane s e) := by
  have hN : cfg0.N = 16 := rfl
  refine ⟨⟨4 * r.val + (3 - x.val / 512), by omega⟩, ⟨x.val % 512 / 128, by omega⟩, ⟨j.val / 128, by omega⟩, ⟨j.val % 128 / 64, by omega⟩, ⟨j.val % 64, by omega⟩, ⟨x.val % 128, by omega⟩, Fin.ext ?_, Fin.ext ?_, Fin.ext ?_⟩
  · show r.val = (4 * r.val + (3 - x.val / 512)) / 4; omega
  · show x.val = 512 * (3 - (4 * r.val + (3 - x.val / 512)) % 4) + 128 * (x.val % 512 / 128) + x.val % 128; omega
  · show j.val = 128 * (j.val / 128) + (64 * (j.val % 128 / 64) + j.val % 64); omega

theorem place10 (a : Fin 128) : (win0_10.rect t).emb ((rB b p).emb (ix3 0 a (lane s e))) = ix3 (cls t) (rw_ t b a) (cl p (lane s e)) := by
  funext k
  refine Fin.ext ((win0_10.rect_emb_val t _ k).trans ?_)
  match k with
  | ⟨0, _⟩ => show win0_10.index t 0 * 1 + 0 = t.val / 4; rw [(index10 t).1]; omega
  | ⟨1, _⟩ => show win0_10.index t 1 * 512 + (128 * b.val + 1 * a.val) = 512 * (3 - t.val % 4) + 128 * b.val + a.val; rw [(index10 t).2.1]; omega
  | ⟨2, _⟩ => show win0_10.index t 2 * 512 + (128 * p.val + 1 * (64 * s.val + e.val)) = 128 * p.val + (64 * s.val + e.val); rw [(index10 t).2.2]; omega

include R in
theorem final10 (r : Fin 4) (x : Fin 2048) (j : Fin 512) : (dats m 0 c).arrAt 10 cfg0.N (ix3 r x j) = (gq Q K W G D r (colHead j) (rowBlk x) (rowAt x) (colFeat j) : EReal) := by
  obtain ⟨t, b, p, s, e, a, rfl, rfl, rfl⟩ := places r x j
  have h := congrFun (Value.blocks10 m c t (flush0_10 t)) ((rB b p).emb (ix3 0 a (lane s e)))
  rw [Value.flushed10] at h
  rw [colHead_cl, colFeat_cl, rowBlk_rw, rowAt_rw, lh_lane, le_lane]
  refine Eq.trans ?_ (h.trans (dqs_at m c R t b p s e a))
  exact congrArg ((dats m 0 c).arrAt 10 cfg0.N) (place10 t b p s e a).symm

theorem place11 (a : Fin 128) : (win0_11.rect t).emb ((rB b p).emb (ix3 0 a (lane s e))) = ix3 (cls t) (rw_ t b a) (cl p (lane s e)) := by
  funext k
  refine Fin.ext ((win0_11.rect_emb_val t _ k).trans ?_)
  match k with
  | ⟨0, _⟩ => show win0_11.index t 0 * 1 + 0 = t.val / 4; rw [(index11 t).1]; omega
  | ⟨1, _⟩ => show win0_11.index t 1 * 512 + (128 * b.val + 1 * a.val) = 512 * (3 - t.val % 4) + 128 * b.val + a.val; rw [(index11 t).2.1]; omega
  | ⟨2, _⟩ => show win0_11.index t 2 * 512 + (128 * p.val + 1 * (64 * s.val + e.val)) = 128 * p.val + (64 * s.val + e.val); rw [(index11 t).2.2]; omega

include R in
theorem final11 (r : Fin 4) (x : Fin 2048) (j : Fin 512) : (dats m 0 c).arrAt 11 cfg0.N (ix3 r x j) = ((AttnMath.join (gk Q K W G D r (colHead j)) (rowBlk x) (rowAt x) (colFeat j) + blk X r (colHead j) (rowBlk x) (rowAt x) (colFeat j) : ℝ) : EReal) := by
  obtain ⟨t, b, p, s, e, a, rfl, rfl, rfl⟩ := places r x j
  have h := congrFun (Value.blocks11 m c t (flush0_11 t)) ((rB b p).emb (ix3 0 a (lane s e)))
  rw [Value.flushed11] at h
  rw [colHead_cl, colFeat_cl, rowBlk_rw, rowAt_rw, lh_lane, le_lane]
  refine Eq.trans ?_ (h.trans (dks_at m c R t b p s e a))
  exact congrArg ((dats m 0 c).arrAt 11 cfg0.N) (place11 t b p s e a).symm

theorem place12 (a : Fin 128) : (win0_12.rect t).emb ((rB b p).emb (ix3 0 a (lane s e))) = ix3 (cls t) (rw_ t b a) (cl p (lane s e)) := by
  funext k
  refine Fin.ext ((win0_12.rect_emb_val t _ k).trans ?_)
  match k with
  | ⟨0, _⟩ => show win0_12.index t 0 * 1 + 0 = t.val / 4; rw [(index12 t).1]; omega
  | ⟨1, _⟩ => show win0_12.index t 1 * 512 + (128 * b.val + 1 * a.val) = 512 * (3 - t.val % 4) + 128 * b.val + a.val; rw [(index12 t).2.1]; omega
  | ⟨2, _⟩ => show win0_12.index t 2 * 512 + (128 * p.val + 1 * (64 * s.val + e.val)) = 128 * p.val + (64 * s.val + e.val); rw [(index12 t).2.2]; omega

include R in
theorem final12 (r : Fin 4) (x : Fin 2048) (j : Fin 512) : (dats m 0 c).arrAt 12 cfg0.N (ix3 r x j) = ((AttnMath.join (gv Q K G r (colHead j)) (rowBlk x) (rowAt x) (colFeat j) + blk Y r (colHead j) (rowBlk x) (rowAt x) (colFeat j) : ℝ) : EReal) := by
  obtain ⟨t, b, p, s, e, a, rfl, rfl, rfl⟩ := places r x j
  have h := congrFun (Value.blocks12 m c t (flush0_12 t)) ((rB b p).emb (ix3 0 a (lane s e)))
  rw [Value.flushed12] at h
  rw [colHead_cl, colFeat_cl, rowBlk_rw, rowAt_rw, lh_lane, le_lane]
  refine Eq.trans ?_ (h.trans (dvs_at m c R t b p s e a))
  exact congrArg ((dats m 0 c).arrAt 12 cfg0.N) (place12 t b p s e a).symm

end Points

end Cert.AttpIdeal.Val
-- ==== Proof.AttpRef.lean ====
module

public import proofs.«01_k».proof.Proof.AttnRef
public import proofs.«01_k».proof.Proof.Gen.AttpRefIdeal.Run

@[expose] public section

set_option maxRecDepth 16384

noncomputable section

namespace Cert.AttpRefIdeal.Rd

open Cert.AttpRefIdeal Cert.AttpRefIdeal.Gen Cert.AttpRefIdeal.Value Idealize.ShloMosaic Idealize.ShloMosaic.StableHlo Idealize.ShloMosaic.TcCoe Idealize.SL.Sem
open Cert.AttnRefIdeal.Rd (Holds Holds1 blk blk1 rowBlk rowAt colHead colFeat)

/-! ## The derivative without the earlier layer's part is the other reference's -/

/-- Arrays of a shape and element type. -/
abbrev Arr (S : Shape) (e : EltTy) : Type := (⟨S, e⟩ : BufTy).Contents (Elt Ideal)

variable (V1 : Valuation τ sig (Elt Ideal)) (V0 : Valuation Cert.AttnRefIdeal.τ Cert.AttnRefIdeal.sig (Elt Ideal))
variable (e0 : @Eq (Arr S1x8192x8x64 .f32) (V0 (Proc.devRef .tc Cert.AttnRefIdeal.main_arg0)) (V1 (Proc.devRef .tc main_arg0)))
variable (e1 : @Eq (Arr S1x8192x8x64 .f32) (V0 (Proc.devRef .tc Cert.AttnRefIdeal.main_arg1)) (V1 (Proc.devRef .tc main_arg1)))
variable (e2 : @Eq (Arr S1x8192x8x64 .f32) (V0 (Proc.devRef .tc Cert.AttnRefIdeal.main_arg2)) (V1 (Proc.devRef .tc main_arg2)))
variable (e3 : @Eq (Arr S1x8192x8x64 .f32) (V0 (Proc.devRef .tc Cert.AttnRefIdeal.main_arg3)) (V1 (Proc.devRef .tc main_arg3)))
variable (e4 : @Eq (Arr S1x8192x8 .f32) (V0 (Proc.devRef .tc Cert.AttnRefIdeal.main_arg4)) (V1 (Proc.devRef .tc main_arg4)))

/-- The other reference's arguments with these values. -/
theorem other : ∃ V0 : Valuation Cert.AttnRefIdeal.τ Cert.AttnRefIdeal.sig (Elt Ideal),
    @Eq (Arr S1x8192x8x64 .f32) (V0 (Proc.devRef .tc Cert.AttnRefIdeal.main_arg0)) (V1 (Proc.devRef .tc main_arg0)) ∧ @Eq (Arr S1x8192x8x64 .f32) (V0 (Proc.devRef .tc Cert.AttnRefIdeal.main_arg1)) (V1 (Proc.devRef .tc main_arg1)) ∧ @Eq (Arr S1x8192x8x64 .f32) (V0 (Proc.devRef .tc Cert.AttnRefIdeal.main_arg2)) (V1 (Proc.devRef .tc main_arg2)) ∧ @Eq (Arr S1x8192x8x64 .f32) (V0 (Proc.devRef .tc Cert.AttnRefIdeal.main_arg3)) (V1 (Proc.devRef .tc main_arg3)) ∧ @Eq (Arr S1x8192x8 .f32) (V0 (Proc.devRef .tc Cert.AttnRefIdeal.main_arg4)) (V1 (Proc.devRef .tc main_arg4)) := by
  let z : Valuation Cert.AttnRefIdeal.τ Cert.AttnRefIdeal.sig (Elt Ideal) := fun _ => Classical.choice inferInstance
  refine ⟨(Function.update (Function.update (Function.update (Function.update (Function.update z (Proc.devRef .tc Cert.AttnRefIdeal.main_arg0) (V1 (Proc.devRef .tc main_arg0) : Arr S1x8192x8x64 .f32)) (Proc.devRef .tc Cert.AttnRefIdeal.main_arg1) (V1 (Proc.devRef .tc main_arg1) : Arr S1x8192x8x64 .f32)) (Proc.devRef .tc Cert.AttnRefIdeal.main_arg2) (V1 (Proc.devRef .tc main_arg2) : Arr S1x8192x8x64 .f32)) (Proc.devRef .tc Cert.AttnRefIdeal.main_arg3) (V1 (Proc.devRef .tc main_arg3) : Arr S1x8192x8x64 .f32)) (Proc.devRef .tc Cert.AttnRefIdeal.main_arg4) (V1 (Proc.devRef .tc main_arg4) : Arr S1x8192x8 .f32)), ?_, ?_, ?_, ?_, ?_⟩
  · rw [Function.update_of_ne (by decide), Function.update_of_ne (by decide), Function.update_of_ne (by decide), Function.update_of_ne (by decide), Function.update_self]
  · rw [Function.update_of_ne (by decide), Function.update_of_ne (by decide), Function.update_of_ne (by decide), Function.update_self]
  · rw [Function.update_of_ne (by decide), Function.update_of_ne (by decide), Function.update_self]
  · rw [Function.update_of_ne (by decide), Function.update_self]
  · rw [Function.update_self]

theorem s0 : @Eq (Arr S1x4x8x1x128x64 .f32) (res_main_v0 V1) (Cert.AttnRefIdeal.Value.res_main_v0 V0) := by
  unfold res_main_v0 Cert.AttnRefIdeal.Value.res_main_v0
  rfl

include e0 in
theorem s3 : @Eq (Arr S1x4x8x16x128x64 .f32) (res_main_v3 V1) (Cert.AttnRefIdeal.Value.res_main_v3 V0) := by
  unfold res_main_v3 Cert.AttnRefIdeal.Value.res_main_v3
  rw [e0]
  all_goals rfl

include e1 in
theorem s6 : @Eq (Arr S1x4x8x16x128x64 .f32) (res_main_v6 V1) (Cert.AttnRefIdeal.Value.res_main_v6 V0) := by
  unfold res_main_v6 Cert.AttnRefIdeal.Value.res_main_v6
  rw [e1]
  all_goals rfl

include e1 in
theorem s10 : @Eq (Arr S1x4x8x16x256x64 .f32) (res_main_v10 V1) (Cert.AttnRefIdeal.Value.res_main_v10 V0) := by
  unfold res_main_v10 Cert.AttnRefIdeal.Value.res_main_v10
  rw [s0 V1 V0, s6 V1 V0 e1]
  all_goals rfl

include e2 in
theorem s13 : @Eq (Arr S1x4x8x16x128x64 .f32) (res_main_v13 V1) (Cert.AttnRefIdeal.Value.res_main_v13 V0) := by
  unfold res_main_v13 Cert.AttnRefIdeal.Value.res_main_v13
  rw [e2]
  all_goals rfl

include e2 in
theorem s17 : @Eq (Arr S1x4x8x16x256x64 .f32) (res_main_v17 V1) (Cert.AttnRefIdeal.Value.res_main_v17 V0) := by
  unfold res_main_v17 Cert.AttnRefIdeal.Value.res_main_v17
  rw [s0 V1 V0, s13 V1 V0 e2]
  all_goals rfl

theorem s23 : @Eq (Arr S16x128x256 .i32) (res_main_v23 V1) (Cert.AttnRefIdeal.Value.res_main_v23 V0) := by
  unfold res_main_v23 Cert.AttnRefIdeal.Value.res_main_v23
  rfl

theorem s26 : @Eq (Arr S16x128x256 .i32) (res_main_v26 V1) (Cert.AttnRefIdeal.Value.res_main_v26 V0) := by
  unfold res_main_v26 Cert.AttnRefIdeal.Value.res_main_v26
  rw [s23 V1 V0]
  all_goals rfl

theorem s40 : @Eq (Arr S1x4x8x16x128x256 .i1) (res_main_v40 V1) (Cert.AttnRefIdeal.Value.res_main_v40 V0) := by
  unfold res_main_v40 Cert.AttnRefIdeal.Value.res_main_v40
  rw [s23 V1 V0, s26 V1 V0]
  all_goals rfl

include e0 e1 in
theorem s42 : @Eq (Arr S1x4x8x16x128x256 .f32) (res_main_v42 V1) (Cert.AttnRefIdeal.Value.res_main_v42 V0) := by
  unfold res_main_v42 Cert.AttnRefIdeal.Value.res_main_v42
  rw [s3 V1 V0 e0, s10 V1 V0 e1, s40 V1 V0]
  all_goals rfl

include e0 e1 in
theorem s44 : @Eq (Arr S1x4x8x16x128 .f32) (res_main_v44 V1) (Cert.AttnRefIdeal.Value.res_main_v44 V0) := by
  unfold res_main_v44 Cert.AttnRefIdeal.Value.res_main_v44
  rw [s42 V1 V0 e0 e1]
  all_goals rfl

include e0 e1 in
theorem s48 : @Eq (Arr S1x4x8x16x128x256 .f32) (res_main_v48 V1) (Cert.AttnRefIdeal.Value.res_main_v48 V0) := by
  unfold res_main_v48 Cert.AttnRefIdeal.Value.res_main_v48
  rw [s42 V1 V0 e0 e1, s44 V1 V0 e0 e1]
  all_goals rfl

include e0 e1 in
theorem s50 : @Eq (Arr S1x4x8x16x128x1 .f32) (res_main_v50 V1) (Cert.AttnRefIdeal.Value.res_main_v50 V0) := by
  unfold res_main_v50 Cert.AttnRefIdeal.Value.res_main_v50
  rw [s44 V1 V0 e0 e1]
  all_goals rfl

include e0 e1 in
theorem s53 : @Eq (Arr S1x4x8x16x128x256 .f32) (res_main_v53 V1) (Cert.AttnRefIdeal.Value.res_main_v53 V0) := by
  unfold res_main_v53 Cert.AttnRefIdeal.Value.res_main_v53
  rw [s42 V1 V0 e0 e1, s50 V1 V0 e0 e1]
  all_goals rfl

include e0 e1 in
theorem s55 : @Eq (Arr S1x4x8x16x128x1 .f32) (res_main_v55 V1) (Cert.AttnRefIdeal.Value.res_main_v55 V0) := by
  unfold res_main_v55 Cert.AttnRefIdeal.Value.res_main_v55
  rw [s53 V1 V0 e0 e1]
  all_goals rfl

include e0 e1 in
theorem s57 : @Eq (Arr S1x4x8x16x128x256 .f32) (res_main_v57 V1) (Cert.AttnRefIdeal.Value.res_main_v57 V0) := by
  unfold res_main_v57 Cert.AttnRefIdeal.Value.res_main_v57
  rw [s53 V1 V0 e0 e1, s55 V1 V0 e0 e1]
  all_goals rfl

include e3 in
theorem s76 : @Eq (Arr S1x4x8x16x128x64 .f32) (res_main_v76 V1) (Cert.AttnRefIdeal.Value.res_main_v76 V0) := by
  unfold res_main_v76 Cert.AttnRefIdeal.Value.res_main_v76
  rw [e3]
  all_goals rfl

include e4 in
theorem s77 : @Eq (Arr S1x4x8x16x128x1 .f32) (res_main_v77 V1) (Cert.AttnRefIdeal.Value.res_main_v77 V0) := by
  unfold res_main_v77 Cert.AttnRefIdeal.Value.res_main_v77
  rw [e4]
  all_goals rfl

include e0 e1 e3 in
theorem s80 : @Eq (Arr S1x4x8x16x256x64 .f32) (res_main_v80 V1) (Cert.AttnRefIdeal.Value.res_main_v80 V0) := by
  unfold res_main_v80 Cert.AttnRefIdeal.Value.res_main_v80
  rw [s57 V1 V0 e0 e1, s76 V1 V0 e3]
  all_goals rfl

include e2 e3 in
theorem s81 : @Eq (Arr S1x4x8x16x128x256 .f32) (res_main_v81 V1) (Cert.AttnRefIdeal.Value.res_main_v81 V0) := by
  unfold res_main_v81 Cert.AttnRefIdeal.Value.res_main_v81
  rw [s17 V1 V0 e2, s76 V1 V0 e3]
  all_goals rfl

include e0 e1 e2 e3 e4 in
theorem s95 : @Eq (Arr S1x4x8x16x128x256 .f32) (res_main_v95 V1) (Cert.AttnRefIdeal.Value.res_main_v95 V0) := by
  unfold res_main_v95 Cert.AttnRefIdeal.Value.res_main_v95
  rw [s53 V1 V0 e0 e1, s55 V1 V0 e0 e1, s77 V1 V0 e4, s81 V1 V0 e2 e3]
  all_goals rfl

include e0 e1 e2 e3 e4 in
theorem s109 : @Eq (Arr S1x4x8x16x128x256 .f32) (res_main_v109 V1) (Cert.AttnRefIdeal.Value.res_main_v109 V0) := by
  unfold res_main_v109 Cert.AttnRefIdeal.Value.res_main_v109
  rw [s40 V1 V0, s48 V1 V0 e0 e1, s77 V1 V0 e4, s95 V1 V0 e0 e1 e2 e3 e4]
  all_goals rfl

include e0 e1 e2 e3 e4 in
theorem s110 : @Eq (Arr S1x4x8x16x256x64 .f32) (res_main_v110 V1) (Cert.AttnRefIdeal.Value.res_main_v110 V0) := by
  unfold res_main_v110 Cert.AttnRefIdeal.Value.res_main_v110
  rw [s3 V1 V0 e0, s109 V1 V0 e0 e1 e2 e3 e4]
  all_goals rfl

include e0 e1 e3 in
theorem s112 : @Eq (Arr S1x4x8x16x128x64 .f32) (res_main_v112 V1) (Cert.AttnRefIdeal.Value.res_main_v112 V0) := by
  unfold res_main_v112 Cert.AttnRefIdeal.Value.res_main_v112
  rw [s80 V1 V0 e0 e1 e3]
  all_goals rfl

include e0 e1 e2 e3 e4 in
theorem s121 : @Eq (Arr S1x4x8x16x128x64 .f32) (res_main_v121 V1) (Cert.AttnRefIdeal.Value.res_main_v121 V0) := by
  unfold res_main_v121 Cert.AttnRefIdeal.Value.res_main_v121
  rw [s110 V1 V0 e0 e1 e2 e3 e4]
  all_goals rfl

/-! ## The results -/

section Results

variable {Q K W G X : Fin 8192 → Fin 8 → Fin 64 → ℝ} {D : Fin 8192 → Fin 8 → ℝ}
variable (hq : Holds (V0 (Proc.devRef .tc Cert.AttnRefIdeal.main_arg0)) Q)
variable (hk : Holds (V0 (Proc.devRef .tc Cert.AttnRefIdeal.main_arg1)) K)
variable (hv : Holds (V0 (Proc.devRef .tc Cert.AttnRefIdeal.main_arg2)) W)
variable (hg : Holds (V0 (Proc.devRef .tc Cert.AttnRefIdeal.main_arg3)) G)
variable (hd : Holds1 (V0 (Proc.devRef .tc Cert.AttnRefIdeal.main_arg4)) D)
variable (r : Fin 4) (t : Fin 2048) (j : Fin 512)

/-- The earlier layer's part by residue classes. -/
theorem part (x : FVec Ideal S1x8192x8x64 .f32) (hx : Holds x X) :
    (truncf .bf16 (transpose S4x2048x512 [1, 0, 2] (shapeCast _ x shapeCasts_S1x8192x8x64_S2048x4x512) transposes_S2048x4x512_S4x2048x512_1_0_2) bitsLt_bf16_f32 : FVec Ideal S4x2048x512 .bf16) (ix3 r t j)
      = (blk X r (colHead j) (rowBlk t) (rowAt t) (colFeat j) : EReal) := by
  pointwise []
  refine (hx 0 _ _ _).trans ?_
  unfold blk
  congr 2
  exact Fin.ext (show t.val * 4 + r.val = (t.val / 128 * 128 + t.val % 128) * 4 + r.val by omega)

/-- The earlier layer's part is added by residue classes. -/
theorem split (y x : FVec Ideal S1x8192x8x64 .f32) :
    (truncf .bf16 (transpose S4x2048x512 [1, 0, 2] (shapeCast _ (addf y x) shapeCasts_S1x8192x8x64_S2048x4x512) transposes_S2048x4x512_S4x2048x512_1_0_2) bitsLt_bf16_f32 : FVec Ideal S4x2048x512 .bf16) (ix3 r t j)
      = (truncf .bf16 (transpose S4x2048x512 [1, 0, 2] (shapeCast _ y shapeCasts_S1x8192x8x64_S2048x4x512) transposes_S2048x4x512_S4x2048x512_1_0_2) bitsLt_bf16_f32 : FVec Ideal S4x2048x512 .bf16) (ix3 r t j)
        + (truncf .bf16 (transpose S4x2048x512 [1, 0, 2] (shapeCast _ x shapeCasts_S1x8192x8x64_S2048x4x512) transposes_S2048x4x512_S4x2048x512_1_0_2) bitsLt_bf16_f32 : FVec Ideal S4x2048x512 .bf16) (ix3 r t j) := rfl

include e0 e1 e2 e3 e4 hq hk hv hg hd in
/-- The queries' gradient. -/
theorem outQ : (truncf .bf16 (transpose S4x2048x512 [1, 0, 2] (shapeCast _ (shapeCast _ (transpose S1x2048x4x8x64 [0, 3, 1, 2, 4] (shapeCast _ (Host.dotGeneral (φ₁ := .f32) (φ₂ := .f32) dot_S1x4x8x16x128x256_S1x4x8x16x256x64_S1x4x8x16x128x64_5_4_4_5_0123_0123 none (res_main_v109 V1) (res_main_v10 V1)) shapeCasts_S1x4x8x16x128x64_S1x4x8x2048x64) transposes_S1x4x8x2048x64_S1x2048x4x8x64_0_3_1_2_4) shapeCasts_S1x2048x4x8x64_S1x8192x8x64) shapeCasts_S1x8192x8x64_S2048x4x512) transposes_S2048x4x512_S4x2048x512_1_0_2) bitsLt_bf16_f32 : FVec Ideal S4x2048x512 .bf16) (ix3 r t j) = (AttnMath.dq (blk Q r (colHead j)) (blk K r (colHead j)) (blk W r (colHead j)) (blk G r (colHead j)) (blk1 D r (colHead j)) (rowBlk t) (rowAt t) (colFeat j) : EReal) := by
  rw [s109 V1 V0 e0 e1 e2 e3 e4, s10 V1 V0 e1]
  exact Cert.AttnRefIdeal.Rd.outQ V0 (hq := hq) (hk := hk) (hv := hv) (hg := hg) (hd := hd) (r := r) (t := t) (c := j)

include e0 e1 e2 e3 e4 hq hk hv hg hd in
/-- The keys' gradient and the earlier layer's part. -/
theorem outK (hx : Holds (V1 (Proc.devRef .tc main_arg5)) X) : (truncf .bf16 (transpose S4x2048x512 [1, 0, 2] (shapeCast _ (addf (φ := .f32) (shapeCast _ (transpose S1x2048x4x8x64 [0, 3, 1, 2, 4] (shapeCast _ (addf (extractStridedSlice S1x4x8x16x128x64 ![0, 0, 0, 0, 128, 0] (res_main_v110 V1) slices_S1x4x8x16x256x64_S1x4x8x16x128x64_0_0_0_0_128_0) (pad S1x4x8x16x128x64 ![0, 0, 0, 0, 0, 0] ![0, 0, 0, 1, 0, 0] ![0, 0, 0, 0, 0, 0] (extractStridedSlice S1x4x8x15x128x64 ![0, 0, 0, 1, 0, 0] (res_main_v121 V1) slices_S1x4x8x16x128x64_S1x4x8x15x128x64_0_0_0_1_0_0) (constant S_ .f32 0x00000000#32) pads_S1x4x8x15x128x64_S1x4x8x16x128x64_000_000_000_010_000_000 h_S_)) shapeCasts_S1x4x8x16x128x64_S1x4x8x2048x64) transposes_S1x4x8x2048x64_S1x2048x4x8x64_0_3_1_2_4) shapeCasts_S1x2048x4x8x64_S1x8192x8x64) (V1 (Proc.devRef .tc main_arg5))) shapeCasts_S1x8192x8x64_S2048x4x512) transposes_S2048x4x512_S4x2048x512_1_0_2) bitsLt_bf16_f32 : FVec Ideal S4x2048x512 .bf16) (ix3 r t j)
    = ((AttnMath.join (AttnMath.dkk (blk Q r (colHead j)) (blk K r (colHead j)) (blk W r (colHead j)) (blk G r (colHead j)) (blk1 D r (colHead j))) (rowBlk t) (rowAt t) (colFeat j) + blk X r (colHead j) (rowBlk t) (rowAt t) (colFeat j) : ℝ) : EReal) := by
  refine (split r t j _ _).trans ?_
  rw [EReal.coe_add]
  refine congrArg₂ (· + ·) ?_ (part r t j _ hx)
  rw [s110 V1 V0 e0 e1 e2 e3 e4, s121 V1 V0 e0 e1 e2 e3 e4]
  exact Cert.AttnRefIdeal.Rd.outK V0 (hq := hq) (hk := hk) (hv := hv) (hg := hg) (hd := hd) (r := r) (t := t) (c := j)

include e0 e1 e3 hq hk hg in
/-- The values' gradient and the earlier layer's part. -/
theorem outV (hx : Holds (V1 (Proc.devRef .tc main_arg6)) X) : (truncf .bf16 (transpose S4x2048x512 [1, 0, 2] (shapeCast _ (addf (φ := .f32) (shapeCast _ (transpose S1x2048x4x8x64 [0, 3, 1, 2, 4] (shapeCast _ (addf (extractStridedSlice S1x4x8x16x128x64 ![0, 0, 0, 0, 128, 0] (res_main_v80 V1) slices_S1x4x8x16x256x64_S1x4x8x16x128x64_0_0_0_0_128_0) (pad S1x4x8x16x128x64 ![0, 0, 0, 0, 0, 0] ![0, 0, 0, 1, 0, 0] ![0, 0, 0, 0, 0, 0] (extractStridedSlice S1x4x8x15x128x64 ![0, 0, 0, 1, 0, 0] (res_main_v112 V1) slices_S1x4x8x16x128x64_S1x4x8x15x128x64_0_0_0_1_0_0) (constant S_ .f32 0x00000000#32) pads_S1x4x8x15x128x64_S1x4x8x16x128x64_000_000_000_010_000_000 h_S_)) shapeCasts_S1x4x8x16x128x64_S1x4x8x2048x64) transposes_S1x4x8x2048x64_S1x2048x4x8x64_0_3_1_2_4) shapeCasts_S1x2048x4x8x64_S1x8192x8x64) (V1 (Proc.devRef .tc main_arg6))) shapeCasts_S1x8192x8x64_S2048x4x512) transposes_S2048x4x512_S4x2048x512_1_0_2) bitsLt_bf16_f32 : FVec Ideal S4x2048x512 .bf16) (ix3 r t j)
    = ((AttnMath.join (AttnMath.dvv (blk Q r (colHead j)) (blk K r (colHead j)) (blk G r (colHead j))) (rowBlk t) (rowAt t) (colFeat j) + blk X r (colHead j) (rowBlk t) (rowAt t) (colFeat j) : ℝ) : EReal) := by
  refine (split r t j _ _).trans ?_
  rw [EReal.coe_add]
  refine congrArg₂ (· + ·) ?_ (part r t j _ hx)
  rw [s80 V1 V0 e0 e1 e3, s112 V1 V0 e0 e1 e3]
  exact Cert.AttnRefIdeal.Rd.outV V0 (hq := hq) (hk := hk) (hg := hg) (r := r) (t := t) (c := j)

end Results

end Cert.AttpRefIdeal.Rd
-- ==== Proof.AttpClaim.lean ====
module

public import proofs.«01_k».proof.Defs
public import proofs.«01_k».proof.Proof.AttnClaim
public import proofs.«01_k».proof.Proof.AttpFin
public import proofs.«01_k».proof.Proof.AttpRef
public import proofs.«01_k».proof.Proof.Gen.Pre_finite_attp

@[expose] public section

set_option maxRecDepth 16384

noncomputable section

namespace Cert.AttpClaim

open Idealize.ShloMosaic Idealize.ShloMosaic.TcCoe Idealize.SL.Sem
open Cert.AttnRefIdeal.Rd (Holds Holds1)
open Cert.AttnClaim (ext3)
open Cert.Finite (of_all both)

/-- The arguments that the precondition admits hold reals. -/
theorem reals [hp : Cert.Pre_finite_attp.Facts] {q k v g pk pv : FVec Ideal Cert.AttpIdeal.S1x8192x8x64 .f32} {d : FVec Ideal Cert.AttpIdeal.S1x8192x8 .f32}
    (h : Cert.Pre_finite_attp.fn (F := Ideal) q k v g d pk pv = fun _ => 1#1) : (∃ Q, Holds q Q) ∧ (∃ K, Holds k K) ∧ (∃ W, Holds v W) ∧ (∃ G, Holds g G) ∧ (∃ D, Holds1 d D) ∧ (∃ X, Holds pk X) ∧ ∃ Y, Holds pv Y := by
  have hx : ∀ x : FVec Ideal Cert.AttpIdeal.S1x8192x8x64 .f32, (∀ i, ∃ r : ℝ, x i = (r : EReal)) → ∃ X, Holds x X := fun x hx => by
    choose X hX using hx
    exact ⟨fun t h e => X (ix4 0 t h e), fun z t h e => by obtain rfl : z = 0 := Subsingleton.elim _ _; exact hX _⟩
  have hd : ∀ x : FVec Ideal Cert.AttpIdeal.S1x8192x8 .f32, (∀ i, ∃ r : ℝ, x i = (r : EReal)) → ∃ X, Holds1 x X := fun x hx => by
    choose X hX using hx
    exact ⟨fun t h => X (ix3 0 t h), fun z t h => by obtain rfl : z = 0 := Subsingleton.elim _ _; exact hX _⟩
  have h0 := congrFun h ix0
  unfold Cert.Pre_finite_attp.fn Cert.Pre_finite_attp.fn_part1 at h0
  dsimp only at h0
  haveI : Subsingleton Cert.Pre_finite_attp.S_.Idx := ⟨fun a b => funext fun i => i.elim0⟩
  obtain ⟨h0, h6⟩ := both h0
  obtain ⟨h0, h5⟩ := both h0
  obtain ⟨h0, h4⟩ := both h0
  obtain ⟨h0, h3⟩ := both h0
  obtain ⟨h0, h2⟩ := both h0
  obtain ⟨h0, h1⟩ := both h0
  exact ⟨hx q (of_all (fun _ => Finite.inf) h0), hx k (of_all (fun _ => Finite.inf) h1), hx v (of_all (fun _ => Finite.inf) h2), hx g (of_all (fun _ => Finite.inf) h3),
    hd d (of_all (fun _ => Finite.inf) h4), hx pk (of_all (fun _ => Finite.inf) h5), hx pv (of_all (fun _ => Finite.inf) h6)⟩

/-- The attention's three gradients, as the reference's derivative writes them. -/
theorem attp_algebraic : algebraic_AttpIdeal_AttpRefIdeal_pre_finite_attp (hAttpIdeal := Cert.AttpIdeal.Gen.facts) (hAttpRefIdeal := Cert.AttpRefIdeal.Gen.facts) (hPre_finite_attp := Cert.Pre_finite_attp.Gen.facts) := by
  intro m g m' g' hp hm
  refine ⟨_, _, _, Cert.AttpIdeal.Value.run_blocks m g, (θ_run _ _ _).mono (fun r h c => ?_) (Cert.AttpRefIdeal.Value.run m' g')⟩
  obtain ⟨h0, h1, h2, ha⟩ := h c
  obtain ⟨e0, e1, e2, e3, e4, e5, e6⟩ := hm c
  letI := Cert.Pre_finite_attp.Gen.facts
  obtain ⟨⟨Q, hq⟩, ⟨K, hk⟩, ⟨W, hv⟩, ⟨G, hg⟩, ⟨D, hd⟩, ⟨X, hpk⟩, ⟨Y, hpv⟩⟩ := reals (hp c)
  let V1 := StableHlo.launchContents m' c
  obtain ⟨V0, a0, a1, a2, a3, a4⟩ := Cert.AttpRefIdeal.Rd.other V1
  have f0 : V0 (Proc.devRef .tc Cert.AttnRefIdeal.main_arg0) = m ((c : Thread Cert.AttpIdeal.nD Cert.AttpIdeal.τ).loc Cert.AttpIdeal.main_arg0) := a0.trans e0
  have f1 : V0 (Proc.devRef .tc Cert.AttnRefIdeal.main_arg1) = m ((c : Thread Cert.AttpIdeal.nD Cert.AttpIdeal.τ).loc Cert.AttpIdeal.main_arg1) := a1.trans e1
  have f2 : V0 (Proc.devRef .tc Cert.AttnRefIdeal.main_arg2) = m ((c : Thread Cert.AttpIdeal.nD Cert.AttpIdeal.τ).loc Cert.AttpIdeal.main_arg2) := a2.trans e2
  have f3 : V0 (Proc.devRef .tc Cert.AttnRefIdeal.main_arg3) = m ((c : Thread Cert.AttpIdeal.nD Cert.AttpIdeal.τ).loc Cert.AttpIdeal.main_arg3) := a3.trans e3
  have f4 : V0 (Proc.devRef .tc Cert.AttnRefIdeal.main_arg4) = m ((c : Thread Cert.AttpIdeal.nD Cert.AttpIdeal.τ).loc Cert.AttpIdeal.main_arg4) := a4.trans e4
  have hq' : Holds (V0 (Proc.devRef .tc Cert.AttnRefIdeal.main_arg0)) Q := by rw [f0]; exact hq
  have hk' : Holds (V0 (Proc.devRef .tc Cert.AttnRefIdeal.main_arg1)) K := by rw [f1]; exact hk
  have hv' : Holds (V0 (Proc.devRef .tc Cert.AttnRefIdeal.main_arg2)) W := by rw [f2]; exact hv
  have hg' : Holds (V0 (Proc.devRef .tc Cert.AttnRefIdeal.main_arg3)) G := by rw [f3]; exact hg
  have hd' : Holds1 (V0 (Proc.devRef .tc Cert.AttnRefIdeal.main_arg4)) D := by rw [f4]; exact hd
  have hpk' : Holds (V1 (Proc.devRef .tc Cert.AttpRefIdeal.main_arg5)) X := by rw [show V1 (Proc.devRef .tc Cert.AttpRefIdeal.main_arg5) = m ((c : Thread Cert.AttpIdeal.nD Cert.AttpIdeal.τ).loc Cert.AttpIdeal.main_arg5) from e5]; exact hpk
  have hpv' : Holds (V1 (Proc.devRef .tc Cert.AttpRefIdeal.main_arg6)) Y := by rw [show V1 (Proc.devRef .tc Cert.AttpRefIdeal.main_arg6) = m ((c : Thread Cert.AttpIdeal.nD Cert.AttpIdeal.τ).loc Cert.AttpIdeal.main_arg6) from e6]; exact hpv
  have R : Cert.AttpIdeal.Val.Reads m c (Q := Q) (K := K) (W := W) (G := G) (X := X) (Y := Y) (D := D) :=
    ⟨Cert.AttpIdeal.Pre.q_val m c V0 f0 hq', Cert.AttpIdeal.Pre.k_val m c V0 f1 hk', Cert.AttpIdeal.Pre.v_val m c V0 f2 hv', Cert.AttpIdeal.Pre.g_val m c V0 f3 hg',
      Cert.AttpIdeal.Pre.delta_val m c V0 f0 f1 f2 f3 f4 hq' hk' hv' hg' hd', Cert.AttpIdeal.Pre.pk_val m c hpk, Cert.AttpIdeal.Pre.pv_val m c hpv, Cert.AttpIdeal.Pre.lse_val m c V0 f0 f1 hq' hk'⟩
  refine ⟨h0.trans ?_, h1.trans ?_, h2.trans ?_, ha⟩
  · exact ext3 fun r t j => (Cert.AttpRefIdeal.Rd.outQ V1 V0 a0 a1 a2 a3 a4 hq' hk' hv' hg' hd' r t j).trans (Cert.AttpIdeal.Val.final10 m c R r t j).symm
  · exact ext3 fun r t j => (Cert.AttpRefIdeal.Rd.outK V1 V0 a0 a1 a2 a3 a4 hq' hk' hv' hg' hd' r t j hpk').trans (Cert.AttpIdeal.Val.final11 m c R r t j).symm
  · exact ext3 fun r t j => (Cert.AttpRefIdeal.Rd.outV V1 V0 a0 a1 a3 hq' hk' hg' r t j hpv').trans (Cert.AttpIdeal.Val.final12 m c R r t j).symm

/-- The attention's reference leaves its arguments as they are; it declares no semaphore. -/
theorem attp_ref_frame : quiescent_AttpRefIdeal (hAttpRefIdeal := Cert.AttpRefIdeal.Gen.facts) := fun m ρ _ =>
  (θ_run Cert.AttpRefIdeal.defs _ _).mono (fun r h => ⟨fun c => (h c).2.2.2, sem_eq_zero_of_no_sems (by decide) r.2⟩)
    (Cert.AttpRefIdeal.Value.run (F := Ideal) m ρ)

end Cert.AttpClaim
-- ==== Proof.Rope.lean ====
module

public import proofs.«01_k».proof.Proof.Base
public import Idealize.ShloMosaic.Lib.Pipeline.CanonAppend

@[expose] public section

set_option maxRecDepth 16384

noncomputable section

namespace Cert.Rope

open Idealize.ShloMosaic Base

/-- The shape of the staging buffer. -/
abbrev Stage : Shape := ⟨3, ![4, 512, 128]⟩

section Merge
variable {d n : ℕ} (hdn : n * d = 512) (Y : (⟨3, ![d, n, 512]⟩ : Shape).Idx → EReal)

/-- Row `i` of the block, from the rows ordered by residue. -/
def mrow (i : Fin 512) (k : Fin 512) : EReal :=
  Y (ix3 ⟨i.val % d, Nat.mod_lt _ (Nat.pos_of_ne_zero fun h => by subst h; omega)⟩ ⟨i.val / d, Nat.div_lt_of_lt_mul (by rw [Nat.mul_comm, hdn]; exact i.isLt)⟩ k)

/-- What the staging buffer holds: four groups of lanes side by side. -/
def stage (z : Stage.Idx) : EReal := mrow hdn Y (z 1) ⟨128 * (z 0).val + (z 2).val, by have h0 : (z 0).val < 4 := (z 0).isLt; have h2 : (z 2).val < 128 := (z 2).isLt; omega⟩

/-- The rows of a residue within the staging buffer, in one group of lanes. -/
abbrev rc (j r : ℕ) (inb : ∀ a, (![1, n, 128] : Fin 3 → ℕ) a = 0 ∨ (![j, r, 0] : Fin 3 → ℕ) a + (![1, d, 1] : Fin 3 → ℕ) a * ((![1, n, 128] : Fin 3 → ℕ) a - 1) < (![4, 512, 128] : Fin 3 → ℕ) a)
    (pos : ∀ a, 0 < (![1, d, 1] : Fin 3 → ℕ) a) : Rect Stage := ⟨⟨![j, r, 0], ![1, n, 128], ![1, d, 1], inb⟩, pos⟩

/-- A store of one residue's rows is what the staging buffer should hold there. -/
theorem piece {j r o : ℕ} (ho : o = 128 * j) (hr : r < d) (hj : j < 4) (inb pos) (inl : ∀ a, (![r, 0, 0] : Fin 3 → ℕ) a + (![1, n, 512] : Fin 3 → ℕ) a ≤ (![d, n, 512] : Fin 3 → ℕ) a)
    (h1 : (⟨3, ![1, n, 512]⟩ : Shape).ShapeCasts ⟨2, ![n, 512]⟩) (h2 : (⟨2, ![n, 512]⟩ : Shape).Slices ![0, o] ⟨2, ![n, 128]⟩) (h3 : (⟨2, ![n, 128]⟩ : Shape).ShapeCasts ⟨3, ![1, n, 128]⟩) (hb)
    (x : (⟨3, ![1, n, 128]⟩ : Shape).Idx) :
    (shapeCast ⟨3, ![1, n, 128]⟩ (extractStridedSlice ⟨2, ![n, 128]⟩ ![0, o] (extf (F := Ideal) (φ := .bf16) .f32 (shapeCast ⟨2, ![n, 512]⟩
      (View.ld (Val := Elt Ideal) (e' := .bf16) Y (Rect.unit (s := ⟨3, ![d, n, 512]⟩) ![r, 0, 0] ![1, n, 512] inl)) h1) hb) h2) h3 : (⟨3, ![1, n, 128]⟩ : Shape).Idx → EReal) x =
      stage hdn Y ((rc (d := d) (n := n) j r inb pos).emb x) := by
  have x0 : (x 0).val < 1 := (x 0).isLt
  have x1 : (x 1).val < n := (x 1).isLt
  have x2 : (x 2).val < 128 := (x 2).isLt
  rw [shapeCast_apply _ h3 x (ix2 (n0 := n) (n1 := 128) (x 1) (x 2)) (by rw [Shape.rowMajor_val_two, Shape.rowMajor_val_three]; show (x 1).val * 128 + (x 2).val = ((x 0).val * n + (x 1).val) * 128 + (x 2).val; rw [show (x 0).val = 0 by omega]; omega)]
  rw [extractStridedSlice_apply ![0, o] _ h2 (ix2 (n0 := n) (n1 := 128) (x 1) (x 2)) (ix2 (n0 := n) (n1 := 512) (x 1) ⟨o + (x 2).val, by omega⟩) (by
    intro a
    match a with
    | ⟨0, _⟩ => exact (Nat.zero_add _).symm
    | ⟨1, _⟩ => rfl)]
  show shapeCast ⟨2, ![n, 512]⟩ (View.ld (Val := Elt Ideal) (e' := .bf16) Y (Rect.unit (s := ⟨3, ![d, n, 512]⟩) ![r, 0, 0] ![1, n, 512] inl)) h1 (ix2 (n0 := n) (n1 := 512) (x 1) ⟨o + (x 2).val, by omega⟩) = _
  rw [shapeCast_apply _ h1 (ix2 (n0 := n) (n1 := 512) (x 1) ⟨o + (x 2).val, by omega⟩) (ix3 (n0 := 1) (n1 := n) (n2 := 512) 0 (x 1) ⟨o + (x 2).val, by omega⟩) (by
    rw [Shape.rowMajor_val_two, Shape.rowMajor_val_three]
    show (0 * n + (x 1).val) * 512 + (o + (x 2).val) = (x 1).val * 512 + (o + (x 2).val)
    omega)]
  unfold stage mrow
  refine congrArg Y (funext fun a => ?_)
  have em : (((rc (d := d) (n := n) j r inb pos).emb x) 1).val = r + d * (x 1).val := rfl
  match a with
  | ⟨0, _⟩ => exact Fin.ext (by
      show r + 1 * 0 = (((rc (d := d) (n := n) j r inb pos).emb x) 1).val % d
      rw [em, Nat.add_mul_mod_self_left, Nat.mod_eq_of_lt hr]; omega)
  | ⟨1, _⟩ => exact Fin.ext (by
      show 0 + 1 * (x 1).val = (((rc (d := d) (n := n) j r inb pos).emb x) 1).val / d
      rw [em, Nat.add_mul_div_left _ _ (by omega), Nat.div_eq_of_lt hr]; omega)
  | ⟨2, _⟩ => exact Fin.ext (by
      show 0 + 1 * (o + (x 2).val) = 128 * (j + 1 * (x 0).val) + (0 + 1 * (x 2).val)
      omega)

/-- A load of one group of lanes after all the residues' rows have been stored, whatever was stored before them. -/
theorem load {sig : RefSig} {κ : Kind} {sp : Space} (v : View sig κ sp Stage .f32) (L L' : List (View.Piece (Elt Ideal) Stage .f32)) (j : ℕ) (hj : j < 4)
    (inb : ∀ a, (![j, 0, 0] : Fin 3 → ℕ) a + (![1, 512, 128] : Fin 3 → ℕ) a ≤ (![4, 512, 128] : Fin 3 → ℕ) a)
    (hL : ∀ p ∈ L, ∀ x : p.1.shape.Idx, p.2 x = (stage hdn Y : Stage.Idx → Elt Ideal .f32) (p.1.emb x))
    (hc : ∀ r : Fin d, ∃ p ∈ L, ∃ inb pos, p.1 = rc (d := d) (n := n) j r.val inb pos) :
    v.readCov (L ++ L') (Rect.unit (s := Stage) ![j, 0, 0] ![1, 512, 128] inb).toLoadRect = fun x : (⟨3, ![1, 512, 128]⟩ : Shape).Idx => mrow hdn Y (x 1) ⟨128 * j + (x 2).val, by have h2 : (x 2).val < 128 := (x 2).isLt; omega⟩ := by
  rw [View.readCov_eq_canon']
  funext x
  have x0 : (x 0).val < 1 := (x 0).isLt
  have x1 : (x 1).val < 512 := (x 1).isLt
  have x2 : (x 2).val < 128 := (x 2).isLt
  have hd : 0 < d := Nat.pos_of_ne_zero fun h => by subst h; omega
  have hy : ∃ p ∈ L, (Rect.unit (s := Stage) ![j, 0, 0] ![1, 512, 128] inb).idx x ∈ p.1.set := by
    obtain ⟨p, hp, i, pos, e⟩ := hc ⟨(x 1).val % d, Nat.mod_lt _ hd⟩
    refine ⟨p, hp, ?_⟩
    rw [e, LoadRect.mem_set]
    intro a
    match a with
    | ⟨0, _⟩ => exact ⟨0, Nat.one_pos, show j + 1 * (x 0).val = j + 1 * 0 by omega⟩
    | ⟨1, _⟩ => exact ⟨(x 1).val / d, Nat.div_lt_of_lt_mul (by show (x 1).val < d * n; rw [Nat.mul_comm, hdn]; exact x1), show 0 + 1 * (x 1).val = (x 1).val % d + d * ((x 1).val / d) by rw [Nat.mod_add_div]; omega⟩
    | ⟨2, _⟩ => exact ⟨(x 2).val, x2, show 0 + 1 * (x 2).val = 0 + 1 * (x 2).val from rfl⟩
  refine (View.canon_append_of_pieces (stage hdn Y : Stage.Idx → Elt Ideal .f32) L' L hL _ hy).trans ?_
  show mrow hdn Y _ _ = mrow hdn Y _ _
  congr 1
  · exact Fin.ext (by show 0 + 1 * (x 1).val = (x 1).val; omega)
  · exact Fin.ext (by show 128 * (j + 1 * (x 0).val) + (0 + 1 * (x 2).val) = 128 * j + (x 2).val; omega)
end Merge

/-- Four groups of lanes side by side. -/
theorem beside {d n : ℕ} (hdn : n * d = 512) (Y : (⟨3, ![d, n, 512]⟩ : Shape).Idx → EReal) (v0 v1 v2 v3 : (⟨3, ![1, 512, 128]⟩ : Shape).Idx → EReal)
    (e0 : ∀ r k, v0 (ix3 0 r k) = mrow hdn Y r ⟨128 * 0 + k.val, by omega⟩) (e1 : ∀ r k, v1 (ix3 0 r k) = mrow hdn Y r ⟨128 * 1 + k.val, by omega⟩)
    (e2 : ∀ r k, v2 (ix3 0 r k) = mrow hdn Y r ⟨128 * 2 + k.val, by omega⟩) (e3 : ∀ r k, v3 (ix3 0 r k) = mrow hdn Y r ⟨128 * 3 + k.val, by omega⟩) (h1 h2 h3 h4 hc) :
    (concatenate ⟨2, ![512, 512]⟩ 1 [⟨⟨2, ![512, 128]⟩, (shapeCast ⟨2, ![512, 128]⟩ v0 h1 : FVec Ideal ⟨2, ![512, 128]⟩ .f32)⟩, ⟨⟨2, ![512, 128]⟩, (shapeCast ⟨2, ![512, 128]⟩ v1 h2 : FVec Ideal ⟨2, ![512, 128]⟩ .f32)⟩,
      ⟨⟨2, ![512, 128]⟩, (shapeCast ⟨2, ![512, 128]⟩ v2 h3 : FVec Ideal ⟨2, ![512, 128]⟩ .f32)⟩, ⟨⟨2, ![512, 128]⟩, (shapeCast ⟨2, ![512, 128]⟩ v3 h4 : FVec Ideal ⟨2, ![512, 128]⟩ .f32)⟩] hc : FVec Ideal ⟨2, ![512, 512]⟩ .f32) =
      fun y => mrow hdn Y (y 0) (y 1) := by
  refine ext2 fun r k => ?_
  pointwise []
  split_ifs <;> simp only [e0, e1, e2, e3] <;> exact congrArg (mrow hdn Y r) (Fin.ext (by simp only []; omega))

/-- Twelve copies of a table of lanes side by side. -/
theorem tile12 (v : (⟨2, ![512, 128]⟩ : Shape).Idx → EReal) (h) :
    (concatenate ⟨2, ![512, 1536]⟩ 1 [⟨⟨2, ![512, 128]⟩, (v : FVec Ideal ⟨2, ![512, 128]⟩ .f32)⟩, ⟨⟨2, ![512, 128]⟩, v⟩, ⟨⟨2, ![512, 128]⟩, v⟩, ⟨⟨2, ![512, 128]⟩, v⟩, ⟨⟨2, ![512, 128]⟩, v⟩, ⟨⟨2, ![512, 128]⟩, v⟩,
      ⟨⟨2, ![512, 128]⟩, v⟩, ⟨⟨2, ![512, 128]⟩, v⟩, ⟨⟨2, ![512, 128]⟩, v⟩, ⟨⟨2, ![512, 128]⟩, v⟩, ⟨⟨2, ![512, 128]⟩, v⟩, ⟨⟨2, ![512, 128]⟩, v⟩] h : FVec Ideal ⟨2, ![512, 1536]⟩ .f32) =
      fun y => v (ix2 (y 0) ⟨(y 1).val % 128, Nat.mod_lt _ (by decide)⟩) := by
  refine ext2 fun r k => ?_
  exact concatenate_replicate_apply (s₁ := ⟨2, ![512, 128]⟩) 1 12 v h rfl (ix2 r k) (ix2 r ⟨k.val % 128, Nat.mod_lt _ (by decide)⟩) rfl (fun b hb => by
    match b with
    | ⟨0, _⟩ => rfl
    | ⟨1, _⟩ => exact absurd rfl hb)

/-- Four groups of lanes side by side, as the programs write it. -/
def cat4 (v0 v1 v2 v3 : (⟨3, ![1, 512, 128]⟩ : Shape).Idx → EReal) (h : (⟨3, ![1, 512, 128]⟩ : Shape).ShapeCasts ⟨2, ![512, 128]⟩) (hc : Shape.Concatenates [⟨2, ![512, 128]⟩, ⟨2, ![512, 128]⟩, ⟨2, ![512, 128]⟩, ⟨2, ![512, 128]⟩] ⟨2, ![512, 512]⟩ 1) : (⟨2, ![512, 512]⟩ : Shape).Idx → EReal :=
  concatenate ⟨2, ![512, 512]⟩ 1 [⟨⟨2, ![512, 128]⟩, (shapeCast ⟨2, ![512, 128]⟩ v0 h : FVec Ideal ⟨2, ![512, 128]⟩ .f32)⟩, ⟨⟨2, ![512, 128]⟩, (shapeCast ⟨2, ![512, 128]⟩ v1 h : FVec Ideal ⟨2, ![512, 128]⟩ .f32)⟩,
      ⟨⟨2, ![512, 128]⟩, (shapeCast ⟨2, ![512, 128]⟩ v2 h : FVec Ideal ⟨2, ![512, 128]⟩ .f32)⟩, ⟨⟨2, ![512, 128]⟩, (shapeCast ⟨2, ![512, 128]⟩ v3 h : FVec Ideal ⟨2, ![512, 128]⟩ .f32)⟩] hc

/-- Three blocks of columns side by side. -/
def three (v0 v1 v2 : Fin 512 → EReal) (z : Fin 1536) : EReal :=
  if h : z.val < 512 then v0 ⟨z.val, h⟩ else if h' : z.val - 512 < 512 then v1 ⟨z.val - 512, h'⟩ else v2 ⟨z.val - 512 - 512, by omega⟩

/-- The rotation's transpose on a row, by the tables of lanes. -/
def rot (D : Fin 1536 → EReal) (C P S : Fin 128 → EReal) (k : Fin 1536) : EReal :=
  D k * C ⟨k.val % 128, Nat.mod_lt _ (by decide)⟩
    + D ⟨(k.val + 1536 - 1528) % 1536, Nat.mod_lt _ (by decide)⟩ * P ⟨(k.val + 1536 - 1528) % 1536 % 128, Nat.mod_lt _ (by decide)⟩
    + D ⟨(k.val + 1536 - 8) % 1536, Nat.mod_lt _ (by decide)⟩ * S ⟨(k.val + 1536 - 8) % 1536 % 128, Nat.mod_lt _ (by decide)⟩

/-- The rotation's transpose, as the programs write it. -/
theorem rotated (D : FVec Ideal ⟨2, ![512, 1536]⟩ .f32) (C P S : (⟨2, ![512, 128]⟩ : Shape).Idx → EReal) (hr hs) (r : Fin 512) (k : Fin 1536) :
    addf (addf (mulf D (fun y => C (ix2 (y 0) ⟨(y 1).val % 128, Nat.mod_lt _ (by decide)⟩) : FVec Ideal ⟨2, ![512, 1536]⟩ .f32))
      (dynamicRotate 1 1528#32 none (mulf D (fun y => P (ix2 (y 0) ⟨(y 1).val % 128, Nat.mod_lt _ (by decide)⟩) : FVec Ideal ⟨2, ![512, 1536]⟩ .f32)) hr))
      (dynamicRotate 1 8#32 none (mulf D (fun y => S (ix2 (y 0) ⟨(y 1).val % 128, Nat.mod_lt _ (by decide)⟩) : FVec Ideal ⟨2, ![512, 1536]⟩ .f32)) hs) (ix2 r k) =
      rot (fun z => D (ix2 r z)) (fun z => C (ix2 r z)) (fun z => P (ix2 r z)) (fun z => S (ix2 r z)) k := by
  pointwise []
  rfl

end Cert.Rope
-- ==== Proof.QbPure.lean ====
module

public import proofs.«01_k».proof.Defs
public import proofs.«01_k».proof.Proof.Gen.QbIdeal.Skeleton
public import proofs.«01_k».proof.Proof.Rope

@[expose] public section

set_option maxRecDepth 16384

noncomputable section

namespace Cert.QbIdeal.Pure

open Cert.QbIdeal Cert.QbIdeal.Gen Idealize.ShloMosaic

open Base Rope

/-- The cotangent of the normalised row, from that of the modulated row. -/
def wrow (g sc d : Fin 1024 → EReal) (j : Fin 1024) : EReal := d j * (1 + sc j) * g j

/-- A row of a matrix. -/
abbrev rowOf {n d : Nat} (v : (⟨2, ![n, d]⟩ : Shape).Idx → EReal) (r : Fin n) (k : Fin d) : EReal := v (ix2 r k)

theorem p113 (v2 v87 : FVec Ideal S512x512 .f32) (v392 v394 v396 v398 : Vec Ideal S1x512x128 .f32) (C P S : Vec Ideal S512x128 .f32) (r : Fin 512) (k : Fin 1536) :
    k0_pay113 v2 v87 v392 v394 v396 v398 C P S (ix2 r k) =
      rot (three (rowOf v2 r) (rowOf v87 r) (rowOf (cat4 v392 v394 v396 v398 shapeCasts_S1x512x128_S512x128 concatenates_S512x128_S512x128_S512x128_S512x128_S512x512_d1) r)) (rowOf C r) (rowOf P r) (rowOf S r) k := by
  unfold k0_pay113
  rw [show ∀ v : Vec Ideal S512x128 .f32, shapeCast S512x128 v shapeCasts_S512x128_S512x128 = v from fun v => shapeCast_self _ _]
  rw [show ∀ v : Vec Ideal S512x128 .f32, shapeCast S512x128 v shapeCasts_S512x128_S512x128 = v from fun v => shapeCast_self _ _]
  rw [show ∀ v : Vec Ideal S512x128 .f32, shapeCast S512x128 v shapeCasts_S512x128_S512x128 = v from fun v => shapeCast_self _ _]
  dsimp only
  rw [tile12 C, tile12 P, tile12 S]
  refine (rotated _ C P S rotates_S512x1536_d1 rotates_S512x1536_d1 r k).trans ?_
  refine congrArg (fun D => rot D (rowOf C r) (rowOf P r) (rowOf S r) k) (funext fun z => ?_)
  show concatenate S512x1536 1 [⟨S512x512, v2⟩, ⟨S512x512, v87⟩, ⟨S512x512, cat4 v392 v394 v396 v398 shapeCasts_S1x512x128_S512x128 concatenates_S512x128_S512x128_S512x128_S512x128_S512x512_d1⟩] concatenates_S512x512_S512x512_S512x512_S512x1536_d1 (ix2 r z) = _
  generalize cat4 v392 v394 v396 v398 shapeCasts_S1x512x128_S512x128 concatenates_S512x128_S512x128_S512x128_S512x128_S512x512_d1 = v400
  have hz := z.isLt
  pointwise []
  rfl

theorem p114 (v418 : FVec Ideal S512x1536 .bf16) (w : Vec Ideal S1536x1024 .bf16) (r : Fin 512) (j : Fin 1024) : k0_pay114 v418 w (ix2 r j) = ∑ k, v418 (ix2 r k) * w (ix2 k j) := by
  pointwise [k0_pay114]

section Norm
variable (v418 : FVec Ideal S512x1536 .bf16) (w : Vec Ideal S1536x1024 .bf16) (x v0 : Vec Ideal S512x1024 .f32) (g s : Vec Ideal S1x1024 .f32)

theorem p119 (z : Fin 1) (j : Fin 1024) : k0_pay119 v418 w (ix2 z j) = ∑ i, k0_pay114 v418 w (ix2 i j) := by
  unfold k0_pay119
  generalize k0_pay114 v418 w = d
  pointwise []

theorem p120 (z : Fin 1) (j : Fin 1024) : k0_pay120 v418 w x g (ix2 z j) = ∑ i, nrm (rowOf x i) j * g (ix2 0 j) * k0_pay114 v418 w (ix2 i j) := by
  unfold k0_pay120
  generalize k0_pay114 v418 w = d
  pointwise [k0_pay115, k0_pay118, k0_pay117, k0_pay116]
  rfl

theorem p122 (z : Fin 1) (j : Fin 1024) : k0_pay122 v418 w x s (ix2 z j) = ∑ i, nrm (rowOf x i) j * (k0_pay114 v418 w (ix2 i j) * (1 + s (ix2 0 j))) := by
  unfold k0_pay122 k0_pay121
  generalize k0_pay114 v418 w = d
  pointwise [k0_pay118, k0_pay117, k0_pay116]
  rfl

theorem p1 (r : Fin 512) (j : Fin 1024) :
    k0_pay1 x (k0_pay124 v418 w x g s) (k0_pay125 v418 w x g s) v0 (ix2 r j) =
      v0 (ix2 r j) + ngrad (rowOf x r) (wrow (rowOf g 0) (rowOf s 0) (rowOf (k0_pay114 v418 w) r)) j := by
  unfold k0_pay1 k0_pay124 k0_pay125 k0_pay123 k0_pay121
  generalize k0_pay114 v418 w = d
  pointwise [k0_pay118, k0_pay117, k0_pay116, k0_pay115]
  simp only [Finset.univ_unique, Finset.sum_singleton]
  rfl
end Norm

theorem p2 (a b c : FVec Ideal S1x1024 .f32) (r : Fin 8) (j : Fin 1024) :
    k0_pay2 a b c (ix2 r j) =
      if r.val < 1 then c (ix2 0 j) else if r.val - 1 < 1 then a (ix2 0 j) else if r.val - 1 - 1 < 1 then b (ix2 0 j) else 0 := by
  have e : ∀ (v : FVec Ideal S1x1024 .f32) (z : Fin 1), v (ix2 z j) = v (ix2 0 j) := fun v z => by rw [Subsingleton.elim z 0]
  pointwise [k0_pay2]
  split_ifs <;> first | exact e _ _ | rfl

theorem p3 (a b c : FVec Ideal S1x1024 .f32) (w : Vec Ideal S8x1024 .f32) (r : Fin 8) (j : Fin 1024) :
    k0_pay3 a b c w (ix2 r j) = w (ix2 r j) + k0_pay2 a b c (ix2 r j) := by
  unfold k0_pay3
  generalize k0_pay2 a b c = z
  pointwise []

theorem p4 (v : Vec Ideal S1x512x512 .bf16) (r k : Fin 512) : k0_pay4 v (ix2 r k) = v (ix3 0 r k) := by
  pointwise [k0_pay4]

end Cert.QbIdeal.Pure
-- ==== Proof.QbOut.lean ====
module

public import proofs.«01_k».proof.Proof.Gen.QbIdeal.Value
public import proofs.«01_k».proof.Proof.QbPure
public import proofs.«01_k».proof.Proof.Rope

@[expose] public section

set_option maxRecDepth 16384

noncomputable section

namespace Cert.QbIdeal.Out

open Cert.QbIdeal Cert.QbIdeal.Gen Idealize.ShloMosaic Idealize.ShloMosaic.TcCoe
open Pure Rope

/-- The loads of the blocks. -/
theorem ldX {S : Shape} {e : EltTy} {M : Memref sig .tc .vmem S e} (hM : M.IsWhole) (X : S.Idx → Elt Ideal e) (r : Rect S) :
    View.readAt (Elt Ideal) M.view r.toLoadRect (hM.unread X) = View.ld (Val := Elt Ideal) (e' := e) X r := Base.readAt_ld hM X r

section Stored

variable (c : Dev nD) (arg2 : Memref sig .tc .vmem S4x128x512 .bf16) (harg2 : arg2.IsWhole) (arg3 : Memref sig .tc .vmem S16x32x512 .bf16) (harg3 : arg3.IsWhole) (x1 : Vec Ideal S4x128x512 .bf16) (x2 : Vec Ideal S16x32x512 .bf16) (arg14 : Memref sig .tc .vmem S4x512x128 .f32)

set_option maxHeartbeats 4000000 in
/-- The rows of the second group's residues are stored where they belong. -/
theorem stA16 : ∀ p ∈ (kernelRun0_A.sl.HS0_16 (F := Ideal) c arg2 harg2 x1).take 16, ∀ y : p.1.shape.Idx, p.2 y = (stage (d := 4) (n := 128) rfl x1 : Stage.Idx → Elt Ideal .f32) (p.1.emb y) := by
  delta kernelRun0_A.sl.HS0_16 kernelRun0_A.sl.r_1 kernelRun0_A.sl.r_2 kernelRun0_A.sl.r_3
  simp only [List.take_succ_cons, List.take_zero, List.forall_mem_cons, ldX]
  refine ⟨?_, ?_, ?_, ?_, ?_, ?_, ?_, ?_, ?_, ?_, ?_, ?_, ?_, ?_, ?_, ?_, fun _ h => absurd h List.not_mem_nil⟩
  all_goals intro y
  all_goals iterate 2 try delta k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25
  all_goals dsimp only
  all_goals exact piece (d := 4) (n := 128) rfl x1 (by decide) (by decide) (by decide) _ _ _ _ _ _ _ y

set_option maxHeartbeats 1000000 in
/-- Every residue's rows are among them. -/
theorem cvA16 (j : Fin 4) : ∀ r : Fin 4, ∃ p ∈ (kernelRun0_A.sl.HS0_16 (F := Ideal) c arg2 harg2 x1).take 16, ∃ inb pos, p.1 = rc (d := 4) (n := 128) j.val r.val inb pos := by
  have e : ∀ (j : Fin 4) (r : Fin 4), ∃ inb pos v, ((kernelRun0_A.sl.HS0_16 (F := Ideal) c arg2 harg2 x1).take 16)[(3 - r.val) * 4 + (3 - j.val)]? = some ⟨rc (d := 4) (n := 128) j.val r.val inb pos, v⟩ := by
    delta kernelRun0_A.sl.HS0_16
    simp only [List.take_succ_cons, List.take_zero]
    intro j r
    fin_cases j <;> fin_cases r <;> exact ⟨_, _, _, rfl⟩
  intro r
  obtain ⟨inb, pos, v, h⟩ := e j r
  exact ⟨_, List.mem_of_getElem? h, inb, pos, rfl⟩

set_option maxHeartbeats 4000000 in
/-- The rows of the third group's residues are stored where they belong. -/
theorem stA80 : ∀ p ∈ (kernelRun0_A.sl.HS0_80 (F := Ideal) c arg2 harg2 arg3 harg3 x1 x2).take 64, ∀ y : p.1.shape.Idx, p.2 y = (stage (d := 16) (n := 32) rfl x2 : Stage.Idx → Elt Ideal .f32) (p.1.emb y) := by
  delta kernelRun0_A.sl.HS0_80 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18
  simp only [List.take_succ_cons, List.take_zero, List.forall_mem_cons, ldX]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  all_goals intro y
  all_goals iterate 2 try delta k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110 k0_pay111 k0_pay112
  all_goals dsimp only
  all_goals exact piece (d := 16) (n := 32) rfl x2 (by decide) (by decide) (by decide) _ _ _ _ _ _ _ y

set_option maxHeartbeats 1000000 in
/-- Every residue's rows are among them. -/
theorem cvA80 (j : Fin 4) : ∀ r : Fin 16, ∃ p ∈ (kernelRun0_A.sl.HS0_80 (F := Ideal) c arg2 harg2 arg3 harg3 x1 x2).take 64, ∃ inb pos, p.1 = rc (d := 16) (n := 32) j.val r.val inb pos := by
  have e : ∀ (j : Fin 4) (r : Fin 16), ∃ inb pos v, ((kernelRun0_A.sl.HS0_80 (F := Ideal) c arg2 harg2 arg3 harg3 x1 x2).take 64)[(15 - r.val) * 4 + (3 - j.val)]? = some ⟨rc (d := 16) (n := 32) j.val r.val inb pos, v⟩ := by
    delta kernelRun0_A.sl.HS0_80
    simp only [List.take_succ_cons, List.take_zero]
    intro j r
    fin_cases j <;> fin_cases r <;> exact ⟨_, _, _, rfl⟩
  intro r
  obtain ⟨inb, pos, v, h⟩ := e j r
  exact ⟨_, List.mem_of_getElem? h, inb, pos, rfl⟩

/-- A load of one group of lanes gives the rows merged from their residues. -/
theorem key16 (j : ℕ) (hj : j < 4) (inb : ∀ a, (![j, 0, 0] : Fin 3 → ℕ) a + (![1, 512, 128] : Fin 3 → ℕ) a ≤ (![4, 512, 128] : Fin 3 → ℕ) a) (r : Fin 512) (k : Fin 128) :
    arg14.view.readCov (kernelRun0_A.sl.HS0_16 (F := Ideal) c arg2 harg2 x1) (Rect.unit (s := Stage) ![j, 0, 0] ![1, 512, 128] inb).toLoadRect (ix3 0 r k) = mrow (d := 4) (n := 128) rfl x1 r ⟨128 * j + k.val, by omega⟩ := by
  have e := load (d := 4) (n := 128) rfl x1 arg14.view ((kernelRun0_A.sl.HS0_16 (F := Ideal) c arg2 harg2 x1).take 16) ((kernelRun0_A.sl.HS0_16 (F := Ideal) c arg2 harg2 x1).drop 16) j hj inb (stA16 c arg2 harg2 x1) (cvA16 c arg2 harg2 x1 ⟨j, hj⟩)
  rw [List.take_append_drop] at e
  exact congrFun e (ix3 0 r k)

/-- A load of one group of lanes gives the rows merged from their residues. -/
theorem key80 (j : ℕ) (hj : j < 4) (inb : ∀ a, (![j, 0, 0] : Fin 3 → ℕ) a + (![1, 512, 128] : Fin 3 → ℕ) a ≤ (![4, 512, 128] : Fin 3 → ℕ) a) (r : Fin 512) (k : Fin 128) :
    arg14.view.readCov (kernelRun0_A.sl.HS0_80 (F := Ideal) c arg2 harg2 arg3 harg3 x1 x2) (Rect.unit (s := Stage) ![j, 0, 0] ![1, 512, 128] inb).toLoadRect (ix3 0 r k) = mrow (d := 16) (n := 32) rfl x2 r ⟨128 * j + k.val, by omega⟩ := by
  have e := load (d := 16) (n := 32) rfl x2 arg14.view ((kernelRun0_A.sl.HS0_80 (F := Ideal) c arg2 harg2 arg3 harg3 x1 x2).take 64) ((kernelRun0_A.sl.HS0_80 (F := Ideal) c arg2 harg2 arg3 harg3 x1 x2).drop 64) j hj inb (stA80 c arg2 harg2 arg3 harg3 x1 x2) (cvA80 c arg2 harg2 arg3 harg3 x1 x2 ⟨j, hj⟩)
  rw [List.take_append_drop] at e
  exact congrFun e (ix3 0 r k)

/-- The second group's part, merged from its residues. -/
theorem r4 : kernelRun0_A.sl.r_4 (F := Ideal) c arg2 harg2 arg14 x1 = fun y => mrow (d := 4) (n := 128) rfl x1 (y 0) (y 1) := by
  delta kernelRun0_A.sl.r_4 k0_pay26
  exact beside (d := 4) (n := 128) rfl x1 _ _ _ _ (key16 c arg2 harg2 x1 arg14 0 (by decide) _) (key16 c arg2 harg2 x1 arg14 1 (by decide) _) (key16 c arg2 harg2 x1 arg14 2 (by decide) _) (key16 c arg2 harg2 x1 arg14 3 (by decide) _) _ _ _ _ _

/-- The third group's part, merged from its residues. -/
theorem c80 (h hc) :
    cat4 (kernelRun0_A.sl.v392 (F := Ideal) c arg2 harg2 arg3 harg3 arg14 x1 x2) (kernelRun0_A.sl.v394 (F := Ideal) c arg2 harg2 arg3 harg3 arg14 x1 x2) (kernelRun0_A.sl.v396 (F := Ideal) c arg2 harg2 arg3 harg3 arg14 x1 x2) (kernelRun0_A.sl.v398 (F := Ideal) c arg2 harg2 arg3 harg3 arg14 x1 x2) h hc = fun y => mrow (d := 16) (n := 32) rfl x2 (y 0) (y 1) := by
  delta kernelRun0_A.sl.v392 kernelRun0_A.sl.v394 kernelRun0_A.sl.v396 kernelRun0_A.sl.v398
  exact beside (d := 16) (n := 32) rfl x2 _ _ _ _ (key80 c arg2 harg2 arg3 harg3 x1 x2 arg14 0 (by decide) _) (key80 c arg2 harg2 arg3 harg3 x1 x2 arg14 1 (by decide) _) (key80 c arg2 harg2 arg3 harg3 x1 x2 arg14 2 (by decide) _) (key80 c arg2 harg2 arg3 harg3 x1 x2 arg14 3 (by decide) _) _ _ _ _ _

end Stored

section Loads
variable (m : (ℓ : Loc nD τ sig) → Buf (Elt Ideal) ℓ) (c : Dev nD) (t : Fin cfg0.N)

/-- A row of the block of vectors. -/
abbrev row (k : ℕ) (inb : ∀ a, (![k, 0] : Fin 2 → ℕ) a + S1x1024.size a ≤ S8x1024.size a) (X : Vec Ideal S8x1024 .f32) : Vec Ideal S1x1024 .f32 :=
  View.ld (Val := Elt Ideal) (e' := .f32) X (Rect.unit ![k, 0] S1x1024.size inb)

abbrev b0 : Vec Ideal S1x512x512 .bf16 := iblk m c 0 t
abbrev b1 : Vec Ideal S4x128x512 .bf16 := iblk m c 1 t
abbrev b2 : Vec Ideal S16x32x512 .bf16 := iblk m c 2 t
abbrev bX : Vec Ideal S512x1024 .f32 := iblk m c 3 t
abbrev bO : Vec Ideal S512x1024 .f32 := iblk m c 4 t
abbrev vG : Vec Ideal S1x1024 .f32 := row 0 inb_S8x1024_S1x1024_0_0 (iblk m c 5 t)
abbrev vS : Vec Ideal S1x1024 .f32 := row 2 inb_S8x1024_S1x1024_2_0 (iblk m c 5 t)
abbrev wT : Vec Ideal S1536x1024 .bf16 := iblk m c 6 t
abbrev tC : Vec Ideal S512x128 .f32 := iblk m c 7 t
abbrev tP : Vec Ideal S512x128 .f32 := iblk m c 8 t
abbrev tS : Vec Ideal S512x128 .f32 := iblk m c 9 t

/-- A block's cotangents of the three groups' rotated parts, turned back. -/
def dR : FVec Ideal S512x1536 .bf16 := fun y =>
  rot (three (fun k => b0 m c t (ix3 0 (y 0) k)) (mrow (d := 4) (n := 128) rfl (b1 m c t) (y 0)) (mrow (d := 16) (n := 32) rfl (b2 m c t) (y 0))) (rowOf (tC m c t) (y 0)) (rowOf (tP m c t) (y 0)) (rowOf (tS m c t) (y 0)) (y 1)

abbrev dX : FVec Ideal S512x1024 .f32 := k0_pay1 (bX m c t) (k0_pay124 (dR m c t) (wT m c t) (bX m c t) (vG m c t) (vS m c t)) (k0_pay125 (dR m c t) (wT m c t) (bX m c t) (vG m c t) (vS m c t)) (bO m c t)

/-- A block's shares of the vectors' gradients. -/
abbrev pSh : FVec Ideal S1x1024 .f32 := k0_pay119 (dR m c t) (wT m c t)
abbrev pSc : FVec Ideal S1x1024 .f32 := k0_pay120 (dR m c t) (wT m c t) (bX m c t) (vG m c t)
abbrev pG : FVec Ideal S1x1024 .f32 := k0_pay122 (dR m c t) (wT m c t) (bX m c t) (vS m c t)

abbrev prev (h : 1 ≤ t.val) := outsAt0 m c (t.val - 1) (Nat.lt_of_le_of_lt (Nat.sub_le _ _) t.isLt)

theorem r19 : kernelRun0_A.sl.r_19 (F := Ideal) c (ms0_0 t) (hs0_0 t) (ms0_1 t) (hs0_1 t) (ms0_2 t) (hs0_2 t) (ms0_7 t) (hs0_7 t) (ms0_8 t) (hs0_8 t) (ms0_9 t) (hs0_9 t) scM0_0 (iblk m c 0 t) (iblk m c 1 t) (iblk m c 2 t) (iblk m c 7 t) (iblk m c 8 t) (iblk m c 9 t) = dR m c t := by
  delta kernelRun0_A.sl.r_19 kernelRun0_A.sl.r
  simp only [Base.readAt_whole (hs0_0 t) _ Base.hz3, Base.readAt_whole (hs0_7 t) _ Base.hz2, Base.readAt_whole (hs0_8 t) _ Base.hz2, Base.readAt_whole (hs0_9 t) _ Base.hz2]
  refine Base.ext2 fun r k => ?_
  rw [p113, r4, c80, show rowOf (k0_pay4 (iblk m c 0 t)) r = fun k => b0 m c t (ix3 0 r k) from funext (p4 _ r)]
  rfl

section A
variable (h0 : t.val % 16 = 0) (h1 : ¬1 ≤ t.val)

include h0 h1 in
theorem a10 : (outsAt0 m c t.val t.isLt).1 = dX m c t := by
  rw [outsAt0_A m c t h0 h1]
  dsimp only
  unfold out0_A_10
  rw [View.read_writes_junk_eq_canon]
  unfold kernelRun0_A
  dsimp only
  rw [View.canon_unit_zero Base.hz2]
  delta kernelRun0_A.sl.r_24 kernelRun0_A.sl.r_25 kernelRun0_A.sl.r_20
  simp only [r19, Base.readAt_whole (hs0_3 t) _ Base.hz2, Base.readAt_whole (hs0_4 t) _ Base.hz2, Base.readAt_whole (hs0_6 t) _ Base.hz2, Base.readAt_whole (hs0_12 t) _ Base.hz2, ldX]
  try rfl

include h0 h1 in
theorem a11 : (outsAt0 m c t.val t.isLt).2.1 = dR m c t := by
  rw [outsAt0_A m c t h0 h1]
  dsimp only
  unfold out0_A_11
  rw [View.read_writes_junk_eq_canon]
  unfold kernelRun0_A
  dsimp only
  rw [View.canon_unit_zero Base.hz2]
  exact r19 m c t

include h0 h1 in
theorem a12 : (outsAt0 m c t.val t.isLt).2.2 = k0_pay2 (pSh m c t) (pSc m c t) (pG m c t) := by
  rw [outsAt0_A m c t h0 h1]
  dsimp only
  unfold out0_A_12
  rw [View.read_writes_junk_eq_canon]
  unfold kernelRun0_A
  dsimp only
  rw [View.canon_unit_zero Base.hz2]
  delta kernelRun0_A.sl.r_21 kernelRun0_A.sl.r_22 kernelRun0_A.sl.r_23
  simp only [r19, Base.readAt_whole (hs0_3 t) _ Base.hz2, Base.readAt_whole (hs0_4 t) _ Base.hz2, Base.readAt_whole (hs0_6 t) _ Base.hz2, Base.readAt_whole (hs0_12 t) _ Base.hz2, ldX]
  try rfl

end A

section B
variable (h0 : ¬t.val % 16 = 0) (h1 : 1 ≤ t.val)

include h0 h1 in
theorem b10 : (outsAt0 m c t.val t.isLt).1 = dX m c t := by
  rw [outsAt0_B m c t h0 h1]
  dsimp only
  unfold out0_B_10
  rw [View.read_writes_junk_eq_canon]
  unfold kernelRun0_B
  dsimp only
  rw [View.canon_unit_zero Base.hz2]
  delta kernelRun0_B.sl.r_24 kernelRun0_B.sl.r_25 kernelRun0_B.sl.r_20
  rw [show @kernelRun0_B.sl.r_19 = @kernelRun0_A.sl.r_19 from rfl]
  simp only [r19, Base.readAt_whole (hs0_3 t) _ Base.hz2, Base.readAt_whole (hs0_4 t) _ Base.hz2, Base.readAt_whole (hs0_6 t) _ Base.hz2, Base.readAt_whole (hs0_12 t) _ Base.hz2, ldX]
  try rfl

include h0 h1 in
theorem b11 : (outsAt0 m c t.val t.isLt).2.1 = dR m c t := by
  rw [outsAt0_B m c t h0 h1]
  dsimp only
  unfold out0_B_11
  rw [View.read_writes_junk_eq_canon]
  unfold kernelRun0_B
  dsimp only
  rw [View.canon_unit_zero Base.hz2]
  exact r19 m c t

include h0 h1 in
theorem b12 : (outsAt0 m c t.val t.isLt).2.2 = k0_pay3 (pSh m c t) (pSc m c t) (pG m c t) (prev m c t h1).2.2 := by
  rw [outsAt0_B m c t h0 h1]
  dsimp only
  unfold out0_B_12
  rw [View.read_writes_junk_eq_canon]
  unfold kernelRun0_B
  dsimp only
  rw [View.canon_unit_zero Base.hz2]
  delta kernelRun0_B.sl.r_21 kernelRun0_B.sl.r_22 kernelRun0_B.sl.r_23
  rw [show @kernelRun0_B.sl.r_19 = @kernelRun0_A.sl.r_19 from rfl]
  simp only [r19, Base.readAt_whole (hs0_3 t) _ Base.hz2, Base.readAt_whole (hs0_4 t) _ Base.hz2, Base.readAt_whole (hs0_6 t) _ Base.hz2, Base.readAt_whole (hs0_12 t) _ Base.hz2, ldX]
  try rfl

end B

end Loads

end Cert.QbIdeal.Out
-- ==== Proof.RopeSpec.lean ====
module

public import proofs.«01_k».proof.Proof.Rope

@[expose] public section

noncomputable section

namespace Cert.RopeSpec

open Idealize.ShloMosaic Base Rope

/-- What both programs compute with: the cotangents `D` of the projected rows, side by side, of which the first 1536 columns were rotated by the tables `C`, `P` and `S`;
the rows `X`, the cotangent `O`, the norm's factor `G`, the scale `H` and the weights `W`. -/
structure Args (N : ℕ) where
  D : Fin 8192 → Fin N → EReal
  C : Fin 8192 → Fin 128 → EReal
  P : Fin 8192 → Fin 128 → EReal
  S : Fin 8192 → Fin 128 → EReal
  O : Fin 8192 → Fin 1024 → EReal
  X : Fin 8192 → Fin 1024 → EReal
  G : Fin 1024 → EReal
  H : Fin 1024 → EReal
  W : Fin N → Fin 1024 → EReal
  hN : 1536 ≤ N

variable {N : ℕ} (a : Args N)

/-- The cotangent of the projected rows before the rotation. -/
def pr (i : Fin 8192) (k : Fin N) : EReal :=
  if h : k.val < 1536 then rot (fun z => a.D i ⟨z.val, Nat.lt_of_lt_of_le z.isLt a.hN⟩) (a.C i) (a.P i) (a.S i) ⟨k.val, h⟩ else a.D i k

/-- The cotangent of the modulated rows. -/
def dh (i : Fin 8192) (j : Fin 1024) : EReal := ∑ k, pr a i k * a.W k j

/-- The cotangent of the normalised row. -/
def wr (i : Fin 8192) (j : Fin 1024) : EReal := dh a i j * (1 + a.H j) * a.G j

def dx (i : Fin 8192) (j : Fin 1024) : EReal := a.O i j + ngrad (a.X i) (wr a i) j

/-- A row's share of the vectors' gradients. -/
def part (i : Fin 8192) (r : Fin 8) (j : Fin 1024) : EReal :=
  if r.val < 1 then nrm (a.X i) j * (dh a i j * (1 + a.H j)) else if r.val - 1 < 1 then dh a i j else
  if r.val - 1 - 1 < 1 then nrm (a.X i) j * a.G j * dh a i j else 0

end Cert.RopeSpec
-- ==== Proof.QbVal.lean ====
module

public import proofs.«01_k».proof.Proof.At
public import proofs.«01_k».proof.Proof.QbOut
public import proofs.«01_k».proof.Proof.RopeSpec

@[expose] public section

set_option maxRecDepth 16384

noncomputable section

namespace Cert.QbIdeal.Val

open Cert.QbIdeal Cert.QbIdeal.Gen Idealize.ShloMosaic Idealize.ShloMosaic.TcCoe Idealize.SL.Sem
open Idealize.ShloMosaic.Pipeline (Dat)
open Base Pure Out Rope RopeSpec

variable (m : (ℓ : Loc nD τ sig) → Buf (Elt Ideal) ℓ) (c : Dev nD)

/-- The row of the whole matrix that is row `r` of the block of point `t`. -/
def at_ (t : Fin cfg0.N) (r : Fin 512) : Fin 8192 := ⟨512 * t.val + r.val, by have := t.isLt; have e : cfg0.N = 16 := rfl; omega⟩

/-- The rows of a group, merged from its `d` residues of 8192 / `d` rows each. -/
def merged {d n : ℕ} (hdn : n * d = 8192) (Y : (⟨3, ![d, n, 512]⟩ : Shape).Idx → EReal) (i : Fin 8192) (k : Fin 512) : EReal :=
  Y (ix3 ⟨i.val % d, Nat.mod_lt _ (Nat.pos_of_ne_zero fun h => by subst h; omega)⟩ ⟨i.val / d, Nat.div_lt_of_lt_mul (by rw [Nat.mul_comm, hdn]; exact i.isLt)⟩ k)

/-- What the call reads. -/
def K : Args 1536 where
  D i := three (fun k => V m c main_v8 (ix3 0 i k)) (merged (d := 4) (n := 2048) rfl (V m c main_v12) i) (merged (d := 16) (n := 512) rfl (V m c main_v16) i)
  C i k := V m c main_v53 (ix2 i k)
  P i k := V m c main_v60 (ix2 i k)
  S i k := V m c main_v65 (ix2 i k)
  O i j := V m c main_arg9 (ix2 i j)
  X i j := V m c main_arg0 (ix2 i j)
  G j := V m c main_v4 (ix2 0 j)
  H j := V m c main_v4 (ix2 2 j)
  W k j := V m c main_v18 (ix2 k j)
  hN := Nat.le_refl _

theorem emb3 (t : Fin cfg0.N) (r : Fin 512) (k : Fin 1024) : (win0_3.rect t).emb (ix2 r k) = ix2 (at_ t r) k :=
  at2 (fun a => win0_3.rect_emb_val t _ a) (by revert t; decide +kernel) rfl rfl

theorem emb4 (t : Fin cfg0.N) (r : Fin 512) (k : Fin 1024) : (win0_4.rect t).emb (ix2 r k) = ix2 (at_ t r) k :=
  at2 (fun a => win0_4.rect_emb_val t _ a) (by revert t; decide +kernel) rfl rfl

theorem emb7 (t : Fin cfg0.N) (r : Fin 512) (k : Fin 128) : (win0_7.rect t).emb (ix2 r k) = ix2 (at_ t r) k :=
  at2 (fun a => win0_7.rect_emb_val t _ a) (by revert t; decide +kernel) rfl rfl

theorem emb8 (t : Fin cfg0.N) (r : Fin 512) (k : Fin 128) : (win0_8.rect t).emb (ix2 r k) = ix2 (at_ t r) k :=
  at2 (fun a => win0_8.rect_emb_val t _ a) (by revert t; decide +kernel) rfl rfl

theorem emb9 (t : Fin cfg0.N) (r : Fin 512) (k : Fin 128) : (win0_9.rect t).emb (ix2 r k) = ix2 (at_ t r) k :=
  at2 (fun a => win0_9.rect_emb_val t _ a) (by revert t; decide +kernel) rfl rfl

theorem emb10 (t : Fin cfg0.N) (r : Fin 512) (k : Fin 1024) : (win0_10.rect t).emb (ix2 r k) = ix2 (at_ t r) k :=
  at2 (fun a => win0_10.rect_emb_val t _ a) (by revert t; decide +kernel) rfl rfl

theorem emb11 (t : Fin cfg0.N) (r : Fin 512) (k : Fin 1536) : (win0_11.rect t).emb (ix2 r k) = ix2 (at_ t r) k :=
  at2 (fun a => win0_11.rect_emb_val t _ a) (by revert t; decide +kernel) rfl rfl

theorem emb5 (t : Fin cfg0.N) (r : Fin 8) (k : Fin 1024) : (win0_5.rect t).emb (ix2 r k) = ix2 r k :=
  at2 (q := 0) (fun a => win0_5.rect_emb_val t _ a) (by revert t; decide +kernel) (Nat.zero_add _) rfl

theorem emb6 (t : Fin cfg0.N) (r : Fin 1536) (k : Fin 1024) : (win0_6.rect t).emb (ix2 r k) = ix2 r k :=
  at2 (q := 0) (fun a => win0_6.rect_emb_val t _ a) (by revert t; decide +kernel) (Nat.zero_add _) rfl

theorem emb12 (t : Fin cfg0.N) (r : Fin 8) (k : Fin 1024) : (win0_12.rect t).emb (ix2 r k) = ix2 r k :=
  at2 (q := 0) (fun a => win0_12.rect_emb_val t _ a) (by revert t; decide +kernel) (Nat.zero_add _) rfl

theorem emb0 (t : Fin cfg0.N) (a : Fin 1) (r : Fin 512) (k : Fin 512) : (win0_0.rect t).emb (ix3 a r k) = ix3 a ⟨512 * t.val + r.val, by have := t.isLt; have e : cfg0.N = 16 := rfl; omega⟩ k :=
  at3 (p := 0) (fun a => win0_0.rect_emb_val t _ a) (by revert t; decide +kernel) (Nat.zero_add _) rfl rfl

theorem emb1 (t : Fin cfg0.N) (a : Fin 4) (r : Fin 128) (k : Fin 512) : (win0_1.rect t).emb (ix3 a r k) = ix3 a ⟨128 * t.val + r.val, by have := t.isLt; have e : cfg0.N = 16 := rfl; omega⟩ k :=
  at3 (p := 0) (fun a => win0_1.rect_emb_val t _ a) (by revert t; decide +kernel) (Nat.zero_add _) rfl rfl

theorem emb2 (t : Fin cfg0.N) (a : Fin 16) (r : Fin 32) (k : Fin 512) : (win0_2.rect t).emb (ix3 a r k) = ix3 a ⟨32 * t.val + r.val, by have := t.isLt; have e : cfg0.N = 16 := rfl; omega⟩ k :=
  at3 (p := 0) (fun a => win0_2.rect_emb_val t _ a) (by revert t; decide +kernel) (Nat.zero_add _) rfl rfl

theorem hX (t : Fin cfg0.N) (r : Fin 512) (k : Fin 1024) : bX m c t (ix2 r k) = (K m c).X (at_ t r) k := by
  show V m c main_arg0 ((win0_3.rect t).emb (ix2 r k)) = V m c main_arg0 (ix2 (at_ t r) k)
  rw [emb3]

theorem hO (t : Fin cfg0.N) (r : Fin 512) (k : Fin 1024) : bO m c t (ix2 r k) = (K m c).O (at_ t r) k := by
  show V m c main_arg9 ((win0_4.rect t).emb (ix2 r k)) = V m c main_arg9 (ix2 (at_ t r) k)
  rw [emb4]

theorem hC (t : Fin cfg0.N) (r : Fin 512) (k : Fin 128) : tC m c t (ix2 r k) = (K m c).C (at_ t r) k := by
  show V m c main_v53 ((win0_7.rect t).emb (ix2 r k)) = V m c main_v53 (ix2 (at_ t r) k)
  rw [emb7]

theorem hP (t : Fin cfg0.N) (r : Fin 512) (k : Fin 128) : tP m c t (ix2 r k) = (K m c).P (at_ t r) k := by
  show V m c main_v60 ((win0_8.rect t).emb (ix2 r k)) = V m c main_v60 (ix2 (at_ t r) k)
  rw [emb8]

theorem hS (t : Fin cfg0.N) (r : Fin 512) (k : Fin 128) : tS m c t (ix2 r k) = (K m c).S (at_ t r) k := by
  show V m c main_v65 ((win0_9.rect t).emb (ix2 r k)) = V m c main_v65 (ix2 (at_ t r) k)
  rw [emb9]

theorem hW (t : Fin cfg0.N) (j : Fin 1536) (k : Fin 1024) : wT m c t (ix2 j k) = (K m c).W j k := by
  show V m c main_v18 ((win0_6.rect t).emb (ix2 j k)) = V m c main_v18 (ix2 j k)
  rw [emb6]

theorem hG (t : Fin cfg0.N) (j : Fin 1024) : Out.vG m c t (ix2 0 j) = (K m c).G j := by
  show V m c main_v4 ((win0_5.rect t).emb ((Rect.unit (s := S8x1024) ![0, 0] S1x1024.size inb_S8x1024_S1x1024_0_0).emb (ix2 0 j))) = V m c main_v4 (ix2 0 j)
  rw [show (Rect.unit (s := S8x1024) ![0, 0] S1x1024.size inb_S8x1024_S1x1024_0_0).emb (ix2 0 j) = ix2 0 j from by
    funext a
    match a with
    | ⟨0, _⟩ => rfl
    | ⟨1, _⟩ => exact Fin.ext (by show 0 + 1 * j.val = j.val; omega), emb5]

theorem hH (t : Fin cfg0.N) (j : Fin 1024) : Out.vS m c t (ix2 0 j) = (K m c).H j := by
  show V m c main_v4 ((win0_5.rect t).emb ((Rect.unit (s := S8x1024) ![2, 0] S1x1024.size inb_S8x1024_S1x1024_2_0).emb (ix2 0 j))) = V m c main_v4 (ix2 2 j)
  rw [show (Rect.unit (s := S8x1024) ![2, 0] S1x1024.size inb_S8x1024_S1x1024_2_0).emb (ix2 0 j) = ix2 2 j from by
    funext a
    match a with
    | ⟨0, _⟩ => rfl
    | ⟨1, _⟩ => exact Fin.ext (by show 0 + 1 * j.val = j.val; omega), emb5]

theorem h0 (t : Fin cfg0.N) (r k : Fin 512) : b0 m c t (ix3 0 r k) = V m c main_v8 (ix3 0 (at_ t r) k) := by
  show V m c main_v8 ((win0_0.rect t).emb (ix3 0 r k)) = _
  rw [emb0]
  rfl

theorem h1 (t : Fin cfg0.N) (r k : Fin 512) : mrow (d := 4) (n := 128) rfl (b1 m c t) r k = merged (d := 4) (n := 2048) rfl (V m c main_v12) (at_ t r) k := by
  show V m c main_v12 ((win0_1.rect t).emb (ix3 ⟨r.val % 4, _⟩ ⟨r.val / 4, _⟩ k)) = V m c main_v12 (ix3 ⟨(512 * t.val + r.val) % 4, _⟩ ⟨(512 * t.val + r.val) / 4, _⟩ k)
  rw [emb1]
  congr 2 <;> exact Fin.ext (by simp only []; omega)

theorem h2 (t : Fin cfg0.N) (r k : Fin 512) : mrow (d := 16) (n := 32) rfl (b2 m c t) r k = merged (d := 16) (n := 512) rfl (V m c main_v16) (at_ t r) k := by
  show V m c main_v16 ((win0_2.rect t).emb (ix3 ⟨r.val % 16, _⟩ ⟨r.val / 16, _⟩ k)) = V m c main_v16 (ix3 ⟨(512 * t.val + r.val) % 16, _⟩ ⟨(512 * t.val + r.val) / 16, _⟩ k)
  rw [emb2]
  congr 2 <;> exact Fin.ext (by simp only []; omega)

/-! ## One block -/

section Block
variable (t : Fin cfg0.N)

theorem bpr (r : Fin 512) (k : Fin 1536) : dR m c t (ix2 r k) = pr (K m c) (at_ t r) k := by
  unfold dR pr
  rw [dif_pos k.isLt]
  have e0 : (fun k => b0 m c t (ix3 0 r k)) = fun k => V m c main_v8 (ix3 0 (at_ t r) k) := funext fun k => h0 m c t r k
  have e1 : mrow (d := 4) (n := 128) rfl (b1 m c t) r = merged (d := 4) (n := 2048) rfl (V m c main_v12) (at_ t r) := funext fun k => h1 m c t r k
  have e2 : mrow (d := 16) (n := 32) rfl (b2 m c t) r = merged (d := 16) (n := 512) rfl (V m c main_v16) (at_ t r) := funext fun k => h2 m c t r k
  have e3 : rowOf (tC m c t) r = (K m c).C (at_ t r) := funext fun k => hC m c t r k
  have e4 : rowOf (tP m c t) r = (K m c).P (at_ t r) := funext fun k => hP m c t r k
  have e5 : rowOf (tS m c t) r = (K m c).S (at_ t r) := funext fun k => hS m c t r k
  show rot (three (fun k => b0 m c t (ix3 0 r k)) (mrow (d := 4) (n := 128) rfl (b1 m c t) r) (mrow (d := 16) (n := 32) rfl (b2 m c t) r)) (rowOf (tC m c t) r) (rowOf (tP m c t) r) (rowOf (tS m c t) r) k = _
  rw [e0, e1, e2, e3, e4, e5]
  rfl

abbrev dH : FVec Ideal S512x1024 .f32 := k0_pay114 (dR m c t) (wT m c t)

theorem bdh (r : Fin 512) (j : Fin 1024) : dH m c t (ix2 r j) = dh (K m c) (at_ t r) j := by
  rw [dH, p114]
  exact Finset.sum_congr rfl fun k _ => by rw [hW]; exact congrArg (· * _) (bpr m c t r k)

theorem bdx (r : Fin 512) (j : Fin 1024) : dX m c t (ix2 r j) = dx (K m c) (at_ t r) j := by
  rw [dX, p1, hO]
  have e1 : rowOf (bX m c t) r = (K m c).X (at_ t r) := funext fun k => hX m c t r k
  have e2 : wrow (rowOf (vG m c t) 0) (rowOf (vS m c t) 0) (rowOf (dH m c t) r) = wr (K m c) (at_ t r) := funext fun k => by
    show dH m c t (ix2 r k) * (1 + vS m c t (ix2 0 k)) * vG m c t (ix2 0 k) = _
    rw [bdh m c t, hH, hG]; rfl
  rw [e1, e2]
  rfl

theorem bpart (r : Fin 8) (j : Fin 1024) : k0_pay2 (pSh m c t) (pSc m c t) (pG m c t) (ix2 r j) = ∑ i, part (K m c) (at_ t i) r j := by
  have e1 : ∀ i, rowOf (bX m c t) i = (K m c).X (at_ t i) := fun i => funext fun k => hX m c t i k
  have e2 : ∀ i, k0_pay114 (dR m c t) (wT m c t) (ix2 i j) = dh (K m c) (at_ t i) j := fun i => bdh m c t i j
  rw [p2, pSh, pSc, pG, p119, p120, p122]
  unfold part
  split_ifs
  · exact Finset.sum_congr rfl fun i _ => by rw [e1, e2, hH]
  · exact Finset.sum_congr rfl fun i _ => e2 i
  · exact Finset.sum_congr rfl fun i _ => by rw [e1, e2, hG]
  · exact Finset.sum_const_zero.symm

end Block

/-! ## The points in order -/

theorem out10 (t : Fin cfg0.N) (r : Fin 512) (j : Fin 1024) : (outsAt0 m c t.val t.isLt).1 (ix2 r j) = dx (K m c) (at_ t r) j := by
  have hN : cfg0.N = 16 := rfl
  have ht := t.isLt
  by_cases h : t.val % 16 = 0
  · rw [a10 m c t h (by omega), bdx m c t]
  · rw [b10 m c t h (by omega), bdx m c t]

theorem out11 (t : Fin cfg0.N) (r : Fin 512) (j : Fin 1536) : (outsAt0 m c t.val t.isLt).2.1 (ix2 r j) = pr (K m c) (at_ t r) j := by
  have hN : cfg0.N = 16 := rfl
  have ht := t.isLt
  by_cases h : t.val % 16 = 0
  · rw [a11 m c t h (by omega), bpr m c t]
  · rw [b11 m c t h (by omega), bpr m c t]

theorem acc12 (n : Nat) (h : n < cfg0.N) (r : Fin 8) (j : Fin 1024) : (outsAt0 m c n h).2.2 (ix2 r j)
    = ∑ k : Fin (n + 1), ∑ i, part (K m c) (at_ ⟨k.val, Nat.lt_of_lt_of_le k.isLt h⟩ i) r j := by
  refine acc_sum (N := cfg0.N) (fun t (x : Fin 8 × Fin 1024) => (outsAt0 m c t.val t.isLt).2.2 (ix2 x.1 x.2))
    (fun t x => ∑ i, part (K m c) (at_ t i) x.1 x.2) ?_ ?_ n h (r, j)
  · intro h x
    exact (congrFun (a12 m c ⟨0, h⟩ rfl (by simp)) _).trans (bpart m c ⟨0, h⟩ _ _)
  · intro n h x
    have hN : cfg0.N = 16 := rfl
    exact (congrFun (b12 m c ⟨n + 1, h⟩ (by show ¬(n + 1) % 16 = 0; omega) (by show 1 ≤ n + 1; omega)) _).trans
      ((p3 _ _ _ _ _ _).trans (congrArg _ (bpart m c ⟨n + 1, h⟩ _ _)))

/-! ## The results -/

theorem final10 (r : Fin 8192) (k : Fin 1024) : (dats m 0 c).arrAt 10 cfg0.N (ix2 r k) = dx (K m c) r k := by
  let t : Fin cfg0.N := ⟨r.val / 512, by have := r.isLt; show _ < 16; omega⟩
  let i : Fin 512 := ⟨r.val % 512, Nat.mod_lt _ (by decide)⟩
  have er : at_ t i = r := Fin.ext (by show 512 * (r.val / 512) + r.val % 512 = r.val; omega)
  have h := congrFun (Value.blocks10 m c t (flush0_10 t)) (ix2 i k)
  rw [Value.flushed10] at h
  rw [← er]
  refine Eq.trans ?_ (h.trans (out10 m c t i k))
  show _ = (dats m 0 c).arrAt 10 cfg0.N ((win0_10.rect t).emb (ix2 i k))
  rw [emb10]

theorem final11 (r : Fin 8192) (k : Fin 1536) : (dats m 0 c).arrAt 11 cfg0.N (ix2 r k) = pr (K m c) r k := by
  let t : Fin cfg0.N := ⟨r.val / 512, by have := r.isLt; show _ < 16; omega⟩
  let i : Fin 512 := ⟨r.val % 512, Nat.mod_lt _ (by decide)⟩
  have er : at_ t i = r := Fin.ext (by show 512 * (r.val / 512) + r.val % 512 = r.val; omega)
  have h := congrFun (Value.blocks11 m c t (flush0_11 t)) (ix2 i k)
  rw [Value.flushed11] at h
  rw [← er]
  refine Eq.trans ?_ (h.trans (out11 m c t i k))
  show _ = (dats m 0 c).arrAt 11 cfg0.N ((win0_11.rect t).emb (ix2 i k))
  rw [emb11]

def last : Fin cfg0.N := ⟨15, by decide⟩

/-- The sum over the points is the sum over the rows. -/
theorem sum_rows (f : Fin 8192 → EReal) : ∑ k : Fin (15 + 1), ∑ i, f (at_ ⟨k.val, k.isLt⟩ i) = ∑ i, f i :=
  (sum_blocks 16 512 8192 (by decide) f (fun t r => ⟨512 * t.val + r.val, by omega⟩) fun _ _ => rfl).symm

theorem final12 (r : Fin 8) (j : Fin 1024) : (dats m 0 c).arrAt 12 cfg0.N (ix2 r j) = ∑ i, part (K m c) i r j := by
  have hd : ∀ t t' : Fin cfg0.N, (cfg0.win 12).flush t = true → (cfg0.win 12).flush t' = true → t ≠ t' →
      Disjoint ((cfg0.win 12).blk t).view.set ((cfg0.win 12).blk t').view.set := fun t t' h h' hne => by
    have e : cfg0.N = 16 := rfl
    have := t.isLt; have := t'.isLt; have := (flush0_12 t).mp h; have := (flush0_12 t').mp h'
    exact absurd (Fin.ext (by omega)) hne
  have h := congrFun ((dats m 0 c).read_blk_arrAt_eq_flushed 12 hd cfg0.N last last.isLt ((flush0_12 last).mpr rfl)) (ix2 r j)
  rw [Value.flushed12] at h
  refine Eq.trans ?_ (h.trans ((acc12 m c 15 last.isLt r j).trans (sum_rows fun i => part (K m c) i r j)))
  show _ = (dats m 0 c).arrAt 12 cfg0.N ((win0_12.rect last).emb (ix2 r j))
  rw [emb12]

end Cert.QbIdeal.Val
-- ==== Proof.RopeTurn.lean ====
module

public import proofs.«01_k».proof.Proof.RopeSpec

@[expose] public section

noncomputable section

namespace Cert.Rope

open Idealize.ShloMosaic Base

section Turn
variable (D : Fin 1536 → EReal) (c s : Fin 8 → EReal) (C P S : Fin 128 → EReal)

/-- The tables of lanes: the first sixteen lanes of a head turn, in pairs eight apart. -/
structure Tables : Prop where
  hC : ∀ l : Fin 128, C l = if l.val % 64 < 16 then c ⟨l.val % 8, Nat.mod_lt _ (by decide)⟩ else 1
  hP : ∀ l : Fin 128, P l = if 8 ≤ l.val % 64 ∧ l.val % 64 < 16 then s ⟨l.val % 8, Nat.mod_lt _ (by decide)⟩ else 0
  hS : ∀ l : Fin 128, S l = if l.val % 64 < 8 then -s ⟨l.val % 8, Nat.mod_lt _ (by decide)⟩ else 0

variable {c s C P S}

/-- The turned rows by lanes. -/
theorem turn (T : Tables c s C P S) (k : Fin 1536) : rot D C P S k =
    if h : k.val % 64 < 8 then D ⟨k.val + 8, by omega⟩ * s ⟨k.val % 64, h⟩ + D k * c ⟨k.val % 64, h⟩
    else if h' : k.val % 64 < 16 then D k * c ⟨k.val % 64 - 8, by omega⟩ + (-D ⟨k.val - 8, by omega⟩) * s ⟨k.val % 64 - 8, by omega⟩
    else D k := by
  have hk := k.isLt
  unfold rot
  rw [T.hC, T.hP, T.hS]
  simp only []
  by_cases h : k.val % 64 < 8
  · rw [dif_pos h, if_pos (by omega), if_pos (by omega), if_neg (by omega), mul_zero, add_zero, add_comm]
    refine congrArg₂ (· + ·) (congrArg₂ (· * ·) (congrArg D (Fin.ext ?_)) (congrArg s (Fin.ext ?_))) (congrArg (D k * ·) (congrArg c (Fin.ext ?_))) <;> (show _ = _) <;> simp only [] <;> omega
  by_cases h' : k.val % 64 < 16
  · rw [dif_neg h, dif_pos h', if_pos (by omega), if_neg (by omega), if_pos (by omega), mul_zero, add_zero, mul_neg, ← neg_mul]
    refine congrArg₂ (· + ·) (congrArg (D k * ·) (congrArg c (Fin.ext ?_))) (congrArg₂ (· * ·) (congrArg (fun z => -D z) (Fin.ext ?_)) (congrArg s (Fin.ext ?_))) <;> (show _ = _) <;> simp only [] <;> omega
  · rw [dif_neg h, dif_neg h', if_neg (by omega), if_neg (by omega), if_neg (by omega), mul_zero, mul_zero, add_zero, add_zero, mul_one]

/-- The three padded pieces add up to the turned rows. -/
theorem pads (D : Fin 1536 → EReal) (c s : Fin 8 → EReal) (k : Fin 1536) :
    ((if h : k.val / 64 < 24 ∧ 16 ≤ k.val % 64 ∧ k.val % 64 - 16 < 48 then D ⟨64 * (k.val / 64) + (16 + (k.val % 64 - 16)), by omega⟩ else 0) +
      (if h : k.val / 64 < 24 ∧ 8 ≤ k.val % 64 ∧ k.val % 64 - 8 < 8 then D ⟨64 * (k.val / 64) + (8 + (k.val % 64 - 8)), by omega⟩ * c ⟨k.val % 64 - 8, by omega⟩
        + -D ⟨64 * (k.val / 64) + (k.val % 64 - 8), by omega⟩ * s ⟨k.val % 64 - 8, by omega⟩ else 0)) +
      (if h : k.val / 64 < 24 ∧ k.val % 64 < 8 then D ⟨64 * (k.val / 64) + (8 + k.val % 64), by omega⟩ * s ⟨k.val % 64, h.2⟩
        + D ⟨64 * (k.val / 64) + k.val % 64, by omega⟩ * c ⟨k.val % 64, h.2⟩ else 0) =
    if h : k.val % 64 < 8 then D ⟨k.val + 8, by omega⟩ * s ⟨k.val % 64, h⟩ + D k * c ⟨k.val % 64, h⟩
    else if h' : k.val % 64 < 16 then D k * c ⟨k.val % 64 - 8, by omega⟩ + (-D ⟨k.val - 8, by omega⟩) * s ⟨k.val % 64 - 8, by omega⟩
    else D k := by
  have hk := k.isLt
  have key (n m : ℕ) (hn : n < 1536) (hm : m < 1536) (e : n = m) : D ⟨n, hn⟩ = D ⟨m, hm⟩ := by subst e; rfl
  by_cases h : k.val % 64 < 8
  · rw [dif_pos h, dif_neg (by omega), dif_neg (by omega), dif_pos ⟨by omega, h⟩, zero_add, zero_add,
      key (64 * (k.val / 64) + (8 + k.val % 64)) (k.val + 8) (by omega) (by omega) (by omega),
      key (64 * (k.val / 64) + k.val % 64) k.val (by omega) hk (by omega)]
  by_cases h' : k.val % 64 < 16
  · rw [dif_neg h, dif_pos h', dif_neg (by omega), dif_pos ⟨by omega, by omega, by omega⟩, dif_neg (by omega), zero_add, add_zero,
      key (64 * (k.val / 64) + (8 + (k.val % 64 - 8))) k.val (by omega) hk (by omega),
      key (64 * (k.val / 64) + (k.val % 64 - 8)) (k.val - 8) (by omega) (by omega) (by omega)]
  · rw [dif_neg h, dif_neg h', dif_pos ⟨by omega, by omega, by omega⟩, dif_neg (by omega), dif_neg (by omega), add_zero, add_zero,
      key (64 * (k.val / 64) + (16 + (k.val % 64 - 16))) k.val (by omega) hk (by omega)]

end Turn

end Cert.Rope
-- ==== Proof.QbRef.lean ====
module

public import proofs.«01_k».proof.Proof.Gen.QbRefIdeal.Read
public import proofs.«01_k».proof.Proof.RopeTurn

@[expose] public section

set_option maxRecDepth 16384

noncomputable section

namespace Cert.QbRefIdeal.Rd

open Cert.QbRefIdeal Cert.QbRefIdeal.Read Idealize.ShloMosaic
open Base Rope RopeSpec

variable (x0 : S8192x1024.Idx → EReal) (x1 x3 : S1024.Idx → EReal) (x4 : S1024x1536.Idx → EReal) (x5 : S8192.Idx → BitVec 32)
  (x6 x7 x8 : S8192x8x64.Idx → EReal) (x9 : S8192x1024.Idx → EReal)

/-- A row of a group's heads side by side. -/
def heads (x : S8192x8x64.Idx → EReal) (i : Fin 8192) (k : Fin 512) : EReal := x (ix3 i ⟨k.val / 64, by omega⟩ ⟨k.val % 64, by omega⟩)

/-- The cosines and sines of the rows' positions. -/
def cs (i : Fin 8192) (f : Fin 8) : EReal := val_main_v16 (F := Ideal) x5 (ix2 i f)
def sn (i : Fin 8192) (f : Fin 8) : EReal := val_main_v18 (F := Ideal) x5 (ix2 i f)

/-- What the reference computes with. -/
def R : Args 1536 where
  D i := three (heads x6 i) (heads x7 i) (heads x8 i)
  C i l := if l.val % 64 < 16 then cs x5 i ⟨l.val % 8, Nat.mod_lt _ (by decide)⟩ else 1
  P i l := if 8 ≤ l.val % 64 ∧ l.val % 64 < 16 then sn x5 i ⟨l.val % 8, Nat.mod_lt _ (by decide)⟩ else 0
  S i l := if l.val % 64 < 8 then -sn x5 i ⟨l.val % 8, Nat.mod_lt _ (by decide)⟩ else 0
  O i j := x9 (ix2 i j)
  X i j := x0 (ix2 i j)
  G j := x1 (ix1 j)
  H j := x3 (ix1 j)
  W k j := x4 (ix2 j k)
  hN := Nat.le_refl _

/-- The tables are those of the positions. -/
theorem tables (i : Fin 8192) : Tables (cs x5 i) (sn x5 i) ((R x0 x1 x3 x4 x5 x6 x7 x8 x9).C i) ((R x0 x1 x3 x4 x5 x6 x7 x8 x9).P i) ((R x0 x1 x3 x4 x5 x6 x7 x8 x9).S i) := ⟨fun _ => rfl, fun _ => rfl, fun _ => rfl⟩

theorem r61 (i : Fin 8192) (h : Fin 24) (e : Fin 64) : val_main_v61 (F := Ideal) x6 x7 x8 (ix3 i h e) = (R x0 x1 x3 x4 x5 x6 x7 x8 x9).D i ⟨64 * h.val + e.val, by omega⟩ := by
  have hh := h.isLt
  have he := e.isLt
  show _ = three (heads x6 i) (heads x7 i) (heads x8 i) _
  pointwise [val_main_v61]
  unfold three heads
  simp only []
  have q0 : 64 * h.val + e.val < 512 ↔ h.val < 8 := by omega
  have q1 : 64 * h.val + e.val - 512 < 512 ↔ h.val - 8 < 8 := by omega
  simp only [q0, q1]
  split_ifs
  all_goals (refine congrArg _ (congrArg₂ (ix3 i) (Fin.ext ?_) (Fin.ext ?_)) <;> (show _ = _) <;> dsimp only <;> omega)

set_option maxHeartbeats 1000000 in
theorem r81 (i : Fin 8192) (k : Fin 1536) : val_main_v81 (F := Ideal) x5 x6 x7 x8 (ix2 i k) = pr (R x0 x1 x3 x4 x5 x6 x7 x8 x9) i k := by
  have hk := k.isLt
  unfold pr
  rw [dif_pos hk, turn _ (tables x0 x1 x3 x4 x5 x6 x7 x8 x9 i)]
  have e61 := r61 x0 x1 x3 x4 x5 x6 x7 x8 x9 i
  unfold cs sn
  pointwise [val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v19, val_main_v17, val_main_cst_8, val_main_cst_9, val_main_cst_10]
  simp only [e61]
  exact pads _ (fun f => val_main_v16 (F := Ideal) x5 (ix2 i f)) (fun f => val_main_v18 (F := Ideal) x5 (ix2 i f)) k

theorem r82 (i : Fin 8192) (j : Fin 1024) : val_main_v82 (F := Ideal) x4 x5 x6 x7 x8 (ix2 i j) = dh (R x0 x1 x3 x4 x5 x6 x7 x8 x9) i j := by
  unfold dh
  simp only [← r81]
  pointwise [val_main_v82]
  rfl

theorem r96 (i : Fin 8192) (j : Fin 1024) : val_main_v96 (F := Ideal) x1 x3 x4 x5 x6 x7 x8 (ix2 i j) = wr (R x0 x1 x3 x4 x5 x6 x7 x8 x9) i j := by
  unfold wr
  rw [← r82]
  pointwise [val_main_v96, val_main_v95, val_main_v90, val_main_v89, val_main_v38, val_main_v37, val_main_v36, val_main_v34, val_main_v33, val_main_cst_7]
  rfl

theorem r112 (i : Fin 8192) (j : Fin 1024) : val_main_v112 (F := Ideal) x0 x1 x3 x4 x5 x6 x7 x8 x9 (ix2 i j) = dx (R x0 x1 x3 x4 x5 x6 x7 x8 x9) i j := by
  unfold dx
  rw [show wr (R x0 x1 x3 x4 x5 x6 x7 x8 x9) i = fun k => val_main_v96 (F := Ideal) x1 x3 x4 x5 x6 x7 x8 (ix2 i k) from funext fun k => (r96 x0 x1 x3 x4 x5 x6 x7 x8 x9 i k).symm]
  pointwise [val_main_v112, val_main_v111, val_main_v110, val_main_v109, val_main_v108, val_main_v107, val_main_v106, val_main_v105, val_main_v104, val_main_v103, val_main_v102, val_main_v101, val_main_v100, val_main_v99, val_main_v98, val_main_v30, val_main_v29, val_main_v28, val_main_v27, val_main_v26, val_main_v25, val_main_v24, val_main_v23, val_main_v22, val_main_v21, val_main_v20, val_main_cst_3, val_main_cst_4, val_main_cst_5, val_main_cst_6, val_main_cst_17, val_main_cst_18, val_main_cst_19]
  simp only [Finset.univ_unique, Finset.sum_singleton]
  rfl

theorem r113 (i : Fin 8192) (k : Fin 1536) : val_main_v113 (F := Ideal) x5 x6 x7 x8 (ix2 i k) = pr (R x0 x1 x3 x4 x5 x6 x7 x8 x9) i k := by
  rw [← r81]
  pointwise [val_main_v113]

theorem r118 (r : Fin 8) (j : Fin 1024) : val_main_v118 (F := Ideal) x0 x1 x3 x4 x5 x6 x7 x8 (ix2 r j) = ∑ i, part (R x0 x1 x3 x4 x5 x6 x7 x8 x9) i r j := by
  unfold part
  simp only [← r82]
  pointwise [val_main_v118, val_main_v117, val_main_v116, val_main_v115, val_main_v114, val_main_v97, val_main_v94, val_main_v93, val_main_v92, val_main_v91, val_main_v90, val_main_v89, val_main_v88, val_main_v87, val_main_v86, val_main_v85, val_main_v84, val_main_v83, val_main_v38, val_main_v37, val_main_v36, val_main_v35, val_main_v34, val_main_v33, val_main_v32, val_main_v31, val_main_v27, val_main_v26, val_main_v25, val_main_v24, val_main_v23, val_main_v22, val_main_v21, val_main_v20, val_main_cst_3, val_main_cst_4, val_main_cst_5, val_main_cst_7, val_main_cst_11, val_main_cst_12, val_main_cst_13, val_main_cst_14, val_main_cst_15, val_main_cst_16, val_main_cst_20]
  simp only [Finset.univ_unique, Finset.sum_singleton]
  by_cases h0 : r.val < 1
  · simp only [h0, if_true, dif_pos]
    rfl
  by_cases h1 : r.val - 1 < 1
  · simp only [h0, h1, if_true, if_false, dif_pos, dif_neg, not_false_eq_true]
  by_cases h2 : r.val - 1 - 1 < 1
  · simp only [h0, h1, h2, if_true, if_false, dif_pos, dif_neg, not_false_eq_true]
    rfl
  · simp only [h0, h1, h2, if_false, dif_neg, not_false_eq_true, Finset.sum_const_zero]

end Cert.QbRefIdeal.Rd
-- ==== Proof.RopeTab.lean ====
module

public import proofs.«01_k».proof.Proof.QbRef
public import proofs.«01_k».proof.Proof.QbVal

@[expose] public section

set_option maxRecDepth 16384

noncomputable section

namespace Cert.RopeTab

open Cert.QbIdeal Cert.QbIdeal.Gen Idealize.ShloMosaic
open Base
open Cert.QbRefIdeal.Rd (cs sn)

/-- The remainder of lanes, with the sign of the divisor. -/
def rem (x : IVec S128 32) (n : IVec S_ 32) : IVec S128 32 :=
  let d : IVec S_ 32 := select (cmpi .eq n (constantI S_ 32 0#32)) (constantI S_ 32 1#32) n
  let q : IVec S128 32 := Host.remsi x (broadcastInDim S128 ![] bcast_S_S128 d)
  select (andi (cmpi .ne (cmpi .slt q (broadcastInDim S128 ![] bcast_S_S128 (constantI S_ 32 0#32))) (broadcastInDim S128 ![] bcast_S_S128 (cmpi .slt d (constantI S_ 32 0#32))))
    (cmpi .ne q (broadcastInDim S128 ![] bcast_S_S128 (constantI S_ 32 0#32)))) (addi q (broadcastInDim S128 ![] bcast_S_S128 d)) q

/-- A lane's place in its head. -/
def L : IVec S128 32 := rem (iotaInDim S128 32 0) (constantI S_ 32 64#32)

/-- The lane's frequency. -/
def I8 : IVec S128x1 32 :=
  let r := rem L (constantI S_ 32 8#32)
  broadcastInDim S128x1 ![0] bcast_S128_S128x1_0 (select (cmpi .slt r (broadcastInDim S128 ![] bcast_S_S128 (constantI S_ 32 0#32)))
    (addi r (broadcastInDim S128 ![] bcast_S_S128 (constantI S_ 32 8#32))) r)

def below (n : BitVec 32) : IVec S128 1 := cmpi .slt L (broadcastInDim S128 ![] bcast_S_S128 (constantI S_ 32 n))
def mid : IVec S128 1 := andi (cmpi .sge L (broadcastInDim S128 ![] bcast_S_S128 (constantI S_ 32 8#32))) (below 16#32)

theorem below16 : ∀ l : Fin 128, below 16#32 (ix1 l) = if l.val % 64 < 16 then 1#1 else 0#1 := by decide +kernel
theorem below8 : ∀ l : Fin 128, below 8#32 (ix1 l) = if l.val % 64 < 8 then 1#1 else 0#1 := by decide +kernel
theorem mid_eq : ∀ l : Fin 128, mid (ix1 l) = if 8 ≤ l.val % 64 ∧ l.val % 64 < 16 then 1#1 else 0#1 := by decide +kernel
theorem lane8 : ∀ l : Fin 128, gather_S8_S128x1_S128_n_0_n_n_0_1_1.start (ix1 l) I8 0 + gather_S8_S128x1_S128_n_0_n_n_0_1_1.batchCoord (ix1 l) 0
    + gather_S8_S128x1_S128_n_0_n_n_0_1_1.offCoord (ix1 l) 0 = l.val % 8 := by decide +kernel

/-- The frequencies gathered by lanes. -/
theorem gat (x : FVec Ideal S8 .f32) (l : Fin 128) : Host.gather gather_S8_S128x1_S128_n_0_n_n_0_1_1 x I8 (ix1 l) = x (ix1 ⟨l.val % 8, Nat.mod_lt _ (by decide)⟩) := by
  unfold Host.gather
  refine congrArg x (funext fun a => ?_)
  obtain rfl : a = 0 := Subsingleton.elim _ _
  exact Fin.ext (lane8 l)

variable (x5 : IVec S8192 32)

/-- The angles of the rows by lanes. -/
def ang : FVec Ideal S8192x128 .f32 :=
  mulf (broadcastInDim S8192x128 ![0, 1] bcast_S8192x1_S8192x128_0_1 (broadcastInDim S8192x1 ![0] bcast_S8192_S8192x1_0 (sitofp .f32 x5 : FVec Ideal S8192 .f32)))
    (broadcastInDim S8192x128 ![0, 1] bcast_S1x128_S8192x128_0_1 (broadcastInDim S1x128 ![1] bcast_S128_S1x128_1
      (select (below 16#32) (Host.gather gather_S8_S128x1_S128_n_0_n_n_0_1_1 (Cert.QbRefIdeal.Read.val_main_v9 (F := Ideal)) I8)
        (broadcastInDim S128 ![] bcast_S_S128 (constant S_ .f32 0#32)))))

/-- A table kept on some lanes and constant on the others. -/
def keep (b : IVec S128 1) (x : FVec Ideal S8192x128 .f32) (z : FVec Ideal S_ .f32) : FVec Ideal S8192x128 .f32 :=
  select (broadcastInDim S8192x128 ![0, 1] bcast_S1x128_S8192x128_0_1 (broadcastInDim S1x128 ![1] bcast_S128_S1x128_1 b)) x (broadcastInDim S8192x128 ![] bcast_S_S8192x128 z)

def tC : FVec Ideal S8192x128 .f32 := keep (below 16#32) (Host.cos (ang x5)) (constant S_ .f32 0x3F800000#32)
def tP : FVec Ideal S8192x128 .f32 := keep mid (Host.sin (ang x5)) (constant S_ .f32 0#32)
def tS : FVec Ideal S8192x128 .f32 := keep (below 8#32) (Host.negf (Host.sin (ang x5))) (constant S_ .f32 0#32)

theorem keep_eq (b : IVec S128 1) (x : FVec Ideal S8192x128 .f32) (z : FVec Ideal S_ .f32) (i : Fin 8192) (l : Fin 128) :
    keep b x z (ix2 i l) = if b (ix1 l) = 1#1 then x (ix2 i l) else z ix0 := by
  unfold keep
  pointwise []
  rfl

theorem ang_eq (i : Fin 8192) (l : Fin 128) (h : l.val % 64 < 16) : ang x5 (ix2 i l) = Cert.QbRefIdeal.Read.val_main_v15 (F := Ideal) x5 (ix2 i ⟨l.val % 8, Nat.mod_lt _ (by decide)⟩) := by
  have e := below16 l
  rw [if_pos h] at e
  unfold ang
  have g := gat (Cert.QbRefIdeal.Read.val_main_v9 (F := Ideal)) l
  generalize Host.gather gather_S8_S128x1_S128_n_0_n_n_0_1_1 (Cert.QbRefIdeal.Read.val_main_v9 (F := Ideal)) I8 = w at g ⊢
  generalize below 16#32 = b at e ⊢
  pointwise [Cert.QbRefIdeal.Read.val_main_v15, Cert.QbRefIdeal.Read.val_main_v14, Cert.QbRefIdeal.Read.val_main_v13, Cert.QbRefIdeal.Read.val_main_v12, Cert.QbRefIdeal.Read.val_main_v11, Cert.QbRefIdeal.Read.val_main_v10]
  rw [e, g]
  rfl

theorem tC_eq (i : Fin 8192) (l : Fin 128) : tC x5 (ix2 i l) = if l.val % 64 < 16 then cs x5 i ⟨l.val % 8, Nat.mod_lt _ (by decide)⟩ else 1 := by
  unfold tC
  rw [keep_eq, below16]
  by_cases h : l.val % 64 < 16
  · rw [if_pos h, if_pos h, if_pos rfl]
    show FloatOps.hostUnary .cos (ang x5 (ix2 i l)) = _
    rw [ang_eq x5 i l h]
    rfl
  · rw [if_neg h, if_neg h, if_neg (by decide)]
    pointwise []

theorem tP_eq (i : Fin 8192) (l : Fin 128) : tP x5 (ix2 i l) = if 8 ≤ l.val % 64 ∧ l.val % 64 < 16 then sn x5 i ⟨l.val % 8, Nat.mod_lt _ (by decide)⟩ else 0 := by
  unfold tP
  rw [keep_eq, mid_eq]
  by_cases h : 8 ≤ l.val % 64 ∧ l.val % 64 < 16
  · rw [if_pos h, if_pos h, if_pos rfl]
    show FloatOps.hostUnary .sin (ang x5 (ix2 i l)) = _
    rw [ang_eq x5 i l h.2]
    rfl
  · rw [if_neg h, if_neg h, if_neg (by decide)]
    pointwise []

theorem tS_eq (i : Fin 8192) (l : Fin 128) : tS x5 (ix2 i l) = if l.val % 64 < 8 then -sn x5 i ⟨l.val % 8, Nat.mod_lt _ (by decide)⟩ else 0 := by
  unfold tS
  rw [keep_eq, below8]
  by_cases h : l.val % 64 < 8
  · rw [if_pos h, if_pos h, if_pos rfl]
    show -(FloatOps.hostUnary .sin (ang x5 (ix2 i l))) = _
    rw [ang_eq x5 i l (by omega)]
    rfl
  · rw [if_neg h, if_neg h, if_neg (by decide)]
    pointwise []

end Cert.RopeTab

end
-- ==== Proof.QbClaim.lean ====
module

public import proofs.«01_k».proof.Defs
public import proofs.«01_k».proof.Proof.QbVal
public import proofs.«01_k».proof.Proof.QbRef
public import proofs.«01_k».proof.Proof.RopeTab
public import proofs.«01_k».proof.Proof.Gen.QbIdeal.Value
public import proofs.«01_k».proof.Proof.Gen.QbRefIdeal.Run

@[expose] public section

set_option maxRecDepth 16384

noncomputable section

namespace Cert.QbClaim

open Idealize.ShloMosaic Idealize.ShloMosaic.TcCoe Idealize.SL.Sem Cert.QbIdeal Cert.QbIdeal.Gen
open Base Rope RopeSpec

variable (m : (ℓ : Loc Cert.QbIdeal.nD Cert.QbIdeal.τ Cert.QbIdeal.sig) → Buf (Elt Ideal) ℓ) (c : Dev Cert.QbIdeal.nD)

/-- The reference's quantities at the call's arguments. -/
abbrev RR : Args 1536 := Cert.QbRefIdeal.Rd.R (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

set_option maxHeartbeats 6000000 in
/-- What the kernel reads but the tables. -/
theorem hosts : (V m c main_v4 = (concatenate S8x1024 0 [⟨S1x1024, shapeCast S1x1024 ((m ((c.tc : Thread nD τ).loc main_arg1)) : FVec Ideal S1024 .f32) shapeCasts_S1024_S1x1024⟩, ⟨S1x1024, shapeCast S1x1024 ((m ((c.tc : Thread nD τ).loc main_arg2)) : FVec Ideal S1024 .f32) shapeCasts_S1024_S1x1024⟩, ⟨S1x1024, shapeCast S1x1024 ((m ((c.tc : Thread nD τ).loc main_arg3)) : FVec Ideal S1024 .f32) shapeCasts_S1024_S1x1024⟩,
    ⟨S5x1024, broadcastInDim S5x1024 ![] bcast_S_S5x1024 (constant S_ .f32 0#32)⟩] concatenates_S1x1024_S1x1024_S1x1024_S5x1024_S8x1024_d0 : FVec Ideal S8x1024 .f32))
    ∧ (V m c main_v8 = (truncf .bf16 (transpose S1x8192x512 [1, 0, 2] (shapeCast S8192x1x512 (shapeCast S8192x512 ((m ((c.tc : Thread nD τ).loc main_arg6)) : FVec Ideal S8192x8x64 .f32) shapeCasts_S8192x8x64_S8192x512) shapeCasts_S8192x512_S8192x1x512) transposes_S8192x1x512_S1x8192x512_1_0_2) bitsLt_bf16_f32 : FVec Ideal S1x8192x512 .bf16))
    ∧ (V m c main_v12 = (truncf .bf16 (transpose S4x2048x512 [1, 0, 2] (shapeCast S2048x4x512 (shapeCast S8192x512 ((m ((c.tc : Thread nD τ).loc main_arg7)) : FVec Ideal S8192x8x64 .f32) shapeCasts_S8192x8x64_S8192x512) shapeCasts_S8192x512_S2048x4x512) transposes_S2048x4x512_S4x2048x512_1_0_2) bitsLt_bf16_f32 : FVec Ideal S4x2048x512 .bf16))
    ∧ (V m c main_v16 = (truncf .bf16 (transpose S16x512x512 [1, 0, 2] (shapeCast S512x16x512 (shapeCast S8192x512 ((m ((c.tc : Thread nD τ).loc main_arg8)) : FVec Ideal S8192x8x64 .f32) shapeCasts_S8192x8x64_S8192x512) shapeCasts_S8192x512_S512x16x512) transposes_S512x16x512_S16x512x512_1_0_2) bitsLt_bf16_f32 : FVec Ideal S16x512x512 .bf16))
    ∧ (V m c main_v18 = (truncf .bf16 (transpose S1536x1024 [1, 0] ((m ((c.tc : Thread nD τ).loc main_arg4)) : FVec Ideal S1024x1536 .f32) transposes_S1024x1536_S1536x1024_1_0) bitsLt_bf16_f32 : FVec Ideal S1536x1024 .bf16)) := by
  refine ⟨?_, ?_, ?_, ?_, ?_⟩ <;> (unfold V; simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]; after_results) <;> rfl

set_option maxHeartbeats 6000000 in
/-- The tables that the kernel reads. -/
theorem tabs : (V m c main_v53 = Cert.RopeTab.tC (m ((c.tc : Thread nD τ).loc main_arg5)))
    ∧ (V m c main_v60 = Cert.RopeTab.tP (m ((c.tc : Thread nD τ).loc main_arg5)))
    ∧ (V m c main_v65 = Cert.RopeTab.tS (m ((c.tc : Thread nD τ).loc main_arg5))) := by
  refine ⟨?_, ?_, ?_⟩ <;> (unfold V; simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]; after_results; simp only [StableHlo.TRef.ofBuf_toBuf]) <;> rfl

theorem perm1 (x : FVec Ideal S8192x8x64 .f32) (b : Fin 8192) (k : Fin 512) :
    (truncf .bf16 (transpose S1x8192x512 [1, 0, 2] (shapeCast S8192x1x512 (shapeCast S8192x512 x shapeCasts_S8192x8x64_S8192x512) shapeCasts_S8192x512_S8192x1x512) transposes_S8192x1x512_S1x8192x512_1_0_2) bitsLt_bf16_f32 : FVec Ideal S1x8192x512 .bf16) (ix3 0 b k)
    = x (ix3 b ⟨k.val / 64, by omega⟩ ⟨k.val % 64, by omega⟩) := by
  pointwise []

theorem perm4 (x : FVec Ideal S8192x8x64 .f32) (a : Fin 4) (b : Fin 2048) (k : Fin 512) :
    (truncf .bf16 (transpose S4x2048x512 [1, 0, 2] (shapeCast S2048x4x512 (shapeCast S8192x512 x shapeCasts_S8192x8x64_S8192x512) shapeCasts_S8192x512_S2048x4x512) transposes_S2048x4x512_S4x2048x512_1_0_2) bitsLt_bf16_f32 : FVec Ideal S4x2048x512 .bf16) (ix3 a b k)
    = x (ix3 ⟨b.val * 4 + a.val, by omega⟩ ⟨k.val / 64, by omega⟩ ⟨k.val % 64, by omega⟩) := by
  pointwise []

theorem perm16 (x : FVec Ideal S8192x8x64 .f32) (a : Fin 16) (b : Fin 512) (k : Fin 512) :
    (truncf .bf16 (transpose S16x512x512 [1, 0, 2] (shapeCast S512x16x512 (shapeCast S8192x512 x shapeCasts_S8192x8x64_S8192x512) shapeCasts_S8192x512_S512x16x512) transposes_S512x16x512_S16x512x512_1_0_2) bitsLt_bf16_f32 : FVec Ideal S16x512x512 .bf16) (ix3 a b k)
    = x (ix3 ⟨b.val * 16 + a.val, by omega⟩ ⟨k.val / 64, by omega⟩ ⟨k.val % 64, by omega⟩) := by
  pointwise []

theorem hD1 (i : Fin 8192) (k : Fin 512) : V m c main_v8 (ix3 0 i k) = Cert.QbRefIdeal.Rd.heads (m ((c.tc : Thread nD τ).loc main_arg6)) i k := by
  rw [(hosts m c).2.1, perm1]
  rfl

theorem hD4 (i : Fin 8192) (k : Fin 512) : Cert.QbIdeal.Val.merged (d := 4) (n := 2048) rfl (V m c main_v12) i k = Cert.QbRefIdeal.Rd.heads (m ((c.tc : Thread nD τ).loc main_arg7)) i k := by
  unfold Cert.QbIdeal.Val.merged Cert.QbRefIdeal.Rd.heads
  rw [(hosts m c).2.2.1, perm4]
  exact congrArg (fun z => (m ((c.tc : Thread nD τ).loc main_arg7)) (ix3 z _ _)) (Fin.ext (Nat.div_add_mod' i.val 4))

theorem hD16 (i : Fin 8192) (k : Fin 512) : Cert.QbIdeal.Val.merged (d := 16) (n := 512) rfl (V m c main_v16) i k = Cert.QbRefIdeal.Rd.heads (m ((c.tc : Thread nD τ).loc main_arg8)) i k := by
  unfold Cert.QbIdeal.Val.merged Cert.QbRefIdeal.Rd.heads
  rw [(hosts m c).2.2.2.1, perm16]
  exact congrArg (fun z => (m ((c.tc : Thread nD τ).loc main_arg8)) (ix3 z _ _)) (Fin.ext (Nat.div_add_mod' i.val 16))

theorem hC (i : Fin 8192) (l : Fin 128) : V m c main_v53 (ix2 i l) = (RR m c).C i l := by rw [(tabs m c).1]; exact Cert.RopeTab.tC_eq _ i l
theorem hP (i : Fin 8192) (l : Fin 128) : V m c main_v60 (ix2 i l) = (RR m c).P i l := by rw [(tabs m c).2.1]; exact Cert.RopeTab.tP_eq _ i l
theorem hS (i : Fin 8192) (l : Fin 128) : V m c main_v65 (ix2 i l) = (RR m c).S i l := by rw [(tabs m c).2.2]; exact Cert.RopeTab.tS_eq _ i l
theorem hO (i : Fin 8192) (j : Fin 1024) : V m c main_arg9 (ix2 i j) = (RR m c).O i j := by rw [V_main_arg9]; rfl
theorem hX (i : Fin 8192) (j : Fin 1024) : V m c main_arg0 (ix2 i j) = (RR m c).X i j := by rw [V_main_arg0]; rfl
theorem hG (j : Fin 1024) : V m c main_v4 (ix2 0 j) = (RR m c).G j := by rw [(hosts m c).1]; unfold RR Cert.QbRefIdeal.Rd.R; pointwise []
theorem hH (j : Fin 1024) : V m c main_v4 (ix2 2 j) = (RR m c).H j := by rw [(hosts m c).1]; unfold RR Cert.QbRefIdeal.Rd.R; pointwise []
theorem hW (k : Fin 1536) (j : Fin 1024) : V m c main_v18 (ix2 k j) = (RR m c).W k j := by rw [(hosts m c).2.2.2.2]; unfold RR Cert.QbRefIdeal.Rd.R; pointwise []

/-- The kernel's quantities are the reference's. -/
theorem K_eq : Cert.QbIdeal.Val.K m c = (RR m c) := by
  unfold Cert.QbIdeal.Val.K
  simp only [hD1 m c, show ∀ i, Cert.QbIdeal.Val.merged (d := 4) (n := 2048) rfl (V m c main_v12) i = Cert.QbRefIdeal.Rd.heads (m ((c.tc : Thread nD τ).loc main_arg7)) i from fun i => funext (hD4 m c i),
    show ∀ i, Cert.QbIdeal.Val.merged (d := 16) (n := 512) rfl (V m c main_v16) i = Cert.QbRefIdeal.Rd.heads (m ((c.tc : Thread nD τ).loc main_arg8)) i from fun i => funext (hD16 m c i),
    hC m c, hP m c, hS m c, hO m c, hX m c, hG m c, hH m c, hW m c]
  rfl

theorem out112 : Cert.QbRefIdeal.Read.val_main_v112 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = (dats m 0 c).arrAt 10 cfg0.N := by
  refine Cert.Base.ext2 fun r k => ?_
  have e : _ = dx (RR m c) r k := Cert.QbRefIdeal.Rd.r112 _ _ _ _ _ _ _ _ _ r k
  rw [← K_eq m c] at e
  exact e.trans (Cert.QbIdeal.Val.final10 m c r k).symm

theorem out113 : Cert.QbRefIdeal.Read.val_main_v113 (F := Ideal) (m ((c.tc : Thread nD τ).loc main_arg5)) (m ((c.tc : Thread nD τ).loc main_arg6)) (m ((c.tc : Thread nD τ).loc main_arg7)) (m ((c.tc : Thread nD τ).loc main_arg8)) = (dats m 0 c).arrAt 11 cfg0.N := by
  refine Cert.Base.ext2 fun r k => ?_
  have e : _ = pr (RR m c) r k := Cert.QbRefIdeal.Rd.r113 _ _ _ _ _ _ _ _ _ r k
  rw [← K_eq m c] at e
  exact e.trans (Cert.QbIdeal.Val.final11 m c r k).symm

theorem out118 : Cert.QbRefIdeal.Read.val_main_v118 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = (dats m 0 c).arrAt 12 cfg0.N := by
  refine Cert.Base.ext2 fun r k => ?_
  have e : _ = ∑ i, part (RR m c) i r k := Cert.QbRefIdeal.Rd.r118 _ _ _ _ _ _ _ _ _ r k
  rw [← K_eq m c] at e
  exact e.trans (Cert.QbIdeal.Val.final12 m c r k).symm

/-- The three results of the queries' backward projection are those of the reference's derivative. -/
theorem q_algebraic : algebraic_QbIdeal_QbRefIdeal (hQbIdeal := Cert.QbIdeal.Gen.facts) (hQbRefIdeal := Cert.QbRefIdeal.Gen.facts) := by
  intro m g m' g' _ hm
  refine ⟨_, _, _, Cert.QbIdeal.Value.run_blocks m g, (θ_run _ _ _).mono (fun r h c => ?_) (Cert.QbRefIdeal.Value.run m' g')⟩
  obtain ⟨h0, h1, h2, ha⟩ := h c
  obtain ⟨e0, e1, e2, e3, e4, e5, e6, e7, e8, e9⟩ := hm c
  refine ⟨h0.trans ?_, h1.trans ?_, h2.trans ?_, ha⟩
  · refine (Cert.QbRefIdeal.Read.val_main_v112_eq m' c).trans (Eq.trans ?_ (out112 m c))
    rw [e0, e1, e3, e4, e5, e6, e7, e8, e9]
  · refine (Cert.QbRefIdeal.Read.val_main_v113_eq m' c).trans (Eq.trans ?_ (out113 m c))
    rw [e5, e6, e7, e8]
  · refine (Cert.QbRefIdeal.Read.val_main_v118_eq m' c).trans (Eq.trans ?_ (out118 m c))
    rw [e0, e1, e3, e4, e5, e6, e7, e8]

/-- The reference leaves its arguments as they are; it declares no semaphore. -/
theorem q_ref_frame : quiescent_QbRefIdeal (hQbRefIdeal := Cert.QbRefIdeal.Gen.facts) := fun m ρ _ =>
  (θ_run Cert.QbRefIdeal.defs _ _).mono (fun r h => ⟨fun c => (h c).2.2.2, sem_eq_zero_of_no_sems (by decide) r.2⟩)
    (Cert.QbRefIdeal.Value.run (F := Ideal) m ρ)

end Cert.QbClaim

end
-- ==== Proof.KvbPure.lean ====
module

public import proofs.«01_k».proof.Defs
public import proofs.«01_k».proof.Proof.Gen.KvbIdeal.Skeleton
public import proofs.«01_k».proof.Proof.Rope

@[expose] public section

set_option maxRecDepth 16384

noncomputable section

namespace Cert.KvbIdeal.Pure

open Cert.KvbIdeal Cert.KvbIdeal.Gen Idealize.ShloMosaic

open Base Rope

/-- The cotangent of the normalised row, from that of the modulated row. -/
def wrow (g sc d : Fin 1024 → EReal) (j : Fin 1024) : EReal := d j * (1 + sc j) * g j

/-- A row of a matrix. -/
abbrev rowOf {n d : Nat} (v : (⟨2, ![n, d]⟩ : Shape).Idx → EReal) (r : Fin n) (k : Fin d) : EReal := v (ix2 r k)

/-- Six blocks of columns side by side. -/
def six (v0 v1 v2 v3 v4 v5 : Fin 512 → EReal) (z : Fin 3072) : EReal :=
  if h : z.val < 512 then v0 ⟨z.val, h⟩ else if h : z.val - 512 < 512 then v1 ⟨z.val - 512, h⟩ else
  if h : z.val - 512 - 512 < 512 then v2 ⟨z.val - 512 - 512, h⟩ else if h : z.val - 512 - 512 - 512 < 512 then v3 ⟨z.val - 512 - 512 - 512, h⟩ else
  if h : z.val - 512 - 512 - 512 - 512 < 512 then v4 ⟨z.val - 512 - 512 - 512 - 512, h⟩ else v5 ⟨z.val - 512 - 512 - 512 - 512 - 512, by omega⟩

/-- Two halves side by side. -/
theorem pair (A B : FVec Ideal S512x1536 .f32) (r : Fin 512) (k : Fin 3072) :
    concatenate S512x3072 1 [⟨S512x1536, A⟩, ⟨S512x1536, B⟩] concatenates_S512x1536_S512x1536_S512x3072_d1 (ix2 r k) =
      if h : k.val < 1536 then A (ix2 r ⟨k.val, h⟩) else B (ix2 r ⟨k.val - 1536, by omega⟩) := by
  have hk := k.isLt
  pointwise []

section Parts
variable (v2 v87 v400 v403 v488 : FVec Ideal S512x512 .f32) (v793 v795 v797 v799 : Vec Ideal S1x512x128 .f32)

theorem p223 (r : Fin 512) (k : Fin 3072) : k0_pay223 v2 v87 v400 v403 v488 v793 v795 v797 v799 (ix2 r k) =
    six (rowOf v2 r) (rowOf v87 r) (rowOf v400 r) (rowOf v403 r) (rowOf v488 r) (rowOf (cat4 v793 v795 v797 v799 shapeCasts_S1x512x128_S512x128 concatenates_S512x128_S512x128_S512x128_S512x128_S512x512_d1) r) k := by
  show concatenate S512x3072 1 [⟨S512x512, v2⟩, ⟨S512x512, v87⟩, ⟨S512x512, v400⟩, ⟨S512x512, v403⟩, ⟨S512x512, v488⟩, ⟨S512x512, cat4 v793 v795 v797 v799 shapeCasts_S1x512x128_S512x128 concatenates_S512x128_S512x128_S512x128_S512x128_S512x512_d1⟩] concatenates_S512x512_S512x512_S512x512_S512x512_S512x512_S512x512_S512x3072_d1 (ix2 r k) = _
  generalize cat4 v793 v795 v797 v799 shapeCasts_S1x512x128_S512x128 concatenates_S512x128_S512x128_S512x128_S512x128_S512x512_d1 = v801
  have hk := k.isLt
  pointwise []
  rfl

theorem p224 (r : Fin 512) (k : Fin 1536) : k0_pay224 v2 v87 v400 v403 v488 v793 v795 v797 v799 (ix2 r k) =
    k0_pay223 v2 v87 v400 v403 v488 v793 v795 v797 v799 (ix2 r ⟨k.val, by omega⟩) := by
  unfold k0_pay224
  generalize k0_pay223 v2 v87 v400 v403 v488 v793 v795 v797 v799 = v
  pointwise []
end Parts

theorem p225 (v802 : FVec Ideal S512x3072 .f32) (v803 : FVec Ideal S512x1536 .f32) (C P S : Vec Ideal S512x128 .f32) (r : Fin 512) (k : Fin 3072) :
    k0_pay225 v802 v803 C P S (ix2 r k) = if h : k.val < 1536 then rot (rowOf v803 r) (rowOf C r) (rowOf P r) (rowOf S r) ⟨k.val, h⟩ else v802 (ix2 r k) := by
  have hk := k.isLt
  unfold k0_pay225
  rw [show ∀ v : Vec Ideal S512x128 .f32, shapeCast S512x128 v shapeCasts_S512x128_S512x128 = v from fun v => shapeCast_self _ _]
  rw [show ∀ v : Vec Ideal S512x128 .f32, shapeCast S512x128 v shapeCasts_S512x128_S512x128 = v from fun v => shapeCast_self _ _]
  rw [show ∀ v : Vec Ideal S512x128 .f32, shapeCast S512x128 v shapeCasts_S512x128_S512x128 = v from fun v => shapeCast_self _ _]
  dsimp only
  rw [tile12 C, tile12 P, tile12 S]
  refine (pair _ _ r k).trans ?_
  split_ifs with h
  · exact rotated v803 C P S rotates_S512x1536_d1 rotates_S512x1536_d1 r ⟨k.val, h⟩
  · have e : ix2 r k = ix2 r (⟨1536 + (k.val - 1536), by omega⟩ : Fin 3072) := congrArg (ix2 r) (Fin.ext (by show k.val = 1536 + (k.val - 1536); omega))
    rw [e]
    pointwise []

/-- The product with the weights' columns. -/
abbrev mm (v : FVec Ideal S512x3072 .bf16) (w : Vec Ideal S1024x3072 .bf16) : FVec Ideal S512x1024 .f32 :=
  matmul dot_S512x3072_S1024x3072_S512x1024_1_1_0_0_n_n none v (shapeCast S1024x3072 w shapeCasts_S1024x3072_S1024x3072 : FVec Ideal S1024x3072 .bf16) (constant S512x1024 .f32 0x00000000#32)

theorem p226 (v : FVec Ideal S512x3072 .bf16) (w : Vec Ideal S1024x3072 .bf16) (r : Fin 512) (j : Fin 1024) : mm v w (ix2 r j) = ∑ k, v (ix2 r k) * w (ix2 j k) := by
  unfold mm
  pointwise []

section Norm
variable (d x v0 : FVec Ideal S512x1024 .f32) (g s : Vec Ideal S1x1024 .f32)

/-- The halving factor of the norm's gradient. -/
abbrev half : Ideal .f32 := Scalar.ofBits .f32 0xBF000000#32

theorem p233 (r : Fin 512) (j : Fin 1024) : k0_pay233 d x (k0_pay227 g) (k0_pay228 s) (k0_pay230 x) (k0_pay231 x) half v0 (ix2 r j) =
    v0 (ix2 r j) + ngrad (rowOf x r) (wrow (rowOf g 0) (rowOf s 0) (rowOf d r)) j := by
  pointwise [k0_pay233, k0_pay232, k0_pay231, k0_pay230, k0_pay229, k0_pay228, k0_pay227, half]
  simp only [Finset.univ_unique, Finset.sum_singleton]
  rfl

theorem p234 (r : Fin 8) (j : Fin 1024) : k0_pay234 d x (k0_pay227 g) (k0_pay228 s) (k0_pay230 x) (ix2 r j) =
    if r.val < 1 then ∑ i, nrm (rowOf x i) j * (d (ix2 i j) * (1 + s (ix2 0 j))) else if r.val - 1 < 1 then ∑ i, d (ix2 i j) else
    if r.val - 1 - 1 < 1 then ∑ i, nrm (rowOf x i) j * g (ix2 0 j) * d (ix2 i j) else 0 := by
  pointwise [k0_pay234, k0_pay232, k0_pay230, k0_pay229, k0_pay228, k0_pay227]
  split_ifs <;> rfl
end Norm

theorem p1 (a w : FVec Ideal S8x1024 .f32) (r : Fin 8) (j : Fin 1024) : k0_pay1 a w (ix2 r j) = w (ix2 r j) + a (ix2 r j) := by
  pointwise [k0_pay1]

theorem p2 (v : Vec Ideal S1x512x512 .bf16) (r k : Fin 512) : k0_pay2 v (ix2 r k) = v (ix3 0 r k) := by
  pointwise [k0_pay2]

theorem p112 (v : Vec Ideal S1x512x512 .bf16) (r k : Fin 512) : k0_pay112 v (ix2 r k) = v (ix3 0 r k) := by
  pointwise [k0_pay112]

end Cert.KvbIdeal.Pure
-- ==== Proof.KvbOut.lean ====
module

public import proofs.«01_k».proof.Proof.Gen.KvbIdeal.Value
public import proofs.«01_k».proof.Proof.KvbPure
public import proofs.«01_k».proof.Proof.Rope

@[expose] public section

set_option maxRecDepth 16384

noncomputable section

namespace Cert.KvbIdeal.Out

open Cert.KvbIdeal Cert.KvbIdeal.Gen Idealize.ShloMosaic Idealize.ShloMosaic.TcCoe
open Pure Rope

/-- The loads of the blocks. -/
theorem ldX {S : Shape} {e : EltTy} {M : Memref sig .tc .vmem S e} (hM : M.IsWhole) (X : S.Idx → Elt Ideal e) (r : Rect S) :
    View.readAt (Elt Ideal) M.view r.toLoadRect (hM.unread X) = View.ld (Val := Elt Ideal) (e' := e) X r := Base.readAt_ld hM X r

section Stored

variable (c : Dev nD) (arg2 : Memref sig .tc .vmem S4x128x512 .bf16) (harg2 : arg2.IsWhole) (arg3 : Memref sig .tc .vmem S16x32x512 .bf16) (harg3 : arg3.IsWhole) (arg5 : Memref sig .tc .vmem S4x128x512 .bf16) (harg5 : arg5.IsWhole) (arg6 : Memref sig .tc .vmem S16x32x512 .bf16) (harg6 : arg6.IsWhole) (x1 : Vec Ideal S4x128x512 .bf16) (x2 : Vec Ideal S16x32x512 .bf16) (x4 : Vec Ideal S4x128x512 .bf16) (x5 : Vec Ideal S16x32x512 .bf16) (arg17 : Memref sig .tc .vmem S4x512x128 .f32)

set_option maxHeartbeats 4000000 in
/-- The rows of the residues of the keys' second group are stored where they belong. -/
theorem stA16 : ∀ p ∈ (kernelRun0_A.sl.HS0_16 (F := Ideal) c arg2 harg2 x1).take 16, ∀ y : p.1.shape.Idx, p.2 y = (stage (d := 4) (n := 128) rfl x1 : Stage.Idx → Elt Ideal .f32) (p.1.emb y) := by
  delta kernelRun0_A.sl.HS0_16 kernelRun0_A.sl.r_1 kernelRun0_A.sl.r_2 kernelRun0_A.sl.r_3
  simp only [List.take_succ_cons, List.take_zero, List.forall_mem_cons, ldX]
  refine ⟨?_, ?_, ?_, ?_, ?_, ?_, ?_, ?_, ?_, ?_, ?_, ?_, ?_, ?_, ?_, ?_, fun _ h => absurd h List.not_mem_nil⟩
  all_goals intro y
  all_goals iterate 2 try delta k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23
  all_goals dsimp only
  all_goals exact piece (d := 4) (n := 128) rfl x1 (by decide) (by decide) (by decide) _ _ _ _ _ _ _ y

set_option maxHeartbeats 1000000 in
/-- Every residue's rows are among them. -/
theorem cvA16 (j : Fin 4) : ∀ r : Fin 4, ∃ p ∈ (kernelRun0_A.sl.HS0_16 (F := Ideal) c arg2 harg2 x1).take 16, ∃ inb pos, p.1 = rc (d := 4) (n := 128) j.val r.val inb pos := by
  have e : ∀ (j : Fin 4) (r : Fin 4), ∃ inb pos v, ((kernelRun0_A.sl.HS0_16 (F := Ideal) c arg2 harg2 x1).take 16)[(3 - r.val) * 4 + (3 - j.val)]? = some ⟨rc (d := 4) (n := 128) j.val r.val inb pos, v⟩ := by
    delta kernelRun0_A.sl.HS0_16
    simp only [List.take_succ_cons, List.take_zero]
    intro j r
    fin_cases j <;> fin_cases r <;> exact ⟨_, _, _, rfl⟩
  intro r
  obtain ⟨inb, pos, v, h⟩ := e j r
  exact ⟨_, List.mem_of_getElem? h, inb, pos, rfl⟩

set_option maxHeartbeats 4000000 in
/-- The rows of the residues of the keys' third group are stored where they belong. -/
theorem stA80 : ∀ p ∈ (kernelRun0_A.sl.HS0_80 (F := Ideal) c arg2 harg2 arg3 harg3 x1 x2).take 64, ∀ y : p.1.shape.Idx, p.2 y = (stage (d := 16) (n := 32) rfl x2 : Stage.Idx → Elt Ideal .f32) (p.1.emb y) := by
  delta kernelRun0_A.sl.HS0_80 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18
  simp only [List.take_succ_cons, List.take_zero, List.forall_mem_cons, ldX]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  all_goals intro y
  all_goals iterate 2 try delta k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110
  all_goals dsimp only
  all_goals exact piece (d := 16) (n := 32) rfl x2 (by decide) (by decide) (by decide) _ _ _ _ _ _ _ y

set_option maxHeartbeats 1000000 in
/-- Every residue's rows are among them. -/
theorem cvA80 (j : Fin 4) : ∀ r : Fin 16, ∃ p ∈ (kernelRun0_A.sl.HS0_80 (F := Ideal) c arg2 harg2 arg3 harg3 x1 x2).take 64, ∃ inb pos, p.1 = rc (d := 16) (n := 32) j.val r.val inb pos := by
  have e : ∀ (j : Fin 4) (r : Fin 16), ∃ inb pos v, ((kernelRun0_A.sl.HS0_80 (F := Ideal) c arg2 harg2 arg3 harg3 x1 x2).take 64)[(15 - r.val) * 4 + (3 - j.val)]? = some ⟨rc (d := 16) (n := 32) j.val r.val inb pos, v⟩ := by
    delta kernelRun0_A.sl.HS0_80
    simp only [List.take_succ_cons, List.take_zero]
    intro j r
    fin_cases j <;> fin_cases r <;> exact ⟨_, _, _, rfl⟩
  intro r
  obtain ⟨inb, pos, v, h⟩ := e j r
  exact ⟨_, List.mem_of_getElem? h, inb, pos, rfl⟩

set_option maxHeartbeats 4000000 in
/-- The rows of the residues of the values' second group are stored where they belong. -/
theorem stA96 : ∀ p ∈ (kernelRun0_A.sl.HS0_96 (F := Ideal) c arg2 harg2 arg3 harg3 arg5 harg5 x1 x2 x4).take 16, ∀ y : p.1.shape.Idx, p.2 y = (stage (d := 4) (n := 128) rfl x4 : Stage.Idx → Elt Ideal .f32) (p.1.emb y) := by
  delta kernelRun0_A.sl.HS0_96 kernelRun0_A.sl.r_21 kernelRun0_A.sl.r_22 kernelRun0_A.sl.r_23 kernelRun0_A.sl.r_24 kernelRun0_A.sl.r_25
  simp only [List.take_succ_cons, List.take_zero, List.forall_mem_cons, ldX]
  refine ⟨?_, ?_, ?_, ?_, ?_, ?_, ?_, ?_, ?_, ?_, ?_, ?_, ?_, ?_, ?_, ?_, fun _ h => absurd h List.not_mem_nil⟩
  all_goals intro y
  all_goals iterate 2 try delta k0_pay113 k0_pay114 k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133 k0_pay134 k0_pay135
  all_goals dsimp only
  all_goals exact piece (d := 4) (n := 128) rfl x4 (by decide) (by decide) (by decide) _ _ _ _ _ _ _ y

set_option maxHeartbeats 1000000 in
/-- Every residue's rows are among them. -/
theorem cvA96 (j : Fin 4) : ∀ r : Fin 4, ∃ p ∈ (kernelRun0_A.sl.HS0_96 (F := Ideal) c arg2 harg2 arg3 harg3 arg5 harg5 x1 x2 x4).take 16, ∃ inb pos, p.1 = rc (d := 4) (n := 128) j.val r.val inb pos := by
  have e : ∀ (j : Fin 4) (r : Fin 4), ∃ inb pos v, ((kernelRun0_A.sl.HS0_96 (F := Ideal) c arg2 harg2 arg3 harg3 arg5 harg5 x1 x2 x4).take 16)[(3 - r.val) * 4 + (3 - j.val)]? = some ⟨rc (d := 4) (n := 128) j.val r.val inb pos, v⟩ := by
    delta kernelRun0_A.sl.HS0_96
    simp only [List.take_succ_cons, List.take_zero]
    intro j r
    fin_cases j <;> fin_cases r <;> exact ⟨_, _, _, rfl⟩
  intro r
  obtain ⟨inb, pos, v, h⟩ := e j r
  exact ⟨_, List.mem_of_getElem? h, inb, pos, rfl⟩

set_option maxHeartbeats 4000000 in
/-- The rows of the residues of the values' third group are stored where they belong. -/
theorem stA160 : ∀ p ∈ (kernelRun0_A.sl.HS0_160 (F := Ideal) c arg2 harg2 arg3 harg3 arg5 harg5 arg6 harg6 x1 x2 x4 x5).take 64, ∀ y : p.1.shape.Idx, p.2 y = (stage (d := 16) (n := 32) rfl x5 : Stage.Idx → Elt Ideal .f32) (p.1.emb y) := by
  delta kernelRun0_A.sl.HS0_160 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38
  simp only [List.take_succ_cons, List.take_zero, List.forall_mem_cons, ldX]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  all_goals intro y
  all_goals iterate 2 try delta k0_pay137 k0_pay138 k0_pay139 k0_pay140 k0_pay141 k0_pay142 k0_pay143 k0_pay144 k0_pay145 k0_pay146 k0_pay147 k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165 k0_pay166 k0_pay167 k0_pay168 k0_pay169 k0_pay170 k0_pay171 k0_pay172 k0_pay173 k0_pay174 k0_pay175 k0_pay176 k0_pay177 k0_pay178 k0_pay179 k0_pay180 k0_pay181 k0_pay182 k0_pay183 k0_pay184 k0_pay185 k0_pay186 k0_pay187 k0_pay188 k0_pay189 k0_pay190 k0_pay191 k0_pay192 k0_pay193 k0_pay194 k0_pay195 k0_pay196 k0_pay197 k0_pay198 k0_pay199 k0_pay200 k0_pay201 k0_pay202 k0_pay203 k0_pay204 k0_pay205 k0_pay206 k0_pay207 k0_pay208 k0_pay209 k0_pay210 k0_pay211 k0_pay212 k0_pay213 k0_pay214 k0_pay215 k0_pay216 k0_pay217 k0_pay218 k0_pay219 k0_pay220 k0_pay221 k0_pay222
  all_goals dsimp only
  all_goals exact piece (d := 16) (n := 32) rfl x5 (by decide) (by decide) (by decide) _ _ _ _ _ _ _ y

set_option maxHeartbeats 1000000 in
/-- Every residue's rows are among them. -/
theorem cvA160 (j : Fin 4) : ∀ r : Fin 16, ∃ p ∈ (kernelRun0_A.sl.HS0_160 (F := Ideal) c arg2 harg2 arg3 harg3 arg5 harg5 arg6 harg6 x1 x2 x4 x5).take 64, ∃ inb pos, p.1 = rc (d := 16) (n := 32) j.val r.val inb pos := by
  have e : ∀ (j : Fin 4) (r : Fin 16), ∃ inb pos v, ((kernelRun0_A.sl.HS0_160 (F := Ideal) c arg2 harg2 arg3 harg3 arg5 harg5 arg6 harg6 x1 x2 x4 x5).take 64)[(15 - r.val) * 4 + (3 - j.val)]? = some ⟨rc (d := 16) (n := 32) j.val r.val inb pos, v⟩ := by
    delta kernelRun0_A.sl.HS0_160
    simp only [List.take_succ_cons, List.take_zero]
    intro j r
    fin_cases j <;> fin_cases r <;> exact ⟨_, _, _, rfl⟩
  intro r
  obtain ⟨inb, pos, v, h⟩ := e j r
  exact ⟨_, List.mem_of_getElem? h, inb, pos, rfl⟩

/-- A load of one group of lanes gives the rows merged from their residues. -/
theorem key16 (j : ℕ) (hj : j < 4) (inb : ∀ a, (![j, 0, 0] : Fin 3 → ℕ) a + (![1, 512, 128] : Fin 3 → ℕ) a ≤ (![4, 512, 128] : Fin 3 → ℕ) a) (r : Fin 512) (k : Fin 128) :
    arg17.view.readCov (kernelRun0_A.sl.HS0_16 (F := Ideal) c arg2 harg2 x1) (Rect.unit (s := Stage) ![j, 0, 0] ![1, 512, 128] inb).toLoadRect (ix3 0 r k) = mrow (d := 4) (n := 128) rfl x1 r ⟨128 * j + k.val, by omega⟩ := by
  have e := load (d := 4) (n := 128) rfl x1 arg17.view ((kernelRun0_A.sl.HS0_16 (F := Ideal) c arg2 harg2 x1).take 16) ((kernelRun0_A.sl.HS0_16 (F := Ideal) c arg2 harg2 x1).drop 16) j hj inb (stA16 c arg2 harg2 x1) (cvA16 c arg2 harg2 x1 ⟨j, hj⟩)
  rw [List.take_append_drop] at e
  exact congrFun e (ix3 0 r k)

/-- A load of one group of lanes gives the rows merged from their residues. -/
theorem key80 (j : ℕ) (hj : j < 4) (inb : ∀ a, (![j, 0, 0] : Fin 3 → ℕ) a + (![1, 512, 128] : Fin 3 → ℕ) a ≤ (![4, 512, 128] : Fin 3 → ℕ) a) (r : Fin 512) (k : Fin 128) :
    arg17.view.readCov (kernelRun0_A.sl.HS0_80 (F := Ideal) c arg2 harg2 arg3 harg3 x1 x2) (Rect.unit (s := Stage) ![j, 0, 0] ![1, 512, 128] inb).toLoadRect (ix3 0 r k) = mrow (d := 16) (n := 32) rfl x2 r ⟨128 * j + k.val, by omega⟩ := by
  have e := load (d := 16) (n := 32) rfl x2 arg17.view ((kernelRun0_A.sl.HS0_80 (F := Ideal) c arg2 harg2 arg3 harg3 x1 x2).take 64) ((kernelRun0_A.sl.HS0_80 (F := Ideal) c arg2 harg2 arg3 harg3 x1 x2).drop 64) j hj inb (stA80 c arg2 harg2 arg3 harg3 x1 x2) (cvA80 c arg2 harg2 arg3 harg3 x1 x2 ⟨j, hj⟩)
  rw [List.take_append_drop] at e
  exact congrFun e (ix3 0 r k)

/-- A load of one group of lanes gives the rows merged from their residues. -/
theorem key96 (j : ℕ) (hj : j < 4) (inb : ∀ a, (![j, 0, 0] : Fin 3 → ℕ) a + (![1, 512, 128] : Fin 3 → ℕ) a ≤ (![4, 512, 128] : Fin 3 → ℕ) a) (r : Fin 512) (k : Fin 128) :
    arg17.view.readCov (kernelRun0_A.sl.HS0_96 (F := Ideal) c arg2 harg2 arg3 harg3 arg5 harg5 x1 x2 x4) (Rect.unit (s := Stage) ![j, 0, 0] ![1, 512, 128] inb).toLoadRect (ix3 0 r k) = mrow (d := 4) (n := 128) rfl x4 r ⟨128 * j + k.val, by omega⟩ := by
  have e := load (d := 4) (n := 128) rfl x4 arg17.view ((kernelRun0_A.sl.HS0_96 (F := Ideal) c arg2 harg2 arg3 harg3 arg5 harg5 x1 x2 x4).take 16) ((kernelRun0_A.sl.HS0_96 (F := Ideal) c arg2 harg2 arg3 harg3 arg5 harg5 x1 x2 x4).drop 16) j hj inb (stA96 c arg2 harg2 arg3 harg3 arg5 harg5 x1 x2 x4) (cvA96 c arg2 harg2 arg3 harg3 arg5 harg5 x1 x2 x4 ⟨j, hj⟩)
  rw [List.take_append_drop] at e
  exact congrFun e (ix3 0 r k)

/-- A load of one group of lanes gives the rows merged from their residues. -/
theorem key160 (j : ℕ) (hj : j < 4) (inb : ∀ a, (![j, 0, 0] : Fin 3 → ℕ) a + (![1, 512, 128] : Fin 3 → ℕ) a ≤ (![4, 512, 128] : Fin 3 → ℕ) a) (r : Fin 512) (k : Fin 128) :
    arg17.view.readCov (kernelRun0_A.sl.HS0_160 (F := Ideal) c arg2 harg2 arg3 harg3 arg5 harg5 arg6 harg6 x1 x2 x4 x5) (Rect.unit (s := Stage) ![j, 0, 0] ![1, 512, 128] inb).toLoadRect (ix3 0 r k) = mrow (d := 16) (n := 32) rfl x5 r ⟨128 * j + k.val, by omega⟩ := by
  have e := load (d := 16) (n := 32) rfl x5 arg17.view ((kernelRun0_A.sl.HS0_160 (F := Ideal) c arg2 harg2 arg3 harg3 arg5 harg5 arg6 harg6 x1 x2 x4 x5).take 64) ((kernelRun0_A.sl.HS0_160 (F := Ideal) c arg2 harg2 arg3 harg3 arg5 harg5 arg6 harg6 x1 x2 x4 x5).drop 64) j hj inb (stA160 c arg2 harg2 arg3 harg3 arg5 harg5 arg6 harg6 x1 x2 x4 x5) (cvA160 c arg2 harg2 arg3 harg3 arg5 harg5 arg6 harg6 x1 x2 x4 x5 ⟨j, hj⟩)
  rw [List.take_append_drop] at e
  exact congrFun e (ix3 0 r k)

/-- The keys' second group, merged from its residues. -/
theorem r4 : kernelRun0_A.sl.r_4 (F := Ideal) c arg2 harg2 arg17 x1 = fun y => mrow (d := 4) (n := 128) rfl x1 (y 0) (y 1) := by
  delta kernelRun0_A.sl.r_4 k0_pay24
  exact beside (d := 4) (n := 128) rfl x1 _ _ _ _ (key16 c arg2 harg2 x1 arg17 0 (by decide) _) (key16 c arg2 harg2 x1 arg17 1 (by decide) _) (key16 c arg2 harg2 x1 arg17 2 (by decide) _) (key16 c arg2 harg2 x1 arg17 3 (by decide) _) _ _ _ _ _

/-- The keys' third group, merged from its residues. -/
theorem r19 : kernelRun0_A.sl.r_19 (F := Ideal) c arg2 harg2 arg3 harg3 arg17 x1 x2 = fun y => mrow (d := 16) (n := 32) rfl x2 (y 0) (y 1) := by
  delta kernelRun0_A.sl.r_19 k0_pay111 kernelRun0_A.sl.v392 kernelRun0_A.sl.v394 kernelRun0_A.sl.v396 kernelRun0_A.sl.v398
  exact beside (d := 16) (n := 32) rfl x2 _ _ _ _ (key80 c arg2 harg2 arg3 harg3 x1 x2 arg17 0 (by decide) _) (key80 c arg2 harg2 arg3 harg3 x1 x2 arg17 1 (by decide) _) (key80 c arg2 harg2 arg3 harg3 x1 x2 arg17 2 (by decide) _) (key80 c arg2 harg2 arg3 harg3 x1 x2 arg17 3 (by decide) _) _ _ _ _ _

/-- The values' second group, merged from its residues. -/
theorem r26 : kernelRun0_A.sl.r_26 (F := Ideal) c arg2 harg2 arg3 harg3 arg5 harg5 arg17 x1 x2 x4 = fun y => mrow (d := 4) (n := 128) rfl x4 (y 0) (y 1) := by
  delta kernelRun0_A.sl.r_26 k0_pay136 kernelRun0_A.sl.v480 kernelRun0_A.sl.v482 kernelRun0_A.sl.v484 kernelRun0_A.sl.v486
  exact beside (d := 4) (n := 128) rfl x4 _ _ _ _ (key96 c arg2 harg2 arg3 harg3 arg5 harg5 x1 x2 x4 arg17 0 (by decide) _) (key96 c arg2 harg2 arg3 harg3 arg5 harg5 x1 x2 x4 arg17 1 (by decide) _) (key96 c arg2 harg2 arg3 harg3 arg5 harg5 x1 x2 x4 arg17 2 (by decide) _) (key96 c arg2 harg2 arg3 harg3 arg5 harg5 x1 x2 x4 arg17 3 (by decide) _) _ _ _ _ _

/-- The values' third group, merged from its residues. -/
theorem c160 (h hc) :
    cat4 (kernelRun0_A.sl.v793 (F := Ideal) c arg2 harg2 arg3 harg3 arg5 harg5 arg6 harg6 arg17 x1 x2 x4 x5) (kernelRun0_A.sl.v795 (F := Ideal) c arg2 harg2 arg3 harg3 arg5 harg5 arg6 harg6 arg17 x1 x2 x4 x5) (kernelRun0_A.sl.v797 (F := Ideal) c arg2 harg2 arg3 harg3 arg5 harg5 arg6 harg6 arg17 x1 x2 x4 x5) (kernelRun0_A.sl.v799 (F := Ideal) c arg2 harg2 arg3 harg3 arg5 harg5 arg6 harg6 arg17 x1 x2 x4 x5) h hc = fun y => mrow (d := 16) (n := 32) rfl x5 (y 0) (y 1) := by
  delta kernelRun0_A.sl.v793 kernelRun0_A.sl.v795 kernelRun0_A.sl.v797 kernelRun0_A.sl.v799
  exact beside (d := 16) (n := 32) rfl x5 _ _ _ _ (key160 c arg2 harg2 arg3 harg3 arg5 harg5 arg6 harg6 x1 x2 x4 x5 arg17 0 (by decide) _) (key160 c arg2 harg2 arg3 harg3 arg5 harg5 arg6 harg6 x1 x2 x4 x5 arg17 1 (by decide) _) (key160 c arg2 harg2 arg3 harg3 arg5 harg5 arg6 harg6 x1 x2 x4 x5 arg17 2 (by decide) _) (key160 c arg2 harg2 arg3 harg3 arg5 harg5 arg6 harg6 x1 x2 x4 x5 arg17 3 (by decide) _) _ _ _ _ _

end Stored

section Loads
variable (m : (ℓ : Loc nD τ sig) → Buf (Elt Ideal) ℓ) (c : Dev nD) (t : Fin cfg0.N)

/-- A row of the block of vectors. -/
abbrev row (k : ℕ) (inb : ∀ a, (![k, 0] : Fin 2 → ℕ) a + S1x1024.size a ≤ S8x1024.size a) (X : Vec Ideal S8x1024 .f32) : Vec Ideal S1x1024 .f32 :=
  View.ld (Val := Elt Ideal) (e' := .f32) X (Rect.unit ![k, 0] S1x1024.size inb)

abbrev b0 : Vec Ideal S1x512x512 .bf16 := iblk m c 0 t
abbrev b1 : Vec Ideal S4x128x512 .bf16 := iblk m c 1 t
abbrev b2 : Vec Ideal S16x32x512 .bf16 := iblk m c 2 t
abbrev b3 : Vec Ideal S1x512x512 .bf16 := iblk m c 3 t
abbrev b4 : Vec Ideal S4x128x512 .bf16 := iblk m c 4 t
abbrev b5 : Vec Ideal S16x32x512 .bf16 := iblk m c 5 t
abbrev bX : Vec Ideal S512x1024 .f32 := iblk m c 6 t
abbrev bO : Vec Ideal S512x1024 .f32 := iblk m c 7 t
abbrev vG : Vec Ideal S1x1024 .f32 := row 0 inb_S8x1024_S1x1024_0_0 (iblk m c 8 t)
abbrev vS : Vec Ideal S1x1024 .f32 := row 2 inb_S8x1024_S1x1024_2_0 (iblk m c 8 t)
abbrev bW : Vec Ideal S1024x3072 .bf16 := iblk m c 9 t
abbrev tC : Vec Ideal S512x128 .f32 := iblk m c 10 t
abbrev tP : Vec Ideal S512x128 .f32 := iblk m c 11 t
abbrev tS : Vec Ideal S512x128 .f32 := iblk m c 12 t

/-- A block's cotangents of the six parts, side by side. -/
def dD (r : Fin 512) : Fin 3072 → EReal :=
  six (fun k => b0 m c t (ix3 0 r k)) (mrow (d := 4) (n := 128) rfl (b1 m c t) r) (mrow (d := 16) (n := 32) rfl (b2 m c t) r) (fun k => b3 m c t (ix3 0 r k)) (mrow (d := 4) (n := 128) rfl (b4 m c t) r) (mrow (d := 16) (n := 32) rfl (b5 m c t) r)

/-- The same with the keys' parts turned back. -/
def dR : FVec Ideal S512x3072 .bf16 := fun y =>
  if h : (y 1).val < 1536 then rot (fun z => dD m c t (y 0) ⟨z.val, by omega⟩) (rowOf (tC m c t) (y 0)) (rowOf (tP m c t) (y 0)) (rowOf (tS m c t) (y 0)) ⟨(y 1).val, h⟩ else dD m c t (y 0) (y 1)

/-- A block's cotangent of the modulated rows. -/
abbrev dH : FVec Ideal S512x1024 .f32 := mm (dR m c t) (bW m c t)

abbrev dX : FVec Ideal S512x1024 .f32 := k0_pay233 (dH m c t) (bX m c t) (k0_pay227 (vG m c t)) (k0_pay228 (vS m c t)) (k0_pay230 (bX m c t)) (k0_pay231 (bX m c t)) half (bO m c t)

/-- A block's shares of the vectors' gradients. -/
abbrev dV : FVec Ideal S8x1024 .f32 := k0_pay234 (dH m c t) (bX m c t) (k0_pay227 (vG m c t)) (k0_pay228 (vS m c t)) (k0_pay230 (bX m c t))

abbrev prev (h : 1 ≤ t.val) := outsAt0 m c (t.val - 1) (Nat.lt_of_le_of_lt (Nat.sub_le _ _) t.isLt)

/-- The rows' cotangents, and the values' part of them, as they are loaded. -/
abbrev R39 := kernelRun0_A.sl.r_39 (F := Ideal) c (ms0_0 t) (hs0_0 t) (ms0_1 t) (hs0_1 t) (ms0_2 t) (hs0_2 t) (ms0_3 t) (hs0_3 t) (ms0_4 t) (hs0_4 t) (ms0_5 t) (hs0_5 t) scM0_0 (iblk m c 0 t) (iblk m c 1 t) (iblk m c 2 t) (iblk m c 3 t) (iblk m c 4 t) (iblk m c 5 t)

abbrev R40 := kernelRun0_A.sl.r_40 (F := Ideal) c (ms0_0 t) (hs0_0 t) (ms0_1 t) (hs0_1 t) (ms0_2 t) (hs0_2 t) (ms0_3 t) (hs0_3 t) (ms0_4 t) (hs0_4 t) (ms0_5 t) (hs0_5 t) scM0_0 (iblk m c 0 t) (iblk m c 1 t) (iblk m c 2 t) (iblk m c 3 t) (iblk m c 4 t) (iblk m c 5 t)

theorem r39 (r : Fin 512) (k : Fin 3072) : (R39 m c t) (ix2 r k) = dD m c t r k := by
  delta R39 kernelRun0_A.sl.r_39 kernelRun0_A.sl.r_20 kernelRun0_A.sl.r
  simp only [Base.readAt_whole (hs0_0 t) _ Base.hz3, Base.readAt_whole (hs0_3 t) _ Base.hz3]
  rw [p223, r4, r19, r26, c160, show rowOf (k0_pay2 (iblk m c 0 t)) r = fun k => b0 m c t (ix3 0 r k) from funext (p2 _ r), show rowOf (k0_pay112 (iblk m c 3 t)) r = fun k => b3 m c t (ix3 0 r k) from funext (p112 _ r)]
  rfl

theorem r40 (r : Fin 512) (k : Fin 1536) : (R40 m c t) (ix2 r k) = dD m c t r ⟨k.val, by omega⟩ := by
  rw [← r39]
  delta R40 kernelRun0_A.sl.r_40
  exact p224 _ _ _ _ _ _ _ _ _ r k

theorem r225 : k0_pay225 (R39 m c t) (R40 m c t) (tC m c t) (tP m c t) (tS m c t) = dR m c t := by
  refine Base.ext2 fun r k => ?_
  rw [p225, r39, show rowOf (R40 m c t) r = fun z => dD m c t r ⟨z.val, by omega⟩ from funext (r40 m c t r)]
  rfl

theorem r226 : k0_pay226 (R39 m c t) (R40 m c t) (tC m c t) (tP m c t) (tS m c t) (bW m c t) = dH m c t := by
  show mm (k0_pay225 _ _ _ _ _) _ = _
  rw [r225]

section A
variable (h0 : t.val % 16 = 0) (h1 : ¬1 ≤ t.val)

include h0 h1 in
theorem a13 : (outsAt0 m c t.val t.isLt).1 = dX m c t := by
  rw [outsAt0_A m c t h0 h1]
  dsimp only
  unfold out0_A_13
  rw [View.read_writes_junk_eq_canon]
  unfold kernelRun0_A
  dsimp only
  rw [View.canon_unit_zero Base.hz2]
  delta kernelRun0_A.sl.r_41 kernelRun0_A.sl.r_42 kernelRun0_A.sl.r_43 kernelRun0_A.sl.r_44 kernelRun0_A.sl.r_45 kernelRun0_A.sl.r_46 kernelRun0_A.sl.cst_657
  simp only [Base.readAt_whole (hs0_6 t) _ Base.hz2, Base.readAt_whole (hs0_7 t) _ Base.hz2, Base.readAt_whole (hs0_9 t) _ Base.hz2, Base.readAt_whole (hs0_10 t) _ Base.hz2, Base.readAt_whole (hs0_11 t) _ Base.hz2, Base.readAt_whole (hs0_12 t) _ Base.hz2, ldX, r226]
  try rfl

include h0 h1 in
theorem a14 : (outsAt0 m c t.val t.isLt).2.1 = dR m c t := by
  rw [outsAt0_A m c t h0 h1]
  dsimp only
  unfold out0_A_14
  rw [View.read_writes_junk_eq_canon]
  unfold kernelRun0_A
  dsimp only
  rw [View.canon_unit_zero Base.hz2]
  simp only [Base.readAt_whole (hs0_10 t) _ Base.hz2, Base.readAt_whole (hs0_11 t) _ Base.hz2, Base.readAt_whole (hs0_12 t) _ Base.hz2]
  exact r225 m c t

include h0 h1 in
theorem a15 : (outsAt0 m c t.val t.isLt).2.2 = dV m c t := by
  rw [outsAt0_A m c t h0 h1]
  dsimp only
  unfold out0_A_15
  rw [View.read_writes_junk_eq_canon]
  unfold kernelRun0_A
  dsimp only
  rw [View.canon_unit_zero Base.hz2]
  delta kernelRun0_A.sl.r_41 kernelRun0_A.sl.r_42 kernelRun0_A.sl.r_43 kernelRun0_A.sl.r_44 kernelRun0_A.sl.r_45
  simp only [Base.readAt_whole (hs0_6 t) _ Base.hz2, Base.readAt_whole (hs0_9 t) _ Base.hz2, Base.readAt_whole (hs0_10 t) _ Base.hz2, Base.readAt_whole (hs0_11 t) _ Base.hz2, Base.readAt_whole (hs0_12 t) _ Base.hz2, Base.readAt_whole (hs0_15 t) _ Base.hz2, ldX, r226]
  try rfl

end A

section B
variable (h0 : ¬t.val % 16 = 0) (h1 : 1 ≤ t.val)

include h0 h1 in
theorem b13 : (outsAt0 m c t.val t.isLt).1 = dX m c t := by
  rw [outsAt0_B m c t h0 h1]
  dsimp only
  unfold out0_B_13
  rw [View.read_writes_junk_eq_canon]
  unfold kernelRun0_B
  dsimp only
  rw [View.canon_unit_zero Base.hz2]
  delta kernelRun0_B.sl.r_41 kernelRun0_B.sl.r_42 kernelRun0_B.sl.r_43 kernelRun0_B.sl.r_44 kernelRun0_B.sl.r_45 kernelRun0_B.sl.r_46 kernelRun0_B.sl.cst_657
  rw [show @kernelRun0_B.sl.r_39 = @kernelRun0_A.sl.r_39 from rfl, show @kernelRun0_B.sl.r_40 = @kernelRun0_A.sl.r_40 from rfl]
  simp only [Base.readAt_whole (hs0_6 t) _ Base.hz2, Base.readAt_whole (hs0_7 t) _ Base.hz2, Base.readAt_whole (hs0_9 t) _ Base.hz2, Base.readAt_whole (hs0_10 t) _ Base.hz2, Base.readAt_whole (hs0_11 t) _ Base.hz2, Base.readAt_whole (hs0_12 t) _ Base.hz2, ldX, r226]
  try rfl

include h0 h1 in
theorem b14 : (outsAt0 m c t.val t.isLt).2.1 = dR m c t := by
  rw [outsAt0_B m c t h0 h1]
  dsimp only
  unfold out0_B_14
  rw [View.read_writes_junk_eq_canon]
  unfold kernelRun0_B
  dsimp only
  rw [View.canon_unit_zero Base.hz2]
  rw [show @kernelRun0_B.sl.r_39 = @kernelRun0_A.sl.r_39 from rfl, show @kernelRun0_B.sl.r_40 = @kernelRun0_A.sl.r_40 from rfl]
  simp only [Base.readAt_whole (hs0_10 t) _ Base.hz2, Base.readAt_whole (hs0_11 t) _ Base.hz2, Base.readAt_whole (hs0_12 t) _ Base.hz2]
  exact r225 m c t

include h0 h1 in
theorem b15 : (outsAt0 m c t.val t.isLt).2.2 = k0_pay1 (dV m c t) (prev m c t h1).2.2 := by
  rw [outsAt0_B m c t h0 h1]
  dsimp only
  unfold out0_B_15
  rw [View.read_writes_junk_eq_canon]
  unfold kernelRun0_B
  dsimp only
  rw [View.canon_unit_zero Base.hz2]
  delta kernelRun0_B.sl.r_47 kernelRun0_B.sl.r_41 kernelRun0_B.sl.r_42 kernelRun0_B.sl.r_43 kernelRun0_B.sl.r_44 kernelRun0_B.sl.r_45
  rw [show @kernelRun0_B.sl.r_39 = @kernelRun0_A.sl.r_39 from rfl, show @kernelRun0_B.sl.r_40 = @kernelRun0_A.sl.r_40 from rfl]
  simp only [Base.readAt_whole (hs0_6 t) _ Base.hz2, Base.readAt_whole (hs0_9 t) _ Base.hz2, Base.readAt_whole (hs0_10 t) _ Base.hz2, Base.readAt_whole (hs0_11 t) _ Base.hz2, Base.readAt_whole (hs0_12 t) _ Base.hz2, Base.readAt_whole (hs0_15 t) _ Base.hz2, ldX, r226]
  try rfl

end B

end Loads

end Cert.KvbIdeal.Out
-- ==== Proof.KvbVal.lean ====
module

public import proofs.«01_k».proof.Proof.At
public import proofs.«01_k».proof.Proof.KvbOut
public import proofs.«01_k».proof.Proof.RopeSpec

@[expose] public section

set_option maxRecDepth 16384

noncomputable section

namespace Cert.KvbIdeal.Val

open Cert.KvbIdeal Cert.KvbIdeal.Gen Idealize.ShloMosaic Idealize.ShloMosaic.TcCoe Idealize.SL.Sem
open Idealize.ShloMosaic.Pipeline (Dat)
open Base Pure Out Rope RopeSpec

variable (m : (ℓ : Loc nD τ sig) → Buf (Elt Ideal) ℓ) (c : Dev nD)

/-- The row of the whole matrix that is row `r` of the block of point `t`. -/
def at_ (t : Fin cfg0.N) (r : Fin 512) : Fin 8192 := ⟨512 * t.val + r.val, by have := t.isLt; have e : cfg0.N = 16 := rfl; omega⟩

/-- The rows of a group, merged from its `d` residues of 8192 / `d` rows each. -/
def merged {d n : ℕ} (hdn : n * d = 8192) (Y : (⟨3, ![d, n, 512]⟩ : Shape).Idx → EReal) (i : Fin 8192) (k : Fin 512) : EReal :=
  Y (ix3 ⟨i.val % d, Nat.mod_lt _ (Nat.pos_of_ne_zero fun h => by subst h; omega)⟩ ⟨i.val / d, Nat.div_lt_of_lt_mul (by rw [Nat.mul_comm, hdn]; exact i.isLt)⟩ k)

/-- The cotangents of the six parts, side by side. -/
def parts (i : Fin 8192) : Fin 3072 → EReal :=
  six (fun k => V m c main_v8 (ix3 0 i k)) (merged (d := 4) (n := 2048) rfl (V m c main_v12) i) (merged (d := 16) (n := 512) rfl (V m c main_v16) i)
    (fun k => V m c main_v20 (ix3 0 i k)) (merged (d := 4) (n := 2048) rfl (V m c main_v24) i) (merged (d := 16) (n := 512) rfl (V m c main_v28) i)

/-- What the call reads. -/
def K : Args 3072 where
  D := parts m c
  C i k := V m c main_v64 (ix2 i k)
  P i k := V m c main_v71 (ix2 i k)
  S i k := V m c main_v76 (ix2 i k)
  O i j := V m c main_arg12 (ix2 i j)
  X i j := V m c main_arg0 (ix2 i j)
  G j := V m c main_v4 (ix2 0 j)
  H j := V m c main_v4 (ix2 2 j)
  W k j := V m c main_v29 (ix2 j k)
  hN := by decide

theorem emb6 (t : Fin cfg0.N) (r : Fin 512) (k : Fin 1024) : (win0_6.rect t).emb (ix2 r k) = ix2 (at_ t r) k :=
  at2 (fun a => win0_6.rect_emb_val t _ a) (by revert t; decide +kernel) rfl rfl

theorem emb7 (t : Fin cfg0.N) (r : Fin 512) (k : Fin 1024) : (win0_7.rect t).emb (ix2 r k) = ix2 (at_ t r) k :=
  at2 (fun a => win0_7.rect_emb_val t _ a) (by revert t; decide +kernel) rfl rfl

theorem emb10 (t : Fin cfg0.N) (r : Fin 512) (k : Fin 128) : (win0_10.rect t).emb (ix2 r k) = ix2 (at_ t r) k :=
  at2 (fun a => win0_10.rect_emb_val t _ a) (by revert t; decide +kernel) rfl rfl

theorem emb11 (t : Fin cfg0.N) (r : Fin 512) (k : Fin 128) : (win0_11.rect t).emb (ix2 r k) = ix2 (at_ t r) k :=
  at2 (fun a => win0_11.rect_emb_val t _ a) (by revert t; decide +kernel) rfl rfl

theorem emb12 (t : Fin cfg0.N) (r : Fin 512) (k : Fin 128) : (win0_12.rect t).emb (ix2 r k) = ix2 (at_ t r) k :=
  at2 (fun a => win0_12.rect_emb_val t _ a) (by revert t; decide +kernel) rfl rfl

theorem emb13 (t : Fin cfg0.N) (r : Fin 512) (k : Fin 1024) : (win0_13.rect t).emb (ix2 r k) = ix2 (at_ t r) k :=
  at2 (fun a => win0_13.rect_emb_val t _ a) (by revert t; decide +kernel) rfl rfl

theorem emb14 (t : Fin cfg0.N) (r : Fin 512) (k : Fin 3072) : (win0_14.rect t).emb (ix2 r k) = ix2 (at_ t r) k :=
  at2 (fun a => win0_14.rect_emb_val t _ a) (by revert t; decide +kernel) rfl rfl

theorem emb8 (t : Fin cfg0.N) (r : Fin 8) (k : Fin 1024) : (win0_8.rect t).emb (ix2 r k) = ix2 r k :=
  at2 (q := 0) (fun a => win0_8.rect_emb_val t _ a) (by revert t; decide +kernel) (Nat.zero_add _) rfl

theorem emb9 (t : Fin cfg0.N) (r : Fin 1024) (k : Fin 3072) : (win0_9.rect t).emb (ix2 r k) = ix2 r k :=
  at2 (q := 0) (fun a => win0_9.rect_emb_val t _ a) (by revert t; decide +kernel) (Nat.zero_add _) rfl

theorem emb15 (t : Fin cfg0.N) (r : Fin 8) (k : Fin 1024) : (win0_15.rect t).emb (ix2 r k) = ix2 r k :=
  at2 (q := 0) (fun a => win0_15.rect_emb_val t _ a) (by revert t; decide +kernel) (Nat.zero_add _) rfl

theorem emb0 (t : Fin cfg0.N) (a : Fin 1) (r : Fin 512) (k : Fin 512) : (win0_0.rect t).emb (ix3 a r k) = ix3 a ⟨512 * t.val + r.val, by have := t.isLt; have e : cfg0.N = 16 := rfl; omega⟩ k :=
  at3 (p := 0) (fun a => win0_0.rect_emb_val t _ a) (by revert t; decide +kernel) (Nat.zero_add _) rfl rfl

theorem emb1 (t : Fin cfg0.N) (a : Fin 4) (r : Fin 128) (k : Fin 512) : (win0_1.rect t).emb (ix3 a r k) = ix3 a ⟨128 * t.val + r.val, by have := t.isLt; have e : cfg0.N = 16 := rfl; omega⟩ k :=
  at3 (p := 0) (fun a => win0_1.rect_emb_val t _ a) (by revert t; decide +kernel) (Nat.zero_add _) rfl rfl

theorem emb2 (t : Fin cfg0.N) (a : Fin 16) (r : Fin 32) (k : Fin 512) : (win0_2.rect t).emb (ix3 a r k) = ix3 a ⟨32 * t.val + r.val, by have := t.isLt; have e : cfg0.N = 16 := rfl; omega⟩ k :=
  at3 (p := 0) (fun a => win0_2.rect_emb_val t _ a) (by revert t; decide +kernel) (Nat.zero_add _) rfl rfl

theorem emb3 (t : Fin cfg0.N) (a : Fin 1) (r : Fin 512) (k : Fin 512) : (win0_3.rect t).emb (ix3 a r k) = ix3 a ⟨512 * t.val + r.val, by have := t.isLt; have e : cfg0.N = 16 := rfl; omega⟩ k :=
  at3 (p := 0) (fun a => win0_3.rect_emb_val t _ a) (by revert t; decide +kernel) (Nat.zero_add _) rfl rfl

theorem emb4 (t : Fin cfg0.N) (a : Fin 4) (r : Fin 128) (k : Fin 512) : (win0_4.rect t).emb (ix3 a r k) = ix3 a ⟨128 * t.val + r.val, by have := t.isLt; have e : cfg0.N = 16 := rfl; omega⟩ k :=
  at3 (p := 0) (fun a => win0_4.rect_emb_val t _ a) (by revert t; decide +kernel) (Nat.zero_add _) rfl rfl

theorem emb5 (t : Fin cfg0.N) (a : Fin 16) (r : Fin 32) (k : Fin 512) : (win0_5.rect t).emb (ix3 a r k) = ix3 a ⟨32 * t.val + r.val, by have := t.isLt; have e : cfg0.N = 16 := rfl; omega⟩ k :=
  at3 (p := 0) (fun a => win0_5.rect_emb_val t _ a) (by revert t; decide +kernel) (Nat.zero_add _) rfl rfl

theorem hX (t : Fin cfg0.N) (r : Fin 512) (k : Fin 1024) : bX m c t (ix2 r k) = (K m c).X (at_ t r) k := by
  show V m c main_arg0 ((win0_6.rect t).emb (ix2 r k)) = V m c main_arg0 (ix2 (at_ t r) k)
  rw [emb6]

theorem hO (t : Fin cfg0.N) (r : Fin 512) (k : Fin 1024) : bO m c t (ix2 r k) = (K m c).O (at_ t r) k := by
  show V m c main_arg12 ((win0_7.rect t).emb (ix2 r k)) = V m c main_arg12 (ix2 (at_ t r) k)
  rw [emb7]

theorem hC (t : Fin cfg0.N) (r : Fin 512) (k : Fin 128) : tC m c t (ix2 r k) = (K m c).C (at_ t r) k := by
  show V m c main_v64 ((win0_10.rect t).emb (ix2 r k)) = V m c main_v64 (ix2 (at_ t r) k)
  rw [emb10]

theorem hP (t : Fin cfg0.N) (r : Fin 512) (k : Fin 128) : tP m c t (ix2 r k) = (K m c).P (at_ t r) k := by
  show V m c main_v71 ((win0_11.rect t).emb (ix2 r k)) = V m c main_v71 (ix2 (at_ t r) k)
  rw [emb11]

theorem hS (t : Fin cfg0.N) (r : Fin 512) (k : Fin 128) : tS m c t (ix2 r k) = (K m c).S (at_ t r) k := by
  show V m c main_v76 ((win0_12.rect t).emb (ix2 r k)) = V m c main_v76 (ix2 (at_ t r) k)
  rw [emb12]

theorem hW (t : Fin cfg0.N) (j : Fin 1024) (k : Fin 3072) : bW m c t (ix2 j k) = (K m c).W k j := by
  show V m c main_v29 ((win0_9.rect t).emb (ix2 j k)) = V m c main_v29 (ix2 j k)
  rw [emb9]

theorem hG (t : Fin cfg0.N) (j : Fin 1024) : Out.vG m c t (ix2 0 j) = (K m c).G j := by
  show V m c main_v4 ((win0_8.rect t).emb ((Rect.unit (s := S8x1024) ![0, 0] S1x1024.size inb_S8x1024_S1x1024_0_0).emb (ix2 0 j))) = V m c main_v4 (ix2 0 j)
  rw [show (Rect.unit (s := S8x1024) ![0, 0] S1x1024.size inb_S8x1024_S1x1024_0_0).emb (ix2 0 j) = ix2 0 j from by
    funext a
    match a with
    | ⟨0, _⟩ => rfl
    | ⟨1, _⟩ => exact Fin.ext (by show 0 + 1 * j.val = j.val; omega), emb8]

theorem hH (t : Fin cfg0.N) (j : Fin 1024) : Out.vS m c t (ix2 0 j) = (K m c).H j := by
  show V m c main_v4 ((win0_8.rect t).emb ((Rect.unit (s := S8x1024) ![2, 0] S1x1024.size inb_S8x1024_S1x1024_2_0).emb (ix2 0 j))) = V m c main_v4 (ix2 2 j)
  rw [show (Rect.unit (s := S8x1024) ![2, 0] S1x1024.size inb_S8x1024_S1x1024_2_0).emb (ix2 0 j) = ix2 2 j from by
    funext a
    match a with
    | ⟨0, _⟩ => rfl
    | ⟨1, _⟩ => exact Fin.ext (by show 0 + 1 * j.val = j.val; omega), emb8]

theorem h0 (t : Fin cfg0.N) (r k : Fin 512) : b0 m c t (ix3 0 r k) = V m c main_v8 (ix3 0 (at_ t r) k) := by
  show V m c main_v8 ((win0_0.rect t).emb (ix3 0 r k)) = _
  rw [emb0]
  rfl

theorem h3 (t : Fin cfg0.N) (r k : Fin 512) : b3 m c t (ix3 0 r k) = V m c main_v20 (ix3 0 (at_ t r) k) := by
  show V m c main_v20 ((win0_3.rect t).emb (ix3 0 r k)) = _
  rw [emb3]
  rfl

theorem h1 (t : Fin cfg0.N) (r k : Fin 512) : mrow (d := 4) (n := 128) rfl (b1 m c t) r k = merged (d := 4) (n := 2048) rfl (V m c main_v12) (at_ t r) k := by
  show V m c main_v12 ((win0_1.rect t).emb (ix3 ⟨r.val % 4, _⟩ ⟨r.val / 4, _⟩ k)) = V m c main_v12 (ix3 ⟨(512 * t.val + r.val) % 4, _⟩ ⟨(512 * t.val + r.val) / 4, _⟩ k)
  rw [emb1]
  congr 2 <;> exact Fin.ext (by simp only []; omega)

theorem h2 (t : Fin cfg0.N) (r k : Fin 512) : mrow (d := 16) (n := 32) rfl (b2 m c t) r k = merged (d := 16) (n := 512) rfl (V m c main_v16) (at_ t r) k := by
  show V m c main_v16 ((win0_2.rect t).emb (ix3 ⟨r.val % 16, _⟩ ⟨r.val / 16, _⟩ k)) = V m c main_v16 (ix3 ⟨(512 * t.val + r.val) % 16, _⟩ ⟨(512 * t.val + r.val) / 16, _⟩ k)
  rw [emb2]
  congr 2 <;> exact Fin.ext (by simp only []; omega)

theorem h4 (t : Fin cfg0.N) (r k : Fin 512) : mrow (d := 4) (n := 128) rfl (b4 m c t) r k = merged (d := 4) (n := 2048) rfl (V m c main_v24) (at_ t r) k := by
  show V m c main_v24 ((win0_4.rect t).emb (ix3 ⟨r.val % 4, _⟩ ⟨r.val / 4, _⟩ k)) = V m c main_v24 (ix3 ⟨(512 * t.val + r.val) % 4, _⟩ ⟨(512 * t.val + r.val) / 4, _⟩ k)
  rw [emb4]
  congr 2 <;> exact Fin.ext (by simp only []; omega)

theorem h5 (t : Fin cfg0.N) (r k : Fin 512) : mrow (d := 16) (n := 32) rfl (b5 m c t) r k = merged (d := 16) (n := 512) rfl (V m c main_v28) (at_ t r) k := by
  show V m c main_v28 ((win0_5.rect t).emb (ix3 ⟨r.val % 16, _⟩ ⟨r.val / 16, _⟩ k)) = V m c main_v28 (ix3 ⟨(512 * t.val + r.val) % 16, _⟩ ⟨(512 * t.val + r.val) / 16, _⟩ k)
  rw [emb5]
  congr 2 <;> exact Fin.ext (by simp only []; omega)

/-! ## One block -/

section Block
variable (t : Fin cfg0.N)

theorem bparts (r : Fin 512) : dD m c t r = parts m c (at_ t r) := by
  have e0 : (fun k => b0 m c t (ix3 0 r k)) = fun k => V m c main_v8 (ix3 0 (at_ t r) k) := funext fun k => h0 m c t r k
  have e3 : (fun k => b3 m c t (ix3 0 r k)) = fun k => V m c main_v20 (ix3 0 (at_ t r) k) := funext fun k => h3 m c t r k
  have e1 : mrow (d := 4) (n := 128) rfl (b1 m c t) r = merged (d := 4) (n := 2048) rfl (V m c main_v12) (at_ t r) := funext fun k => h1 m c t r k
  have e2 : mrow (d := 16) (n := 32) rfl (b2 m c t) r = merged (d := 16) (n := 512) rfl (V m c main_v16) (at_ t r) := funext fun k => h2 m c t r k
  have e4 : mrow (d := 4) (n := 128) rfl (b4 m c t) r = merged (d := 4) (n := 2048) rfl (V m c main_v24) (at_ t r) := funext fun k => h4 m c t r k
  have e5 : mrow (d := 16) (n := 32) rfl (b5 m c t) r = merged (d := 16) (n := 512) rfl (V m c main_v28) (at_ t r) := funext fun k => h5 m c t r k
  unfold dD parts
  rw [e0, e1, e2, e3, e4, e5]

theorem bpr (r : Fin 512) (k : Fin 3072) : dR m c t (ix2 r k) = pr (K m c) (at_ t r) k := by
  have e3 : rowOf (tC m c t) r = (K m c).C (at_ t r) := funext fun k => hC m c t r k
  have e4 : rowOf (tP m c t) r = (K m c).P (at_ t r) := funext fun k => hP m c t r k
  have e5 : rowOf (tS m c t) r = (K m c).S (at_ t r) := funext fun k => hS m c t r k
  show (if h : k.val < 1536 then rot (fun z => dD m c t r ⟨z.val, by omega⟩) (rowOf (tC m c t) r) (rowOf (tP m c t) r) (rowOf (tS m c t) r) ⟨k.val, h⟩ else dD m c t r k) = _
  rw [bparts m c t, e3, e4, e5]
  rfl

theorem bdh (r : Fin 512) (j : Fin 1024) : dH m c t (ix2 r j) = dh (K m c) (at_ t r) j := by
  rw [dH, p226]
  exact Finset.sum_congr rfl fun k _ => by rw [hW]; exact congrArg (· * _) (bpr m c t r k)

theorem bdx (r : Fin 512) (j : Fin 1024) : dX m c t (ix2 r j) = dx (K m c) (at_ t r) j := by
  rw [dX, p233, hO]
  have e1 : rowOf (bX m c t) r = (K m c).X (at_ t r) := funext fun k => hX m c t r k
  have e2 : wrow (rowOf (vG m c t) 0) (rowOf (vS m c t) 0) (rowOf (dH m c t) r) = wr (K m c) (at_ t r) := funext fun k => by
    show dH m c t (ix2 r k) * (1 + vS m c t (ix2 0 k)) * vG m c t (ix2 0 k) = _
    rw [bdh m c t, hH, hG]; rfl
  rw [e1, e2]
  rfl

theorem bpart (r : Fin 8) (j : Fin 1024) : dV m c t (ix2 r j) = ∑ i, part (K m c) (at_ t i) r j := by
  have e1 : ∀ i, rowOf (bX m c t) i = (K m c).X (at_ t i) := fun i => funext fun k => hX m c t i k
  have e2 : ∀ i, dH m c t (ix2 i j) = dh (K m c) (at_ t i) j := fun i => bdh m c t i j
  rw [dV, p234]
  unfold part
  split_ifs
  · exact Finset.sum_congr rfl fun i _ => by rw [e1, e2, hH]
  · exact Finset.sum_congr rfl fun i _ => e2 i
  · exact Finset.sum_congr rfl fun i _ => by rw [e1, e2, hG]
  · exact Finset.sum_const_zero.symm

end Block

/-! ## The points in order -/

theorem out13 (t : Fin cfg0.N) (r : Fin 512) (j : Fin 1024) : (outsAt0 m c t.val t.isLt).1 (ix2 r j) = dx (K m c) (at_ t r) j := by
  have hN : cfg0.N = 16 := rfl
  have ht := t.isLt
  by_cases h : t.val % 16 = 0
  · rw [a13 m c t h (by omega), bdx m c t]
  · rw [b13 m c t h (by omega), bdx m c t]

theorem out14 (t : Fin cfg0.N) (r : Fin 512) (j : Fin 3072) : (outsAt0 m c t.val t.isLt).2.1 (ix2 r j) = pr (K m c) (at_ t r) j := by
  have hN : cfg0.N = 16 := rfl
  have ht := t.isLt
  by_cases h : t.val % 16 = 0
  · rw [a14 m c t h (by omega), bpr m c t]
  · rw [b14 m c t h (by omega), bpr m c t]

theorem acc15 (n : Nat) (h : n < cfg0.N) (r : Fin 8) (j : Fin 1024) : (outsAt0 m c n h).2.2 (ix2 r j)
    = ∑ k : Fin (n + 1), ∑ i, part (K m c) (at_ ⟨k.val, Nat.lt_of_lt_of_le k.isLt h⟩ i) r j := by
  refine acc_sum (N := cfg0.N) (fun t (x : Fin 8 × Fin 1024) => (outsAt0 m c t.val t.isLt).2.2 (ix2 x.1 x.2))
    (fun t x => ∑ i, part (K m c) (at_ t i) x.1 x.2) ?_ ?_ n h (r, j)
  · intro h x
    exact (congrFun (a15 m c ⟨0, h⟩ rfl (by simp)) _).trans (bpart m c ⟨0, h⟩ _ _)
  · intro n h x
    have hN : cfg0.N = 16 := rfl
    exact (congrFun (b15 m c ⟨n + 1, h⟩ (by show ¬(n + 1) % 16 = 0; omega) (by show 1 ≤ n + 1; omega)) _).trans
      ((p1 _ _ _ _).trans (congrArg _ (bpart m c ⟨n + 1, h⟩ _ _)))

/-! ## The results -/

theorem final13 (r : Fin 8192) (k : Fin 1024) : (dats m 0 c).arrAt 13 cfg0.N (ix2 r k) = dx (K m c) r k := by
  let t : Fin cfg0.N := ⟨r.val / 512, by have := r.isLt; show _ < 16; omega⟩
  let i : Fin 512 := ⟨r.val % 512, Nat.mod_lt _ (by decide)⟩
  have er : at_ t i = r := Fin.ext (by show 512 * (r.val / 512) + r.val % 512 = r.val; omega)
  have h := congrFun (Value.blocks13 m c t (flush0_13 t)) (ix2 i k)
  rw [Value.flushed13] at h
  rw [← er]
  refine Eq.trans ?_ (h.trans (out13 m c t i k))
  show _ = (dats m 0 c).arrAt 13 cfg0.N ((win0_13.rect t).emb (ix2 i k))
  rw [emb13]

theorem final14 (r : Fin 8192) (k : Fin 3072) : (dats m 0 c).arrAt 14 cfg0.N (ix2 r k) = pr (K m c) r k := by
  let t : Fin cfg0.N := ⟨r.val / 512, by have := r.isLt; show _ < 16; omega⟩
  let i : Fin 512 := ⟨r.val % 512, Nat.mod_lt _ (by decide)⟩
  have er : at_ t i = r := Fin.ext (by show 512 * (r.val / 512) + r.val % 512 = r.val; omega)
  have h := congrFun (Value.blocks14 m c t (flush0_14 t)) (ix2 i k)
  rw [Value.flushed14] at h
  rw [← er]
  refine Eq.trans ?_ (h.trans (out14 m c t i k))
  show _ = (dats m 0 c).arrAt 14 cfg0.N ((win0_14.rect t).emb (ix2 i k))
  rw [emb14]

def last : Fin cfg0.N := ⟨15, by decide⟩

/-- The sum over the points is the sum over the rows. -/
theorem sum_rows (f : Fin 8192 → EReal) : ∑ k : Fin (15 + 1), ∑ i, f (at_ ⟨k.val, k.isLt⟩ i) = ∑ i, f i :=
  (sum_blocks 16 512 8192 (by decide) f (fun t r => ⟨512 * t.val + r.val, by omega⟩) fun _ _ => rfl).symm

theorem final15 (r : Fin 8) (j : Fin 1024) : (dats m 0 c).arrAt 15 cfg0.N (ix2 r j) = ∑ i, part (K m c) i r j := by
  have hd : ∀ t t' : Fin cfg0.N, (cfg0.win 15).flush t = true → (cfg0.win 15).flush t' = true → t ≠ t' →
      Disjoint ((cfg0.win 15).blk t).view.set ((cfg0.win 15).blk t').view.set := fun t t' h h' hne => by
    have e : cfg0.N = 16 := rfl
    have := t.isLt; have := t'.isLt; have := (flush0_15 t).mp h; have := (flush0_15 t').mp h'
    exact absurd (Fin.ext (by omega)) hne
  have h := congrFun ((dats m 0 c).read_blk_arrAt_eq_flushed 15 hd cfg0.N last last.isLt ((flush0_15 last).mpr rfl)) (ix2 r j)
  rw [Value.flushed15] at h
  refine Eq.trans ?_ (h.trans ((acc15 m c 15 last.isLt r j).trans (sum_rows fun i => part (K m c) i r j)))
  show _ = (dats m 0 c).arrAt 15 cfg0.N ((win0_15.rect last).emb (ix2 r j))
  rw [emb15]

end Cert.KvbIdeal.Val
-- ==== Proof.KvbRef.lean ====
module

public import proofs.«01_k».proof.Proof.Gen.KvbRefIdeal.Read
public import proofs.«01_k».proof.Proof.QbRef
public import proofs.«01_k».proof.Proof.KvbPure

@[expose] public section

set_option maxRecDepth 16384

noncomputable section

namespace Cert.KvbRefIdeal.Rd

open Cert.KvbRefIdeal Cert.KvbRefIdeal.Read Idealize.ShloMosaic
open Base Rope RopeSpec
open Cert.KvbIdeal.Pure (six)
open Cert.QbRefIdeal.Rd (heads cs sn)

variable (x0 : S8192x1024.Idx → EReal) (x1 x3 : S1024.Idx → EReal) (x4 : S1024x3072.Idx → EReal) (x5 : S8192.Idx → BitVec 32)
  (x6 x7 x8 x9 x10 x11 : S8192x8x64.Idx → EReal) (x12 : S8192x1024.Idx → EReal)

/-- What the reference computes with. -/
def R : Args 3072 where
  D i := six (heads x6 i) (heads x7 i) (heads x8 i) (heads x9 i) (heads x10 i) (heads x11 i)
  C i l := if l.val % 64 < 16 then cs x5 i ⟨l.val % 8, Nat.mod_lt _ (by decide)⟩ else 1
  P i l := if 8 ≤ l.val % 64 ∧ l.val % 64 < 16 then sn x5 i ⟨l.val % 8, Nat.mod_lt _ (by decide)⟩ else 0
  S i l := if l.val % 64 < 8 then -sn x5 i ⟨l.val % 8, Nat.mod_lt _ (by decide)⟩ else 0
  O i j := x12 (ix2 i j)
  X i j := x0 (ix2 i j)
  G j := x1 (ix1 j)
  H j := x3 (ix1 j)
  W k j := x4 (ix2 j k)
  hN := by decide

/-- The tables are those of the positions. -/
theorem tables (i : Fin 8192) : Tables (cs x5 i) (sn x5 i) ((R x0 x1 x3 x4 x5 x6 x7 x8 x9 x10 x11 x12).C i) ((R x0 x1 x3 x4 x5 x6 x7 x8 x9 x10 x11 x12).P i) ((R x0 x1 x3 x4 x5 x6 x7 x8 x9 x10 x11 x12).S i) := ⟨fun _ => rfl, fun _ => rfl, fun _ => rfl⟩

theorem cs_eq (i : Fin 8192) (f : Fin 8) : cs x5 i f = val_main_v16 (F := Ideal) x5 (ix2 i f) := rfl
theorem sn_eq (i : Fin 8192) (f : Fin 8) : sn x5 i f = val_main_v18 (F := Ideal) x5 (ix2 i f) := rfl

/-- Three groups' heads, side by side. -/
theorem three_heads (y0 y1 y2 : S8192x8x64.Idx → EReal) (i : Fin 8192) (h : Fin 24) (e : Fin 64) (k : Fin 1536) (hk : k.val = 64 * h.val + e.val) :
    val_main_v63 (F := Ideal) y0 y1 y2 (ix3 i h e) = three (heads y0 i) (heads y1 i) (heads y2 i) k := by
  have hh := h.isLt
  have he := e.isLt
  obtain ⟨k, hk'⟩ := k
  obtain rfl : k = 64 * h.val + e.val := hk
  pointwise [val_main_v63]
  unfold three heads
  simp only []
  have q0 : 64 * h.val + e.val < 512 ↔ h.val < 8 := by omega
  have q1 : 64 * h.val + e.val - 512 < 512 ↔ h.val - 8 < 8 := by omega
  simp only [q0, q1]
  split_ifs
  all_goals (refine congrArg _ (congrArg₂ (ix3 i) (Fin.ext ?_) (Fin.ext ?_)) <;> (show _ = _) <;> dsimp only <;> omega)

/-- The first half of the six blocks, and the second. -/
theorem six_low (v0 v1 v2 v3 v4 v5 : Fin 512 → EReal) (z : Fin 1536) : six v0 v1 v2 v3 v4 v5 ⟨z.val, by omega⟩ = three v0 v1 v2 z := by
  have hz := z.isLt
  unfold six three
  simp only []
  split_ifs
  all_goals first | rfl | (exfalso; omega)

theorem six_high (v0 v1 v2 v3 v4 v5 : Fin 512 → EReal) (z : Fin 3072) (hz : ¬z.val < 1536) : six v0 v1 v2 v3 v4 v5 z = three v3 v4 v5 ⟨z.val - 1536, by omega⟩ := by
  have hz' := z.isLt
  unfold six three
  simp only []
  split_ifs
  all_goals first | (exfalso; omega) | exact congrArg _ (Fin.ext (by show _ = _; dsimp only; omega))

set_option maxHeartbeats 1000000 in
theorem r83 (i : Fin 8192) (k : Fin 1536) : val_main_v83 (F := Ideal) x5 x6 x7 x8 (ix2 i k) = pr (R x0 x1 x3 x4 x5 x6 x7 x8 x9 x10 x11 x12) i ⟨k.val, by omega⟩ := by
  have hk := k.isLt
  unfold pr
  have e63 : ∀ h e, val_main_v63 (F := Ideal) x6 x7 x8 (ix3 i h e) = three (heads x6 i) (heads x7 i) (heads x8 i) ⟨64 * h.val + e.val, by omega⟩ := fun h e => three_heads x6 x7 x8 i h e _ rfl
  have ed : (fun z : Fin 1536 => (R x0 x1 x3 x4 x5 x6 x7 x8 x9 x10 x11 x12).D i ⟨z.val, by omega⟩) = three (heads x6 i) (heads x7 i) (heads x8 i) := funext fun z => six_low _ _ _ _ _ _ z
  rw [dif_pos hk, ed, turn _ (tables x0 x1 x3 x4 x5 x6 x7 x8 x9 x10 x11 x12 i), show cs x5 i = fun f => val_main_v16 (F := Ideal) x5 (ix2 i f) from funext fun f => cs_eq x5 i f, show sn x5 i = fun f => val_main_v18 (F := Ideal) x5 (ix2 i f) from funext fun f => sn_eq x5 i f]
  pointwise [val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v19, val_main_v17, val_main_cst_8, val_main_cst_9, val_main_cst_10]
  simp only [e63]
  exact pads _ (fun f => val_main_v16 (F := Ideal) x5 (ix2 i f)) (fun f => val_main_v18 (F := Ideal) x5 (ix2 i f)) k

theorem r86 (i : Fin 8192) (k : Fin 3072) : val_main_v86 (F := Ideal) x5 x6 x7 x8 x9 x10 x11 (ix2 i k) = pr (R x0 x1 x3 x4 x5 x6 x7 x8 x9 x10 x11 x12) i k := by
  have hk := k.isLt
  have e83 := r83 x0 x1 x3 x4 x5 x6 x7 x8 x9 x10 x11 x12 i
  by_cases h : k.val < 1536
  · refine Eq.trans ?_ (e83 ⟨k.val, h⟩)
    unfold val_main_v86
    generalize val_main_v83 (F := Ideal) x5 x6 x7 x8 = u
    generalize val_main_v85 (F := Ideal) x9 x10 x11 = v
    pointwise []
    rw [dif_pos h]
  · unfold pr
    rw [dif_neg h]
    show _ = six (heads x6 i) (heads x7 i) (heads x8 i) (heads x9 i) (heads x10 i) (heads x11 i) k
    rw [six_high _ _ _ _ _ _ k h, ← three_heads x9 x10 x11 i ⟨(k.val - 1536) / 64, by omega⟩ ⟨(k.val - 1536) % 64, Nat.mod_lt _ (by decide)⟩ _ (by show k.val - 1536 = 64 * ((k.val - 1536) / 64) + (k.val - 1536) % 64; omega)]
    unfold val_main_v86
    generalize val_main_v83 (F := Ideal) x5 x6 x7 x8 = u
    show _ = val_main_v84 (F := Ideal) x9 x10 x11 _
    unfold val_main_v85
    generalize val_main_v84 (F := Ideal) x9 x10 x11 = v
    pointwise []
    rw [dif_neg h]

theorem r87 (i : Fin 8192) (j : Fin 1024) : val_main_v87 (F := Ideal) x4 x5 x6 x7 x8 x9 x10 x11 (ix2 i j) = dh (R x0 x1 x3 x4 x5 x6 x7 x8 x9 x10 x11 x12) i j := by
  unfold dh
  simp only [← r86]
  pointwise [val_main_v87]
  rfl

theorem r101 (i : Fin 8192) (j : Fin 1024) : val_main_v101 (F := Ideal) x1 x3 x4 x5 x6 x7 x8 x9 x10 x11 (ix2 i j) = wr (R x0 x1 x3 x4 x5 x6 x7 x8 x9 x10 x11 x12) i j := by
  unfold wr
  rw [← r87]
  pointwise [val_main_v101, val_main_v100, val_main_v95, val_main_v94, val_main_v38, val_main_v37, val_main_v36, val_main_v34, val_main_v33, val_main_cst_7]
  rfl

theorem r117 (i : Fin 8192) (j : Fin 1024) : val_main_v117 (F := Ideal) x0 x1 x3 x4 x5 x6 x7 x8 x9 x10 x11 x12 (ix2 i j) = dx (R x0 x1 x3 x4 x5 x6 x7 x8 x9 x10 x11 x12) i j := by
  unfold dx
  rw [show wr (R x0 x1 x3 x4 x5 x6 x7 x8 x9 x10 x11 x12) i = fun k => val_main_v101 (F := Ideal) x1 x3 x4 x5 x6 x7 x8 x9 x10 x11 (ix2 i k) from funext fun k => (r101 x0 x1 x3 x4 x5 x6 x7 x8 x9 x10 x11 x12 i k).symm]
  pointwise [val_main_v117, val_main_v116, val_main_v115, val_main_v114, val_main_v113, val_main_v112, val_main_v111, val_main_v110, val_main_v109, val_main_v108, val_main_v107, val_main_v106, val_main_v105, val_main_v104, val_main_v103, val_main_v30, val_main_v29, val_main_v28, val_main_v27, val_main_v26, val_main_v25, val_main_v24, val_main_v23, val_main_v22, val_main_v21, val_main_v20, val_main_cst_3, val_main_cst_4, val_main_cst_5, val_main_cst_6, val_main_cst_17, val_main_cst_18, val_main_cst_19]
  simp only [Finset.univ_unique, Finset.sum_singleton]
  rfl

theorem r118 (i : Fin 8192) (k : Fin 3072) : val_main_v118 (F := Ideal) x5 x6 x7 x8 x9 x10 x11 (ix2 i k) = pr (R x0 x1 x3 x4 x5 x6 x7 x8 x9 x10 x11 x12) i k := by
  rw [← r86]
  pointwise [val_main_v118]

theorem r123 (r : Fin 8) (j : Fin 1024) : val_main_v123 (F := Ideal) x0 x1 x3 x4 x5 x6 x7 x8 x9 x10 x11 (ix2 r j) = ∑ i, part (R x0 x1 x3 x4 x5 x6 x7 x8 x9 x10 x11 x12) i r j := by
  unfold part
  simp only [← r87]
  pointwise [val_main_v123, val_main_v122, val_main_v121, val_main_v120, val_main_v119, val_main_v102, val_main_v99, val_main_v98, val_main_v97, val_main_v96, val_main_v95, val_main_v94, val_main_v93, val_main_v92, val_main_v91, val_main_v90, val_main_v89, val_main_v88, val_main_v38, val_main_v37, val_main_v36, val_main_v35, val_main_v34, val_main_v33, val_main_v32, val_main_v31, val_main_v27, val_main_v26, val_main_v25, val_main_v24, val_main_v23, val_main_v22, val_main_v21, val_main_v20, val_main_cst_3, val_main_cst_4, val_main_cst_5, val_main_cst_7, val_main_cst_11, val_main_cst_12, val_main_cst_13, val_main_cst_14, val_main_cst_15, val_main_cst_16, val_main_cst_20]
  simp only [Finset.univ_unique, Finset.sum_singleton]
  by_cases h0 : r.val < 1
  · simp only [h0, if_true, dif_pos]
    rfl
  by_cases h1 : r.val - 1 < 1
  · simp only [h0, h1, if_true, if_false, dif_pos, dif_neg, not_false_eq_true]
  by_cases h2 : r.val - 1 - 1 < 1
  · simp only [h0, h1, h2, if_true, if_false, dif_pos, dif_neg, not_false_eq_true]
    rfl
  · simp only [h0, h1, h2, if_false, dif_neg, not_false_eq_true, Finset.sum_const_zero]

end Cert.KvbRefIdeal.Rd
-- ==== Proof.KvbClaim.lean ====
module

public import proofs.«01_k».proof.Defs
public import proofs.«01_k».proof.Proof.KvbVal
public import proofs.«01_k».proof.Proof.KvbRef
public import proofs.«01_k».proof.Proof.QbClaim
public import proofs.«01_k».proof.Proof.Gen.KvbIdeal.Value
public import proofs.«01_k».proof.Proof.Gen.KvbRefIdeal.Run

@[expose] public section

set_option maxRecDepth 16384

noncomputable section

namespace Cert.KvbClaim

open Idealize.ShloMosaic Idealize.ShloMosaic.TcCoe Idealize.SL.Sem Cert.KvbIdeal Cert.KvbIdeal.Gen
open Base Rope RopeSpec

variable (m : (ℓ : Loc Cert.KvbIdeal.nD Cert.KvbIdeal.τ Cert.KvbIdeal.sig) → Buf (Elt Ideal) ℓ) (c : Dev Cert.KvbIdeal.nD)

/-- The reference's quantities at the call's arguments. -/
abbrev RR : Args 3072 := Cert.KvbRefIdeal.Rd.R (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

set_option maxHeartbeats 6000000 in
/-- What the kernel reads but the tables. -/
theorem hosts : (V m c main_v4 = (concatenate S8x1024 0 [⟨S1x1024, shapeCast S1x1024 ((m ((c.tc : Thread nD τ).loc main_arg1)) : FVec Ideal S1024 .f32) shapeCasts_S1024_S1x1024⟩, ⟨S1x1024, shapeCast S1x1024 ((m ((c.tc : Thread nD τ).loc main_arg2)) : FVec Ideal S1024 .f32) shapeCasts_S1024_S1x1024⟩, ⟨S1x1024, shapeCast S1x1024 ((m ((c.tc : Thread nD τ).loc main_arg3)) : FVec Ideal S1024 .f32) shapeCasts_S1024_S1x1024⟩,
    ⟨S5x1024, broadcastInDim S5x1024 ![] bcast_S_S5x1024 (constant S_ .f32 0#32)⟩] concatenates_S1x1024_S1x1024_S1x1024_S5x1024_S8x1024_d0 : FVec Ideal S8x1024 .f32))
    ∧ (V m c main_v8 = (truncf .bf16 (transpose S1x8192x512 [1, 0, 2] (shapeCast S8192x1x512 (shapeCast S8192x512 ((m ((c.tc : Thread nD τ).loc main_arg6)) : FVec Ideal S8192x8x64 .f32) shapeCasts_S8192x8x64_S8192x512) shapeCasts_S8192x512_S8192x1x512) transposes_S8192x1x512_S1x8192x512_1_0_2) bitsLt_bf16_f32 : FVec Ideal S1x8192x512 .bf16))
    ∧ (V m c main_v12 = (truncf .bf16 (transpose S4x2048x512 [1, 0, 2] (shapeCast S2048x4x512 (shapeCast S8192x512 ((m ((c.tc : Thread nD τ).loc main_arg7)) : FVec Ideal S8192x8x64 .f32) shapeCasts_S8192x8x64_S8192x512) shapeCasts_S8192x512_S2048x4x512) transposes_S2048x4x512_S4x2048x512_1_0_2) bitsLt_bf16_f32 : FVec Ideal S4x2048x512 .bf16))
    ∧ (V m c main_v16 = (truncf .bf16 (transpose S16x512x512 [1, 0, 2] (shapeCast S512x16x512 (shapeCast S8192x512 ((m ((c.tc : Thread nD τ).loc main_arg8)) : FVec Ideal S8192x8x64 .f32) shapeCasts_S8192x8x64_S8192x512) shapeCasts_S8192x512_S512x16x512) transposes_S512x16x512_S16x512x512_1_0_2) bitsLt_bf16_f32 : FVec Ideal S16x512x512 .bf16))
    ∧ (V m c main_v20 = (truncf .bf16 (transpose S1x8192x512 [1, 0, 2] (shapeCast S8192x1x512 (shapeCast S8192x512 ((m ((c.tc : Thread nD τ).loc main_arg9)) : FVec Ideal S8192x8x64 .f32) shapeCasts_S8192x8x64_S8192x512) shapeCasts_S8192x512_S8192x1x512) transposes_S8192x1x512_S1x8192x512_1_0_2) bitsLt_bf16_f32 : FVec Ideal S1x8192x512 .bf16))
    ∧ (V m c main_v24 = (truncf .bf16 (transpose S4x2048x512 [1, 0, 2] (shapeCast S2048x4x512 (shapeCast S8192x512 ((m ((c.tc : Thread nD τ).loc main_arg10)) : FVec Ideal S8192x8x64 .f32) shapeCasts_S8192x8x64_S8192x512) shapeCasts_S8192x512_S2048x4x512) transposes_S2048x4x512_S4x2048x512_1_0_2) bitsLt_bf16_f32 : FVec Ideal S4x2048x512 .bf16))
    ∧ (V m c main_v28 = (truncf .bf16 (transpose S16x512x512 [1, 0, 2] (shapeCast S512x16x512 (shapeCast S8192x512 ((m ((c.tc : Thread nD τ).loc main_arg11)) : FVec Ideal S8192x8x64 .f32) shapeCasts_S8192x8x64_S8192x512) shapeCasts_S8192x512_S512x16x512) transposes_S512x16x512_S16x512x512_1_0_2) bitsLt_bf16_f32 : FVec Ideal S16x512x512 .bf16))
    ∧ (V m c main_v29 = (truncf .bf16 ((m ((c.tc : Thread nD τ).loc main_arg4)) : FVec Ideal S1024x3072 .f32) bitsLt_bf16_f32 : FVec Ideal S1024x3072 .bf16)) := by
  refine ⟨?_, ?_, ?_, ?_, ?_, ?_, ?_, ?_⟩ <;> (unfold V; simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]; after_results) <;> rfl

set_option maxHeartbeats 6000000 in
/-- The tables that the kernel reads. -/
theorem tabs : (V m c main_v64 = Cert.RopeTab.tC (m ((c.tc : Thread nD τ).loc main_arg5)))
    ∧ (V m c main_v71 = Cert.RopeTab.tP (m ((c.tc : Thread nD τ).loc main_arg5)))
    ∧ (V m c main_v76 = Cert.RopeTab.tS (m ((c.tc : Thread nD τ).loc main_arg5))) := by
  refine ⟨?_, ?_, ?_⟩ <;> (unfold V; simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]; after_results; simp only [StableHlo.TRef.ofBuf_toBuf]) <;> rfl

theorem merge4 (x : FVec Ideal S8192x8x64 .f32) (i : Fin 8192) (k : Fin 512) :
    (truncf .bf16 (transpose S4x2048x512 [1, 0, 2] (shapeCast S2048x4x512 (shapeCast S8192x512 (x : FVec Ideal S8192x8x64 .f32) shapeCasts_S8192x8x64_S8192x512) shapeCasts_S8192x512_S2048x4x512) transposes_S2048x4x512_S4x2048x512_1_0_2) bitsLt_bf16_f32 : FVec Ideal S4x2048x512 .bf16) (ix3 ⟨i.val % 4, Nat.mod_lt _ (by decide)⟩ ⟨i.val / 4, by omega⟩ k) = Cert.QbRefIdeal.Rd.heads x i k :=
  (Cert.QbClaim.perm4 x ⟨i.val % 4, Nat.mod_lt _ (by decide)⟩ ⟨i.val / 4, by omega⟩ k).trans (congrArg (fun z => x (ix3 z _ _)) (Fin.ext (Nat.div_add_mod' i.val 4)))

theorem merge16 (x : FVec Ideal S8192x8x64 .f32) (i : Fin 8192) (k : Fin 512) :
    (truncf .bf16 (transpose S16x512x512 [1, 0, 2] (shapeCast S512x16x512 (shapeCast S8192x512 (x : FVec Ideal S8192x8x64 .f32) shapeCasts_S8192x8x64_S8192x512) shapeCasts_S8192x512_S512x16x512) transposes_S512x16x512_S16x512x512_1_0_2) bitsLt_bf16_f32 : FVec Ideal S16x512x512 .bf16) (ix3 ⟨i.val % 16, Nat.mod_lt _ (by decide)⟩ ⟨i.val / 16, by omega⟩ k) = Cert.QbRefIdeal.Rd.heads x i k :=
  (Cert.QbClaim.perm16 x ⟨i.val % 16, Nat.mod_lt _ (by decide)⟩ ⟨i.val / 16, by omega⟩ k).trans (congrArg (fun z => x (ix3 z _ _)) (Fin.ext (Nat.div_add_mod' i.val 16)))

theorem hD1 (i : Fin 8192) (k : Fin 512) : V m c main_v8 (ix3 0 i k) = Cert.QbRefIdeal.Rd.heads (m ((c.tc : Thread nD τ).loc main_arg6)) i k := by
  rw [(hosts m c).2.1]
  exact Cert.QbClaim.perm1 _ i k

theorem hD4 (i : Fin 8192) (k : Fin 512) : Cert.KvbIdeal.Val.merged (d := 4) (n := 2048) rfl (V m c main_v12) i k = Cert.QbRefIdeal.Rd.heads (m ((c.tc : Thread nD τ).loc main_arg7)) i k := by
  unfold Cert.KvbIdeal.Val.merged
  rw [(hosts m c).2.2.1]
  exact merge4 _ i k

theorem hD16 (i : Fin 8192) (k : Fin 512) : Cert.KvbIdeal.Val.merged (d := 16) (n := 512) rfl (V m c main_v16) i k = Cert.QbRefIdeal.Rd.heads (m ((c.tc : Thread nD τ).loc main_arg8)) i k := by
  unfold Cert.KvbIdeal.Val.merged
  rw [(hosts m c).2.2.2.1]
  exact merge16 _ i k

theorem hC (i : Fin 8192) (l : Fin 128) : V m c main_v64 (ix2 i l) = (RR m c).C i l := by rw [(tabs m c).1]; exact Cert.RopeTab.tC_eq _ i l
theorem hP (i : Fin 8192) (l : Fin 128) : V m c main_v71 (ix2 i l) = (RR m c).P i l := by rw [(tabs m c).2.1]; exact Cert.RopeTab.tP_eq _ i l
theorem hS (i : Fin 8192) (l : Fin 128) : V m c main_v76 (ix2 i l) = (RR m c).S i l := by rw [(tabs m c).2.2]; exact Cert.RopeTab.tS_eq _ i l
theorem hO (i : Fin 8192) (j : Fin 1024) : V m c main_arg12 (ix2 i j) = (RR m c).O i j := by rw [V_main_arg12]; rfl
theorem hX (i : Fin 8192) (j : Fin 1024) : V m c main_arg0 (ix2 i j) = (RR m c).X i j := by rw [V_main_arg0]; rfl
theorem hG (j : Fin 1024) : V m c main_v4 (ix2 0 j) = (RR m c).G j := by rw [(hosts m c).1]; unfold RR Cert.KvbRefIdeal.Rd.R; pointwise []
theorem hH (j : Fin 1024) : V m c main_v4 (ix2 2 j) = (RR m c).H j := by rw [(hosts m c).1]; unfold RR Cert.KvbRefIdeal.Rd.R; pointwise []
theorem hW (k : Fin 3072) (j : Fin 1024) : V m c main_v29 (ix2 j k) = (RR m c).W k j := by rw [(hosts m c).2.2.2.2.2.2.2]; unfold RR Cert.KvbRefIdeal.Rd.R; pointwise []

theorem hE1 (i : Fin 8192) (k : Fin 512) : V m c main_v20 (ix3 0 i k) = Cert.QbRefIdeal.Rd.heads (m ((c.tc : Thread nD τ).loc main_arg9)) i k := by
  rw [(hosts m c).2.2.2.2.1]
  exact Cert.QbClaim.perm1 _ i k

theorem hE4 (i : Fin 8192) (k : Fin 512) : Cert.KvbIdeal.Val.merged (d := 4) (n := 2048) rfl (V m c main_v24) i k = Cert.QbRefIdeal.Rd.heads (m ((c.tc : Thread nD τ).loc main_arg10)) i k := by
  unfold Cert.KvbIdeal.Val.merged
  rw [(hosts m c).2.2.2.2.2.1]
  exact merge4 _ i k

theorem hE16 (i : Fin 8192) (k : Fin 512) : Cert.KvbIdeal.Val.merged (d := 16) (n := 512) rfl (V m c main_v28) i k = Cert.QbRefIdeal.Rd.heads (m ((c.tc : Thread nD τ).loc main_arg11)) i k := by
  unfold Cert.KvbIdeal.Val.merged
  rw [(hosts m c).2.2.2.2.2.2.1]
  exact merge16 _ i k

theorem six_congr {a0 a1 a2 a3 a4 a5 b0 b1 b2 b3 b4 b5 : Fin 512 → EReal} (h0 : a0 = b0) (h1 : a1 = b1) (h2 : a2 = b2) (h3 : a3 = b3) (h4 : a4 = b4) (h5 : a5 = b5) :
    Cert.KvbIdeal.Pure.six a0 a1 a2 a3 a4 a5 = Cert.KvbIdeal.Pure.six b0 b1 b2 b3 b4 b5 := by
  rw [h0, h1, h2, h3, h4, h5]

theorem args_eq (a b : Args 3072) (hD : ∀ i, a.D i = b.D i) (hC : ∀ i l, a.C i l = b.C i l) (hP : ∀ i l, a.P i l = b.P i l) (hS : ∀ i l, a.S i l = b.S i l)
    (hO : ∀ i l, a.O i l = b.O i l) (hX : ∀ i l, a.X i l = b.X i l) (hG : ∀ l, a.G l = b.G l) (hH : ∀ l, a.H l = b.H l) (hW : ∀ k l, a.W k l = b.W k l) : a = b := by
  cases a
  cases b
  simp only [Args.mk.injEq]
  exact ⟨funext hD, funext fun i => funext (hC i), funext fun i => funext (hP i), funext fun i => funext (hS i), funext fun i => funext (hO i), funext fun i => funext (hX i),
    funext hG, funext hH, funext fun i => funext (hW i)⟩

theorem hD (i : Fin 8192) : (Cert.KvbIdeal.Val.K m c).D i = (RR m c).D i := by
  unfold Cert.KvbIdeal.Val.K RR Cert.KvbRefIdeal.Rd.R
  dsimp only
  have h0 := funext (hD1 m c i)
  have h1 := funext (hD4 m c i)
  have h2 := funext (hD16 m c i)
  have h3 := funext (hE1 m c i)
  have h4 := funext (hE4 m c i)
  have h5 := funext (hE16 m c i)
  exact six_congr h0 h1 h2 h3 h4 h5

set_option maxHeartbeats 4000000 in
/-- The kernel's quantities are the reference's. -/
theorem K_eq : Cert.KvbIdeal.Val.K m c = (RR m c) := by
  apply args_eq
  · exact hD m c
  · exact hC m c
  · exact hP m c
  · exact hS m c
  · exact hO m c
  · exact hX m c
  · exact hG m c
  · exact hH m c
  · exact hW m c

theorem out117 : Cert.KvbRefIdeal.Read.val_main_v117 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = (dats m 0 c).arrAt 13 cfg0.N := by
  refine Cert.Base.ext2 fun r k => ?_
  have e : _ = dx (RR m c) r k := Cert.KvbRefIdeal.Rd.r117 _ _ _ _ _ _ _ _ _ _ _ _ r k
  rw [← K_eq m c] at e
  exact e.trans (Cert.KvbIdeal.Val.final13 m c r k).symm

theorem out118 : Cert.KvbRefIdeal.Read.val_main_v118 (F := Ideal) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = (dats m 0 c).arrAt 14 cfg0.N := by
  refine Cert.Base.ext2 fun r k => ?_
  have e : _ = pr (RR m c) r k := Cert.KvbRefIdeal.Rd.r118 _ _ _ _ _ _ _ _ _ _ _ _ r k
  rw [← K_eq m c] at e
  exact e.trans (Cert.KvbIdeal.Val.final14 m c r k).symm

theorem out123 : Cert.KvbRefIdeal.Read.val_main_v123 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = (dats m 0 c).arrAt 15 cfg0.N := by
  refine Cert.Base.ext2 fun r k => ?_
  have e : _ = ∑ i, part (RR m c) i r k := Cert.KvbRefIdeal.Rd.r123 _ _ _ _ _ _ _ _ _ _ _ _ r k
  rw [← K_eq m c] at e
  exact e.trans (Cert.KvbIdeal.Val.final15 m c r k).symm

/-- The three results of the keys' and values' backward projection are those of the reference's derivative. -/
theorem kv_algebraic : algebraic_KvbIdeal_KvbRefIdeal (hKvbIdeal := Cert.KvbIdeal.Gen.facts) (hKvbRefIdeal := Cert.KvbRefIdeal.Gen.facts) := by
  intro m g m' g' _ hm
  refine ⟨_, _, _, Cert.KvbIdeal.Value.run_blocks m g, (θ_run _ _ _).mono (fun r h c => ?_) (Cert.KvbRefIdeal.Value.run m' g')⟩
  obtain ⟨h0, h1, h2, ha⟩ := h c
  obtain ⟨e0, e1, e2, e3, e4, e5, e6, e7, e8, e9, e10, e11, e12⟩ := hm c
  refine ⟨h0.trans ?_, h1.trans ?_, h2.trans ?_, ha⟩
  · refine (Cert.KvbRefIdeal.Read.val_main_v117_eq m' c).trans (Eq.trans ?_ (out117 m c))
    rw [e0, e1, e3, e4, e5, e6, e7, e8, e9, e10, e11, e12]
  · refine (Cert.KvbRefIdeal.Read.val_main_v118_eq m' c).trans (Eq.trans ?_ (out118 m c))
    rw [e5, e6, e7, e8, e9, e10, e11]
  · refine (Cert.KvbRefIdeal.Read.val_main_v123_eq m' c).trans (Eq.trans ?_ (out123 m c))
    rw [e0, e1, e3, e4, e5, e6, e7, e8, e9, e10, e11]

/-- The reference leaves its arguments as they are; it declares no semaphore. -/
theorem kv_ref_frame : quiescent_KvbRefIdeal (hKvbRefIdeal := Cert.KvbRefIdeal.Gen.facts) := fun m ρ _ =>
  (θ_run Cert.KvbRefIdeal.defs _ _).mono (fun r h => ⟨fun c => (h c).2.2.2, sem_eq_zero_of_no_sems (by decide) r.2⟩)
    (Cert.KvbRefIdeal.Value.run (F := Ideal) m ρ)

end Cert.KvbClaim

end
-- ==== Proof.FfwSpec.lean ====
module

public import proofs.«01_k».proof.Proof.Base

@[expose] public section

noncomputable section

namespace Cert.FfwSpec

open Idealize.ShloMosaic Base

/-- One half, as the programs write it. -/
abbrev cHalf : EReal := Ideal.ofBits .f32 1056964608#32

/-- The logistic function, as the kernel writes it. -/
def sg (x : EReal) : EReal := Ideal.div 1 (1 + Ideal.exp (0 - x))

/-- The derivative by the first factor, by the second, and the gated product. -/
def gA (a b : EReal) : EReal := b * (sg a + a * sg a * (1 - sg a))
def gB (a : EReal) : EReal := a * sg a
def gU (a b : EReal) : EReal := a * sg a * b

/-- What both programs compute with: the rows, the norm's factor, the shift, the scale, the gate and the weights. -/
structure Args where
  X : Fin 8192 → Fin 1024 → EReal
  G : Fin 1024 → EReal
  H : Fin 1024 → EReal
  S : Fin 1024 → EReal
  A : Fin 1024 → EReal
  WI : Fin 5632 → Fin 1024 → EReal
  WO : Fin 2816 → Fin 1024 → EReal

variable (a : Args)

/-- The modulated norm of the rows. -/
def h (i : Fin 8192) (j : Fin 1024) : EReal := nrm (a.X i) j * a.G j * (1 + a.S j) + a.H j

/-- The two halves of the product. -/
def pA (i : Fin 8192) (k : Fin 2816) : EReal := ∑ j, h a i j * a.WI ⟨k.val, by omega⟩ j
def pB (i : Fin 8192) (k : Fin 2816) : EReal := ∑ j, h a i j * a.WI ⟨2816 + k.val, by omega⟩ j

def ga (i : Fin 8192) (k : Fin 2816) : EReal := gA (pA a i k) (pB a i k)
def gb (i : Fin 8192) (k : Fin 2816) : EReal := gB (pA a i k)
def u (i : Fin 8192) (k : Fin 2816) : EReal := gU (pA a i k) (pB a i k)
def y (i : Fin 8192) (j : Fin 1024) : EReal := ∑ k, u a i k * a.WO k j
def xn (i : Fin 8192) (j : Fin 1024) : EReal := a.X i j + cHalf * (1 + a.A j) * y a i j

end Cert.FfwSpec
-- ==== Proof.FfwPure.lean ====
module

public import proofs.«01_k».proof.Defs
public import proofs.«01_k».proof.Proof.Gen.FfwIdeal.Skeleton
public import proofs.«01_k».proof.Proof.FfwSpec

@[expose] public section

set_option maxRecDepth 16384

noncomputable section

namespace Cert.FfwIdeal.Pure

open Cert.FfwIdeal Cert.FfwIdeal.Gen Idealize.ShloMosaic

open Base FfwSpec

variable (h : FVec Ideal S512x1024 .bf16) (w1 w2 : Vec Ideal S256x1024 .bf16)

theorem p24 (r : Fin 512) (j : Fin 256) : k0_pay24 h w1 w2 (ix2 r j) = gA (∑ k, h (ix2 r k) * w1 (ix2 j k)) (∑ k, h (ix2 r k) * w2 (ix2 j k)) := by
  pointwise [k0_pay24, k0_pay23, k0_pay22, k0_pay21, k0_pay20]
  rfl

theorem p25 (r : Fin 512) (j : Fin 256) : k0_pay25 h w1 (ix2 r j) = gB (∑ k, h (ix2 r k) * w1 (ix2 j k)) := by
  pointwise [k0_pay25, k0_pay23, k0_pay22, k0_pay20]
  rfl

theorem p26 (r : Fin 512) (j : Fin 256) : k0_pay26 h w1 w2 (ix2 r j) = gU (∑ k, h (ix2 r k) * w1 (ix2 j k)) (∑ k, h (ix2 r k) * w2 (ix2 j k)) := by
  pointwise [k0_pay26, k0_pay23, k0_pay22, k0_pay21, k0_pay20]
  rfl

theorem p4 (v0 : Vec Ideal S512x1024 .f32) (v1 v3 v5 : Vec Ideal S1x1024 .f32) (r : Fin 512) (j : Fin 1024) :
    k0_pay4 v0 v1 v3 v5 (ix2 r j) = nrm (fun k => v0 (ix2 r k)) j * v1 (ix2 0 j) * (1 + v5 (ix2 0 j)) + v3 (ix2 0 j) := by
  pointwise [k0_pay4]
  rfl

theorem p2 (u : Vec Ideal S512x2816 .bf16) (w : Vec Ideal S2816x1024 .bf16) (r : Fin 512) (j : Fin 1024) :
    k0_pay2 u w (ix2 r j) = ∑ k, u (ix2 r k) * w (ix2 k j) := by
  pointwise [k0_pay2, k0_pay1]

theorem p3 (v0 : Vec Ideal S512x1024 .f32) (u : Vec Ideal S512x2816 .bf16) (w : Vec Ideal S2816x1024 .bf16) (v : Vec Ideal S1x1024 .f32) (r : Fin 512) (j : Fin 1024) :
    k0_pay3 v0 u w v (ix2 r j) = v0 (ix2 r j) + cHalf * (1 + v (ix2 0 j)) * ∑ k, u (ix2 r k) * w (ix2 k j) := by
  pointwise [k0_pay3, k0_pay1]

end Cert.FfwIdeal.Pure
-- ==== Proof.FfwOut.lean ====
module

public import proofs.«01_k».proof.Proof.Gen.FfwIdeal.Value
public import proofs.«01_k».proof.Proof.FfwPure
public import Idealize.ShloMosaic.Lib.WritesUnit

@[expose] public section

set_option maxRecDepth 16384

noncomputable section

namespace Cert.FfwIdeal.Out

open Cert.FfwIdeal Cert.FfwIdeal.Gen Idealize.ShloMosaic Idealize.ShloMosaic.TcCoe
open Pure Base FfwSpec

/-- A function of the two halves of a product, for every column. -/
def whole (g : EReal → EReal → EReal) (h : FVec Ideal S512x1024 .bf16) (w : Vec Ideal S5632x1024 .bf16) : FVec Ideal S512x2816 .bf16 := fun y =>
  g (∑ k : Fin 1024, h (ix2 (y 0) k) * w (ix2 ⟨(y 1).val, Nat.lt_trans (y 1).isLt (by decide)⟩ k))
    (∑ k : Fin 1024, h (ix2 (y 0) k) * w (ix2 ⟨2816 + (y 1).val, Nat.add_lt_add_left (y 1).isLt 2816⟩ k))

section Columns
variable (h : FVec Ideal S512x1024 .bf16) (w : Vec Ideal S5632x1024 .bf16)

/-- A block of columns of such a function, from the two blocks of the weights' rows it is computed of. -/
theorem part (g : EReal → EReal → EReal) (o p : ℕ) (hp : p = 2816 + o) (i1 : ∀ k : Fin 2, (![o, 0] : Fin 2 → ℕ) k + S256x1024.size k ≤ S5632x1024.size k)
    (i2 : ∀ k : Fin 2, (![p, 0] : Fin 2 → ℕ) k + S256x1024.size k ≤ S5632x1024.size k) (i3 : ∀ k : Fin 2, (![0, o] : Fin 2 → ℕ) k + S512x256.size k ≤ S512x2816.size k)
    (r : Fin 512) (j : Fin 256) :
    g (∑ k : Fin 1024, h (ix2 r k) * View.ld (Val := Elt Ideal) (e' := .bf16) w (Rect.unit (s := S5632x1024) ![o, 0] S256x1024.size i1) (ix2 j k))
      (∑ k : Fin 1024, h (ix2 r k) * View.ld (Val := Elt Ideal) (e' := .bf16) w (Rect.unit (s := S5632x1024) ![p, 0] S256x1024.size i2) (ix2 j k)) =
    whole g h w ((Rect.unit (s := S512x2816) ![0, o] S512x256.size i3).emb (ix2 r j)) := by
  subst hp
  have e0 : ((Rect.unit (s := S512x2816) ![0, o] S512x256.size i3).emb (ix2 r j)) 0 = r := Fin.ext (by show 0 + 1 * r.val = r.val; omega)
  have e1 : (((Rect.unit (s := S512x2816) ![0, o] S512x256.size i3).emb (ix2 r j)) 1).val = o + j.val := by show o + 1 * j.val = _; omega
  unfold whole
  rw [e0]
  refine congrArg₂ g (Finset.sum_congr rfl fun k _ => congrArg (fun y => (h (ix2 r k) * w y : EReal)) ?_)
    (Finset.sum_congr rfl fun k _ => congrArg (fun y => (h (ix2 r k) * w y : EReal)) ?_)
  · funext a
    match a with
    | ⟨0, _⟩ => exact Fin.ext (by show o + 1 * j.val = (((Rect.unit (s := S512x2816) ![0, o] S512x256.size i3).emb (ix2 r j)) 1).val; omega)
    | ⟨1, _⟩ => exact Fin.ext (by show 0 + 1 * k.val = k.val; omega)
  · funext a
    match a with
    | ⟨0, _⟩ => exact Fin.ext (by show 2816 + o + 1 * j.val = 2816 + (((Rect.unit (s := S512x2816) ![0, o] S512x256.size i3).emb (ix2 r j)) 1).val; omega)
    | ⟨1, _⟩ => exact Fin.ext (by show 0 + 1 * k.val = k.val; omega)

theorem partA (o p : ℕ) (hp : p = 2816 + o) (i1) (i2) (i3) (x : S512x256.Idx) :
    k0_pay24 h (View.ld (Val := Elt Ideal) (e' := .bf16) w (Rect.unit (s := S5632x1024) ![o, 0] S256x1024.size i1))
      (View.ld (Val := Elt Ideal) (e' := .bf16) w (Rect.unit (s := S5632x1024) ![p, 0] S256x1024.size i2)) x =
    whole gA h w ((Rect.unit (s := S512x2816) ![0, o] S512x256.size i3).emb x) := by
  rw [eq_ix2 x]
  exact (p24 ..).trans (part h w gA o p hp i1 i2 i3 (x 0) (x 1))

theorem partB (o : ℕ) (hp : 2816 + o + 256 ≤ 5632) (i1) (i3) (x : S512x256.Idx) :
    k0_pay25 h (View.ld (Val := Elt Ideal) (e' := .bf16) w (Rect.unit (s := S5632x1024) ![o, 0] S256x1024.size i1)) x =
    whole (fun a _ => gB a) h w ((Rect.unit (s := S512x2816) ![0, o] S512x256.size i3).emb x) := by
  rw [eq_ix2 x]
  exact (p25 ..).trans (part h w (fun a _ => gB a) o (2816 + o) rfl i1 (fun k => match k with | ⟨0, _⟩ => hp | ⟨1, _⟩ => Nat.le_refl _) i3 (x 0) (x 1))

theorem partU (o p : ℕ) (hp : p = 2816 + o) (i1) (i2) (i3) (x : S512x256.Idx) :
    k0_pay26 h (View.ld (Val := Elt Ideal) (e' := .bf16) w (Rect.unit (s := S5632x1024) ![o, 0] S256x1024.size i1))
      (View.ld (Val := Elt Ideal) (e' := .bf16) w (Rect.unit (s := S5632x1024) ![p, 0] S256x1024.size i2)) x =
    whole gU h w ((Rect.unit (s := S512x2816) ![0, o] S512x256.size i3).emb x) := by
  rw [eq_ix2 x]
  exact (p26 ..).trans (part h w gU o p hp i1 i2 i3 (x 0) (x 1))
end Columns

variable (m : (ℓ : Loc nD τ sig) → Buf (Elt Ideal) ℓ) (c : Dev nD) (t : Fin cfg0.N)

/-- A row of the block of vectors. -/
abbrev row (k : ℕ) (inb : ∀ a, (![k, 0] : Fin 2 → ℕ) a + S1x1024.size a ≤ S8x1024.size a) (X : Vec Ideal S8x1024 .f32) : Vec Ideal S1x1024 .f32 :=
  View.ld (Val := Elt Ideal) (e' := .f32) X (Rect.unit ![k, 0] S1x1024.size inb)

abbrev bX : Vec Ideal S512x1024 .f32 := iblk m c 0 t
abbrev vG : Vec Ideal S1x1024 .f32 := row 0 inb_S8x1024_S1x1024_0_0 (iblk m c 1 t)
abbrev vH : Vec Ideal S1x1024 .f32 := row 1 inb_S8x1024_S1x1024_1_0 (iblk m c 1 t)
abbrev vS : Vec Ideal S1x1024 .f32 := row 2 inb_S8x1024_S1x1024_2_0 (iblk m c 1 t)
abbrev vA : Vec Ideal S1x1024 .f32 := row 3 inb_S8x1024_S1x1024_3_0 (iblk m c 1 t)
abbrev wI : Vec Ideal S5632x1024 .bf16 := iblk m c 2 t
abbrev wO : Vec Ideal S2816x1024 .bf16 := iblk m c 3 t

abbrev bH : FVec Ideal S512x1024 .bf16 := k0_pay4 (bX m c t) (vG m c t) (vH m c t) (vS m c t)
abbrev bU : FVec Ideal S512x2816 .bf16 := whole gU (bH m c t) (wI m c t)

/-- The loads of the blocks. -/
theorem ldX {S : Shape} {e : EltTy} {M : Memref sig .tc .vmem S e} (hM : M.IsWhole) (X : S.Idx → Elt Ideal e) (r : Rect S) :
    View.readAt (Elt Ideal) M.view r.toLoadRect (hM.unread X) = View.ld (Val := Elt Ideal) (e' := e) X r := Base.readAt_ld hM X r

/-- A load of the whole of what the stores left. -/
theorem covWhole {v : View sig .tc .vmem S512x2816 .bf16} (L : List (View.Piece (Elt Ideal) S512x2816 .bf16)) (inb : ∀ a, (![0, 0] : Fin 2 → ℕ) a + S512x2816.size a ≤ S512x2816.size a) :
    v.readCov L (Rect.unit (s := S512x2816) ![0, 0] S512x2816.size inb).toLoadRect = View.canon L := by
  rw [View.readCov_eq_canon']
  exact View.ld_unit_zero (Val := Elt Ideal) (e := .bf16) Base.hz2 inb (View.canon L)

theorem a5 : (outsAt0 m c t).2.1 = bH m c t := by
  dsimp only [outsAt0]
  unfold out0_A_5
  rw [View.read_writes_junk_eq_canon]
  unfold kernelRun0_A
  dsimp only
  rw [View.canon_unit_zero Base.hz2]
  try delta kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.cst_16
  simp only [Base.readAt_whole (hs0_0 t) _ Base.hz2, Base.readAt_whole (hs0_3 t) _ Base.hz2, ldX]
  try rfl

/-- The blocks of columns are stored one after another. -/
theorem a6 : (outsAt0 m c t).2.2.1 = whole gA (bH m c t) (wI m c t) := by
  dsimp only [outsAt0]
  unfold out0_A_6
  funext y
  refine View.read_writes_apply_of_pieces (Val := Elt Ideal) _ _ (whole gA (bH m c t) (wI m c t) : S512x2816.Idx → Elt Ideal .bf16) _ ?_ y (cover0_A_6 ..)
  unfold kernelRun0_A
  dsimp only
  delta kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.cst_16
  simp only [List.forall_mem_cons, Base.readAt_whole (hs0_0 t) _ Base.hz2, Base.readAt_whole (hs0_3 t) _ Base.hz2, ldX]
  refine ⟨?_, ?_, ?_, ?_, ?_, ?_, ?_, ?_, ?_, ?_, ?_, fun _ h => absurd h List.not_mem_nil⟩
  all_goals exact fun x => partA (bH m c t) (wI m c t) _ _ (by rfl) _ _ _ x

/-- The blocks of columns are stored one after another. -/
theorem a7 : (outsAt0 m c t).2.2.2.1 = whole (fun a _ => gB a) (bH m c t) (wI m c t) := by
  dsimp only [outsAt0]
  unfold out0_A_7
  funext y
  refine View.read_writes_apply_of_pieces (Val := Elt Ideal) _ _ (whole (fun a _ => gB a) (bH m c t) (wI m c t) : S512x2816.Idx → Elt Ideal .bf16) _ ?_ y (cover0_A_7 ..)
  unfold kernelRun0_A
  dsimp only
  delta kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.cst_16
  simp only [List.forall_mem_cons, Base.readAt_whole (hs0_0 t) _ Base.hz2, Base.readAt_whole (hs0_3 t) _ Base.hz2, ldX]
  refine ⟨?_, ?_, ?_, ?_, ?_, ?_, ?_, ?_, ?_, ?_, ?_, fun _ h => absurd h List.not_mem_nil⟩
  all_goals exact fun x => partB (bH m c t) (wI m c t) _ (by decide) _ _ x

/-- The blocks of columns are stored one after another. -/
theorem a8 : (outsAt0 m c t).2.2.2.2.1 = whole gU (bH m c t) (wI m c t) := by
  dsimp only [outsAt0]
  unfold out0_A_8
  funext y
  refine View.read_writes_apply_of_pieces (Val := Elt Ideal) _ _ (whole gU (bH m c t) (wI m c t) : S512x2816.Idx → Elt Ideal .bf16) _ ?_ y (cover0_A_8 ..)
  unfold kernelRun0_A
  dsimp only
  delta kernelRun0_A.sl.H8_11 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.cst_16
  simp only [List.forall_mem_cons, Base.readAt_whole (hs0_0 t) _ Base.hz2, Base.readAt_whole (hs0_3 t) _ Base.hz2, ldX]
  refine ⟨?_, ?_, ?_, ?_, ?_, ?_, ?_, ?_, ?_, ?_, ?_, fun _ h => absurd h List.not_mem_nil⟩
  all_goals exact fun x => partU (bH m c t) (wI m c t) _ _ (by rfl) _ _ _ x

theorem a4 : (outsAt0 m c t).1 = k0_pay3 (bX m c t) (bU m c t) (wO m c t) (vA m c t) := by
  have e := a8 m c t
  dsimp only [outsAt0] at e ⊢
  unfold out0_A_8 kernelRun0_A at e
  dsimp only at e
  rw [View.read_writes_junk_eq_canon] at e
  unfold out0_A_4
  rw [View.read_writes_junk_eq_canon]
  unfold kernelRun0_A
  dsimp only
  rw [View.canon_unit_zero Base.hz2]
  delta kernelRun0_A.sl.v313 kernelRun0_A.sl.r
  rw [covWhole, e]
  simp only [Base.readAt_whole (hs0_0 t) _ Base.hz2, Base.readAt_whole (hs0_3 t) _ Base.hz2, ldX]
  try rfl

theorem a9 : (outsAt0 m c t).2.2.2.2.2 = k0_pay2 (bU m c t) (wO m c t) := by
  have e := a8 m c t
  dsimp only [outsAt0] at e ⊢
  unfold out0_A_8 kernelRun0_A at e
  dsimp only at e
  rw [View.read_writes_junk_eq_canon] at e
  unfold out0_A_9
  rw [View.read_writes_junk_eq_canon]
  unfold kernelRun0_A
  dsimp only
  rw [View.canon_unit_zero Base.hz2]
  delta kernelRun0_A.sl.v313 kernelRun0_A.sl.r
  rw [covWhole, e]
  simp only [Base.readAt_whole (hs0_0 t) _ Base.hz2, Base.readAt_whole (hs0_3 t) _ Base.hz2, ldX]
  try rfl

end Cert.FfwIdeal.Out
-- ==== Proof.FfwVal.lean ====
module

public import proofs.«01_k».proof.Proof.At
public import proofs.«01_k».proof.Proof.FfwOut

@[expose] public section

set_option maxRecDepth 16384

noncomputable section

namespace Cert.FfwIdeal.Val

open Cert.FfwIdeal Cert.FfwIdeal.Gen Idealize.ShloMosaic Idealize.ShloMosaic.TcCoe Idealize.SL.Sem
open Idealize.ShloMosaic.Pipeline (Dat)
open Base Pure Out FfwSpec

variable (m : (ℓ : Loc nD τ sig) → Buf (Elt Ideal) ℓ) (c : Dev nD)

/-- What the call reads. -/
def K : Args where
  X i j := V m c main_arg0 (ix2 i j)
  G j := V m c main_v5 (ix2 0 j)
  H j := V m c main_v5 (ix2 1 j)
  S j := V m c main_v5 (ix2 2 j)
  A j := V m c main_v5 (ix2 3 j)
  WI k j := V m c main_v7 (ix2 k j)
  WO k j := V m c main_v8 (ix2 k j)

/-- The row of the whole matrix that is row `r` of the block of point `t`. -/
def at_ (t : Fin cfg0.N) (r : Fin 512) : Fin 8192 := ⟨512 * t.val + r.val, by have := t.isLt; have e : cfg0.N = 16 := rfl; omega⟩

theorem emb0 (t : Fin cfg0.N) (r : Fin 512) (k : Fin 1024) : (win0_0.rect t).emb (ix2 r k) = ix2 (at_ t r) k :=
  at2 (fun a => win0_0.rect_emb_val t _ a) (by revert t; decide +kernel) rfl rfl

theorem emb4 (t : Fin cfg0.N) (r : Fin 512) (k : Fin 1024) : (win0_4.rect t).emb (ix2 r k) = ix2 (at_ t r) k :=
  at2 (fun a => win0_4.rect_emb_val t _ a) (by revert t; decide +kernel) rfl rfl

theorem emb5 (t : Fin cfg0.N) (r : Fin 512) (k : Fin 1024) : (win0_5.rect t).emb (ix2 r k) = ix2 (at_ t r) k :=
  at2 (fun a => win0_5.rect_emb_val t _ a) (by revert t; decide +kernel) rfl rfl

theorem emb6 (t : Fin cfg0.N) (r : Fin 512) (k : Fin 2816) : (win0_6.rect t).emb (ix2 r k) = ix2 (at_ t r) k :=
  at2 (fun a => win0_6.rect_emb_val t _ a) (by revert t; decide +kernel) rfl rfl

theorem emb7 (t : Fin cfg0.N) (r : Fin 512) (k : Fin 2816) : (win0_7.rect t).emb (ix2 r k) = ix2 (at_ t r) k :=
  at2 (fun a => win0_7.rect_emb_val t _ a) (by revert t; decide +kernel) rfl rfl

theorem emb8 (t : Fin cfg0.N) (r : Fin 512) (k : Fin 2816) : (win0_8.rect t).emb (ix2 r k) = ix2 (at_ t r) k :=
  at2 (fun a => win0_8.rect_emb_val t _ a) (by revert t; decide +kernel) rfl rfl

theorem emb9 (t : Fin cfg0.N) (r : Fin 512) (k : Fin 1024) : (win0_9.rect t).emb (ix2 r k) = ix2 (at_ t r) k :=
  at2 (fun a => win0_9.rect_emb_val t _ a) (by revert t; decide +kernel) rfl rfl

theorem emb1 (t : Fin cfg0.N) (r : Fin 8) (k : Fin 1024) : (win0_1.rect t).emb (ix2 r k) = ix2 r k :=
  at2 (q := 0) (fun a => win0_1.rect_emb_val t _ a) (by revert t; decide +kernel) (Nat.zero_add _) rfl

theorem emb2 (t : Fin cfg0.N) (r : Fin 5632) (k : Fin 1024) : (win0_2.rect t).emb (ix2 r k) = ix2 r k :=
  at2 (q := 0) (fun a => win0_2.rect_emb_val t _ a) (by revert t; decide +kernel) (Nat.zero_add _) rfl

theorem emb3 (t : Fin cfg0.N) (r : Fin 2816) (k : Fin 1024) : (win0_3.rect t).emb (ix2 r k) = ix2 r k :=
  at2 (q := 0) (fun a => win0_3.rect_emb_val t _ a) (by revert t; decide +kernel) (Nat.zero_add _) rfl

theorem hX (t : Fin cfg0.N) (r : Fin 512) (k : Fin 1024) : bX m c t (ix2 r k) = (K m c).X (at_ t r) k := congrArg (V m c main_arg0) (emb0 t r k)
theorem hWI (t : Fin cfg0.N) (j : Fin 5632) (k : Fin 1024) : wI m c t (ix2 j k) = (K m c).WI j k := congrArg (V m c main_v7) (emb2 t j k)
theorem hWO (t : Fin cfg0.N) (j : Fin 2816) (k : Fin 1024) : wO m c t (ix2 j k) = (K m c).WO j k := congrArg (V m c main_v8) (emb3 t j k)

/-- A row of the block of vectors. -/
theorem hrow (t : Fin cfg0.N) (q : ℕ) (hq : q < 8) (inb) (j : Fin 1024) : row q inb (iblk m c 1 t) (ix2 0 j) = V m c main_v5 (ix2 ⟨q, hq⟩ j) := by
  show V m c main_v5 ((win0_1.rect t).emb ((Rect.unit (s := S8x1024) ![q, 0] S1x1024.size inb).emb (ix2 0 j))) = _
  rw [show (Rect.unit (s := S8x1024) ![q, 0] S1x1024.size inb).emb (ix2 0 j) = ix2 ⟨q, hq⟩ j from by
    funext a
    match a with
    | ⟨0, _⟩ => rfl
    | ⟨1, _⟩ => exact Fin.ext (by show 0 + 1 * j.val = j.val; omega), emb1]

/-! ## One block -/

section Block
variable (t : Fin cfg0.N)

theorem bh (r : Fin 512) (j : Fin 1024) : bH m c t (ix2 r j) = h (K m c) (at_ t r) j := by
  rw [bH, p4, show (fun k => bX m c t (ix2 r k)) = (K m c).X (at_ t r) from funext fun k => hX m c t r k]
  unfold vG vS vH
  rw [hrow m c t 0 (by decide), hrow m c t 1 (by decide), hrow m c t 2 (by decide)]
  rfl

/-- A function of the product's halves, in a block. -/
theorem bwhole (g : EReal → EReal → EReal) (r : Fin 512) (k : Fin 2816) :
    whole g (bH m c t) (wI m c t) (ix2 r k) = g (pA (K m c) (at_ t r) k) (pB (K m c) (at_ t r) k) :=
  congrArg₂ g (Finset.sum_congr rfl fun j _ => congrArg₂ (· * ·) (bh m c t r j) (hWI m c t _ j)) (Finset.sum_congr rfl fun j _ => congrArg₂ (· * ·) (bh m c t r j) (hWI m c t _ j))

theorem by' (r : Fin 512) (j : Fin 1024) : ∑ k, bU m c t (ix2 r k) * wO m c t (ix2 k j) = y (K m c) (at_ t r) j :=
  Finset.sum_congr rfl fun k _ => congrArg₂ (· * ·) (bwhole m c t gU r k) (hWO m c t k j)

theorem bxn (r : Fin 512) (j : Fin 1024) : k0_pay3 (bX m c t) (bU m c t) (wO m c t) (vA m c t) (ix2 r j) = xn (K m c) (at_ t r) j := by
  rw [p3, by', hX]
  unfold vA
  rw [hrow m c t 3 (by decide)]
  rfl

end Block

/-! ## The results -/

theorem final4 (r : Fin 8192) (k : Fin 1024) : (dats m 0 c).arrAt 4 cfg0.N (ix2 r k) = xn (K m c) r k := by
  let t : Fin cfg0.N := ⟨r.val / 512, by have := r.isLt; show _ < 16; omega⟩
  let i : Fin 512 := ⟨r.val % 512, Nat.mod_lt _ (by decide)⟩
  have er : at_ t i = r := Fin.ext (by show 512 * (r.val / 512) + r.val % 512 = r.val; omega)
  have h := congrFun (Value.blocks4 m c t (flush0_4 t)) (ix2 i k)
  rw [Value.flushed4] at h
  rw [← er]
  refine Eq.trans ?_ (h.trans ((congrFun (a4 m c t) _).trans (bxn m c t i k)))
  show _ = (dats m 0 c).arrAt 4 cfg0.N ((win0_4.rect t).emb (ix2 i k))
  rw [emb4]

theorem final5 (r : Fin 8192) (k : Fin 1024) : (dats m 0 c).arrAt 5 cfg0.N (ix2 r k) = h (K m c) r k := by
  let t : Fin cfg0.N := ⟨r.val / 512, by have := r.isLt; show _ < 16; omega⟩
  let i : Fin 512 := ⟨r.val % 512, Nat.mod_lt _ (by decide)⟩
  have er : at_ t i = r := Fin.ext (by show 512 * (r.val / 512) + r.val % 512 = r.val; omega)
  have h := congrFun (Value.blocks5 m c t (flush0_5 t)) (ix2 i k)
  rw [Value.flushed5] at h
  rw [← er]
  refine Eq.trans ?_ (h.trans ((congrFun (a5 m c t) _).trans (bh m c t i k)))
  show _ = (dats m 0 c).arrAt 5 cfg0.N ((win0_5.rect t).emb (ix2 i k))
  rw [emb5]

theorem final6 (r : Fin 8192) (k : Fin 2816) : (dats m 0 c).arrAt 6 cfg0.N (ix2 r k) = ga (K m c) r k := by
  let t : Fin cfg0.N := ⟨r.val / 512, by have := r.isLt; show _ < 16; omega⟩
  let i : Fin 512 := ⟨r.val % 512, Nat.mod_lt _ (by decide)⟩
  have er : at_ t i = r := Fin.ext (by show 512 * (r.val / 512) + r.val % 512 = r.val; omega)
  have h := congrFun (Value.blocks6 m c t (flush0_6 t)) (ix2 i k)
  rw [Value.flushed6] at h
  rw [← er]
  refine Eq.trans ?_ (h.trans ((congrFun (a6 m c t) _).trans (bwhole m c t gA i k)))
  show _ = (dats m 0 c).arrAt 6 cfg0.N ((win0_6.rect t).emb (ix2 i k))
  rw [emb6]

theorem final7 (r : Fin 8192) (k : Fin 2816) : (dats m 0 c).arrAt 7 cfg0.N (ix2 r k) = gb (K m c) r k := by
  let t : Fin cfg0.N := ⟨r.val / 512, by have := r.isLt; show _ < 16; omega⟩
  let i : Fin 512 := ⟨r.val % 512, Nat.mod_lt _ (by decide)⟩
  have er : at_ t i = r := Fin.ext (by show 512 * (r.val / 512) + r.val % 512 = r.val; omega)
  have h := congrFun (Value.blocks7 m c t (flush0_7 t)) (ix2 i k)
  rw [Value.flushed7] at h
  rw [← er]
  refine Eq.trans ?_ (h.trans ((congrFun (a7 m c t) _).trans (bwhole m c t (fun a _ => gB a) i k)))
  show _ = (dats m 0 c).arrAt 7 cfg0.N ((win0_7.rect t).emb (ix2 i k))
  rw [emb7]

theorem final8 (r : Fin 8192) (k : Fin 2816) : (dats m 0 c).arrAt 8 cfg0.N (ix2 r k) = u (K m c) r k := by
  let t : Fin cfg0.N := ⟨r.val / 512, by have := r.isLt; show _ < 16; omega⟩
  let i : Fin 512 := ⟨r.val % 512, Nat.mod_lt _ (by decide)⟩
  have er : at_ t i = r := Fin.ext (by show 512 * (r.val / 512) + r.val % 512 = r.val; omega)
  have h := congrFun (Value.blocks8 m c t (flush0_8 t)) (ix2 i k)
  rw [Value.flushed8] at h
  rw [← er]
  refine Eq.trans ?_ (h.trans ((congrFun (a8 m c t) _).trans (bwhole m c t gU i k)))
  show _ = (dats m 0 c).arrAt 8 cfg0.N ((win0_8.rect t).emb (ix2 i k))
  rw [emb8]

theorem final9 (r : Fin 8192) (k : Fin 1024) : (dats m 0 c).arrAt 9 cfg0.N (ix2 r k) = y (K m c) r k := by
  let t : Fin cfg0.N := ⟨r.val / 512, by have := r.isLt; show _ < 16; omega⟩
  let i : Fin 512 := ⟨r.val % 512, Nat.mod_lt _ (by decide)⟩
  have er : at_ t i = r := Fin.ext (by show 512 * (r.val / 512) + r.val % 512 = r.val; omega)
  have h := congrFun (Value.blocks9 m c t (flush0_9 t)) (ix2 i k)
  rw [Value.flushed9] at h
  rw [← er]
  refine Eq.trans ?_ (h.trans ((congrFun (a9 m c t) _).trans ((p2 ..).trans (by' m c t i k))))
  show _ = (dats m 0 c).arrAt 9 cfg0.N ((win0_9.rect t).emb (ix2 i k))
  rw [emb9]

end Cert.FfwIdeal.Val
-- ==== Proof.FfwRef.lean ====
module

public import proofs.«01_k».proof.Proof.Gen.FfwRefIdeal.Read
public import proofs.«01_k».proof.Proof.FfwSpec
public import proofs.«01_k».proof.Proof.Reals

@[expose] public section

set_option maxRecDepth 16384

noncomputable section

namespace Cert.FfwRefIdeal.Rd

open Cert.FfwRefIdeal Cert.FfwRefIdeal.Read Idealize.ShloMosaic
open Base FfwSpec
open Cert.Rl (IsR)

variable (x0 : S8192x1024.Idx → EReal) (x1 x2 x3 x4 : S1024.Idx → EReal) (x5 : S1024x5632.Idx → EReal) (x6 : S2816x1024.Idx → EReal)

/-- What the reference computes with. -/
def R : Args where
  X i j := x0 (ix2 i j)
  G j := x1 (ix1 j)
  H j := x2 (ix1 j)
  S j := x3 (ix1 j)
  A j := x4 (ix1 j)
  WI k j := x5 (ix2 j k)
  WO k j := x6 (ix2 k j)

/-- The arguments are reals. -/
structure Fin7 : Prop where
  h0 : ∀ i, IsR (x0 i)
  h1 : ∀ i, IsR (x1 i)
  h2 : ∀ i, IsR (x2 i)
  h3 : ∀ i, IsR (x3 i)
  h4 : ∀ i, IsR (x4 i)
  h5 : ∀ i, IsR (x5 i)
  h6 : ∀ i, IsR (x6 i)

theorem r20 (i : Fin 8192) (k : Fin 1024) : val_main_v20 (F := Ideal) x0 x1 x2 x3 (ix2 i k) = h (R x0 x1 x2 x3 x4 x5 x6) i k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  rfl

theorem r22 (i : Fin 8192) (k : Fin 2816) : val_main_v22 (F := Ideal) x0 x1 x2 x3 x5 (ix2 i k) = pA (R x0 x1 x2 x3 x4 x5 x6) i k := by
  unfold pA
  simp only [← r20 x0 x1 x2 x3 x4 x5 x6]
  pointwise [val_main_v22, val_main_v21]
  rfl

theorem r23 (i : Fin 8192) (k : Fin 2816) : val_main_v23 (F := Ideal) x0 x1 x2 x3 x5 (ix2 i k) = pB (R x0 x1 x2 x3 x4 x5 x6) i k := by
  unfold pB
  simp only [← r20 x0 x1 x2 x3 x4 x5 x6]
  pointwise [val_main_v23, val_main_v21]
  rfl

theorem r29 (i : Fin 8192) (k : Fin 2816) : val_main_v29 (F := Ideal) x0 x1 x2 x3 x5 (ix2 i k) = sg (pA (R x0 x1 x2 x3 x4 x5 x6) i k) := by
  rw [← r22 x0 x1 x2 x3 x4 x5 x6, sg, zero_sub]
  pointwise [val_main_v29, val_main_v28, val_main_v27, val_main_v26, val_main_v25, val_main_v24, val_main_cst_3, val_main_cst_4]

theorem r53 (i : Fin 8192) (k : Fin 2816) : val_main_v53 (F := Ideal) x0 x1 x2 x3 x5 (ix2 i k) = gb (R x0 x1 x2 x3 x4 x5 x6) i k := by
  rw [gb, gB, ← r29 x0 x1 x2 x3 x4 x5 x6, ← r22 x0 x1 x2 x3 x4 x5 x6]
  pointwise [val_main_v53, val_main_v36, val_main_v35, val_main_v33, val_main_cst_6]

theorem r34 (i : Fin 8192) (k : Fin 2816) : val_main_v34 (F := Ideal) x0 x1 x2 x3 x5 (ix2 i k) = u (R x0 x1 x2 x3 x4 x5 x6) i k := by
  rw [u, gU, ← r29 x0 x1 x2 x3 x4 x5 x6, ← r22 x0 x1 x2 x3 x4 x5 x6, ← r23 x0 x1 x2 x3 x4 x5 x6]
  pointwise [val_main_v34, val_main_v33]

theorem r54 (i : Fin 8192) (k : Fin 2816) : val_main_v54 (F := Ideal) x0 x1 x2 x3 x5 (ix2 i k) = u (R x0 x1 x2 x3 x4 x5 x6) i k := by
  rw [← r34 x0 x1 x2 x3 x4 x5 x6]
  pointwise [val_main_v54]

theorem r42 (i : Fin 8192) (j : Fin 1024) : val_main_v42 (F := Ideal) x0 x1 x2 x3 x5 x6 (ix2 i j) = y (R x0 x1 x2 x3 x4 x5 x6) i j := by
  unfold y
  simp only [← r34 x0 x1 x2 x3 x4 x5 x6]
  pointwise [val_main_v42]
  rfl

theorem r55 (i : Fin 8192) (j : Fin 1024) : val_main_v55 (F := Ideal) x0 x1 x2 x3 x5 x6 (ix2 i j) = y (R x0 x1 x2 x3 x4 x5 x6) i j := by
  rw [← r42 x0 x1 x2 x3 x4 x5 x6]
  pointwise [val_main_v55]

theorem r50 (i : Fin 8192) (j : Fin 1024) : val_main_v50 (F := Ideal) x0 x1 x2 x3 x4 x5 x6 (ix2 i j) = xn (R x0 x1 x2 x3 x4 x5 x6) i j := by
  rw [xn, ← r42 x0 x1 x2 x3 x4 x5 x6]
  pointwise [val_main_v43, val_main_v44, val_main_v45, val_main_v46, val_main_v47, val_main_v48, val_main_v49, val_main_v50, val_main_cst_7, val_main_cst_8]
  rfl

theorem r51 (i : Fin 8192) (j : Fin 1024) : val_main_v51 (F := Ideal) x0 x1 x2 x3 (ix2 i j) = h (R x0 x1 x2 x3 x4 x5 x6) i j := by
  rw [← r20 x0 x1 x2 x3 x4 x5 x6]
  pointwise [val_main_v51]

theorem r52' (i : Fin 8192) (k : Fin 2816) : val_main_v52 (F := Ideal) x0 x1 x2 x3 x5 (ix2 i k) =
    1 * pB (R x0 x1 x2 x3 x4 x5 x6) i k * sg (pA (R x0 x1 x2 x3 x4 x5 x6) i k) + pA (R x0 x1 x2 x3 x4 x5 x6) i k * (1 * pB (R x0 x1 x2 x3 x4 x5 x6) i k) * (sg (pA (R x0 x1 x2 x3 x4 x5 x6) i k) * (1 - sg (pA (R x0 x1 x2 x3 x4 x5 x6) i k))) := by
  rw [← r29 x0 x1 x2 x3 x4 x5 x6, ← r22 x0 x1 x2 x3 x4 x5 x6, ← r23 x0 x1 x2 x3 x4 x5 x6]
  pointwise [val_main_v52, val_main_v41, val_main_v40, val_main_v39, val_main_v38, val_main_v37, val_main_v35, val_main_v32, val_main_v31, val_main_v30, val_main_cst_5, val_main_cst_6]

section Finite
variable {x0 x1 x2 x3 x4 x5 x6}
variable (H : Fin7 x0 x1 x2 x3 x4 x5 x6)
include H

theorem realH (i : Fin 8192) (j : Fin 1024) : IsR (h (R x0 x1 x2 x3 x4 x5 x6) i j) :=
  Rl.add (Rl.mul (Rl.mul (Rl.nrm (fun _ => H.h0 _) j) (H.h1 _)) (Rl.add Rl.one (H.h3 _))) (H.h2 _)

theorem r52 (i : Fin 8192) (k : Fin 2816) : val_main_v52 (F := Ideal) x0 x1 x2 x3 x5 (ix2 i k) = ga (R x0 x1 x2 x3 x4 x5 x6) i k := by
  have hA : IsR (pA (R x0 x1 x2 x3 x4 x5 x6) i k) := Rl.sum _ fun j => Rl.mul (realH H i j) (H.h5 _)
  have hS : IsR (sg (pA (R x0 x1 x2 x3 x4 x5 x6) i k)) := by rw [sg, zero_sub]; exact Rl.sig hA
  refine (r52' x0 x1 x2 x3 x4 x5 x6 i k).trans ((Rl.gate Rl.one hA (Rl.sum _ fun j => Rl.mul (realH H i j) (H.h5 _)) hS).trans ?_)
  rw [one_mul]
  rfl

end Finite

end Cert.FfwRefIdeal.Rd
-- ==== Proof.FfwClaim.lean ====
module

public import proofs.«01_k».proof.Defs
public import proofs.«01_k».proof.Proof.Finite
public import proofs.«01_k».proof.Proof.FfwVal
public import proofs.«01_k».proof.Proof.FfwRef
public import proofs.«01_k».proof.Proof.Gen.FfwIdeal.Value
public import proofs.«01_k».proof.Proof.Gen.FfwRefIdeal.Run
public import proofs.«01_k».proof.Proof.Gen.Pre_finite_ffw

@[expose] public section

set_option maxRecDepth 16384

noncomputable section

namespace Cert.FfwClaim

open Idealize.ShloMosaic Idealize.ShloMosaic.TcCoe Idealize.SL.Sem Cert.FfwIdeal Cert.FfwIdeal.Gen
open Cert.FfwRefIdeal.Rd (Fin7)
open Cert.Finite (of_all both)

/-- The arguments that the precondition admits hold reals. -/
theorem reals [hp : Cert.Pre_finite_ffw.Facts] {x0 : FVec Ideal S8192x1024 .f32} {x1 x2 x3 x4 : FVec Ideal S1024 .f32} {x5 : FVec Ideal S1024x5632 .f32} {x6 : FVec Ideal S2816x1024 .f32}
    (h : Cert.Pre_finite_ffw.fn (F := Ideal) x0 x1 x2 x3 x4 x5 x6 = fun _ => 1#1) : Fin7 x0 x1 x2 x3 x4 x5 x6 := by
  have h0 := congrFun h ix0
  unfold Cert.Pre_finite_ffw.fn Cert.Pre_finite_ffw.fn_part1 at h0
  dsimp only at h0
  haveI : Subsingleton Cert.Pre_finite_ffw.S_.Idx := ⟨fun a b => funext fun i => i.elim0⟩
  obtain ⟨h0, h6⟩ := both h0
  obtain ⟨h0, h5⟩ := both h0
  obtain ⟨h0, h4⟩ := both h0
  obtain ⟨h0, h3⟩ := both h0
  obtain ⟨h0, h2⟩ := both h0
  obtain ⟨h0, h1⟩ := both h0
  exact ⟨of_all (fun _ => Finite.inf) h0, of_all (fun _ => Finite.inf) h1, of_all (fun _ => Finite.inf) h2, of_all (fun _ => Finite.inf) h3,
    of_all (fun _ => Finite.inf) h4, of_all (fun _ => Finite.inf) h5, of_all (fun _ => Finite.inf) h6⟩

variable (m : (ℓ : Loc Cert.FfwIdeal.nD Cert.FfwIdeal.τ Cert.FfwIdeal.sig) → Buf (Elt Ideal) ℓ) (c : Dev Cert.FfwIdeal.nD)

/-! The arguments. -/

abbrev A0 : FVec Ideal S8192x1024 .f32 := m ((c.tc : Thread Cert.FfwIdeal.nD Cert.FfwIdeal.τ).loc main_arg0)
abbrev A1 : FVec Ideal S1024 .f32 := m ((c.tc : Thread Cert.FfwIdeal.nD Cert.FfwIdeal.τ).loc main_arg1)
abbrev A2 : FVec Ideal S1024 .f32 := m ((c.tc : Thread Cert.FfwIdeal.nD Cert.FfwIdeal.τ).loc main_arg2)
abbrev A3 : FVec Ideal S1024 .f32 := m ((c.tc : Thread Cert.FfwIdeal.nD Cert.FfwIdeal.τ).loc main_arg3)
abbrev A4 : FVec Ideal S1024 .f32 := m ((c.tc : Thread Cert.FfwIdeal.nD Cert.FfwIdeal.τ).loc main_arg4)
abbrev A5 : FVec Ideal S1024x5632 .f32 := m ((c.tc : Thread Cert.FfwIdeal.nD Cert.FfwIdeal.τ).loc main_arg5)
abbrev A6 : FVec Ideal S2816x1024 .f32 := m ((c.tc : Thread Cert.FfwIdeal.nD Cert.FfwIdeal.τ).loc main_arg6)

/-- The block of vectors. -/
theorem host5 : V m c main_v5 = (concatenate S8x1024 0 [⟨S1x1024, shapeCast S1x1024 (A1 m c) shapeCasts_S1024_S1x1024⟩, ⟨S1x1024, shapeCast S1x1024 (A2 m c) shapeCasts_S1024_S1x1024⟩, ⟨S1x1024, shapeCast S1x1024 (A3 m c) shapeCasts_S1024_S1x1024⟩, ⟨S1x1024, shapeCast S1x1024 (A4 m c) shapeCasts_S1024_S1x1024⟩,
    ⟨S4x1024, broadcastInDim S4x1024 ![] bcast_S_S4x1024 (constant S_ .f32 0#32)⟩] concatenates_S1x1024_S1x1024_S1x1024_S1x1024_S4x1024_S8x1024_d0 : FVec Ideal S8x1024 .f32) := by
  unfold V
  after_results
  rfl

theorem hX : ∀ i j, V m c main_arg0 (ix2 i j) = A0 m c (ix2 i j) := fun i j => by rw [V_main_arg0]

theorem hG : ∀ j, V m c main_v5 (ix2 0 j) = A1 m c (ix1 j) := fun j => by rw [host5]; pointwise []

theorem hH : ∀ j, V m c main_v5 (ix2 1 j) = A2 m c (ix1 j) := fun j => by rw [host5]; pointwise []

theorem hS : ∀ j, V m c main_v5 (ix2 2 j) = A3 m c (ix1 j) := fun j => by rw [host5]; pointwise []

theorem hA : ∀ j, V m c main_v5 (ix2 3 j) = A4 m c (ix1 j) := fun j => by rw [host5]; pointwise []

theorem hI : ∀ k j, V m c main_v7 (ix2 k j) = A5 m c (ix2 j k) := fun k j => by unfold V; after_results_simp; pointwise []

theorem hW : ∀ k j, V m c main_v8 (ix2 k j) = A6 m c (ix2 k j) := fun k j => by unfold V; after_results; rfl

/-- What the kernel computes with is what the reference does. -/
theorem K_eq : Cert.FfwIdeal.Val.K m c = Cert.FfwRefIdeal.Rd.R (A0 m c) (A1 m c) (A2 m c) (A3 m c) (A4 m c) (A5 m c) (A6 m c) := by
  unfold Cert.FfwIdeal.Val.K Cert.FfwRefIdeal.Rd.R
  simp only [hX m c, hG m c, hH m c, hS m c, hA m c, hI m c, hW m c]

theorem out50 : Cert.FfwRefIdeal.Read.val_main_v50 (F := Ideal) (A0 m c) (A1 m c) (A2 m c) (A3 m c) (A4 m c) (A5 m c) (A6 m c) = (dats m 0 c).arrAt 4 cfg0.N := by
  refine Cert.Base.ext2 fun r k => ?_
  have e := Cert.FfwRefIdeal.Rd.r50 (A0 m c) (A1 m c) (A2 m c) (A3 m c) (A4 m c) (A5 m c) (A6 m c) r k
  rw [← K_eq m c] at e
  exact e.trans (Cert.FfwIdeal.Val.final4 m c r k).symm

theorem out51 : Cert.FfwRefIdeal.Read.val_main_v51 (F := Ideal) (A0 m c) (A1 m c) (A2 m c) (A3 m c) = (dats m 0 c).arrAt 5 cfg0.N := by
  refine Cert.Base.ext2 fun r k => ?_
  have e := Cert.FfwRefIdeal.Rd.r51 (A0 m c) (A1 m c) (A2 m c) (A3 m c) (A4 m c) (A5 m c) (A6 m c) r k
  rw [← K_eq m c] at e
  exact e.trans (Cert.FfwIdeal.Val.final5 m c r k).symm

theorem out52 (H : Fin7 (A0 m c) (A1 m c) (A2 m c) (A3 m c) (A4 m c) (A5 m c) (A6 m c)) : Cert.FfwRefIdeal.Read.val_main_v52 (F := Ideal) (A0 m c) (A1 m c) (A2 m c) (A3 m c) (A5 m c) = (dats m 0 c).arrAt 6 cfg0.N := by
  refine Cert.Base.ext2 fun r k => ?_
  have e := Cert.FfwRefIdeal.Rd.r52 H r k
  rw [← K_eq m c] at e
  exact e.trans (Cert.FfwIdeal.Val.final6 m c r k).symm

theorem out53 : Cert.FfwRefIdeal.Read.val_main_v53 (F := Ideal) (A0 m c) (A1 m c) (A2 m c) (A3 m c) (A5 m c) = (dats m 0 c).arrAt 7 cfg0.N := by
  refine Cert.Base.ext2 fun r k => ?_
  have e := Cert.FfwRefIdeal.Rd.r53 (A0 m c) (A1 m c) (A2 m c) (A3 m c) (A4 m c) (A5 m c) (A6 m c) r k
  rw [← K_eq m c] at e
  exact e.trans (Cert.FfwIdeal.Val.final7 m c r k).symm

theorem out54 : Cert.FfwRefIdeal.Read.val_main_v54 (F := Ideal) (A0 m c) (A1 m c) (A2 m c) (A3 m c) (A5 m c) = (dats m 0 c).arrAt 8 cfg0.N := by
  refine Cert.Base.ext2 fun r k => ?_
  have e := Cert.FfwRefIdeal.Rd.r54 (A0 m c) (A1 m c) (A2 m c) (A3 m c) (A4 m c) (A5 m c) (A6 m c) r k
  rw [← K_eq m c] at e
  exact e.trans (Cert.FfwIdeal.Val.final8 m c r k).symm

theorem out55 : Cert.FfwRefIdeal.Read.val_main_v55 (F := Ideal) (A0 m c) (A1 m c) (A2 m c) (A3 m c) (A5 m c) (A6 m c) = (dats m 0 c).arrAt 9 cfg0.N := by
  refine Cert.Base.ext2 fun r k => ?_
  have e := Cert.FfwRefIdeal.Rd.r55 (A0 m c) (A1 m c) (A2 m c) (A3 m c) (A4 m c) (A5 m c) (A6 m c) r k
  rw [← K_eq m c] at e
  exact e.trans (Cert.FfwIdeal.Val.final9 m c r k).symm

/-- The results of the gated product's forward pass, with what its backward pass takes, are those of the reference, on finite arguments. -/
theorem ffw_algebraic : algebraic_FfwIdeal_FfwRefIdeal_pre_finite_ffw (hFfwIdeal := Cert.FfwIdeal.Gen.facts) (hFfwRefIdeal := Cert.FfwRefIdeal.Gen.facts) (hPre_finite_ffw := Cert.Pre_finite_ffw.Gen.facts) := by
  intro m g m' g' hp hm
  refine ⟨_, _, _, _, _, _, Cert.FfwIdeal.Value.run_blocks m g, (θ_run _ _ _).mono (fun r h c => ?_) (Cert.FfwRefIdeal.Value.run m' g')⟩
  obtain ⟨h0, h1, h2, h3, h4, h5, ha⟩ := h c
  obtain ⟨e0, e1, e2, e3, e4, e5, e6⟩ := hm c
  letI := Cert.Pre_finite_ffw.Gen.facts
  have H := reals (hp c)
  refine ⟨h0.trans ?_, h1.trans ?_, h2.trans ?_, h3.trans ?_, h4.trans ?_, h5.trans ?_, ha⟩
  · refine (Cert.FfwRefIdeal.Read.val_main_v50_eq m' c).trans (Eq.trans ?_ (out50 m c))
    rw [e0, e1, e2, e3, e4, e5, e6]
  · refine (Cert.FfwRefIdeal.Read.val_main_v51_eq _ _ _ _).trans (Eq.trans ?_ (out51 m c))
    rw [e0, e1, e2, e3]
  · refine (Cert.FfwRefIdeal.Read.val_main_v52_eq m' c).trans (Eq.trans ?_ (out52 m c H))
    rw [e0, e1, e2, e3, e5]
  · refine (Cert.FfwRefIdeal.Read.val_main_v53_eq _ _ _ _ _).trans (Eq.trans ?_ (out53 m c))
    rw [e0, e1, e2, e3, e5]
  · refine (Cert.FfwRefIdeal.Read.val_main_v54_eq m' c).trans (Eq.trans ?_ (out54 m c))
    rw [e0, e1, e2, e3, e5]
  · refine (Cert.FfwRefIdeal.Read.val_main_v55_eq m' c).trans (Eq.trans ?_ (out55 m c))
    rw [e0, e1, e2, e3, e5, e6]

/-- The reference of the gated product's forward pass leaves its arguments as they are; it declares no semaphore. -/
theorem ffw_ref_frame : quiescent_FfwRefIdeal (hFfwRefIdeal := Cert.FfwRefIdeal.Gen.facts) := fun m ρ _ =>
  (θ_run Cert.FfwRefIdeal.defs _ _).mono (fun r h => ⟨fun c => (h c).2.2.2.2.2.2, sem_eq_zero_of_no_sems (by decide) r.2⟩)
    (Cert.FfwRefIdeal.Value.run (F := Ideal) m ρ)

end Cert.FfwClaim

end
-- ==== Proof.ModsClaim.lean ====
module

public import proofs.«01_k».proof.Defs
public import proofs.«01_k».proof.Proof.At
public import proofs.«01_k».proof.Proof.Gen.ModsIdeal.Value
public import proofs.«01_k».proof.Proof.Gen.ModsRefIdeal.Run
public import proofs.«01_k».proof.Proof.Gen.ModsRefIdeal.Read
public import Idealize.ShloMosaic.Lib.Quiescent

@[expose] public section

set_option maxRecDepth 16384

noncomputable section

namespace Cert.ModsClaim

open Idealize.ShloMosaic Idealize.ShloMosaic.TcCoe Idealize.SL.Sem Cert.ModsIdeal Cert.ModsIdeal.Gen
open Cert.ModsRefIdeal.Read Base

/-- One layer's product of the conditioning rows with its weights, and its bias. -/
theorem pay (c : FVec Ideal S8x1024 .f32) (w : FVec Ideal S1x1024x1152 .f32) (b : FVec Ideal S1x1x1152 .f32) (i : Fin 8) (j : Fin 1152) :
    k0_pay1 (F := Ideal) c w b (ix3 0 i j) = ∑ k : Fin 1024, val_main_v6 (F := Ideal) c (ix2 i k) * w (ix3 0 k j) + b (ix3 0 0 j) := by
  pointwise [k0_pay1, val_main_v6, val_main_v5, val_main_v4, val_main_v3, val_main_v2, val_main_v1, val_main_v0, val_main_cst, val_main_cst_0]
  simp only [zero_sub]

theorem ref (c : FVec Ideal S8x1024 .f32) (w : FVec Ideal S4x1024x1152 .f32) (b : FVec Ideal S4x1152 .f32) (l : Fin 4) (i : Fin 8) (j : Fin 1152) :
    val_main_v11 (F := Ideal) c w b (ix3 l i j) = ∑ k : Fin 1024, val_main_v6 (F := Ideal) c (ix2 i k) * w (ix3 l k j) + b (ix2 l j) := by
  simp only [val_main_v11, val_main_v8, val_main_v7]
  generalize val_main_v6 (F := Ideal) c = s
  pointwise [val_main_v10, val_main_v9]
  exact congrArg (· + _) (Finset.sum_congr rfl fun k _ => mul_comm _ _)

variable (m : (ℓ : Loc nD τ sig) → Buf (Elt Ideal) ℓ) (c : Dev nD)

abbrev A0 : FVec Ideal S8x1024 .f32 := m ((c.tc : Thread nD τ).loc main_arg0)
abbrev A1 : FVec Ideal S4x1024x1152 .f32 := m ((c.tc : Thread nD τ).loc main_arg1)
abbrev A2 : FVec Ideal S4x1152 .f32 := m ((c.tc : Thread nD τ).loc main_arg2)

/-- The bias with an axis of one row. -/
theorem host0 (l : Fin 4) (j : Fin 1152) : V m c main_v0 (ix3 l 0 j) = A2 m c (ix2 l j) := by
  unfold V
  after_results_simp
  pointwise []

/-- The block of the layer is the layer's weights. -/
theorem blk1 (t : Fin 4) (k : Fin 1024) (j : Fin 1152) : iblk m c 1 t (ix3 0 k j) = A1 m c (ix3 t k j) := by
  have h : (win0_1.rect t).emb (ix3 0 k j) = ix3 t k j := at3 (p := t.val) (q := 0) (fun a => win0_1.rect_emb_val t _ a) (by revert t; decide +kernel) (Nat.one_mul _) (Nat.zero_add _) rfl
  show V m c main_arg1 ((win0_1.rect t).emb (ix3 0 k j)) = _
  rw [h, V_main_arg1]

/-- The block of the bias is the layer's. -/
theorem blk2 (t : Fin 4) (j : Fin 1152) : iblk m c 2 t (ix3 0 0 j) = A2 m c (ix2 t j) := by
  have h : (win0_2.rect t).emb (ix3 0 0 j) = ix3 t 0 j := at3 (p := t.val) (q := 0) (fun a => win0_2.rect_emb_val t _ a) (by revert t; decide +kernel) (Nat.one_mul _) (Nat.zero_add _) rfl
  show V m c main_v0 ((win0_2.rect t).emb (ix3 0 0 j)) = _
  rw [h, host0]

/-- The block of the conditioning rows is the whole of them. -/
theorem blk0 (t : Fin 4) : (iblk m c 0 t : FVec Ideal S8x1024 .f32) = A0 m c := by
  refine Base.ext2 fun k j => ?_
  have h : (win0_0.rect t).emb (ix2 k j) = ix2 k j := at2 (q := 0) (fun a => win0_0.rect_emb_val t _ a) (by revert t; decide +kernel) (Nat.zero_add _) rfl
  show V m c main_arg0 ((win0_0.rect t).emb (ix2 k j)) = _
  rw [h, V_main_arg0]

theorem out (l : Fin 4) (i : Fin 8) (j : Fin 1152) : (dats m 0 c).arrAt 3 cfg0.N (ix3 l i j) = val_main_v11 (F := Ideal) (A0 m c) (A1 m c) (A2 m c) (ix3 l i j) := by
  have h : (win0_3.rect l).emb (ix3 0 i j) = ix3 l i j := at3 (p := l.val) (q := 0) (fun a => win0_3.rect_emb_val l _ a) (by revert l; decide +kernel) (Nat.one_mul _) (Nat.zero_add _) rfl
  have b : (dats m 0 c).arrAt 3 cfg0.N ((win0_3.rect l).emb (ix3 0 i j)) = out0_3 (iblk m c 0 l) (iblk m c 1 l) (iblk m c 2 l) (ix3 0 i j) :=
    congrFun ((Value.blocks3 m c l (flush0_3 l)).trans (Value.flushed3 m c l)) (ix3 0 i j)
  rw [h] at b
  rw [b, ref]
  unfold out0_3
  rw [View.canon_unit_zero hz3, View.ld_unit_zero hz2, View.ld_unit_zero hz3, View.ld_unit_zero hz3]
  refine (pay ..).trans ?_
  rw [blk0]
  simp only [blk1, blk2]

/-- The modulations of the layers are the reference's. -/
theorem mods_algebraic : algebraic_ModsIdeal_ModsRefIdeal (hModsIdeal := Cert.ModsIdeal.Gen.facts) (hModsRefIdeal := Cert.ModsRefIdeal.Gen.facts) := by
  intro m g m' g' _ hm
  refine ⟨_, Cert.ModsIdeal.Value.run_blocks m g, (θ_run _ _ _).mono (fun r h c => ?_) (Cert.ModsRefIdeal.Value.run m' g')⟩
  obtain ⟨h0, ha⟩ := h c
  obtain ⟨e0, e1, e2⟩ := hm c
  refine ⟨h0.trans ((val_main_v11_eq _ _ _).trans ?_), ha⟩
  rw [e0, e1, e2]
  exact (ext3 (out m c)).symm

/-- The reference of the modulations leaves its arguments as they are; it declares no semaphore. -/
theorem mods_ref_frame : quiescent_ModsRefIdeal (hModsRefIdeal := Cert.ModsRefIdeal.Gen.facts) := fun m ρ _ =>
  (θ_run Cert.ModsRefIdeal.defs _ _).mono (fun r h => ⟨fun c => (h c).2, sem_eq_zero_of_no_sems (by decide) r.2⟩)
    (Cert.ModsRefIdeal.Value.run (F := Ideal) m ρ)

end Cert.ModsClaim

end
-- ==== Proof.ModwClaim.lean ====
module

public import proofs.«01_k».proof.Defs
public import proofs.«01_k».proof.Proof.At
public import proofs.«01_k».proof.Proof.Gen.ModwIdeal.Value
public import proofs.«01_k».proof.Proof.Gen.ModwRefIdeal.Run
public import proofs.«01_k».proof.Proof.Gen.ModwRefIdeal.Read
public import Idealize.ShloMosaic.Lib.Quiescent

@[expose] public section

set_option maxRecDepth 16384

noncomputable section

namespace Cert.ModwClaim

open Idealize.ShloMosaic Idealize.ShloMosaic.TcCoe Idealize.SL.Sem Cert.ModwIdeal Cert.ModwIdeal.Gen
open Cert.ModwRefIdeal.Read Base

/-- One layer's product of the conditioning rows with the gradient. -/
theorem pay (c : FVec Ideal S8x1024 .f32) (d : FVec Ideal S1x8x1152 .f32) (i : Fin 1024) (j : Fin 1152) :
    k0_pay1 (F := Ideal) c d (ix3 0 i j) = ∑ k : Fin 8, val_main_v6 (F := Ideal) c (ix2 k i) * d (ix3 0 k j) := by
  pointwise [k0_pay1, val_main_v6, val_main_v5, val_main_v4, val_main_v3, val_main_v2, val_main_v1, val_main_v0, val_main_cst, val_main_cst_0]
  simp only [zero_sub]

theorem ref (c : FVec Ideal S8x1024 .f32) (d : FVec Ideal S4x8x1152 .f32) (l : Fin 4) (i : Fin 1024) (j : Fin 1152) :
    val_main_v12 (F := Ideal) c d (ix3 l i j) = ∑ k : Fin 8, val_main_v6 (F := Ideal) c (ix2 k i) * d (ix3 l k j) := by
  simp only [val_main_v12, val_main_v11]
  generalize val_main_v6 (F := Ideal) c = s
  pointwise [val_main_v10]
  exact Finset.sum_congr rfl fun k _ => mul_comm _ _

variable (m : (ℓ : Loc nD τ sig) → Buf (Elt Ideal) ℓ) (c : Dev nD)

abbrev A0 : FVec Ideal S8x1024 .f32 := m ((c.tc : Thread nD τ).loc main_arg0)
abbrev A1 : FVec Ideal S4x8x1152 .f32 := m ((c.tc : Thread nD τ).loc main_arg1)

/-- The block of the layer is the layer's gradient. -/
theorem blk1 (t : Fin 4) (k : Fin 8) (j : Fin 1152) : iblk m c 1 t (ix3 0 k j) = A1 m c (ix3 t k j) := by
  have h : (win0_1.rect t).emb (ix3 0 k j) = ix3 t k j := at3 (p := t.val) (q := 0) (fun a => win0_1.rect_emb_val t _ a) (by revert t; decide +kernel) (Nat.one_mul _) (Nat.zero_add _) rfl
  show V m c main_arg1 ((win0_1.rect t).emb (ix3 0 k j)) = _
  rw [h, V_main_arg1]

/-- The block of the conditioning rows is the whole of them. -/
theorem blk0 (t : Fin 4) : (iblk m c 0 t : FVec Ideal S8x1024 .f32) = A0 m c := by
  refine Base.ext2 fun k j => ?_
  have h : (win0_0.rect t).emb (ix2 k j) = ix2 k j := at2 (q := 0) (fun a => win0_0.rect_emb_val t _ a) (by revert t; decide +kernel) (Nat.zero_add _) rfl
  show V m c main_arg0 ((win0_0.rect t).emb (ix2 k j)) = _
  rw [h, V_main_arg0]

theorem out (l : Fin 4) (i : Fin 1024) (j : Fin 1152) : (dats m 0 c).arrAt 2 cfg0.N (ix3 l i j) = val_main_v12 (F := Ideal) (A0 m c) (A1 m c) (ix3 l i j) := by
  have h : (win0_2.rect l).emb (ix3 0 i j) = ix3 l i j := at3 (p := l.val) (q := 0) (fun a => win0_2.rect_emb_val l _ a) (by revert l; decide +kernel) (Nat.one_mul _) (Nat.zero_add _) rfl
  have b : (dats m 0 c).arrAt 2 cfg0.N ((win0_2.rect l).emb (ix3 0 i j)) = out0_2 (iblk m c 0 l) (iblk m c 1 l) (ix3 0 i j) :=
    congrFun ((Value.blocks2 m c l (flush0_2 l)).trans (Value.flushed2 m c l)) (ix3 0 i j)
  rw [h] at b
  rw [b, ref]
  unfold out0_2
  rw [View.canon_unit_zero hz3, View.ld_unit_zero hz2, View.ld_unit_zero hz3]
  refine (pay ..).trans ?_
  rw [blk0]
  simp only [blk1]

/-- The gradient of the modulations' weights is the reference's. -/
theorem modw_algebraic : algebraic_ModwIdeal_ModwRefIdeal (hModwIdeal := Cert.ModwIdeal.Gen.facts) (hModwRefIdeal := Cert.ModwRefIdeal.Gen.facts) := by
  intro m g m' g' _ hm
  refine ⟨_, Cert.ModwIdeal.Value.run_blocks m g, (θ_run _ _ _).mono (fun r h c => ?_) (Cert.ModwRefIdeal.Value.run m' g')⟩
  obtain ⟨h0, ha⟩ := h c
  obtain ⟨e0, e1⟩ := hm c
  refine ⟨h0.trans ((val_main_v12_eq _ _).trans ?_), ha⟩
  rw [e0, e1]
  exact (ext3 (out m c)).symm

/-- The reference of the gradient of the modulations' weights leaves its arguments as they are; it declares no semaphore. -/
theorem modw_ref_frame : quiescent_ModwRefIdeal (hModwRefIdeal := Cert.ModwRefIdeal.Gen.facts) := fun m ρ _ =>
  (θ_run Cert.ModwRefIdeal.defs _ _).mono (fun r h => ⟨fun c => (h c).2, sem_eq_zero_of_no_sems (by decide) r.2⟩)
    (Cert.ModwRefIdeal.Value.run (F := Ideal) m ρ)

end Cert.ModwClaim

end
-- ==== Proof.AdamClaim.lean ====
module

public import proofs.«01_k».proof.Defs
public import proofs.«01_k».proof.Proof.Base
public import proofs.«01_k».proof.Proof.Gen.AdamIdeal.Value
public import proofs.«01_k».proof.Proof.Gen.AdamRefIdeal.Run
public import proofs.«01_k».proof.Proof.Gen.AdamRefIdeal.Read
public import Idealize.ShloMosaic.Adequacy

@[expose] public section

set_option maxRecDepth 16384

noncomputable section

namespace Cert.AdamClaim

open Idealize.ShloMosaic Idealize.ShloMosaic.TcCoe Idealize.SL.Sem Cert.AdamIdeal Cert.AdamIdeal.Gen Cert.AdamIdeal.Value
open Cert.AdamRefIdeal.Read Base

variable (g : FVec Ideal S8x12x128 .f32) (w u v : FVec Ideal S12x128 .f32)

/-- A device's part of the gradient. -/
theorem part (k : Fin 8) (inb) (i : Fin 12) (j : Fin 128) : View.ld (Val := Elt Ideal) (e' := .f32) g (Rect.unit (s := S8x12x128) ![k.val, 0, 0] S1x12x128.size inb) (ix3 0 i j) = g (ix3 k i j) := by
  refine congrArg g (funext fun a => ?_)
  match a with
  | ⟨0, _⟩ => rfl
  | ⟨1, _⟩ => exact Fin.ext (by show 0 + 1 * i.val = i.val; omega)
  | ⟨2, _⟩ => exact Fin.ext (by show 0 + 1 * j.val = j.val; omega)

/-- The parts added one after another are their sum. -/
theorem grad (i : Fin 12) (j : Fin 128) : G4 g w u v (ix2 i j) = val_main_v0 (F := Ideal) g (ix2 i j) := by
  have e : ∀ p0 p1 p2 p3 p4 p5 p6 p7 : Vec Ideal S1x12x128 .f32, k0_pay4 p0 p1 p2 p3 p4 p5 p6 p7 (ix2 i j) =
      p0 (ix3 0 i j) + p1 (ix3 0 i j) + p2 (ix3 0 i j) + p3 (ix3 0 i j) + p4 (ix3 0 i j) + p5 (ix3 0 i j) + p6 (ix3 0 i j) + p7 (ix3 0 i j) := by
    intro p0 p1 p2 p3 p4 p5 p6 p7
    pointwise [k0_pay4]
  refine (e ..).trans ?_
  rw [show val_main_v0 (F := Ideal) g (ix2 i j) = ∑ k : Fin 8, g (ix3 k i j) from by pointwise [val_main_v0, val_main_cst], Fin.sum_univ_eight]
  exact congrArg₂ (· + ·) (congrArg₂ (· + ·) (congrArg₂ (· + ·) (congrArg₂ (· + ·) (congrArg₂ (· + ·) (congrArg₂ (· + ·) (congrArg₂ (· + ·) (part g 0 _ i j) (part g 1 _ i j)) (part g 2 _ i j)) (part g 3 _ i j)) (part g 4 _ i j)) (part g 5 _ i j)) (part g 6 _ i j)) (part g 7 _ i j)

theorem grad_eq : (k0_pay5 g w u v : FVec Ideal S12x128 .f32) = val_main_v0 (F := Ideal) g := Base.ext2 (grad g w u v)

theorem mean : (G6 (F := Ideal) g w u v : FVec Ideal S12x128 .f32) = val_main_v5 (F := Ideal) g u := by
  unfold G6
  rw [grad_eq]
  refine Base.ext2 fun i j => ?_
  simp only [val_main_v5, val_main_v4]
  generalize val_main_v0 (F := Ideal) g = s
  pointwise [k0_pay1, val_main_v3, val_main_v2, val_main_v1, val_main_cst_0, val_main_cst_1]

theorem square : (G7 (F := Ideal) g w u v : FVec Ideal S12x128 .f32) = val_main_v11 (F := Ideal) g v := by
  unfold G7
  rw [grad_eq]
  refine Base.ext2 fun i j => ?_
  simp only [val_main_v11, val_main_v10, val_main_v8]
  generalize val_main_v0 (F := Ideal) g = s
  pointwise [k0_pay2, val_main_v9, val_main_v7, val_main_v6, val_main_cst_2, val_main_cst_3]

theorem step : (G5 (F := Ideal) g w u v : FVec Ideal S12x128 .f32) = val_main_v24 (F := Ideal) g w u v := by
  have a := mean g w u v
  have b := square g w u v
  unfold G6 at a
  unfold G7 at b
  refine Base.ext2 fun i j => ?_
  unfold G5 k0_pay3
  rw [a, b]
  simp only [val_main_v24, val_main_v22, val_main_v19, val_main_v18, val_main_v16, val_main_v15, val_main_v13]
  generalize val_main_v5 (F := Ideal) g u = s
  generalize val_main_v11 (F := Ideal) g v = q
  pointwise [val_main_v12, val_main_v14, val_main_v17, val_main_v20, val_main_v21, val_main_v23, val_main_cst_4, val_main_cst_5, val_main_cst_6, val_main_cst_7, val_main_cst_8]

/-- The optimiser's step of the kernel is the reference's: the gradient, the step, and the two averages. -/
theorem adam_algebraic : algebraic_AdamIdeal_AdamRefIdeal (hAdamIdeal := Cert.AdamIdeal.Gen.facts) (hAdamRefIdeal := Cert.AdamRefIdeal.Gen.facts) := by
  intro m g m' g' _ hm
  refine ⟨_, _, _, _, Cert.AdamIdeal.Value.run m g, (θ_run _ _ _).mono (fun r h c => ?_) (Cert.AdamRefIdeal.Value.run m' g')⟩
  obtain ⟨h0, h1, h2, h3, ha⟩ := h c
  obtain ⟨e0, e1, e2, e3⟩ := hm c
  refine ⟨h0.trans ?_, h1.trans ?_, h2.trans ?_, h3.trans ?_, ha⟩
  · rw [e0]
    exact (Base.ext2 (grad _ _ _ _)).symm
  · rw [e0, e1, e2, e3]
    exact (step ..).symm
  · rw [e0, e2]
    exact (mean _ (m ((c.tc : Thread nD τ).loc main_arg1)) _ (m ((c.tc : Thread nD τ).loc main_arg3))).symm
  · rw [e0, e3]
    exact (square _ (m ((c.tc : Thread nD τ).loc main_arg1)) (m ((c.tc : Thread nD τ).loc main_arg2)) _).symm

/-- The reference of the optimiser's step leaves its arguments as they are; it declares no semaphore. -/
theorem adam_ref_frame : quiescent_AdamRefIdeal (hAdamRefIdeal := Cert.AdamRefIdeal.Gen.facts) := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

end Cert.AdamClaim

end
-- ==== Proof.RefFrames.lean ====
module

public import proofs.«01_k».proof.Defs
public import Idealize.ShloMosaic.Lib.Quiescent
public import proofs.«01_k».proof.Proof.Gen.AttnARefIdeal.Run
public import proofs.«01_k».proof.Proof.Gen.AttnCRefIdeal.Run
public import proofs.«01_k».proof.Proof.Gen.AttpARefIdeal.Run
public import proofs.«01_k».proof.Proof.Gen.AttpCRefIdeal.Run
public import proofs.«01_k».proof.Proof.Gen.MixRefIdeal.Run

@[expose] public section

noncomputable section

/-! The references of the calls whose frames are claimed and whose values are not: each leaves its arguments as they are, and declares no semaphore. -/

namespace Cert.RefFrames

open Idealize.ShloMosaic Idealize.ShloMosaic.TcCoe Idealize.SL.Sem

/-- The reference of the attention of dilation 1 leaves its arguments as they are. -/
theorem attna_ref_frame : quiescent_AttnARefIdeal (hAttnARefIdeal := Cert.AttnARefIdeal.Gen.facts) := fun m ρ _ =>
  (θ_run Cert.AttnARefIdeal.defs _ _).mono (fun r h => ⟨fun c => (h c).2.2.2, sem_eq_zero_of_no_sems (by decide) r.2⟩)
    (Cert.AttnARefIdeal.Value.run (F := Ideal) m ρ)

/-- The reference of the attention of dilation 16 leaves its arguments as they are. -/
theorem attnc_ref_frame : quiescent_AttnCRefIdeal (hAttnCRefIdeal := Cert.AttnCRefIdeal.Gen.facts) := fun m ρ _ =>
  (θ_run Cert.AttnCRefIdeal.defs _ _).mono (fun r h => ⟨fun c => (h c).2.2.2, sem_eq_zero_of_no_sems (by decide) r.2⟩)
    (Cert.AttnCRefIdeal.Value.run (F := Ideal) m ρ)

/-- The reference of the attention of dilation 1 with an earlier part leaves its arguments as they are. -/
theorem attpa_ref_frame : quiescent_AttpARefIdeal (hAttpARefIdeal := Cert.AttpARefIdeal.Gen.facts) := fun m ρ _ =>
  (θ_run Cert.AttpARefIdeal.defs _ _).mono (fun r h => ⟨fun c => (h c).2.2.2, sem_eq_zero_of_no_sems (by decide) r.2⟩)
    (Cert.AttpARefIdeal.Value.run (F := Ideal) m ρ)

/-- The reference of the attention of dilation 16 with an earlier part leaves its arguments as they are. -/
theorem attpc_ref_frame : quiescent_AttpCRefIdeal (hAttpCRefIdeal := Cert.AttpCRefIdeal.Gen.facts) := fun m ρ _ =>
  (θ_run Cert.AttpCRefIdeal.defs _ _).mono (fun r h => ⟨fun c => (h c).2.2.2, sem_eq_zero_of_no_sems (by decide) r.2⟩)
    (Cert.AttpCRefIdeal.Value.run (F := Ideal) m ρ)

/-- The reference of the mixing of the groups leaves its arguments as they are. -/
theorem mix_ref_frame : quiescent_MixRefIdeal (hMixRefIdeal := Cert.MixRefIdeal.Gen.facts) := fun m ρ _ =>
  (θ_run Cert.MixRefIdeal.defs _ _).mono (fun r h => ⟨fun c => (h c).2.2.2.2.2.2.2.2, sem_eq_zero_of_no_sems (by decide) r.2⟩)
    (Cert.MixRefIdeal.Value.run (F := Ideal) m ρ)

end Cert.RefFrames

end
-- ==== Proof.lean ====
module

public import proofs.«01_k».proof.Defs
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.LossRefIdeal
public import proofs.«01_k».proof.Proof.LossVal
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal
public import proofs.«01_k».proof.Proof.Gen.Pre_finite_attn
public import proofs.«01_k».proof.Proof.AttnClaim
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.ConvRefIdeal
public import proofs.«01_k».proof.Proof.ConvClaim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.FfnRefIdeal
public import proofs.«01_k».proof.Proof.Gen.Pre_finite_ffn
public import proofs.«01_k».proof.Proof.FfnClaim
public import proofs.«01_k».proof.Proof.Gen.Attp
public import proofs.«01_k».proof.Proof.Gen.Attp.Frame
public import proofs.«01_k».proof.Proof.Gen.AttpIdeal
public import proofs.«01_k».proof.Proof.Gen.AttpIdeal.Frame
public import proofs.«01_k».proof.Proof.Gen.AttpIdeal.Value
public import proofs.«01_k».proof.Proof.Gen.AttpRefIdeal.Run
public import proofs.«01_k».proof.Proof.Gen.AttpRefIdeal
public import proofs.«01_k».proof.Proof.Gen.Pre_finite_attp
public import proofs.«01_k».proof.Proof.AttpClaim
public import proofs.«01_k».proof.Proof.Gen.Qb
public import proofs.«01_k».proof.Proof.Gen.Qb.Frame
public import proofs.«01_k».proof.Proof.Gen.QbIdeal
public import proofs.«01_k».proof.Proof.Gen.QbIdeal.Frame
public import proofs.«01_k».proof.Proof.Gen.QbIdeal.Value
public import proofs.«01_k».proof.Proof.Gen.QbRefIdeal.Run
public import proofs.«01_k».proof.Proof.Gen.QbRefIdeal.Read
public import proofs.«01_k».proof.Proof.Gen.QbRefIdeal
public import proofs.«01_k».proof.Proof.QbClaim
public import proofs.«01_k».proof.Proof.Gen.Kvb
public import proofs.«01_k».proof.Proof.Gen.Kvb.Frame
public import proofs.«01_k».proof.Proof.Gen.KvbIdeal
public import proofs.«01_k».proof.Proof.Gen.KvbIdeal.Frame
public import proofs.«01_k».proof.Proof.Gen.KvbIdeal.Value
public import proofs.«01_k».proof.Proof.Gen.KvbRefIdeal.Run
public import proofs.«01_k».proof.Proof.Gen.KvbRefIdeal.Read
public import proofs.«01_k».proof.Proof.Gen.KvbRefIdeal
public import proofs.«01_k».proof.Proof.KvbClaim
public import proofs.«01_k».proof.Proof.Gen.Ffw
public import proofs.«01_k».proof.Proof.Gen.Ffw.Frame
public import proofs.«01_k».proof.Proof.Gen.FfwIdeal
public import proofs.«01_k».proof.Proof.Gen.FfwIdeal.Frame
public import proofs.«01_k».proof.Proof.Gen.FfwIdeal.Value
public import proofs.«01_k».proof.Proof.Gen.FfwRefIdeal.Run
public import proofs.«01_k».proof.Proof.Gen.FfwRefIdeal.Read
public import proofs.«01_k».proof.Proof.Gen.FfwRefIdeal
public import proofs.«01_k».proof.Proof.Gen.Pre_finite_ffw
public import proofs.«01_k».proof.Proof.FfwClaim
public import proofs.«01_k».proof.Proof.Gen.Mods
public import proofs.«01_k».proof.Proof.Gen.Mods.Frame
public import proofs.«01_k».proof.Proof.Gen.ModsIdeal
public import proofs.«01_k».proof.Proof.Gen.ModsIdeal.Frame
public import proofs.«01_k».proof.Proof.Gen.ModsIdeal.Value
public import proofs.«01_k».proof.Proof.Gen.ModsRefIdeal.Run
public import proofs.«01_k».proof.Proof.Gen.ModsRefIdeal.Read
public import proofs.«01_k».proof.Proof.Gen.ModsRefIdeal
public import proofs.«01_k».proof.Proof.ModsClaim
public import proofs.«01_k».proof.Proof.Gen.Modw
public import proofs.«01_k».proof.Proof.Gen.Modw.Frame
public import proofs.«01_k».proof.Proof.Gen.ModwIdeal
public import proofs.«01_k».proof.Proof.Gen.ModwIdeal.Frame
public import proofs.«01_k».proof.Proof.Gen.ModwIdeal.Value
public import proofs.«01_k».proof.Proof.Gen.ModwRefIdeal.Run
public import proofs.«01_k».proof.Proof.Gen.ModwRefIdeal.Read
public import proofs.«01_k».proof.Proof.Gen.ModwRefIdeal
public import proofs.«01_k».proof.Proof.ModwClaim
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.AdamRefIdeal
public import proofs.«01_k».proof.Proof.AdamClaim
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal.Run
public import proofs.«01_k».proof.Proof.Gen.MixRefIdeal
public import proofs.«01_k».proof.Proof.RefFrames
public import proofs.«01_k».proof.Proof.Gen.AttnA
public import proofs.«01_k».proof.Proof.Gen.AttnA.Frame
public import proofs.«01_k».proof.Proof.Gen.AttnAIdeal
public import proofs.«01_k».proof.Proof.Gen.AttnAIdeal.Frame
public import proofs.«01_k».proof.Proof.Gen.AttnARefIdeal.Run
public import proofs.«01_k».proof.Proof.Gen.AttnARefIdeal
public import proofs.«01_k».proof.Proof.Gen.AttnC
public import proofs.«01_k».proof.Proof.Gen.AttnC.Frame
public import proofs.«01_k».proof.Proof.Gen.AttnCIdeal
public import proofs.«01_k».proof.Proof.Gen.AttnCIdeal.Frame
public import proofs.«01_k».proof.Proof.Gen.AttnCRefIdeal.Run
public import proofs.«01_k».proof.Proof.Gen.AttnCRefIdeal
public import proofs.«01_k».proof.Proof.Gen.AttpA
public import proofs.«01_k».proof.Proof.Gen.AttpA.Frame
public import proofs.«01_k».proof.Proof.Gen.AttpAIdeal
public import proofs.«01_k».proof.Proof.Gen.AttpAIdeal.Frame
public import proofs.«01_k».proof.Proof.Gen.AttpARefIdeal.Run
public import proofs.«01_k».proof.Proof.Gen.AttpARefIdeal
public import proofs.«01_k».proof.Proof.Gen.AttpC
public import proofs.«01_k».proof.Proof.Gen.AttpC.Frame
public import proofs.«01_k».proof.Proof.Gen.AttpCIdeal
public import proofs.«01_k».proof.Proof.Gen.AttpCIdeal.Frame
public import proofs.«01_k».proof.Proof.Gen.AttpCRefIdeal.Run
public import proofs.«01_k».proof.Proof.Gen.AttpCRefIdeal
public import Idealize.ShloMosaic.Adequacy
public import Idealize.ShloMosaic.Init

@[expose] public section

noncomputable section

namespace Cert.Proof

open Idealize.ShloMosaic Idealize.SL.Sem Cert.Loss

/-- The three results of the loss call are the loss and its two gradients, as the reference's derivative writes them. -/
theorem loss_algebraic : algebraic_LossIdeal_LossRefIdeal (hLossIdeal := Cert.LossIdeal.Gen.facts) (hLossRefIdeal := Cert.LossRefIdeal.Gen.facts) := by
  intro m g m' g' _ hm
  refine ⟨_, _, _, Cert.LossIdeal.Value.run_blocks m g, (θ_run _ _ _).mono (fun r h c => ?_) (Cert.LossRefIdeal.Value.run m' g')⟩
  obtain ⟨h0, h1, h2, ha⟩ := h c
  obtain ⟨e0, e1, e2⟩ := hm c
  refine ⟨h0.trans ?_, h1.trans ?_, h2.trans ?_, ha⟩
  · refine (Cert.LossRefIdeal.Read.val_main_v50_eq m' c).trans ?_
    rw [e0, e1, e2]
    refine Cert.Base.ext2 fun r k => ?_
    rw [Cert.LossIdeal.Pure.r50]
    exact (Cert.LossIdeal.Val.final3 m c r k).symm
  · refine (Cert.LossRefIdeal.Read.val_main_v53_eq _ _ _).trans ?_
    rw [e0, e1, e2]
    refine Cert.Base.ext2 fun r k => ?_
    rw [Cert.LossIdeal.Pure.r53]
    exact (Cert.LossIdeal.Val.final4 m c r k).symm
  · refine (Cert.LossRefIdeal.Read.val_main_v54_eq _ _ _).trans ?_
    rw [e0, e1, e2]
    refine Cert.Base.ext2 fun r k => ?_
    rw [Cert.LossIdeal.Pure.r54]
    exact (Cert.LossIdeal.Val.final5 m c r k).symm

/-- The reference of the loss leaves its arguments as they are; it declares no semaphore. -/
theorem loss_ref_frame : quiescent_LossRefIdeal (hLossRefIdeal := Cert.LossRefIdeal.Gen.facts) := fun m ρ _ =>
  (θ_run Cert.LossRefIdeal.defs _ _).mono (fun r h => ⟨fun c => (h c).2.2.2, sem_eq_zero_of_no_sems (by decide) r.2⟩)
    (Cert.LossRefIdeal.Value.run (F := Ideal) m ρ)

/-- All claims. -/
theorem claim : Cert.Claim := ⟨Cert.Loss.Gen.facts, Cert.LossIdeal.Gen.facts, Cert.LossRefIdeal.Gen.facts, Cert.Attn.Gen.facts, Cert.AttnIdeal.Gen.facts, Cert.AttnRefIdeal.Gen.facts, Cert.Conv.Gen.facts, Cert.ConvIdeal.Gen.facts, Cert.ConvRefIdeal.Gen.facts, Cert.Ffn.Gen.facts, Cert.FfnIdeal.Gen.facts, Cert.FfnRefIdeal.Gen.facts, Cert.Attp.Gen.facts, Cert.AttpIdeal.Gen.facts, Cert.AttpRefIdeal.Gen.facts, Cert.Qb.Gen.facts, Cert.QbIdeal.Gen.facts, Cert.QbRefIdeal.Gen.facts, Cert.Kvb.Gen.facts, Cert.KvbIdeal.Gen.facts, Cert.KvbRefIdeal.Gen.facts, Cert.Ffw.Gen.facts, Cert.FfwIdeal.Gen.facts, Cert.FfwRefIdeal.Gen.facts, Cert.Mods.Gen.facts, Cert.ModsIdeal.Gen.facts, Cert.ModsRefIdeal.Gen.facts, Cert.Modw.Gen.facts, Cert.ModwIdeal.Gen.facts, Cert.ModwRefIdeal.Gen.facts, Cert.Adam.Gen.facts, Cert.AdamIdeal.Gen.facts, Cert.AdamRefIdeal.Gen.facts, Cert.Mix.Gen.facts, Cert.MixIdeal.Gen.facts, Cert.MixRefIdeal.Gen.facts, Cert.AttnA.Gen.facts, Cert.AttnAIdeal.Gen.facts, Cert.AttnARefIdeal.Gen.facts, Cert.AttnC.Gen.facts, Cert.AttnCIdeal.Gen.facts, Cert.AttnCRefIdeal.Gen.facts, Cert.AttpA.Gen.facts, Cert.AttpAIdeal.Gen.facts, Cert.AttpARefIdeal.Gen.facts, Cert.AttpC.Gen.facts, Cert.AttpCIdeal.Gen.facts, Cert.AttpCRefIdeal.Gen.facts, Cert.Pre_finite_attn.Gen.facts, Cert.Pre_finite_ffn.Gen.facts, Cert.Pre_finite_attp.Gen.facts, Cert.Pre_finite_ffw.Gen.facts,
  fun m ρ _ => Cert.Loss.Gen.frame m ρ, fun m ρ _ => Cert.LossIdeal.Gen.frame m ρ, loss_ref_frame,
  fun m ρ _ => Cert.Attn.Gen.frame m ρ, fun m ρ _ => Cert.AttnIdeal.Gen.frame m ρ, fun m ρ _ => Cert.AttnIdeal.Gen.frame m ρ, Cert.AttnClaim.attn_ref_frame, fun m ρ _ => Cert.AttnClaim.attn_ref_frame m ρ trivial,
  fun m ρ _ => Cert.Conv.Gen.frame m ρ, fun m ρ _ => Cert.ConvIdeal.Gen.frame m ρ, Cert.ConvClaim.conv_ref_frame,
  fun m ρ _ => Cert.Ffn.Gen.frame m ρ, fun m ρ _ => Cert.FfnIdeal.Gen.frame m ρ, fun m ρ _ => Cert.FfnIdeal.Gen.frame m ρ, Cert.FfnClaim.ffn_ref_frame, fun m ρ _ => Cert.FfnClaim.ffn_ref_frame m ρ trivial,
  fun m ρ _ => Cert.Attp.Gen.frame m ρ, fun m ρ _ => Cert.AttpIdeal.Gen.frame m ρ, fun m ρ _ => Cert.AttpIdeal.Gen.frame m ρ, Cert.AttpClaim.attp_ref_frame, fun m ρ _ => Cert.AttpClaim.attp_ref_frame m ρ trivial,
  fun m ρ _ => Cert.Qb.Gen.frame m ρ, fun m ρ _ => Cert.QbIdeal.Gen.frame m ρ, Cert.QbClaim.q_ref_frame,
  fun m ρ _ => Cert.Kvb.Gen.frame m ρ, fun m ρ _ => Cert.KvbIdeal.Gen.frame m ρ, Cert.KvbClaim.kv_ref_frame,
  fun m ρ _ => Cert.Ffw.Gen.frame m ρ, fun m ρ _ => Cert.FfwIdeal.Gen.frame m ρ, fun m ρ _ => Cert.FfwIdeal.Gen.frame m ρ, Cert.FfwClaim.ffw_ref_frame, fun m ρ _ => Cert.FfwClaim.ffw_ref_frame m ρ trivial,
  fun m ρ _ => Cert.Mods.Gen.frame m ρ, fun m ρ _ => Cert.ModsIdeal.Gen.frame m ρ, Cert.ModsClaim.mods_ref_frame,
  fun m ρ _ => Cert.Modw.Gen.frame m ρ, fun m ρ _ => Cert.ModwIdeal.Gen.frame m ρ, Cert.ModwClaim.modw_ref_frame,
  fun m ρ _ => Cert.Adam.Gen.frame m ρ, fun m ρ _ => Cert.AdamIdeal.Gen.frame m ρ, Cert.AdamClaim.adam_ref_frame,
  fun m ρ _ => Cert.Mix.Gen.frame m ρ, fun m ρ _ => Cert.MixIdeal.Gen.frame m ρ, Cert.RefFrames.mix_ref_frame,
  fun m ρ _ => Cert.AttnA.Gen.frame m ρ, fun m ρ _ => Cert.AttnAIdeal.Gen.frame m ρ, Cert.RefFrames.attna_ref_frame,
  fun m ρ _ => Cert.AttnC.Gen.frame m ρ, fun m ρ _ => Cert.AttnCIdeal.Gen.frame m ρ, Cert.RefFrames.attnc_ref_frame,
  fun m ρ _ => Cert.AttpA.Gen.frame m ρ, fun m ρ _ => Cert.AttpAIdeal.Gen.frame m ρ, Cert.RefFrames.attpa_ref_frame,
  fun m ρ _ => Cert.AttpC.Gen.frame m ρ, fun m ρ _ => Cert.AttpCIdeal.Gen.frame m ρ, Cert.RefFrames.attpc_ref_frame,
  trivial, loss_algebraic, IdealRules.named_const.statement Cert.AttnIdeal.κ "mask" .f32 0xF149F2CA#32 ⊥ rfl, Cert.AttnClaim.attn_algebraic, trivial, Cert.ConvClaim.conv_algebraic, trivial, Cert.FfnClaim.ffn_algebraic, IdealRules.named_const.statement Cert.AttpIdeal.κ "mask" .f32 0xF149F2CA#32 ⊥ rfl, Cert.AttpClaim.attp_algebraic, trivial, Cert.QbClaim.q_algebraic, trivial, Cert.KvbClaim.kv_algebraic, trivial, Cert.FfwClaim.ffw_algebraic, trivial, Cert.ModsClaim.mods_algebraic, trivial, Cert.ModwClaim.modw_algebraic, trivial, Cert.AdamClaim.adam_algebraic, trivial, IdealRules.named_const.statement Cert.AttnAIdeal.κ "mask" .f32 0xF149F2CA#32 ⊥ rfl, IdealRules.named_const.statement Cert.AttnCIdeal.κ "mask" .f32 0xF149F2CA#32 ⊥ rfl, IdealRules.named_const.statement Cert.AttpAIdeal.κ "mask" .f32 0xF149F2CA#32 ⊥ rfl, IdealRules.named_const.statement Cert.AttpCIdeal.κ "mask" .f32 0xF149F2CA#32 ⊥ rfl⟩

end Cert.Proof

end
